-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).2.1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).2.2 = (fun _ => 1#1)

def Pre_FwdReferenceIdeal (m : (ℓ : Loc Cert.FwdReferenceIdeal.nD Cert.FwdReferenceIdeal.τ Cert.FwdReferenceIdeal.sig) → Buf (Elt Ideal) ℓ) : Prop :=
  True

def Pre_FwdReferenceIdeal_finite_fwd [hPre_finite_fwd : Cert.Pre_finite_fwd.Facts] (m : (ℓ : Loc Cert.FwdReferenceIdeal.nD Cert.FwdReferenceIdeal.τ Cert.FwdReferenceIdeal.sig) → Buf (Elt Ideal) ℓ) : Prop :=
  ∀ c : Dev Cert.FwdReferenceIdeal.nD,
    (Cert.Pre_finite_fwd.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2))).1 = (fun _ => 1#1)
    ∧ (Cert.Pre_finite_fwd.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2))).2.1 = (fun _ => 1#1)
    ∧ (Cert.Pre_finite_fwd.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2))).2.2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Mul (m : (ℓ : Loc Cert.Mul.nD Cert.Mul.τ Cert.Mul.sig) → Buf (Elt Bits) ℓ) : Prop :=
  True

def Pre_MulIdeal (m : (ℓ : Loc Cert.MulIdeal.nD Cert.MulIdeal.τ Cert.MulIdeal.sig) → Buf (Elt Ideal) ℓ) : Prop :=
  True

def Pre_MulReferenceIdeal (m : (ℓ : Loc Cert.MulReferenceIdeal.nD Cert.MulReferenceIdeal.τ Cert.MulReferenceIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxIdeal_finite_dx [hPre_finite_dx : Cert.Pre_finite_dx.Facts] (m : (ℓ : Loc Cert.DxIdeal.nD Cert.DxIdeal.τ Cert.DxIdeal.sig) → Buf (Elt Ideal) ℓ) : Prop :=
  ∀ c : Dev Cert.DxIdeal.nD,
    (Cert.Pre_finite_dx.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5))).1 = (fun _ => 1#1)
    ∧ (Cert.Pre_finite_dx.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5))).2.1 = (fun _ => 1#1)
    ∧ (Cert.Pre_finite_dx.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5))).2.2.1 = (fun _ => 1#1)
    ∧ (Cert.Pre_finite_dx.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5))).2.2.2.1 = (fun _ => 1#1)
    ∧ (Cert.Pre_finite_dx.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5))).2.2.2.2 = (fun _ => 1#1)

def Pre_DxReferenceIdeal (m : (ℓ : Loc Cert.DxReferenceIdeal.nD Cert.DxReferenceIdeal.τ Cert.DxReferenceIdeal.sig) → Buf (Elt Ideal) ℓ) : Prop :=
  True

def Pre_DxReferenceIdeal_finite_dx [hPre_finite_dx : Cert.Pre_finite_dx.Facts] (m : (ℓ : Loc Cert.DxReferenceIdeal.nD Cert.DxReferenceIdeal.τ Cert.DxReferenceIdeal.sig) → Buf (Elt Ideal) ℓ) : Prop :=
  ∀ c : Dev Cert.DxReferenceIdeal.nD,
    (Cert.Pre_finite_dx.fn (F := Ideal) (m ((c.tc : Thread Cert.DxReferenceIdeal.nD Cert.DxReferenceIdeal.τ).loc Cert.DxReferenceIdeal.main_arg0)) (m ((c.tc : Thread Cert.DxReferenceIdeal.nD Cert.DxReferenceIdeal.τ).loc Cert.DxReferenceIdeal.main_arg1)) (m ((c.tc : Thread Cert.DxReferenceIdeal.nD Cert.DxReferenceIdeal.τ).loc Cert.DxReferenceIdeal.main_arg2)) (m ((c.tc : Thread Cert.DxReferenceIdeal.nD Cert.DxReferenceIdeal.τ).loc Cert.DxReferenceIdeal.main_arg3)) (m ((c.tc : Thread Cert.DxReferenceIdeal.nD Cert.DxReferenceIdeal.τ).loc Cert.DxReferenceIdeal.main_arg4)) (m ((c.tc : Thread Cert.DxReferenceIdeal.nD Cert.DxReferenceIdeal.τ).loc Cert.DxReferenceIdeal.main_arg5))).1 = (fun _ => 1#1)
    ∧ (Cert.Pre_finite_dx.fn (F := Ideal) (m ((c.tc : Thread Cert.DxReferenceIdeal.nD Cert.DxReferenceIdeal.τ).loc Cert.DxReferenceIdeal.main_arg0)) (m ((c.tc : Thread Cert.DxReferenceIdeal.nD Cert.DxReferenceIdeal.τ).loc Cert.DxReferenceIdeal.main_arg1)) (m ((c.tc : Thread Cert.DxReferenceIdeal.nD Cert.DxReferenceIdeal.τ).loc Cert.DxReferenceIdeal.main_arg2)) (m ((c.tc : Thread Cert.DxReferenceIdeal.nD Cert.DxReferenceIdeal.τ).loc Cert.DxReferenceIdeal.main_arg3)) (m ((c.tc : Thread Cert.DxReferenceIdeal.nD Cert.DxReferenceIdeal.τ).loc Cert.DxReferenceIdeal.main_arg4)) (m ((c.tc : Thread Cert.DxReferenceIdeal.nD Cert.DxReferenceIdeal.τ).loc Cert.DxReferenceIdeal.main_arg5))).2.1 = (fun _ => 1#1)
    ∧ (Cert.Pre_finite_dx.fn (F := Ideal) (m ((c.tc : Thread Cert.DxReferenceIdeal.nD Cert.DxReferenceIdeal.τ).loc Cert.DxReferenceIdeal.main_arg0)) (m ((c.tc : Thread Cert.DxReferenceIdeal.nD Cert.DxReferenceIdeal.τ).loc Cert.DxReferenceIdeal.main_arg1)) (m ((c.tc : Thread Cert.DxReferenceIdeal.nD Cert.DxReferenceIdeal.τ).loc Cert.DxReferenceIdeal.main_arg2)) (m ((c.tc : Thread Cert.DxReferenceIdeal.nD Cert.DxReferenceIdeal.τ).loc Cert.DxReferenceIdeal.main_arg3)) (m ((c.tc : Thread Cert.DxReferenceIdeal.nD Cert.DxReferenceIdeal.τ).loc Cert.DxReferenceIdeal.main_arg4)) (m ((c.tc : Thread Cert.DxReferenceIdeal.nD Cert.DxReferenceIdeal.τ).loc Cert.DxReferenceIdeal.main_arg5))).2.2.1 = (fun _ => 1#1)
    ∧ (Cert.Pre_finite_dx.fn (F := Ideal) (m ((c.tc : Thread Cert.DxReferenceIdeal.nD Cert.DxReferenceIdeal.τ).loc Cert.DxReferenceIdeal.main_arg0)) (m ((c.tc : Thread Cert.DxReferenceIdeal.nD Cert.DxReferenceIdeal.τ).loc Cert.DxReferenceIdeal.main_arg1)) (m ((c.tc : Thread Cert.DxReferenceIdeal.nD Cert.DxReferenceIdeal.τ).loc Cert.DxReferenceIdeal.main_arg2)) (m ((c.tc : Thread Cert.DxReferenceIdeal.nD Cert.DxReferenceIdeal.τ).loc Cert.DxReferenceIdeal.main_arg3)) (m ((c.tc : Thread Cert.DxReferenceIdeal.nD Cert.DxReferenceIdeal.τ).loc Cert.DxReferenceIdeal.main_arg4)) (m ((c.tc : Thread Cert.DxReferenceIdeal.nD Cert.DxReferenceIdeal.τ).loc Cert.DxReferenceIdeal.main_arg5))).2.2.2.1 = (fun _ => 1#1)
    ∧ (Cert.Pre_finite_dx.fn (F := Ideal) (m ((c.tc : Thread Cert.DxReferenceIdeal.nD Cert.DxReferenceIdeal.τ).loc Cert.DxReferenceIdeal.main_arg0)) (m ((c.tc : Thread Cert.DxReferenceIdeal.nD Cert.DxReferenceIdeal.τ).loc Cert.DxReferenceIdeal.main_arg1)) (m ((c.tc : Thread Cert.DxReferenceIdeal.nD Cert.DxReferenceIdeal.τ).loc Cert.DxReferenceIdeal.main_arg2)) (m ((c.tc : Thread Cert.DxReferenceIdeal.nD Cert.DxReferenceIdeal.τ).loc Cert.DxReferenceIdeal.main_arg3)) (m ((c.tc : Thread Cert.DxReferenceIdeal.nD Cert.DxReferenceIdeal.τ).loc Cert.DxReferenceIdeal.main_arg4)) (m ((c.tc : Thread Cert.DxReferenceIdeal.nD Cert.DxReferenceIdeal.τ).loc Cert.DxReferenceIdeal.main_arg5))).2.2.2.2 = (fun _ => 1#1)

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentIdeal_finite_dx [hPre_finite_dx : Cert.Pre_finite_dx.Facts] (m : (ℓ : Loc Cert.LatentIdeal.nD Cert.LatentIdeal.τ Cert.LatentIdeal.sig) → Buf (Elt Ideal) ℓ) : Prop :=
  ∀ c : Dev Cert.LatentIdeal.nD,
    (Cert.Pre_finite_dx.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4)) (m ((c.tc : Thread Cert.LatentIdeal.nD Cert.LatentIdeal.τ).loc Cert.LatentIdeal.main_arg5))).1 = (fun _ => 1#1)
    ∧ (Cert.Pre_finite_dx.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4)) (m ((c.tc : Thread Cert.LatentIdeal.nD Cert.LatentIdeal.τ).loc Cert.LatentIdeal.main_arg5))).2.1 = (fun _ => 1#1)
    ∧ (Cert.Pre_finite_dx.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4)) (m ((c.tc : Thread Cert.LatentIdeal.nD Cert.LatentIdeal.τ).loc Cert.LatentIdeal.main_arg5))).2.2.1 = (fun _ => 1#1)
    ∧ (Cert.Pre_finite_dx.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4)) (m ((c.tc : Thread Cert.LatentIdeal.nD Cert.LatentIdeal.τ).loc Cert.LatentIdeal.main_arg5))).2.2.2.1 = (fun _ => 1#1)
    ∧ (Cert.Pre_finite_dx.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4)) (m ((c.tc : Thread Cert.LatentIdeal.nD Cert.LatentIdeal.τ).loc Cert.LatentIdeal.main_arg5))).2.2.2.2 = (fun _ => 1#1)

def Pre_LatentReferenceIdeal (m : (ℓ : Loc Cert.LatentReferenceIdeal.nD Cert.LatentReferenceIdeal.τ Cert.LatentReferenceIdeal.sig) → Buf (Elt Ideal) ℓ) : Prop :=
  True

def Pre_LatentReferenceIdeal_finite_dx [hPre_finite_dx : Cert.Pre_finite_dx.Facts] (m : (ℓ : Loc Cert.LatentReferenceIdeal.nD Cert.LatentReferenceIdeal.τ Cert.LatentReferenceIdeal.sig) → Buf (Elt Ideal) ℓ) : Prop :=
  ∀ c : Dev Cert.LatentReferenceIdeal.nD,
    (Cert.Pre_finite_dx.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4)) (m ((c.tc : Thread Cert.LatentReferenceIdeal.nD Cert.LatentReferenceIdeal.τ).loc Cert.LatentReferenceIdeal.main_arg5))).1 = (fun _ => 1#1)
    ∧ (Cert.Pre_finite_dx.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4)) (m ((c.tc : Thread Cert.LatentReferenceIdeal.nD Cert.LatentReferenceIdeal.τ).loc Cert.LatentReferenceIdeal.main_arg5))).2.1 = (fun _ => 1#1)
    ∧ (Cert.Pre_finite_dx.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4)) (m ((c.tc : Thread Cert.LatentReferenceIdeal.nD Cert.LatentReferenceIdeal.τ).loc Cert.LatentReferenceIdeal.main_arg5))).2.2.1 = (fun _ => 1#1)
    ∧ (Cert.Pre_finite_dx.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4)) (m ((c.tc : Thread Cert.LatentReferenceIdeal.nD Cert.LatentReferenceIdeal.τ).loc Cert.LatentReferenceIdeal.main_arg5))).2.2.2.1 = (fun _ => 1#1)
    ∧ (Cert.Pre_finite_dx.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4)) (m ((c.tc : Thread Cert.LatentReferenceIdeal.nD Cert.LatentReferenceIdeal.τ).loc Cert.LatentReferenceIdeal.main_arg5))).2.2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Split (m : (ℓ : Loc Cert.Split.nD Cert.Split.τ Cert.Split.sig) → Buf (Elt Bits) ℓ) : Prop :=
  True

def Pre_SplitIdeal (m : (ℓ : Loc Cert.SplitIdeal.nD Cert.SplitIdeal.τ Cert.SplitIdeal.sig) → Buf (Elt Ideal) ℓ) : Prop :=
  True

def Pre_SplitIdeal_finite_split [hPre_finite_split : Cert.Pre_finite_split.Facts] (m : (ℓ : Loc Cert.SplitIdeal.nD Cert.SplitIdeal.τ Cert.SplitIdeal.sig) → Buf (Elt Ideal) ℓ) : Prop :=
  ∀ c : Dev Cert.SplitIdeal.nD,
    (Cert.Pre_finite_split.fn (F := Ideal) (m ((c.tc : Thread Cert.SplitIdeal.nD Cert.SplitIdeal.τ).loc Cert.SplitIdeal.main_arg0)) (m ((c.tc : Thread Cert.SplitIdeal.nD Cert.SplitIdeal.τ).loc Cert.SplitIdeal.main_arg1)) (m ((c.tc : Thread Cert.SplitIdeal.nD Cert.SplitIdeal.τ).loc Cert.SplitIdeal.main_arg2)) (m ((c.tc : Thread Cert.SplitIdeal.nD Cert.SplitIdeal.τ).loc Cert.SplitIdeal.main_arg3)) (m ((c.tc : Thread Cert.SplitIdeal.nD Cert.SplitIdeal.τ).loc Cert.SplitIdeal.main_arg4)) (m ((c.tc : Thread Cert.SplitIdeal.nD Cert.SplitIdeal.τ).loc Cert.SplitIdeal.main_arg5)) (m ((c.tc : Thread Cert.SplitIdeal.nD Cert.SplitIdeal.τ).loc Cert.SplitIdeal.main_arg6)) (m ((c.tc : Thread Cert.SplitIdeal.nD Cert.SplitIdeal.τ).loc Cert.SplitIdeal.main_arg7)) (m ((c.tc : Thread Cert.SplitIdeal.nD Cert.SplitIdeal.τ).loc Cert.SplitIdeal.main_arg8)) (m ((c.tc : Thread Cert.SplitIdeal.nD Cert.SplitIdeal.τ).loc Cert.SplitIdeal.main_arg9)) (m ((c.tc : Thread Cert.SplitIdeal.nD Cert.SplitIdeal.τ).loc Cert.SplitIdeal.main_arg10)) (m ((c.tc : Thread Cert.SplitIdeal.nD Cert.SplitIdeal.τ).loc Cert.SplitIdeal.main_arg11)) (m ((c.tc : Thread Cert.SplitIdeal.nD Cert.SplitIdeal.τ).loc Cert.SplitIdeal.main_arg12))).1 = (fun _ => 1#1)
    ∧ (Cert.Pre_finite_split.fn (F := Ideal) (m ((c.tc : Thread Cert.SplitIdeal.nD Cert.SplitIdeal.τ).loc Cert.SplitIdeal.main_arg0)) (m ((c.tc : Thread Cert.SplitIdeal.nD Cert.SplitIdeal.τ).loc Cert.SplitIdeal.main_arg1)) (m ((c.tc : Thread Cert.SplitIdeal.nD Cert.SplitIdeal.τ).loc Cert.SplitIdeal.main_arg2)) (m ((c.tc : Thread Cert.SplitIdeal.nD Cert.SplitIdeal.τ).loc Cert.SplitIdeal.main_arg3)) (m ((c.tc : Thread Cert.SplitIdeal.nD Cert.SplitIdeal.τ).loc Cert.SplitIdeal.main_arg4)) (m ((c.tc : Thread Cert.SplitIdeal.nD Cert.SplitIdeal.τ).loc Cert.SplitIdeal.main_arg5)) (m ((c.tc : Thread Cert.SplitIdeal.nD Cert.SplitIdeal.τ).loc Cert.SplitIdeal.main_arg6)) (m ((c.tc : Thread Cert.SplitIdeal.nD Cert.SplitIdeal.τ).loc Cert.SplitIdeal.main_arg7)) (m ((c.tc : Thread Cert.SplitIdeal.nD Cert.SplitIdeal.τ).loc Cert.SplitIdeal.main_arg8)) (m ((c.tc : Thread Cert.SplitIdeal.nD Cert.SplitIdeal.τ).loc Cert.SplitIdeal.main_arg9)) (m ((c.tc : Thread Cert.SplitIdeal.nD Cert.SplitIdeal.τ).loc Cert.SplitIdeal.main_arg10)) (m ((c.tc : Thread Cert.SplitIdeal.nD Cert.SplitIdeal.τ).loc Cert.SplitIdeal.main_arg11)) (m ((c.tc : Thread Cert.SplitIdeal.nD Cert.SplitIdeal.τ).loc Cert.SplitIdeal.main_arg12))).2.1 = (fun _ => 1#1)
    ∧ (Cert.Pre_finite_split.fn (F := Ideal) (m ((c.tc : Thread Cert.SplitIdeal.nD Cert.SplitIdeal.τ).loc Cert.SplitIdeal.main_arg0)) (m ((c.tc : Thread Cert.SplitIdeal.nD Cert.SplitIdeal.τ).loc Cert.SplitIdeal.main_arg1)) (m ((c.tc : Thread Cert.SplitIdeal.nD Cert.SplitIdeal.τ).loc Cert.SplitIdeal.main_arg2)) (m ((c.tc : Thread Cert.SplitIdeal.nD Cert.SplitIdeal.τ).loc Cert.SplitIdeal.main_arg3)) (m ((c.tc : Thread Cert.SplitIdeal.nD Cert.SplitIdeal.τ).loc Cert.SplitIdeal.main_arg4)) (m ((c.tc : Thread Cert.SplitIdeal.nD Cert.SplitIdeal.τ).loc Cert.SplitIdeal.main_arg5)) (m ((c.tc : Thread Cert.SplitIdeal.nD Cert.SplitIdeal.τ).loc Cert.SplitIdeal.main_arg6)) (m ((c.tc : Thread Cert.SplitIdeal.nD Cert.SplitIdeal.τ).loc Cert.SplitIdeal.main_arg7)) (m ((c.tc : Thread Cert.SplitIdeal.nD Cert.SplitIdeal.τ).loc Cert.SplitIdeal.main_arg8)) (m ((c.tc : Thread Cert.SplitIdeal.nD Cert.SplitIdeal.τ).loc Cert.SplitIdeal.main_arg9)) (m ((c.tc : Thread Cert.SplitIdeal.nD Cert.SplitIdeal.τ).loc Cert.SplitIdeal.main_arg10)) (m ((c.tc : Thread Cert.SplitIdeal.nD Cert.SplitIdeal.τ).loc Cert.SplitIdeal.main_arg11)) (m ((c.tc : Thread Cert.SplitIdeal.nD Cert.SplitIdeal.τ).loc Cert.SplitIdeal.main_arg12))).2.2.1 = (fun _ => 1#1)
    ∧ (Cert.Pre_finite_split.fn (F := Ideal) (m ((c.tc : Thread Cert.SplitIdeal.nD Cert.SplitIdeal.τ).loc Cert.SplitIdeal.main_arg0)) (m ((c.tc : Thread Cert.SplitIdeal.nD Cert.SplitIdeal.τ).loc Cert.SplitIdeal.main_arg1)) (m ((c.tc : Thread Cert.SplitIdeal.nD Cert.SplitIdeal.τ).loc Cert.SplitIdeal.main_arg2)) (m ((c.tc : Thread Cert.SplitIdeal.nD Cert.SplitIdeal.τ).loc Cert.SplitIdeal.main_arg3)) (m ((c.tc : Thread Cert.SplitIdeal.nD Cert.SplitIdeal.τ).loc Cert.SplitIdeal.main_arg4)) (m ((c.tc : Thread Cert.SplitIdeal.nD Cert.SplitIdeal.τ).loc Cert.SplitIdeal.main_arg5)) (m ((c.tc : Thread Cert.SplitIdeal.nD Cert.SplitIdeal.τ).loc Cert.SplitIdeal.main_arg6)) (m ((c.tc : Thread Cert.SplitIdeal.nD Cert.SplitIdeal.τ).loc Cert.SplitIdeal.main_arg7)) (m ((c.tc : Thread Cert.SplitIdeal.nD Cert.SplitIdeal.τ).loc Cert.SplitIdeal.main_arg8)) (m ((c.tc : Thread Cert.SplitIdeal.nD Cert.SplitIdeal.τ).loc Cert.SplitIdeal.main_arg9)) (m ((c.tc : Thread Cert.SplitIdeal.nD Cert.SplitIdeal.τ).loc Cert.SplitIdeal.main_arg10)) (m ((c.tc : Thread Cert.SplitIdeal.nD Cert.SplitIdeal.τ).loc Cert.SplitIdeal.main_arg11)) (m ((c.tc : Thread Cert.SplitIdeal.nD Cert.SplitIdeal.τ).loc Cert.SplitIdeal.main_arg12))).2.2.2.1 = (fun _ => 1#1)
    ∧ (Cert.Pre_finite_split.fn (F := Ideal) (m ((c.tc : Thread Cert.SplitIdeal.nD Cert.SplitIdeal.τ).loc Cert.SplitIdeal.main_arg0)) (m ((c.tc : Thread Cert.SplitIdeal.nD Cert.SplitIdeal.τ).loc Cert.SplitIdeal.main_arg1)) (m ((c.tc : Thread Cert.SplitIdeal.nD Cert.SplitIdeal.τ).loc Cert.SplitIdeal.main_arg2)) (m ((c.tc : Thread Cert.SplitIdeal.nD Cert.SplitIdeal.τ).loc Cert.SplitIdeal.main_arg3)) (m ((c.tc : Thread Cert.SplitIdeal.nD Cert.SplitIdeal.τ).loc Cert.SplitIdeal.main_arg4)) (m ((c.tc : Thread Cert.SplitIdeal.nD Cert.SplitIdeal.τ).loc Cert.SplitIdeal.main_arg5)) (m ((c.tc : Thread Cert.SplitIdeal.nD Cert.SplitIdeal.τ).loc Cert.SplitIdeal.main_arg6)) (m ((c.tc : Thread Cert.SplitIdeal.nD Cert.SplitIdeal.τ).loc Cert.SplitIdeal.main_arg7)) (m ((c.tc : Thread Cert.SplitIdeal.nD Cert.SplitIdeal.τ).loc Cert.SplitIdeal.main_arg8)) (m ((c.tc : Thread Cert.SplitIdeal.nD Cert.SplitIdeal.τ).loc Cert.SplitIdeal.main_arg9)) (m ((c.tc : Thread Cert.SplitIdeal.nD Cert.SplitIdeal.τ).loc Cert.SplitIdeal.main_arg10)) (m ((c.tc : Thread Cert.SplitIdeal.nD Cert.SplitIdeal.τ).loc Cert.SplitIdeal.main_arg11)) (m ((c.tc : Thread Cert.SplitIdeal.nD Cert.SplitIdeal.τ).loc Cert.SplitIdeal.main_arg12))).2.2.2.2.1 = (fun _ => 1#1)
    ∧ (Cert.Pre_finite_split.fn (F := Ideal) (m ((c.tc : Thread Cert.SplitIdeal.nD Cert.SplitIdeal.τ).loc Cert.SplitIdeal.main_arg0)) (m ((c.tc : Thread Cert.SplitIdeal.nD Cert.SplitIdeal.τ).loc Cert.SplitIdeal.main_arg1)) (m ((c.tc : Thread Cert.SplitIdeal.nD Cert.SplitIdeal.τ).loc Cert.SplitIdeal.main_arg2)) (m ((c.tc : Thread Cert.SplitIdeal.nD Cert.SplitIdeal.τ).loc Cert.SplitIdeal.main_arg3)) (m ((c.tc : Thread Cert.SplitIdeal.nD Cert.SplitIdeal.τ).loc Cert.SplitIdeal.main_arg4)) (m ((c.tc : Thread Cert.SplitIdeal.nD Cert.SplitIdeal.τ).loc Cert.SplitIdeal.main_arg5)) (m ((c.tc : Thread Cert.SplitIdeal.nD Cert.SplitIdeal.τ).loc Cert.SplitIdeal.main_arg6)) (m ((c.tc : Thread Cert.SplitIdeal.nD Cert.SplitIdeal.τ).loc Cert.SplitIdeal.main_arg7)) (m ((c.tc : Thread Cert.SplitIdeal.nD Cert.SplitIdeal.τ).loc Cert.SplitIdeal.main_arg8)) (m ((c.tc : Thread Cert.SplitIdeal.nD Cert.SplitIdeal.τ).loc Cert.SplitIdeal.main_arg9)) (m ((c.tc : Thread Cert.SplitIdeal.nD Cert.SplitIdeal.τ).loc Cert.SplitIdeal.main_arg10)) (m ((c.tc : Thread Cert.SplitIdeal.nD Cert.SplitIdeal.τ).loc Cert.SplitIdeal.main_arg11)) (m ((c.tc : Thread Cert.SplitIdeal.nD Cert.SplitIdeal.τ).loc Cert.SplitIdeal.main_arg12))).2.2.2.2.2.1 = (fun _ => 1#1)
    ∧ (Cert.Pre_finite_split.fn (F := Ideal) (m ((c.tc : Thread Cert.SplitIdeal.nD Cert.SplitIdeal.τ).loc Cert.SplitIdeal.main_arg0)) (m ((c.tc : Thread Cert.SplitIdeal.nD Cert.SplitIdeal.τ).loc Cert.SplitIdeal.main_arg1)) (m ((c.tc : Thread Cert.SplitIdeal.nD Cert.SplitIdeal.τ).loc Cert.SplitIdeal.main_arg2)) (m ((c.tc : Thread Cert.SplitIdeal.nD Cert.SplitIdeal.τ).loc Cert.SplitIdeal.main_arg3)) (m ((c.tc : Thread Cert.SplitIdeal.nD Cert.SplitIdeal.τ).loc Cert.SplitIdeal.main_arg4)) (m ((c.tc : Thread Cert.SplitIdeal.nD Cert.SplitIdeal.τ).loc Cert.SplitIdeal.main_arg5)) (m ((c.tc : Thread Cert.SplitIdeal.nD Cert.SplitIdeal.τ).loc Cert.SplitIdeal.main_arg6)) (m ((c.tc : Thread Cert.SplitIdeal.nD Cert.SplitIdeal.τ).loc Cert.SplitIdeal.main_arg7)) (m ((c.tc : Thread Cert.SplitIdeal.nD Cert.SplitIdeal.τ).loc Cert.SplitIdeal.main_arg8)) (m ((c.tc : Thread Cert.SplitIdeal.nD Cert.SplitIdeal.τ).loc Cert.SplitIdeal.main_arg9)) (m ((c.tc : Thread Cert.SplitIdeal.nD Cert.SplitIdeal.τ).loc Cert.SplitIdeal.main_arg10)) (m ((c.tc : Thread Cert.SplitIdeal.nD Cert.SplitIdeal.τ).loc Cert.SplitIdeal.main_arg11)) (m ((c.tc : Thread Cert.SplitIdeal.nD Cert.SplitIdeal.τ).loc Cert.SplitIdeal.main_arg12))).2.2.2.2.2.2.1 = (fun _ => 1#1)
    ∧ (Cert.Pre_finite_split.fn (F := Ideal) (m ((c.tc : Thread Cert.SplitIdeal.nD Cert.SplitIdeal.τ).loc Cert.SplitIdeal.main_arg0)) (m ((c.tc : Thread Cert.SplitIdeal.nD Cert.SplitIdeal.τ).loc Cert.SplitIdeal.main_arg1)) (m ((c.tc : Thread Cert.SplitIdeal.nD Cert.SplitIdeal.τ).loc Cert.SplitIdeal.main_arg2)) (m ((c.tc : Thread Cert.SplitIdeal.nD Cert.SplitIdeal.τ).loc Cert.SplitIdeal.main_arg3)) (m ((c.tc : Thread Cert.SplitIdeal.nD Cert.SplitIdeal.τ).loc Cert.SplitIdeal.main_arg4)) (m ((c.tc : Thread Cert.SplitIdeal.nD Cert.SplitIdeal.τ).loc Cert.SplitIdeal.main_arg5)) (m ((c.tc : Thread Cert.SplitIdeal.nD Cert.SplitIdeal.τ).loc Cert.SplitIdeal.main_arg6)) (m ((c.tc : Thread Cert.SplitIdeal.nD Cert.SplitIdeal.τ).loc Cert.SplitIdeal.main_arg7)) (m ((c.tc : Thread Cert.SplitIdeal.nD Cert.SplitIdeal.τ).loc Cert.SplitIdeal.main_arg8)) (m ((c.tc : Thread Cert.SplitIdeal.nD Cert.SplitIdeal.τ).loc Cert.SplitIdeal.main_arg9)) (m ((c.tc : Thread Cert.SplitIdeal.nD Cert.SplitIdeal.τ).loc Cert.SplitIdeal.main_arg10)) (m ((c.tc : Thread Cert.SplitIdeal.nD Cert.SplitIdeal.τ).loc Cert.SplitIdeal.main_arg11)) (m ((c.tc : Thread Cert.SplitIdeal.nD Cert.SplitIdeal.τ).loc Cert.SplitIdeal.main_arg12))).2.2.2.2.2.2.2.1 = (fun _ => 1#1)
    ∧ (Cert.Pre_finite_split.fn (F := Ideal) (m ((c.tc : Thread Cert.SplitIdeal.nD Cert.SplitIdeal.τ).loc Cert.SplitIdeal.main_arg0)) (m ((c.tc : Thread Cert.SplitIdeal.nD Cert.SplitIdeal.τ).loc Cert.SplitIdeal.main_arg1)) (m ((c.tc : Thread Cert.SplitIdeal.nD Cert.SplitIdeal.τ).loc Cert.SplitIdeal.main_arg2)) (m ((c.tc : Thread Cert.SplitIdeal.nD Cert.SplitIdeal.τ).loc Cert.SplitIdeal.main_arg3)) (m ((c.tc : Thread Cert.SplitIdeal.nD Cert.SplitIdeal.τ).loc Cert.SplitIdeal.main_arg4)) (m ((c.tc : Thread Cert.SplitIdeal.nD Cert.SplitIdeal.τ).loc Cert.SplitIdeal.main_arg5)) (m ((c.tc : Thread Cert.SplitIdeal.nD Cert.SplitIdeal.τ).loc Cert.SplitIdeal.main_arg6)) (m ((c.tc : Thread Cert.SplitIdeal.nD Cert.SplitIdeal.τ).loc Cert.SplitIdeal.main_arg7)) (m ((c.tc : Thread Cert.SplitIdeal.nD Cert.SplitIdeal.τ).loc Cert.SplitIdeal.main_arg8)) (m ((c.tc : Thread Cert.SplitIdeal.nD Cert.SplitIdeal.τ).loc Cert.SplitIdeal.main_arg9)) (m ((c.tc : Thread Cert.SplitIdeal.nD Cert.SplitIdeal.τ).loc Cert.SplitIdeal.main_arg10)) (m ((c.tc : Thread Cert.SplitIdeal.nD Cert.SplitIdeal.τ).loc Cert.SplitIdeal.main_arg11)) (m ((c.tc : Thread Cert.SplitIdeal.nD Cert.SplitIdeal.τ).loc Cert.SplitIdeal.main_arg12))).2.2.2.2.2.2.2.2.1 = (fun _ => 1#1)
    ∧ (Cert.Pre_finite_split.fn (F := Ideal) (m ((c.tc : Thread Cert.SplitIdeal.nD Cert.SplitIdeal.τ).loc Cert.SplitIdeal.main_arg0)) (m ((c.tc : Thread Cert.SplitIdeal.nD Cert.SplitIdeal.τ).loc Cert.SplitIdeal.main_arg1)) (m ((c.tc : Thread Cert.SplitIdeal.nD Cert.SplitIdeal.τ).loc Cert.SplitIdeal.main_arg2)) (m ((c.tc : Thread Cert.SplitIdeal.nD Cert.SplitIdeal.τ).loc Cert.SplitIdeal.main_arg3)) (m ((c.tc : Thread Cert.SplitIdeal.nD Cert.SplitIdeal.τ).loc Cert.SplitIdeal.main_arg4)) (m ((c.tc : Thread Cert.SplitIdeal.nD Cert.SplitIdeal.τ).loc Cert.SplitIdeal.main_arg5)) (m ((c.tc : Thread Cert.SplitIdeal.nD Cert.SplitIdeal.τ).loc Cert.SplitIdeal.main_arg6)) (m ((c.tc : Thread Cert.SplitIdeal.nD Cert.SplitIdeal.τ).loc Cert.SplitIdeal.main_arg7)) (m ((c.tc : Thread Cert.SplitIdeal.nD Cert.SplitIdeal.τ).loc Cert.SplitIdeal.main_arg8)) (m ((c.tc : Thread Cert.SplitIdeal.nD Cert.SplitIdeal.τ).loc Cert.SplitIdeal.main_arg9)) (m ((c.tc : Thread Cert.SplitIdeal.nD Cert.SplitIdeal.τ).loc Cert.SplitIdeal.main_arg10)) (m ((c.tc : Thread Cert.SplitIdeal.nD Cert.SplitIdeal.τ).loc Cert.SplitIdeal.main_arg11)) (m ((c.tc : Thread Cert.SplitIdeal.nD Cert.SplitIdeal.τ).loc Cert.SplitIdeal.main_arg12))).2.2.2.2.2.2.2.2.2.1 = (fun _ => 1#1)
    ∧ (Cert.Pre_finite_split.fn (F := Ideal) (m ((c.tc : Thread Cert.SplitIdeal.nD Cert.SplitIdeal.τ).loc Cert.SplitIdeal.main_arg0)) (m ((c.tc : Thread Cert.SplitIdeal.nD Cert.SplitIdeal.τ).loc Cert.SplitIdeal.main_arg1)) (m ((c.tc : Thread Cert.SplitIdeal.nD Cert.SplitIdeal.τ).loc Cert.SplitIdeal.main_arg2)) (m ((c.tc : Thread Cert.SplitIdeal.nD Cert.SplitIdeal.τ).loc Cert.SplitIdeal.main_arg3)) (m ((c.tc : Thread Cert.SplitIdeal.nD Cert.SplitIdeal.τ).loc Cert.SplitIdeal.main_arg4)) (m ((c.tc : Thread Cert.SplitIdeal.nD Cert.SplitIdeal.τ).loc Cert.SplitIdeal.main_arg5)) (m ((c.tc : Thread Cert.SplitIdeal.nD Cert.SplitIdeal.τ).loc Cert.SplitIdeal.main_arg6)) (m ((c.tc : Thread Cert.SplitIdeal.nD Cert.SplitIdeal.τ).loc Cert.SplitIdeal.main_arg7)) (m ((c.tc : Thread Cert.SplitIdeal.nD Cert.SplitIdeal.τ).loc Cert.SplitIdeal.main_arg8)) (m ((c.tc : Thread Cert.SplitIdeal.nD Cert.SplitIdeal.τ).loc Cert.SplitIdeal.main_arg9)) (m ((c.tc : Thread Cert.SplitIdeal.nD Cert.SplitIdeal.τ).loc Cert.SplitIdeal.main_arg10)) (m ((c.tc : Thread Cert.SplitIdeal.nD Cert.SplitIdeal.τ).loc Cert.SplitIdeal.main_arg11)) (m ((c.tc : Thread Cert.SplitIdeal.nD Cert.SplitIdeal.τ).loc Cert.SplitIdeal.main_arg12))).2.2.2.2.2.2.2.2.2.2.1 = (fun _ => 1#1)
    ∧ (Cert.Pre_finite_split.fn (F := Ideal) (m ((c.tc : Thread Cert.SplitIdeal.nD Cert.SplitIdeal.τ).loc Cert.SplitIdeal.main_arg0)) (m ((c.tc : Thread Cert.SplitIdeal.nD Cert.SplitIdeal.τ).loc Cert.SplitIdeal.main_arg1)) (m ((c.tc : Thread Cert.SplitIdeal.nD Cert.SplitIdeal.τ).loc Cert.SplitIdeal.main_arg2)) (m ((c.tc : Thread Cert.SplitIdeal.nD Cert.SplitIdeal.τ).loc Cert.SplitIdeal.main_arg3)) (m ((c.tc : Thread Cert.SplitIdeal.nD Cert.SplitIdeal.τ).loc Cert.SplitIdeal.main_arg4)) (m ((c.tc : Thread Cert.SplitIdeal.nD Cert.SplitIdeal.τ).loc Cert.SplitIdeal.main_arg5)) (m ((c.tc : Thread Cert.SplitIdeal.nD Cert.SplitIdeal.τ).loc Cert.SplitIdeal.main_arg6)) (m ((c.tc : Thread Cert.SplitIdeal.nD Cert.SplitIdeal.τ).loc Cert.SplitIdeal.main_arg7)) (m ((c.tc : Thread Cert.SplitIdeal.nD Cert.SplitIdeal.τ).loc Cert.SplitIdeal.main_arg8)) (m ((c.tc : Thread Cert.SplitIdeal.nD Cert.SplitIdeal.τ).loc Cert.SplitIdeal.main_arg9)) (m ((c.tc : Thread Cert.SplitIdeal.nD Cert.SplitIdeal.τ).loc Cert.SplitIdeal.main_arg10)) (m ((c.tc : Thread Cert.SplitIdeal.nD Cert.SplitIdeal.τ).loc Cert.SplitIdeal.main_arg11)) (m ((c.tc : Thread Cert.SplitIdeal.nD Cert.SplitIdeal.τ).loc Cert.SplitIdeal.main_arg12))).2.2.2.2.2.2.2.2.2.2.2.1 = (fun _ => 1#1)
    ∧ (Cert.Pre_finite_split.fn (F := Ideal) (m ((c.tc : Thread Cert.SplitIdeal.nD Cert.SplitIdeal.τ).loc Cert.SplitIdeal.main_arg0)) (m ((c.tc : Thread Cert.SplitIdeal.nD Cert.SplitIdeal.τ).loc Cert.SplitIdeal.main_arg1)) (m ((c.tc : Thread Cert.SplitIdeal.nD Cert.SplitIdeal.τ).loc Cert.SplitIdeal.main_arg2)) (m ((c.tc : Thread Cert.SplitIdeal.nD Cert.SplitIdeal.τ).loc Cert.SplitIdeal.main_arg3)) (m ((c.tc : Thread Cert.SplitIdeal.nD Cert.SplitIdeal.τ).loc Cert.SplitIdeal.main_arg4)) (m ((c.tc : Thread Cert.SplitIdeal.nD Cert.SplitIdeal.τ).loc Cert.SplitIdeal.main_arg5)) (m ((c.tc : Thread Cert.SplitIdeal.nD Cert.SplitIdeal.τ).loc Cert.SplitIdeal.main_arg6)) (m ((c.tc : Thread Cert.SplitIdeal.nD Cert.SplitIdeal.τ).loc Cert.SplitIdeal.main_arg7)) (m ((c.tc : Thread Cert.SplitIdeal.nD Cert.SplitIdeal.τ).loc Cert.SplitIdeal.main_arg8)) (m ((c.tc : Thread Cert.SplitIdeal.nD Cert.SplitIdeal.τ).loc Cert.SplitIdeal.main_arg9)) (m ((c.tc : Thread Cert.SplitIdeal.nD Cert.SplitIdeal.τ).loc Cert.SplitIdeal.main_arg10)) (m ((c.tc : Thread Cert.SplitIdeal.nD Cert.SplitIdeal.τ).loc Cert.SplitIdeal.main_arg11)) (m ((c.tc : Thread Cert.SplitIdeal.nD Cert.SplitIdeal.τ).loc Cert.SplitIdeal.main_arg12))).2.2.2.2.2.2.2.2.2.2.2.2 = (fun _ => 1#1)

def Pre_SplitReferenceIdeal (m : (ℓ : Loc Cert.SplitReferenceIdeal.nD Cert.SplitReferenceIdeal.τ Cert.SplitReferenceIdeal.sig) → Buf (Elt Ideal) ℓ) : Prop :=
  True

def Pre_SplitReferenceIdeal_finite_split [hPre_finite_split : Cert.Pre_finite_split.Facts] (m : (ℓ : Loc Cert.SplitReferenceIdeal.nD Cert.SplitReferenceIdeal.τ Cert.SplitReferenceIdeal.sig) → Buf (Elt Ideal) ℓ) : Prop :=
  ∀ c : Dev Cert.SplitReferenceIdeal.nD,
    (Cert.Pre_finite_split.fn (F := Ideal) (m ((c.tc : Thread Cert.SplitReferenceIdeal.nD Cert.SplitReferenceIdeal.τ).loc Cert.SplitReferenceIdeal.main_arg0)) (m ((c.tc : Thread Cert.SplitReferenceIdeal.nD Cert.SplitReferenceIdeal.τ).loc Cert.SplitReferenceIdeal.main_arg1)) (m ((c.tc : Thread Cert.SplitReferenceIdeal.nD Cert.SplitReferenceIdeal.τ).loc Cert.SplitReferenceIdeal.main_arg2)) (m ((c.tc : Thread Cert.SplitReferenceIdeal.nD Cert.SplitReferenceIdeal.τ).loc Cert.SplitReferenceIdeal.main_arg3)) (m ((c.tc : Thread Cert.SplitReferenceIdeal.nD Cert.SplitReferenceIdeal.τ).loc Cert.SplitReferenceIdeal.main_arg4)) (m ((c.tc : Thread Cert.SplitReferenceIdeal.nD Cert.SplitReferenceIdeal.τ).loc Cert.SplitReferenceIdeal.main_arg5)) (m ((c.tc : Thread Cert.SplitReferenceIdeal.nD Cert.SplitReferenceIdeal.τ).loc Cert.SplitReferenceIdeal.main_arg6)) (m ((c.tc : Thread Cert.SplitReferenceIdeal.nD Cert.SplitReferenceIdeal.τ).loc Cert.SplitReferenceIdeal.main_arg7)) (m ((c.tc : Thread Cert.SplitReferenceIdeal.nD Cert.SplitReferenceIdeal.τ).loc Cert.SplitReferenceIdeal.main_arg8)) (m ((c.tc : Thread Cert.SplitReferenceIdeal.nD Cert.SplitReferenceIdeal.τ).loc Cert.SplitReferenceIdeal.main_arg9)) (m ((c.tc : Thread Cert.SplitReferenceIdeal.nD Cert.SplitReferenceIdeal.τ).loc Cert.SplitReferenceIdeal.main_arg10)) (m ((c.tc : Thread Cert.SplitReferenceIdeal.nD Cert.SplitReferenceIdeal.τ).loc Cert.SplitReferenceIdeal.main_arg11)) (m ((c.tc : Thread Cert.SplitReferenceIdeal.nD Cert.SplitReferenceIdeal.τ).loc Cert.SplitReferenceIdeal.main_arg12))).1 = (fun _ => 1#1)
    ∧ (Cert.Pre_finite_split.fn (F := Ideal) (m ((c.tc : Thread Cert.SplitReferenceIdeal.nD Cert.SplitReferenceIdeal.τ).loc Cert.SplitReferenceIdeal.main_arg0)) (m ((c.tc : Thread Cert.SplitReferenceIdeal.nD Cert.SplitReferenceIdeal.τ).loc Cert.SplitReferenceIdeal.main_arg1)) (m ((c.tc : Thread Cert.SplitReferenceIdeal.nD Cert.SplitReferenceIdeal.τ).loc Cert.SplitReferenceIdeal.main_arg2)) (m ((c.tc : Thread Cert.SplitReferenceIdeal.nD Cert.SplitReferenceIdeal.τ).loc Cert.SplitReferenceIdeal.main_arg3)) (m ((c.tc : Thread Cert.SplitReferenceIdeal.nD Cert.SplitReferenceIdeal.τ).loc Cert.SplitReferenceIdeal.main_arg4)) (m ((c.tc : Thread Cert.SplitReferenceIdeal.nD Cert.SplitReferenceIdeal.τ).loc Cert.SplitReferenceIdeal.main_arg5)) (m ((c.tc : Thread Cert.SplitReferenceIdeal.nD Cert.SplitReferenceIdeal.τ).loc Cert.SplitReferenceIdeal.main_arg6)) (m ((c.tc : Thread Cert.SplitReferenceIdeal.nD Cert.SplitReferenceIdeal.τ).loc Cert.SplitReferenceIdeal.main_arg7)) (m ((c.tc : Thread Cert.SplitReferenceIdeal.nD Cert.SplitReferenceIdeal.τ).loc Cert.SplitReferenceIdeal.main_arg8)) (m ((c.tc : Thread Cert.SplitReferenceIdeal.nD Cert.SplitReferenceIdeal.τ).loc Cert.SplitReferenceIdeal.main_arg9)) (m ((c.tc : Thread Cert.SplitReferenceIdeal.nD Cert.SplitReferenceIdeal.τ).loc Cert.SplitReferenceIdeal.main_arg10)) (m ((c.tc : Thread Cert.SplitReferenceIdeal.nD Cert.SplitReferenceIdeal.τ).loc Cert.SplitReferenceIdeal.main_arg11)) (m ((c.tc : Thread Cert.SplitReferenceIdeal.nD Cert.SplitReferenceIdeal.τ).loc Cert.SplitReferenceIdeal.main_arg12))).2.1 = (fun _ => 1#1)
    ∧ (Cert.Pre_finite_split.fn (F := Ideal) (m ((c.tc : Thread Cert.SplitReferenceIdeal.nD Cert.SplitReferenceIdeal.τ).loc Cert.SplitReferenceIdeal.main_arg0)) (m ((c.tc : Thread Cert.SplitReferenceIdeal.nD Cert.SplitReferenceIdeal.τ).loc Cert.SplitReferenceIdeal.main_arg1)) (m ((c.tc : Thread Cert.SplitReferenceIdeal.nD Cert.SplitReferenceIdeal.τ).loc Cert.SplitReferenceIdeal.main_arg2)) (m ((c.tc : Thread Cert.SplitReferenceIdeal.nD Cert.SplitReferenceIdeal.τ).loc Cert.SplitReferenceIdeal.main_arg3)) (m ((c.tc : Thread Cert.SplitReferenceIdeal.nD Cert.SplitReferenceIdeal.τ).loc Cert.SplitReferenceIdeal.main_arg4)) (m ((c.tc : Thread Cert.SplitReferenceIdeal.nD Cert.SplitReferenceIdeal.τ).loc Cert.SplitReferenceIdeal.main_arg5)) (m ((c.tc : Thread Cert.SplitReferenceIdeal.nD Cert.SplitReferenceIdeal.τ).loc Cert.SplitReferenceIdeal.main_arg6)) (m ((c.tc : Thread Cert.SplitReferenceIdeal.nD Cert.SplitReferenceIdeal.τ).loc Cert.SplitReferenceIdeal.main_arg7)) (m ((c.tc : Thread Cert.SplitReferenceIdeal.nD Cert.SplitReferenceIdeal.τ).loc Cert.SplitReferenceIdeal.main_arg8)) (m ((c.tc : Thread Cert.SplitReferenceIdeal.nD Cert.SplitReferenceIdeal.τ).loc Cert.SplitReferenceIdeal.main_arg9)) (m ((c.tc : Thread Cert.SplitReferenceIdeal.nD Cert.SplitReferenceIdeal.τ).loc Cert.SplitReferenceIdeal.main_arg10)) (m ((c.tc : Thread Cert.SplitReferenceIdeal.nD Cert.SplitReferenceIdeal.τ).loc Cert.SplitReferenceIdeal.main_arg11)) (m ((c.tc : Thread Cert.SplitReferenceIdeal.nD Cert.SplitReferenceIdeal.τ).loc Cert.SplitReferenceIdeal.main_arg12))).2.2.1 = (fun _ => 1#1)
    ∧ (Cert.Pre_finite_split.fn (F := Ideal) (m ((c.tc : Thread Cert.SplitReferenceIdeal.nD Cert.SplitReferenceIdeal.τ).loc Cert.SplitReferenceIdeal.main_arg0)) (m ((c.tc : Thread Cert.SplitReferenceIdeal.nD Cert.SplitReferenceIdeal.τ).loc Cert.SplitReferenceIdeal.main_arg1)) (m ((c.tc : Thread Cert.SplitReferenceIdeal.nD Cert.SplitReferenceIdeal.τ).loc Cert.SplitReferenceIdeal.main_arg2)) (m ((c.tc : Thread Cert.SplitReferenceIdeal.nD Cert.SplitReferenceIdeal.τ).loc Cert.SplitReferenceIdeal.main_arg3)) (m ((c.tc : Thread Cert.SplitReferenceIdeal.nD Cert.SplitReferenceIdeal.τ).loc Cert.SplitReferenceIdeal.main_arg4)) (m ((c.tc : Thread Cert.SplitReferenceIdeal.nD Cert.SplitReferenceIdeal.τ).loc Cert.SplitReferenceIdeal.main_arg5)) (m ((c.tc : Thread Cert.SplitReferenceIdeal.nD Cert.SplitReferenceIdeal.τ).loc Cert.SplitReferenceIdeal.main_arg6)) (m ((c.tc : Thread Cert.SplitReferenceIdeal.nD Cert.SplitReferenceIdeal.τ).loc Cert.SplitReferenceIdeal.main_arg7)) (m ((c.tc : Thread Cert.SplitReferenceIdeal.nD Cert.SplitReferenceIdeal.τ).loc Cert.SplitReferenceIdeal.main_arg8)) (m ((c.tc : Thread Cert.SplitReferenceIdeal.nD Cert.SplitReferenceIdeal.τ).loc Cert.SplitReferenceIdeal.main_arg9)) (m ((c.tc : Thread Cert.SplitReferenceIdeal.nD Cert.SplitReferenceIdeal.τ).loc Cert.SplitReferenceIdeal.main_arg10)) (m ((c.tc : Thread Cert.SplitReferenceIdeal.nD Cert.SplitReferenceIdeal.τ).loc Cert.SplitReferenceIdeal.main_arg11)) (m ((c.tc : Thread Cert.SplitReferenceIdeal.nD Cert.SplitReferenceIdeal.τ).loc Cert.SplitReferenceIdeal.main_arg12))).2.2.2.1 = (fun _ => 1#1)
    ∧ (Cert.Pre_finite_split.fn (F := Ideal) (m ((c.tc : Thread Cert.SplitReferenceIdeal.nD Cert.SplitReferenceIdeal.τ).loc Cert.SplitReferenceIdeal.main_arg0)) (m ((c.tc : Thread Cert.SplitReferenceIdeal.nD Cert.SplitReferenceIdeal.τ).loc Cert.SplitReferenceIdeal.main_arg1)) (m ((c.tc : Thread Cert.SplitReferenceIdeal.nD Cert.SplitReferenceIdeal.τ).loc Cert.SplitReferenceIdeal.main_arg2)) (m ((c.tc : Thread Cert.SplitReferenceIdeal.nD Cert.SplitReferenceIdeal.τ).loc Cert.SplitReferenceIdeal.main_arg3)) (m ((c.tc : Thread Cert.SplitReferenceIdeal.nD Cert.SplitReferenceIdeal.τ).loc Cert.SplitReferenceIdeal.main_arg4)) (m ((c.tc : Thread Cert.SplitReferenceIdeal.nD Cert.SplitReferenceIdeal.τ).loc Cert.SplitReferenceIdeal.main_arg5)) (m ((c.tc : Thread Cert.SplitReferenceIdeal.nD Cert.SplitReferenceIdeal.τ).loc Cert.SplitReferenceIdeal.main_arg6)) (m ((c.tc : Thread Cert.SplitReferenceIdeal.nD Cert.SplitReferenceIdeal.τ).loc Cert.SplitReferenceIdeal.main_arg7)) (m ((c.tc : Thread Cert.SplitReferenceIdeal.nD Cert.SplitReferenceIdeal.τ).loc Cert.SplitReferenceIdeal.main_arg8)) (m ((c.tc : Thread Cert.SplitReferenceIdeal.nD Cert.SplitReferenceIdeal.τ).loc Cert.SplitReferenceIdeal.main_arg9)) (m ((c.tc : Thread Cert.SplitReferenceIdeal.nD Cert.SplitReferenceIdeal.τ).loc Cert.SplitReferenceIdeal.main_arg10)) (m ((c.tc : Thread Cert.SplitReferenceIdeal.nD Cert.SplitReferenceIdeal.τ).loc Cert.SplitReferenceIdeal.main_arg11)) (m ((c.tc : Thread Cert.SplitReferenceIdeal.nD Cert.SplitReferenceIdeal.τ).loc Cert.SplitReferenceIdeal.main_arg12))).2.2.2.2.1 = (fun _ => 1#1)
    ∧ (Cert.Pre_finite_split.fn (F := Ideal) (m ((c.tc : Thread Cert.SplitReferenceIdeal.nD Cert.SplitReferenceIdeal.τ).loc Cert.SplitReferenceIdeal.main_arg0)) (m ((c.tc : Thread Cert.SplitReferenceIdeal.nD Cert.SplitReferenceIdeal.τ).loc Cert.SplitReferenceIdeal.main_arg1)) (m ((c.tc : Thread Cert.SplitReferenceIdeal.nD Cert.SplitReferenceIdeal.τ).loc Cert.SplitReferenceIdeal.main_arg2)) (m ((c.tc : Thread Cert.SplitReferenceIdeal.nD Cert.SplitReferenceIdeal.τ).loc Cert.SplitReferenceIdeal.main_arg3)) (m ((c.tc : Thread Cert.SplitReferenceIdeal.nD Cert.SplitReferenceIdeal.τ).loc Cert.SplitReferenceIdeal.main_arg4)) (m ((c.tc : Thread Cert.SplitReferenceIdeal.nD Cert.SplitReferenceIdeal.τ).loc Cert.SplitReferenceIdeal.main_arg5)) (m ((c.tc : Thread Cert.SplitReferenceIdeal.nD Cert.SplitReferenceIdeal.τ).loc Cert.SplitReferenceIdeal.main_arg6)) (m ((c.tc : Thread Cert.SplitReferenceIdeal.nD Cert.SplitReferenceIdeal.τ).loc Cert.SplitReferenceIdeal.main_arg7)) (m ((c.tc : Thread Cert.SplitReferenceIdeal.nD Cert.SplitReferenceIdeal.τ).loc Cert.SplitReferenceIdeal.main_arg8)) (m ((c.tc : Thread Cert.SplitReferenceIdeal.nD Cert.SplitReferenceIdeal.τ).loc Cert.SplitReferenceIdeal.main_arg9)) (m ((c.tc : Thread Cert.SplitReferenceIdeal.nD Cert.SplitReferenceIdeal.τ).loc Cert.SplitReferenceIdeal.main_arg10)) (m ((c.tc : Thread Cert.SplitReferenceIdeal.nD Cert.SplitReferenceIdeal.τ).loc Cert.SplitReferenceIdeal.main_arg11)) (m ((c.tc : Thread Cert.SplitReferenceIdeal.nD Cert.SplitReferenceIdeal.τ).loc Cert.SplitReferenceIdeal.main_arg12))).2.2.2.2.2.1 = (fun _ => 1#1)
    ∧ (Cert.Pre_finite_split.fn (F := Ideal) (m ((c.tc : Thread Cert.SplitReferenceIdeal.nD Cert.SplitReferenceIdeal.τ).loc Cert.SplitReferenceIdeal.main_arg0)) (m ((c.tc : Thread Cert.SplitReferenceIdeal.nD Cert.SplitReferenceIdeal.τ).loc Cert.SplitReferenceIdeal.main_arg1)) (m ((c.tc : Thread Cert.SplitReferenceIdeal.nD Cert.SplitReferenceIdeal.τ).loc Cert.SplitReferenceIdeal.main_arg2)) (m ((c.tc : Thread Cert.SplitReferenceIdeal.nD Cert.SplitReferenceIdeal.τ).loc Cert.SplitReferenceIdeal.main_arg3)) (m ((c.tc : Thread Cert.SplitReferenceIdeal.nD Cert.SplitReferenceIdeal.τ).loc Cert.SplitReferenceIdeal.main_arg4)) (m ((c.tc : Thread Cert.SplitReferenceIdeal.nD Cert.SplitReferenceIdeal.τ).loc Cert.SplitReferenceIdeal.main_arg5)) (m ((c.tc : Thread Cert.SplitReferenceIdeal.nD Cert.SplitReferenceIdeal.τ).loc Cert.SplitReferenceIdeal.main_arg6)) (m ((c.tc : Thread Cert.SplitReferenceIdeal.nD Cert.SplitReferenceIdeal.τ).loc Cert.SplitReferenceIdeal.main_arg7)) (m ((c.tc : Thread Cert.SplitReferenceIdeal.nD Cert.SplitReferenceIdeal.τ).loc Cert.SplitReferenceIdeal.main_arg8)) (m ((c.tc : Thread Cert.SplitReferenceIdeal.nD Cert.SplitReferenceIdeal.τ).loc Cert.SplitReferenceIdeal.main_arg9)) (m ((c.tc : Thread Cert.SplitReferenceIdeal.nD Cert.SplitReferenceIdeal.τ).loc Cert.SplitReferenceIdeal.main_arg10)) (m ((c.tc : Thread Cert.SplitReferenceIdeal.nD Cert.SplitReferenceIdeal.τ).loc Cert.SplitReferenceIdeal.main_arg11)) (m ((c.tc : Thread Cert.SplitReferenceIdeal.nD Cert.SplitReferenceIdeal.τ).loc Cert.SplitReferenceIdeal.main_arg12))).2.2.2.2.2.2.1 = (fun _ => 1#1)
    ∧ (Cert.Pre_finite_split.fn (F := Ideal) (m ((c.tc : Thread Cert.SplitReferenceIdeal.nD Cert.SplitReferenceIdeal.τ).loc Cert.SplitReferenceIdeal.main_arg0)) (m ((c.tc : Thread Cert.SplitReferenceIdeal.nD Cert.SplitReferenceIdeal.τ).loc Cert.SplitReferenceIdeal.main_arg1)) (m ((c.tc : Thread Cert.SplitReferenceIdeal.nD Cert.SplitReferenceIdeal.τ).loc Cert.SplitReferenceIdeal.main_arg2)) (m ((c.tc : Thread Cert.SplitReferenceIdeal.nD Cert.SplitReferenceIdeal.τ).loc Cert.SplitReferenceIdeal.main_arg3)) (m ((c.tc : Thread Cert.SplitReferenceIdeal.nD Cert.SplitReferenceIdeal.τ).loc Cert.SplitReferenceIdeal.main_arg4)) (m ((c.tc : Thread Cert.SplitReferenceIdeal.nD Cert.SplitReferenceIdeal.τ).loc Cert.SplitReferenceIdeal.main_arg5)) (m ((c.tc : Thread Cert.SplitReferenceIdeal.nD Cert.SplitReferenceIdeal.τ).loc Cert.SplitReferenceIdeal.main_arg6)) (m ((c.tc : Thread Cert.SplitReferenceIdeal.nD Cert.SplitReferenceIdeal.τ).loc Cert.SplitReferenceIdeal.main_arg7)) (m ((c.tc : Thread Cert.SplitReferenceIdeal.nD Cert.SplitReferenceIdeal.τ).loc Cert.SplitReferenceIdeal.main_arg8)) (m ((c.tc : Thread Cert.SplitReferenceIdeal.nD Cert.SplitReferenceIdeal.τ).loc Cert.SplitReferenceIdeal.main_arg9)) (m ((c.tc : Thread Cert.SplitReferenceIdeal.nD Cert.SplitReferenceIdeal.τ).loc Cert.SplitReferenceIdeal.main_arg10)) (m ((c.tc : Thread Cert.SplitReferenceIdeal.nD Cert.SplitReferenceIdeal.τ).loc Cert.SplitReferenceIdeal.main_arg11)) (m ((c.tc : Thread Cert.SplitReferenceIdeal.nD Cert.SplitReferenceIdeal.τ).loc Cert.SplitReferenceIdeal.main_arg12))).2.2.2.2.2.2.2.1 = (fun _ => 1#1)
    ∧ (Cert.Pre_finite_split.fn (F := Ideal) (m ((c.tc : Thread Cert.SplitReferenceIdeal.nD Cert.SplitReferenceIdeal.τ).loc Cert.SplitReferenceIdeal.main_arg0)) (m ((c.tc : Thread Cert.SplitReferenceIdeal.nD Cert.SplitReferenceIdeal.τ).loc Cert.SplitReferenceIdeal.main_arg1)) (m ((c.tc : Thread Cert.SplitReferenceIdeal.nD Cert.SplitReferenceIdeal.τ).loc Cert.SplitReferenceIdeal.main_arg2)) (m ((c.tc : Thread Cert.SplitReferenceIdeal.nD Cert.SplitReferenceIdeal.τ).loc Cert.SplitReferenceIdeal.main_arg3)) (m ((c.tc : Thread Cert.SplitReferenceIdeal.nD Cert.SplitReferenceIdeal.τ).loc Cert.SplitReferenceIdeal.main_arg4)) (m ((c.tc : Thread Cert.SplitReferenceIdeal.nD Cert.SplitReferenceIdeal.τ).loc Cert.SplitReferenceIdeal.main_arg5)) (m ((c.tc : Thread Cert.SplitReferenceIdeal.nD Cert.SplitReferenceIdeal.τ).loc Cert.SplitReferenceIdeal.main_arg6)) (m ((c.tc : Thread Cert.SplitReferenceIdeal.nD Cert.SplitReferenceIdeal.τ).loc Cert.SplitReferenceIdeal.main_arg7)) (m ((c.tc : Thread Cert.SplitReferenceIdeal.nD Cert.SplitReferenceIdeal.τ).loc Cert.SplitReferenceIdeal.main_arg8)) (m ((c.tc : Thread Cert.SplitReferenceIdeal.nD Cert.SplitReferenceIdeal.τ).loc Cert.SplitReferenceIdeal.main_arg9)) (m ((c.tc : Thread Cert.SplitReferenceIdeal.nD Cert.SplitReferenceIdeal.τ).loc Cert.SplitReferenceIdeal.main_arg10)) (m ((c.tc : Thread Cert.SplitReferenceIdeal.nD Cert.SplitReferenceIdeal.τ).loc Cert.SplitReferenceIdeal.main_arg11)) (m ((c.tc : Thread Cert.SplitReferenceIdeal.nD Cert.SplitReferenceIdeal.τ).loc Cert.SplitReferenceIdeal.main_arg12))).2.2.2.2.2.2.2.2.1 = (fun _ => 1#1)
    ∧ (Cert.Pre_finite_split.fn (F := Ideal) (m ((c.tc : Thread Cert.SplitReferenceIdeal.nD Cert.SplitReferenceIdeal.τ).loc Cert.SplitReferenceIdeal.main_arg0)) (m ((c.tc : Thread Cert.SplitReferenceIdeal.nD Cert.SplitReferenceIdeal.τ).loc Cert.SplitReferenceIdeal.main_arg1)) (m ((c.tc : Thread Cert.SplitReferenceIdeal.nD Cert.SplitReferenceIdeal.τ).loc Cert.SplitReferenceIdeal.main_arg2)) (m ((c.tc : Thread Cert.SplitReferenceIdeal.nD Cert.SplitReferenceIdeal.τ).loc Cert.SplitReferenceIdeal.main_arg3)) (m ((c.tc : Thread Cert.SplitReferenceIdeal.nD Cert.SplitReferenceIdeal.τ).loc Cert.SplitReferenceIdeal.main_arg4)) (m ((c.tc : Thread Cert.SplitReferenceIdeal.nD Cert.SplitReferenceIdeal.τ).loc Cert.SplitReferenceIdeal.main_arg5)) (m ((c.tc : Thread Cert.SplitReferenceIdeal.nD Cert.SplitReferenceIdeal.τ).loc Cert.SplitReferenceIdeal.main_arg6)) (m ((c.tc : Thread Cert.SplitReferenceIdeal.nD Cert.SplitReferenceIdeal.τ).loc Cert.SplitReferenceIdeal.main_arg7)) (m ((c.tc : Thread Cert.SplitReferenceIdeal.nD Cert.SplitReferenceIdeal.τ).loc Cert.SplitReferenceIdeal.main_arg8)) (m ((c.tc : Thread Cert.SplitReferenceIdeal.nD Cert.SplitReferenceIdeal.τ).loc Cert.SplitReferenceIdeal.main_arg9)) (m ((c.tc : Thread Cert.SplitReferenceIdeal.nD Cert.SplitReferenceIdeal.τ).loc Cert.SplitReferenceIdeal.main_arg10)) (m ((c.tc : Thread Cert.SplitReferenceIdeal.nD Cert.SplitReferenceIdeal.τ).loc Cert.SplitReferenceIdeal.main_arg11)) (m ((c.tc : Thread Cert.SplitReferenceIdeal.nD Cert.SplitReferenceIdeal.τ).loc Cert.SplitReferenceIdeal.main_arg12))).2.2.2.2.2.2.2.2.2.1 = (fun _ => 1#1)
    ∧ (Cert.Pre_finite_split.fn (F := Ideal) (m ((c.tc : Thread Cert.SplitReferenceIdeal.nD Cert.SplitReferenceIdeal.τ).loc Cert.SplitReferenceIdeal.main_arg0)) (m ((c.tc : Thread Cert.SplitReferenceIdeal.nD Cert.SplitReferenceIdeal.τ).loc Cert.SplitReferenceIdeal.main_arg1)) (m ((c.tc : Thread Cert.SplitReferenceIdeal.nD Cert.SplitReferenceIdeal.τ).loc Cert.SplitReferenceIdeal.main_arg2)) (m ((c.tc : Thread Cert.SplitReferenceIdeal.nD Cert.SplitReferenceIdeal.τ).loc Cert.SplitReferenceIdeal.main_arg3)) (m ((c.tc : Thread Cert.SplitReferenceIdeal.nD Cert.SplitReferenceIdeal.τ).loc Cert.SplitReferenceIdeal.main_arg4)) (m ((c.tc : Thread Cert.SplitReferenceIdeal.nD Cert.SplitReferenceIdeal.τ).loc Cert.SplitReferenceIdeal.main_arg5)) (m ((c.tc : Thread Cert.SplitReferenceIdeal.nD Cert.SplitReferenceIdeal.τ).loc Cert.SplitReferenceIdeal.main_arg6)) (m ((c.tc : Thread Cert.SplitReferenceIdeal.nD Cert.SplitReferenceIdeal.τ).loc Cert.SplitReferenceIdeal.main_arg7)) (m ((c.tc : Thread Cert.SplitReferenceIdeal.nD Cert.SplitReferenceIdeal.τ).loc Cert.SplitReferenceIdeal.main_arg8)) (m ((c.tc : Thread Cert.SplitReferenceIdeal.nD Cert.SplitReferenceIdeal.τ).loc Cert.SplitReferenceIdeal.main_arg9)) (m ((c.tc : Thread Cert.SplitReferenceIdeal.nD Cert.SplitReferenceIdeal.τ).loc Cert.SplitReferenceIdeal.main_arg10)) (m ((c.tc : Thread Cert.SplitReferenceIdeal.nD Cert.SplitReferenceIdeal.τ).loc Cert.SplitReferenceIdeal.main_arg11)) (m ((c.tc : Thread Cert.SplitReferenceIdeal.nD Cert.SplitReferenceIdeal.τ).loc Cert.SplitReferenceIdeal.main_arg12))).2.2.2.2.2.2.2.2.2.2.1 = (fun _ => 1#1)
    ∧ (Cert.Pre_finite_split.fn (F := Ideal) (m ((c.tc : Thread Cert.SplitReferenceIdeal.nD Cert.SplitReferenceIdeal.τ).loc Cert.SplitReferenceIdeal.main_arg0)) (m ((c.tc : Thread Cert.SplitReferenceIdeal.nD Cert.SplitReferenceIdeal.τ).loc Cert.SplitReferenceIdeal.main_arg1)) (m ((c.tc : Thread Cert.SplitReferenceIdeal.nD Cert.SplitReferenceIdeal.τ).loc Cert.SplitReferenceIdeal.main_arg2)) (m ((c.tc : Thread Cert.SplitReferenceIdeal.nD Cert.SplitReferenceIdeal.τ).loc Cert.SplitReferenceIdeal.main_arg3)) (m ((c.tc : Thread Cert.SplitReferenceIdeal.nD Cert.SplitReferenceIdeal.τ).loc Cert.SplitReferenceIdeal.main_arg4)) (m ((c.tc : Thread Cert.SplitReferenceIdeal.nD Cert.SplitReferenceIdeal.τ).loc Cert.SplitReferenceIdeal.main_arg5)) (m ((c.tc : Thread Cert.SplitReferenceIdeal.nD Cert.SplitReferenceIdeal.τ).loc Cert.SplitReferenceIdeal.main_arg6)) (m ((c.tc : Thread Cert.SplitReferenceIdeal.nD Cert.SplitReferenceIdeal.τ).loc Cert.SplitReferenceIdeal.main_arg7)) (m ((c.tc : Thread Cert.SplitReferenceIdeal.nD Cert.SplitReferenceIdeal.τ).loc Cert.SplitReferenceIdeal.main_arg8)) (m ((c.tc : Thread Cert.SplitReferenceIdeal.nD Cert.SplitReferenceIdeal.τ).loc Cert.SplitReferenceIdeal.main_arg9)) (m ((c.tc : Thread Cert.SplitReferenceIdeal.nD Cert.SplitReferenceIdeal.τ).loc Cert.SplitReferenceIdeal.main_arg10)) (m ((c.tc : Thread Cert.SplitReferenceIdeal.nD Cert.SplitReferenceIdeal.τ).loc Cert.SplitReferenceIdeal.main_arg11)) (m ((c.tc : Thread Cert.SplitReferenceIdeal.nD Cert.SplitReferenceIdeal.τ).loc Cert.SplitReferenceIdeal.main_arg12))).2.2.2.2.2.2.2.2.2.2.2.1 = (fun _ => 1#1)
    ∧ (Cert.Pre_finite_split.fn (F := Ideal) (m ((c.tc : Thread Cert.SplitReferenceIdeal.nD Cert.SplitReferenceIdeal.τ).loc Cert.SplitReferenceIdeal.main_arg0)) (m ((c.tc : Thread Cert.SplitReferenceIdeal.nD Cert.SplitReferenceIdeal.τ).loc Cert.SplitReferenceIdeal.main_arg1)) (m ((c.tc : Thread Cert.SplitReferenceIdeal.nD Cert.SplitReferenceIdeal.τ).loc Cert.SplitReferenceIdeal.main_arg2)) (m ((c.tc : Thread Cert.SplitReferenceIdeal.nD Cert.SplitReferenceIdeal.τ).loc Cert.SplitReferenceIdeal.main_arg3)) (m ((c.tc : Thread Cert.SplitReferenceIdeal.nD Cert.SplitReferenceIdeal.τ).loc Cert.SplitReferenceIdeal.main_arg4)) (m ((c.tc : Thread Cert.SplitReferenceIdeal.nD Cert.SplitReferenceIdeal.τ).loc Cert.SplitReferenceIdeal.main_arg5)) (m ((c.tc : Thread Cert.SplitReferenceIdeal.nD Cert.SplitReferenceIdeal.τ).loc Cert.SplitReferenceIdeal.main_arg6)) (m ((c.tc : Thread Cert.SplitReferenceIdeal.nD Cert.SplitReferenceIdeal.τ).loc Cert.SplitReferenceIdeal.main_arg7)) (m ((c.tc : Thread Cert.SplitReferenceIdeal.nD Cert.SplitReferenceIdeal.τ).loc Cert.SplitReferenceIdeal.main_arg8)) (m ((c.tc : Thread Cert.SplitReferenceIdeal.nD Cert.SplitReferenceIdeal.τ).loc Cert.SplitReferenceIdeal.main_arg9)) (m ((c.tc : Thread Cert.SplitReferenceIdeal.nD Cert.SplitReferenceIdeal.τ).loc Cert.SplitReferenceIdeal.main_arg10)) (m ((c.tc : Thread Cert.SplitReferenceIdeal.nD Cert.SplitReferenceIdeal.τ).loc Cert.SplitReferenceIdeal.main_arg11)) (m ((c.tc : Thread Cert.SplitReferenceIdeal.nD Cert.SplitReferenceIdeal.τ).loc Cert.SplitReferenceIdeal.main_arg12))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2))
      ∧ r.2.sem = fun _ => 0)

def quiescent_FwdReferenceIdeal_pre_finite_fwd [hFwdReferenceIdeal : Cert.FwdReferenceIdeal.Facts] [hPre_finite_fwd : Cert.Pre_finite_fwd.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal_finite_fwd m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2))
      ∧ r.2.sem = fun _ => 0)

def quiescent_Mul [hMul : Cert.Mul.Facts] : Prop :=
  ∀ (m : (ℓ : Loc Cert.Mul.nD Cert.Mul.τ Cert.Mul.sig) → Buf (Elt Bits) ℓ) (g : Dev Cert.Mul.nD → PrngReg), Pre_Mul m →
    θ_run (Cert.Mul.defs (F := Bits)) (onTc (τ := Cert.Mul.τ) (Cert.Mul.main (F := Bits))) ⟨m, fun _ => 0, g⟩ (fun r => (∀ c : Dev Cert.Mul.nD,
      r.2.mem ((c.tc : Thread Cert.Mul.nD Cert.Mul.τ).loc Cert.Mul.main_arg0) = m ((c.tc : Thread Cert.Mul.nD Cert.Mul.τ).loc Cert.Mul.main_arg0)
      ∧ r.2.mem ((c.tc : Thread Cert.Mul.nD Cert.Mul.τ).loc Cert.Mul.main_arg1) = m ((c.tc : Thread Cert.Mul.nD Cert.Mul.τ).loc Cert.Mul.main_arg1)
      ∧ r.2.mem ((c.tc : Thread Cert.Mul.nD Cert.Mul.τ).loc Cert.Mul.main_arg2) = m ((c.tc : Thread Cert.Mul.nD Cert.Mul.τ).loc Cert.Mul.main_arg2)
      ∧ r.2.mem ((c.tc : Thread Cert.Mul.nD Cert.Mul.τ).loc Cert.Mul.main_arg3) = m ((c.tc : Thread Cert.Mul.nD Cert.Mul.τ).loc Cert.Mul.main_arg3))
      ∧ r.2.sem = fun _ => 0)

def quiescent_MulIdeal [hMulIdeal : Cert.MulIdeal.Facts] : Prop :=
  ∀ (m : (ℓ : Loc Cert.MulIdeal.nD Cert.MulIdeal.τ Cert.MulIdeal.sig) → Buf (Elt Ideal) ℓ) (g : Dev Cert.MulIdeal.nD → PrngReg), Pre_MulIdeal m →
    θ_run (Cert.MulIdeal.defs (F := Ideal)) (onTc (τ := Cert.MulIdeal.τ) (Cert.MulIdeal.main (F := Ideal))) ⟨m, fun _ => 0, g⟩ (fun r => (∀ c : Dev Cert.MulIdeal.nD,
      r.2.mem ((c.tc : Thread Cert.MulIdeal.nD Cert.MulIdeal.τ).loc Cert.MulIdeal.main_arg0) = m ((c.tc : Thread Cert.MulIdeal.nD Cert.MulIdeal.τ).loc Cert.MulIdeal.main_arg0)
      ∧ r.2.mem ((c.tc : Thread Cert.MulIdeal.nD Cert.MulIdeal.τ).loc Cert.MulIdeal.main_arg1) = m ((c.tc : Thread Cert.MulIdeal.nD Cert.MulIdeal.τ).loc Cert.MulIdeal.main_arg1)
      ∧ r.2.mem ((c.tc : Thread Cert.MulIdeal.nD Cert.MulIdeal.τ).loc Cert.MulIdeal.main_arg2) = m ((c.tc : Thread Cert.MulIdeal.nD Cert.MulIdeal.τ).loc Cert.MulIdeal.main_arg2)
      ∧ r.2.mem ((c.tc : Thread Cert.MulIdeal.nD Cert.MulIdeal.τ).loc Cert.MulIdeal.main_arg3) = m ((c.tc : Thread Cert.MulIdeal.nD Cert.MulIdeal.τ).loc Cert.MulIdeal.main_arg3))
      ∧ r.2.sem = fun _ => 0)

def quiescent_MulReferenceIdeal [hMulReferenceIdeal : Cert.MulReferenceIdeal.Facts] : Prop :=
  ∀ (m : (ℓ : Loc Cert.MulReferenceIdeal.nD Cert.MulReferenceIdeal.τ Cert.MulReferenceIdeal.sig) → Buf (Elt Ideal) ℓ) (g : Dev Cert.MulReferenceIdeal.nD → PrngReg), Pre_MulReferenceIdeal m →
    θ_run (Cert.MulReferenceIdeal.defs (F := Ideal)) (onTc (τ := Cert.MulReferenceIdeal.τ) (Cert.MulReferenceIdeal.main (F := Ideal))) ⟨m, fun _ => 0, g⟩ (fun r => (∀ c : Dev Cert.MulReferenceIdeal.nD,
      r.2.mem ((c.tc : Thread Cert.MulReferenceIdeal.nD Cert.MulReferenceIdeal.τ).loc Cert.MulReferenceIdeal.main_arg0) = m ((c.tc : Thread Cert.MulReferenceIdeal.nD Cert.MulReferenceIdeal.τ).loc Cert.MulReferenceIdeal.main_arg0)
      ∧ r.2.mem ((c.tc : Thread Cert.MulReferenceIdeal.nD Cert.MulReferenceIdeal.τ).loc Cert.MulReferenceIdeal.main_arg1) = m ((c.tc : Thread Cert.MulReferenceIdeal.nD Cert.MulReferenceIdeal.τ).loc Cert.MulReferenceIdeal.main_arg1)
      ∧ r.2.mem ((c.tc : Thread Cert.MulReferenceIdeal.nD Cert.MulReferenceIdeal.τ).loc Cert.MulReferenceIdeal.main_arg2) = m ((c.tc : Thread Cert.MulReferenceIdeal.nD Cert.MulReferenceIdeal.τ).loc Cert.MulReferenceIdeal.main_arg2)
      ∧ r.2.mem ((c.tc : Thread Cert.MulReferenceIdeal.nD Cert.MulReferenceIdeal.τ).loc Cert.MulReferenceIdeal.main_arg3) = m ((c.tc : Thread Cert.MulReferenceIdeal.nD Cert.MulReferenceIdeal.τ).loc Cert.MulReferenceIdeal.main_arg3))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3)
      ∧ r.2.mem ((c.tc : Thread Cert.Dw.nD Cert.Dw.τ).loc Cert.Dw.main_arg4) = m ((c.tc : Thread Cert.Dw.nD Cert.Dw.τ).loc Cert.Dw.main_arg4))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
      ∧ r.2.mem ((c.tc : Thread Cert.DwIdeal.nD Cert.DwIdeal.τ).loc Cert.DwIdeal.main_arg4) = m ((c.tc : Thread Cert.DwIdeal.nD Cert.DwIdeal.τ).loc Cert.DwIdeal.main_arg4))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1)
      ∧ r.2.mem ((c.tc : Thread Cert.DwReferenceIdeal.nD Cert.DwReferenceIdeal.τ).loc Cert.DwReferenceIdeal.main_arg2) = m ((c.tc : Thread Cert.DwReferenceIdeal.nD Cert.DwReferenceIdeal.τ).loc Cert.DwReferenceIdeal.main_arg2)
      ∧ r.2.mem ((c.tc : Thread Cert.DwReferenceIdeal.nD Cert.DwReferenceIdeal.τ).loc Cert.DwReferenceIdeal.main_arg3) = m ((c.tc : Thread Cert.DwReferenceIdeal.nD Cert.DwReferenceIdeal.τ).loc Cert.DwReferenceIdeal.main_arg3)
      ∧ r.2.mem ((c.tc : Thread Cert.DwReferenceIdeal.nD Cert.DwReferenceIdeal.τ).loc Cert.DwReferenceIdeal.main_arg4) = m ((c.tc : Thread Cert.DwReferenceIdeal.nD Cert.DwReferenceIdeal.τ).loc Cert.DwReferenceIdeal.main_arg4))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5))
      ∧ r.2.sem = fun _ => 0)

def quiescent_DxIdeal_pre_finite_dx [hDxIdeal : Cert.DxIdeal.Facts] [hPre_finite_dx : Cert.Pre_finite_dx.Facts] : Prop :=
  ∀ (m : (ℓ : Loc Cert.DxIdeal.nD Cert.DxIdeal.τ Cert.DxIdeal.sig) → Buf (Elt Ideal) ℓ) (g : Dev Cert.DxIdeal.nD → PrngReg), Pre_DxIdeal_finite_dx m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4)
      ∧ r.2.mem ((c.tc : Thread Cert.DxReferenceIdeal.nD Cert.DxReferenceIdeal.τ).loc Cert.DxReferenceIdeal.main_arg5) = m ((c.tc : Thread Cert.DxReferenceIdeal.nD Cert.DxReferenceIdeal.τ).loc Cert.DxReferenceIdeal.main_arg5))
      ∧ r.2.sem = fun _ => 0)

def quiescent_DxReferenceIdeal_pre_finite_dx [hDxReferenceIdeal : Cert.DxReferenceIdeal.Facts] [hPre_finite_dx : Cert.Pre_finite_dx.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal_finite_dx m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4)
      ∧ r.2.mem ((c.tc : Thread Cert.DxReferenceIdeal.nD Cert.DxReferenceIdeal.τ).loc Cert.DxReferenceIdeal.main_arg5) = m ((c.tc : Thread Cert.DxReferenceIdeal.nD Cert.DxReferenceIdeal.τ).loc Cert.DxReferenceIdeal.main_arg5))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3)
      ∧ r.2.mem ((c.tc : Thread Cert.Latent.nD Cert.Latent.τ).loc Cert.Latent.main_arg4) = m ((c.tc : Thread Cert.Latent.nD Cert.Latent.τ).loc Cert.Latent.main_arg4)
      ∧ r.2.mem ((c.tc : Thread Cert.Latent.nD Cert.Latent.τ).loc Cert.Latent.main_arg5) = m ((c.tc : Thread Cert.Latent.nD Cert.Latent.τ).loc Cert.Latent.main_arg5))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
      ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5))
      ∧ r.2.sem = fun _ => 0)

def quiescent_LatentIdeal_pre_finite_dx [hLatentIdeal : Cert.LatentIdeal.Facts] [hPre_finite_dx : Cert.Pre_finite_dx.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal_finite_dx m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
      ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4)
      ∧ r.2.mem ((c.tc : Thread Cert.LatentReferenceIdeal.nD Cert.LatentReferenceIdeal.τ).loc Cert.LatentReferenceIdeal.main_arg5) = m ((c.tc : Thread Cert.LatentReferenceIdeal.nD Cert.LatentReferenceIdeal.τ).loc Cert.LatentReferenceIdeal.main_arg5))
      ∧ r.2.sem = fun _ => 0)

def quiescent_LatentReferenceIdeal_pre_finite_dx [hLatentReferenceIdeal : Cert.LatentReferenceIdeal.Facts] [hPre_finite_dx : Cert.Pre_finite_dx.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal_finite_dx m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4)
      ∧ r.2.mem ((c.tc : Thread Cert.LatentReferenceIdeal.nD Cert.LatentReferenceIdeal.τ).loc Cert.LatentReferenceIdeal.main_arg5) = m ((c.tc : Thread Cert.LatentReferenceIdeal.nD Cert.LatentReferenceIdeal.τ).loc Cert.LatentReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12))
      ∧ r.2.sem = fun _ => 0)

def quiescent_Split [hSplit : Cert.Split.Facts] : Prop :=
  ∀ (m : (ℓ : Loc Cert.Split.nD Cert.Split.τ Cert.Split.sig) → Buf (Elt Bits) ℓ) (g : Dev Cert.Split.nD → PrngReg), Pre_Split m →
    θ_run (Cert.Split.defs (F := Bits)) (onTc (τ := Cert.Split.τ) (Cert.Split.main (F := Bits))) ⟨m, fun _ => 0, g⟩ (fun r => (∀ c : Dev Cert.Split.nD,
      r.2.mem ((c.tc : Thread Cert.Split.nD Cert.Split.τ).loc Cert.Split.main_arg0) = m ((c.tc : Thread Cert.Split.nD Cert.Split.τ).loc Cert.Split.main_arg0)
      ∧ r.2.mem ((c.tc : Thread Cert.Split.nD Cert.Split.τ).loc Cert.Split.main_arg1) = m ((c.tc : Thread Cert.Split.nD Cert.Split.τ).loc Cert.Split.main_arg1)
      ∧ r.2.mem ((c.tc : Thread Cert.Split.nD Cert.Split.τ).loc Cert.Split.main_arg2) = m ((c.tc : Thread Cert.Split.nD Cert.Split.τ).loc Cert.Split.main_arg2)
      ∧ r.2.mem ((c.tc : Thread Cert.Split.nD Cert.Split.τ).loc Cert.Split.main_arg3) = m ((c.tc : Thread Cert.Split.nD Cert.Split.τ).loc Cert.Split.main_arg3)
      ∧ r.2.mem ((c.tc : Thread Cert.Split.nD Cert.Split.τ).loc Cert.Split.main_arg4) = m ((c.tc : Thread Cert.Split.nD Cert.Split.τ).loc Cert.Split.main_arg4)
      ∧ r.2.mem ((c.tc : Thread Cert.Split.nD Cert.Split.τ).loc Cert.Split.main_arg5) = m ((c.tc : Thread Cert.Split.nD Cert.Split.τ).loc Cert.Split.main_arg5)
      ∧ r.2.mem ((c.tc : Thread Cert.Split.nD Cert.Split.τ).loc Cert.Split.main_arg6) = m ((c.tc : Thread Cert.Split.nD Cert.Split.τ).loc Cert.Split.main_arg6)
      ∧ r.2.mem ((c.tc : Thread Cert.Split.nD Cert.Split.τ).loc Cert.Split.main_arg7) = m ((c.tc : Thread Cert.Split.nD Cert.Split.τ).loc Cert.Split.main_arg7)
      ∧ r.2.mem ((c.tc : Thread Cert.Split.nD Cert.Split.τ).loc Cert.Split.main_arg8) = m ((c.tc : Thread Cert.Split.nD Cert.Split.τ).loc Cert.Split.main_arg8)
      ∧ r.2.mem ((c.tc : Thread Cert.Split.nD Cert.Split.τ).loc Cert.Split.main_arg9) = m ((c.tc : Thread Cert.Split.nD Cert.Split.τ).loc Cert.Split.main_arg9)
      ∧ r.2.mem ((c.tc : Thread Cert.Split.nD Cert.Split.τ).loc Cert.Split.main_arg10) = m ((c.tc : Thread Cert.Split.nD Cert.Split.τ).loc Cert.Split.main_arg10)
      ∧ r.2.mem ((c.tc : Thread Cert.Split.nD Cert.Split.τ).loc Cert.Split.main_arg11) = m ((c.tc : Thread Cert.Split.nD Cert.Split.τ).loc Cert.Split.main_arg11)
      ∧ r.2.mem ((c.tc : Thread Cert.Split.nD Cert.Split.τ).loc Cert.Split.main_arg12) = m ((c.tc : Thread Cert.Split.nD Cert.Split.τ).loc Cert.Split.main_arg12))
      ∧ r.2.sem = fun _ => 0)

def quiescent_SplitIdeal [hSplitIdeal : Cert.SplitIdeal.Facts] : Prop :=
  ∀ (m : (ℓ : Loc Cert.SplitIdeal.nD Cert.SplitIdeal.τ Cert.SplitIdeal.sig) → Buf (Elt Ideal) ℓ) (g : Dev Cert.SplitIdeal.nD → PrngReg), Pre_SplitIdeal m →
    θ_run (Cert.SplitIdeal.defs (F := Ideal)) (onTc (τ := Cert.SplitIdeal.τ) (Cert.SplitIdeal.main (F := Ideal))) ⟨m, fun _ => 0, g⟩ (fun r => (∀ c : Dev Cert.SplitIdeal.nD,
      r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0)
      ∧ r.2.mem ((c.tc : Thread Cert.SplitIdeal.nD Cert.SplitIdeal.τ).loc Cert.SplitIdeal.main_arg1) = m ((c.tc : Thread Cert.SplitIdeal.nD Cert.SplitIdeal.τ).loc Cert.SplitIdeal.main_arg1)
      ∧ r.2.mem ((c.tc : Thread Cert.SplitIdeal.nD Cert.SplitIdeal.τ).loc Cert.SplitIdeal.main_arg2) = m ((c.tc : Thread Cert.SplitIdeal.nD Cert.SplitIdeal.τ).loc Cert.SplitIdeal.main_arg2)
      ∧ r.2.mem ((c.tc : Thread Cert.SplitIdeal.nD Cert.SplitIdeal.τ).loc Cert.SplitIdeal.main_arg3) = m ((c.tc : Thread Cert.SplitIdeal.nD Cert.SplitIdeal.τ).loc Cert.SplitIdeal.main_arg3)
      ∧ r.2.mem ((c.tc : Thread Cert.SplitIdeal.nD Cert.SplitIdeal.τ).loc Cert.SplitIdeal.main_arg4) = m ((c.tc : Thread Cert.SplitIdeal.nD Cert.SplitIdeal.τ).loc Cert.SplitIdeal.main_arg4)
      ∧ r.2.mem ((c.tc : Thread Cert.SplitIdeal.nD Cert.SplitIdeal.τ).loc Cert.SplitIdeal.main_arg5) = m ((c.tc : Thread Cert.SplitIdeal.nD Cert.SplitIdeal.τ).loc Cert.SplitIdeal.main_arg5)
      ∧ r.2.mem ((c.tc : Thread Cert.SplitIdeal.nD Cert.SplitIdeal.τ).loc Cert.SplitIdeal.main_arg6) = m ((c.tc : Thread Cert.SplitIdeal.nD Cert.SplitIdeal.τ).loc Cert.SplitIdeal.main_arg6)
      ∧ r.2.mem ((c.tc : Thread Cert.SplitIdeal.nD Cert.SplitIdeal.τ).loc Cert.SplitIdeal.main_arg7) = m ((c.tc : Thread Cert.SplitIdeal.nD Cert.SplitIdeal.τ).loc Cert.SplitIdeal.main_arg7)
      ∧ r.2.mem ((c.tc : Thread Cert.SplitIdeal.nD Cert.SplitIdeal.τ).loc Cert.SplitIdeal.main_arg8) = m ((c.tc : Thread Cert.SplitIdeal.nD Cert.SplitIdeal.τ).loc Cert.SplitIdeal.main_arg8)
      ∧ r.2.mem ((c.tc : Thread Cert.SplitIdeal.nD Cert.SplitIdeal.τ).loc Cert.SplitIdeal.main_arg9) = m ((c.tc : Thread Cert.SplitIdeal.nD Cert.SplitIdeal.τ).loc Cert.SplitIdeal.main_arg9)
      ∧ r.2.mem ((c.tc : Thread Cert.SplitIdeal.nD Cert.SplitIdeal.τ).loc Cert.SplitIdeal.main_arg10) = m ((c.tc : Thread Cert.SplitIdeal.nD Cert.SplitIdeal.τ).loc Cert.SplitIdeal.main_arg10)
      ∧ r.2.mem ((c.tc : Thread Cert.SplitIdeal.nD Cert.SplitIdeal.τ).loc Cert.SplitIdeal.main_arg11) = m ((c.tc : Thread Cert.SplitIdeal.nD Cert.SplitIdeal.τ).loc Cert.SplitIdeal.main_arg11)
      ∧ r.2.mem ((c.tc : Thread Cert.SplitIdeal.nD Cert.SplitIdeal.τ).loc Cert.SplitIdeal.main_arg12) = m ((c.tc : Thread Cert.SplitIdeal.nD Cert.SplitIdeal.τ).loc Cert.SplitIdeal.main_arg12))
      ∧ r.2.sem = fun _ => 0)

def quiescent_SplitIdeal_pre_finite_split [hSplitIdeal : Cert.SplitIdeal.Facts] [hPre_finite_split : Cert.Pre_finite_split.Facts] : Prop :=
  ∀ (m : (ℓ : Loc Cert.SplitIdeal.nD Cert.SplitIdeal.τ Cert.SplitIdeal.sig) → Buf (Elt Ideal) ℓ) (g : Dev Cert.SplitIdeal.nD → PrngReg), Pre_SplitIdeal_finite_split m →
    θ_run (Cert.SplitIdeal.defs (F := Ideal)) (onTc (τ := Cert.SplitIdeal.τ) (Cert.SplitIdeal.main (F := Ideal))) ⟨m, fun _ => 0, g⟩ (fun r => (∀ c : Dev Cert.SplitIdeal.nD,
      r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0)
      ∧ r.2.mem ((c.tc : Thread Cert.SplitIdeal.nD Cert.SplitIdeal.τ).loc Cert.SplitIdeal.main_arg1) = m ((c.tc : Thread Cert.SplitIdeal.nD Cert.SplitIdeal.τ).loc Cert.SplitIdeal.main_arg1)
      ∧ r.2.mem ((c.tc : Thread Cert.SplitIdeal.nD Cert.SplitIdeal.τ).loc Cert.SplitIdeal.main_arg2) = m ((c.tc : Thread Cert.SplitIdeal.nD Cert.SplitIdeal.τ).loc Cert.SplitIdeal.main_arg2)
      ∧ r.2.mem ((c.tc : Thread Cert.SplitIdeal.nD Cert.SplitIdeal.τ).loc Cert.SplitIdeal.main_arg3) = m ((c.tc : Thread Cert.SplitIdeal.nD Cert.SplitIdeal.τ).loc Cert.SplitIdeal.main_arg3)
      ∧ r.2.mem ((c.tc : Thread Cert.SplitIdeal.nD Cert.SplitIdeal.τ).loc Cert.SplitIdeal.main_arg4) = m ((c.tc : Thread Cert.SplitIdeal.nD Cert.SplitIdeal.τ).loc Cert.SplitIdeal.main_arg4)
      ∧ r.2.mem ((c.tc : Thread Cert.SplitIdeal.nD Cert.SplitIdeal.τ).loc Cert.SplitIdeal.main_arg5) = m ((c.tc : Thread Cert.SplitIdeal.nD Cert.SplitIdeal.τ).loc Cert.SplitIdeal.main_arg5)
      ∧ r.2.mem ((c.tc : Thread Cert.SplitIdeal.nD Cert.SplitIdeal.τ).loc Cert.SplitIdeal.main_arg6) = m ((c.tc : Thread Cert.SplitIdeal.nD Cert.SplitIdeal.τ).loc Cert.SplitIdeal.main_arg6)
      ∧ r.2.mem ((c.tc : Thread Cert.SplitIdeal.nD Cert.SplitIdeal.τ).loc Cert.SplitIdeal.main_arg7) = m ((c.tc : Thread Cert.SplitIdeal.nD Cert.SplitIdeal.τ).loc Cert.SplitIdeal.main_arg7)
      ∧ r.2.mem ((c.tc : Thread Cert.SplitIdeal.nD Cert.SplitIdeal.τ).loc Cert.SplitIdeal.main_arg8) = m ((c.tc : Thread Cert.SplitIdeal.nD Cert.SplitIdeal.τ).loc Cert.SplitIdeal.main_arg8)
      ∧ r.2.mem ((c.tc : Thread Cert.SplitIdeal.nD Cert.SplitIdeal.τ).loc Cert.SplitIdeal.main_arg9) = m ((c.tc : Thread Cert.SplitIdeal.nD Cert.SplitIdeal.τ).loc Cert.SplitIdeal.main_arg9)
      ∧ r.2.mem ((c.tc : Thread Cert.SplitIdeal.nD Cert.SplitIdeal.τ).loc Cert.SplitIdeal.main_arg10) = m ((c.tc : Thread Cert.SplitIdeal.nD Cert.SplitIdeal.τ).loc Cert.SplitIdeal.main_arg10)
      ∧ r.2.mem ((c.tc : Thread Cert.SplitIdeal.nD Cert.SplitIdeal.τ).loc Cert.SplitIdeal.main_arg11) = m ((c.tc : Thread Cert.SplitIdeal.nD Cert.SplitIdeal.τ).loc Cert.SplitIdeal.main_arg11)
      ∧ r.2.mem ((c.tc : Thread Cert.SplitIdeal.nD Cert.SplitIdeal.τ).loc Cert.SplitIdeal.main_arg12) = m ((c.tc : Thread Cert.SplitIdeal.nD Cert.SplitIdeal.τ).loc Cert.SplitIdeal.main_arg12))
      ∧ r.2.sem = fun _ => 0)

def quiescent_SplitReferenceIdeal [hSplitReferenceIdeal : Cert.SplitReferenceIdeal.Facts] : Prop :=
  ∀ (m : (ℓ : Loc Cert.SplitReferenceIdeal.nD Cert.SplitReferenceIdeal.τ Cert.SplitReferenceIdeal.sig) → Buf (Elt Ideal) ℓ) (g : Dev Cert.SplitReferenceIdeal.nD → PrngReg), Pre_SplitReferenceIdeal m →
    θ_run (Cert.SplitReferenceIdeal.defs (F := Ideal)) (onTc (τ := Cert.SplitReferenceIdeal.τ) (Cert.SplitReferenceIdeal.main (F := Ideal))) ⟨m, fun _ => 0, g⟩ (fun r => (∀ c : Dev Cert.SplitReferenceIdeal.nD,
      r.2.mem ((c.tc : Thread Cert.SplitReferenceIdeal.nD Cert.SplitReferenceIdeal.τ).loc Cert.SplitReferenceIdeal.main_arg0) = m ((c.tc : Thread Cert.SplitReferenceIdeal.nD Cert.SplitReferenceIdeal.τ).loc Cert.SplitReferenceIdeal.main_arg0)
      ∧ r.2.mem ((c.tc : Thread Cert.SplitReferenceIdeal.nD Cert.SplitReferenceIdeal.τ).loc Cert.SplitReferenceIdeal.main_arg1) = m ((c.tc : Thread Cert.SplitReferenceIdeal.nD Cert.SplitReferenceIdeal.τ).loc Cert.SplitReferenceIdeal.main_arg1)
      ∧ r.2.mem ((c.tc : Thread Cert.SplitReferenceIdeal.nD Cert.SplitReferenceIdeal.τ).loc Cert.SplitReferenceIdeal.main_arg2) = m ((c.tc : Thread Cert.SplitReferenceIdeal.nD Cert.SplitReferenceIdeal.τ).loc Cert.SplitReferenceIdeal.main_arg2)
      ∧ r.2.mem ((c.tc : Thread Cert.SplitReferenceIdeal.nD Cert.SplitReferenceIdeal.τ).loc Cert.SplitReferenceIdeal.main_arg3) = m ((c.tc : Thread Cert.SplitReferenceIdeal.nD Cert.SplitReferenceIdeal.τ).loc Cert.SplitReferenceIdeal.main_arg3)
      ∧ r.2.mem ((c.tc : Thread Cert.SplitReferenceIdeal.nD Cert.SplitReferenceIdeal.τ).loc Cert.SplitReferenceIdeal.main_arg4) = m ((c.tc : Thread Cert.SplitReferenceIdeal.nD Cert.SplitReferenceIdeal.τ).loc Cert.SplitReferenceIdeal.main_arg4)
      ∧ r.2.mem ((c.tc : Thread Cert.SplitReferenceIdeal.nD Cert.SplitReferenceIdeal.τ).loc Cert.SplitReferenceIdeal.main_arg5) = m ((c.tc : Thread Cert.SplitReferenceIdeal.nD Cert.SplitReferenceIdeal.τ).loc Cert.SplitReferenceIdeal.main_arg5)
      ∧ r.2.mem ((c.tc : Thread Cert.SplitReferenceIdeal.nD Cert.SplitReferenceIdeal.τ).loc Cert.SplitReferenceIdeal.main_arg6) = m ((c.tc : Thread Cert.SplitReferenceIdeal.nD Cert.SplitReferenceIdeal.τ).loc Cert.SplitReferenceIdeal.main_arg6)
      ∧ r.2.mem ((c.tc : Thread Cert.SplitReferenceIdeal.nD Cert.SplitReferenceIdeal.τ).loc Cert.SplitReferenceIdeal.main_arg7) = m ((c.tc : Thread Cert.SplitReferenceIdeal.nD Cert.SplitReferenceIdeal.τ).loc Cert.SplitReferenceIdeal.main_arg7)
      ∧ r.2.mem ((c.tc : Thread Cert.SplitReferenceIdeal.nD Cert.SplitReferenceIdeal.τ).loc Cert.SplitReferenceIdeal.main_arg8) = m ((c.tc : Thread Cert.SplitReferenceIdeal.nD Cert.SplitReferenceIdeal.τ).loc Cert.SplitReferenceIdeal.main_arg8)
      ∧ r.2.mem ((c.tc : Thread Cert.SplitReferenceIdeal.nD Cert.SplitReferenceIdeal.τ).loc Cert.SplitReferenceIdeal.main_arg9) = m ((c.tc : Thread Cert.SplitReferenceIdeal.nD Cert.SplitReferenceIdeal.τ).loc Cert.SplitReferenceIdeal.main_arg9)
      ∧ r.2.mem ((c.tc : Thread Cert.SplitReferenceIdeal.nD Cert.SplitReferenceIdeal.τ).loc Cert.SplitReferenceIdeal.main_arg10) = m ((c.tc : Thread Cert.SplitReferenceIdeal.nD Cert.SplitReferenceIdeal.τ).loc Cert.SplitReferenceIdeal.main_arg10)
      ∧ r.2.mem ((c.tc : Thread Cert.SplitReferenceIdeal.nD Cert.SplitReferenceIdeal.τ).loc Cert.SplitReferenceIdeal.main_arg11) = m ((c.tc : Thread Cert.SplitReferenceIdeal.nD Cert.SplitReferenceIdeal.τ).loc Cert.SplitReferenceIdeal.main_arg11)
      ∧ r.2.mem ((c.tc : Thread Cert.SplitReferenceIdeal.nD Cert.SplitReferenceIdeal.τ).loc Cert.SplitReferenceIdeal.main_arg12) = m ((c.tc : Thread Cert.SplitReferenceIdeal.nD Cert.SplitReferenceIdeal.τ).loc Cert.SplitReferenceIdeal.main_arg12))
      ∧ r.2.sem = fun _ => 0)

def quiescent_SplitReferenceIdeal_pre_finite_split [hSplitReferenceIdeal : Cert.SplitReferenceIdeal.Facts] [hPre_finite_split : Cert.Pre_finite_split.Facts] : Prop :=
  ∀ (m : (ℓ : Loc Cert.SplitReferenceIdeal.nD Cert.SplitReferenceIdeal.τ Cert.SplitReferenceIdeal.sig) → Buf (Elt Ideal) ℓ) (g : Dev Cert.SplitReferenceIdeal.nD → PrngReg), Pre_SplitReferenceIdeal_finite_split m →
    θ_run (Cert.SplitReferenceIdeal.defs (F := Ideal)) (onTc (τ := Cert.SplitReferenceIdeal.τ) (Cert.SplitReferenceIdeal.main (F := Ideal))) ⟨m, fun _ => 0, g⟩ (fun r => (∀ c : Dev Cert.SplitReferenceIdeal.nD,
      r.2.mem ((c.tc : Thread Cert.SplitReferenceIdeal.nD Cert.SplitReferenceIdeal.τ).loc Cert.SplitReferenceIdeal.main_arg0) = m ((c.tc : Thread Cert.SplitReferenceIdeal.nD Cert.SplitReferenceIdeal.τ).loc Cert.SplitReferenceIdeal.main_arg0)
      ∧ r.2.mem ((c.tc : Thread Cert.SplitReferenceIdeal.nD Cert.SplitReferenceIdeal.τ).loc Cert.SplitReferenceIdeal.main_arg1) = m ((c.tc : Thread Cert.SplitReferenceIdeal.nD Cert.SplitReferenceIdeal.τ).loc Cert.SplitReferenceIdeal.main_arg1)
      ∧ r.2.mem ((c.tc : Thread Cert.SplitReferenceIdeal.nD Cert.SplitReferenceIdeal.τ).loc Cert.SplitReferenceIdeal.main_arg2) = m ((c.tc : Thread Cert.SplitReferenceIdeal.nD Cert.SplitReferenceIdeal.τ).loc Cert.SplitReferenceIdeal.main_arg2)
      ∧ r.2.mem ((c.tc : Thread Cert.SplitReferenceIdeal.nD Cert.SplitReferenceIdeal.τ).loc Cert.SplitReferenceIdeal.main_arg3) = m ((c.tc : Thread Cert.SplitReferenceIdeal.nD Cert.SplitReferenceIdeal.τ).loc Cert.SplitReferenceIdeal.main_arg3)
      ∧ r.2.mem ((c.tc : Thread Cert.SplitReferenceIdeal.nD Cert.SplitReferenceIdeal.τ).loc Cert.SplitReferenceIdeal.main_arg4) = m ((c.tc : Thread Cert.SplitReferenceIdeal.nD Cert.SplitReferenceIdeal.τ).loc Cert.SplitReferenceIdeal.main_arg4)
      ∧ r.2.mem ((c.tc : Thread Cert.SplitReferenceIdeal.nD Cert.SplitReferenceIdeal.τ).loc Cert.SplitReferenceIdeal.main_arg5) = m ((c.tc : Thread Cert.SplitReferenceIdeal.nD Cert.SplitReferenceIdeal.τ).loc Cert.SplitReferenceIdeal.main_arg5)
      ∧ r.2.mem ((c.tc : Thread Cert.SplitReferenceIdeal.nD Cert.SplitReferenceIdeal.τ).loc Cert.SplitReferenceIdeal.main_arg6) = m ((c.tc : Thread Cert.SplitReferenceIdeal.nD Cert.SplitReferenceIdeal.τ).loc Cert.SplitReferenceIdeal.main_arg6)
      ∧ r.2.mem ((c.tc : Thread Cert.SplitReferenceIdeal.nD Cert.SplitReferenceIdeal.τ).loc Cert.SplitReferenceIdeal.main_arg7) = m ((c.tc : Thread Cert.SplitReferenceIdeal.nD Cert.SplitReferenceIdeal.τ).loc Cert.SplitReferenceIdeal.main_arg7)
      ∧ r.2.mem ((c.tc : Thread Cert.SplitReferenceIdeal.nD Cert.SplitReferenceIdeal.τ).loc Cert.SplitReferenceIdeal.main_arg8) = m ((c.tc : Thread Cert.SplitReferenceIdeal.nD Cert.SplitReferenceIdeal.τ).loc Cert.SplitReferenceIdeal.main_arg8)
      ∧ r.2.mem ((c.tc : Thread Cert.SplitReferenceIdeal.nD Cert.SplitReferenceIdeal.τ).loc Cert.SplitReferenceIdeal.main_arg9) = m ((c.tc : Thread Cert.SplitReferenceIdeal.nD Cert.SplitReferenceIdeal.τ).loc Cert.SplitReferenceIdeal.main_arg9)
      ∧ r.2.mem ((c.tc : Thread Cert.SplitReferenceIdeal.nD Cert.SplitReferenceIdeal.τ).loc Cert.SplitReferenceIdeal.main_arg10) = m ((c.tc : Thread Cert.SplitReferenceIdeal.nD Cert.SplitReferenceIdeal.τ).loc Cert.SplitReferenceIdeal.main_arg10)
      ∧ r.2.mem ((c.tc : Thread Cert.SplitReferenceIdeal.nD Cert.SplitReferenceIdeal.τ).loc Cert.SplitReferenceIdeal.main_arg11) = m ((c.tc : Thread Cert.SplitReferenceIdeal.nD Cert.SplitReferenceIdeal.τ).loc Cert.SplitReferenceIdeal.main_arg11)
      ∧ r.2.mem ((c.tc : Thread Cert.SplitReferenceIdeal.nD Cert.SplitReferenceIdeal.τ).loc Cert.SplitReferenceIdeal.main_arg12) = m ((c.tc : Thread Cert.SplitReferenceIdeal.nD Cert.SplitReferenceIdeal.τ).loc Cert.SplitReferenceIdeal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v87_0)) (v1 : (c : Dev Cert.KernelIdeal.nD) → Buf (Elt Ideal) ((c.tc : Thread Cert.KernelIdeal.nD Cert.KernelIdeal.τ).loc Cert.KernelIdeal.main_v87_1)) (v2 : (c : Dev Cert.KernelIdeal.nD) → Buf (Elt Ideal) ((c.tc : Thread Cert.KernelIdeal.nD Cert.KernelIdeal.τ).loc Cert.KernelIdeal.main_v87_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87_0) = v0 c
          ∧ r.2.mem ((c.tc : Thread Cert.KernelIdeal.nD Cert.KernelIdeal.τ).loc Cert.KernelIdeal.main_v87_1) = v1 c
          ∧ r.2.mem ((c.tc : Thread Cert.KernelIdeal.nD Cert.KernelIdeal.τ).loc Cert.KernelIdeal.main_v87_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_v135) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Fwd_FwdIdeal : Prop :=
  True

def algebraic_FwdIdeal_FwdReferenceIdeal_pre_finite_fwd [hFwdIdeal : Cert.FwdIdeal.Facts] [hFwdReferenceIdeal : Cert.FwdReferenceIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdIdeal_finite_fwd m →
    (∀ c : Dev Cert.FwdIdeal.nD,
      m' ((c.tc : Thread Cert.FwdReferenceIdeal.nD Cert.FwdReferenceIdeal.τ).loc Cert.FwdReferenceIdeal.main_arg0) = m ((c.tc : Thread Cert.FwdIdeal.nD Cert.FwdIdeal.τ).loc Cert.FwdIdeal.main_arg0)
      ∧ m' ((c.tc : Thread Cert.FwdReferenceIdeal.nD Cert.FwdReferenceIdeal.τ).loc Cert.FwdReferenceIdeal.main_arg1) = m ((c.tc : Thread Cert.FwdIdeal.nD Cert.FwdIdeal.τ).loc Cert.FwdIdeal.main_arg1)
      ∧ m' ((c.tc : Thread Cert.FwdReferenceIdeal.nD Cert.FwdReferenceIdeal.τ).loc Cert.FwdReferenceIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v12_0)) (v1 : (c : Dev Cert.FwdIdeal.nD) → Buf (Elt Ideal) ((c.tc : Thread Cert.FwdIdeal.nD Cert.FwdIdeal.τ).loc Cert.FwdIdeal.main_v12_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v12_0) = v0 c
          ∧ r.2.mem ((c.tc : Thread Cert.FwdIdeal.nD Cert.FwdIdeal.τ).loc Cert.FwdIdeal.main_v12_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v40) = v0 c
          ∧ r.2.mem ((c.tc : Thread Cert.FwdReferenceIdeal.nD Cert.FwdReferenceIdeal.τ).loc Cert.FwdReferenceIdeal.main_v75) = v1 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v32) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2))

def preserves_Mul_MulIdeal : Prop :=
  True

def algebraic_MulIdeal_MulReferenceIdeal [hMulIdeal : Cert.MulIdeal.Facts] [hMulReferenceIdeal : Cert.MulReferenceIdeal.Facts] : Prop :=
  ∀ (m : (ℓ : Loc Cert.MulIdeal.nD Cert.MulIdeal.τ Cert.MulIdeal.sig) → Buf (Elt Ideal) ℓ) (g : Dev Cert.MulIdeal.nD → PrngReg)
    (m' : (ℓ : Loc Cert.MulReferenceIdeal.nD Cert.MulReferenceIdeal.τ Cert.MulReferenceIdeal.sig) → Buf (Elt Ideal) ℓ) (g' : Dev Cert.MulReferenceIdeal.nD → PrngReg), Pre_MulIdeal m →
    (∀ c : Dev Cert.MulIdeal.nD,
      m' ((c.tc : Thread Cert.MulReferenceIdeal.nD Cert.MulReferenceIdeal.τ).loc Cert.MulReferenceIdeal.main_arg0) = m ((c.tc : Thread Cert.MulIdeal.nD Cert.MulIdeal.τ).loc Cert.MulIdeal.main_arg0)
      ∧ m' ((c.tc : Thread Cert.MulReferenceIdeal.nD Cert.MulReferenceIdeal.τ).loc Cert.MulReferenceIdeal.main_arg1) = m ((c.tc : Thread Cert.MulIdeal.nD Cert.MulIdeal.τ).loc Cert.MulIdeal.main_arg1)
      ∧ m' ((c.tc : Thread Cert.MulReferenceIdeal.nD Cert.MulReferenceIdeal.τ).loc Cert.MulReferenceIdeal.main_arg2) = m ((c.tc : Thread Cert.MulIdeal.nD Cert.MulIdeal.τ).loc Cert.MulIdeal.main_arg2)
      ∧ m' ((c.tc : Thread Cert.MulReferenceIdeal.nD Cert.MulReferenceIdeal.τ).loc Cert.MulReferenceIdeal.main_arg3) = m ((c.tc : Thread Cert.MulIdeal.nD Cert.MulIdeal.τ).loc Cert.MulIdeal.main_arg3)) →
    ∃ (v0 : (c : Dev Cert.MulIdeal.nD) → Buf (Elt Ideal) ((c.tc : Thread Cert.MulIdeal.nD Cert.MulIdeal.τ).loc Cert.MulIdeal.main_v34)),
      θ_run (Cert.MulIdeal.defs (F := Ideal)) (onTc (τ := Cert.MulIdeal.τ) (Cert.MulIdeal.main (F := Ideal))) ⟨m, fun _ => 0, g⟩ (fun r => ∀ c : Dev Cert.MulIdeal.nD,
          r.2.mem ((c.tc : Thread Cert.MulIdeal.nD Cert.MulIdeal.τ).loc Cert.MulIdeal.main_v34) = v0 c
          ∧ r.2.mem ((c.tc : Thread Cert.MulIdeal.nD Cert.MulIdeal.τ).loc Cert.MulIdeal.main_arg0) = m ((c.tc : Thread Cert.MulIdeal.nD Cert.MulIdeal.τ).loc Cert.MulIdeal.main_arg0)
          ∧ r.2.mem ((c.tc : Thread Cert.MulIdeal.nD Cert.MulIdeal.τ).loc Cert.MulIdeal.main_arg1) = m ((c.tc : Thread Cert.MulIdeal.nD Cert.MulIdeal.τ).loc Cert.MulIdeal.main_arg1)
          ∧ r.2.mem ((c.tc : Thread Cert.MulIdeal.nD Cert.MulIdeal.τ).loc Cert.MulIdeal.main_arg2) = m ((c.tc : Thread Cert.MulIdeal.nD Cert.MulIdeal.τ).loc Cert.MulIdeal.main_arg2)
          ∧ r.2.mem ((c.tc : Thread Cert.MulIdeal.nD Cert.MulIdeal.τ).loc Cert.MulIdeal.main_arg3) = m ((c.tc : Thread Cert.MulIdeal.nD Cert.MulIdeal.τ).loc Cert.MulIdeal.main_arg3))
      ∧ θ_run (Cert.MulReferenceIdeal.defs (F := Ideal)) (onTc (τ := Cert.MulReferenceIdeal.τ) (Cert.MulReferenceIdeal.main (F := Ideal))) ⟨m', fun _ => 0, g'⟩ (fun r => ∀ c : Dev Cert.MulReferenceIdeal.nD,
          r.2.mem ((c.tc : Thread Cert.MulReferenceIdeal.nD Cert.MulReferenceIdeal.τ).loc Cert.MulReferenceIdeal.main_v32) = v0 c
          ∧ r.2.mem ((c.tc : Thread Cert.MulReferenceIdeal.nD Cert.MulReferenceIdeal.τ).loc Cert.MulReferenceIdeal.main_arg0) = m' ((c.tc : Thread Cert.MulReferenceIdeal.nD Cert.MulReferenceIdeal.τ).loc Cert.MulReferenceIdeal.main_arg0)
          ∧ r.2.mem ((c.tc : Thread Cert.MulReferenceIdeal.nD Cert.MulReferenceIdeal.τ).loc Cert.MulReferenceIdeal.main_arg1) = m' ((c.tc : Thread Cert.MulReferenceIdeal.nD Cert.MulReferenceIdeal.τ).loc Cert.MulReferenceIdeal.main_arg1)
          ∧ r.2.mem ((c.tc : Thread Cert.MulReferenceIdeal.nD Cert.MulReferenceIdeal.τ).loc Cert.MulReferenceIdeal.main_arg2) = m' ((c.tc : Thread Cert.MulReferenceIdeal.nD Cert.MulReferenceIdeal.τ).loc Cert.MulReferenceIdeal.main_arg2)
          ∧ r.2.mem ((c.tc : Thread Cert.MulReferenceIdeal.nD Cert.MulReferenceIdeal.τ).loc Cert.MulReferenceIdeal.main_arg3) = m' ((c.tc : Thread Cert.MulReferenceIdeal.nD Cert.MulReferenceIdeal.τ).loc Cert.MulReferenceIdeal.main_arg3))

def preserves_Dw_DwIdeal : Prop :=
  True

def algebraic_DwIdeal_DwReferenceIdeal [hDwIdeal : Cert.DwIdeal.Facts] [hDwReferenceIdeal : Cert.DwReferenceIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwIdeal m →
    (∀ c : Dev Cert.DwIdeal.nD,
      m' ((c.tc : Thread Cert.DwReferenceIdeal.nD Cert.DwReferenceIdeal.τ).loc Cert.DwReferenceIdeal.main_arg0) = m ((c.tc : Thread Cert.DwIdeal.nD Cert.DwIdeal.τ).loc Cert.DwIdeal.main_arg0)
      ∧ m' ((c.tc : Thread Cert.DwReferenceIdeal.nD Cert.DwReferenceIdeal.τ).loc Cert.DwReferenceIdeal.main_arg1) = m ((c.tc : Thread Cert.DwIdeal.nD Cert.DwIdeal.τ).loc Cert.DwIdeal.main_arg1)
      ∧ m' ((c.tc : Thread Cert.DwReferenceIdeal.nD Cert.DwReferenceIdeal.τ).loc Cert.DwReferenceIdeal.main_arg2) = m ((c.tc : Thread Cert.DwIdeal.nD Cert.DwIdeal.τ).loc Cert.DwIdeal.main_arg2)
      ∧ m' ((c.tc : Thread Cert.DwReferenceIdeal.nD Cert.DwReferenceIdeal.τ).loc Cert.DwReferenceIdeal.main_arg3) = m ((c.tc : Thread Cert.DwIdeal.nD Cert.DwIdeal.τ).loc Cert.DwIdeal.main_arg3)
      ∧ m' ((c.tc : Thread Cert.DwReferenceIdeal.nD Cert.DwReferenceIdeal.τ).loc Cert.DwReferenceIdeal.main_arg4) = m ((c.tc : Thread Cert.DwIdeal.nD Cert.DwIdeal.τ).loc Cert.DwIdeal.main_arg4)) →
    ∃ (v0 : (c : Dev Cert.DwIdeal.nD) → Buf (Elt Ideal) ((c.tc : Thread Cert.DwIdeal.nD Cert.DwIdeal.τ).loc Cert.DwIdeal.main_v34)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v34) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
          ∧ r.2.mem ((c.tc : Thread Cert.DwIdeal.nD Cert.DwIdeal.τ).loc Cert.DwIdeal.main_arg4) = m ((c.tc : Thread Cert.DwIdeal.nD Cert.DwIdeal.τ).loc Cert.DwIdeal.main_arg4))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v33) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1)
          ∧ r.2.mem ((c.tc : Thread Cert.DwReferenceIdeal.nD Cert.DwReferenceIdeal.τ).loc Cert.DwReferenceIdeal.main_arg2) = m' ((c.tc : Thread Cert.DwReferenceIdeal.nD Cert.DwReferenceIdeal.τ).loc Cert.DwReferenceIdeal.main_arg2)
          ∧ r.2.mem ((c.tc : Thread Cert.DwReferenceIdeal.nD Cert.DwReferenceIdeal.τ).loc Cert.DwReferenceIdeal.main_arg3) = m' ((c.tc : Thread Cert.DwReferenceIdeal.nD Cert.DwReferenceIdeal.τ).loc Cert.DwReferenceIdeal.main_arg3)
          ∧ r.2.mem ((c.tc : Thread Cert.DwReferenceIdeal.nD Cert.DwReferenceIdeal.τ).loc Cert.DwReferenceIdeal.main_arg4) = m' ((c.tc : Thread Cert.DwReferenceIdeal.nD Cert.DwReferenceIdeal.τ).loc Cert.DwReferenceIdeal.main_arg4))

def preserves_Dx_DxIdeal : Prop :=
  True

def algebraic_DxIdeal_DxReferenceIdeal_pre_finite_dx [hDxIdeal : Cert.DxIdeal.Facts] [hDxReferenceIdeal : Cert.DxReferenceIdeal.Facts] [hPre_finite_dx : Cert.Pre_finite_dx.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxIdeal_finite_dx m →
    (∀ c : Dev Cert.DxIdeal.nD,
      m' ((c.tc : Thread Cert.DxReferenceIdeal.nD Cert.DxReferenceIdeal.τ).loc Cert.DxReferenceIdeal.main_arg0) = m ((c.tc : Thread Cert.DxIdeal.nD Cert.DxIdeal.τ).loc Cert.DxIdeal.main_arg0)
      ∧ m' ((c.tc : Thread Cert.DxReferenceIdeal.nD Cert.DxReferenceIdeal.τ).loc Cert.DxReferenceIdeal.main_arg1) = m ((c.tc : Thread Cert.DxIdeal.nD Cert.DxIdeal.τ).loc Cert.DxIdeal.main_arg1)
      ∧ m' ((c.tc : Thread Cert.DxReferenceIdeal.nD Cert.DxReferenceIdeal.τ).loc Cert.DxReferenceIdeal.main_arg2) = m ((c.tc : Thread Cert.DxIdeal.nD Cert.DxIdeal.τ).loc Cert.DxIdeal.main_arg2)
      ∧ m' ((c.tc : Thread Cert.DxReferenceIdeal.nD Cert.DxReferenceIdeal.τ).loc Cert.DxReferenceIdeal.main_arg3) = m ((c.tc : Thread Cert.DxIdeal.nD Cert.DxIdeal.τ).loc Cert.DxIdeal.main_arg3)
      ∧ m' ((c.tc : Thread Cert.DxReferenceIdeal.nD Cert.DxReferenceIdeal.τ).loc Cert.DxReferenceIdeal.main_arg4) = m ((c.tc : Thread Cert.DxIdeal.nD Cert.DxIdeal.τ).loc Cert.DxIdeal.main_arg4)
      ∧ m' ((c.tc : Thread Cert.DxReferenceIdeal.nD Cert.DxReferenceIdeal.τ).loc Cert.DxReferenceIdeal.main_arg5) = m ((c.tc : Thread Cert.DxIdeal.nD Cert.DxIdeal.τ).loc Cert.DxIdeal.main_arg5)) →
    ∃ (v0 : (c : Dev Cert.DxIdeal.nD) → Buf (Elt Ideal) ((c.tc : Thread Cert.DxIdeal.nD Cert.DxIdeal.τ).loc Cert.DxIdeal.main_v3_0)) (v1 : (c : Dev Cert.DxIdeal.nD) → Buf (Elt Ideal) ((c.tc : Thread Cert.DxIdeal.nD Cert.DxIdeal.τ).loc Cert.DxIdeal.main_v3_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v3_0) = v0 c
          ∧ r.2.mem ((c.tc : Thread Cert.DxIdeal.nD Cert.DxIdeal.τ).loc Cert.DxIdeal.main_v3_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v66) = v0 c
          ∧ r.2.mem ((c.tc : Thread Cert.DxReferenceIdeal.nD Cert.DxReferenceIdeal.τ).loc Cert.DxReferenceIdeal.main_v68) = v1 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3)
          ∧ r.2.mem ((c.tc : Thread Cert.DxReferenceIdeal.nD Cert.DxReferenceIdeal.τ).loc Cert.DxReferenceIdeal.main_arg4) = m' ((c.tc : Thread Cert.DxReferenceIdeal.nD Cert.DxReferenceIdeal.τ).loc Cert.DxReferenceIdeal.main_arg4)
          ∧ r.2.mem ((c.tc : Thread Cert.DxReferenceIdeal.nD Cert.DxReferenceIdeal.τ).loc Cert.DxReferenceIdeal.main_arg5) = m' ((c.tc : Thread Cert.DxReferenceIdeal.nD Cert.DxReferenceIdeal.τ).loc Cert.DxReferenceIdeal.main_arg5))

def preserves_Latent_LatentIdeal : Prop :=
  True

def algebraic_LatentIdeal_LatentReferenceIdeal_pre_finite_dx [hLatentIdeal : Cert.LatentIdeal.Facts] [hLatentReferenceIdeal : Cert.LatentReferenceIdeal.Facts] [hPre_finite_dx : Cert.Pre_finite_dx.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal_finite_dx m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)
      ∧ m' ((c.tc : Thread Cert.LatentReferenceIdeal.nD Cert.LatentReferenceIdeal.τ).loc Cert.LatentReferenceIdeal.main_arg2) = m ((c.tc : Thread Cert.LatentIdeal.nD Cert.LatentIdeal.τ).loc Cert.LatentIdeal.main_arg2)
      ∧ m' ((c.tc : Thread Cert.LatentReferenceIdeal.nD Cert.LatentReferenceIdeal.τ).loc Cert.LatentReferenceIdeal.main_arg3) = m ((c.tc : Thread Cert.LatentIdeal.nD Cert.LatentIdeal.τ).loc Cert.LatentIdeal.main_arg3)
      ∧ m' ((c.tc : Thread Cert.LatentReferenceIdeal.nD Cert.LatentReferenceIdeal.τ).loc Cert.LatentReferenceIdeal.main_arg4) = m ((c.tc : Thread Cert.LatentIdeal.nD Cert.LatentIdeal.τ).loc Cert.LatentIdeal.main_arg4)
      ∧ m' ((c.tc : Thread Cert.LatentReferenceIdeal.nD Cert.LatentReferenceIdeal.τ).loc Cert.LatentReferenceIdeal.main_arg5) = m ((c.tc : Thread Cert.LatentIdeal.nD Cert.LatentIdeal.τ).loc Cert.LatentIdeal.main_arg5)) →
    ∃ (v0 : (c : Dev Cert.LatentIdeal.nD) → Buf (Elt Ideal) ((c.tc : Thread Cert.LatentIdeal.nD Cert.LatentIdeal.τ).loc Cert.LatentIdeal.main_v3_0)) (v1 : (c : Dev Cert.LatentIdeal.nD) → Buf (Elt Ideal) ((c.tc : Thread Cert.LatentIdeal.nD Cert.LatentIdeal.τ).loc Cert.LatentIdeal.main_v3_1)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v3_0) = v0 c
          ∧ r.2.mem ((c.tc : Thread Cert.LatentIdeal.nD Cert.LatentIdeal.τ).loc Cert.LatentIdeal.main_v3_1) = v1 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
          ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
          ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v71) = v0 c
          ∧ r.2.mem ((c.tc : Thread Cert.LatentReferenceIdeal.nD Cert.LatentReferenceIdeal.τ).loc Cert.LatentReferenceIdeal.main_v68) = v1 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2)
          ∧ r.2.mem ((c.tc : Thread Cert.LatentReferenceIdeal.nD Cert.LatentReferenceIdeal.τ).loc Cert.LatentReferenceIdeal.main_arg3) = m' ((c.tc : Thread Cert.LatentReferenceIdeal.nD Cert.LatentReferenceIdeal.τ).loc Cert.LatentReferenceIdeal.main_arg3)
          ∧ r.2.mem ((c.tc : Thread Cert.LatentReferenceIdeal.nD Cert.LatentReferenceIdeal.τ).loc Cert.LatentReferenceIdeal.main_arg4) = m' ((c.tc : Thread Cert.LatentReferenceIdeal.nD Cert.LatentReferenceIdeal.τ).loc Cert.LatentReferenceIdeal.main_arg4)
          ∧ r.2.mem ((c.tc : Thread Cert.LatentReferenceIdeal.nD Cert.LatentReferenceIdeal.τ).loc Cert.LatentReferenceIdeal.main_arg5) = m' ((c.tc : Thread Cert.LatentReferenceIdeal.nD Cert.LatentReferenceIdeal.τ).loc Cert.LatentReferenceIdeal.main_arg5))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v6_0)) (v1 : (c : Dev Cert.MergeIdeal.nD) → Buf (Elt Ideal) ((c.tc : Thread Cert.MergeIdeal.nD Cert.MergeIdeal.τ).loc Cert.MergeIdeal.main_v6_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6_0) = v0 c
          ∧ r.2.mem ((c.tc : Thread Cert.MergeIdeal.nD Cert.MergeIdeal.τ).loc Cert.MergeIdeal.main_v6_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v68) = v0 c
          ∧ r.2.mem ((c.tc : Thread Cert.MergeReferenceIdeal.nD Cert.MergeReferenceIdeal.τ).loc Cert.MergeReferenceIdeal.main_v40) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12))

def preserves_Split_SplitIdeal : Prop :=
  True

def algebraic_SplitIdeal_SplitReferenceIdeal_pre_finite_split [hSplitIdeal : Cert.SplitIdeal.Facts] [hSplitReferenceIdeal : Cert.SplitReferenceIdeal.Facts] [hPre_finite_split : Cert.Pre_finite_split.Facts] : Prop :=
  ∀ (m : (ℓ : Loc Cert.SplitIdeal.nD Cert.SplitIdeal.τ Cert.SplitIdeal.sig) → Buf (Elt Ideal) ℓ) (g : Dev Cert.SplitIdeal.nD → PrngReg)
    (m' : (ℓ : Loc Cert.SplitReferenceIdeal.nD Cert.SplitReferenceIdeal.τ Cert.SplitReferenceIdeal.sig) → Buf (Elt Ideal) ℓ) (g' : Dev Cert.SplitReferenceIdeal.nD → PrngReg), Pre_SplitIdeal_finite_split m →
    (∀ c : Dev Cert.SplitIdeal.nD,
      m' ((c.tc : Thread Cert.SplitReferenceIdeal.nD Cert.SplitReferenceIdeal.τ).loc Cert.SplitReferenceIdeal.main_arg0) = m ((c.tc : Thread Cert.SplitIdeal.nD Cert.SplitIdeal.τ).loc Cert.SplitIdeal.main_arg0)
      ∧ m' ((c.tc : Thread Cert.SplitReferenceIdeal.nD Cert.SplitReferenceIdeal.τ).loc Cert.SplitReferenceIdeal.main_arg1) = m ((c.tc : Thread Cert.SplitIdeal.nD Cert.SplitIdeal.τ).loc Cert.SplitIdeal.main_arg1)
      ∧ m' ((c.tc : Thread Cert.SplitReferenceIdeal.nD Cert.SplitReferenceIdeal.τ).loc Cert.SplitReferenceIdeal.main_arg2) = m ((c.tc : Thread Cert.SplitIdeal.nD Cert.SplitIdeal.τ).loc Cert.SplitIdeal.main_arg2)
      ∧ m' ((c.tc : Thread Cert.SplitReferenceIdeal.nD Cert.SplitReferenceIdeal.τ).loc Cert.SplitReferenceIdeal.main_arg3) = m ((c.tc : Thread Cert.SplitIdeal.nD Cert.SplitIdeal.τ).loc Cert.SplitIdeal.main_arg3)
      ∧ m' ((c.tc : Thread Cert.SplitReferenceIdeal.nD Cert.SplitReferenceIdeal.τ).loc Cert.SplitReferenceIdeal.main_arg4) = m ((c.tc : Thread Cert.SplitIdeal.nD Cert.SplitIdeal.τ).loc Cert.SplitIdeal.main_arg4)
      ∧ m' ((c.tc : Thread Cert.SplitReferenceIdeal.nD Cert.SplitReferenceIdeal.τ).loc Cert.SplitReferenceIdeal.main_arg5) = m ((c.tc : Thread Cert.SplitIdeal.nD Cert.SplitIdeal.τ).loc Cert.SplitIdeal.main_arg5)
      ∧ m' ((c.tc : Thread Cert.SplitReferenceIdeal.nD Cert.SplitReferenceIdeal.τ).loc Cert.SplitReferenceIdeal.main_arg6) = m ((c.tc : Thread Cert.SplitIdeal.nD Cert.SplitIdeal.τ).loc Cert.SplitIdeal.main_arg6)
      ∧ m' ((c.tc : Thread Cert.SplitReferenceIdeal.nD Cert.SplitReferenceIdeal.τ).loc Cert.SplitReferenceIdeal.main_arg7) = m ((c.tc : Thread Cert.SplitIdeal.nD Cert.SplitIdeal.τ).loc Cert.SplitIdeal.main_arg7)
      ∧ m' ((c.tc : Thread Cert.SplitReferenceIdeal.nD Cert.SplitReferenceIdeal.τ).loc Cert.SplitReferenceIdeal.main_arg8) = m ((c.tc : Thread Cert.SplitIdeal.nD Cert.SplitIdeal.τ).loc Cert.SplitIdeal.main_arg8)
      ∧ m' ((c.tc : Thread Cert.SplitReferenceIdeal.nD Cert.SplitReferenceIdeal.τ).loc Cert.SplitReferenceIdeal.main_arg9) = m ((c.tc : Thread Cert.SplitIdeal.nD Cert.SplitIdeal.τ).loc Cert.SplitIdeal.main_arg9)
      ∧ m' ((c.tc : Thread Cert.SplitReferenceIdeal.nD Cert.SplitReferenceIdeal.τ).loc Cert.SplitReferenceIdeal.main_arg10) = m ((c.tc : Thread Cert.SplitIdeal.nD Cert.SplitIdeal.τ).loc Cert.SplitIdeal.main_arg10)
      ∧ m' ((c.tc : Thread Cert.SplitReferenceIdeal.nD Cert.SplitReferenceIdeal.τ).loc Cert.SplitReferenceIdeal.main_arg11) = m ((c.tc : Thread Cert.SplitIdeal.nD Cert.SplitIdeal.τ).loc Cert.SplitIdeal.main_arg11)
      ∧ m' ((c.tc : Thread Cert.SplitReferenceIdeal.nD Cert.SplitReferenceIdeal.τ).loc Cert.SplitReferenceIdeal.main_arg12) = m ((c.tc : Thread Cert.SplitIdeal.nD Cert.SplitIdeal.τ).loc Cert.SplitIdeal.main_arg12)) →
    ∃ (v0 : (c : Dev Cert.SplitIdeal.nD) → Buf (Elt Ideal) ((c.tc : Thread Cert.SplitIdeal.nD Cert.SplitIdeal.τ).loc Cert.SplitIdeal.main_v54_1)) (v1 : (c : Dev Cert.SplitIdeal.nD) → Buf (Elt Ideal) ((c.tc : Thread Cert.SplitIdeal.nD Cert.SplitIdeal.τ).loc Cert.SplitIdeal.main_v54_2)) (v2 : (c : Dev Cert.SplitIdeal.nD) → Buf (Elt Ideal) ((c.tc : Thread Cert.SplitIdeal.nD Cert.SplitIdeal.τ).loc Cert.SplitIdeal.main_v54_3)) (v3 : (c : Dev Cert.SplitIdeal.nD) → Buf (Elt Ideal) ((c.tc : Thread Cert.SplitIdeal.nD Cert.SplitIdeal.τ).loc Cert.SplitIdeal.main_v54_4)) (v4 : (c : Dev Cert.SplitIdeal.nD) → Buf (Elt Ideal) ((c.tc : Thread Cert.SplitIdeal.nD Cert.SplitIdeal.τ).loc Cert.SplitIdeal.main_v54_5)) (v5 : (c : Dev Cert.SplitIdeal.nD) → Buf (Elt Ideal) ((c.tc : Thread Cert.SplitIdeal.nD Cert.SplitIdeal.τ).loc Cert.SplitIdeal.main_v54_6)) (v6 : (c : Dev Cert.SplitIdeal.nD) → Buf (Elt Ideal) ((c.tc : Thread Cert.SplitIdeal.nD Cert.SplitIdeal.τ).loc Cert.SplitIdeal.main_v54_7)) (v7 : (c : Dev Cert.SplitIdeal.nD) → Buf (Elt Ideal) ((c.tc : Thread Cert.SplitIdeal.nD Cert.SplitIdeal.τ).loc Cert.SplitIdeal.main_v54_8)) (v8 : (c : Dev Cert.SplitIdeal.nD) → Buf (Elt Ideal) ((c.tc : Thread Cert.SplitIdeal.nD Cert.SplitIdeal.τ).loc Cert.SplitIdeal.main_v54_9)),
      θ_run (Cert.SplitIdeal.defs (F := Ideal)) (onTc (τ := Cert.SplitIdeal.τ) (Cert.SplitIdeal.main (F := Ideal))) ⟨m, fun _ => 0, g⟩ (fun r => ∀ c : Dev Cert.SplitIdeal.nD,
          r.2.mem ((c.tc : Thread Cert.SplitIdeal.nD Cert.SplitIdeal.τ).loc Cert.SplitIdeal.main_v54_1) = v0 c
          ∧ r.2.mem ((c.tc : Thread Cert.SplitIdeal.nD Cert.SplitIdeal.τ).loc Cert.SplitIdeal.main_v54_2) = v1 c
          ∧ r.2.mem ((c.tc : Thread Cert.SplitIdeal.nD Cert.SplitIdeal.τ).loc Cert.SplitIdeal.main_v54_3) = v2 c
          ∧ r.2.mem ((c.tc : Thread Cert.SplitIdeal.nD Cert.SplitIdeal.τ).loc Cert.SplitIdeal.main_v54_4) = v3 c
          ∧ r.2.mem ((c.tc : Thread Cert.SplitIdeal.nD Cert.SplitIdeal.τ).loc Cert.SplitIdeal.main_v54_5) = v4 c
          ∧ r.2.mem ((c.tc : Thread Cert.SplitIdeal.nD Cert.SplitIdeal.τ).loc Cert.SplitIdeal.main_v54_6) = v5 c
          ∧ r.2.mem ((c.tc : Thread Cert.SplitIdeal.nD Cert.SplitIdeal.τ).loc Cert.SplitIdeal.main_v54_7) = v6 c
          ∧ r.2.mem ((c.tc : Thread Cert.SplitIdeal.nD Cert.SplitIdeal.τ).loc Cert.SplitIdeal.main_v54_8) = v7 c
          ∧ r.2.mem ((c.tc : Thread Cert.SplitIdeal.nD Cert.SplitIdeal.τ).loc Cert.SplitIdeal.main_v54_9) = v8 c
          ∧ r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0)
          ∧ r.2.mem ((c.tc : Thread Cert.SplitIdeal.nD Cert.SplitIdeal.τ).loc Cert.SplitIdeal.main_arg1) = m ((c.tc : Thread Cert.SplitIdeal.nD Cert.SplitIdeal.τ).loc Cert.SplitIdeal.main_arg1)
          ∧ r.2.mem ((c.tc : Thread Cert.SplitIdeal.nD Cert.SplitIdeal.τ).loc Cert.SplitIdeal.main_arg2) = m ((c.tc : Thread Cert.SplitIdeal.nD Cert.SplitIdeal.τ).loc Cert.SplitIdeal.main_arg2)
          ∧ r.2.mem ((c.tc : Thread Cert.SplitIdeal.nD Cert.SplitIdeal.τ).loc Cert.SplitIdeal.main_arg3) = m ((c.tc : Thread Cert.SplitIdeal.nD Cert.SplitIdeal.τ).loc Cert.SplitIdeal.main_arg3)
          ∧ r.2.mem ((c.tc : Thread Cert.SplitIdeal.nD Cert.SplitIdeal.τ).loc Cert.SplitIdeal.main_arg4) = m ((c.tc : Thread Cert.SplitIdeal.nD Cert.SplitIdeal.τ).loc Cert.SplitIdeal.main_arg4)
          ∧ r.2.mem ((c.tc : Thread Cert.SplitIdeal.nD Cert.SplitIdeal.τ).loc Cert.SplitIdeal.main_arg5) = m ((c.tc : Thread Cert.SplitIdeal.nD Cert.SplitIdeal.τ).loc Cert.SplitIdeal.main_arg5)
          ∧ r.2.mem ((c.tc : Thread Cert.SplitIdeal.nD Cert.SplitIdeal.τ).loc Cert.SplitIdeal.main_arg6) = m ((c.tc : Thread Cert.SplitIdeal.nD Cert.SplitIdeal.τ).loc Cert.SplitIdeal.main_arg6)
          ∧ r.2.mem ((c.tc : Thread Cert.SplitIdeal.nD Cert.SplitIdeal.τ).loc Cert.SplitIdeal.main_arg7) = m ((c.tc : Thread Cert.SplitIdeal.nD Cert.SplitIdeal.τ).loc Cert.SplitIdeal.main_arg7)
          ∧ r.2.mem ((c.tc : Thread Cert.SplitIdeal.nD Cert.SplitIdeal.τ).loc Cert.SplitIdeal.main_arg8) = m ((c.tc : Thread Cert.SplitIdeal.nD Cert.SplitIdeal.τ).loc Cert.SplitIdeal.main_arg8)
          ∧ r.2.mem ((c.tc : Thread Cert.SplitIdeal.nD Cert.SplitIdeal.τ).loc Cert.SplitIdeal.main_arg9) = m ((c.tc : Thread Cert.SplitIdeal.nD Cert.SplitIdeal.τ).loc Cert.SplitIdeal.main_arg9)
          ∧ r.2.mem ((c.tc : Thread Cert.SplitIdeal.nD Cert.SplitIdeal.τ).loc Cert.SplitIdeal.main_arg10) = m ((c.tc : Thread Cert.SplitIdeal.nD Cert.SplitIdeal.τ).loc Cert.SplitIdeal.main_arg10)
          ∧ r.2.mem ((c.tc : Thread Cert.SplitIdeal.nD Cert.SplitIdeal.τ).loc Cert.SplitIdeal.main_arg11) = m ((c.tc : Thread Cert.SplitIdeal.nD Cert.SplitIdeal.τ).loc Cert.SplitIdeal.main_arg11)
          ∧ r.2.mem ((c.tc : Thread Cert.SplitIdeal.nD Cert.SplitIdeal.τ).loc Cert.SplitIdeal.main_arg12) = m ((c.tc : Thread Cert.SplitIdeal.nD Cert.SplitIdeal.τ).loc Cert.SplitIdeal.main_arg12))
      ∧ θ_run (Cert.SplitReferenceIdeal.defs (F := Ideal)) (onTc (τ := Cert.SplitReferenceIdeal.τ) (Cert.SplitReferenceIdeal.main (F := Ideal))) ⟨m', fun _ => 0, g'⟩ (fun r => ∀ c : Dev Cert.SplitReferenceIdeal.nD,
          r.2.mem ((c.tc : Thread Cert.SplitReferenceIdeal.nD Cert.SplitReferenceIdeal.τ).loc Cert.SplitReferenceIdeal.main_v149) = v0 c
          ∧ r.2.mem ((c.tc : Thread Cert.SplitReferenceIdeal.nD Cert.SplitReferenceIdeal.τ).loc Cert.SplitReferenceIdeal.main_v114) = v1 c
          ∧ r.2.mem ((c.tc : Thread Cert.SplitReferenceIdeal.nD Cert.SplitReferenceIdeal.τ).loc Cert.SplitReferenceIdeal.main_v147) = v2 c
          ∧ r.2.mem ((c.tc : Thread Cert.SplitReferenceIdeal.nD Cert.SplitReferenceIdeal.τ).loc Cert.SplitReferenceIdeal.main_v152) = v3 c
          ∧ r.2.mem ((c.tc : Thread Cert.SplitReferenceIdeal.nD Cert.SplitReferenceIdeal.τ).loc Cert.SplitReferenceIdeal.main_v118) = v4 c
          ∧ r.2.mem ((c.tc : Thread Cert.SplitReferenceIdeal.nD Cert.SplitReferenceIdeal.τ).loc Cert.SplitReferenceIdeal.main_v113) = v5 c
          ∧ r.2.mem ((c.tc : Thread Cert.SplitReferenceIdeal.nD Cert.SplitReferenceIdeal.τ).loc Cert.SplitReferenceIdeal.main_v108) = v6 c
          ∧ r.2.mem ((c.tc : Thread Cert.SplitReferenceIdeal.nD Cert.SplitReferenceIdeal.τ).loc Cert.SplitReferenceIdeal.main_v103) = v7 c
          ∧ r.2.mem ((c.tc : Thread Cert.SplitReferenceIdeal.nD Cert.SplitReferenceIdeal.τ).loc Cert.SplitReferenceIdeal.main_v132) = v8 c
          ∧ r.2.mem ((c.tc : Thread Cert.SplitReferenceIdeal.nD Cert.SplitReferenceIdeal.τ).loc Cert.SplitReferenceIdeal.main_arg0) = m' ((c.tc : Thread Cert.SplitReferenceIdeal.nD Cert.SplitReferenceIdeal.τ).loc Cert.SplitReferenceIdeal.main_arg0)
          ∧ r.2.mem ((c.tc : Thread Cert.SplitReferenceIdeal.nD Cert.SplitReferenceIdeal.τ).loc Cert.SplitReferenceIdeal.main_arg1) = m' ((c.tc : Thread Cert.SplitReferenceIdeal.nD Cert.SplitReferenceIdeal.τ).loc Cert.SplitReferenceIdeal.main_arg1)
          ∧ r.2.mem ((c.tc : Thread Cert.SplitReferenceIdeal.nD Cert.SplitReferenceIdeal.τ).loc Cert.SplitReferenceIdeal.main_arg2) = m' ((c.tc : Thread Cert.SplitReferenceIdeal.nD Cert.SplitReferenceIdeal.τ).loc Cert.SplitReferenceIdeal.main_arg2)
          ∧ r.2.mem ((c.tc : Thread Cert.SplitReferenceIdeal.nD Cert.SplitReferenceIdeal.τ).loc Cert.SplitReferenceIdeal.main_arg3) = m' ((c.tc : Thread Cert.SplitReferenceIdeal.nD Cert.SplitReferenceIdeal.τ).loc Cert.SplitReferenceIdeal.main_arg3)
          ∧ r.2.mem ((c.tc : Thread Cert.SplitReferenceIdeal.nD Cert.SplitReferenceIdeal.τ).loc Cert.SplitReferenceIdeal.main_arg4) = m' ((c.tc : Thread Cert.SplitReferenceIdeal.nD Cert.SplitReferenceIdeal.τ).loc Cert.SplitReferenceIdeal.main_arg4)
          ∧ r.2.mem ((c.tc : Thread Cert.SplitReferenceIdeal.nD Cert.SplitReferenceIdeal.τ).loc Cert.SplitReferenceIdeal.main_arg5) = m' ((c.tc : Thread Cert.SplitReferenceIdeal.nD Cert.SplitReferenceIdeal.τ).loc Cert.SplitReferenceIdeal.main_arg5)
          ∧ r.2.mem ((c.tc : Thread Cert.SplitReferenceIdeal.nD Cert.SplitReferenceIdeal.τ).loc Cert.SplitReferenceIdeal.main_arg6) = m' ((c.tc : Thread Cert.SplitReferenceIdeal.nD Cert.SplitReferenceIdeal.τ).loc Cert.SplitReferenceIdeal.main_arg6)
          ∧ r.2.mem ((c.tc : Thread Cert.SplitReferenceIdeal.nD Cert.SplitReferenceIdeal.τ).loc Cert.SplitReferenceIdeal.main_arg7) = m' ((c.tc : Thread Cert.SplitReferenceIdeal.nD Cert.SplitReferenceIdeal.τ).loc Cert.SplitReferenceIdeal.main_arg7)
          ∧ r.2.mem ((c.tc : Thread Cert.SplitReferenceIdeal.nD Cert.SplitReferenceIdeal.τ).loc Cert.SplitReferenceIdeal.main_arg8) = m' ((c.tc : Thread Cert.SplitReferenceIdeal.nD Cert.SplitReferenceIdeal.τ).loc Cert.SplitReferenceIdeal.main_arg8)
          ∧ r.2.mem ((c.tc : Thread Cert.SplitReferenceIdeal.nD Cert.SplitReferenceIdeal.τ).loc Cert.SplitReferenceIdeal.main_arg9) = m' ((c.tc : Thread Cert.SplitReferenceIdeal.nD Cert.SplitReferenceIdeal.τ).loc Cert.SplitReferenceIdeal.main_arg9)
          ∧ r.2.mem ((c.tc : Thread Cert.SplitReferenceIdeal.nD Cert.SplitReferenceIdeal.τ).loc Cert.SplitReferenceIdeal.main_arg10) = m' ((c.tc : Thread Cert.SplitReferenceIdeal.nD Cert.SplitReferenceIdeal.τ).loc Cert.SplitReferenceIdeal.main_arg10)
          ∧ r.2.mem ((c.tc : Thread Cert.SplitReferenceIdeal.nD Cert.SplitReferenceIdeal.τ).loc Cert.SplitReferenceIdeal.main_arg11) = m' ((c.tc : Thread Cert.SplitReferenceIdeal.nD Cert.SplitReferenceIdeal.τ).loc Cert.SplitReferenceIdeal.main_arg11)
          ∧ r.2.mem ((c.tc : Thread Cert.SplitReferenceIdeal.nD Cert.SplitReferenceIdeal.τ).loc Cert.SplitReferenceIdeal.main_arg12) = m' ((c.tc : Thread Cert.SplitReferenceIdeal.nD Cert.SplitReferenceIdeal.τ).loc Cert.SplitReferenceIdeal.main_arg12))

def Claim : Prop :=
  ∃ (hKernel : Cert.Kernel.Facts) (hKernelIdeal : Cert.KernelIdeal.Facts) (hReferenceIdeal : Cert.ReferenceIdeal.Facts) (hFwd : Cert.Fwd.Facts) (hFwdIdeal : Cert.FwdIdeal.Facts) (hFwdReferenceIdeal : Cert.FwdReferenceIdeal.Facts) (hNorm : Cert.Norm.Facts) (hNormIdeal : Cert.NormIdeal.Facts) (hNormReferenceIdeal : Cert.NormReferenceIdeal.Facts) (hMul : Cert.Mul.Facts) (hMulIdeal : Cert.MulIdeal.Facts) (hMulReferenceIdeal : Cert.MulReferenceIdeal.Facts) (hDw : Cert.Dw.Facts) (hDwIdeal : Cert.DwIdeal.Facts) (hDwReferenceIdeal : Cert.DwReferenceIdeal.Facts) (hDx : Cert.Dx.Facts) (hDxIdeal : Cert.DxIdeal.Facts) (hDxReferenceIdeal : Cert.DxReferenceIdeal.Facts) (hLatent : Cert.Latent.Facts) (hLatentIdeal : Cert.LatentIdeal.Facts) (hLatentReferenceIdeal : Cert.LatentReferenceIdeal.Facts) (hMerge : Cert.Merge.Facts) (hMergeIdeal : Cert.MergeIdeal.Facts) (hMergeReferenceIdeal : Cert.MergeReferenceIdeal.Facts) (hSplit : Cert.Split.Facts) (hSplitIdeal : Cert.SplitIdeal.Facts) (hSplitReferenceIdeal : Cert.SplitReferenceIdeal.Facts) (hPre_finite : Cert.Pre_finite.Facts) (hPre_finite_fwd : Cert.Pre_finite_fwd.Facts) (hPre_finite_dx : Cert.Pre_finite_dx.Facts) (hPre_finite_split : Cert.Pre_finite_split.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_FwdReferenceIdeal (hFwdReferenceIdeal := hFwdReferenceIdeal)
    ∧ quiescent_FwdReferenceIdeal_pre_finite_fwd (hFwdReferenceIdeal := hFwdReferenceIdeal) (hPre_finite_fwd := hPre_finite_fwd)
    ∧ quiescent_Norm (hNorm := hNorm)
    ∧ quiescent_NormIdeal (hNormIdeal := hNormIdeal)
    ∧ quiescent_NormReferenceIdeal (hNormReferenceIdeal := hNormReferenceIdeal)
    ∧ quiescent_Mul (hMul := hMul)
    ∧ quiescent_MulIdeal (hMulIdeal := hMulIdeal)
    ∧ quiescent_MulReferenceIdeal (hMulReferenceIdeal := hMulReferenceIdeal)
    ∧ quiescent_Dw (hDw := hDw)
    ∧ quiescent_DwIdeal (hDwIdeal := hDwIdeal)
    ∧ quiescent_DwReferenceIdeal (hDwReferenceIdeal := hDwReferenceIdeal)
    ∧ quiescent_Dx (hDx := hDx)
    ∧ quiescent_DxIdeal (hDxIdeal := hDxIdeal)
    ∧ quiescent_DxIdeal_pre_finite_dx (hDxIdeal := hDxIdeal) (hPre_finite_dx := hPre_finite_dx)
    ∧ quiescent_DxReferenceIdeal (hDxReferenceIdeal := hDxReferenceIdeal)
    ∧ quiescent_DxReferenceIdeal_pre_finite_dx (hDxReferenceIdeal := hDxReferenceIdeal) (hPre_finite_dx := hPre_finite_dx)
    ∧ quiescent_Latent (hLatent := hLatent)
    ∧ quiescent_LatentIdeal (hLatentIdeal := hLatentIdeal)
    ∧ quiescent_LatentIdeal_pre_finite_dx (hLatentIdeal := hLatentIdeal) (hPre_finite_dx := hPre_finite_dx)
    ∧ quiescent_LatentReferenceIdeal (hLatentReferenceIdeal := hLatentReferenceIdeal)
    ∧ quiescent_LatentReferenceIdeal_pre_finite_dx (hLatentReferenceIdeal := hLatentReferenceIdeal) (hPre_finite_dx := hPre_finite_dx)
    ∧ quiescent_Merge (hMerge := hMerge)
    ∧ quiescent_MergeIdeal (hMergeIdeal := hMergeIdeal)
    ∧ quiescent_MergeReferenceIdeal (hMergeReferenceIdeal := hMergeReferenceIdeal)
    ∧ quiescent_Split (hSplit := hSplit)
    ∧ quiescent_SplitIdeal (hSplitIdeal := hSplitIdeal)
    ∧ quiescent_SplitIdeal_pre_finite_split (hSplitIdeal := hSplitIdeal) (hPre_finite_split := hPre_finite_split)
    ∧ quiescent_SplitReferenceIdeal (hSplitReferenceIdeal := hSplitReferenceIdeal)
    ∧ quiescent_SplitReferenceIdeal_pre_finite_split (hSplitReferenceIdeal := hSplitReferenceIdeal) (hPre_finite_split := hPre_finite_split)
    ∧ preserves_Kernel_KernelIdeal
    ∧ algebraic_KernelIdeal_ReferenceIdeal_pre_finite (hKernelIdeal := hKernelIdeal) (hReferenceIdeal := hReferenceIdeal) (hPre_finite := hPre_finite)
    ∧ preserves_Fwd_FwdIdeal
    ∧ algebraic_FwdIdeal_FwdReferenceIdeal_pre_finite_fwd (hFwdIdeal := hFwdIdeal) (hFwdReferenceIdeal := hFwdReferenceIdeal) (hPre_finite_fwd := hPre_finite_fwd)
    ∧ preserves_Norm_NormIdeal
    ∧ algebraic_NormIdeal_NormReferenceIdeal (hNormIdeal := hNormIdeal) (hNormReferenceIdeal := hNormReferenceIdeal)
    ∧ preserves_Mul_MulIdeal
    ∧ algebraic_MulIdeal_MulReferenceIdeal (hMulIdeal := hMulIdeal) (hMulReferenceIdeal := hMulReferenceIdeal)
    ∧ preserves_Dw_DwIdeal
    ∧ algebraic_DwIdeal_DwReferenceIdeal (hDwIdeal := hDwIdeal) (hDwReferenceIdeal := hDwReferenceIdeal)
    ∧ preserves_Dx_DxIdeal
    ∧ algebraic_DxIdeal_DxReferenceIdeal_pre_finite_dx (hDxIdeal := hDxIdeal) (hDxReferenceIdeal := hDxReferenceIdeal) (hPre_finite_dx := hPre_finite_dx)
    ∧ preserves_Latent_LatentIdeal
    ∧ algebraic_LatentIdeal_LatentReferenceIdeal_pre_finite_dx (hLatentIdeal := hLatentIdeal) (hLatentReferenceIdeal := hLatentReferenceIdeal) (hPre_finite_dx := hPre_finite_dx)
    ∧ preserves_Merge_MergeIdeal
    ∧ algebraic_MergeIdeal_MergeReferenceIdeal (hMergeIdeal := hMergeIdeal) (hMergeReferenceIdeal := hMergeReferenceIdeal)
    ∧ preserves_Split_SplitIdeal
    ∧ algebraic_SplitIdeal_SplitReferenceIdeal_pre_finite_split (hSplitIdeal := hSplitIdeal) (hSplitReferenceIdeal := hSplitReferenceIdeal) (hPre_finite_split := hPre_finite_split)
-- ==== Pre_finite.lean ====
abbrev S4x2304x8x96 : Shape := ⟨4, ![4, 2304, 8, 96]⟩
abbrev S4x2304x8x128 : Shape := ⟨4, ![4, 2304, 8, 128]⟩
abbrev S4x2304x32 : Shape := ⟨3, ![4, 2304, 32]⟩
abbrev S4x2304x8x64 : Shape := ⟨4, ![4, 2304, 8, 64]⟩
abbrev S_ : Shape := ⟨0, ![]⟩

class Facts : Prop where
  bcast_S_S4x2304x8x96 : S_.BroadcastsInDim S4x2304x8x96 (![] : Fin 0 → Fin S4x2304x8x96.rank)
  bcast_S_S4x2304x8x128 : S_.BroadcastsInDim S4x2304x8x128 (![] : Fin 0 → Fin S4x2304x8x128.rank)
  bcast_S_S4x2304x32 : S_.BroadcastsInDim S4x2304x32 (![] : Fin 0 → Fin S4x2304x32.rank)
  bcast_S_S4x2304x8x64 : S_.BroadcastsInDim S4x2304x8x64 (![] : Fin 0 → Fin S4x2304x8x64.rank)

variable [Facts]

def fn {F : FTy → Type} [FloatOps F] (main_arg0 : FVec F S4x2304x8x96 .f32) (main_arg1 : FVec F S4x2304x8x128 .f32) (main_arg2 : FVec F S4x2304x32 .f32) (main_arg3 : FVec F S4x2304x8x64 .f32) : IVec S4x2304x8x96 1 × IVec S4x2304x8x128 1 × IVec S4x2304x32 1 × IVec S4x2304x8x64 1 :=
  let main_v0 : FVec F S4x2304x8x96 .f32 := Host.absf main_arg0
  let main_cst : FVec F S_ .f32 := constant S_ .f32 0x7F800000#32
  let main_v1 : FVec F S4x2304x8x96 .f32 := broadcastInDim S4x2304x8x96 ![] bcast_S_S4x2304x8x96 main_cst
  let main_v2 : IVec S4x2304x8x96 1 := cmpf .olt main_v0 main_v1
  let main_v3 : FVec F S4x2304x8x128 .f32 := Host.absf main_arg1
  let main_cst_0 : FVec F S_ .f32 := constant S_ .f32 0x7F800000#32
  let main_v4 : FVec F S4x2304x8x128 .f32 := broadcastInDim S4x2304x8x128 ![] bcast_S_S4x2304x8x128 main_cst_0
  let main_v5 : IVec S4x2304x8x128 1 := cmpf .olt main_v3 main_v4
  let main_v6 : FVec F S4x2304x32 .f32 := Host.absf main_arg2
  let main_cst_1 : FVec F S_ .f32 := constant S_ .f32 0x7F800000#32
  let main_v7 : FVec F S4x2304x32 .f32 := broadcastInDim S4x2304x32 ![] bcast_S_S4x2304x32 main_cst_1
  let main_v8 : IVec S4x2304x32 1 := cmpf .olt main_v6 main_v7
  let main_v9 : FVec F S4x2304x8x64 .f32 := Host.absf main_arg3
  let main_cst_2 : FVec F S_ .f32 := constant S_ .f32 0x7F800000#32
  let main_v10 : FVec F S4x2304x8x64 .f32 := broadcastInDim S4x2304x8x64 ![] bcast_S_S4x2304x8x64 main_cst_2
  let main_v11 : IVec S4x2304x8x64 1 := cmpf .olt main_v9 main_v10
  (main_v2, main_v5, main_v8, main_v11)
-- ==== Pre_finite_dx.lean ====
abbrev S9216x1024 : Shape := ⟨2, ![9216, 1024]⟩
abbrev S8x3072 : Shape := ⟨2, ![8, 3072]⟩
abbrev S1x1024 : Shape := ⟨2, ![1, 1024]⟩
abbrev S6912x1024 : Shape := ⟨2, ![6912, 1024]⟩
abbrev S9216x6912 : Shape := ⟨2, ![9216, 6912]⟩
abbrev S_ : Shape := ⟨0, ![]⟩

class Facts : Prop where
  bcast_S_S9216x1024 : S_.BroadcastsInDim S9216x1024 (![] : Fin 0 → Fin S9216x1024.rank)
  bcast_S_S8x3072 : S_.BroadcastsInDim S8x3072 (![] : Fin 0 → Fin S8x3072.rank)
  bcast_S_S1x1024 : S_.BroadcastsInDim S1x1024 (![] : Fin 0 → Fin S1x1024.rank)
  bcast_S_S6912x1024 : S_.BroadcastsInDim S6912x1024 (![] : Fin 0 → Fin S6912x1024.rank)
  bcast_S_S9216x6912 : S_.BroadcastsInDim S9216x6912 (![] : Fin 0 → Fin S9216x6912.rank)

variable [Facts]

def fn {F : FTy → Type} [FloatOps F] (main_arg0 : FVec F S9216x1024 .f32) (main_arg1 : FVec F S8x3072 .f32) (main_arg2 : FVec F S1x1024 .f32) (main_arg3 : FVec F S6912x1024 .f32) (main_arg4 : FVec F S9216x6912 .f32) (main_arg5 : FVec F S9216x1024 .f32) : IVec S9216x1024 1 × IVec S8x3072 1 × IVec S1x1024 1 × IVec S6912x1024 1 × IVec S9216x6912 1 :=
  let main_v0 : FVec F S9216x1024 .f32 := Host.absf main_arg0
  let main_cst : FVec F S_ .f32 := constant S_ .f32 0x7F800000#32
  let main_v1 : FVec F S9216x1024 .f32 := broadcastInDim S9216x1024 ![] bcast_S_S9216x1024 main_cst
  let main_v2 : IVec S9216x1024 1 := cmpf .olt main_v0 main_v1
  let main_v3 : FVec F S8x3072 .f32 := Host.absf main_arg1
  let main_cst_0 : FVec F S_ .f32 := constant S_ .f32 0x7F800000#32
  let main_v4 : FVec F S8x3072 .f32 := broadcastInDim S8x3072 ![] bcast_S_S8x3072 main_cst_0
  let main_v5 : IVec S8x3072 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S6912x1024 .f32 := Host.absf main_arg3
  let main_cst_2 : FVec F S_ .f32 := constant S_ .f32 0x7F800000#32
  let main_v10 : FVec F S6912x1024 .f32 := broadcastInDim S6912x1024 ![] bcast_S_S6912x1024 main_cst_2
  let main_v11 : IVec S6912x1024 1 := cmpf .olt main_v9 main_v10
  let main_v12 : FVec F S9216x6912 .f32 := Host.absf main_arg4
  let main_cst_3 : FVec F S_ .f32 := constant S_ .f32 0x7F800000#32
  let main_v13 : FVec F S9216x6912 .f32 := broadcastInDim S9216x6912 ![] bcast_S_S9216x6912 main_cst_3
  let main_v14 : IVec S9216x6912 1 := cmpf .olt main_v12 main_v13
  (main_v2, main_v5, main_v8, main_v11, main_v14)
-- ==== Pre_finite_fwd.lean ====
abbrev S4x2304x8x96 : Shape := ⟨4, ![4, 2304, 8, 96]⟩
abbrev S4x2304x8x128 : Shape := ⟨4, ![4, 2304, 8, 128]⟩
abbrev S4x2304x32 : Shape := ⟨3, ![4, 2304, 32]⟩
abbrev S_ : Shape := ⟨0, ![]⟩

class Facts : Prop where
  bcast_S_S4x2304x8x96 : S_.BroadcastsInDim S4x2304x8x96 (![] : Fin 0 → Fin S4x2304x8x96.rank)
  bcast_S_S4x2304x8x128 : S_.BroadcastsInDim S4x2304x8x128 (![] : Fin 0 → Fin S4x2304x8x128.rank)
  bcast_S_S4x2304x32 : S_.BroadcastsInDim S4x2304x32 (![] : Fin 0 → Fin S4x2304x32.rank)

variable [Facts]

def fn {F : FTy → Type} [FloatOps F] (main_arg0 : FVec F S4x2304x8x96 .f32) (main_arg1 : FVec F S4x2304x8x128 .f32) (main_arg2 : FVec F S4x2304x32 .f32) : IVec S4x2304x8x96 1 × IVec S4x2304x8x128 1 × IVec S4x2304x32 1 :=
  let main_v0 : FVec F S4x2304x8x96 .f32 := Host.absf main_arg0
  let main_cst : FVec F S_ .f32 := constant S_ .f32 0x7F800000#32
  let main_v1 : FVec F S4x2304x8x96 .f32 := broadcastInDim S4x2304x8x96 ![] bcast_S_S4x2304x8x96 main_cst
  let main_v2 : IVec S4x2304x8x96 1 := cmpf .olt main_v0 main_v1
  let main_v3 : FVec F S4x2304x8x128 .f32 := Host.absf main_arg1
  let main_cst_0 : FVec F S_ .f32 := constant S_ .f32 0x7F800000#32
  let main_v4 : FVec F S4x2304x8x128 .f32 := broadcastInDim S4x2304x8x128 ![] bcast_S_S4x2304x8x128 main_cst_0
  let main_v5 : IVec S4x2304x8x128 1 := cmpf .olt main_v3 main_v4
  let main_v6 : FVec F S4x2304x32 .f32 := Host.absf main_arg2
  let main_cst_1 : FVec F S_ .f32 := constant S_ .f32 0x7F800000#32
  let main_v7 : FVec F S4x2304x32 .f32 := broadcastInDim S4x2304x32 ![] bcast_S_S4x2304x32 main_cst_1
  let main_v8 : IVec S4x2304x32 1 := cmpf .olt main_v6 main_v7
  (main_v2, main_v5, main_v8)
-- ==== Pre_finite_split.lean ====
abbrev S9216x6912 : Shape := ⟨2, ![9216, 6912]⟩
abbrev S9216x512 : Shape := ⟨2, ![9216, 512]⟩
abbrev S1x128 : Shape := ⟨2, ![1, 128]⟩
abbrev S512x1024 : Shape := ⟨2, ![512, 1024]⟩
abbrev S1024x1024 : Shape := ⟨2, ![1024, 1024]⟩
abbrev S8x3072 : Shape := ⟨2, ![8, 3072]⟩
abbrev S1x1024 : Shape := ⟨2, ![1, 1024]⟩
abbrev S9216x1024 : Shape := ⟨2, ![9216, 1024]⟩
abbrev S_ : Shape := ⟨0, ![]⟩

class Facts : Prop where
  bcast_S_S9216x6912 : S_.BroadcastsInDim S9216x6912 (![] : Fin 0 → Fin S9216x6912.rank)
  bcast_S_S9216x512 : S_.BroadcastsInDim S9216x512 (![] : Fin 0 → Fin S9216x512.rank)
  bcast_S_S1x128 : S_.BroadcastsInDim S1x128 (![] : Fin 0 → Fin S1x128.rank)
  bcast_S_S512x1024 : S_.BroadcastsInDim S512x1024 (![] : Fin 0 → Fin S512x1024.rank)
  bcast_S_S1024x1024 : S_.BroadcastsInDim S1024x1024 (![] : Fin 0 → Fin S1024x1024.rank)
  bcast_S_S8x3072 : S_.BroadcastsInDim S8x3072 (![] : Fin 0 → Fin S8x3072.rank)
  bcast_S_S1x1024 : S_.BroadcastsInDim S1x1024 (![] : Fin 0 → Fin S1x1024.rank)
  bcast_S_S9216x1024 : S_.BroadcastsInDim S9216x1024 (![] : Fin 0 → Fin S9216x1024.rank)

variable [Facts]

def fn_part2 {F : FTy → Type} [FloatOps F] (main_arg12 : FVec F S9216x1024 .f32) (main_v2 : IVec S9216x6912 1) (main_v5 : IVec S9216x512 1) (main_v8 : IVec S9216x512 1) (main_v11 : IVec S9216x512 1) (main_v14 : IVec S9216x512 1) (main_v17 : IVec S1x128 1) (main_v20 : IVec S512x1024 1) (main_v23 : IVec S512x1024 1) (main_v26 : IVec S512x1024 1) (main_v29 : IVec S1024x1024 1) (main_v32 : IVec S8x3072 1) (main_v35 : IVec S1x1024 1) : IVec S9216x6912 1 × IVec S9216x512 1 × IVec S9216x512 1 × IVec S9216x512 1 × IVec S9216x512 1 × IVec S1x128 1 × IVec S512x1024 1 × IVec S512x1024 1 × IVec S512x1024 1 × IVec S1024x1024 1 × IVec S8x3072 1 × IVec S1x1024 1 × IVec S9216x1024 1 :=
  let main_v36 : FVec F S9216x1024 .f32 := Host.absf main_arg12
  let main_cst_11 : FVec F S_ .f32 := constant S_ .f32 0x7F800000#32
  let main_v37 : FVec F S9216x1024 .f32 := broadcastInDim S9216x1024 ![] bcast_S_S9216x1024 main_cst_11
  let main_v38 : IVec S9216x1024 1 := cmpf .olt main_v36 main_v37
  (main_v2, main_v5, main_v8, main_v11, main_v14, main_v17, main_v20, main_v23, main_v26, main_v29, main_v32, main_v35, main_v38)

def fn_part1 {F : FTy → Type} [FloatOps F] (main_arg6 : FVec F S512x1024 .f32) (main_arg7 : FVec F S512x1024 .f32) (main_arg8 : FVec F S512x1024 .f32) (main_arg9 : FVec F S1024x1024 .f32) (main_arg10 : FVec F S8x3072 .f32) (main_arg11 : FVec F S1x1024 .f32) (main_arg12 : FVec F S9216x1024 .f32) (main_v2 : IVec S9216x6912 1) (main_v5 : IVec S9216x512 1) (main_v8 : IVec S9216x512 1) (main_v11 : IVec S9216x512 1) (main_v14 : IVec S9216x512 1) (main_v17 : IVec S1x128 1) : IVec S9216x6912 1 × IVec S9216x512 1 × IVec S9216x512 1 × IVec S9216x512 1 × IVec S9216x512 1 × IVec S1x128 1 × IVec S512x1024 1 × IVec S512x1024 1 × IVec S512x1024 1 × IVec S1024x1024 1 × IVec S8x3072 1 × IVec S1x1024 1 × IVec S9216x1024 1 :=
  let main_v18 : FVec F S512x1024 .f32 := Host.absf main_arg6
  let main_cst_5 : FVec F S_ .f32 := constant S_ .f32 0x7F800000#32
  let main_v19 : FVec F S512x1024 .f32 := broadcastInDim S512x1024 ![] bcast_S_S512x1024 main_cst_5
  let main_v20 : IVec S512x1024 1 := cmpf .olt main_v18 main_v19
  let main_v21 : FVec F S512x1024 .f32 := Host.absf main_arg7
  let main_cst_6 : FVec F S_ .f32 := constant S_ .f32 0x7F800000#32
  let main_v22 : FVec F S512x1024 .f32 := broadcastInDim S512x1024 ![] bcast_S_S512x1024 main_cst_6
  let main_v23 : IVec S512x1024 1 := cmpf .olt main_v21 main_v22
  let main_v24 : FVec F S512x1024 .f32 := Host.absf main_arg8
  let main_cst_7 : FVec F S_ .f32 := constant S_ .f32 0x7F800000#32
  let main_v25 : FVec F S512x1024 .f32 := broadcastInDim S512x1024 ![] bcast_S_S512x1024 main_cst_7
  let main_v26 : IVec S512x1024 1 := cmpf .olt main_v24 main_v25
  let main_v27 : FVec F S1024x1024 .f32 := Host.absf main_arg9
  let main_cst_8 : FVec F S_ .f32 := constant S_ .f32 0x7F800000#32
  let main_v28 : FVec F S1024x1024 .f32 := broadcastInDim S1024x1024 ![] bcast_S_S1024x1024 main_cst_8
  let main_v29 : IVec S1024x1024 1 := cmpf .olt main_v27 main_v28
  let main_v30 : FVec F S8x3072 .f32 := Host.absf main_arg10
  let main_cst_9 : FVec F S_ .f32 := constant S_ .f32 0x7F800000#32
  let main_v31 : FVec F S8x3072 .f32 := broadcastInDim S8x3072 ![] bcast_S_S8x3072 main_cst_9
  let main_v32 : IVec S8x3072 1 := cmpf .olt main_v30 main_v31
  let main_v33 : FVec F S1x1024 .f32 := Host.absf main_arg11
  let main_cst_10 : FVec F S_ .f32 := constant S_ .f32 0x7F800000#32
  let main_v34 : FVec F S1x1024 .f32 := broadcastInDim S1x1024 ![] bcast_S_S1x1024 main_cst_10
  let main_v35 : IVec S1x1024 1 := cmpf .olt main_v33 main_v34
  fn_part2 (F := F) main_arg12 main_v2 main_v5 main_v8 main_v11 main_v14 main_v17 main_v20 main_v23 main_v26 main_v29 main_v32 main_v35

def fn {F : FTy → Type} [FloatOps F] (main_arg0 : FVec F S9216x6912 .f32) (main_arg1 : FVec F S9216x512 .f32) (main_arg2 : FVec F S9216x512 .f32) (main_arg3 : FVec F S9216x512 .f32) (main_arg4 : FVec F S9216x512 .f32) (main_arg5 : FVec F S1x128 .f32) (main_arg6 : FVec F S512x1024 .f32) (main_arg7 : FVec F S512x1024 .f32) (main_arg8 : FVec F S512x1024 .f32) (main_arg9 : FVec F S1024x1024 .f32) (main_arg10 : FVec F S8x3072 .f32) (main_arg11 : FVec F S1x1024 .f32) (main_arg12 : FVec F S9216x1024 .f32) : IVec S9216x6912 1 × IVec S9216x512 1 × IVec S9216x512 1 × IVec S9216x512 1 × IVec S9216x512 1 × IVec S1x128 1 × IVec S512x1024 1 × IVec S512x1024 1 × IVec S512x1024 1 × IVec S1024x1024 1 × IVec S8x3072 1 × IVec S1x1024 1 × IVec S9216x1024 1 :=
  let main_v0 : FVec F S9216x6912 .f32 := Host.absf main_arg0
  let main_cst : FVec F S_ .f32 := constant S_ .f32 0x7F800000#32
  let main_v1 : FVec F S9216x6912 .f32 := broadcastInDim S9216x6912 ![] bcast_S_S9216x6912 main_cst
  let main_v2 : IVec S9216x6912 1 := cmpf .olt main_v0 main_v1
  let main_v3 : FVec F S9216x512 .f32 := Host.absf main_arg1
  let main_cst_0 : FVec F S_ .f32 := constant S_ .f32 0x7F800000#32
  let main_v4 : FVec F S9216x512 .f32 := broadcastInDim S9216x512 ![] bcast_S_S9216x512 main_cst_0
  let main_v5 : IVec S9216x512 1 := cmpf .olt main_v3 main_v4
  let main_v6 : FVec F S9216x512 .f32 := Host.absf main_arg2
  let main_cst_1 : FVec F S_ .f32 := constant S_ .f32 0x7F800000#32
  let main_v7 : FVec F S9216x512 .f32 := broadcastInDim S9216x512 ![] bcast_S_S9216x512 main_cst_1
  let main_v8 : IVec S9216x512 1 := cmpf .olt main_v6 main_v7
  let main_v9 : FVec F S9216x512 .f32 := Host.absf main_arg3
  let main_cst_2 : FVec F S_ .f32 := constant S_ .f32 0x7F800000#32
  let main_v10 : FVec F S9216x512 .f32 := broadcastInDim S9216x512 ![] bcast_S_S9216x512 main_cst_2
  let main_v11 : IVec S9216x512 1 := cmpf .olt main_v9 main_v10
  let main_v12 : FVec F S9216x512 .f32 := Host.absf main_arg4
  let main_cst_3 : FVec F S_ .f32 := constant S_ .f32 0x7F800000#32
  let main_v13 : FVec F S9216x512 .f32 := broadcastInDim S9216x512 ![] bcast_S_S9216x512 main_cst_3
  let main_v14 : IVec S9216x512 1 := cmpf .olt main_v12 main_v13
  let main_v15 : FVec F S1x128 .f32 := Host.absf main_arg5
  let main_cst_4 : FVec F S_ .f32 := constant S_ .f32 0x7F800000#32
  let main_v16 : FVec F S1x128 .f32 := broadcastInDim S1x128 ![] bcast_S_S1x128 main_cst_4
  let main_v17 : IVec S1x128 1 := cmpf .olt main_v15 main_v16
  fn_part1 (F := F) main_arg6 main_arg7 main_arg8 main_arg9 main_arg10 main_arg11 main_arg12 main_v2 main_v5 main_v8 main_v11 main_v14 main_v17
-- ==== Kernel.lean ====
abbrev S4x2304x8x96 : Shape := ⟨4, ![4, 2304, 8, 96]⟩
abbrev S4x2304x8x128 : Shape := ⟨4, ![4, 2304, 8, 128]⟩
abbrev S4x2304x32 : Shape := ⟨3, ![4, 2304, 32]⟩
abbrev S4x2304x8x64 : Shape := ⟨4, ![4, 2304, 8, 64]⟩
abbrev S_ : Shape := ⟨0, ![]⟩
abbrev S9216x768 : Shape := ⟨2, ![9216, 768]⟩
abbrev S9216x8x96 : Shape := ⟨3, ![9216, 8, 96]⟩
abbrev S9216x8x128 : Shape := ⟨3, ![9216, 8, 128]⟩
abbrev S9216x1024 : Shape := ⟨2, ![9216, 1024]⟩
abbrev S9216x32 : Shape := ⟨2, ![9216, 32]⟩
abbrev S9216x128 : Shape := ⟨2, ![9216, 128]⟩
abbrev S4x2304x1x32 : Shape := ⟨4, ![4, 2304, 1, 32]⟩
abbrev S4x2304x8x32 : Shape := ⟨4, ![4, 2304, 8, 32]⟩
abbrev S4x256x8x96 : Shape := ⟨4, ![4, 256, 8, 96]⟩
abbrev S4x256x8x64 : Shape := ⟨4, ![4, 256, 8, 64]⟩
abbrev S4x8x256x256 : Shape := ⟨4, ![4, 8, 256, 256]⟩
abbrev S4x8x256 : Shape := ⟨3, ![4, 8, 256]⟩
abbrev S4x8x256x1 : Shape := ⟨4, ![4, 8, 256, 1]⟩
abbrev S4x8x64x256 : Shape := ⟨4, ![4, 8, 64, 256]⟩
abbrev S4x2048x8x96 : Shape := ⟨4, ![4, 2048, 8, 96]⟩
abbrev S4x8x2048x2304 : Shape := ⟨4, ![4, 8, 2048, 2304]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x2048x8x64 : Shape := ⟨4, ![4, 2048, 8, 64]⟩
abbrev S9216x512 : Shape := ⟨2, ![9216, 512]⟩
abbrev S4x8x2304 : Shape := ⟨3, ![4, 8, 2304]⟩
abbrev S4x4x2x2304 : Shape := ⟨4, ![4, 4, 2, 2304]⟩
abbrev S4x4x2304x2 : Shape := ⟨4, ![4, 4, 2304, 2]⟩
abbrev S4x9216x2 : Shape := ⟨3, ![4, 9216, 2]⟩
abbrev S256x256 : Shape := ⟨2, ![256, 256]⟩
abbrev S2304x256 : Shape := ⟨2, ![2304, 256]⟩
abbrev S2304x128 : Shape := ⟨2, ![2304, 128]⟩
abbrev S256x128 : Shape := ⟨2, ![256, 128]⟩
abbrev S1x256x2 : Shape := ⟨3, ![1, 256, 2]⟩
abbrev S256x2 : Shape := ⟨2, ![256, 2]⟩
abbrev S256 : Shape := ⟨1, ![256]⟩
abbrev S256x1 : Shape := ⟨2, ![256, 1]⟩
abbrev S256x2304 : Shape := ⟨2, ![256, 2304]⟩

abbrev nBuf : Space → Nat
  | .hbm => 110
  | .vmem => 18
  | .smem => 0
  | _ => 0

abbrev bufTy : (tb : Table) → Fin (tcTables nBuf tb) → BufTy
  | .hbm, ⟨0, _⟩ => ⟨S4x2304x8x96, .f32⟩
  | .hbm, ⟨1, _⟩ => ⟨S4x2304x8x128, .f32⟩
  | .hbm, ⟨2, _⟩ => ⟨S4x2304x32, .f32⟩
  | .hbm, ⟨3, _⟩ => ⟨S4x2304x8x64, .f32⟩
  | .hbm, ⟨4, _⟩ => ⟨S_, .f32⟩
  | .hbm, ⟨5, _⟩ => ⟨S4x2304x8x96, .f32⟩
  | .hbm, ⟨6, _⟩ => ⟨S4x2304x8x96, .f32⟩
  | .hbm, ⟨7, _⟩ => ⟨S_, .f32⟩
  | .hbm, ⟨8, _⟩ => ⟨S4x2304x8x96, .f32⟩
  | .hbm, ⟨9, _⟩ => ⟨S4x2304x8x96, .f32⟩
  | .hbm, ⟨10, _⟩ => ⟨S9216x768, .f32⟩
  | .hbm, ⟨11, _⟩ => ⟨S9216x8x96, .f32⟩
  | .hbm, ⟨12, _⟩ => ⟨S_, .i32⟩
  | .hbm, ⟨13, _⟩ => ⟨S_, .f32⟩
  | .hbm, ⟨14, _⟩ => ⟨S9216x8x128, .f32⟩
  | .hbm, ⟨15, _⟩ => ⟨S9216x1024, .f32⟩
  | .hbm, ⟨16, _⟩ => ⟨S9216x1024, .bf16⟩
  | .hbm, ⟨17, _⟩ => ⟨S9216x1024, .f32⟩
  | .hbm, ⟨18, _⟩ => ⟨S9216x1024, .bf16⟩
  | .hbm, ⟨19, _⟩ => ⟨S9216x32, .f32⟩
  | .hbm, ⟨20, _⟩ => ⟨S_, .i32⟩
  | .hbm, ⟨21, _⟩ => ⟨S_, .f32⟩
  | .hbm, ⟨22, _⟩ => ⟨S9216x128, .f32⟩
  | .hbm, ⟨23, _⟩ => ⟨S9216x128, .bf16⟩
  | .hbm, ⟨24, _⟩ => ⟨S4x2304x8x64, .f32⟩
  | .hbm, ⟨25, _⟩ => ⟨S4x2304x1x32, .f32⟩
  | .hbm, ⟨26, _⟩ => ⟨S4x2304x8x32, .f32⟩
  | .hbm, ⟨27, _⟩ => ⟨S4x2304x8x96, .f32⟩
  | .hbm, ⟨28, _⟩ => ⟨S4x2304x8x64, .f32⟩
  | .hbm, ⟨29, _⟩ => ⟨S4x256x8x96, .f32⟩
  | .hbm, ⟨30, _⟩ => ⟨S4x256x8x96, .f32⟩
  | .hbm, ⟨31, _⟩ => ⟨S4x256x8x64, .f32⟩
  | .hbm, ⟨32, _⟩ => ⟨S4x8x256x256, .f32⟩
  | .hbm, ⟨33, _⟩ => ⟨S_, .f32⟩
  | .hbm, ⟨34, _⟩ => ⟨S4x8x256, .f32⟩
  | .hbm, ⟨35, _⟩ => ⟨S_, .f32⟩
  | .hbm, ⟨36, _⟩ => ⟨S4x8x256, .f32⟩
  | .hbm, ⟨37, _⟩ => ⟨S4x8x256, .f32⟩
  | .hbm, ⟨38, _⟩ => ⟨S4x8x256x1, .f32⟩
  | .hbm, ⟨39, _⟩ => ⟨S4x8x256x256, .f32⟩
  | .hbm, ⟨40, _⟩ => ⟨S4x8x256x256, .f32⟩
  | .hbm, ⟨41, _⟩ => ⟨S4x8x256x256, .f32⟩
  | .hbm, ⟨42, _⟩ => ⟨S_, .f32⟩
  | .hbm, ⟨43, _⟩ => ⟨S4x8x256, .f32⟩
  | .hbm, ⟨44, _⟩ => ⟨S4x8x256x1, .f32⟩
  | .hbm, ⟨45, _⟩ => ⟨S4x8x256x256, .f32⟩
  | .hbm, ⟨46, _⟩ => ⟨S4x8x256x256, .f32⟩
  | .hbm, ⟨47, _⟩ => ⟨S4x8x64x256, .f32⟩
  | .hbm, ⟨48, _⟩ => ⟨S4x256x8x64, .f32⟩
  | .hbm, ⟨49, _⟩ => ⟨S4x2048x8x96, .f32⟩
  | .hbm, ⟨50, _⟩ => ⟨S4x8x2048x2304, .f32⟩
  | .hbm, ⟨51, _⟩ => ⟨S_, .f32⟩
  | .hbm, ⟨52, _⟩ => ⟨S4x8x2048, .f32⟩
  | .hbm, ⟨53, _⟩ => ⟨S_, .f32⟩
  | .hbm, ⟨54, _⟩ => ⟨S4x8x2048, .f32⟩
  | .hbm, ⟨55, _⟩ => ⟨S4x8x2048, .f32⟩
  | .hbm, ⟨56, _⟩ => ⟨S4x8x2048x1, .f32⟩
  | .hbm, ⟨57, _⟩ => ⟨S4x8x2048x2304, .f32⟩
  | .hbm, ⟨58, _⟩ => ⟨S4x8x2048x2304, .f32⟩
  | .hbm, ⟨59, _⟩ => ⟨S4x8x2048x2304, .f32⟩
  | .hbm, ⟨60, _⟩ => ⟨S_, .f32⟩
  | .hbm, ⟨61, _⟩ => ⟨S4x8x2048, .f32⟩
  | .hbm, ⟨62, _⟩ => ⟨S4x8x2048x1, .f32⟩
  | .hbm, ⟨63, _⟩ => ⟨S4x8x2048x2304, .f32⟩
  | .hbm, ⟨64, _⟩ => ⟨S4x8x2048x2304, .f32⟩
  | .hbm, ⟨65, _⟩ => ⟨S4x8x64x2048, .f32⟩
  | .hbm, ⟨66, _⟩ => ⟨S4x2048x8x64, .f32⟩
  | .hbm, ⟨67, _⟩ => ⟨S4x2304x8x64, .f32⟩
  | .hbm, ⟨68, _⟩ => ⟨S9216x512, .f32⟩
  | .hbm, ⟨69, _⟩ => ⟨S4x2304x8x64, .f32⟩
  | .hbm, ⟨70, _⟩ => ⟨S4x2304x1x32, .f32⟩
  | .hbm, ⟨71, _⟩ => ⟨S4x2304x8x32, .f32⟩
  | .hbm, ⟨72, _⟩ => ⟨S4x2304x8x96, .f32⟩
  | .hbm, ⟨73, _⟩ => ⟨S4x256x8x96, .f32⟩
  | .hbm, ⟨74, _⟩ => ⟨S4x256x8x96, .f32⟩
  | .hbm, ⟨75, _⟩ => ⟨S4x8x256x256, .f32⟩
  | .hbm, ⟨76, _⟩ => ⟨S_, .f32⟩
  | .hbm, ⟨77, _⟩ => ⟨S4x8x256, .f32⟩
  | .hbm, ⟨78, _⟩ => ⟨S4x8x256x1, .f32⟩
  | .hbm, ⟨79, _⟩ => ⟨S4x8x256x256, .f32⟩
  | .hbm, ⟨80, _⟩ => ⟨S4x8x256x256, .f32⟩
  | .hbm, ⟨81, _⟩ => ⟨S4x8x256x256, .f32⟩
  | .hbm, ⟨82, _⟩ => ⟨S_, .f32⟩
  | .hbm, ⟨83, _⟩ => ⟨S4x8x256, .f32⟩
  | .hbm, ⟨84, _⟩ => ⟨S4x8x256x1, .f32⟩
  | .hbm, ⟨85, _⟩ => ⟨S4x8x256x1, .f32⟩
  | .hbm, ⟨86, _⟩ => ⟨S4x8x256x1, .f32⟩
  | .hbm, ⟨87, _⟩ => ⟨S4x8x256, .f32⟩
  | .hbm, ⟨88, _⟩ => ⟨S4x2048x8x96, .f32⟩
  | .hbm, ⟨89, _⟩ => ⟨S4x8x2048x2304, .f32⟩
  | .hbm, ⟨90, _⟩ => ⟨S_, .f32⟩
  | .hbm, ⟨91, _⟩ => ⟨S4x8x2048, .f32⟩
  | .hbm, ⟨92, _⟩ => ⟨S4x8x2048x1, .f32⟩
  | .hbm, ⟨93, _⟩ => ⟨S4x8x2048x2304, .f32⟩
  | .hbm, ⟨94, _⟩ => ⟨S4x8x2048x2304, .f32⟩
  | .hbm, ⟨95, _⟩ => ⟨S4x8x2048x2304, .f32⟩
  | .hbm, ⟨96, _⟩ => ⟨S_, .f32⟩
  | .hbm, ⟨97, _⟩ => ⟨S4x8x2048, .f32⟩
  | .hbm, ⟨98, _⟩ => ⟨S4x8x2048x1, .f32⟩
  | .hbm, ⟨99, _⟩ => ⟨S4x8x2048x1, .f32⟩
  | .hbm, ⟨100, _⟩ => ⟨S4x8x2048x1, .f32⟩
  | .hbm, ⟨101, _⟩ => ⟨S4x8x2048, .f32⟩
  | .hbm, ⟨102, _⟩ => ⟨S4x8x2304, .f32⟩
  | .hbm, ⟨103, _⟩ => ⟨S4x4x2x2304, .f32⟩
  | .hbm, ⟨104, _⟩ => ⟨S4x4x2304x2, .f32⟩
  | .hbm, ⟨105, _⟩ => ⟨S4x9216x2, .f32⟩
  | .hbm, ⟨106, _⟩ => ⟨S9216x512, .f32⟩
  | .hbm, ⟨107, _⟩ => ⟨S9216x1024, .f32⟩
  | .hbm, ⟨108, _⟩ => ⟨S9216x1024, .f32⟩
  | .hbm, ⟨109, _⟩ => ⟨S9216x128, .f32⟩
  | .local _ .vmem, ⟨0, _⟩ => ⟨S256x256, .bf16⟩
  | .local _ .vmem, ⟨1, _⟩ => ⟨S256x256, .bf16⟩
  | .local _ .vmem, ⟨2, _⟩ => ⟨S2304x256, .bf16⟩
  | .local _ .vmem, ⟨3, _⟩ => ⟨S2304x256, .bf16⟩
  | .local _ .vmem, ⟨4, _⟩ => ⟨S2304x128, .bf16⟩
  | .local _ .vmem, ⟨5, _⟩ => ⟨S2304x128, .bf16⟩
  | .local _ .vmem, ⟨6, _⟩ => ⟨S256x128, .f32⟩
  | .local _ .vmem, ⟨7, _⟩ => ⟨S256x128, .f32⟩
  | .local _ .vmem, ⟨8, _⟩ => ⟨S1x256x2, .f32⟩
  | .local _ .vmem, ⟨9, _⟩ => ⟨S1x256x2, .f32⟩
  | .local _ .vmem, ⟨10, _⟩ => ⟨S256x128, .f32⟩
  | .local _ .vmem, ⟨11, _⟩ => ⟨S256x128, .f32⟩
  | .local _ .vmem, ⟨12, _⟩ => ⟨S256x256, .f32⟩
  | .local _ .vmem, ⟨13, _⟩ => ⟨S256x256, .f32⟩
  | .local _ .vmem, ⟨14, _⟩ => ⟨S2304x256, .f32⟩
  | .local _ .vmem, ⟨15, _⟩ => ⟨S2304x256, .f32⟩
  | .local _ .vmem, ⟨16, _⟩ => ⟨S2304x128, .f32⟩
  | .local _ .vmem, ⟨17, _⟩ => ⟨S2304x128, .f32⟩
  | _, _ => ⟨S4x2304x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_9 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_10 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_11 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87_0 : Ref sig .tc := ⟨.hbm, 107, rfl⟩
abbrev main_v87_1 : Ref sig .tc := ⟨.hbm, 108, rfl⟩
abbrev main_v87_2 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 9], ![false, false, false]⟩

def k0_cond3 (i : grid0.Coords) : BitVec 1 :=
  let arg2 : BitVec 32 := BitVec.ofNat 32 (i 2).val
  let c0_i32_4 : BitVec 32 := 0#32
  let v8 : BitVec 1 := Scalar.cmpi .eq arg2 c0_i32_4
  let v9 : BitVec 32 := Scalar.extui v8
  let c0_i32_5 : BitVec 32 := 0#32
  let v10 : BitVec 1 := Scalar.cmpi .ne v9 c0_i32_5
  v10

def k0_cond4 (i : grid0.Coords) : BitVec 1 :=
  let arg2 : BitVec 32 := BitVec.ofNat 32 (i 2).val
  let c0_i32_6 : BitVec 32 := 0#32
  let v11 : BitVec 1 := Scalar.cmpi .ne arg2 c0_i32_6
  let v12 : BitVec 32 := Scalar.extui v11
  let c0_i32_7 : BitVec 32 := 0#32
  let v13 : BitVec 1 := Scalar.cmpi .ne v12 c0_i32_7
  v13

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  let c0_i32_0 : BitVec 32 := 0#32
  ![arg1.toNat, v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S2304x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2304x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== ReferenceIdeal.lean ====
abbrev S4x2304x8x96 : Shape := ⟨4, ![4, 2304, 8, 96]⟩
abbrev S4x2304x8x128 : Shape := ⟨4, ![4, 2304, 8, 128]⟩
abbrev S4x2304x32 : Shape := ⟨3, ![4, 2304, 32]⟩
abbrev S4x2304x8x64 : Shape := ⟨4, ![4, 2304, 8, 64]⟩
abbrev S_ : Shape := ⟨0, ![]⟩
abbrev S4x2304x1x32 : Shape := ⟨4, ![4, 2304, 1, 32]⟩
abbrev S4x2304x8x32 : Shape := ⟨4, ![4, 2304, 8, 32]⟩
abbrev S4x256x8x96 : Shape := ⟨4, ![4, 256, 8, 96]⟩
abbrev S4x256x8x64 : Shape := ⟨4, ![4, 256, 8, 64]⟩
abbrev S4x8x256x256 : Shape := ⟨4, ![4, 8, 256, 256]⟩
abbrev S4x8x256 : Shape := ⟨3, ![4, 8, 256]⟩
abbrev S4x8x256x1 : Shape := ⟨4, ![4, 8, 256, 1]⟩
abbrev S4x8x64x256 : Shape := ⟨4, ![4, 8, 64, 256]⟩
abbrev S4x2048x8x96 : Shape := ⟨4, ![4, 2048, 8, 96]⟩
abbrev S4x8x2048x2304 : Shape := ⟨4, ![4, 8, 2048, 2304]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x2048x8x64 : Shape := ⟨4, ![4, 2048, 8, 64]⟩
abbrev S4x8x64x2304 : Shape := ⟨4, ![4, 8, 64, 2304]⟩
abbrev S4x8x2304x96 : Shape := ⟨4, ![4, 8, 2304, 96]⟩
abbrev S4x8x2048x96 : Shape := ⟨4, ![4, 8, 2048, 96]⟩
abbrev S4x8x256x96 : Shape := ⟨4, ![4, 8, 256, 96]⟩
abbrev S4x2304x128 : Shape := ⟨3, ![4, 2304, 128]⟩
abbrev S9216x1024 : Shape := ⟨2, ![9216, 1024]⟩
abbrev S9216x128 : Shape := ⟨2, ![9216, 128]⟩

abbrev nBuf : Space → Nat
  | .hbm => 177
  | .vmem => 0
  | .smem => 0
  | _ => 0

abbrev hbmTy0_0 (i : Nat) : BufTy := match i % 128 with
  | 0 => ⟨S4x2304x8x96, .f32⟩
  | 1 => ⟨S4x2304x8x128, .f32⟩
  | 2 => ⟨S4x2304x32, .f32⟩
  | 3 => ⟨S4x2304x8x64, .f32⟩
  | 4 => ⟨S_, .f32⟩
  | 5 => ⟨S4x2304x8x96, .f32⟩
  | 6 => ⟨S4x2304x8x96, .f32⟩
  | 7 => ⟨S4x2304x8x64, .f32⟩
  | 8 => ⟨S4x2304x1x32, .f32⟩
  | 9 => ⟨S4x2304x8x32, .f32⟩
  | 10 => ⟨S4x2304x8x96, .f32⟩
  | 11 => ⟨S4x2304x8x64, .f32⟩
  | 12 => ⟨S4x256x8x96, .f32⟩
  | 13 => ⟨S4x256x8x96, .f32⟩
  | 14 => ⟨S4x256x8x64, .f32⟩
  | 15 => ⟨S4x8x256x256, .f32⟩
  | 16 => ⟨S_, .f32⟩
  | 17 => ⟨S4x8x256, .f32⟩
  | 18 => ⟨S4x8x256x1, .f32⟩
  | 19 => ⟨S4x8x256x256, .f32⟩
  | 20 => ⟨S4x8x256x256, .i1⟩
  | 21 => ⟨S4x8x256x256, .f32⟩
  | 22 => ⟨S_, .f32⟩
  | 23 => ⟨S4x8x256, .f32⟩
  | 24 => ⟨S_, .f32⟩
  | 25 => ⟨S4x8x256, .f32⟩
  | 26 => ⟨S4x8x256, .f32⟩
  | 27 => ⟨S_, .f32⟩
  | 28 => ⟨S4x8x256, .f32⟩
  | 29 => ⟨S4x8x256, .i1⟩
  | 30 => ⟨S_, .f32⟩
  | 31 => ⟨S4x8x256, .f32⟩
  | 32 => ⟨S4x8x256, .i1⟩
  | 33 => ⟨S_, .f32⟩
  | 34 => ⟨S4x8x256, .f32⟩
  | 35 => ⟨S_, .f32⟩
  | 36 => ⟨S4x8x256, .f32⟩
  | 37 => ⟨S_, .f32⟩
  | 38 => ⟨S4x8x256, .f32⟩
  | 39 => ⟨S4x8x256, .f32⟩
  | 40 => ⟨S4x8x256, .f32⟩
  | 41 => ⟨S4x8x256x1, .f32⟩
  | 42 => ⟨S4x8x256x256, .f32⟩
  | 43 => ⟨S4x8x256x256, .f32⟩
  | 44 => ⟨S4x8x256x256, .f32⟩
  | 45 => ⟨S_, .f32⟩
  | 46 => ⟨S4x8x256, .f32⟩
  | 47 => ⟨S4x8x256x1, .f32⟩
  | 48 => ⟨S4x8x256x256, .f32⟩
  | 49 => ⟨S4x8x256x256, .f32⟩
  | 50 => ⟨S4x8x256x1, .f32⟩
  | 51 => ⟨S_, .f32⟩
  | 52 => ⟨S4x8x256x1, .f32⟩
  | 53 => ⟨S4x8x256x1, .f32⟩
  | 54 => ⟨S4x8x64x256, .f32⟩
  | 55 => ⟨S4x256x8x64, .f32⟩
  | 56 => ⟨S4x2048x8x96, .f32⟩
  | 57 => ⟨S4x8x2048x2304, .f32⟩
  | 58 => ⟨S_, .f32⟩
  | 59 => ⟨S4x8x2048, .f32⟩
  | 60 => ⟨S4x8x2048x1, .f32⟩
  | 61 => ⟨S4x8x2048x2304, .f32⟩
  | 62 => ⟨S4x8x2048x2304, .i1⟩
  | 63 => ⟨S4x8x2048x2304, .f32⟩
  | 64 => ⟨S_, .f32⟩
  | 65 => ⟨S4x8x2048, .f32⟩
  | 66 => ⟨S_, .f32⟩
  | 67 => ⟨S4x8x2048, .f32⟩
  | 68 => ⟨S4x8x2048, .f32⟩
  | 69 => ⟨S_, .f32⟩
  | 70 => ⟨S4x8x2048, .f32⟩
  | 71 => ⟨S4x8x2048, .i1⟩
  | 72 => ⟨S_, .f32⟩
  | 73 => ⟨S4x8x2048, .f32⟩
  | 74 => ⟨S4x8x2048, .i1⟩
  | 75 => ⟨S_, .f32⟩
  | 76 => ⟨S4x8x2048, .f32⟩
  | 77 => ⟨S_, .f32⟩
  | 78 => ⟨S4x8x2048, .f32⟩
  | 79 => ⟨S_, .f32⟩
  | 80 => ⟨S4x8x2048, .f32⟩
  | 81 => ⟨S4x8x2048, .f32⟩
  | 82 => ⟨S4x8x2048, .f32⟩
  | 83 => ⟨S4x8x2048x1, .f32⟩
  | 84 => ⟨S4x8x2048x2304, .f32⟩
  | 85 => ⟨S4x8x2048x2304, .f32⟩
  | 86 => ⟨S4x8x2048x2304, .f32⟩
  | 87 => ⟨S_, .f32⟩
  | 88 => ⟨S4x8x2048, .f32⟩
  | 89 => ⟨S4x8x2048x1, .f32⟩
  | 90 => ⟨S4x8x2048x2304, .f32⟩
  | 91 => ⟨S4x8x2048x2304, .f32⟩
  | 92 => ⟨S4x8x2048x1, .f32⟩
  | 93 => ⟨S_, .f32⟩
  | 94 => ⟨S4x8x2048x1, .f32⟩
  | 95 => ⟨S4x8x2048x1, .f32⟩
  | 96 => ⟨S4x8x64x2048, .f32⟩
  | 97 => ⟨S4x2048x8x64, .f32⟩
  | 98 => ⟨S4x2304x8x64, .f32⟩
  | 99 => ⟨S4x256x8x64, .f32⟩
  | 100 => ⟨S4x2048x8x64, .f32⟩
  | 101 => ⟨S4x8x64x2048, .f32⟩
  | 102 => ⟨S4x8x2048x2304, .f32⟩
  | 103 => ⟨S4x8x64x2304, .f32⟩
  | 104 => ⟨S4x2304x8x64, .f32⟩
  | 105 => ⟨S4x8x2048x2304, .f32⟩
  | 106 => ⟨S4x8x2048x2304, .f32⟩
  | 107 => ⟨S4x8x2048x2304, .f32⟩
  | 108 => ⟨S_, .f32⟩
  | 109 => ⟨S4x8x2048, .f32⟩
  | 110 => ⟨S4x8x2048x1, .f32⟩
  | 111 => ⟨S4x8x2048x1, .f32⟩
  | 112 => ⟨S4x8x2048x2304, .f32⟩
  | 113 => ⟨S4x8x2048x2304, .f32⟩
  | 114 => ⟨S_, .f32⟩
  | 115 => ⟨S4x8x2048, .f32⟩
  | 116 => ⟨S4x8x2048x2304, .f32⟩
  | 117 => ⟨S4x8x2048x2304, .f32⟩
  | 118 => ⟨S4x8x2048x2304, .f32⟩
  | 119 => ⟨S4x8x2304x96, .f32⟩
  | 120 => ⟨S4x2304x8x96, .f32⟩
  | 121 => ⟨S4x8x2048x96, .f32⟩
  | 122 => ⟨S4x2048x8x96, .f32⟩
  | 123 => ⟨S_, .f32⟩
  | 124 => ⟨S4x2304x8x96, .f32⟩
  | 125 => ⟨S4x8x64x256, .f32⟩
  | 126 => ⟨S4x8x256x256, .f32⟩
  | 127 => ⟨S4x8x64x256, .f32⟩
  | _ => ⟨S4x2304x8x96, .f32⟩

abbrev hbmTy0_1 (i : Nat) : BufTy := match i % 128 with
  | 0 => ⟨S4x256x8x64, .f32⟩
  | 1 => ⟨S4x8x256x256, .f32⟩
  | 2 => ⟨S4x8x256x256, .f32⟩
  | 3 => ⟨S4x8x256x256, .f32⟩
  | 4 => ⟨S_, .f32⟩
  | 5 => ⟨S4x8x256, .f32⟩
  | 6 => ⟨S4x8x256x1, .f32⟩
  | 7 => ⟨S4x8x256x1, .f32⟩
  | 8 => ⟨S4x8x256x256, .f32⟩
  | 9 => ⟨S4x8x256x256, .f32⟩
  | 10 => ⟨S_, .f32⟩
  | 11 => ⟨S4x8x256, .f32⟩
  | 12 => ⟨S4x8x256x256, .f32⟩
  | 13 => ⟨S4x8x256x256, .f32⟩
  | 14 => ⟨S4x8x256x256, .f32⟩
  | 15 => ⟨S4x8x256x96, .f32⟩
  | 16 => ⟨S4x256x8x96, .f32⟩
  | 17 => ⟨S4x8x256x96, .f32⟩
  | 18 => ⟨S4x256x8x96, .f32⟩
  | 19 => ⟨S_, .f32⟩
  | 20 => ⟨S4x2304x8x64, .f32⟩
  | 21 => ⟨S4x2304x8x64, .f32⟩
  | 22 => ⟨S_, .f32⟩
  | 23 => ⟨S4x2304x8x96, .f32⟩
  | 24 => ⟨S4x2304x8x96, .f32⟩
  | 25 => ⟨S_, .f32⟩
  | 26 => ⟨S4x2304x8x96, .f32⟩
  | 27 => ⟨S4x2304x8x96, .f32⟩
  | 28 => ⟨S_, .f32⟩
  | 29 => ⟨S4x2304x8x128, .f32⟩
  | 30 => ⟨S4x2304x8x64, .f32⟩
  | 31 => ⟨S4x2304x8x32, .f32⟩
  | 32 => ⟨S_, .f32⟩
  | 33 => ⟨S4x2304x32, .f32⟩
  | 34 => ⟨S4x2304x1x32, .f32⟩
  | 35 => ⟨S_, .f32⟩
  | 36 => ⟨S4x2304x32, .f32⟩
  | 37 => ⟨S_, .f32⟩
  | 38 => ⟨S4x2304x8x128, .f32⟩
  | 39 => ⟨S4x2304x8x128, .f32⟩
  | 40 => ⟨S_, .i32⟩
  | 41 => ⟨S_, .f32⟩
  | 42 => ⟨S4x2304x8x128, .f32⟩
  | 43 => ⟨S_, .i32⟩
  | 44 => ⟨S_, .f32⟩
  | 45 => ⟨S4x2304x128, .f32⟩
  | 46 => ⟨S9216x1024, .f32⟩
  | 47 => ⟨S9216x1024, .f32⟩
  | 48 => ⟨S9216x128, .f32⟩
  | _ => ⟨S4x2304x8x96, .f32⟩

abbrev hbmTy (i : Nat) : BufTy := match i / 128 with
  | 0 => hbmTy0_0 i
  | 1 => hbmTy0_1 i
  | _ => ⟨S4x2304x8x96, .f32⟩

abbrev bufTy : (tb : Table) → Fin (tcTables nBuf tb) → BufTy
  | .hbm, ⟨i, _⟩ => hbmTy i
  | _, _ => ⟨S4x2304x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_cst_13 : Ref sig .tc := ⟨.hbm, 69, rfl⟩
abbrev main_v51 : Ref sig .tc := ⟨.hbm, 70, rfl⟩
abbrev main_v52 : Ref sig .tc := ⟨.hbm, 71, rfl⟩
abbrev main_cst_14 : Ref sig .tc := ⟨.hbm, 72, rfl⟩
abbrev main_v53 : Ref sig .tc := ⟨.hbm, 73, rfl⟩
abbrev main_v54 : Ref sig .tc := ⟨.hbm, 74, rfl⟩
abbrev main_cst_15 : Ref sig .tc := ⟨.hbm, 75, rfl⟩
abbrev main_v55 : Ref sig .tc := ⟨.hbm, 76, rfl⟩
abbrev main_cst_16 : Ref sig .tc := ⟨.hbm, 77, rfl⟩
abbrev main_v56 : Ref sig .tc := ⟨.hbm, 78, rfl⟩
abbrev main_cst_17 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_18 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_19 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_20 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_21 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_22 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_23 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_24 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_25 : Ref sig .tc := ⟨.hbm, 147, rfl⟩
abbrev main_v117 : Ref sig .tc := ⟨.hbm, 148, rfl⟩
abbrev main_v118 : Ref sig .tc := ⟨.hbm, 149, rfl⟩
abbrev main_cst_26 : Ref sig .tc := ⟨.hbm, 150, rfl⟩
abbrev main_v119 : Ref sig .tc := ⟨.hbm, 151, rfl⟩
abbrev main_v120 : Ref sig .tc := ⟨.hbm, 152, rfl⟩
abbrev main_cst_27 : Ref sig .tc := ⟨.hbm, 153, rfl⟩
abbrev main_v121 : Ref sig .tc := ⟨.hbm, 154, rfl⟩
abbrev main_v122 : Ref sig .tc := ⟨.hbm, 155, rfl⟩
abbrev main_cst_28 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_cst_29 : Ref sig .tc := ⟨.hbm, 160, rfl⟩
abbrev main_v126 : Ref sig .tc := ⟨.hbm, 161, rfl⟩
abbrev main_v127 : Ref sig .tc := ⟨.hbm, 162, rfl⟩
abbrev main_cst_30 : Ref sig .tc := ⟨.hbm, 163, rfl⟩
abbrev main_v128 : Ref sig .tc := ⟨.hbm, 164, rfl⟩
abbrev main_cst_31 : Ref sig .tc := ⟨.hbm, 165, rfl⟩
abbrev main_v129 : Ref sig .tc := ⟨.hbm, 166, rfl⟩
abbrev main_v130 : Ref sig .tc := ⟨.hbm, 167, rfl⟩
abbrev main_c : Ref sig .tc := ⟨.hbm, 168, rfl⟩
abbrev main_call0_v0 : Ref sig .tc := ⟨.hbm, 169, rfl⟩
abbrev main_v131 : Ref sig .tc := ⟨.hbm, 170, rfl⟩
abbrev main_c_32 : Ref sig .tc := ⟨.hbm, 171, rfl⟩
abbrev main_call1_v0 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩

abbrev nD : Nat := 1
abbrev τ : Topo := Topo.v7x

variable {F : FTy → Type} [FloatOps F]
-- ==== Fwd.lean ====
abbrev S4x2304x8x96 : Shape := ⟨4, ![4, 2304, 8, 96]⟩
abbrev S4x2304x8x128 : Shape := ⟨4, ![4, 2304, 8, 128]⟩
abbrev S4x2304x32 : Shape := ⟨3, ![4, 2304, 32]⟩
abbrev S_ : Shape := ⟨0, ![]⟩
abbrev S9216x768 : Shape := ⟨2, ![9216, 768]⟩
abbrev S9216x8x96 : Shape := ⟨3, ![9216, 8, 96]⟩
abbrev S9216x8x128 : Shape := ⟨3, ![9216, 8, 128]⟩
abbrev S9216x1024 : Shape := ⟨2, ![9216, 1024]⟩
abbrev S9216x32 : Shape := ⟨2, ![9216, 32]⟩
abbrev S9216x128 : Shape := ⟨2, ![9216, 128]⟩
abbrev S9216x512 : Shape := ⟨2, ![9216, 512]⟩
abbrev S4x9216x2 : Shape := ⟨3, ![4, 9216, 2]⟩
abbrev S256x256 : Shape := ⟨2, ![256, 256]⟩
abbrev S2304x256 : Shape := ⟨2, ![2304, 256]⟩
abbrev S2304x128 : Shape := ⟨2, ![2304, 128]⟩
abbrev S256x128 : Shape := ⟨2, ![256, 128]⟩
abbrev S1x256x2 : Shape := ⟨3, ![1, 256, 2]⟩
abbrev S256 : Shape := ⟨1, ![256]⟩
abbrev S256x1 : Shape := ⟨2, ![256, 1]⟩
abbrev S256x2 : Shape := ⟨2, ![256, 2]⟩
abbrev S256x2304 : Shape := ⟨2, ![256, 2304]⟩

abbrev nBuf : Space → Nat
  | .hbm => 22
  | .vmem => 10
  | .smem => 0
  | _ => 0

abbrev bufTy : (tb : Table) → Fin (tcTables nBuf tb) → BufTy
  | .hbm, ⟨0, _⟩ => ⟨S4x2304x8x96, .f32⟩
  | .hbm, ⟨1, _⟩ => ⟨S4x2304x8x128, .f32⟩
  | .hbm, ⟨2, _⟩ => ⟨S4x2304x32, .f32⟩
  | .hbm, ⟨3, _⟩ => ⟨S_, .f32⟩
  | .hbm, ⟨4, _⟩ => ⟨S4x2304x8x96, .f32⟩
  | .hbm, ⟨5, _⟩ => ⟨S4x2304x8x96, .f32⟩
  | .hbm, ⟨6, _⟩ => ⟨S9216x768, .f32⟩
  | .hbm, ⟨7, _⟩ => ⟨S9216x8x96, .f32⟩
  | .hbm, ⟨8, _⟩ => ⟨S_, .i32⟩
  | .hbm, ⟨9, _⟩ => ⟨S_, .f32⟩
  | .hbm, ⟨10, _⟩ => ⟨S9216x8x128, .f32⟩
  | .hbm, ⟨11, _⟩ => ⟨S9216x1024, .f32⟩
  | .hbm, ⟨12, _⟩ => ⟨S9216x1024, .bf16⟩
  | .hbm, ⟨13, _⟩ => ⟨S9216x1024, .f32⟩
  | .hbm, ⟨14, _⟩ => ⟨S9216x1024, .bf16⟩
  | .hbm, ⟨15, _⟩ => ⟨S9216x32, .f32⟩
  | .hbm, ⟨16, _⟩ => ⟨S_, .i32⟩
  | .hbm, ⟨17, _⟩ => ⟨S_, .f32⟩
  | .hbm, ⟨18, _⟩ => ⟨S9216x128, .f32⟩
  | .hbm, ⟨19, _⟩ => ⟨S9216x128, .bf16⟩
  | .hbm, ⟨20, _⟩ => ⟨S9216x512, .f32⟩
  | .hbm, ⟨21, _⟩ => ⟨S4x9216x2, .f32⟩
  | .local _ .vmem, ⟨0, _⟩ => ⟨S256x256, .bf16⟩
  | .local _ .vmem, ⟨1, _⟩ => ⟨S256x256, .bf16⟩
  | .local _ .vmem, ⟨2, _⟩ => ⟨S2304x256, .bf16⟩
  | .local _ .vmem, ⟨3, _⟩ => ⟨S2304x256, .bf16⟩
  | .local _ .vmem, ⟨4, _⟩ => ⟨S2304x128, .bf16⟩
  | .local _ .vmem, ⟨5, _⟩ => ⟨S2304x128, .bf16⟩
  | .local _ .vmem, ⟨6, _⟩ => ⟨S256x128, .f32⟩
  | .local _ .vmem, ⟨7, _⟩ => ⟨S256x128, .f32⟩
  | .local _ .vmem, ⟨8, _⟩ => ⟨S1x256x2, .f32⟩
  | .local _ .vmem, ⟨9, _⟩ => ⟨S1x256x2, .f32⟩
  | _, _ => ⟨S4x2304x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call1_v0 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 9], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .ne arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  let c0_i32_0 : BitVec 32 := 0#32
  ![arg1.toNat, v1.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FwdReferenceIdeal.lean ====
abbrev S4x2304x8x96 : Shape := ⟨4, ![4, 2304, 8, 96]⟩
abbrev S4x2304x8x128 : Shape := ⟨4, ![4, 2304, 8, 128]⟩
abbrev S4x2304x32 : Shape := ⟨3, ![4, 2304, 32]⟩
abbrev S_ : Shape := ⟨0, ![]⟩
abbrev S4x2304x8x64 : Shape := ⟨4, ![4, 2304, 8, 64]⟩
abbrev S4x2304x1x32 : Shape := ⟨4, ![4, 2304, 1, 32]⟩
abbrev S4x2304x8x32 : Shape := ⟨4, ![4, 2304, 8, 32]⟩
abbrev S4x256x8x96 : Shape := ⟨4, ![4, 256, 8, 96]⟩
abbrev S4x256x8x64 : Shape := ⟨4, ![4, 256, 8, 64]⟩
abbrev S4x8x256x256 : Shape := ⟨4, ![4, 8, 256, 256]⟩
abbrev S4x8x256 : Shape := ⟨3, ![4, 8, 256]⟩
abbrev S4x8x256x1 : Shape := ⟨4, ![4, 8, 256, 1]⟩
abbrev S4x8x64x256 : Shape := ⟨4, ![4, 8, 64, 256]⟩
abbrev S4x2048x8x96 : Shape := ⟨4, ![4, 2048, 8, 96]⟩
abbrev S4x8x2048x2304 : Shape := ⟨4, ![4, 8, 2048, 2304]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x2048x8x64 : Shape := ⟨4, ![4, 2048, 8, 64]⟩
abbrev S9216x512 : Shape := ⟨2, ![9216, 512]⟩
abbrev S4x8x2304 : Shape := ⟨3, ![4, 8, 2304]⟩
abbrev S4x4x2x2304 : Shape := ⟨4, ![4, 4, 2, 2304]⟩
abbrev S4x4x2304x2 : Shape := ⟨4, ![4, 4, 2304, 2]⟩
abbrev S4x9216x2 : Shape := ⟨3, ![4, 9216, 2]⟩

abbrev nBuf : Space → Nat
  | .hbm => 91
  | .vmem => 0
  | .smem => 0
  | _ => 0

abbrev bufTy : (tb : Table) → Fin (tcTables nBuf tb) → BufTy
  | .hbm, ⟨0, _⟩ => ⟨S4x2304x8x96, .f32⟩
  | .hbm, ⟨1, _⟩ => ⟨S4x2304x8x128, .f32⟩
  | .hbm, ⟨2, _⟩ => ⟨S4x2304x32, .f32⟩
  | .hbm, ⟨3, _⟩ => ⟨S_, .f32⟩
  | .hbm, ⟨4, _⟩ => ⟨S4x2304x8x96, .f32⟩
  | .hbm, ⟨5, _⟩ => ⟨S4x2304x8x96, .f32⟩
  | .hbm, ⟨6, _⟩ => ⟨S4x2304x8x64, .f32⟩
  | .hbm, ⟨7, _⟩ => ⟨S4x2304x1x32, .f32⟩
  | .hbm, ⟨8, _⟩ => ⟨S4x2304x8x32, .f32⟩
  | .hbm, ⟨9, _⟩ => ⟨S4x2304x8x96, .f32⟩
  | .hbm, ⟨10, _⟩ => ⟨S4x2304x8x64, .f32⟩
  | .hbm, ⟨11, _⟩ => ⟨S4x256x8x96, .f32⟩
  | .hbm, ⟨12, _⟩ => ⟨S4x256x8x96, .f32⟩
  | .hbm, ⟨13, _⟩ => ⟨S4x256x8x64, .f32⟩
  | .hbm, ⟨14, _⟩ => ⟨S4x8x256x256, .f32⟩
  | .hbm, ⟨15, _⟩ => ⟨S_, .f32⟩
  | .hbm, ⟨16, _⟩ => ⟨S4x8x256, .f32⟩
  | .hbm, ⟨17, _⟩ => ⟨S_, .f32⟩
  | .hbm, ⟨18, _⟩ => ⟨S4x8x256, .f32⟩
  | .hbm, ⟨19, _⟩ => ⟨S4x8x256, .f32⟩
  | .hbm, ⟨20, _⟩ => ⟨S4x8x256x1, .f32⟩
  | .hbm, ⟨21, _⟩ => ⟨S4x8x256x256, .f32⟩
  | .hbm, ⟨22, _⟩ => ⟨S4x8x256x256, .f32⟩
  | .hbm, ⟨23, _⟩ => ⟨S4x8x256x256, .f32⟩
  | .hbm, ⟨24, _⟩ => ⟨S_, .f32⟩
  | .hbm, ⟨25, _⟩ => ⟨S4x8x256, .f32⟩
  | .hbm, ⟨26, _⟩ => ⟨S4x8x256x1, .f32⟩
  | .hbm, ⟨27, _⟩ => ⟨S4x8x256x256, .f32⟩
  | .hbm, ⟨28, _⟩ => ⟨S4x8x256x256, .f32⟩
  | .hbm, ⟨29, _⟩ => ⟨S4x8x64x256, .f32⟩
  | .hbm, ⟨30, _⟩ => ⟨S4x256x8x64, .f32⟩
  | .hbm, ⟨31, _⟩ => ⟨S4x2048x8x96, .f32⟩
  | .hbm, ⟨32, _⟩ => ⟨S4x8x2048x2304, .f32⟩
  | .hbm, ⟨33, _⟩ => ⟨S_, .f32⟩
  | .hbm, ⟨34, _⟩ => ⟨S4x8x2048, .f32⟩
  | .hbm, ⟨35, _⟩ => ⟨S_, .f32⟩
  | .hbm, ⟨36, _⟩ => ⟨S4x8x2048, .f32⟩
  | .hbm, ⟨37, _⟩ => ⟨S4x8x2048, .f32⟩
  | .hbm, ⟨38, _⟩ => ⟨S4x8x2048x1, .f32⟩
  | .hbm, ⟨39, _⟩ => ⟨S4x8x2048x2304, .f32⟩
  | .hbm, ⟨40, _⟩ => ⟨S4x8x2048x2304, .f32⟩
  | .hbm, ⟨41, _⟩ => ⟨S4x8x2048x2304, .f32⟩
  | .hbm, ⟨42, _⟩ => ⟨S_, .f32⟩
  | .hbm, ⟨43, _⟩ => ⟨S4x8x2048, .f32⟩
  | .hbm, ⟨44, _⟩ => ⟨S4x8x2048x1, .f32⟩
  | .hbm, ⟨45, _⟩ => ⟨S4x8x2048x2304, .f32⟩
  | .hbm, ⟨46, _⟩ => ⟨S4x8x2048x2304, .f32⟩
  | .hbm, ⟨47, _⟩ => ⟨S4x8x64x2048, .f32⟩
  | .hbm, ⟨48, _⟩ => ⟨S4x2048x8x64, .f32⟩
  | .hbm, ⟨49, _⟩ => ⟨S4x2304x8x64, .f32⟩
  | .hbm, ⟨50, _⟩ => ⟨S9216x512, .f32⟩
  | .hbm, ⟨51, _⟩ => ⟨S_, .f32⟩
  | .hbm, ⟨52, _⟩ => ⟨S4x2304x8x96, .f32⟩
  | .hbm, ⟨53, _⟩ => ⟨S4x2304x8x96, .f32⟩
  | .hbm, ⟨54, _⟩ => ⟨S4x2304x8x64, .f32⟩
  | .hbm, ⟨55, _⟩ => ⟨S4x2304x1x32, .f32⟩
  | .hbm, ⟨56, _⟩ => ⟨S4x2304x8x32, .f32⟩
  | .hbm, ⟨57, _⟩ => ⟨S4x2304x8x96, .f32⟩
  | .hbm, ⟨58, _⟩ => ⟨S4x256x8x96, .f32⟩
  | .hbm, ⟨59, _⟩ => ⟨S4x256x8x96, .f32⟩
  | .hbm, ⟨60, _⟩ => ⟨S4x8x256x256, .f32⟩
  | .hbm, ⟨61, _⟩ => ⟨S_, .f32⟩
  | .hbm, ⟨62, _⟩ => ⟨S4x8x256, .f32⟩
  | .hbm, ⟨63, _⟩ => ⟨S4x8x256x1, .f32⟩
  | .hbm, ⟨64, _⟩ => ⟨S4x8x256x256, .f32⟩
  | .hbm, ⟨65, _⟩ => ⟨S4x8x256x256, .f32⟩
  | .hbm, ⟨66, _⟩ => ⟨S4x8x256x256, .f32⟩
  | .hbm, ⟨67, _⟩ => ⟨S_, .f32⟩
  | .hbm, ⟨68, _⟩ => ⟨S4x8x256, .f32⟩
  | .hbm, ⟨69, _⟩ => ⟨S4x8x256x1, .f32⟩
  | .hbm, ⟨70, _⟩ => ⟨S4x8x256x1, .f32⟩
  | .hbm, ⟨71, _⟩ => ⟨S4x8x256x1, .f32⟩
  | .hbm, ⟨72, _⟩ => ⟨S4x8x256, .f32⟩
  | .hbm, ⟨73, _⟩ => ⟨S4x2048x8x96, .f32⟩
  | .hbm, ⟨74, _⟩ => ⟨S4x8x2048x2304, .f32⟩
  | .hbm, ⟨75, _⟩ => ⟨S_, .f32⟩
  | .hbm, ⟨76, _⟩ => ⟨S4x8x2048, .f32⟩
  | .hbm, ⟨77, _⟩ => ⟨S4x8x2048x1, .f32⟩
  | .hbm, ⟨78, _⟩ => ⟨S4x8x2048x2304, .f32⟩
  | .hbm, ⟨79, _⟩ => ⟨S4x8x2048x2304, .f32⟩
  | .hbm, ⟨80, _⟩ => ⟨S4x8x2048x2304, .f32⟩
  | .hbm, ⟨81, _⟩ => ⟨S_, .f32⟩
  | .hbm, ⟨82, _⟩ => ⟨S4x8x2048, .f32⟩
  | .hbm, ⟨83, _⟩ => ⟨S4x8x2048x1, .f32⟩
  | .hbm, ⟨84, _⟩ => ⟨S4x8x2048x1, .f32⟩
  | .hbm, ⟨85, _⟩ => ⟨S4x8x2048x1, .f32⟩
  | .hbm, ⟨86, _⟩ => ⟨S4x8x2048, .f32⟩
  | .hbm, ⟨87, _⟩ => ⟨S4x8x2304, .f32⟩
  | .hbm, ⟨88, _⟩ => ⟨S4x4x2x2304, .f32⟩
  | .hbm, ⟨89, _⟩ => ⟨S4x4x2304x2, .f32⟩
  | .hbm, ⟨90, _⟩ => ⟨S4x9216x2, .f32⟩
  | _, _ => ⟨S4x2304x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_8 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_9 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_10 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩

abbrev nD : Nat := 1
abbrev τ : Topo := Topo.v7x

variable {F : FTy → Type} [FloatOps F]
-- ==== Norm.lean ====
abbrev S9216x1024 : Shape := ⟨2, ![9216, 1024]⟩
abbrev S8x3072 : Shape := ⟨2, ![8, 3072]⟩
abbrev S1x1024 : Shape := ⟨2, ![1, 1024]⟩
abbrev S8x1x3072 : Shape := ⟨3, ![8, 1, 3072]⟩
abbrev S256x1024 : Shape := ⟨2, ![256, 1024]⟩
abbrev S1x1x3072 : Shape := ⟨3, ![1, 1, 3072]⟩
abbrev S1x3072 : Shape := ⟨2, ![1, 3072]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S9216x1024, .f32⟩
  | .hbm, ⟨1, _⟩ => ⟨S8x3072, .f32⟩
  | .hbm, ⟨2, _⟩ => ⟨S1x1024, .f32⟩
  | .hbm, ⟨3, _⟩ => ⟨S8x1x3072, .f32⟩
  | .hbm, ⟨4, _⟩ => ⟨S9216x1024, .bf16⟩
  | .local _ .vmem, ⟨0, _⟩ => ⟨S256x1024, .f32⟩
  | .local _ .vmem, ⟨1, _⟩ => ⟨S256x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c9_i32_4 : BitVec 32 := 9#32
  let v11 : BitVec 32 := Scalar.divsi arg0 c9_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c9_i32_4 c0_i32_7
  let v18 : BitVec 32 := Scalar.extui v17
  let c0_i32_8 : BitVec 32 := 0#32
  let v19 : BitVec 1 := Scalar.cmpi .slt c9_i32_4 c0_i32_8
  let v20 : BitVec 32 := Scalar.extui v19
  let v21 : BitVec 32 := Scalar.subi v18 v20
  let v22 : BitVec 1 := Scalar.cmpi .ne v16 v21
  let v23 : BitVec 32 := Scalar.remsi arg0 c9_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c4_i32 : BitVec 32 := 4#32
  let v28 : BitVec 32 := Scalar.select v10 c4_i32 v27
  let c0_i32_11 : BitVec 32 := 0#32
  let c0_i32_12 : BitVec 32 := 0#32
  let c0_i32_13 : BitVec 32 := 0#32
  ![v28.toNat, c0_i32_11.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormReferenceIdeal.lean ====
abbrev S9216x1024 : Shape := ⟨2, ![9216, 1024]⟩
abbrev S8x3072 : Shape := ⟨2, ![8, 3072]⟩
abbrev S1x1024 : Shape := ⟨2, ![1, 1024]⟩
abbrev S4x3072 : Shape := ⟨2, ![4, 3072]⟩
abbrev S4x1x3072 : Shape := ⟨3, ![4, 1, 3072]⟩
abbrev S4x8x3072 : Shape := ⟨3, ![4, 8, 3072]⟩
abbrev S1x3072 : Shape := ⟨2, ![1, 3072]⟩
abbrev S3072 : Shape := ⟨1, ![3072]⟩
abbrev S1x1x3072 : Shape := ⟨3, ![1, 1, 3072]⟩
abbrev S4x9x3072 : Shape := ⟨3, ![4, 9, 3072]⟩
abbrev S36x1x3072 : Shape := ⟨3, ![36, 1, 3072]⟩
abbrev S36x1x1024 : Shape := ⟨3, ![36, 1, 1024]⟩
abbrev S36x256x1024 : Shape := ⟨3, ![36, 256, 1024]⟩
abbrev S_ : Shape := ⟨0, ![]⟩
abbrev S36x256 : Shape := ⟨2, ![36, 256]⟩
abbrev S36x256x1 : Shape := ⟨3, ![36, 256, 1]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S8x3072, .f32⟩
  | .hbm, ⟨2, _⟩ => ⟨S1x1024, .f32⟩
  | .hbm, ⟨3, _⟩ => ⟨S4x3072, .f32⟩
  | .hbm, ⟨4, _⟩ => ⟨S4x1x3072, .f32⟩
  | .hbm, ⟨5, _⟩ => ⟨S4x8x3072, .f32⟩
  | .hbm, ⟨6, _⟩ => ⟨S1x3072, .f32⟩
  | .hbm, ⟨7, _⟩ => ⟨S3072, .f32⟩
  | .hbm, ⟨8, _⟩ => ⟨S1x1x3072, .f32⟩
  | .hbm, ⟨9, _⟩ => ⟨S4x1x3072, .f32⟩
  | .hbm, ⟨10, _⟩ => ⟨S4x9x3072, .f32⟩
  | .hbm, ⟨11, _⟩ => ⟨S36x1x3072, .f32⟩
  | .hbm, ⟨12, _⟩ => ⟨S36x1x1024, .f32⟩
  | .hbm, ⟨13, _⟩ => ⟨S36x1x1024, .f32⟩
  | .hbm, ⟨14, _⟩ => ⟨S36x256x1024, .f32⟩
  | .hbm, ⟨15, _⟩ => ⟨S36x256x1024, .f32⟩
  | .hbm, ⟨16, _⟩ => ⟨S_, .f32⟩
  | .hbm, ⟨17, _⟩ => ⟨S36x256, .f32⟩
  | .hbm, ⟨18, _⟩ => ⟨S36x256x1, .f32⟩
  | .hbm, ⟨19, _⟩ => ⟨S_, .f32⟩
  | .hbm, ⟨20, _⟩ => ⟨S36x256x1, .f32⟩
  | .hbm, ⟨21, _⟩ => ⟨S36x256x1, .f32⟩
  | .hbm, ⟨22, _⟩ => ⟨S_, .f32⟩
  | .hbm, ⟨23, _⟩ => ⟨S36x256x1, .f32⟩
  | .hbm, ⟨24, _⟩ => ⟨S36x256x1, .f32⟩
  | .hbm, ⟨25, _⟩ => ⟨S36x256x1, .f32⟩
  | .hbm, ⟨26, _⟩ => ⟨S36x256x1024, .f32⟩
  | .hbm, ⟨27, _⟩ => ⟨S36x256x1024, .f32⟩
  | .hbm, ⟨28, _⟩ => ⟨S1x1x1024, .f32⟩
  | .hbm, ⟨29, _⟩ => ⟨S36x256x1024, .f32⟩
  | .hbm, ⟨30, _⟩ => ⟨S36x256x1024, .f32⟩
  | .hbm, ⟨31, _⟩ => ⟨S_, .f32⟩
  | .hbm, ⟨32, _⟩ => ⟨S36x1x1024, .f32⟩
  | .hbm, ⟨33, _⟩ => ⟨S36x1x1024, .f32⟩
  | .hbm, ⟨34, _⟩ => ⟨S36x256x1024, .f32⟩
  | .hbm, ⟨35, _⟩ => ⟨S36x256x1024, .f32⟩
  | .hbm, ⟨36, _⟩ => ⟨S36x256x1024, .f32⟩
  | .hbm, ⟨37, _⟩ => ⟨S36x256x1024, .f32⟩
  | .hbm, ⟨38, _⟩ => ⟨S9216x1024, .f32⟩
  | .hbm, ⟨39, _⟩ => ⟨S9216x1024, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Mul.lean ====
abbrev S9216x1024 : Shape := ⟨2, ![9216, 1024]⟩
abbrev S8x3072 : Shape := ⟨2, ![8, 3072]⟩
abbrev S1x1024 : Shape := ⟨2, ![1, 1024]⟩
abbrev S6912x1024 : Shape := ⟨2, ![6912, 1024]⟩
abbrev S4x3072 : Shape := ⟨2, ![4, 3072]⟩
abbrev S4x1x3072 : Shape := ⟨3, ![4, 1, 3072]⟩
abbrev S4x8x3072 : Shape := ⟨3, ![4, 8, 3072]⟩
abbrev S1x3072 : Shape := ⟨2, ![1, 3072]⟩
abbrev S3072 : Shape := ⟨1, ![3072]⟩
abbrev S1x1x3072 : Shape := ⟨3, ![1, 1, 3072]⟩
abbrev S4x9x3072 : Shape := ⟨3, ![4, 9, 3072]⟩
abbrev S36x1x3072 : Shape := ⟨3, ![36, 1, 3072]⟩
abbrev S36x1x1024 : Shape := ⟨3, ![36, 1, 1024]⟩
abbrev S36x256x1024 : Shape := ⟨3, ![36, 256, 1024]⟩
abbrev S_ : Shape := ⟨0, ![]⟩
abbrev S36x256 : Shape := ⟨2, ![36, 256]⟩
abbrev S36x256x1 : Shape := ⟨3, ![36, 256, 1]⟩
abbrev S1x1x1024 : Shape := ⟨3, ![1, 1, 1024]⟩
abbrev S9216x6912 : Shape := ⟨2, ![9216, 6912]⟩
abbrev S512x1024 : Shape := ⟨2, ![512, 1024]⟩
abbrev S2304x1024 : Shape := ⟨2, ![2304, 1024]⟩
abbrev S512x2304 : Shape := ⟨2, ![512, 2304]⟩

abbrev nBuf : Space → Nat
  | .hbm => 43
  | .vmem => 6
  | .smem => 0
  | _ => 0

abbrev bufTy : (tb : Table) → Fin (tcTables nBuf tb) → BufTy
  | .hbm, ⟨0, _⟩ => ⟨S9216x1024, .f32⟩
  | .hbm, ⟨1, _⟩ => ⟨S8x3072, .f32⟩
  | .hbm, ⟨2, _⟩ => ⟨S1x1024, .f32⟩
  | .hbm, ⟨3, _⟩ => ⟨S6912x1024, .f32⟩
  | .hbm, ⟨4, _⟩ => ⟨S4x3072, .f32⟩
  | .hbm, ⟨5, _⟩ => ⟨S4x1x3072, .f32⟩
  | .hbm, ⟨6, _⟩ => ⟨S4x8x3072, .f32⟩
  | .hbm, ⟨7, _⟩ => ⟨S1x3072, .f32⟩
  | .hbm, ⟨8, _⟩ => ⟨S3072, .f32⟩
  | .hbm, ⟨9, _⟩ => ⟨S1x1x3072, .f32⟩
  | .hbm, ⟨10, _⟩ => ⟨S4x1x3072, .f32⟩
  | .hbm, ⟨11, _⟩ => ⟨S4x9x3072, .f32⟩
  | .hbm, ⟨12, _⟩ => ⟨S36x1x3072, .f32⟩
  | .hbm, ⟨13, _⟩ => ⟨S36x1x1024, .f32⟩
  | .hbm, ⟨14, _⟩ => ⟨S36x1x1024, .f32⟩
  | .hbm, ⟨15, _⟩ => ⟨S36x256x1024, .f32⟩
  | .hbm, ⟨16, _⟩ => ⟨S36x256x1024, .f32⟩
  | .hbm, ⟨17, _⟩ => ⟨S_, .f32⟩
  | .hbm, ⟨18, _⟩ => ⟨S36x256, .f32⟩
  | .hbm, ⟨19, _⟩ => ⟨S36x256x1, .f32⟩
  | .hbm, ⟨20, _⟩ => ⟨S_, .f32⟩
  | .hbm, ⟨21, _⟩ => ⟨S36x256x1, .f32⟩
  | .hbm, ⟨22, _⟩ => ⟨S36x256x1, .f32⟩
  | .hbm, ⟨23, _⟩ => ⟨S_, .f32⟩
  | .hbm, ⟨24, _⟩ => ⟨S36x256x1, .f32⟩
  | .hbm, ⟨25, _⟩ => ⟨S36x256x1, .f32⟩
  | .hbm, ⟨26, _⟩ => ⟨S36x256x1, .f32⟩
  | .hbm, ⟨27, _⟩ => ⟨S36x256x1024, .f32⟩
  | .hbm, ⟨28, _⟩ => ⟨S36x256x1024, .f32⟩
  | .hbm, ⟨29, _⟩ => ⟨S1x1x1024, .f32⟩
  | .hbm, ⟨30, _⟩ => ⟨S36x256x1024, .f32⟩
  | .hbm, ⟨31, _⟩ => ⟨S36x256x1024, .f32⟩
  | .hbm, ⟨32, _⟩ => ⟨S_, .f32⟩
  | .hbm, ⟨33, _⟩ => ⟨S36x1x1024, .f32⟩
  | .hbm, ⟨34, _⟩ => ⟨S36x1x1024, .f32⟩
  | .hbm, ⟨35, _⟩ => ⟨S36x256x1024, .f32⟩
  | .hbm, ⟨36, _⟩ => ⟨S36x256x1024, .f32⟩
  | .hbm, ⟨37, _⟩ => ⟨S36x256x1024, .f32⟩
  | .hbm, ⟨38, _⟩ => ⟨S36x256x1024, .f32⟩
  | .hbm, ⟨39, _⟩ => ⟨S9216x1024, .f32⟩
  | .hbm, ⟨40, _⟩ => ⟨S9216x1024, .bf16⟩
  | .hbm, ⟨41, _⟩ => ⟨S6912x1024, .bf16⟩
  | .hbm, ⟨42, _⟩ => ⟨S9216x6912, .f32⟩
  | .local _ .vmem, ⟨0, _⟩ => ⟨S512x1024, .bf16⟩
  | .local _ .vmem, ⟨1, _⟩ => ⟨S512x1024, .bf16⟩
  | .local _ .vmem, ⟨2, _⟩ => ⟨S2304x1024, .bf16⟩
  | .local _ .vmem, ⟨3, _⟩ => ⟨S2304x1024, .bf16⟩
  | .local _ .vmem, ⟨4, _⟩ => ⟨S512x2304, .f32⟩
  | .local _ .vmem, ⟨5, _⟩ => ⟨S512x2304, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MulReferenceIdeal.lean ====
abbrev S9216x1024 : Shape := ⟨2, ![9216, 1024]⟩
abbrev S8x3072 : Shape := ⟨2, ![8, 3072]⟩
abbrev S1x1024 : Shape := ⟨2, ![1, 1024]⟩
abbrev S6912x1024 : Shape := ⟨2, ![6912, 1024]⟩
abbrev S4x3072 : Shape := ⟨2, ![4, 3072]⟩
abbrev S4x1x3072 : Shape := ⟨3, ![4, 1, 3072]⟩
abbrev S4x8x3072 : Shape := ⟨3, ![4, 8, 3072]⟩
abbrev S1x3072 : Shape := ⟨2, ![1, 3072]⟩
abbrev S3072 : Shape := ⟨1, ![3072]⟩
abbrev S1x1x3072 : Shape := ⟨3, ![1, 1, 3072]⟩
abbrev S4x9x3072 : Shape := ⟨3, ![4, 9, 3072]⟩
abbrev S36x1x3072 : Shape := ⟨3, ![36, 1, 3072]⟩
abbrev S36x1x1024 : Shape := ⟨3, ![36, 1, 1024]⟩
abbrev S36x256x1024 : Shape := ⟨3, ![36, 256, 1024]⟩
abbrev S_ : Shape := ⟨0, ![]⟩
abbrev S36x256 : Shape := ⟨2, ![36, 256]⟩
abbrev S36x256x1 : Shape := ⟨3, ![36, 256, 1]⟩
abbrev S1x1x1024 : Shape := ⟨3, ![1, 1, 1024]⟩
abbrev S9216x6912 : Shape := ⟨2, ![9216, 6912]⟩

abbrev nBuf : Space → Nat
  | .hbm => 41
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S8x3072, .f32⟩
  | .hbm, ⟨2, _⟩ => ⟨S1x1024, .f32⟩
  | .hbm, ⟨3, _⟩ => ⟨S6912x1024, .f32⟩
  | .hbm, ⟨4, _⟩ => ⟨S4x3072, .f32⟩
  | .hbm, ⟨5, _⟩ => ⟨S4x1x3072, .f32⟩
  | .hbm, ⟨6, _⟩ => ⟨S4x8x3072, .f32⟩
  | .hbm, ⟨7, _⟩ => ⟨S1x3072, .f32⟩
  | .hbm, ⟨8, _⟩ => ⟨S3072, .f32⟩
  | .hbm, ⟨9, _⟩ => ⟨S1x1x3072, .f32⟩
  | .hbm, ⟨10, _⟩ => ⟨S4x1x3072, .f32⟩
  | .hbm, ⟨11, _⟩ => ⟨S4x9x3072, .f32⟩
  | .hbm, ⟨12, _⟩ => ⟨S36x1x3072, .f32⟩
  | .hbm, ⟨13, _⟩ => ⟨S36x1x1024, .f32⟩
  | .hbm, ⟨14, _⟩ => ⟨S36x1x1024, .f32⟩
  | .hbm, ⟨15, _⟩ => ⟨S36x256x1024, .f32⟩
  | .hbm, ⟨16, _⟩ => ⟨S36x256x1024, .f32⟩
  | .hbm, ⟨17, _⟩ => ⟨S_, .f32⟩
  | .hbm, ⟨18, _⟩ => ⟨S36x256, .f32⟩
  | .hbm, ⟨19, _⟩ => ⟨S36x256x1, .f32⟩
  | .hbm, ⟨20, _⟩ => ⟨S_, .f32⟩
  | .hbm, ⟨21, _⟩ => ⟨S36x256x1, .f32⟩
  | .hbm, ⟨22, _⟩ => ⟨S36x256x1, .f32⟩
  | .hbm, ⟨23, _⟩ => ⟨S_, .f32⟩
  | .hbm, ⟨24, _⟩ => ⟨S36x256x1, .f32⟩
  | .hbm, ⟨25, _⟩ => ⟨S36x256x1, .f32⟩
  | .hbm, ⟨26, _⟩ => ⟨S36x256x1, .f32⟩
  | .hbm, ⟨27, _⟩ => ⟨S36x256x1024, .f32⟩
  | .hbm, ⟨28, _⟩ => ⟨S36x256x1024, .f32⟩
  | .hbm, ⟨29, _⟩ => ⟨S1x1x1024, .f32⟩
  | .hbm, ⟨30, _⟩ => ⟨S36x256x1024, .f32⟩
  | .hbm, ⟨31, _⟩ => ⟨S36x256x1024, .f32⟩
  | .hbm, ⟨32, _⟩ => ⟨S_, .f32⟩
  | .hbm, ⟨33, _⟩ => ⟨S36x1x1024, .f32⟩
  | .hbm, ⟨34, _⟩ => ⟨S36x1x1024, .f32⟩
  | .hbm, ⟨35, _⟩ => ⟨S36x256x1024, .f32⟩
  | .hbm, ⟨36, _⟩ => ⟨S36x256x1024, .f32⟩
  | .hbm, ⟨37, _⟩ => ⟨S36x256x1024, .f32⟩
  | .hbm, ⟨38, _⟩ => ⟨S36x256x1024, .f32⟩
  | .hbm, ⟨39, _⟩ => ⟨S9216x1024, .f32⟩
  | .hbm, ⟨40, _⟩ => ⟨S9216x6912, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Dw.lean ====
abbrev S9216x1024 : Shape := ⟨2, ![9216, 1024]⟩
abbrev S8x3072 : Shape := ⟨2, ![8, 3072]⟩
abbrev S1x1024 : Shape := ⟨2, ![1, 1024]⟩
abbrev S6912x1024 : Shape := ⟨2, ![6912, 1024]⟩
abbrev S9216x6912 : Shape := ⟨2, ![9216, 6912]⟩
abbrev S4x3072 : Shape := ⟨2, ![4, 3072]⟩
abbrev S4x1x3072 : Shape := ⟨3, ![4, 1, 3072]⟩
abbrev S4x8x3072 : Shape := ⟨3, ![4, 8, 3072]⟩
abbrev S1x3072 : Shape := ⟨2, ![1, 3072]⟩
abbrev S3072 : Shape := ⟨1, ![3072]⟩
abbrev S1x1x3072 : Shape := ⟨3, ![1, 1, 3072]⟩
abbrev S4x9x3072 : Shape := ⟨3, ![4, 9, 3072]⟩
abbrev S36x1x3072 : Shape := ⟨3, ![36, 1, 3072]⟩
abbrev S36x1x1024 : Shape := ⟨3, ![36, 1, 1024]⟩
abbrev S36x256x1024 : Shape := ⟨3, ![36, 256, 1024]⟩
abbrev S_ : Shape := ⟨0, ![]⟩
abbrev S36x256 : Shape := ⟨2, ![36, 256]⟩
abbrev S36x256x1 : Shape := ⟨3, ![36, 256, 1]⟩
abbrev S1x1x1024 : Shape := ⟨3, ![1, 1, 1024]⟩
abbrev S3072x1152 : Shape := ⟨2, ![3072, 1152]⟩
abbrev S3072x1024 : Shape := ⟨2, ![3072, 1024]⟩
abbrev S1152x1024 : Shape := ⟨2, ![1152, 1024]⟩

abbrev nBuf : Space → Nat
  | .hbm => 44
  | .vmem => 6
  | .smem => 0
  | _ => 0

abbrev bufTy : (tb : Table) → Fin (tcTables nBuf tb) → BufTy
  | .hbm, ⟨0, _⟩ => ⟨S9216x1024, .f32⟩
  | .hbm, ⟨1, _⟩ => ⟨S8x3072, .f32⟩
  | .hbm, ⟨2, _⟩ => ⟨S1x1024, .f32⟩
  | .hbm, ⟨3, _⟩ => ⟨S6912x1024, .f32⟩
  | .hbm, ⟨4, _⟩ => ⟨S9216x6912, .f32⟩
  | .hbm, ⟨5, _⟩ => ⟨S9216x6912, .bf16⟩
  | .hbm, ⟨6, _⟩ => ⟨S4x3072, .f32⟩
  | .hbm, ⟨7, _⟩ => ⟨S4x1x3072, .f32⟩
  | .hbm, ⟨8, _⟩ => ⟨S4x8x3072, .f32⟩
  | .hbm, ⟨9, _⟩ => ⟨S1x3072, .f32⟩
  | .hbm, ⟨10, _⟩ => ⟨S3072, .f32⟩
  | .hbm, ⟨11, _⟩ => ⟨S1x1x3072, .f32⟩
  | .hbm, ⟨12, _⟩ => ⟨S4x1x3072, .f32⟩
  | .hbm, ⟨13, _⟩ => ⟨S4x9x3072, .f32⟩
  | .hbm, ⟨14, _⟩ => ⟨S36x1x3072, .f32⟩
  | .hbm, ⟨15, _⟩ => ⟨S36x1x1024, .f32⟩
  | .hbm, ⟨16, _⟩ => ⟨S36x1x1024, .f32⟩
  | .hbm, ⟨17, _⟩ => ⟨S36x256x1024, .f32⟩
  | .hbm, ⟨18, _⟩ => ⟨S36x256x1024, .f32⟩
  | .hbm, ⟨19, _⟩ => ⟨S_, .f32⟩
  | .hbm, ⟨20, _⟩ => ⟨S36x256, .f32⟩
  | .hbm, ⟨21, _⟩ => ⟨S36x256x1, .f32⟩
  | .hbm, ⟨22, _⟩ => ⟨S_, .f32⟩
  | .hbm, ⟨23, _⟩ => ⟨S36x256x1, .f32⟩
  | .hbm, ⟨24, _⟩ => ⟨S36x256x1, .f32⟩
  | .hbm, ⟨25, _⟩ => ⟨S_, .f32⟩
  | .hbm, ⟨26, _⟩ => ⟨S36x256x1, .f32⟩
  | .hbm, ⟨27, _⟩ => ⟨S36x256x1, .f32⟩
  | .hbm, ⟨28, _⟩ => ⟨S36x256x1, .f32⟩
  | .hbm, ⟨29, _⟩ => ⟨S36x256x1024, .f32⟩
  | .hbm, ⟨30, _⟩ => ⟨S36x256x1024, .f32⟩
  | .hbm, ⟨31, _⟩ => ⟨S1x1x1024, .f32⟩
  | .hbm, ⟨32, _⟩ => ⟨S36x256x1024, .f32⟩
  | .hbm, ⟨33, _⟩ => ⟨S36x256x1024, .f32⟩
  | .hbm, ⟨34, _⟩ => ⟨S_, .f32⟩
  | .hbm, ⟨35, _⟩ => ⟨S36x1x1024, .f32⟩
  | .hbm, ⟨36, _⟩ => ⟨S36x1x1024, .f32⟩
  | .hbm, ⟨37, _⟩ => ⟨S36x256x1024, .f32⟩
  | .hbm, ⟨38, _⟩ => ⟨S36x256x1024, .f32⟩
  | .hbm, ⟨39, _⟩ => ⟨S36x256x1024, .f32⟩
  | .hbm, ⟨40, _⟩ => ⟨S36x256x1024, .f32⟩
  | .hbm, ⟨41, _⟩ => ⟨S9216x1024, .f32⟩
  | .hbm, ⟨42, _⟩ => ⟨S9216x1024, .bf16⟩
  | .hbm, ⟨43, _⟩ => ⟨S6912x1024, .f32⟩
  | .local _ .vmem, ⟨0, _⟩ => ⟨S3072x1152, .bf16⟩
  | .local _ .vmem, ⟨1, _⟩ => ⟨S3072x1152, .bf16⟩
  | .local _ .vmem, ⟨2, _⟩ => ⟨S3072x1024, .bf16⟩
  | .local _ .vmem, ⟨3, _⟩ => ⟨S3072x1024, .bf16⟩
  | .local _ .vmem, ⟨4, _⟩ => ⟨S1152x1024, .f32⟩
  | .local _ .vmem, ⟨5, _⟩ => ⟨S1152x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S3072x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3072x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwReferenceIdeal.lean ====
abbrev S9216x1024 : Shape := ⟨2, ![9216, 1024]⟩
abbrev S8x3072 : Shape := ⟨2, ![8, 3072]⟩
abbrev S1x1024 : Shape := ⟨2, ![1, 1024]⟩
abbrev S6912x1024 : Shape := ⟨2, ![6912, 1024]⟩
abbrev S9216x6912 : Shape := ⟨2, ![9216, 6912]⟩
abbrev S4x3072 : Shape := ⟨2, ![4, 3072]⟩
abbrev S4x1x3072 : Shape := ⟨3, ![4, 1, 3072]⟩
abbrev S4x8x3072 : Shape := ⟨3, ![4, 8, 3072]⟩
abbrev S1x3072 : Shape := ⟨2, ![1, 3072]⟩
abbrev S3072 : Shape := ⟨1, ![3072]⟩
abbrev S1x1x3072 : Shape := ⟨3, ![1, 1, 3072]⟩
abbrev S4x9x3072 : Shape := ⟨3, ![4, 9, 3072]⟩
abbrev S36x1x3072 : Shape := ⟨3, ![36, 1, 3072]⟩
abbrev S36x1x1024 : Shape := ⟨3, ![36, 1, 1024]⟩
abbrev S36x256x1024 : Shape := ⟨3, ![36, 256, 1024]⟩
abbrev S_ : Shape := ⟨0, ![]⟩
abbrev S36x256 : Shape := ⟨2, ![36, 256]⟩
abbrev S36x256x1 : Shape := ⟨3, ![36, 256, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S8x3072, .f32⟩
  | .hbm, ⟨2, _⟩ => ⟨S1x1024, .f32⟩
  | .hbm, ⟨3, _⟩ => ⟨S6912x1024, .f32⟩
  | .hbm, ⟨4, _⟩ => ⟨S9216x6912, .f32⟩
  | .hbm, ⟨5, _⟩ => ⟨S4x3072, .f32⟩
  | .hbm, ⟨6, _⟩ => ⟨S4x1x3072, .f32⟩
  | .hbm, ⟨7, _⟩ => ⟨S4x8x3072, .f32⟩
  | .hbm, ⟨8, _⟩ => ⟨S1x3072, .f32⟩
  | .hbm, ⟨9, _⟩ => ⟨S3072, .f32⟩
  | .hbm, ⟨10, _⟩ => ⟨S1x1x3072, .f32⟩
  | .hbm, ⟨11, _⟩ => ⟨S4x1x3072, .f32⟩
  | .hbm, ⟨12, _⟩ => ⟨S4x9x3072, .f32⟩
  | .hbm, ⟨13, _⟩ => ⟨S36x1x3072, .f32⟩
  | .hbm, ⟨14, _⟩ => ⟨S36x1x1024, .f32⟩
  | .hbm, ⟨15, _⟩ => ⟨S36x1x1024, .f32⟩
  | .hbm, ⟨16, _⟩ => ⟨S36x256x1024, .f32⟩
  | .hbm, ⟨17, _⟩ => ⟨S36x256x1024, .f32⟩
  | .hbm, ⟨18, _⟩ => ⟨S_, .f32⟩
  | .hbm, ⟨19, _⟩ => ⟨S36x256, .f32⟩
  | .hbm, ⟨20, _⟩ => ⟨S36x256x1, .f32⟩
  | .hbm, ⟨21, _⟩ => ⟨S_, .f32⟩
  | .hbm, ⟨22, _⟩ => ⟨S36x256x1, .f32⟩
  | .hbm, ⟨23, _⟩ => ⟨S36x256x1, .f32⟩
  | .hbm, ⟨24, _⟩ => ⟨S_, .f32⟩
  | .hbm, ⟨25, _⟩ => ⟨S36x256x1, .f32⟩
  | .hbm, ⟨26, _⟩ => ⟨S36x256x1, .f32⟩
  | .hbm, ⟨27, _⟩ => ⟨S36x256x1, .f32⟩
  | .hbm, ⟨28, _⟩ => ⟨S36x256x1024, .f32⟩
  | .hbm, ⟨29, _⟩ => ⟨S36x256x1024, .f32⟩
  | .hbm, ⟨30, _⟩ => ⟨S1x1x1024, .f32⟩
  | .hbm, ⟨31, _⟩ => ⟨S36x256x1024, .f32⟩
  | .hbm, ⟨32, _⟩ => ⟨S36x256x1024, .f32⟩
  | .hbm, ⟨33, _⟩ => ⟨S_, .f32⟩
  | .hbm, ⟨34, _⟩ => ⟨S36x1x1024, .f32⟩
  | .hbm, ⟨35, _⟩ => ⟨S36x1x1024, .f32⟩
  | .hbm, ⟨36, _⟩ => ⟨S36x256x1024, .f32⟩
  | .hbm, ⟨37, _⟩ => ⟨S36x256x1024, .f32⟩
  | .hbm, ⟨38, _⟩ => ⟨S36x256x1024, .f32⟩
  | .hbm, ⟨39, _⟩ => ⟨S36x256x1024, .f32⟩
  | .hbm, ⟨40, _⟩ => ⟨S9216x1024, .f32⟩
  | .hbm, ⟨41, _⟩ => ⟨S9216x6912, .f32⟩
  | .hbm, ⟨42, _⟩ => ⟨S6912x1024, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Dx.lean ====
abbrev S9216x1024 : Shape := ⟨2, ![9216, 1024]⟩
abbrev S8x3072 : Shape := ⟨2, ![8, 3072]⟩
abbrev S1x1024 : Shape := ⟨2, ![1, 1024]⟩
abbrev S6912x1024 : Shape := ⟨2, ![6912, 1024]⟩
abbrev S9216x6912 : Shape := ⟨2, ![9216, 6912]⟩
abbrev S8x1x3072 : Shape := ⟨3, ![8, 1, 3072]⟩
abbrev S36x8x1024 : Shape := ⟨3, ![36, 8, 1024]⟩
abbrev S256x6912 : Shape := ⟨2, ![256, 6912]⟩
abbrev S256x1024 : Shape := ⟨2, ![256, 1024]⟩
abbrev S1x1x3072 : Shape := ⟨3, ![1, 1, 3072]⟩
abbrev S1x8x1024 : Shape := ⟨3, ![1, 8, 1024]⟩
abbrev S256 : Shape := ⟨1, ![256]⟩
abbrev S256x1 : Shape := ⟨2, ![256, 1]⟩
abbrev S1x3072 : Shape := ⟨2, ![1, 3072]⟩
abbrev S1024 : Shape := ⟨1, ![1024]⟩
abbrev S1x1x1024 : Shape := ⟨3, ![1, 1, 1024]⟩
abbrev S5x1024 : Shape := ⟨2, ![5, 1024]⟩
abbrev S1x5x1024 : Shape := ⟨3, ![1, 5, 1024]⟩

abbrev nBuf : Space → Nat
  | .hbm => 11
  | .vmem => 14
  | .smem => 0
  | _ => 0

abbrev bufTy : (tb : Table) → Fin (tcTables nBuf tb) → BufTy
  | .hbm, ⟨0, _⟩ => ⟨S9216x1024, .f32⟩
  | .hbm, ⟨1, _⟩ => ⟨S8x3072, .f32⟩
  | .hbm, ⟨2, _⟩ => ⟨S1x1024, .f32⟩
  | .hbm, ⟨3, _⟩ => ⟨S6912x1024, .f32⟩
  | .hbm, ⟨4, _⟩ => ⟨S9216x6912, .f32⟩
  | .hbm, ⟨5, _⟩ => ⟨S9216x1024, .f32⟩
  | .hbm, ⟨6, _⟩ => ⟨S9216x6912, .bf16⟩
  | .hbm, ⟨7, _⟩ => ⟨S6912x1024, .bf16⟩
  | .hbm, ⟨8, _⟩ => ⟨S8x1x3072, .f32⟩
  | .hbm, ⟨9, _⟩ => ⟨S9216x1024, .f32⟩
  | .hbm, ⟨10, _⟩ => ⟨S36x8x1024, .f32⟩
  | .local _ .vmem, ⟨0, _⟩ => ⟨S256x6912, .bf16⟩
  | .local _ .vmem, ⟨1, _⟩ => ⟨S256x6912, .bf16⟩
  | .local _ .vmem, ⟨2, _⟩ => ⟨S6912x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1x3072, .f32⟩
  | .local _ .vmem, ⟨8, _⟩ => ⟨S1x1x3072, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S1x8x1024, .f32⟩
  | .local _ .vmem, ⟨13, _⟩ => ⟨S1x8x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c9_i32_4 : BitVec 32 := 9#32
  let v11 : BitVec 32 := Scalar.divsi arg0 c9_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c9_i32_4 c0_i32_7
  let v18 : BitVec 32 := Scalar.extui v17
  let c0_i32_8 : BitVec 32 := 0#32
  let v19 : BitVec 1 := Scalar.cmpi .slt c9_i32_4 c0_i32_8
  let v20 : BitVec 32 := Scalar.extui v19
  let v21 : BitVec 32 := Scalar.subi v18 v20
  let v22 : BitVec 1 := Scalar.cmpi .ne v16 v21
  let v23 : BitVec 32 := Scalar.remsi arg0 c9_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c4_i32 : BitVec 32 := 4#32
  let v28 : BitVec 32 := Scalar.select v10 c4_i32 v27
  let c0_i32_11 : BitVec 32 := 0#32
  let c0_i32_12 : BitVec 32 := 0#32
  let c0_i32_13 : BitVec 32 := 0#32
  ![v28.toNat, c0_i32_11.toNat, c0_i32_12.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x6912 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6912x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DxReferenceIdeal.lean ====
abbrev S9216x1024 : Shape := ⟨2, ![9216, 1024]⟩
abbrev S8x3072 : Shape := ⟨2, ![8, 3072]⟩
abbrev S1x1024 : Shape := ⟨2, ![1, 1024]⟩
abbrev S6912x1024 : Shape := ⟨2, ![6912, 1024]⟩
abbrev S9216x6912 : Shape := ⟨2, ![9216, 6912]⟩
abbrev S4x3072 : Shape := ⟨2, ![4, 3072]⟩
abbrev S4x1x3072 : Shape := ⟨3, ![4, 1, 3072]⟩
abbrev S4x8x3072 : Shape := ⟨3, ![4, 8, 3072]⟩
abbrev S1x3072 : Shape := ⟨2, ![1, 3072]⟩
abbrev S3072 : Shape := ⟨1, ![3072]⟩
abbrev S1x1x3072 : Shape := ⟨3, ![1, 1, 3072]⟩
abbrev S4x9x3072 : Shape := ⟨3, ![4, 9, 3072]⟩
abbrev S36x1x3072 : Shape := ⟨3, ![36, 1, 3072]⟩
abbrev S36x1x1024 : Shape := ⟨3, ![36, 1, 1024]⟩
abbrev S36x256x1024 : Shape := ⟨3, ![36, 256, 1024]⟩
abbrev S_ : Shape := ⟨0, ![]⟩
abbrev S36x256 : Shape := ⟨2, ![36, 256]⟩
abbrev S36x256x1 : Shape := ⟨3, ![36, 256, 1]⟩
abbrev S36x1024 : Shape := ⟨2, ![36, 1024]⟩
abbrev S36x5x1024 : Shape := ⟨3, ![36, 5, 1024]⟩
abbrev S36x8x1024 : Shape := ⟨3, ![36, 8, 1024]⟩

abbrev nBuf : Space → Nat
  | .hbm => 87
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S8x3072, .f32⟩
  | .hbm, ⟨2, _⟩ => ⟨S1x1024, .f32⟩
  | .hbm, ⟨3, _⟩ => ⟨S6912x1024, .f32⟩
  | .hbm, ⟨4, _⟩ => ⟨S9216x6912, .f32⟩
  | .hbm, ⟨5, _⟩ => ⟨S9216x1024, .f32⟩
  | .hbm, ⟨6, _⟩ => ⟨S4x3072, .f32⟩
  | .hbm, ⟨7, _⟩ => ⟨S4x1x3072, .f32⟩
  | .hbm, ⟨8, _⟩ => ⟨S4x8x3072, .f32⟩
  | .hbm, ⟨9, _⟩ => ⟨S1x3072, .f32⟩
  | .hbm, ⟨10, _⟩ => ⟨S3072, .f32⟩
  | .hbm, ⟨11, _⟩ => ⟨S1x1x3072, .f32⟩
  | .hbm, ⟨12, _⟩ => ⟨S4x1x3072, .f32⟩
  | .hbm, ⟨13, _⟩ => ⟨S4x9x3072, .f32⟩
  | .hbm, ⟨14, _⟩ => ⟨S36x1x3072, .f32⟩
  | .hbm, ⟨15, _⟩ => ⟨S36x1x1024, .f32⟩
  | .hbm, ⟨16, _⟩ => ⟨S36x1x1024, .f32⟩
  | .hbm, ⟨17, _⟩ => ⟨S36x1x1024, .f32⟩
  | .hbm, ⟨18, _⟩ => ⟨S36x256x1024, .f32⟩
  | .hbm, ⟨19, _⟩ => ⟨S36x256x1024, .f32⟩
  | .hbm, ⟨20, _⟩ => ⟨S_, .f32⟩
  | .hbm, ⟨21, _⟩ => ⟨S36x256, .f32⟩
  | .hbm, ⟨22, _⟩ => ⟨S36x256x1, .f32⟩
  | .hbm, ⟨23, _⟩ => ⟨S_, .f32⟩
  | .hbm, ⟨24, _⟩ => ⟨S36x256x1, .f32⟩
  | .hbm, ⟨25, _⟩ => ⟨S36x256x1, .f32⟩
  | .hbm, ⟨26, _⟩ => ⟨S_, .f32⟩
  | .hbm, ⟨27, _⟩ => ⟨S36x256x1, .f32⟩
  | .hbm, ⟨28, _⟩ => ⟨S36x256x1, .f32⟩
  | .hbm, ⟨29, _⟩ => ⟨S36x256x1, .f32⟩
  | .hbm, ⟨30, _⟩ => ⟨S36x256x1, .f32⟩
  | .hbm, ⟨31, _⟩ => ⟨S_, .f32⟩
  | .hbm, ⟨32, _⟩ => ⟨S36x256x1, .f32⟩
  | .hbm, ⟨33, _⟩ => ⟨S36x256x1, .f32⟩
  | .hbm, ⟨34, _⟩ => ⟨S36x256x1024, .f32⟩
  | .hbm, ⟨35, _⟩ => ⟨S36x256x1024, .f32⟩
  | .hbm, ⟨36, _⟩ => ⟨S36x256x1024, .f32⟩
  | .hbm, ⟨37, _⟩ => ⟨S36x256x1024, .f32⟩
  | .hbm, ⟨38, _⟩ => ⟨S_, .f32⟩
  | .hbm, ⟨39, _⟩ => ⟨S36x1x1024, .f32⟩
  | .hbm, ⟨40, _⟩ => ⟨S36x1x1024, .f32⟩
  | .hbm, ⟨41, _⟩ => ⟨S36x256x1024, .f32⟩
  | .hbm, ⟨42, _⟩ => ⟨S36x256x1024, .f32⟩
  | .hbm, ⟨43, _⟩ => ⟨S36x256x1024, .f32⟩
  | .hbm, ⟨44, _⟩ => ⟨S36x256x1024, .f32⟩
  | .hbm, ⟨45, _⟩ => ⟨S9216x1024, .f32⟩
  | .hbm, ⟨46, _⟩ => ⟨S9216x6912, .f32⟩
  | .hbm, ⟨47, _⟩ => ⟨S36x256x1024, .f32⟩
  | .hbm, ⟨48, _⟩ => ⟨S9216x1024, .f32⟩
  | .hbm, ⟨49, _⟩ => ⟨S36x256x1024, .f32⟩
  | .hbm, ⟨50, _⟩ => ⟨S_, .f32⟩
  | .hbm, ⟨51, _⟩ => ⟨S36x1024, .f32⟩
  | .hbm, ⟨52, _⟩ => ⟨S36x1x1024, .f32⟩
  | .hbm, ⟨53, _⟩ => ⟨S36x256x1024, .f32⟩
  | .hbm, ⟨54, _⟩ => ⟨S_, .f32⟩
  | .hbm, ⟨55, _⟩ => ⟨S36x1024, .f32⟩
  | .hbm, ⟨56, _⟩ => ⟨S36x1x1024, .f32⟩
  | .hbm, ⟨57, _⟩ => ⟨S36x256x1024, .f32⟩
  | .hbm, ⟨58, _⟩ => ⟨S36x256x1024, .f32⟩
  | .hbm, ⟨59, _⟩ => ⟨S36x256x1024, .f32⟩
  | .hbm, ⟨60, _⟩ => ⟨S_, .f32⟩
  | .hbm, ⟨61, _⟩ => ⟨S36x1024, .f32⟩
  | .hbm, ⟨62, _⟩ => ⟨S36x1x1024, .f32⟩
  | .hbm, ⟨63, _⟩ => ⟨S36x256x1024, .f32⟩
  | .hbm, ⟨64, _⟩ => ⟨S36x256x1024, .f32⟩
  | .hbm, ⟨65, _⟩ => ⟨S36x256x1024, .f32⟩
  | .hbm, ⟨66, _⟩ => ⟨S_, .f32⟩
  | .hbm, ⟨67, _⟩ => ⟨S36x256, .f32⟩
  | .hbm, ⟨68, _⟩ => ⟨S36x256x1, .f32⟩
  | .hbm, ⟨69, _⟩ => ⟨S36x256x1024, .f32⟩
  | .hbm, ⟨70, _⟩ => ⟨S36x256x1024, .f32⟩
  | .hbm, ⟨71, _⟩ => ⟨S36x256x1024, .f32⟩
  | .hbm, ⟨72, _⟩ => ⟨S36x256x1, .f32⟩
  | .hbm, ⟨73, _⟩ => ⟨S_, .f32⟩
  | .hbm, ⟨74, _⟩ => ⟨S36x256x1, .f32⟩
  | .hbm, ⟨75, _⟩ => ⟨S36x256x1, .f32⟩
  | .hbm, ⟨76, _⟩ => ⟨S_, .f32⟩
  | .hbm, ⟨77, _⟩ => ⟨S36x256, .f32⟩
  | .hbm, ⟨78, _⟩ => ⟨S36x256x1024, .f32⟩
  | .hbm, ⟨79, _⟩ => ⟨S36x256x1024, .f32⟩
  | .hbm, ⟨80, _⟩ => ⟨S36x256x1024, .f32⟩
  | .hbm, ⟨81, _⟩ => ⟨S36x256x1024, .f32⟩
  | .hbm, ⟨82, _⟩ => ⟨S36x256x1024, .f32⟩
  | .hbm, ⟨83, _⟩ => ⟨S9216x1024, .f32⟩
  | .hbm, ⟨84, _⟩ => ⟨S_, .f32⟩
  | .hbm, ⟨85, _⟩ => ⟨S36x5x1024, .f32⟩
  | .hbm, ⟨86, _⟩ => ⟨S36x8x1024, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_8 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_10 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Latent.lean ====
abbrev S9216x1024 : Shape := ⟨2, ![9216, 1024]⟩
abbrev S8x3072 : Shape := ⟨2, ![8, 3072]⟩
abbrev S1x1024 : Shape := ⟨2, ![1, 1024]⟩
abbrev S6912x1024 : Shape := ⟨2, ![6912, 1024]⟩
abbrev S9216x6912 : Shape := ⟨2, ![9216, 6912]⟩
abbrev S8x1x3072 : Shape := ⟨3, ![8, 1, 3072]⟩
abbrev S8192x1024 : Shape := ⟨2, ![8192, 1024]⟩
abbrev S36x8x1024 : Shape := ⟨3, ![36, 8, 1024]⟩
abbrev S256x6912 : Shape := ⟨2, ![256, 6912]⟩
abbrev S256x1024 : Shape := ⟨2, ![256, 1024]⟩
abbrev S1x1x3072 : Shape := ⟨3, ![1, 1, 3072]⟩
abbrev S1x8x1024 : Shape := ⟨3, ![1, 8, 1024]⟩
abbrev S256 : Shape := ⟨1, ![256]⟩
abbrev S256x1 : Shape := ⟨2, ![256, 1]⟩
abbrev S1x3072 : Shape := ⟨2, ![1, 3072]⟩
abbrev S1024 : Shape := ⟨1, ![1024]⟩
abbrev S1x1x1024 : Shape := ⟨3, ![1, 1, 1024]⟩
abbrev S5x1024 : Shape := ⟨2, ![5, 1024]⟩
abbrev S1x5x1024 : Shape := ⟨3, ![1, 5, 1024]⟩

abbrev nBuf : Space → Nat
  | .hbm => 11
  | .vmem => 14
  | .smem => 0
  | _ => 0

abbrev bufTy : (tb : Table) → Fin (tcTables nBuf tb) → BufTy
  | .hbm, ⟨0, _⟩ => ⟨S9216x1024, .f32⟩
  | .hbm, ⟨1, _⟩ => ⟨S8x3072, .f32⟩
  | .hbm, ⟨2, _⟩ => ⟨S1x1024, .f32⟩
  | .hbm, ⟨3, _⟩ => ⟨S6912x1024, .f32⟩
  | .hbm, ⟨4, _⟩ => ⟨S9216x6912, .f32⟩
  | .hbm, ⟨5, _⟩ => ⟨S9216x1024, .f32⟩
  | .hbm, ⟨6, _⟩ => ⟨S9216x6912, .bf16⟩
  | .hbm, ⟨7, _⟩ => ⟨S6912x1024, .bf16⟩
  | .hbm, ⟨8, _⟩ => ⟨S8x1x3072, .f32⟩
  | .hbm, ⟨9, _⟩ => ⟨S8192x1024, .f32⟩
  | .hbm, ⟨10, _⟩ => ⟨S36x8x1024, .f32⟩
  | .local _ .vmem, ⟨0, _⟩ => ⟨S256x6912, .bf16⟩
  | .local _ .vmem, ⟨1, _⟩ => ⟨S256x6912, .bf16⟩
  | .local _ .vmem, ⟨2, _⟩ => ⟨S6912x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1x3072, .f32⟩
  | .local _ .vmem, ⟨8, _⟩ => ⟨S1x1x3072, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S1x8x1024, .f32⟩
  | .local _ .vmem, ⟨13, _⟩ => ⟨S1x8x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c9_i32_4 : BitVec 32 := 9#32
  let v11 : BitVec 32 := Scalar.divsi arg0 c9_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c9_i32_4 c0_i32_7
  let v18 : BitVec 32 := Scalar.extui v17
  let c0_i32_8 : BitVec 32 := 0#32
  let v19 : BitVec 1 := Scalar.cmpi .slt c9_i32_4 c0_i32_8
  let v20 : BitVec 32 := Scalar.extui v19
  let v21 : BitVec 32 := Scalar.subi v18 v20
  let v22 : BitVec 1 := Scalar.cmpi .ne v16 v21
  let v23 : BitVec 32 := Scalar.remsi arg0 c9_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c4_i32 : BitVec 32 := 4#32
  let v28 : BitVec 32 := Scalar.select v10 c4_i32 v27
  let c0_i32_11 : BitVec 32 := 0#32
  let c0_i32_12 : BitVec 32 := 0#32
  let c0_i32_13 : BitVec 32 := 0#32
  ![v28.toNat, c0_i32_11.toNat, c0_i32_12.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.subi v27 c1_i32_10
  let c0_i32_11 : BitVec 32 := 0#32
  let v29 : BitVec 32 := Scalar.maxsi v28 c0_i32_11
  let v30 : BitVec 32 := Scalar.addi v17 v29
  let c0_i32_12 : BitVec 32 := 0#32
  let c0_i32_13 : BitVec 32 := 0#32
  ![v30.toNat, c0_i32_12.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x6912 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6912x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LatentReferenceIdeal.lean ====
abbrev S9216x1024 : Shape := ⟨2, ![9216, 1024]⟩
abbrev S8x3072 : Shape := ⟨2, ![8, 3072]⟩
abbrev S1x1024 : Shape := ⟨2, ![1, 1024]⟩
abbrev S6912x1024 : Shape := ⟨2, ![6912, 1024]⟩
abbrev S9216x6912 : Shape := ⟨2, ![9216, 6912]⟩
abbrev S4x3072 : Shape := ⟨2, ![4, 3072]⟩
abbrev S4x1x3072 : Shape := ⟨3, ![4, 1, 3072]⟩
abbrev S4x8x3072 : Shape := ⟨3, ![4, 8, 3072]⟩
abbrev S1x3072 : Shape := ⟨2, ![1, 3072]⟩
abbrev S3072 : Shape := ⟨1, ![3072]⟩
abbrev S1x1x3072 : Shape := ⟨3, ![1, 1, 3072]⟩
abbrev S4x9x3072 : Shape := ⟨3, ![4, 9, 3072]⟩
abbrev S36x1x3072 : Shape := ⟨3, ![36, 1, 3072]⟩
abbrev S36x1x1024 : Shape := ⟨3, ![36, 1, 1024]⟩
abbrev S36x256x1024 : Shape := ⟨3, ![36, 256, 1024]⟩
abbrev S_ : Shape := ⟨0, ![]⟩
abbrev S36x256 : Shape := ⟨2, ![36, 256]⟩
abbrev S36x256x1 : Shape := ⟨3, ![36, 256, 1]⟩
abbrev S36x1024 : Shape := ⟨2, ![36, 1024]⟩
abbrev S36x5x1024 : Shape := ⟨3, ![36, 5, 1024]⟩
abbrev S36x8x1024 : Shape := ⟨3, ![36, 8, 1024]⟩
abbrev S4x9x256x1024 : Shape := ⟨4, ![4, 9, 256, 1024]⟩
abbrev S4x8x256x1024 : Shape := ⟨4, ![4, 8, 256, 1024]⟩
abbrev S8192x1024 : Shape := ⟨2, ![8192, 1024]⟩

abbrev nBuf : Space → Nat
  | .hbm => 90
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S8x3072, .f32⟩
  | .hbm, ⟨2, _⟩ => ⟨S1x1024, .f32⟩
  | .hbm, ⟨3, _⟩ => ⟨S6912x1024, .f32⟩
  | .hbm, ⟨4, _⟩ => ⟨S9216x6912, .f32⟩
  | .hbm, ⟨5, _⟩ => ⟨S9216x1024, .f32⟩
  | .hbm, ⟨6, _⟩ => ⟨S4x3072, .f32⟩
  | .hbm, ⟨7, _⟩ => ⟨S4x1x3072, .f32⟩
  | .hbm, ⟨8, _⟩ => ⟨S4x8x3072, .f32⟩
  | .hbm, ⟨9, _⟩ => ⟨S1x3072, .f32⟩
  | .hbm, ⟨10, _⟩ => ⟨S3072, .f32⟩
  | .hbm, ⟨11, _⟩ => ⟨S1x1x3072, .f32⟩
  | .hbm, ⟨12, _⟩ => ⟨S4x1x3072, .f32⟩
  | .hbm, ⟨13, _⟩ => ⟨S4x9x3072, .f32⟩
  | .hbm, ⟨14, _⟩ => ⟨S36x1x3072, .f32⟩
  | .hbm, ⟨15, _⟩ => ⟨S36x1x1024, .f32⟩
  | .hbm, ⟨16, _⟩ => ⟨S36x1x1024, .f32⟩
  | .hbm, ⟨17, _⟩ => ⟨S36x1x1024, .f32⟩
  | .hbm, ⟨18, _⟩ => ⟨S36x256x1024, .f32⟩
  | .hbm, ⟨19, _⟩ => ⟨S36x256x1024, .f32⟩
  | .hbm, ⟨20, _⟩ => ⟨S_, .f32⟩
  | .hbm, ⟨21, _⟩ => ⟨S36x256, .f32⟩
  | .hbm, ⟨22, _⟩ => ⟨S36x256x1, .f32⟩
  | .hbm, ⟨23, _⟩ => ⟨S_, .f32⟩
  | .hbm, ⟨24, _⟩ => ⟨S36x256x1, .f32⟩
  | .hbm, ⟨25, _⟩ => ⟨S36x256x1, .f32⟩
  | .hbm, ⟨26, _⟩ => ⟨S_, .f32⟩
  | .hbm, ⟨27, _⟩ => ⟨S36x256x1, .f32⟩
  | .hbm, ⟨28, _⟩ => ⟨S36x256x1, .f32⟩
  | .hbm, ⟨29, _⟩ => ⟨S36x256x1, .f32⟩
  | .hbm, ⟨30, _⟩ => ⟨S36x256x1, .f32⟩
  | .hbm, ⟨31, _⟩ => ⟨S_, .f32⟩
  | .hbm, ⟨32, _⟩ => ⟨S36x256x1, .f32⟩
  | .hbm, ⟨33, _⟩ => ⟨S36x256x1, .f32⟩
  | .hbm, ⟨34, _⟩ => ⟨S36x256x1024, .f32⟩
  | .hbm, ⟨35, _⟩ => ⟨S36x256x1024, .f32⟩
  | .hbm, ⟨36, _⟩ => ⟨S36x256x1024, .f32⟩
  | .hbm, ⟨37, _⟩ => ⟨S36x256x1024, .f32⟩
  | .hbm, ⟨38, _⟩ => ⟨S_, .f32⟩
  | .hbm, ⟨39, _⟩ => ⟨S36x1x1024, .f32⟩
  | .hbm, ⟨40, _⟩ => ⟨S36x1x1024, .f32⟩
  | .hbm, ⟨41, _⟩ => ⟨S36x256x1024, .f32⟩
  | .hbm, ⟨42, _⟩ => ⟨S36x256x1024, .f32⟩
  | .hbm, ⟨43, _⟩ => ⟨S36x256x1024, .f32⟩
  | .hbm, ⟨44, _⟩ => ⟨S36x256x1024, .f32⟩
  | .hbm, ⟨45, _⟩ => ⟨S9216x1024, .f32⟩
  | .hbm, ⟨46, _⟩ => ⟨S9216x6912, .f32⟩
  | .hbm, ⟨47, _⟩ => ⟨S36x256x1024, .f32⟩
  | .hbm, ⟨48, _⟩ => ⟨S9216x1024, .f32⟩
  | .hbm, ⟨49, _⟩ => ⟨S36x256x1024, .f32⟩
  | .hbm, ⟨50, _⟩ => ⟨S_, .f32⟩
  | .hbm, ⟨51, _⟩ => ⟨S36x1024, .f32⟩
  | .hbm, ⟨52, _⟩ => ⟨S36x1x1024, .f32⟩
  | .hbm, ⟨53, _⟩ => ⟨S36x256x1024, .f32⟩
  | .hbm, ⟨54, _⟩ => ⟨S_, .f32⟩
  | .hbm, ⟨55, _⟩ => ⟨S36x1024, .f32⟩
  | .hbm, ⟨56, _⟩ => ⟨S36x1x1024, .f32⟩
  | .hbm, ⟨57, _⟩ => ⟨S36x256x1024, .f32⟩
  | .hbm, ⟨58, _⟩ => ⟨S36x256x1024, .f32⟩
  | .hbm, ⟨59, _⟩ => ⟨S36x256x1024, .f32⟩
  | .hbm, ⟨60, _⟩ => ⟨S_, .f32⟩
  | .hbm, ⟨61, _⟩ => ⟨S36x1024, .f32⟩
  | .hbm, ⟨62, _⟩ => ⟨S36x1x1024, .f32⟩
  | .hbm, ⟨63, _⟩ => ⟨S36x256x1024, .f32⟩
  | .hbm, ⟨64, _⟩ => ⟨S36x256x1024, .f32⟩
  | .hbm, ⟨65, _⟩ => ⟨S36x256x1024, .f32⟩
  | .hbm, ⟨66, _⟩ => ⟨S_, .f32⟩
  | .hbm, ⟨67, _⟩ => ⟨S36x256, .f32⟩
  | .hbm, ⟨68, _⟩ => ⟨S36x256x1, .f32⟩
  | .hbm, ⟨69, _⟩ => ⟨S36x256x1024, .f32⟩
  | .hbm, ⟨70, _⟩ => ⟨S36x256x1024, .f32⟩
  | .hbm, ⟨71, _⟩ => ⟨S36x256x1024, .f32⟩
  | .hbm, ⟨72, _⟩ => ⟨S36x256x1, .f32⟩
  | .hbm, ⟨73, _⟩ => ⟨S_, .f32⟩
  | .hbm, ⟨74, _⟩ => ⟨S36x256x1, .f32⟩
  | .hbm, ⟨75, _⟩ => ⟨S36x256x1, .f32⟩
  | .hbm, ⟨76, _⟩ => ⟨S_, .f32⟩
  | .hbm, ⟨77, _⟩ => ⟨S36x256, .f32⟩
  | .hbm, ⟨78, _⟩ => ⟨S36x256x1024, .f32⟩
  | .hbm, ⟨79, _⟩ => ⟨S36x256x1024, .f32⟩
  | .hbm, ⟨80, _⟩ => ⟨S36x256x1024, .f32⟩
  | .hbm, ⟨81, _⟩ => ⟨S36x256x1024, .f32⟩
  | .hbm, ⟨82, _⟩ => ⟨S36x256x1024, .f32⟩
  | .hbm, ⟨83, _⟩ => ⟨S9216x1024, .f32⟩
  | .hbm, ⟨84, _⟩ => ⟨S_, .f32⟩
  | .hbm, ⟨85, _⟩ => ⟨S36x5x1024, .f32⟩
  | .hbm, ⟨86, _⟩ => ⟨S36x8x1024, .f32⟩
  | .hbm, ⟨87, _⟩ => ⟨S4x9x256x1024, .f32⟩
  | .hbm, ⟨88, _⟩ => ⟨S4x8x256x1024, .f32⟩
  | .hbm, ⟨89, _⟩ => ⟨S8192x1024, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_8 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_10 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Merge.lean ====
abbrev S9216x6912 : Shape := ⟨2, ![9216, 6912]⟩
abbrev S9216x512 : Shape := ⟨2, ![9216, 512]⟩
abbrev S1x128 : Shape := ⟨2, ![1, 128]⟩
abbrev S512x1024 : Shape := ⟨2, ![512, 1024]⟩
abbrev S1024x1024 : Shape := ⟨2, ![1024, 1024]⟩
abbrev S8x3072 : Shape := ⟨2, ![8, 3072]⟩
abbrev S1x1024 : Shape := ⟨2, ![1, 1024]⟩
abbrev S9216x1024 : Shape := ⟨2, ![9216, 1024]⟩
abbrev S8x1x3072 : Shape := ⟨3, ![8, 1, 3072]⟩
abbrev S256x3072 : Shape := ⟨2, ![256, 3072]⟩
abbrev S256x512 : Shape := ⟨2, ![256, 512]⟩
abbrev S1x1x3072 : Shape := ⟨3, ![1, 1, 3072]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1x3072 : Shape := ⟨2, ![1, 3072]⟩

abbrev nBuf : Space → Nat
  | .hbm => 21
  | .vmem => 28
  | .smem => 0
  | _ => 0

abbrev bufTy : (tb : Table) → Fin (tcTables nBuf tb) → BufTy
  | .hbm, ⟨0, _⟩ => ⟨S9216x6912, .f32⟩
  | .hbm, ⟨1, _⟩ => ⟨S9216x512, .f32⟩
  | .hbm, ⟨2, _⟩ => ⟨S9216x512, .f32⟩
  | .hbm, ⟨3, _⟩ => ⟨S9216x512, .f32⟩
  | .hbm, ⟨4, _⟩ => ⟨S9216x512, .f32⟩
  | .hbm, ⟨5, _⟩ => ⟨S1x128, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S8x3072, .f32⟩
  | .hbm, ⟨11, _⟩ => ⟨S1x1024, .f32⟩
  | .hbm, ⟨12, _⟩ => ⟨S9216x1024, .f32⟩
  | .hbm, ⟨13, _⟩ => ⟨S9216x512, .bf16⟩
  | .hbm, ⟨14, _⟩ => ⟨S512x1024, .bf16⟩
  | .hbm, ⟨15, _⟩ => ⟨S512x1024, .bf16⟩
  | .hbm, ⟨16, _⟩ => ⟨S512x1024, .bf16⟩
  | .hbm, ⟨17, _⟩ => ⟨S1024x1024, .bf16⟩
  | .hbm, ⟨18, _⟩ => ⟨S8x1x3072, .f32⟩
  | .hbm, ⟨19, _⟩ => ⟨S9216x1024, .f32⟩
  | .hbm, ⟨20, _⟩ => ⟨S9216x1024, .f32⟩
  | .local _ .vmem, ⟨0, _⟩ => ⟨S256x3072, .f32⟩
  | .local _ .vmem, ⟨1, _⟩ => ⟨S256x3072, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S1x128, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1x1x3072, .f32⟩
  | .local _ .vmem, ⟨19, _⟩ => ⟨S1x1x3072, .f32⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | .local _ .vmem, ⟨23, _⟩ => ⟨S1024x1024, .bf16⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | _, _ => ⟨S9216x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c9_i32_4 : BitVec 32 := 9#32
  let v11 : BitVec 32 := Scalar.divsi arg0 c9_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c9_i32_4 c0_i32_7
  let v18 : BitVec 32 := Scalar.extui v17
  let c0_i32_8 : BitVec 32 := 0#32
  let v19 : BitVec 1 := Scalar.cmpi .slt c9_i32_4 c0_i32_8
  let v20 : BitVec 32 := Scalar.extui v19
  let v21 : BitVec 32 := Scalar.subi v18 v20
  let v22 : BitVec 1 := Scalar.cmpi .ne v16 v21
  let v23 : BitVec 32 := Scalar.remsi arg0 c9_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c4_i32 : BitVec 32 := 4#32
  let v28 : BitVec 32 := Scalar.select v10 c4_i32 v27
  let c0_i32_11 : BitVec 32 := 0#32
  let c0_i32_12 : BitVec 32 := 0#32
  let c0_i32_13 : BitVec 32 := 0#32
  ![v28.toNat, c0_i32_11.toNat, c0_i32_12.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x3072 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeReferenceIdeal.lean ====
abbrev S9216x6912 : Shape := ⟨2, ![9216, 6912]⟩
abbrev S9216x512 : Shape := ⟨2, ![9216, 512]⟩
abbrev S1x128 : Shape := ⟨2, ![1, 128]⟩
abbrev S512x1024 : Shape := ⟨2, ![512, 1024]⟩
abbrev S1024x1024 : Shape := ⟨2, ![1024, 1024]⟩
abbrev S8x3072 : Shape := ⟨2, ![8, 3072]⟩
abbrev S1x1024 : Shape := ⟨2, ![1, 1024]⟩
abbrev S9216x1024 : Shape := ⟨2, ![9216, 1024]⟩
abbrev S9216x3072 : Shape := ⟨2, ![9216, 3072]⟩
abbrev S_ : Shape := ⟨0, ![]⟩
abbrev S9216x4x128 : Shape := ⟨3, ![9216, 4, 128]⟩
abbrev S9216x4 : Shape := ⟨2, ![9216, 4]⟩
abbrev S9216x4x1 : Shape := ⟨3, ![9216, 4, 1]⟩
abbrev S1x1x128 : Shape := ⟨3, ![1, 1, 128]⟩
abbrev S4x3072 : Shape := ⟨2, ![4, 3072]⟩
abbrev S4x1x3072 : Shape := ⟨3, ![4, 1, 3072]⟩
abbrev S4x8x3072 : Shape := ⟨3, ![4, 8, 3072]⟩
abbrev S1x3072 : Shape := ⟨2, ![1, 3072]⟩
abbrev S3072 : Shape := ⟨1, ![3072]⟩
abbrev S1x1x3072 : Shape := ⟨3, ![1, 1, 3072]⟩
abbrev S4x9x3072 : Shape := ⟨3, ![4, 9, 3072]⟩
abbrev S36x1x3072 : Shape := ⟨3, ![36, 1, 3072]⟩
abbrev S36x1x1024 : Shape := ⟨3, ![36, 1, 1024]⟩
abbrev S36x256x1024 : Shape := ⟨3, ![36, 256, 1024]⟩
abbrev S36x256 : Shape := ⟨2, ![36, 256]⟩
abbrev S36x256x1 : Shape := ⟨3, ![36, 256, 1]⟩
abbrev S1x1x1024 : Shape := ⟨3, ![1, 1, 1024]⟩

abbrev nBuf : Space → Nat
  | .hbm => 106
  | .vmem => 0
  | .smem => 0
  | _ => 0

abbrev bufTy : (tb : Table) → Fin (tcTables nBuf tb) → BufTy
  | .hbm, ⟨0, _⟩ => ⟨S9216x6912, .f32⟩
  | .hbm, ⟨1, _⟩ => ⟨S9216x512, .f32⟩
  | .hbm, ⟨2, _⟩ => ⟨S9216x512, .f32⟩
  | .hbm, ⟨3, _⟩ => ⟨S9216x512, .f32⟩
  | .hbm, ⟨4, _⟩ => ⟨S9216x512, .f32⟩
  | .hbm, ⟨5, _⟩ => ⟨S1x128, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S8x3072, .f32⟩
  | .hbm, ⟨11, _⟩ => ⟨S1x1024, .f32⟩
  | .hbm, ⟨12, _⟩ => ⟨S9216x1024, .f32⟩
  | .hbm, ⟨13, _⟩ => ⟨S9216x3072, .f32⟩
  | .hbm, ⟨14, _⟩ => ⟨S9216x512, .f32⟩
  | .hbm, ⟨15, _⟩ => ⟨S9216x512, .f32⟩
  | .hbm, ⟨16, _⟩ => ⟨S9216x512, .f32⟩
  | .hbm, ⟨17, _⟩ => ⟨S9216x512, .f32⟩
  | .hbm, ⟨18, _⟩ => ⟨S9216x512, .f32⟩
  | .hbm, ⟨19, _⟩ => ⟨S_, .f32⟩
  | .hbm, ⟨20, _⟩ => ⟨S9216x512, .f32⟩
  | .hbm, ⟨21, _⟩ => ⟨S9216x512, .f32⟩
  | .hbm, ⟨22, _⟩ => ⟨S_, .f32⟩
  | .hbm, ⟨23, _⟩ => ⟨S9216x512, .f32⟩
  | .hbm, ⟨24, _⟩ => ⟨S9216x512, .f32⟩
  | .hbm, ⟨25, _⟩ => ⟨S9216x512, .f32⟩
  | .hbm, ⟨26, _⟩ => ⟨S9216x512, .f32⟩
  | .hbm, ⟨27, _⟩ => ⟨S9216x4x128, .f32⟩
  | .hbm, ⟨28, _⟩ => ⟨S9216x4x128, .f32⟩
  | .hbm, ⟨29, _⟩ => ⟨S_, .f32⟩
  | .hbm, ⟨30, _⟩ => ⟨S9216x4, .f32⟩
  | .hbm, ⟨31, _⟩ => ⟨S9216x4x1, .f32⟩
  | .hbm, ⟨32, _⟩ => ⟨S_, .f32⟩
  | .hbm, ⟨33, _⟩ => ⟨S9216x4x1, .f32⟩
  | .hbm, ⟨34, _⟩ => ⟨S9216x4x1, .f32⟩
  | .hbm, ⟨35, _⟩ => ⟨S_, .f32⟩
  | .hbm, ⟨36, _⟩ => ⟨S9216x4x1, .f32⟩
  | .hbm, ⟨37, _⟩ => ⟨S9216x4x1, .f32⟩
  | .hbm, ⟨38, _⟩ => ⟨S9216x4x1, .f32⟩
  | .hbm, ⟨39, _⟩ => ⟨S9216x4x128, .f32⟩
  | .hbm, ⟨40, _⟩ => ⟨S9216x4x128, .f32⟩
  | .hbm, ⟨41, _⟩ => ⟨S1x1x128, .f32⟩
  | .hbm, ⟨42, _⟩ => ⟨S9216x4x128, .f32⟩
  | .hbm, ⟨43, _⟩ => ⟨S9216x4x128, .f32⟩
  | .hbm, ⟨44, _⟩ => ⟨S9216x512, .f32⟩
  | .hbm, ⟨45, _⟩ => ⟨S9216x512, .f32⟩
  | .hbm, ⟨46, _⟩ => ⟨S9216x512, .f32⟩
  | .hbm, ⟨47, _⟩ => ⟨S_, .f32⟩
  | .hbm, ⟨48, _⟩ => ⟨S9216x512, .f32⟩
  | .hbm, ⟨49, _⟩ => ⟨S9216x512, .f32⟩
  | .hbm, ⟨50, _⟩ => ⟨S_, .f32⟩
  | .hbm, ⟨51, _⟩ => ⟨S9216x512, .f32⟩
  | .hbm, ⟨52, _⟩ => ⟨S9216x512, .f32⟩
  | .hbm, ⟨53, _⟩ => ⟨S9216x512, .f32⟩
  | .hbm, ⟨54, _⟩ => ⟨S9216x512, .f32⟩
  | .hbm, ⟨55, _⟩ => ⟨S9216x3072, .f32⟩
  | .hbm, ⟨56, _⟩ => ⟨S9216x3072, .f32⟩
  | .hbm, ⟨57, _⟩ => ⟨S_, .f32⟩
  | .hbm, ⟨58, _⟩ => ⟨S9216x3072, .f32⟩
  | .hbm, ⟨59, _⟩ => ⟨S9216x3072, .f32⟩
  | .hbm, ⟨60, _⟩ => ⟨S_, .f32⟩
  | .hbm, ⟨61, _⟩ => ⟨S9216x3072, .f32⟩
  | .hbm, ⟨62, _⟩ => ⟨S9216x3072, .f32⟩
  | .hbm, ⟨63, _⟩ => ⟨S9216x1024, .f32⟩
  | .hbm, ⟨64, _⟩ => ⟨S9216x1024, .f32⟩
  | .hbm, ⟨65, _⟩ => ⟨S9216x1024, .f32⟩
  | .hbm, ⟨66, _⟩ => ⟨S9216x1024, .f32⟩
  | .hbm, ⟨67, _⟩ => ⟨S9216x1024, .f32⟩
  | .hbm, ⟨68, _⟩ => ⟨S9216x1024, .f32⟩
  | .hbm, ⟨69, _⟩ => ⟨S9216x1024, .f32⟩
  | .hbm, ⟨70, _⟩ => ⟨S9216x1024, .f32⟩
  | .hbm, ⟨71, _⟩ => ⟨S9216x1024, .f32⟩
  | .hbm, ⟨72, _⟩ => ⟨S9216x1024, .f32⟩
  | .hbm, ⟨73, _⟩ => ⟨S9216x1024, .f32⟩
  | .hbm, ⟨74, _⟩ => ⟨S9216x1024, .f32⟩
  | .hbm, ⟨75, _⟩ => ⟨S4x3072, .f32⟩
  | .hbm, ⟨76, _⟩ => ⟨S4x1x3072, .f32⟩
  | .hbm, ⟨77, _⟩ => ⟨S4x8x3072, .f32⟩
  | .hbm, ⟨78, _⟩ => ⟨S1x3072, .f32⟩
  | .hbm, ⟨79, _⟩ => ⟨S3072, .f32⟩
  | .hbm, ⟨80, _⟩ => ⟨S1x1x3072, .f32⟩
  | .hbm, ⟨81, _⟩ => ⟨S4x1x3072, .f32⟩
  | .hbm, ⟨82, _⟩ => ⟨S4x9x3072, .f32⟩
  | .hbm, ⟨83, _⟩ => ⟨S36x1x3072, .f32⟩
  | .hbm, ⟨84, _⟩ => ⟨S36x1x1024, .f32⟩
  | .hbm, ⟨85, _⟩ => ⟨S36x256x1024, .f32⟩
  | .hbm, ⟨86, _⟩ => ⟨S36x256x1024, .f32⟩
  | .hbm, ⟨87, _⟩ => ⟨S_, .f32⟩
  | .hbm, ⟨88, _⟩ => ⟨S36x256, .f32⟩
  | .hbm, ⟨89, _⟩ => ⟨S36x256x1, .f32⟩
  | .hbm, ⟨90, _⟩ => ⟨S_, .f32⟩
  | .hbm, ⟨91, _⟩ => ⟨S36x256x1, .f32⟩
  | .hbm, ⟨92, _⟩ => ⟨S36x256x1, .f32⟩
  | .hbm, ⟨93, _⟩ => ⟨S_, .f32⟩
  | .hbm, ⟨94, _⟩ => ⟨S36x256x1, .f32⟩
  | .hbm, ⟨95, _⟩ => ⟨S36x256x1, .f32⟩
  | .hbm, ⟨96, _⟩ => ⟨S36x256x1, .f32⟩
  | .hbm, ⟨97, _⟩ => ⟨S36x256x1024, .f32⟩
  | .hbm, ⟨98, _⟩ => ⟨S36x256x1024, .f32⟩
  | .hbm, ⟨99, _⟩ => ⟨S1x1x1024, .f32⟩
  | .hbm, ⟨100, _⟩ => ⟨S36x256x1024, .f32⟩
  | .hbm, ⟨101, _⟩ => ⟨S36x256x1024, .f32⟩
  | .hbm, ⟨102, _⟩ => ⟨S36x256x1024, .f32⟩
  | .hbm, ⟨103, _⟩ => ⟨S36x256x1024, .f32⟩
  | .hbm, ⟨104, _⟩ => ⟨S9216x1024, .f32⟩
  | .hbm, ⟨105, _⟩ => ⟨S9216x1024, .f32⟩
  | _, _ => ⟨S9216x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_2 : Ref sig .tc := ⟨.hbm, 57, rfl⟩
abbrev main_v25 : Ref sig .tc := ⟨.hbm, 58, rfl⟩
abbrev main_v26 : Ref sig .tc := ⟨.hbm, 59, rfl⟩
abbrev main_cst_3 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_4 : Ref sig .tc := ⟨.hbm, 87, rfl⟩
abbrev main_v53 : Ref sig .tc := ⟨.hbm, 88, rfl⟩
abbrev main_v54 : Ref sig .tc := ⟨.hbm, 89, rfl⟩
abbrev main_cst_5 : Ref sig .tc := ⟨.hbm, 90, rfl⟩
abbrev main_v55 : Ref sig .tc := ⟨.hbm, 91, rfl⟩
abbrev main_v56 : Ref sig .tc := ⟨.hbm, 92, rfl⟩
abbrev main_cst_6 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩

abbrev nD : Nat := 1
abbrev τ : Topo := Topo.v7x

variable {F : FTy → Type} [FloatOps F]
-- ==== Split.lean ====
abbrev S9216x6912 : Shape := ⟨2, ![9216, 6912]⟩
abbrev S9216x512 : Shape := ⟨2, ![9216, 512]⟩
abbrev S1x128 : Shape := ⟨2, ![1, 128]⟩
abbrev S512x1024 : Shape := ⟨2, ![512, 1024]⟩
abbrev S1024x1024 : Shape := ⟨2, ![1024, 1024]⟩
abbrev S8x3072 : Shape := ⟨2, ![8, 3072]⟩
abbrev S1x1024 : Shape := ⟨2, ![1, 1024]⟩
abbrev S9216x1024 : Shape := ⟨2, ![9216, 1024]⟩
abbrev S9216x3072 : Shape := ⟨2, ![9216, 3072]⟩
abbrev S_ : Shape := ⟨0, ![]⟩
abbrev S9216x4x128 : Shape := ⟨3, ![9216, 4, 128]⟩
abbrev S9216x4 : Shape := ⟨2, ![9216, 4]⟩
abbrev S9216x4x1 : Shape := ⟨3, ![9216, 4, 1]⟩
abbrev S1x1x128 : Shape := ⟨3, ![1, 1, 128]⟩
abbrev S1024x512 : Shape := ⟨2, ![1024, 512]⟩
abbrev S8x1x3072 : Shape := ⟨3, ![8, 1, 3072]⟩
abbrev S36x8x1024 : Shape := ⟨3, ![36, 8, 1024]⟩
abbrev S256x3072 : Shape := ⟨2, ![256, 3072]⟩
abbrev S256x512 : Shape := ⟨2, ![256, 512]⟩
abbrev S1x1x3072 : Shape := ⟨3, ![1, 1, 3072]⟩
abbrev S256x1024 : Shape := ⟨2, ![256, 1024]⟩
abbrev S256x4096 : Shape := ⟨2, ![256, 4096]⟩
abbrev S1x8x1024 : Shape := ⟨3, ![1, 8, 1024]⟩
abbrev S256x128 : Shape := ⟨2, ![256, 128]⟩
abbrev S256 : Shape := ⟨1, ![256]⟩
abbrev S256x1 : Shape := ⟨2, ![256, 1]⟩
abbrev S1x3072 : Shape := ⟨2, ![1, 3072]⟩
abbrev S1024 : Shape := ⟨1, ![1024]⟩
abbrev S1x1x1024 : Shape := ⟨3, ![1, 1, 1024]⟩
abbrev S6x1024 : Shape := ⟨2, ![6, 1024]⟩
abbrev S1x6x1024 : Shape := ⟨3, ![1, 6, 1024]⟩
abbrev S128 : Shape := ⟨1, ![128]⟩

abbrev nBuf : Space → Nat
  | .hbm => 98
  | .vmem => 44
  | .smem => 0
  | _ => 0

abbrev bufTy : (tb : Table) → Fin (tcTables nBuf tb) → BufTy
  | .hbm, ⟨0, _⟩ => ⟨S9216x6912, .f32⟩
  | .hbm, ⟨1, _⟩ => ⟨S9216x512, .f32⟩
  | .hbm, ⟨2, _⟩ => ⟨S9216x512, .f32⟩
  | .hbm, ⟨3, _⟩ => ⟨S9216x512, .f32⟩
  | .hbm, ⟨4, _⟩ => ⟨S9216x512, .f32⟩
  | .hbm, ⟨5, _⟩ => ⟨S1x128, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S8x3072, .f32⟩
  | .hbm, ⟨11, _⟩ => ⟨S1x1024, .f32⟩
  | .hbm, ⟨12, _⟩ => ⟨S9216x1024, .f32⟩
  | .hbm, ⟨13, _⟩ => ⟨S9216x3072, .f32⟩
  | .hbm, ⟨14, _⟩ => ⟨S9216x512, .f32⟩
  | .hbm, ⟨15, _⟩ => ⟨S9216x512, .f32⟩
  | .hbm, ⟨16, _⟩ => ⟨S9216x512, .f32⟩
  | .hbm, ⟨17, _⟩ => ⟨S9216x512, .f32⟩
  | .hbm, ⟨18, _⟩ => ⟨S9216x512, .f32⟩
  | .hbm, ⟨19, _⟩ => ⟨S_, .f32⟩
  | .hbm, ⟨20, _⟩ => ⟨S9216x512, .f32⟩
  | .hbm, ⟨21, _⟩ => ⟨S9216x512, .f32⟩
  | .hbm, ⟨22, _⟩ => ⟨S_, .f32⟩
  | .hbm, ⟨23, _⟩ => ⟨S9216x512, .f32⟩
  | .hbm, ⟨24, _⟩ => ⟨S9216x512, .f32⟩
  | .hbm, ⟨25, _⟩ => ⟨S9216x512, .f32⟩
  | .hbm, ⟨26, _⟩ => ⟨S9216x512, .f32⟩
  | .hbm, ⟨27, _⟩ => ⟨S9216x4x128, .f32⟩
  | .hbm, ⟨28, _⟩ => ⟨S9216x4x128, .f32⟩
  | .hbm, ⟨29, _⟩ => ⟨S_, .f32⟩
  | .hbm, ⟨30, _⟩ => ⟨S9216x4, .f32⟩
  | .hbm, ⟨31, _⟩ => ⟨S9216x4x1, .f32⟩
  | .hbm, ⟨32, _⟩ => ⟨S_, .f32⟩
  | .hbm, ⟨33, _⟩ => ⟨S9216x4x1, .f32⟩
  | .hbm, ⟨34, _⟩ => ⟨S9216x4x1, .f32⟩
  | .hbm, ⟨35, _⟩ => ⟨S_, .f32⟩
  | .hbm, ⟨36, _⟩ => ⟨S9216x4x1, .f32⟩
  | .hbm, ⟨37, _⟩ => ⟨S9216x4x1, .f32⟩
  | .hbm, ⟨38, _⟩ => ⟨S9216x4x1, .f32⟩
  | .hbm, ⟨39, _⟩ => ⟨S9216x4x128, .f32⟩
  | .hbm, ⟨40, _⟩ => ⟨S9216x4x128, .f32⟩
  | .hbm, ⟨41, _⟩ => ⟨S1x1x128, .f32⟩
  | .hbm, ⟨42, _⟩ => ⟨S9216x4x128, .f32⟩
  | .hbm, ⟨43, _⟩ => ⟨S9216x4x128, .f32⟩
  | .hbm, ⟨44, _⟩ => ⟨S9216x512, .f32⟩
  | .hbm, ⟨45, _⟩ => ⟨S9216x512, .f32⟩
  | .hbm, ⟨46, _⟩ => ⟨S9216x512, .f32⟩
  | .hbm, ⟨47, _⟩ => ⟨S_, .f32⟩
  | .hbm, ⟨48, _⟩ => ⟨S9216x512, .f32⟩
  | .hbm, ⟨49, _⟩ => ⟨S9216x512, .f32⟩
  | .hbm, ⟨50, _⟩ => ⟨S_, .f32⟩
  | .hbm, ⟨51, _⟩ => ⟨S9216x512, .f32⟩
  | .hbm, ⟨52, _⟩ => ⟨S9216x512, .f32⟩
  | .hbm, ⟨53, _⟩ => ⟨S9216x512, .f32⟩
  | .hbm, ⟨54, _⟩ => ⟨S9216x512, .f32⟩
  | .hbm, ⟨55, _⟩ => ⟨S9216x3072, .f32⟩
  | .hbm, ⟨56, _⟩ => ⟨S9216x3072, .f32⟩
  | .hbm, ⟨57, _⟩ => ⟨S_, .f32⟩
  | .hbm, ⟨58, _⟩ => ⟨S9216x3072, .f32⟩
  | .hbm, ⟨59, _⟩ => ⟨S9216x3072, .f32⟩
  | .hbm, ⟨60, _⟩ => ⟨S_, .f32⟩
  | .hbm, ⟨61, _⟩ => ⟨S9216x3072, .f32⟩
  | .hbm, ⟨62, _⟩ => ⟨S9216x3072, .f32⟩
  | .hbm, ⟨63, _⟩ => ⟨S9216x1024, .f32⟩
  | .hbm, ⟨64, _⟩ => ⟨S9216x1024, .f32⟩
  | .hbm, ⟨65, _⟩ => ⟨S9216x1024, .f32⟩
  | .hbm, ⟨66, _⟩ => ⟨S9216x1024, .f32⟩
  | .hbm, ⟨67, _⟩ => ⟨S9216x1024, .f32⟩
  | .hbm, ⟨68, _⟩ => ⟨S9216x1024, .f32⟩
  | .hbm, ⟨69, _⟩ => ⟨S9216x1024, .f32⟩
  | .hbm, ⟨70, _⟩ => ⟨S9216x1024, .f32⟩
  | .hbm, ⟨71, _⟩ => ⟨S9216x1024, .f32⟩
  | .hbm, ⟨72, _⟩ => ⟨S9216x1024, .f32⟩
  | .hbm, ⟨73, _⟩ => ⟨S9216x1024, .f32⟩
  | .hbm, ⟨74, _⟩ => ⟨S9216x1024, .f32⟩
  | .hbm, ⟨75, _⟩ => ⟨S9216x512, .bf16⟩
  | .hbm, ⟨76, _⟩ => ⟨S512x1024, .bf16⟩
  | .hbm, ⟨77, _⟩ => ⟨S512x1024, .bf16⟩
  | .hbm, ⟨78, _⟩ => ⟨S512x1024, .bf16⟩
  | .hbm, ⟨79, _⟩ => ⟨S512x1024, .bf16⟩
  | .hbm, ⟨80, _⟩ => ⟨S1024x512, .bf16⟩
  | .hbm, ⟨81, _⟩ => ⟨S512x1024, .bf16⟩
  | .hbm, ⟨82, _⟩ => ⟨S1024x512, .bf16⟩
  | .hbm, ⟨83, _⟩ => ⟨S512x1024, .bf16⟩
  | .hbm, ⟨84, _⟩ => ⟨S1024x512, .bf16⟩
  | .hbm, ⟨85, _⟩ => ⟨S1024x1024, .bf16⟩
  | .hbm, ⟨86, _⟩ => ⟨S1024x1024, .bf16⟩
  | .hbm, ⟨87, _⟩ => ⟨S8x1x3072, .f32⟩
  | .hbm, ⟨88, _⟩ => ⟨S9216x6912, .bf16⟩
  | .hbm, ⟨89, _⟩ => ⟨S9216x512, .f32⟩
  | .hbm, ⟨90, _⟩ => ⟨S9216x512, .f32⟩
  | .hbm, ⟨91, _⟩ => ⟨S9216x512, .f32⟩
  | .hbm, ⟨92, _⟩ => ⟨S36x8x1024, .f32⟩
  | .hbm, ⟨93, _⟩ => ⟨S512x1024, .f32⟩
  | .hbm, ⟨94, _⟩ => ⟨S512x1024, .f32⟩
  | .hbm, ⟨95, _⟩ => ⟨S512x1024, .f32⟩
  | .hbm, ⟨96, _⟩ => ⟨S1024x1024, .f32⟩
  | .hbm, ⟨97, _⟩ => ⟨S1x128, .f32⟩
  | .local _ .vmem, ⟨0, _⟩ => ⟨S256x3072, .f32⟩
  | .local _ .vmem, ⟨1, _⟩ => ⟨S256x3072, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S1x128, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1x1x3072, .f32⟩
  | .local _ .vmem, ⟨19, _⟩ => ⟨S1x1x3072, .f32⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S1024x512, .bf16⟩
  | .local _ .vmem, ⟨26, _⟩ => ⟨S1024x512, .bf16⟩
  | .local _ .vmem, ⟨27, _⟩ => ⟨S1024x512, .bf16⟩
  | .local _ .vmem, ⟨28, _⟩ => ⟨S1024x1024, .bf16⟩
  | .local _ .vmem, ⟨29, _⟩ => ⟨S256x4096, .bf16⟩
  | .local _ .vmem, ⟨30, _⟩ => ⟨S256x4096, .bf16⟩
  | .local _ .vmem, ⟨31, _⟩ => ⟨S256x512, .f32⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S1x8x1024, .f32⟩
  | .local _ .vmem, ⟨38, _⟩ => ⟨S1x8x1024, .f32⟩
  | .local _ .vmem, ⟨39, _⟩ => ⟨S512x1024, .f32⟩
  | .local _ .vmem, ⟨40, _⟩ => ⟨S512x1024, .f32⟩
  | .local _ .vmem, ⟨41, _⟩ => ⟨S512x1024, .f32⟩
  | .local _ .vmem, ⟨42, _⟩ => ⟨S1024x1024, .f32⟩
  | .local _ .vmem, ⟨43, _⟩ => ⟨S1x128, .f32⟩
  | _, _ => ⟨S9216x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_2 : Ref sig .tc := ⟨.hbm, 57, rfl⟩
abbrev main_v25 : Ref sig .tc := ⟨.hbm, 58, rfl⟩
abbrev main_v26 : Ref sig .tc := ⟨.hbm, 59, rfl⟩
abbrev main_cst_3 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54_0 : Ref sig .tc := ⟨.hbm, 88, rfl⟩
abbrev main_v54_1 : Ref sig .tc := ⟨.hbm, 89, rfl⟩
abbrev main_v54_2 : Ref sig .tc := ⟨.hbm, 90, rfl⟩
abbrev main_v54_3 : Ref sig .tc := ⟨.hbm, 91, rfl⟩
abbrev main_v54_4 : Ref sig .tc := ⟨.hbm, 92, rfl⟩
abbrev main_v54_5 : Ref sig .tc := ⟨.hbm, 93, rfl⟩
abbrev main_v54_6 : Ref sig .tc := ⟨.hbm, 94, rfl⟩
abbrev main_v54_7 : Ref sig .tc := ⟨.hbm, 95, rfl⟩
abbrev main_v54_8 : Ref sig .tc := ⟨.hbm, 96, rfl⟩
abbrev main_v54_9 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_stg24_0 : Ref sig .tc := ⟨.vmem, 39, rfl⟩
abbrev cc0_stg25_0 : Ref sig .tc := ⟨.vmem, 40, rfl⟩
abbrev cc0_stg26_0 : Ref sig .tc := ⟨.vmem, 41, rfl⟩
abbrev cc0_stg27_0 : Ref sig .tc := ⟨.vmem, 42, rfl⟩
abbrev cc0_stg28_0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38
abbrev cc0_sem24_0 : DmaSem sig := 39
abbrev cc0_sem25_0 : DmaSem sig := 40
abbrev cc0_sem26_0 : DmaSem sig := 41
abbrev cc0_sem27_0 : DmaSem sig := 42
abbrev cc0_sem28_0 : DmaSem sig := 43

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c9_i32_4 : BitVec 32 := 9#32
  let v11 : BitVec 32 := Scalar.divsi arg0 c9_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c9_i32_4 c0_i32_7
  let v18 : BitVec 32 := Scalar.extui v17
  let c0_i32_8 : BitVec 32 := 0#32
  let v19 : BitVec 1 := Scalar.cmpi .slt c9_i32_4 c0_i32_8
  let v20 : BitVec 32 := Scalar.extui v19
  let v21 : BitVec 32 := Scalar.subi v18 v20
  let v22 : BitVec 1 := Scalar.cmpi .ne v16 v21
  let v23 : BitVec 32 := Scalar.remsi arg0 c9_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c4_i32 : BitVec 32 := 4#32
  let v28 : BitVec 32 := Scalar.select v10 c4_i32 v27
  let c0_i32_11 : BitVec 32 := 0#32
  let c0_i32_12 : BitVec 32 := 0#32
  let c0_i32_13 : BitVec 32 := 0#32
  ![v28.toNat, c0_i32_11.toNat, c0_i32_12.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x3072 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1024x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x4096 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x8x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 1 → Memref sig .tc .vmem S512x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S512x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S512x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1024x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]
-- ==== SplitReferenceIdeal.lean ====
abbrev S9216x6912 : Shape := ⟨2, ![9216, 6912]⟩
abbrev S9216x512 : Shape := ⟨2, ![9216, 512]⟩
abbrev S1x128 : Shape := ⟨2, ![1, 128]⟩
abbrev S512x1024 : Shape := ⟨2, ![512, 1024]⟩
abbrev S1024x1024 : Shape := ⟨2, ![1024, 1024]⟩
abbrev S8x3072 : Shape := ⟨2, ![8, 3072]⟩
abbrev S1x1024 : Shape := ⟨2, ![1, 1024]⟩
abbrev S9216x1024 : Shape := ⟨2, ![9216, 1024]⟩
abbrev S36x1x1024 : Shape := ⟨3, ![36, 1, 1024]⟩
abbrev S4x3072 : Shape := ⟨2, ![4, 3072]⟩
abbrev S4x1x3072 : Shape := ⟨3, ![4, 1, 3072]⟩
abbrev S4x8x3072 : Shape := ⟨3, ![4, 8, 3072]⟩
abbrev S1x3072 : Shape := ⟨2, ![1, 3072]⟩
abbrev S3072 : Shape := ⟨1, ![3072]⟩
abbrev S1x1x3072 : Shape := ⟨3, ![1, 1, 3072]⟩
abbrev S4x9x3072 : Shape := ⟨3, ![4, 9, 3072]⟩
abbrev S36x1x3072 : Shape := ⟨3, ![36, 1, 3072]⟩
abbrev S9216x3072 : Shape := ⟨2, ![9216, 3072]⟩
abbrev S_ : Shape := ⟨0, ![]⟩
abbrev S9216x4x128 : Shape := ⟨3, ![9216, 4, 128]⟩
abbrev S9216x4 : Shape := ⟨2, ![9216, 4]⟩
abbrev S9216x4x1 : Shape := ⟨3, ![9216, 4, 1]⟩
abbrev S1x1x128 : Shape := ⟨3, ![1, 1, 128]⟩
abbrev S36x256x1024 : Shape := ⟨3, ![36, 256, 1024]⟩
abbrev S36x256 : Shape := ⟨2, ![36, 256]⟩
abbrev S36x256x1 : Shape := ⟨3, ![36, 256, 1]⟩
abbrev S36x1024 : Shape := ⟨2, ![36, 1024]⟩
abbrev S1024x512 : Shape := ⟨2, ![1024, 512]⟩
abbrev S128 : Shape := ⟨1, ![128]⟩
abbrev S36x6x1024 : Shape := ⟨3, ![36, 6, 1024]⟩
abbrev S36x8x1024 : Shape := ⟨3, ![36, 8, 1024]⟩

abbrev nBuf : Space → Nat
  | .hbm => 218
  | .vmem => 0
  | .smem => 0
  | _ => 0

abbrev hbmTy0_0 (i : Nat) : BufTy := match i % 128 with
  | 0 => ⟨S9216x6912, .f32⟩
  | 1 => ⟨S9216x512, .f32⟩
  | 2 => ⟨S9216x512, .f32⟩
  | 3 => ⟨S9216x512, .f32⟩
  | 4 => ⟨S9216x512, .f32⟩
  | 5 => ⟨S1x128, .f32⟩
  | 6 => ⟨S512x1024, .f32⟩
  | 7 => ⟨S512x1024, .f32⟩
  | 8 => ⟨S512x1024, .f32⟩
  | 9 => ⟨S1024x1024, .f32⟩
  | 10 => ⟨S8x3072, .f32⟩
  | 11 => ⟨S1x1024, .f32⟩
  | 12 => ⟨S9216x1024, .f32⟩
  | 13 => ⟨S36x1x1024, .f32⟩
  | 14 => ⟨S4x3072, .f32⟩
  | 15 => ⟨S4x1x3072, .f32⟩
  | 16 => ⟨S4x8x3072, .f32⟩
  | 17 => ⟨S1x3072, .f32⟩
  | 18 => ⟨S3072, .f32⟩
  | 19 => ⟨S1x1x3072, .f32⟩
  | 20 => ⟨S4x1x3072, .f32⟩
  | 21 => ⟨S4x9x3072, .f32⟩
  | 22 => ⟨S36x1x3072, .f32⟩
  | 23 => ⟨S36x1x1024, .f32⟩
  | 24 => ⟨S9216x3072, .f32⟩
  | 25 => ⟨S9216x512, .f32⟩
  | 26 => ⟨S9216x512, .f32⟩
  | 27 => ⟨S9216x512, .f32⟩
  | 28 => ⟨S9216x512, .f32⟩
  | 29 => ⟨S9216x512, .f32⟩
  | 30 => ⟨S_, .f32⟩
  | 31 => ⟨S9216x512, .f32⟩
  | 32 => ⟨S9216x512, .f32⟩
  | 33 => ⟨S_, .f32⟩
  | 34 => ⟨S9216x512, .f32⟩
  | 35 => ⟨S9216x512, .f32⟩
  | 36 => ⟨S_, .f32⟩
  | 37 => ⟨S9216x512, .f32⟩
  | 38 => ⟨S9216x512, .f32⟩
  | 39 => ⟨S9216x512, .f32⟩
  | 40 => ⟨S9216x512, .f32⟩
  | 41 => ⟨S9216x512, .f32⟩
  | 42 => ⟨S9216x4x128, .f32⟩
  | 43 => ⟨S9216x4x128, .f32⟩
  | 44 => ⟨S_, .f32⟩
  | 45 => ⟨S9216x4, .f32⟩
  | 46 => ⟨S9216x4x1, .f32⟩
  | 47 => ⟨S_, .f32⟩
  | 48 => ⟨S9216x4x1, .f32⟩
  | 49 => ⟨S9216x4x1, .f32⟩
  | 50 => ⟨S_, .f32⟩
  | 51 => ⟨S9216x4x1, .f32⟩
  | 52 => ⟨S9216x4x1, .f32⟩
  | 53 => ⟨S9216x4x1, .f32⟩
  | 54 => ⟨S9216x4x1, .f32⟩
  | 55 => ⟨S_, .f32⟩
  | 56 => ⟨S9216x4x1, .f32⟩
  | 57 => ⟨S9216x4x1, .f32⟩
  | 58 => ⟨S9216x4x128, .f32⟩
  | 59 => ⟨S9216x4x128, .f32⟩
  | 60 => ⟨S1x1x128, .f32⟩
  | 61 => ⟨S9216x4x128, .f32⟩
  | 62 => ⟨S9216x4x128, .f32⟩
  | 63 => ⟨S9216x512, .f32⟩
  | 64 => ⟨S9216x512, .f32⟩
  | 65 => ⟨S9216x512, .f32⟩
  | 66 => ⟨S_, .f32⟩
  | 67 => ⟨S9216x512, .f32⟩
  | 68 => ⟨S9216x512, .f32⟩
  | 69 => ⟨S_, .f32⟩
  | 70 => ⟨S9216x512, .f32⟩
  | 71 => ⟨S9216x512, .f32⟩
  | 72 => ⟨S_, .f32⟩
  | 73 => ⟨S9216x512, .f32⟩
  | 74 => ⟨S9216x512, .f32⟩
  | 75 => ⟨S9216x512, .f32⟩
  | 76 => ⟨S9216x512, .f32⟩
  | 77 => ⟨S9216x512, .f32⟩
  | 78 => ⟨S9216x3072, .f32⟩
  | 79 => ⟨S9216x3072, .f32⟩
  | 80 => ⟨S_, .f32⟩
  | 81 => ⟨S9216x3072, .f32⟩
  | 82 => ⟨S9216x3072, .f32⟩
  | 83 => ⟨S_, .f32⟩
  | 84 => ⟨S9216x3072, .f32⟩
  | 85 => ⟨S9216x3072, .f32⟩
  | 86 => ⟨S_, .f32⟩
  | 87 => ⟨S9216x3072, .f32⟩
  | 88 => ⟨S9216x3072, .f32⟩
  | 89 => ⟨S9216x3072, .f32⟩
  | 90 => ⟨S9216x1024, .f32⟩
  | 91 => ⟨S9216x1024, .f32⟩
  | 92 => ⟨S9216x1024, .f32⟩
  | 93 => ⟨S9216x1024, .f32⟩
  | 94 => ⟨S9216x1024, .f32⟩
  | 95 => ⟨S9216x1024, .f32⟩
  | 96 => ⟨S9216x1024, .f32⟩
  | 97 => ⟨S9216x1024, .f32⟩
  | 98 => ⟨S9216x1024, .f32⟩
  | 99 => ⟨S9216x1024, .f32⟩
  | 100 => ⟨S9216x1024, .f32⟩
  | 101 => ⟨S9216x1024, .f32⟩
  | 102 => ⟨S36x256x1024, .f32⟩
  | 103 => ⟨S36x256x1024, .f32⟩
  | 104 => ⟨S_, .f32⟩
  | 105 => ⟨S36x256, .f32⟩
  | 106 => ⟨S36x256x1, .f32⟩
  | 107 => ⟨S_, .f32⟩
  | 108 => ⟨S36x256x1, .f32⟩
  | 109 => ⟨S36x256x1, .f32⟩
  | 110 => ⟨S_, .f32⟩
  | 111 => ⟨S36x256x1, .f32⟩
  | 112 => ⟨S36x256x1, .f32⟩
  | 113 => ⟨S36x256x1, .f32⟩
  | 114 => ⟨S36x256x1, .f32⟩
  | 115 => ⟨S_, .f32⟩
  | 116 => ⟨S36x256x1, .f32⟩
  | 117 => ⟨S36x256x1, .f32⟩
  | 118 => ⟨S36x256x1024, .f32⟩
  | 119 => ⟨S36x256x1024, .f32⟩
  | 120 => ⟨S36x256x1024, .f32⟩
  | 121 => ⟨S36x256x1024, .f32⟩
  | 122 => ⟨S36x256x1024, .f32⟩
  | 123 => ⟨S36x256x1024, .f32⟩
  | 124 => ⟨S36x256x1024, .f32⟩
  | 125 => ⟨S36x256x1024, .f32⟩
  | 126 => ⟨S36x256x1024, .f32⟩
  | 127 => ⟨S36x256x1024, .f32⟩
  | _ => ⟨S9216x6912, .f32⟩

abbrev hbmTy0_1 (i : Nat) : BufTy := match i % 128 with
  | 0 => ⟨S_, .f32⟩
  | 1 => ⟨S36x1024, .f32⟩
  | 2 => ⟨S36x1x1024, .f32⟩
  | 3 => ⟨S36x256x1024, .f32⟩
  | 4 => ⟨S_, .f32⟩
  | 5 => ⟨S36x1024, .f32⟩
  | 6 => ⟨S36x1x1024, .f32⟩
  | 7 => ⟨S36x256x1024, .f32⟩
  | 8 => ⟨S36x256x1024, .f32⟩
  | 9 => ⟨S36x256x1024, .f32⟩
  | 10 => ⟨S_, .f32⟩
  | 11 => ⟨S36x256, .f32⟩
  | 12 => ⟨S36x256x1, .f32⟩
  | 13 => ⟨S36x256x1024, .f32⟩
  | 14 => ⟨S36x256x1024, .f32⟩
  | 15 => ⟨S36x256x1, .f32⟩
  | 16 => ⟨S_, .f32⟩
  | 17 => ⟨S36x256x1, .f32⟩
  | 18 => ⟨S36x256x1, .f32⟩
  | 19 => ⟨S_, .f32⟩
  | 20 => ⟨S36x256, .f32⟩
  | 21 => ⟨S36x256x1024, .f32⟩
  | 22 => ⟨S36x256x1024, .f32⟩
  | 23 => ⟨S36x256x1024, .f32⟩
  | 24 => ⟨S36x256x1024, .f32⟩
  | 25 => ⟨S36x256x1024, .f32⟩
  | 26 => ⟨S9216x1024, .f32⟩
  | 27 => ⟨S1024x1024, .f32⟩
  | 28 => ⟨S1024x1024, .f32⟩
  | 29 => ⟨S9216x1024, .f32⟩
  | 30 => ⟨S9216x1024, .f32⟩
  | 31 => ⟨S9216x1024, .f32⟩
  | 32 => ⟨S1024x512, .f32⟩
  | 33 => ⟨S512x1024, .f32⟩
  | 34 => ⟨S9216x512, .f32⟩
  | 35 => ⟨S9216x1024, .f32⟩
  | 36 => ⟨S9216x1024, .f32⟩
  | 37 => ⟨S1024x512, .f32⟩
  | 38 => ⟨S512x1024, .f32⟩
  | 39 => ⟨S9216x512, .f32⟩
  | 40 => ⟨S9216x1024, .f32⟩
  | 41 => ⟨S9216x1024, .f32⟩
  | 42 => ⟨S1024x512, .f32⟩
  | 43 => ⟨S512x1024, .f32⟩
  | 44 => ⟨S9216x512, .f32⟩
  | 45 => ⟨S9216x3072, .f32⟩
  | 46 => ⟨S9216x3072, .f32⟩
  | 47 => ⟨S9216x512, .f32⟩
  | 48 => ⟨S9216x512, .f32⟩
  | 49 => ⟨S9216x512, .f32⟩
  | 50 => ⟨S9216x512, .f32⟩
  | 51 => ⟨S9216x512, .f32⟩
  | 52 => ⟨S9216x512, .f32⟩
  | 53 => ⟨S9216x4x128, .f32⟩
  | 54 => ⟨S9216x4x128, .f32⟩
  | 55 => ⟨S_, .f32⟩
  | 56 => ⟨S128, .f32⟩
  | 57 => ⟨S1x1x128, .f32⟩
  | 58 => ⟨S9216x4x128, .f32⟩
  | 59 => ⟨S9216x4x128, .f32⟩
  | 60 => ⟨S_, .f32⟩
  | 61 => ⟨S128, .f32⟩
  | 62 => ⟨S1x128, .f32⟩
  | 63 => ⟨S9216x4x128, .f32⟩
  | 64 => ⟨S_, .f32⟩
  | 65 => ⟨S9216x4, .f32⟩
  | 66 => ⟨S9216x4x1, .f32⟩
  | 67 => ⟨S9216x4x128, .f32⟩
  | 68 => ⟨S9216x4x128, .f32⟩
  | 69 => ⟨S9216x4x1, .f32⟩
  | 70 => ⟨S_, .f32⟩
  | 71 => ⟨S9216x4x1, .f32⟩
  | 72 => ⟨S9216x4x1, .f32⟩
  | 73 => ⟨S_, .f32⟩
  | 74 => ⟨S9216x4, .f32⟩
  | 75 => ⟨S9216x4x128, .f32⟩
  | 76 => ⟨S9216x4x128, .f32⟩
  | 77 => ⟨S9216x4x128, .f32⟩
  | 78 => ⟨S9216x4x128, .f32⟩
  | 79 => ⟨S9216x4x128, .f32⟩
  | 80 => ⟨S9216x512, .f32⟩
  | 81 => ⟨S9216x512, .f32⟩
  | 82 => ⟨S9216x512, .f32⟩
  | 83 => ⟨S9216x512, .f32⟩
  | 84 => ⟨S9216x512, .f32⟩
  | 85 => ⟨S9216x512, .f32⟩
  | 86 => ⟨S9216x512, .f32⟩
  | 87 => ⟨S_, .f32⟩
  | 88 => ⟨S36x6x1024, .f32⟩
  | 89 => ⟨S36x8x1024, .f32⟩
  | _ => ⟨S9216x6912, .f32⟩

abbrev hbmTy (i : Nat) : BufTy := match i / 128 with
  | 0 => hbmTy0_0 i
  | 1 => hbmTy0_1 i
  | _ => ⟨S9216x6912, .f32⟩

abbrev bufTy : (tb : Table) → Fin (tcTables nBuf tb) → BufTy
  | .hbm, ⟨i, _⟩ => hbmTy i
  | _, _ => ⟨S9216x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v15_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v15_1 : Ref sig .tc := ⟨.hbm, 39, rfl⟩
abbrev main_v15_0 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst : Ref sig .tc := ⟨.hbm, 44, rfl⟩
abbrev main_v19 : Ref sig .tc := ⟨.hbm, 45, rfl⟩
abbrev main_v20 : Ref sig .tc := ⟨.hbm, 46, rfl⟩
abbrev main_cst_0 : Ref sig .tc := ⟨.hbm, 47, rfl⟩
abbrev main_v21 : Ref sig .tc := ⟨.hbm, 48, rfl⟩
abbrev main_v22 : Ref sig .tc := ⟨.hbm, 49, rfl⟩
abbrev main_cst_1 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_2 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_v35_2 : Ref sig .tc := ⟨.hbm, 71, rfl⟩
abbrev main_call1_cst_1 : Ref sig .tc := ⟨.hbm, 72, rfl⟩
abbrev main_call1_v6 : Ref sig .tc := ⟨.hbm, 73, rfl⟩
abbrev main_call1_v7 : Ref sig .tc := ⟨.hbm, 74, rfl⟩
abbrev main_v35_1 : Ref sig .tc := ⟨.hbm, 75, rfl⟩
abbrev main_v35_0 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_3 : Ref sig .tc := ⟨.hbm, 80, rfl⟩
abbrev main_v39 : Ref sig .tc := ⟨.hbm, 81, rfl⟩
abbrev main_v40 : Ref sig .tc := ⟨.hbm, 82, rfl⟩
abbrev main_cst_4 : Ref sig .tc := ⟨.hbm, 83, rfl⟩
abbrev main_v41 : Ref sig .tc := ⟨.hbm, 84, rfl⟩
abbrev main_v42 : Ref sig .tc := ⟨.hbm, 85, rfl⟩
abbrev main_cst_5 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_cst_6 : Ref sig .tc := ⟨.hbm, 104, rfl⟩
abbrev main_v60 : Ref sig .tc := ⟨.hbm, 105, rfl⟩
abbrev main_v61 : Ref sig .tc := ⟨.hbm, 106, rfl⟩
abbrev main_cst_7 : Ref sig .tc := ⟨.hbm, 107, rfl⟩
abbrev main_v62 : Ref sig .tc := ⟨.hbm, 108, rfl⟩
abbrev main_v63 : Ref sig .tc := ⟨.hbm, 109, rfl⟩
abbrev main_cst_8 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_cst_9 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_cst_10 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_cst_11 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_cst_12 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_13 : Ref sig .tc := ⟨.hbm, 144, rfl⟩
abbrev main_v93 : Ref sig .tc := ⟨.hbm, 145, rfl⟩
abbrev main_v94 : Ref sig .tc := ⟨.hbm, 146, rfl⟩
abbrev main_cst_14 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_call2_v0 : Ref sig .tc := ⟨.hbm, 177, rfl⟩
abbrev main_call2_v1 : Ref sig .tc := ⟨.hbm, 178, rfl⟩
abbrev main_call2_v2 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_cst_15 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_cst_16 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_cst_17 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_cst_18 : Ref sig .tc := ⟨.hbm, 198, rfl⟩
abbrev main_v139 : Ref sig .tc := ⟨.hbm, 199, rfl⟩
abbrev main_v140 : Ref sig .tc := ⟨.hbm, 200, rfl⟩
abbrev main_cst_19 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_call3_v0 : Ref sig .tc := ⟨.hbm, 211, rfl⟩
abbrev main_call3_v1 : Ref sig .tc := ⟨.hbm, 212, rfl⟩
abbrev main_call3_v2 : Ref sig .tc := ⟨.hbm, 213, rfl⟩
abbrev main_v150 : Ref sig .tc := ⟨.hbm, 214, rfl⟩
abbrev main_cst_20 : Ref sig .tc := ⟨.hbm, 215, rfl⟩
abbrev main_v151 : Ref sig .tc := ⟨.hbm, 216, rfl⟩
abbrev main_v152 : Ref sig .tc := ⟨.hbm, 217, rfl⟩

abbrev nD : Nat := 1
abbrev τ : Topo := Topo.v7x

variable {F : FTy → Type} [FloatOps F]
-- ==== Proof.Frames.lean ====
/- The frames of the two references: a program of host operations alone, which declares no semaphore. -/
module

public import proofs.«01_k».proof.Defs
public import Idealize.ShloMosaic.Lib.Quiescent
public import proofs.«01_k».proof.Proof.Gen.ReferenceIdeal.Run
public import proofs.«01_k».proof.Proof.Gen.FwdReferenceIdeal.Run

@[expose] public section

noncomputable section

namespace Cert.Frames

open Idealize.ShloMosaic Idealize.SL.Sem

theorem reference : Cert.quiescent_ReferenceIdeal (hReferenceIdeal := Cert.ReferenceIdeal.Gen.facts) := fun m ρ _ =>
  (θ_run ReferenceIdeal.defs _ _).mono (fun r h => ⟨fun c => ⟨(h c).2.2.2.1, (h c).2.2.2.2.1, (h c).2.2.2.2.2.1, (h c).2.2.2.2.2.2⟩,
    sem_eq_zero_of_no_sems (by decide) r.2⟩) (ReferenceIdeal.Value.run m ρ)

theorem fwdReference : Cert.quiescent_FwdReferenceIdeal (hFwdReferenceIdeal := Cert.FwdReferenceIdeal.Gen.facts) := fun m ρ _ =>
  (θ_run FwdReferenceIdeal.defs _ _).mono (fun r h => ⟨fun c => ⟨(h c).2.2.1, (h c).2.2.2.1, (h c).2.2.2.2⟩,
    sem_eq_zero_of_no_sems (by decide) r.2⟩) (FwdReferenceIdeal.Value.run m ρ)

end Cert.Frames

end
-- ==== Proof.Reals.lean ====
/- Extended reals that are real numbers: sums, row maxima and quotients of real numbers stay real, and the soft maximum
   of a row of real scores does not depend on the number subtracted before the exponential. -/
module

public import Idealize.ShloMosaic.Lib.Pointwise

@[expose] public section

noncomputable section

namespace Cert.Reals

open Idealize.ShloMosaic

/-- A sum of real numbers, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many (at least one) real numbers is a real number. -/
theorem fold_max_coe {ι : Type*} [Fintype ι] [Nonempty ι] (f : ι → ℝ) :
    ∃ M : ℝ, Finset.univ.fold max (⊥ : EReal) (fun i => (f i : EReal)) = (M : EReal) := by
  classical
  have key : ∀ s : Finset ι, s.fold max (⊥ : EReal) (fun i => (f i : EReal)) = ⊥ ∧ s = ∅
      ∨ ∃ M : ℝ, s.fold max (⊥ : EReal) (fun i => (f i : EReal)) = (M : EReal) := by
    intro s
    induction s using Finset.induction_on with
    | empty => exact Or.inl ⟨by simp, rfl⟩
    | insert a s ha ih =>
      refine Or.inr ?_
      rw [Finset.fold_insert ha]
      rcases ih with ⟨h, _⟩ | ⟨M, h⟩
      · exact ⟨f a, by rw [h]; exact max_eq_left bot_le⟩
      · exact ⟨max (f a) M, by rw [h]; exact (EReal.coe_strictMono.monotone.map_max (a := f a) (b := M)).symm⟩
  rcases key Finset.univ with ⟨_, h⟩ | h
  · exact absurd h Finset.univ_nonempty.ne_empty
  · exact h

/-- The quotient of two real numbers, the divisor not zero. -/
theorem div_coe (a : ℝ) {b : ℝ} (hb : b ≠ 0) : Ideal.div (a : EReal) (b : EReal) = ((a / b : ℝ) : EReal) := by
  rw [Ideal.div_coe hb, ← EReal.coe_mul, mul_one_div]

section Softmax

variable {ι : Type*} [Fintype ι]

/-- The row sum of the exponentials of the scores. -/
def Z (s : ι → ℝ) : ℝ := ∑ j, Real.exp (s j)

/-- The soft maximum of a row of scores. -/
def sm (s : ι → ℝ) (j : ι) : ℝ := Real.exp (s j) / Z s

/-- The logarithm of the row sum. -/
def lse (s : ι → ℝ) : ℝ := Real.log (Z s)

theorem Z_pos [Nonempty ι] (s : ι → ℝ) : 0 < Z s := Finset.sum_pos (fun _ _ => Real.exp_pos _) Finset.univ_nonempty

theorem Z_shift (s : ι → ℝ) (M : ℝ) : ∑ j, Real.exp (s j - M) = Z s / Real.exp M := by
  rw [Z, Finset.sum_div]
  exact Finset.sum_congr rfl fun j _ => Real.exp_sub _ _

theorem Z_shift_pos [Nonempty ι] (s : ι → ℝ) (M : ℝ) : 0 < ∑ j, Real.exp (s j - M) :=
  Finset.sum_pos (fun _ _ => Real.exp_pos _) Finset.univ_nonempty

theorem sm_shift (s : ι → ℝ) (M : ℝ) (j : ι) : Real.exp (s j - M) / ∑ i, Real.exp (s i - M) = sm s j := by
  rw [Z_shift, Real.exp_sub, sm, div_div_div_cancel_right₀ (Real.exp_pos M).ne']

theorem lse_shift [Nonempty ι] (s : ι → ℝ) (M : ℝ) : M + Real.log (∑ i, Real.exp (s i - M)) = lse s := by
  rw [Z_shift, Real.log_div (Z_pos s).ne' (Real.exp_pos M).ne', Real.log_exp, lse]
  ring

theorem exp_sub_lse [Nonempty ι] (s : ι → ℝ) (j : ι) : Real.exp (s j - lse s) = sm s j := by
  rw [Real.exp_sub, lse, Real.exp_log (Z_pos s), sm]

theorem sum_sm_mul (s : ι → ℝ) (M : ℝ) (v : ι → ℝ) :
    (∑ j, Real.exp (s j - M) * v j) / (∑ i, Real.exp (s i - M)) = ∑ j, sm s j * v j := by
  rw [Finset.sum_div]
  refine Finset.sum_congr rfl fun j _ => ?_
  rw [← sm_shift s M j]; ring

/-- The gradient of the soft maximum as it is computed by differentiating the quotient of the exponential and the row
    sum: each factor with the same number subtracted from the scores. -/
theorem grad_shift [Nonempty ι] (s : ι → ℝ) (M : ℝ) (g : ι → ℝ) (j : ι) :
    (g j / (∑ i, Real.exp (s i - M)) + -(∑ i, g i * (1 / ((∑ i, Real.exp (s i - M)) * ∑ i, Real.exp (s i - M))) * Real.exp (s i - M)))
        * Real.exp (s j - M)
      = sm s j * (g j - ∑ i, sm s i * g i) := by
  have hz := (Z_shift_pos s M).ne'
  set z := ∑ i, Real.exp (s i - M) with hzdef
  have h1 : ∀ i, Real.exp (s i - M) = sm s i * z := fun i => by rw [← sm_shift s M i, ← hzdef, div_mul_cancel₀ _ hz]
  simp only [h1]
  have h2 : ∑ i, g i * (1 / (z * z)) * (sm s i * z) = (∑ i, sm s i * g i) / z := by
    rw [Finset.sum_div]
    refine Finset.sum_congr rfl fun i _ => ?_
    field_simp
  rw [h2]
  field_simp
  ring

end Softmax

/-! ### The lanes of a head's block -/

/-- The choice by lane between the first 64 lanes and the rest. -/
theorem select_lt {α : Type} (x : Fin 128) (a b : α) :
    Scalar.select (IntOp.cmpi CmpIPredicate.slt (BitVec.ofNat 32 x.val) 64#32) a b = if x.val < 64 then a else b := by
  have h : ∀ y : Fin 128, IntOp.cmpi CmpIPredicate.slt (BitVec.ofNat 32 y.val) 64#32 = if y.val < 64 then 1#1 else 0#1 := by decide
  rw [h]
  by_cases hx : x.val < 64
  · rw [if_pos hx, if_pos hx]; rfl
  · rw [if_neg hx, if_neg hx]; rfl

/-- The choice by lane the other way round. -/
theorem select_ge {α : Type} (x : Fin 128) (a b : α) :
    Scalar.select (IntOp.cmpi CmpIPredicate.sge (BitVec.ofNat 32 x.val) 64#32) a b = if x.val < 64 then b else a := by
  have h : ∀ y : Fin 128, IntOp.cmpi CmpIPredicate.sge (BitVec.ofNat 32 y.val) 64#32 = if y.val < 64 then 0#1 else 1#1 := by decide
  rw [h]
  by_cases hx : x.val < 64
  · rw [if_pos hx, if_pos hx]; rfl
  · rw [if_neg hx, if_neg hx]; rfl

/-- A key: 64 lanes of the head's own, the others shared by the heads. -/
def key (a b : Fin 128 → ℝ) (d : Fin 128) : ℝ := if d.val < 64 then a d else b d

/-- The score of a query and a key. -/
def dot {n : ℕ} (q k : Fin n → ℝ) : ℝ := ∑ d, q d * k d

theorem dot_coe {n : ℕ} (q k : Fin n → ℝ) : ∑ d, (q d : EReal) * (k d : EReal) = (dot q k : ℝ) := by
  rw [dot, coe_sum]
  exact Finset.sum_congr rfl fun d _ => (EReal.coe_mul _ _).symm

theorem key_coe (a b : Fin 128 → ℝ) (d : Fin 128) :
    Scalar.select (IntOp.cmpi CmpIPredicate.slt (BitVec.ofNat 32 d.val) 64#32) (a d : EReal) (b d : EReal) = (key a b d : ℝ) := by
  rw [select_lt, key]; split <;> rfl

/-- The pattern of minus infinity is the least extended real. -/
theorem ofBits_neg_inf : Ideal.ofBits .f32 0xFF800000#32 = ⊥ := by simp [Ideal.ofBits, Ideal.ieee]

/-- The larger of `-∞` and a real number. -/
theorem max_bot_coe (M : ℝ) : FloatOps.maximumf (F := Ideal) (φ := .f32) (⊥ : EReal) (M : EReal) = (M : EReal) := by
  rw [Ideal.maximumf_def]
  exact max_eq_right bot_le

/-- The exponential of a difference of real numbers. -/
theorem exp_sub_coe (a b : ℝ) : Ideal.exp ((a : EReal) - (b : EReal)) = (Real.exp (a - b) : ℝ) := by
  rw [← EReal.coe_sub, Ideal.exp_coe]

/-- The logarithm of a positive real number. -/
theorem log_coe_pos {a : ℝ} (h : 0 < a) : Ideal.log (a : EReal) = (Real.log a : ℝ) := by
  rw [Ideal.log_coe, if_neg (not_le.mpr h)]

end Cert.Reals

end
-- ==== Proof.Host.lean ====
/- The host's rearrangements of the queries, the keys and the values, read at an index: rows (batch, time) together,
   heads side by side in blocks of 128 lanes, the unused lanes zero. -/
module

public import proofs.«01_k».proof.Proof.Reals

@[expose] public section

set_option maxRecDepth 16384

noncomputable section

namespace Cert.HostArrays

open Idealize.ShloMosaic Cert.Reals

abbrev A9216x1024 : Shape := ⟨2, ![9216, 1024]⟩
abbrev A9216x768 : Shape := ⟨2, ![9216, 768]⟩
abbrev A9216x512 : Shape := ⟨2, ![9216, 512]⟩
abbrev A9216x128 : Shape := ⟨2, ![9216, 128]⟩
abbrev A9216x32 : Shape := ⟨2, ![9216, 32]⟩
abbrev A9216x8x96 : Shape := ⟨3, ![9216, 8, 96]⟩
abbrev A9216x8x128 : Shape := ⟨3, ![9216, 8, 128]⟩
abbrev A4x2304x8x96 : Shape := ⟨4, ![4, 2304, 8, 96]⟩
abbrev A4x2304x8x128 : Shape := ⟨4, ![4, 2304, 8, 128]⟩
abbrev A4x2304x8x64 : Shape := ⟨4, ![4, 2304, 8, 64]⟩
abbrev A4x2304x32 : Shape := ⟨3, ![4, 2304, 32]⟩
abbrev A4x2304x128 : Shape := ⟨3, ![4, 2304, 128]⟩

/-- The row of batch entry `b` at time `t`. -/
abbrev rowOf (b : Fin 4) (t : Fin 2304) : Fin 9216 := ⟨2304 * b.val + t.val, by omega⟩

/-- Lane `d` of head `h`. -/
abbrev laneOf (h : Fin 8) (d : Fin 128) : Fin 1024 := ⟨128 * h.val + d.val, by omega⟩

theorem cast_heads128 {α : Type} (X : A9216x8x128.Idx → α) (hc : A9216x8x128.ShapeCasts A9216x1024) (r : Fin 9216) (h : Fin 8) (d : Fin 128) :
    shapeCast A9216x1024 X hc (ix2 r (laneOf h d)) = X (ix3 r h d) :=
  Idealize.ShloMosaic.shapeCast_apply X hc _ _ (by
    rewrite [Shape.rowMajor_val_three, Shape.rowMajor_val_two]
    show (r.val * 8 + h.val) * 128 + d.val = r.val * 1024 + (128 * h.val + d.val)
    omega)

theorem cast_heads96 {α : Type} (X : A4x2304x8x96.Idx → α) (h1 : A4x2304x8x96.ShapeCasts A9216x768) (h2 : A9216x768.ShapeCasts A9216x8x96)
    (b : Fin 4) (t : Fin 2304) (h : Fin 8) (d : Fin 96) :
    shapeCast A9216x8x96 (shapeCast A9216x768 X h1) h2 (ix3 (rowOf b t) h d) = X (ix4 b t h d) := by
  rw [Idealize.ShloMosaic.shapeCast_apply (shapeCast A9216x768 X h1) h2 _ (ix2 (rowOf b t) (⟨96 * h.val + d.val, by omega⟩ : Fin 768)) (by
    rewrite [Shape.rowMajor_val_three, Shape.rowMajor_val_two]
    show (2304 * b.val + t.val) * 768 + (96 * h.val + d.val) = ((2304 * b.val + t.val) * 8 + h.val) * 96 + d.val
    omega)]
  exact Idealize.ShloMosaic.shapeCast_apply X h1 _ _ (by
    rewrite [Shape.rowMajor_val_four, Shape.rowMajor_val_two]
    show ((b.val * 2304 + t.val) * 8 + h.val) * 96 + d.val = (2304 * b.val + t.val) * 768 + (96 * h.val + d.val)
    omega)

theorem cast_kv {α : Type} (X : A4x2304x8x128.Idx → α) (hc : A4x2304x8x128.ShapeCasts A9216x1024) (b : Fin 4) (t : Fin 2304) (h : Fin 8) (d : Fin 128) :
    shapeCast A9216x1024 X hc (ix2 (rowOf b t) (laneOf h d)) = X (ix4 b t h d) :=
  Idealize.ShloMosaic.shapeCast_apply X hc _ _ (by
    rewrite [Shape.rowMajor_val_four, Shape.rowMajor_val_two]
    show ((b.val * 2304 + t.val) * 8 + h.val) * 128 + d.val = (2304 * b.val + t.val) * 1024 + (128 * h.val + d.val)
    omega)

theorem cast_o {α : Type} (X : A4x2304x8x64.Idx → α) (hc : A4x2304x8x64.ShapeCasts A9216x512) (b : Fin 4) (t : Fin 2304) (h : Fin 8) (d : Fin 64) :
    shapeCast A9216x512 X hc (ix2 (rowOf b t) (⟨64 * h.val + d.val, by omega⟩ : Fin 512)) = X (ix4 b t h d) :=
  Idealize.ShloMosaic.shapeCast_apply X hc _ _ (by
    rewrite [Shape.rowMajor_val_four, Shape.rowMajor_val_two]
    show ((b.val * 2304 + t.val) * 8 + h.val) * 64 + d.val = (2304 * b.val + t.val) * 512 + (64 * h.val + d.val)
    omega)

theorem cast_kr {α : Type} (X : A4x2304x32.Idx → α) (hc : A4x2304x32.ShapeCasts A9216x32) (b : Fin 4) (t : Fin 2304) (d : Fin 32) :
    shapeCast A9216x32 X hc (ix2 (rowOf b t) d) = X (ix3 b t d) :=
  Idealize.ShloMosaic.shapeCast_apply X hc _ _ (by
    rewrite [Shape.rowMajor_val_three, Shape.rowMajor_val_two]
    show (b.val * 2304 + t.val) * 32 + d.val = (2304 * b.val + t.val) * 32 + d.val
    omega)

theorem cast_kr128 {α : Type} (X : A4x2304x128.Idx → α) (hc : A4x2304x128.ShapeCasts A9216x128) (b : Fin 4) (t : Fin 2304) (d : Fin 128) :
    shapeCast A9216x128 X hc (ix2 (rowOf b t) d) = X (ix3 b t d) :=
  Idealize.ShloMosaic.shapeCast_apply X hc _ _ (by
    rewrite [Shape.rowMajor_val_three, Shape.rowMajor_val_two]
    show (b.val * 2304 + t.val) * 128 + d.val = (2304 * b.val + t.val) * 128 + d.val
    omega)

/-- The queries, each head's 96 lanes followed by 32 lanes of the padding value. -/
theorem pad_q {α : Type} (X : A9216x8x96.Idx → α) {u : Shape} (v : u.Idx → α) (hp : A9216x8x96.Pads ![0, 0, 0] ![0, 0, 32] ![0, 0, 0] A9216x8x128)
    (hu : 0 < u.numel) (r : Fin 9216) (h : Fin 8) (d : Fin 128) :
    pad A9216x8x128 ![0, 0, 0] ![0, 0, 32] ![0, 0, 0] X v hp hu (ix3 r h d)
      = if hd : d.val < 96 then X (ix3 r h ⟨d.val, hd⟩) else v (Shape.Idx.first hu) := by
  by_cases hd : d.val < 96
  · rw [dif_pos hd, pad_apply, dif_pos]
    · exact congrArg X (funext fun a => Fin.ext (by match a with | ⟨0, _⟩ => simp [Shape.Idx.norm, ix3] | ⟨1, _⟩ => simp [Shape.Idx.norm, ix3] | ⟨2, _⟩ => simp [Shape.Idx.norm, ix3]))
    · intro a
      match a with
      | ⟨0, _⟩ => exact ⟨Nat.zero_le _, Nat.mod_one _, by show (r.val - 0) / 1 < 9216; omega⟩
      | ⟨1, _⟩ => exact ⟨Nat.zero_le _, Nat.mod_one _, by show (h.val - 0) / 1 < 8; omega⟩
      | ⟨2, _⟩ => exact ⟨Nat.zero_le _, Nat.mod_one _, by show (d.val - 0) / 1 < 96; omega⟩
  · rw [dif_neg hd, pad_apply, dif_neg]
    intro hh
    have h2 : (d.val - 0) / 1 < 96 := (hh 2).2.2
    omega

/-- The shared keys' 32 lanes, at lanes 64 to 95 of 128. -/
theorem pad_kr {α : Type} (X : A9216x32.Idx → α) {u : Shape} (v : u.Idx → α) (hp : A9216x32.Pads ![0, 64] ![0, 32] ![0, 0] A9216x128)
    (hu : 0 < u.numel) (r : Fin 9216) (d : Fin 128) :
    pad A9216x128 ![0, 64] ![0, 32] ![0, 0] X v hp hu (ix2 r d)
      = if hd : 64 ≤ d.val ∧ d.val < 96 then X (ix2 r ⟨d.val - 64, by omega⟩) else v (Shape.Idx.first hu) := by
  by_cases hd : 64 ≤ d.val ∧ d.val < 96
  · rw [dif_pos hd, pad_apply, dif_pos]
    · exact congrArg X (funext fun a => Fin.ext (by match a with | ⟨0, _⟩ => simp [Shape.Idx.norm, ix2] | ⟨1, _⟩ => simp [Shape.Idx.norm, ix2]))
    · intro a
      match a with
      | ⟨0, _⟩ => exact ⟨Nat.zero_le _, Nat.mod_one _, by show (r.val - 0) / 1 < 9216; omega⟩
      | ⟨1, _⟩ => exact ⟨hd.1, Nat.mod_one _, by show (d.val - 64) / 1 < 32; omega⟩
  · rw [dif_neg hd, pad_apply, dif_neg]
    intro hh
    have h1 : 64 ≤ d.val := (hh 1).1
    have h2 : (d.val - 64) / 1 < 32 := (hh 1).2.2
    omega

end Cert.HostArrays

end
-- ==== Proof.Spec.lean ====
/- The attention over real numbers: scores, weights, outputs, and the derivatives of the outputs' inner product with a
   cotangent. -/
module

public import proofs.«01_k».proof.Proof.Reals
public import proofs.«01_k».proof.Proof.Host

@[expose] public section

noncomputable section

namespace Cert.Spec

open Idealize.ShloMosaic Cert.Reals

variable (q : Fin 4 → Fin 2304 → Fin 8 → Fin 96 → ℝ) (kv : Fin 4 → Fin 2304 → Fin 8 → Fin 128 → ℝ)
  (kr : Fin 4 → Fin 2304 → Fin 32 → ℝ) (g : Fin 4 → Fin 2304 → Fin 8 → Fin 64 → ℝ)

/-- A head's key: 64 lanes of its own, then the 32 lanes all heads share. -/
def kk (b : Fin 4) (j : Fin 2304) (h : Fin 8) (d : Fin 96) : ℝ :=
  if hd : d.val < 64 then kv b j h ⟨d.val, by omega⟩ else kr b j ⟨d.val - 64, by omega⟩

/-- A head's value. -/
abbrev vv (b : Fin 4) (j : Fin 2304) (h : Fin 8) (d : Fin 64) : ℝ := kv b j h ⟨64 + d.val, by omega⟩

section

variable {n : ℕ} (hn : n ≤ 2304)

/-- The scores of a query with the first `n` keys. -/
def score (b : Fin 4) (h : Fin 8) (t : Fin 2304) (j : Fin n) : ℝ := ∑ d, q b t h d * kk kv kr b (Fin.castLE hn j) h d

/-- The attention's output over the first `n` keys. -/
def out (b : Fin 4) (h : Fin 8) (t : Fin 2304) (d : Fin 64) : ℝ := ∑ j, sm (score q kv kr hn b h t) j * vv kv b (Fin.castLE hn j) h d

/-- The derivative by a weight. -/
def dP (b : Fin 4) (h : Fin 8) (t : Fin 2304) (j : Fin n) : ℝ := ∑ d, g b t h d * vv kv b (Fin.castLE hn j) h d

/-- The derivative by a score. -/
def dS (b : Fin 4) (h : Fin 8) (t : Fin 2304) (j : Fin n) : ℝ :=
  sm (score q kv kr hn b h t) j * (dP kv g hn b h t j - ∑ i, sm (score q kv kr hn b h t) i * dP kv g hn b h t i)

end

/-- A query in 128 lanes, the last 32 zero. -/
def qp (b : Fin 4) (t : Fin 2304) (h : Fin 8) (d : Fin 128) : ℝ := if hd : d.val < 96 then q b t h ⟨d.val, hd⟩ else 0

/-- The shared key at lanes 64 to 95 of 128. -/
def krp (b : Fin 4) (j : Fin 2304) (d : Fin 128) : ℝ := if hd : 64 ≤ d.val ∧ d.val < 96 then kr b j ⟨d.val - 64, by omega⟩ else 0

/-- Lane `d` of a head's key held in 128 lanes. -/
theorem key_kk (b : Fin 4) (j : Fin 2304) (h : Fin 8) (d : Fin 128) :
    key (kv b j h) (krp kr b j) d = if hd : d.val < 96 then kk kv kr b j h ⟨d.val, hd⟩ else 0 := by
  unfold key krp kk
  dsimp only
  by_cases h1 : d.val < 64
  · rw [if_pos h1, dif_pos (by omega), dif_pos h1]
  · rw [if_neg h1]
    by_cases h2 : d.val < 96
    · rw [dif_pos (by omega), dif_pos h2, dif_neg h1]
    · rw [dif_neg (by omega), dif_neg h2]

/-- The product over the 128 lanes is the product over the 96 in use. -/
theorem dot_kk (b : Fin 4) (t j : Fin 2304) (h : Fin 8) :
    dot (qp q b t h) (key (kv b j h) (krp kr b j)) = ∑ d, q b t h d * kk kv kr b j h d := by
  unfold dot
  rw [show (∑ d : Fin 128, qp q b t h d * key (kv b j h) (krp kr b j) d)
      = ∑ d : Fin (96 + 32), qp q b t h d * key (kv b j h) (krp kr b j) d from rfl, Fin.sum_univ_add]
  have e2 : ∑ d : Fin 32, qp q b t h (Fin.natAdd 96 d) * key (kv b j h) (krp kr b j) (Fin.natAdd 96 d) = 0 :=
    Finset.sum_eq_zero fun d _ => by
      have : ¬ (Fin.natAdd 96 d : Fin 128).val < 96 := by simp
      rw [qp, dif_neg this, zero_mul]
  rw [e2, add_zero]
  refine Finset.sum_congr rfl fun d _ => ?_
  have hd : (Fin.castAdd 32 d : Fin 128).val < 96 := d.isLt
  rw [key_kk, dif_pos hd, qp, dif_pos hd]
  rfl

end Cert.Spec

end
-- ==== Proof.FwdRef.lean ====
/- What the forward reference computes from real queries, keys and values. -/
module

public import proofs.«01_k».proof.Proof.Gen.FwdReferenceIdeal.Read
public import proofs.«01_k».proof.Proof.Spec

@[expose] public section

set_option maxRecDepth 16384

noncomputable section

namespace Cert.FwdRef

open Cert.FwdReferenceIdeal Cert.FwdReferenceIdeal.Read Idealize.ShloMosaic Cert.Reals Cert.Spec Cert.HostArrays

abbrev n256 : 256 ≤ 2304 := by decide
abbrev n2304 : 2304 ≤ 2304 := le_refl _

/-- The time of latent row `t`. -/
abbrev lat (t : Fin 2048) : Fin 2304 := ⟨256 + t.val, by omega⟩

/-- The time of context row `t`. -/
abbrev ctx (t : Fin 256) : Fin 2304 := ⟨t.val, by omega⟩

variable (x0 : (⟨S4x2304x8x96, .f32⟩ : BufTy).Contents (Elt Ideal)) (x1 : (⟨S4x2304x8x128, .f32⟩ : BufTy).Contents (Elt Ideal))
  (x2 : (⟨S4x2304x32, .f32⟩ : BufTy).Contents (Elt Ideal))
  (q : Fin 4 → Fin 2304 → Fin 8 → Fin 96 → ℝ) (kv : Fin 4 → Fin 2304 → Fin 8 → Fin 128 → ℝ) (kr : Fin 4 → Fin 2304 → Fin 32 → ℝ)
  (hq : ∀ b t h d, val_main_v1 (F := Ideal) x0 (ix4 b t h d) = (q b t h d : EReal))
  (hkv : ∀ b t h d, x1 (ix4 b t h d) = (kv b t h d : EReal))
  (hkr : ∀ b t d, x2 (ix3 b t d) = (kr b t d : EReal))

include hkv hkr in
theorem keys (b : Fin 4) (j : Fin 2304) (h : Fin 8) (d : Fin 96) : val_main_v5 (F := Ideal) x1 x2 (ix4 b j h d) = (kk kv kr b j h d : EReal) := by
  pointwise [val_main_v5, val_main_v2, val_main_v3, val_main_v4]
  unfold kk
  split
  · exact hkv _ _ _ _
  · exact hkr _ _ _

include hkv in
theorem values (b : Fin 4) (j : Fin 2304) (h : Fin 8) (d : Fin 64) : val_main_v6 (F := Ideal) x1 (ix4 b j h d) = (vv kv b j h d : EReal) := by
  pointwise [val_main_v6]
  exact hkv _ _ _ _

/-! ### Context rows: the first 256 keys -/

section

include hq hkv hkr in
theorem scores_c (b : Fin 4) (h : Fin 8) (t : Fin 256) (j : Fin 256) :
    val_main_v10 (F := Ideal) x0 x1 x2 (ix4 b h t j) = (score q kv kr n256 b h (ctx t) j : EReal) := by
  pointwise [val_main_v10, val_main_v7, val_main_v8, dot_S4x256x8x96_S4x256x8x96_S4x8x256x256_3_3_1_1_02_02, hq, keys x1 x2 kv kr hkv hkr]
  exact dot_coe _ _

include hq hkv hkr in
theorem rowmax_c (b : Fin 4) (h : Fin 8) (t : Fin 256) : ∃ M : ℝ, val_main_v11 (F := Ideal) x0 x1 x2 (ix3 b h t) = (M : EReal) := by
  obtain ⟨M, hM⟩ := fold_max_coe (score q kv kr n256 b h (ctx t))
  refine ⟨M, ?_⟩
  pointwise [val_main_v11, val_main_cst_0, scores_c x0 x1 x2 q kv kr hq hkv hkr]
  rw [ofBits_neg_inf, hM]

include hq hkv hkr in
theorem max_c (b : Fin 4) (h : Fin 8) (t : Fin 256) : ∃ M : ℝ, val_main_v13 (F := Ideal) x0 x1 x2 (ix3 b h t) = (M : EReal) := by
  obtain ⟨M, hM⟩ := rowmax_c x0 x1 x2 q kv kr hq hkv hkr b h t
  refine ⟨M, ?_⟩
  have hb : val_main_v12 (F := Ideal) (ix3 b h t) = (⊥ : EReal) := by rw [← ofBits_neg_inf]; rfl
  rw [val_main_v13_apply, hM, hb]
  exact max_bot_coe M

include hq hkv hkr in
theorem exp_c (b : Fin 4) (h : Fin 8) (t : Fin 256) (M : ℝ) (hM : val_main_v13 (F := Ideal) x0 x1 x2 (ix3 b h t) = (M : EReal)) (j : Fin 256) :
    val_main_v17 (F := Ideal) x0 x1 x2 (ix4 b h t j) = (Real.exp (score q kv kr n256 b h (ctx t) j - M) : EReal) := by
  pointwise [val_main_v17, val_main_v16, val_main_v15, val_main_v14, scores_c x0 x1 x2 q kv kr hq hkv hkr, hM]
  exact exp_sub_coe _ _

include hq hkv hkr in
theorem sum_c (b : Fin 4) (h : Fin 8) (t : Fin 256) (M : ℝ) (hM : val_main_v13 (F := Ideal) x0 x1 x2 (ix3 b h t) = (M : EReal)) :
    val_main_v18 (F := Ideal) x0 x1 x2 (ix3 b h t) = ((∑ j, Real.exp (score q kv kr n256 b h (ctx t) j - M) : ℝ) : EReal) := by
  pointwise [val_main_v18, val_main_cst_2, exp_c x0 x1 x2 q kv kr hq hkv hkr b h t M hM]
  simp only [← coe_sum, Ideal.ofBits_zero_f32, zero_add]

include hq hkv hkr in
theorem weight_c (b : Fin 4) (h : Fin 8) (t : Fin 256) (j : Fin 256) :
    val_main_v21 (F := Ideal) x0 x1 x2 (ix4 b h t j) = (sm (score q kv kr n256 b h (ctx t)) j : EReal) := by
  obtain ⟨M, hM⟩ := max_c x0 x1 x2 q kv kr hq hkv hkr b h t
  pointwise [val_main_v21, val_main_v20, val_main_v19, sum_c x0 x1 x2 q kv kr hq hkv hkr b h t M hM, exp_c x0 x1 x2 q kv kr hq hkv hkr b h t M hM]
  rw [div_coe _ (Z_shift_pos _ M).ne', sm_shift]

include hq hkv hkr in
theorem out_c (b : Fin 4) (h : Fin 8) (t : Fin 256) (d : Fin 64) :
    val_main_v23 (F := Ideal) x0 x1 x2 (ix4 b t h d) = (out q kv kr n256 b h (ctx t) d : EReal) := by
  pointwise [val_main_v23, val_main_v22, val_main_v9, dot_S4x256x8x64_S4x8x256x256_S4x8x64x256_1_3_3_2_02_01, weight_c x0 x1 x2 q kv kr hq hkv hkr, values x1 kv hkv]
  rw [out, coe_sum]
  exact Finset.sum_congr rfl fun j _ => by rw [← EReal.coe_mul, mul_comm]; rfl

include hq hkv hkr in
theorem lscores_c (b : Fin 4) (h : Fin 8) (t : Fin 256) (j : Fin 256) :
    val_main_v49 (F := Ideal) x0 x1 x2 (ix4 b h t j) = (score q kv kr n256 b h (ctx t) j : EReal) :=
  scores_c x0 x1 x2 q kv kr hq hkv hkr b h t j

include hq hkv hkr in
theorem lmax_c (b : Fin 4) (h : Fin 8) (t : Fin 256) : ∃ M : ℝ, val_main_v50 (F := Ideal) x0 x1 x2 (ix3 b h t) = (M : EReal) := by
  obtain ⟨M, hM⟩ := fold_max_coe (score q kv kr n256 b h (ctx t))
  refine ⟨M, ?_⟩
  pointwise [val_main_v50, val_main_cst_7, lscores_c x0 x1 x2 q kv kr hq hkv hkr]
  rw [ofBits_neg_inf, hM]

include hq hkv hkr in
theorem lexp_c (b : Fin 4) (h : Fin 8) (t : Fin 256) (M : ℝ) (hM : val_main_v50 (F := Ideal) x0 x1 x2 (ix3 b h t) = (M : EReal)) (j : Fin 256) :
    val_main_v54 (F := Ideal) x0 x1 x2 (ix4 b h t j) = (Real.exp (score q kv kr n256 b h (ctx t) j - M) : EReal) := by
  pointwise [val_main_v54, val_main_v53, val_main_v52, val_main_v51, lscores_c x0 x1 x2 q kv kr hq hkv hkr, hM]
  exact exp_sub_coe _ _

include hq hkv hkr in
theorem lsum_c (b : Fin 4) (h : Fin 8) (t : Fin 256) (M : ℝ) (hM : val_main_v50 (F := Ideal) x0 x1 x2 (ix3 b h t) = (M : EReal)) :
    val_main_v55 (F := Ideal) x0 x1 x2 (ix3 b h t) = ((∑ j, Real.exp (score q kv kr n256 b h (ctx t) j - M) : ℝ) : EReal) := by
  pointwise [val_main_v55, val_main_cst_8, lexp_c x0 x1 x2 q kv kr hq hkv hkr b h t M hM]
  simp only [← coe_sum, Ideal.ofBits_zero_f32, zero_add]

include hq hkv hkr in
theorem lse_c (b : Fin 4) (h : Fin 8) (t : Fin 256) :
    val_main_v59 (F := Ideal) x0 x1 x2 (ix3 b h t) = (lse (score q kv kr n256 b h (ctx t)) : EReal) := by
  obtain ⟨M, hM⟩ := lmax_c x0 x1 x2 q kv kr hq hkv hkr b h t
  rw [show val_main_v59 (F := Ideal) x0 x1 x2 (ix3 b h t) = val_main_v58 (F := Ideal) x0 x1 x2 (ix4 b h t 0) from
    Idealize.ShloMosaic.shapeCast_apply _ _ _ _ (by
      rewrite [Shape.rowMajor_val_three, Shape.rowMajor_val_four]
      show ((b.val * 8 + h.val) * 256 + t.val) * 1 + 0 = (b.val * 8 + h.val) * 256 + t.val
      omega)]
  have h1 : val_main_v51 (F := Ideal) x0 x1 x2 (ix4 b h t 0) = (M : EReal) := by
    pointwise [val_main_v51, hM]
  have h2 : val_main_v57 (F := Ideal) x0 x1 x2 (ix4 b h t 0) = (Real.log (∑ j, Real.exp (score q kv kr n256 b h (ctx t) j - M)) : EReal) := by
    pointwise [val_main_v57, val_main_v56, lsum_c x0 x1 x2 q kv kr hq hkv hkr b h t M hM]
    exact log_coe_pos (Z_shift_pos _ M)
  rw [val_main_v58_apply, h1, h2, Ideal.addf_def, ← EReal.coe_add, lse_shift]

end

/-! ### Latent rows: all keys -/

section

include hq hkv hkr in
theorem scores_l (b : Fin 4) (h : Fin 8) (t : Fin 2048) (j : Fin 2304) :
    val_main_v25 (F := Ideal) x0 x1 x2 (ix4 b h t j) = (score q kv kr n2304 b h (lat t) j : EReal) := by
  pointwise [val_main_v25, val_main_v24, dot_S4x2048x8x96_S4x2304x8x96_S4x8x2048x2304_3_3_1_1_02_02, hq, keys x1 x2 kv kr hkv hkr]
  exact dot_coe _ _

include hq hkv hkr in
theorem rowmax_l (b : Fin 4) (h : Fin 8) (t : Fin 2048) : ∃ M : ℝ, val_main_v26 (F := Ideal) x0 x1 x2 (ix3 b h t) = (M : EReal) := by
  obtain ⟨M, hM⟩ := fold_max_coe (score q kv kr n2304 b h (lat t))
  refine ⟨M, ?_⟩
  pointwise [val_main_v26, val_main_cst_3, scores_l x0 x1 x2 q kv kr hq hkv hkr]
  rw [ofBits_neg_inf, hM]

include hq hkv hkr in
theorem max_l (b : Fin 4) (h : Fin 8) (t : Fin 2048) : ∃ M : ℝ, val_main_v28 (F := Ideal) x0 x1 x2 (ix3 b h t) = (M : EReal) := by
  obtain ⟨M, hM⟩ := rowmax_l x0 x1 x2 q kv kr hq hkv hkr b h t
  refine ⟨M, ?_⟩
  have hb : val_main_v27 (F := Ideal) (ix3 b h t) = (⊥ : EReal) := by rw [← ofBits_neg_inf]; rfl
  rw [val_main_v28_apply, hM, hb]
  exact max_bot_coe M

include hq hkv hkr in
theorem exp_l (b : Fin 4) (h : Fin 8) (t : Fin 2048) (M : ℝ) (hM : val_main_v28 (F := Ideal) x0 x1 x2 (ix3 b h t) = (M : EReal)) (j : Fin 2304) :
    val_main_v32 (F := Ideal) x0 x1 x2 (ix4 b h t j) = (Real.exp (score q kv kr n2304 b h (lat t) j - M) : EReal) := by
  pointwise [val_main_v32, val_main_v31, val_main_v30, val_main_v29, scores_l x0 x1 x2 q kv kr hq hkv hkr, hM]
  exact exp_sub_coe _ _

include hq hkv hkr in
theorem sum_l (b : Fin 4) (h : Fin 8) (t : Fin 2048) (M : ℝ) (hM : val_main_v28 (F := Ideal) x0 x1 x2 (ix3 b h t) = (M : EReal)) :
    val_main_v33 (F := Ideal) x0 x1 x2 (ix3 b h t) = ((∑ j, Real.exp (score q kv kr n2304 b h (lat t) j - M) : ℝ) : EReal) := by
  pointwise [val_main_v33, val_main_cst_5, exp_l x0 x1 x2 q kv kr hq hkv hkr b h t M hM]
  simp only [← coe_sum, Ideal.ofBits_zero_f32, zero_add]

include hq hkv hkr in
theorem weight_l (b : Fin 4) (h : Fin 8) (t : Fin 2048) (j : Fin 2304) :
    val_main_v36 (F := Ideal) x0 x1 x2 (ix4 b h t j) = (sm (score q kv kr n2304 b h (lat t)) j : EReal) := by
  obtain ⟨M, hM⟩ := max_l x0 x1 x2 q kv kr hq hkv hkr b h t
  pointwise [val_main_v36, val_main_v35, val_main_v34, sum_l x0 x1 x2 q kv kr hq hkv hkr b h t M hM, exp_l x0 x1 x2 q kv kr hq hkv hkr b h t M hM]
  rw [div_coe _ (Z_shift_pos _ M).ne', sm_shift]

include hq hkv hkr in
theorem out_l (b : Fin 4) (h : Fin 8) (t : Fin 2048) (d : Fin 64) :
    val_main_v38 (F := Ideal) x0 x1 x2 (ix4 b t h d) = (out q kv kr n2304 b h (lat t) d : EReal) := by
  pointwise [val_main_v38, val_main_v37, dot_S4x2304x8x64_S4x8x2048x2304_S4x8x64x2048_1_3_3_2_02_01, weight_l x0 x1 x2 q kv kr hq hkv hkr, values x1 kv hkv]
  rw [out, coe_sum]
  exact Finset.sum_congr rfl fun j _ => by rw [← EReal.coe_mul, mul_comm]; rfl

include hq hkv hkr in
theorem lscores_l (b : Fin 4) (h : Fin 8) (t : Fin 2048) (j : Fin 2304) :
    val_main_v61 (F := Ideal) x0 x1 x2 (ix4 b h t j) = (score q kv kr n2304 b h (lat t) j : EReal) :=
  scores_l x0 x1 x2 q kv kr hq hkv hkr b h t j

include hq hkv hkr in
theorem lmax_l (b : Fin 4) (h : Fin 8) (t : Fin 2048) : ∃ M : ℝ, val_main_v62 (F := Ideal) x0 x1 x2 (ix3 b h t) = (M : EReal) := by
  obtain ⟨M, hM⟩ := fold_max_coe (score q kv kr n2304 b h (lat t))
  refine ⟨M, ?_⟩
  pointwise [val_main_v62, val_main_cst_9, lscores_l x0 x1 x2 q kv kr hq hkv hkr]
  rw [ofBits_neg_inf, hM]

include hq hkv hkr in
theorem lexp_l (b : Fin 4) (h : Fin 8) (t : Fin 2048) (M : ℝ) (hM : val_main_v62 (F := Ideal) x0 x1 x2 (ix3 b h t) = (M : EReal)) (j : Fin 2304) :
    val_main_v66 (F := Ideal) x0 x1 x2 (ix4 b h t j) = (Real.exp (score q kv kr n2304 b h (lat t) j - M) : EReal) := by
  pointwise [val_main_v66, val_main_v65, val_main_v64, val_main_v63, lscores_l x0 x1 x2 q kv kr hq hkv hkr, hM]
  exact exp_sub_coe _ _

include hq hkv hkr in
theorem lsum_l (b : Fin 4) (h : Fin 8) (t : Fin 2048) (M : ℝ) (hM : val_main_v62 (F := Ideal) x0 x1 x2 (ix3 b h t) = (M : EReal)) :
    val_main_v67 (F := Ideal) x0 x1 x2 (ix3 b h t) = ((∑ j, Real.exp (score q kv kr n2304 b h (lat t) j - M) : ℝ) : EReal) := by
  pointwise [val_main_v67, val_main_cst_10, lexp_l x0 x1 x2 q kv kr hq hkv hkr b h t M hM]
  simp only [← coe_sum, Ideal.ofBits_zero_f32, zero_add]

include hq hkv hkr in
theorem lse_l (b : Fin 4) (h : Fin 8) (t : Fin 2048) :
    val_main_v71 (F := Ideal) x0 x1 x2 (ix3 b h t) = (lse (score q kv kr n2304 b h (lat t)) : EReal) := by
  obtain ⟨M, hM⟩ := lmax_l x0 x1 x2 q kv kr hq hkv hkr b h t
  rw [show val_main_v71 (F := Ideal) x0 x1 x2 (ix3 b h t) = val_main_v70 (F := Ideal) x0 x1 x2 (ix4 b h t 0) from
    Idealize.ShloMosaic.shapeCast_apply _ _ _ _ (by
      rewrite [Shape.rowMajor_val_three, Shape.rowMajor_val_four]
      show ((b.val * 8 + h.val) * 2048 + t.val) * 1 + 0 = (b.val * 8 + h.val) * 2048 + t.val
      omega)]
  have h1 : val_main_v63 (F := Ideal) x0 x1 x2 (ix4 b h t 0) = (M : EReal) := by
    pointwise [val_main_v63, hM]
  have h2 : val_main_v69 (F := Ideal) x0 x1 x2 (ix4 b h t 0) = (Real.log (∑ j, Real.exp (score q kv kr n2304 b h (lat t) j - M)) : EReal) := by
    pointwise [val_main_v69, val_main_v68, lsum_l x0 x1 x2 q kv kr hq hkv hkr b h t M hM]
    exact log_coe_pos (Z_shift_pos _ M)
  rw [val_main_v70_apply, h1, h2, Ideal.addf_def, ← EReal.coe_add, lse_shift]

end

/-! ### The two results -/

/-- The attention of a row: over the first 256 keys in the context, over all keys after it. -/
def outRow (b : Fin 4) (h : Fin 8) (t : Fin 2304) (d : Fin 64) : ℝ :=
  if t.val < 256 then out q kv kr n256 b h t d else out q kv kr n2304 b h t d

/-- The logarithm of a row's sum. -/
def lseRow (b : Fin 4) (h : Fin 8) (t : Fin 2304) : ℝ :=
  if t.val < 256 then lse (score q kv kr n256 b h t) else lse (score q kv kr n2304 b h t)

include hq hkv hkr in
theorem result_o (b : Fin 4) (t : Fin 2304) (h : Fin 8) (d : Fin 64) :
    val_main_v40 (F := Ideal) x0 x1 x2 (ix2 (rowOf b t) (⟨64 * h.val + d.val, by omega⟩ : Fin 512)) = (outRow q kv kr b h t d : EReal) := by
  rw [show val_main_v40 (F := Ideal) x0 x1 x2 (ix2 (rowOf b t) (⟨64 * h.val + d.val, by omega⟩ : Fin 512)) = val_main_v39 (F := Ideal) x0 x1 x2 (ix4 b t h d) from
    cast_o _ _ b t h d]
  pointwise [val_main_v39]
  unfold outRow
  by_cases ht : t.val < 256
  · rw [dif_pos ht, if_pos ht]
    exact out_c x0 x1 x2 q kv kr hq hkv hkr b h ⟨t.val, ht⟩ d
  · rw [dif_neg ht, if_neg ht]
    have e : lat ⟨t.val - 256, by omega⟩ = t := Fin.ext (by show 256 + (t.val - 256) = t.val; omega)
    exact (out_l x0 x1 x2 q kv kr hq hkv hkr b h ⟨t.val - 256, by omega⟩ d).trans (by rw [e])

include hq hkv hkr in
theorem result_lse (b : Fin 4) (t : Fin 2304) (p : Fin 4) (e : Fin 2) :
    val_main_v75 (F := Ideal) x0 x1 x2 (ix3 p (rowOf b t) e) = (lseRow q kv kr b ⟨2 * p.val + e.val, by omega⟩ t : EReal) := by
  rw [show val_main_v75 (F := Ideal) x0 x1 x2 (ix3 p (rowOf b t) e) = val_main_v74 (F := Ideal) x0 x1 x2 (ix4 p b t e) from
    Idealize.ShloMosaic.shapeCast_apply _ _ _ _ (by
      rewrite [Shape.rowMajor_val_three, Shape.rowMajor_val_four]
      show ((p.val * 4 + b.val) * 2304 + t.val) * 2 + e.val = (p.val * 9216 + (2304 * b.val + t.val)) * 2 + e.val
      omega)]
  rw [show val_main_v74 (F := Ideal) x0 x1 x2 (ix4 p b t e) = val_main_v73 (F := Ideal) x0 x1 x2 (ix4 b p e t) by pointwise [val_main_v74]]
  rw [show val_main_v73 (F := Ideal) x0 x1 x2 (ix4 b p e t) = val_main_v72 (F := Ideal) x0 x1 x2 (ix3 b (⟨2 * p.val + e.val, by omega⟩ : Fin 8) t) from
    Idealize.ShloMosaic.shapeCast_apply _ _ _ _ (by
      rewrite [Shape.rowMajor_val_three, Shape.rowMajor_val_four]
      show (b.val * 8 + (2 * p.val + e.val)) * 2304 + t.val = ((b.val * 4 + p.val) * 2 + e.val) * 2304 + t.val
      omega)]
  pointwise [val_main_v72]
  unfold lseRow
  by_cases ht : t.val < 256
  · rw [dif_pos ht, if_pos ht]
    exact lse_c x0 x1 x2 q kv kr hq hkv hkr b _ ⟨t.val, ht⟩
  · rw [dif_neg ht, if_neg ht]
    have e' : lat ⟨t.val - 256, by omega⟩ = t := Fin.ext (by show 256 + (t.val - 256) = t.val; omega)
    exact (lse_l x0 x1 x2 q kv kr hq hkv hkr b _ ⟨t.val - 256, by omega⟩).trans (by rw [e'])

end Cert.FwdRef

end
-- ==== Proof.FwdHost.lean ====
/- The arrays the host hands to the attention's calls, read at an index. -/
module

public import proofs.«01_k».proof.Proof.Gen.FwdIdeal.Value
public import proofs.«01_k».proof.Proof.FwdRef

@[expose] public section

set_option maxRecDepth 16384

noncomputable section

namespace Cert.FwdHost

open Cert.FwdIdeal Cert.FwdIdeal.Gen Idealize.ShloMosaic Idealize.ShloMosaic.TcCoe Idealize.SL.Sem Cert.Reals Cert.Spec Cert.HostArrays

section

variable {F : FTy → Type} [FloatOps F]

/-- The scaled queries, each head padded to 128 lanes, rows and heads laid out as two axes. -/
def hostQ (x0 : FVec F S4x2304x8x96 .f32) : FVec F S9216x1024 .bf16 :=
  truncf .bf16 (shapeCast S9216x1024 (pad S9216x8x128 ![0, 0, 0] ![0, 0, 32] ![0, 0, 0]
    (shapeCast S9216x8x96 (shapeCast S9216x768 (mulf x0 (broadcastInDim S4x2304x8x96 ![] bcast_S_S4x2304x8x96 (constant S_ .f32 0x3DD105EC#32)))
      shapeCasts_S4x2304x8x96_S9216x768) shapeCasts_S9216x768_S9216x8x96)
    (sitofp .f32 (constantI S_ 32 0#32)) pads_S9216x8x96_S9216x8x128_000_000_0320 h_S_) shapeCasts_S9216x8x128_S9216x1024) bitsLt_bf16_f32

/-- The keys and values, rows and heads laid out as two axes. -/
def hostKV (x1 : FVec F S4x2304x8x128 .f32) : FVec F S9216x1024 .bf16 :=
  truncf .bf16 (shapeCast S9216x1024 x1 shapeCasts_S4x2304x8x128_S9216x1024) bitsLt_bf16_f32

/-- The shared keys at lanes 64 to 95. -/
def hostKR (x2 : FVec F S4x2304x32 .f32) : FVec F S9216x128 .bf16 :=
  truncf .bf16 (pad S9216x128 ![0, 64] ![0, 32] ![0, 0] (shapeCast S9216x32 x2 shapeCasts_S4x2304x32_S9216x32)
    (sitofp .f32 (constantI S_ 32 0#32)) pads_S9216x32_S9216x128_000_64320 h_S_) bitsLt_bf16_f32

variable (m : (ℓ : Loc nD τ sig) → Buf (Elt F) ℓ) (c : Dev nD)

theorem V_q : V m c main_v6 = hostQ (m ((c : Thread nD τ).loc main_arg0)) := by
  show StableHlo.after (List.flatten [hostOps0, hostOps0_1, hostOps0_2, hostOps0_3, hostOps0_4]) (fun b => m (c, b)) (Proc.devRef .tc main_v6) = _
  simp only [hostOps0, hostOps0_1, hostOps0_2, hostOps0_3, hostOps0_4, List.flatten_cons, List.flatten_nil, List.append_nil, List.cons_append, List.nil_append]
  after_results_simp
  rfl

theorem V_kv : V m c main_v8 = hostKV (m ((c : Thread nD τ).loc main_arg1)) := by
  show StableHlo.after (List.flatten [hostOps0, hostOps0_1, hostOps0_2, hostOps0_3, hostOps0_4]) (fun b => m (c, b)) (Proc.devRef .tc main_v8) = _
  simp only [hostOps0, hostOps0_1, hostOps0_2, hostOps0_3, hostOps0_4, List.flatten_cons, List.flatten_nil, List.append_nil, List.cons_append, List.nil_append]
  after_results_simp
  rfl

theorem V_kr : V m c main_v11 = hostKR (m ((c : Thread nD τ).loc main_arg2)) := by
  show StableHlo.after (List.flatten [hostOps0, hostOps0_1, hostOps0_2, hostOps0_3, hostOps0_4]) (fun b => m (c, b)) (Proc.devRef .tc main_v11) = _
  simp only [hostOps0, hostOps0_1, hostOps0_2, hostOps0_3, hostOps0_4, List.flatten_cons, List.flatten_nil, List.append_nil, List.cons_append, List.nil_append]
  after_results_simp
  rfl

end

section

variable (x0 : FVec Ideal S4x2304x8x96 .f32) (x1 : FVec Ideal S4x2304x8x128 .f32) (x2 : FVec Ideal S4x2304x32 .f32)
  (q : Fin 4 → Fin 2304 → Fin 8 → Fin 96 → ℝ) (kv : Fin 4 → Fin 2304 → Fin 8 → Fin 128 → ℝ) (kr : Fin 4 → Fin 2304 → Fin 32 → ℝ)

theorem padding (i : S_.Idx) : (sitofp (F := Ideal) .f32 (constantI S_ 32 0#32)) i = (0 : EReal) := by
  show (((0#32 : BitVec 32).toInt : ℝ) : EReal) = 0
  simp

theorem hostQ_apply (hq : ∀ b t h d, FwdReferenceIdeal.Read.val_main_v1 (F := Ideal) x0 (ix4 b t h d) = (q b t h d : EReal))
    (b : Fin 4) (t : Fin 2304) (h : Fin 8) (d : Fin 128) : hostQ x0 (ix2 (rowOf b t) (laneOf h d)) = (qp q b t h d : EReal) := by
  unfold hostQ
  rw [truncf_apply, Ideal.truncf_def, cast_heads128, pad_q]
  unfold qp
  split
  · rw [cast_heads96]; exact hq _ _ _ _
  · exact padding _

theorem hostKV_apply (hkv : ∀ b t h d, x1 (ix4 b t h d) = (kv b t h d : EReal))
    (b : Fin 4) (t : Fin 2304) (h : Fin 8) (d : Fin 128) : hostKV x1 (ix2 (rowOf b t) (laneOf h d)) = (kv b t h d : EReal) := by
  unfold hostKV
  rw [truncf_apply, Ideal.truncf_def, cast_kv]
  exact hkv _ _ _ _

theorem hostKR_apply (hkr : ∀ b t d, x2 (ix3 b t d) = (kr b t d : EReal))
    (b : Fin 4) (t : Fin 2304) (d : Fin 128) : hostKR x2 (ix2 (rowOf b t) d) = (krp kr b t d : EReal) := by
  unfold hostKR
  rw [truncf_apply, Ideal.truncf_def, pad_kr]
  unfold krp
  split
  · rw [cast_kr]; exact hkr _ _ _
  · exact padding _

end

end Cert.FwdHost

end
-- ==== Proof.FwdBlock.lean ====
/- What the forward call's body leaves in its two output blocks at a grid point: for real queries, keys and values the
   attention of the two heads of the block, and the logarithm of each row's sum. -/
module

public import proofs.«01_k».proof.Proof.Gen.FwdIdeal.Value
public import proofs.«01_k».proof.Proof.Reals

@[expose] public section

set_option maxRecDepth 16384

noncomputable section

namespace Cert.FwdBlock

open Cert.FwdIdeal Cert.FwdIdeal.Gen Idealize.ShloMosaic Idealize.ShloMosaic.TcCoe Idealize.SL.Sem Cert.Reals

/-! ### Blocks of 256 keys -/

section

variable {F : FTy → Type} [FloatOps F]

theorem out_A_3 (c : Dev nD) (i : grid0.Coords) (arg3 : Memref sig .tc .vmem S256x256 .bf16) (harg3 : arg3.IsWhole) (arg4 : Memref sig .tc .vmem S2304x256 .bf16) (harg4 : arg4.IsWhole) (arg5 : Memref sig .tc .vmem S2304x128 .bf16) (harg5 : arg5.IsWhole) (arg6 : Memref sig .tc .vmem S256x128 .f32) (harg6 : arg6.IsWhole) (arg7 : Memref sig .tc .vmem S1x256x2 .f32) (harg7 : arg7.IsWhole) (hc0 : cond0_0 i) (hc1 : ¬cond0_1 i)
    (x0 : Vec F S256x256 .bf16) (x1 : Vec F S2304x256 .bf16) (x2 : Vec F S2304x128 .bf16) :
    out0_A_3 c i arg3 harg3 arg4 harg4 arg5 harg5 arg6 harg6 arg7 harg7 hc0 hc1 x0 x1 x2
      = k0_pay3 (iota Kind.tc S256x128 32 [1] iota_S256x128_d1_w32)
        (k0_pay14 (View.ld x1 (Rect.unit ![0, 0] ![256, 128] inb_S2304x256_S256x128_0_0)) (View.ld x2 (Rect.unit ![0, 0] ![256, 128] inb_S2304x128_S256x128_0_0)) (View.ld x0 (Rect.unit ![0, 0] ![256, 128] inb_S256x256_S256x128_0_0)))
        (k0_pay16 (View.ld x1 (Rect.unit ![0, 128] ![256, 128] inb_S2304x256_S256x128_0_128)))
        (k0_pay19 (View.ld x1 (Rect.unit ![0, 128] ![256, 128] inb_S2304x256_S256x128_0_128)) (View.ld x2 (Rect.unit ![0, 0] ![256, 128] inb_S2304x128_S256x128_0_0)) (View.ld x0 (Rect.unit ![0, 128] ![256, 128] inb_S256x256_S256x128_0_128))) := by
  unfold out0_A_3
  rw [View.read_writes_eq_canon _ _ _ (cover0_A_3 c i arg3 harg3 arg4 harg4 arg5 harg5 arg6 harg6 arg7 harg7 hc0 hc1 x0 x1 x2)]
  unfold kernelRun0_A; dsimp only; sl_unfold_words
  simp only [View.readAt_eq_ld, harg3.read_unread, harg4.read_unread, harg5.read_unread]
  rw [View.canon_unit_zero (by decide)]

theorem out_A_4 (c : Dev nD) (i : grid0.Coords) (arg3 : Memref sig .tc .vmem S256x256 .bf16) (harg3 : arg3.IsWhole) (arg4 : Memref sig .tc .vmem S2304x256 .bf16) (harg4 : arg4.IsWhole) (arg5 : Memref sig .tc .vmem S2304x128 .bf16) (harg5 : arg5.IsWhole) (arg6 : Memref sig .tc .vmem S256x128 .f32) (harg6 : arg6.IsWhole) (arg7 : Memref sig .tc .vmem S1x256x2 .f32) (harg7 : arg7.IsWhole) (hc0 : cond0_0 i) (hc1 : ¬cond0_1 i)
    (x0 : Vec F S256x256 .bf16) (x1 : Vec F S2304x256 .bf16) (x2 : Vec F S2304x128 .bf16) :
    out0_A_4 c i arg3 harg3 arg4 harg4 arg5 harg5 arg6 harg6 arg7 harg7 hc0 hc1 x0 x1 x2
      = k0_pay4
        (k0_pay15 (View.ld x1 (Rect.unit ![0, 0] ![256, 128] inb_S2304x256_S256x128_0_0)) (View.ld x2 (Rect.unit ![0, 0] ![256, 128] inb_S2304x128_S256x128_0_0)) (View.ld x0 (Rect.unit ![0, 0] ![256, 128] inb_S256x256_S256x128_0_0)))
        (k0_pay18 (View.ld x1 (Rect.unit ![0, 128] ![256, 128] inb_S2304x256_S256x128_0_128)) (View.ld x2 (Rect.unit ![0, 0] ![256, 128] inb_S2304x128_S256x128_0_0)) (View.ld x0 (Rect.unit ![0, 128] ![256, 128] inb_S256x256_S256x128_0_128)))
        (k0_pay19 (View.ld x1 (Rect.unit ![0, 128] ![256, 128] inb_S2304x256_S256x128_0_128)) (View.ld x2 (Rect.unit ![0, 0] ![256, 128] inb_S2304x128_S256x128_0_0)) (View.ld x0 (Rect.unit ![0, 128] ![256, 128] inb_S256x256_S256x128_0_128))) := by
  unfold out0_A_4
  rw [View.read_writes_eq_canon _ _ _ (cover0_A_4 c i arg3 harg3 arg4 harg4 arg5 harg5 arg6 harg6 arg7 harg7 hc0 hc1 x0 x1 x2)]
  unfold kernelRun0_A; dsimp only; sl_unfold_words
  simp only [View.readAt_eq_ld, harg3.read_unread, harg4.read_unread, harg5.read_unread]
  rw [View.canon_unit_zero (by decide)]

end

section

variable (v7 v12 v32 : Vec Ideal S256x128 .bf16) (v15 : Vec Ideal S256x128 .bf16) (A B : Fin 256 → Fin 128 → ℝ) (C : Fin 256 → Fin 128 → ℝ)

/-- The scores of a row. -/
abbrev scA (r : Fin 256) : Fin 256 → ℝ := fun j => dot (C r) (key (A j) (B j))

theorem s0_A (hA : ∀ j d, v7 (ix2 j d) = (A j d : EReal)) (hB : ∀ j d, v12 (ix2 j d) = (B j d : EReal)) (hC : ∀ r d, v15 (ix2 r d) = (C r d : EReal))
    (r : Fin 256) (j : Fin 256) : k0_pay10 v7 v12 v15 (ix2 r j) = (scA A B C r j : EReal) := by
  pointwise [k0_pay10, k0_pay9, dot_S256x128_S256x128_S256x256_1_1_0_0_n_n]
  simp only [hA, hB, hC, key_coe, dot_coe]

theorem m0_A (hA : ∀ j d, v7 (ix2 j d) = (A j d : EReal)) (hB : ∀ j d, v12 (ix2 j d) = (B j d : EReal)) (hC : ∀ r d, v15 (ix2 r d) = (C r d : EReal))
    (r : Fin 256) : ∃ M : ℝ, k0_pay11 v7 v12 v15 (ix2 r 0) = (M : EReal) := by
  obtain ⟨M, hM⟩ := fold_max_coe (scA A B C r)
  refine ⟨M, ?_⟩
  pointwise [k0_pay11]
  rw [ofBits_neg_inf, ← hM]
  exact congrArg (fun f => Finset.fold max ⊥ f Finset.univ) (funext fun j => s0_A v7 v12 v15 A B C hA hB hC r j)

theorem s1_A (hA : ∀ j d, v7 (ix2 j d) = (A j d : EReal)) (hB : ∀ j d, v12 (ix2 j d) = (B j d : EReal)) (hC : ∀ r d, v15 (ix2 r d) = (C r d : EReal))
    (r : Fin 256) (j : Fin 256) : k0_pay17 v7 v12 v15 (ix2 r j) = (scA A B C r j : EReal) := by
  pointwise [k0_pay17, k0_pay16, dot_S256x128_S256x128_S256x256_1_1_0_0_n_n]
  simp only [hA, hB, hC, key_coe, dot_coe]

theorem m1_A (hA : ∀ j d, v7 (ix2 j d) = (A j d : EReal)) (hB : ∀ j d, v12 (ix2 j d) = (B j d : EReal)) (hC : ∀ r d, v15 (ix2 r d) = (C r d : EReal))
    (r : Fin 256) : ∃ M : ℝ, k0_pay18 v7 v12 v15 (ix2 r 0) = (M : EReal) := by
  obtain ⟨M, hM⟩ := fold_max_coe (scA A B C r)
  refine ⟨M, ?_⟩
  pointwise [k0_pay18]
  rw [ofBits_neg_inf, ← hM]
  exact congrArg (fun f => Finset.fold max ⊥ f Finset.univ) (funext fun j => s1_A v7 v12 v15 A B C hA hB hC r j)

theorem o0_A (hA : ∀ j d, v7 (ix2 j d) = (A j d : EReal)) (hB : ∀ j d, v12 (ix2 j d) = (B j d : EReal)) (hC : ∀ r d, v15 (ix2 r d) = (C r d : EReal))
    (r : Fin 256) (d : Fin 128) : k0_pay14 v7 v12 v15 (ix2 r d) = ((∑ j, sm (scA A B C r) j * A j d : ℝ) : EReal) := by
  obtain ⟨M, hM⟩ := m0_A v7 v12 v15 A B C hA hB hC r
  pointwise [k0_pay14, k0_pay13, k0_pay12, k0_pay9, dot_S256x256_S256x128_S256x128_1_0_0_1_n_n, hM, s0_A v7 v12 v15 A B C hA hB hC, hA]
  simp only [exp_sub_coe, ← EReal.coe_mul, ← coe_sum]
  rw [div_coe _ (Z_shift_pos _ M).ne', sum_sm_mul]

theorem lse0_A (hA : ∀ j d, v7 (ix2 j d) = (A j d : EReal)) (hB : ∀ j d, v12 (ix2 j d) = (B j d : EReal)) (hC : ∀ r d, v15 (ix2 r d) = (C r d : EReal))
    (r : Fin 256) : k0_pay15 v7 v12 v15 (ix2 r 0) = (lse (scA A B C r) : EReal) := by
  obtain ⟨M, hM⟩ := m0_A v7 v12 v15 A B C hA hB hC r
  pointwise [k0_pay15, k0_pay13, k0_pay12, hM, s0_A v7 v12 v15 A B C hA hB hC]
  simp only [exp_sub_coe, ← coe_sum]
  rw [log_coe_pos (Z_shift_pos _ M), ← EReal.coe_add, lse_shift]

theorem o1_A (hA : ∀ j d, v7 (ix2 j d) = (A j d : EReal)) (hB : ∀ j d, v12 (ix2 j d) = (B j d : EReal)) (hC : ∀ r d, v15 (ix2 r d) = (C r d : EReal))
    (v28 : FVec Ideal S256x128 .f32) (O : Fin 256 → Fin 128 → ℝ) (hO : ∀ r d, v28 (ix2 r d) = (O r d : EReal)) (r : Fin 256) (d : Fin 128) :
    k0_pay3 (iota Kind.tc S256x128 32 [1] iota_S256x128_d1_w32) v28 (k0_pay16 v7) (k0_pay19 v7 v12 v15) (ix2 r d)
      = ((if d.val < 64 then O r ⟨(d.val + 64) % 128, Nat.mod_lt _ (by decide)⟩ else ∑ j, sm (scA A B C r) j * A j d : ℝ) : EReal) := by
  obtain ⟨M, hM⟩ := m1_A v7 v12 v15 A B C hA hB hC r
  pointwise [k0_pay3, k0_pay1, k0_pay2, k0_pay19, k0_pay16, dot_S256x256_S256x128_S256x128_1_0_0_1_n_n, hM, s1_A v7 v12 v15 A B C hA hB hC, hA, hO, select_lt]
  simp only [exp_sub_coe, ← EReal.coe_mul, ← coe_sum]
  rw [div_coe _ (Z_shift_pos _ M).ne', sum_sm_mul]
  split <;> rfl

theorem lse1_A (hA : ∀ j d, v7 (ix2 j d) = (A j d : EReal)) (hB : ∀ j d, v12 (ix2 j d) = (B j d : EReal)) (hC : ∀ r d, v15 (ix2 r d) = (C r d : EReal))
    (v30 : FVec Ideal S256x1 .f32) (L : Fin 256 → ℝ) (hL : ∀ r, v30 (ix2 r 0) = (L r : EReal)) (r : Fin 256) (h : Fin 2) :
    k0_pay4 v30 (k0_pay18 v7 v12 v15) (k0_pay19 v7 v12 v15) (ix3 0 r h)
      = ((if h.val = 0 then L r else lse (scA A B C r) : ℝ) : EReal) := by
  obtain ⟨M, hM⟩ := m1_A v7 v12 v15 A B C hA hB hC r
  pointwise [k0_pay4, k0_pay1, k0_pay2, k0_pay19, hM, s1_A v7 v12 v15 A B C hA hB hC, hL]
  simp only [exp_sub_coe, ← coe_sum]
  rw [log_coe_pos (Z_shift_pos _ M), ← EReal.coe_add, lse_shift]
  fin_cases h <;> rfl

end

section

variable (c : Dev nD) (i : grid0.Coords) (arg3 : Memref sig .tc .vmem S256x256 .bf16) (harg3 : arg3.IsWhole) (arg4 : Memref sig .tc .vmem S2304x256 .bf16) (harg4 : arg4.IsWhole) (arg5 : Memref sig .tc .vmem S2304x128 .bf16) (harg5 : arg5.IsWhole) (arg6 : Memref sig .tc .vmem S256x128 .f32) (harg6 : arg6.IsWhole) (arg7 : Memref sig .tc .vmem S1x256x2 .f32) (harg7 : arg7.IsWhole) (hc0 : cond0_0 i) (hc1 : ¬cond0_1 i)
  (x0 : Vec Ideal S256x256 .bf16) (x1 : Vec Ideal S2304x256 .bf16) (x2 : Vec Ideal S2304x128 .bf16) (Q : Fin 2 → Fin 256 → Fin 128 → ℝ) (KV : Fin 2 → Fin 2304 → Fin 128 → ℝ) (KR : Fin 2304 → Fin 128 → ℝ)

/-- The scores of a row of the block with the block's first 256 keys. -/
def rowA (h : Fin 2) (r : Fin 256) (j : Fin 256) : ℝ :=
  dot (Q h r) (key (KV h (Fin.castLE (by decide) j)) (KR (Fin.castLE (by decide) j)))

theorem block_o_A (h0 : ∀ h r d, x0 (ix2 r ⟨128 * h.val + d.val, by omega⟩) = (Q h r d : EReal))
    (h1 : ∀ h j d, x1 (ix2 j ⟨128 * h.val + d.val, by omega⟩) = (KV h j d : EReal)) (h2 : ∀ j d, x2 (ix2 j d) = (KR j d : EReal))
    (r : Fin 256) (h : Fin 2) (d : Fin 64) :
    out0_A_3 c i arg3 harg3 arg4 harg4 arg5 harg5 arg6 harg6 arg7 harg7 hc0 hc1 x0 x1 x2 (ix2 r ⟨64 * h.val + d.val, by omega⟩)
      = ((∑ j : Fin 256, sm (rowA Q KV KR h r) j * KV h (Fin.castLE (by decide) j) ⟨64 + d.val, by omega⟩ : ℝ) : EReal) := by
  have k0 : ∀ j (d : Fin 128), x1 (ix2 j ⟨d.val, by omega⟩) = (KV 0 j d : EReal) := fun j d => by simpa using h1 0 j d
  have k1 : ∀ j (d : Fin 128), x1 (ix2 j ⟨128 + d.val, by omega⟩) = (KV 1 j d : EReal) := fun j d => by simpa using h1 1 j d
  have q0 : ∀ r (d : Fin 128), x0 (ix2 r ⟨d.val, by omega⟩) = (Q 0 r d : EReal) := fun r d => by simpa using h0 0 r d
  have q1 : ∀ r (d : Fin 128), x0 (ix2 r ⟨128 + d.val, by omega⟩) = (Q 1 r d : EReal) := fun r d => by simpa using h0 1 r d
  have e0 := o0_A (View.ld x1 (Rect.unit ![0, 0] ![256, 128] inb_S2304x256_S256x128_0_0)) (View.ld x2 (Rect.unit ![0, 0] ![256, 128] inb_S2304x128_S256x128_0_0)) (View.ld x0 (Rect.unit ![0, 0] ![256, 128] inb_S256x256_S256x128_0_0))
    (fun j => KV 0 (Fin.castLE (by decide) j)) (fun j => KR (Fin.castLE (by decide) j)) (Q 0)
    (fun j d => by pointwise; exact k0 (Fin.castLE (by decide) j) d) (fun j d => by pointwise; exact h2 (Fin.castLE (by decide) j) d) (fun r d => by pointwise; exact q0 r d)
  rw [out_A_3, o1_A _ _ _ (fun j => KV 1 (Fin.castLE (by decide) j)) (fun j => KR (Fin.castLE (by decide) j)) (Q 1)
    (fun j d => by pointwise; exact k1 (Fin.castLE (by decide) j) d) (fun j d => by pointwise; exact h2 (Fin.castLE (by decide) j) d) (fun r d => by pointwise; exact q1 r d) _ _ e0]
  rcases (by omega : h.val = 0 ∨ h.val = 1) with hh | hh
  · obtain rfl : h = 0 := Fin.ext hh
    have hi : (⟨(64 * (0 : Fin 2).val + d.val + 64) % 128, Nat.mod_lt _ (by decide)⟩ : Fin 128) = ⟨64 + d.val, by omega⟩ :=
      Fin.ext (by show (64 * 0 + d.val + 64) % 128 = 64 + d.val; omega)
    rw [if_pos (show 64 * (0 : Fin 2).val + d.val < 64 by simp), hi]
    rfl
  · obtain rfl : h = 1 := Fin.ext hh
    rw [if_neg (show ¬64 * (1 : Fin 2).val + d.val < 64 by simp)]
    rfl

theorem block_lse_A (h0 : ∀ h r d, x0 (ix2 r ⟨128 * h.val + d.val, by omega⟩) = (Q h r d : EReal))
    (h1 : ∀ h j d, x1 (ix2 j ⟨128 * h.val + d.val, by omega⟩) = (KV h j d : EReal)) (h2 : ∀ j d, x2 (ix2 j d) = (KR j d : EReal))
    (r : Fin 256) (h : Fin 2) :
    out0_A_4 c i arg3 harg3 arg4 harg4 arg5 harg5 arg6 harg6 arg7 harg7 hc0 hc1 x0 x1 x2 (ix3 0 r h) = (lse (rowA Q KV KR h r) : EReal) := by
  have k0 : ∀ j (d : Fin 128), x1 (ix2 j ⟨d.val, by omega⟩) = (KV 0 j d : EReal) := fun j d => by simpa using h1 0 j d
  have k1 : ∀ j (d : Fin 128), x1 (ix2 j ⟨128 + d.val, by omega⟩) = (KV 1 j d : EReal) := fun j d => by simpa using h1 1 j d
  have q0 : ∀ r (d : Fin 128), x0 (ix2 r ⟨d.val, by omega⟩) = (Q 0 r d : EReal) := fun r d => by simpa using h0 0 r d
  have q1 : ∀ r (d : Fin 128), x0 (ix2 r ⟨128 + d.val, by omega⟩) = (Q 1 r d : EReal) := fun r d => by simpa using h0 1 r d
  have e0 := lse0_A (View.ld x1 (Rect.unit ![0, 0] ![256, 128] inb_S2304x256_S256x128_0_0)) (View.ld x2 (Rect.unit ![0, 0] ![256, 128] inb_S2304x128_S256x128_0_0)) (View.ld x0 (Rect.unit ![0, 0] ![256, 128] inb_S256x256_S256x128_0_0))
    (fun j => KV 0 (Fin.castLE (by decide) j)) (fun j => KR (Fin.castLE (by decide) j)) (Q 0)
    (fun j d => by pointwise; exact k0 (Fin.castLE (by decide) j) d) (fun j d => by pointwise; exact h2 (Fin.castLE (by decide) j) d) (fun r d => by pointwise; exact q0 r d)
  rw [out_A_4, lse1_A _ _ _ (fun j => KV 1 (Fin.castLE (by decide) j)) (fun j => KR (Fin.castLE (by decide) j)) (Q 1)
    (fun j d => by pointwise; exact k1 (Fin.castLE (by decide) j) d) (fun j d => by pointwise; exact h2 (Fin.castLE (by decide) j) d) (fun r d => by pointwise; exact q1 r d) _ _ e0]
  fin_cases h <;> rfl

end

/-! ### Blocks of 2304 keys -/

section

variable {F : FTy → Type} [FloatOps F]

theorem out_B_3 (c : Dev nD) (i : grid0.Coords) (arg3 : Memref sig .tc .vmem S256x256 .bf16) (harg3 : arg3.IsWhole) (arg4 : Memref sig .tc .vmem S2304x256 .bf16) (harg4 : arg4.IsWhole) (arg5 : Memref sig .tc .vmem S2304x128 .bf16) (harg5 : arg5.IsWhole) (arg6 : Memref sig .tc .vmem S256x128 .f32) (harg6 : arg6.IsWhole) (arg7 : Memref sig .tc .vmem S1x256x2 .f32) (harg7 : arg7.IsWhole) (hc0 : ¬cond0_0 i) (hc1 : cond0_1 i)
    (x0 : Vec F S256x256 .bf16) (x1 : Vec F S2304x256 .bf16) (x2 : Vec F S2304x128 .bf16) :
    out0_B_3 c i arg3 harg3 arg4 harg4 arg5 harg5 arg6 harg6 arg7 harg7 hc0 hc1 x0 x1 x2
      = k0_pay7 (iota Kind.tc S256x128 32 [1] iota_S256x128_d1_w32)
        (k0_pay25 (View.ld x1 (Rect.unit ![0, 0] ![2304, 128] inb_S2304x256_S2304x128_0_0)) (View.ld x2 (Rect.unit ![0, 0] ![2304, 128] inb_S2304x128_S2304x128_0_0)) (View.ld x0 (Rect.unit ![0, 0] ![256, 128] inb_S256x256_S256x128_0_0)))
        (k0_pay27 (View.ld x1 (Rect.unit ![0, 128] ![2304, 128] inb_S2304x256_S2304x128_0_128)))
        (k0_pay30 (View.ld x1 (Rect.unit ![0, 128] ![2304, 128] inb_S2304x256_S2304x128_0_128)) (View.ld x2 (Rect.unit ![0, 0] ![2304, 128] inb_S2304x128_S2304x128_0_0)) (View.ld x0 (Rect.unit ![0, 128] ![256, 128] inb_S256x256_S256x128_0_128))) := by
  unfold out0_B_3
  rw [View.read_writes_eq_canon _ _ _ (cover0_B_3 c i arg3 harg3 arg4 harg4 arg5 harg5 arg6 harg6 arg7 harg7 hc0 hc1 x0 x1 x2)]
  unfold kernelRun0_B; dsimp only; sl_unfold_words
  simp only [View.readAt_eq_ld, harg3.read_unread, harg4.read_unread, harg5.read_unread]
  rw [View.canon_unit_zero (by decide)]

theorem out_B_4 (c : Dev nD) (i : grid0.Coords) (arg3 : Memref sig .tc .vmem S256x256 .bf16) (harg3 : arg3.IsWhole) (arg4 : Memref sig .tc .vmem S2304x256 .bf16) (harg4 : arg4.IsWhole) (arg5 : Memref sig .tc .vmem S2304x128 .bf16) (harg5 : arg5.IsWhole) (arg6 : Memref sig .tc .vmem S256x128 .f32) (harg6 : arg6.IsWhole) (arg7 : Memref sig .tc .vmem S1x256x2 .f32) (harg7 : arg7.IsWhole) (hc0 : ¬cond0_0 i) (hc1 : cond0_1 i)
    (x0 : Vec F S256x256 .bf16) (x1 : Vec F S2304x256 .bf16) (x2 : Vec F S2304x128 .bf16) :
    out0_B_4 c i arg3 harg3 arg4 harg4 arg5 harg5 arg6 harg6 arg7 harg7 hc0 hc1 x0 x1 x2
      = k0_pay8
        (k0_pay26 (View.ld x1 (Rect.unit ![0, 0] ![2304, 128] inb_S2304x256_S2304x128_0_0)) (View.ld x2 (Rect.unit ![0, 0] ![2304, 128] inb_S2304x128_S2304x128_0_0)) (View.ld x0 (Rect.unit ![0, 0] ![256, 128] inb_S256x256_S256x128_0_0)))
        (k0_pay29 (View.ld x1 (Rect.unit ![0, 128] ![2304, 128] inb_S2304x256_S2304x128_0_128)) (View.ld x2 (Rect.unit ![0, 0] ![2304, 128] inb_S2304x128_S2304x128_0_0)) (View.ld x0 (Rect.unit ![0, 128] ![256, 128] inb_S256x256_S256x128_0_128)))
        (k0_pay30 (View.ld x1 (Rect.unit ![0, 128] ![2304, 128] inb_S2304x256_S2304x128_0_128)) (View.ld x2 (Rect.unit ![0, 0] ![2304, 128] inb_S2304x128_S2304x128_0_0)) (View.ld x0 (Rect.unit ![0, 128] ![256, 128] inb_S256x256_S256x128_0_128))) := by
  unfold out0_B_4
  rw [View.read_writes_eq_canon _ _ _ (cover0_B_4 c i arg3 harg3 arg4 harg4 arg5 harg5 arg6 harg6 arg7 harg7 hc0 hc1 x0 x1 x2)]
  unfold kernelRun0_B; dsimp only; sl_unfold_words
  simp only [View.readAt_eq_ld, harg3.read_unread, harg4.read_unread, harg5.read_unread]
  rw [View.canon_unit_zero (by decide)]

end

section

variable (v7 v12 v32 : Vec Ideal S2304x128 .bf16) (v15 : Vec Ideal S256x128 .bf16) (A B : Fin 2304 → Fin 128 → ℝ) (C : Fin 256 → Fin 128 → ℝ)

/-- The scores of a row. -/
abbrev scB (r : Fin 256) : Fin 2304 → ℝ := fun j => dot (C r) (key (A j) (B j))

theorem s0_B (hA : ∀ j d, v7 (ix2 j d) = (A j d : EReal)) (hB : ∀ j d, v12 (ix2 j d) = (B j d : EReal)) (hC : ∀ r d, v15 (ix2 r d) = (C r d : EReal))
    (r : Fin 256) (j : Fin 2304) : k0_pay21 v7 v12 v15 (ix2 r j) = (scB A B C r j : EReal) := by
  pointwise [k0_pay21, k0_pay20, dot_S256x128_S2304x128_S256x2304_1_1_0_0_n_n]
  simp only [hA, hB, hC, key_coe, dot_coe]

theorem m0_B (hA : ∀ j d, v7 (ix2 j d) = (A j d : EReal)) (hB : ∀ j d, v12 (ix2 j d) = (B j d : EReal)) (hC : ∀ r d, v15 (ix2 r d) = (C r d : EReal))
    (r : Fin 256) : ∃ M : ℝ, k0_pay22 v7 v12 v15 (ix2 r 0) = (M : EReal) := by
  obtain ⟨M, hM⟩ := fold_max_coe (scB A B C r)
  refine ⟨M, ?_⟩
  pointwise [k0_pay22]
  rw [ofBits_neg_inf, ← hM]
  exact congrArg (fun f => Finset.fold max ⊥ f Finset.univ) (funext fun j => s0_B v7 v12 v15 A B C hA hB hC r j)

theorem s1_B (hA : ∀ j d, v7 (ix2 j d) = (A j d : EReal)) (hB : ∀ j d, v12 (ix2 j d) = (B j d : EReal)) (hC : ∀ r d, v15 (ix2 r d) = (C r d : EReal))
    (r : Fin 256) (j : Fin 2304) : k0_pay28 v7 v12 v15 (ix2 r j) = (scB A B C r j : EReal) := by
  pointwise [k0_pay28, k0_pay27, dot_S256x128_S2304x128_S256x2304_1_1_0_0_n_n]
  simp only [hA, hB, hC, key_coe, dot_coe]

theorem m1_B (hA : ∀ j d, v7 (ix2 j d) = (A j d : EReal)) (hB : ∀ j d, v12 (ix2 j d) = (B j d : EReal)) (hC : ∀ r d, v15 (ix2 r d) = (C r d : EReal))
    (r : Fin 256) : ∃ M : ℝ, k0_pay29 v7 v12 v15 (ix2 r 0) = (M : EReal) := by
  obtain ⟨M, hM⟩ := fold_max_coe (scB A B C r)
  refine ⟨M, ?_⟩
  pointwise [k0_pay29]
  rw [ofBits_neg_inf, ← hM]
  exact congrArg (fun f => Finset.fold max ⊥ f Finset.univ) (funext fun j => s1_B v7 v12 v15 A B C hA hB hC r j)

theorem o0_B (hA : ∀ j d, v7 (ix2 j d) = (A j d : EReal)) (hB : ∀ j d, v12 (ix2 j d) = (B j d : EReal)) (hC : ∀ r d, v15 (ix2 r d) = (C r d : EReal))
    (r : Fin 256) (d : Fin 128) : k0_pay25 v7 v12 v15 (ix2 r d) = ((∑ j, sm (scB A B C r) j * A j d : ℝ) : EReal) := by
  obtain ⟨M, hM⟩ := m0_B v7 v12 v15 A B C hA hB hC r
  pointwise [k0_pay25, k0_pay24, k0_pay23, k0_pay20, dot_S256x2304_S2304x128_S256x128_1_0_0_1_n_n, hM, s0_B v7 v12 v15 A B C hA hB hC, hA]
  simp only [exp_sub_coe, ← EReal.coe_mul, ← coe_sum]
  rw [div_coe _ (Z_shift_pos _ M).ne', sum_sm_mul]

theorem lse0_B (hA : ∀ j d, v7 (ix2 j d) = (A j d : EReal)) (hB : ∀ j d, v12 (ix2 j d) = (B j d : EReal)) (hC : ∀ r d, v15 (ix2 r d) = (C r d : EReal))
    (r : Fin 256) : k0_pay26 v7 v12 v15 (ix2 r 0) = (lse (scB A B C r) : EReal) := by
  obtain ⟨M, hM⟩ := m0_B v7 v12 v15 A B C hA hB hC r
  pointwise [k0_pay26, k0_pay24, k0_pay23, hM, s0_B v7 v12 v15 A B C hA hB hC]
  simp only [exp_sub_coe, ← coe_sum]
  rw [log_coe_pos (Z_shift_pos _ M), ← EReal.coe_add, lse_shift]

theorem o1_B (hA : ∀ j d, v7 (ix2 j d) = (A j d : EReal)) (hB : ∀ j d, v12 (ix2 j d) = (B j d : EReal)) (hC : ∀ r d, v15 (ix2 r d) = (C r d : EReal))
    (v28 : FVec Ideal S256x128 .f32) (O : Fin 256 → Fin 128 → ℝ) (hO : ∀ r d, v28 (ix2 r d) = (O r d : EReal)) (r : Fin 256) (d : Fin 128) :
    k0_pay7 (iota Kind.tc S256x128 32 [1] iota_S256x128_d1_w32) v28 (k0_pay27 v7) (k0_pay30 v7 v12 v15) (ix2 r d)
      = ((if d.val < 64 then O r ⟨(d.val + 64) % 128, Nat.mod_lt _ (by decide)⟩ else ∑ j, sm (scB A B C r) j * A j d : ℝ) : EReal) := by
  obtain ⟨M, hM⟩ := m1_B v7 v12 v15 A B C hA hB hC r
  pointwise [k0_pay7, k0_pay5, k0_pay6, k0_pay30, k0_pay27, dot_S256x2304_S2304x128_S256x128_1_0_0_1_n_n, hM, s1_B v7 v12 v15 A B C hA hB hC, hA, hO, select_lt]
  simp only [exp_sub_coe, ← EReal.coe_mul, ← coe_sum]
  rw [div_coe _ (Z_shift_pos _ M).ne', sum_sm_mul]
  split <;> rfl

theorem lse1_B (hA : ∀ j d, v7 (ix2 j d) = (A j d : EReal)) (hB : ∀ j d, v12 (ix2 j d) = (B j d : EReal)) (hC : ∀ r d, v15 (ix2 r d) = (C r d : EReal))
    (v30 : FVec Ideal S256x1 .f32) (L : Fin 256 → ℝ) (hL : ∀ r, v30 (ix2 r 0) = (L r : EReal)) (r : Fin 256) (h : Fin 2) :
    k0_pay8 v30 (k0_pay29 v7 v12 v15) (k0_pay30 v7 v12 v15) (ix3 0 r h)
      = ((if h.val = 0 then L r else lse (scB A B C r) : ℝ) : EReal) := by
  obtain ⟨M, hM⟩ := m1_B v7 v12 v15 A B C hA hB hC r
  pointwise [k0_pay8, k0_pay5, k0_pay6, k0_pay30, hM, s1_B v7 v12 v15 A B C hA hB hC, hL]
  simp only [exp_sub_coe, ← coe_sum]
  rw [log_coe_pos (Z_shift_pos _ M), ← EReal.coe_add, lse_shift]
  fin_cases h <;> rfl

end

section

variable (c : Dev nD) (i : grid0.Coords) (arg3 : Memref sig .tc .vmem S256x256 .bf16) (harg3 : arg3.IsWhole) (arg4 : Memref sig .tc .vmem S2304x256 .bf16) (harg4 : arg4.IsWhole) (arg5 : Memref sig .tc .vmem S2304x128 .bf16) (harg5 : arg5.IsWhole) (arg6 : Memref sig .tc .vmem S256x128 .f32) (harg6 : arg6.IsWhole) (arg7 : Memref sig .tc .vmem S1x256x2 .f32) (harg7 : arg7.IsWhole) (hc0 : ¬cond0_0 i) (hc1 : cond0_1 i)
  (x0 : Vec Ideal S256x256 .bf16) (x1 : Vec Ideal S2304x256 .bf16) (x2 : Vec Ideal S2304x128 .bf16) (Q : Fin 2 → Fin 256 → Fin 128 → ℝ) (KV : Fin 2 → Fin 2304 → Fin 128 → ℝ) (KR : Fin 2304 → Fin 128 → ℝ)

/-- The scores of a row of the block with the block's first 2304 keys. -/
def rowB (h : Fin 2) (r : Fin 256) (j : Fin 2304) : ℝ :=
  dot (Q h r) (key (KV h (Fin.castLE (by decide) j)) (KR (Fin.castLE (by decide) j)))

theorem block_o_B (h0 : ∀ h r d, x0 (ix2 r ⟨128 * h.val + d.val, by omega⟩) = (Q h r d : EReal))
    (h1 : ∀ h j d, x1 (ix2 j ⟨128 * h.val + d.val, by omega⟩) = (KV h j d : EReal)) (h2 : ∀ j d, x2 (ix2 j d) = (KR j d : EReal))
    (r : Fin 256) (h : Fin 2) (d : Fin 64) :
    out0_B_3 c i arg3 harg3 arg4 harg4 arg5 harg5 arg6 harg6 arg7 harg7 hc0 hc1 x0 x1 x2 (ix2 r ⟨64 * h.val + d.val, by omega⟩)
      = ((∑ j : Fin 2304, sm (rowB Q KV KR h r) j * KV h (Fin.castLE (by decide) j) ⟨64 + d.val, by omega⟩ : ℝ) : EReal) := by
  have k0 : ∀ j (d : Fin 128), x1 (ix2 j ⟨d.val, by omega⟩) = (KV 0 j d : EReal) := fun j d => by simpa using h1 0 j d
  have k1 : ∀ j (d : Fin 128), x1 (ix2 j ⟨128 + d.val, by omega⟩) = (KV 1 j d : EReal) := fun j d => by simpa using h1 1 j d
  have q0 : ∀ r (d : Fin 128), x0 (ix2 r ⟨d.val, by omega⟩) = (Q 0 r d : EReal) := fun r d => by simpa using h0 0 r d
  have q1 : ∀ r (d : Fin 128), x0 (ix2 r ⟨128 + d.val, by omega⟩) = (Q 1 r d : EReal) := fun r d => by simpa using h0 1 r d
  have e0 := o0_B (View.ld x1 (Rect.unit ![0, 0] ![2304, 128] inb_S2304x256_S2304x128_0_0)) (View.ld x2 (Rect.unit ![0, 0] ![2304, 128] inb_S2304x128_S2304x128_0_0)) (View.ld x0 (Rect.unit ![0, 0] ![256, 128] inb_S256x256_S256x128_0_0))
    (fun j => KV 0 (Fin.castLE (by decide) j)) (fun j => KR (Fin.castLE (by decide) j)) (Q 0)
    (fun j d => by pointwise; exact k0 (Fin.castLE (by decide) j) d) (fun j d => by pointwise; exact h2 (Fin.castLE (by decide) j) d) (fun r d => by pointwise; exact q0 r d)
  rw [out_B_3, o1_B _ _ _ (fun j => KV 1 (Fin.castLE (by decide) j)) (fun j => KR (Fin.castLE (by decide) j)) (Q 1)
    (fun j d => by pointwise; exact k1 (Fin.castLE (by decide) j) d) (fun j d => by pointwise; exact h2 (Fin.castLE (by decide) j) d) (fun r d => by pointwise; exact q1 r d) _ _ e0]
  rcases (by omega : h.val = 0 ∨ h.val = 1) with hh | hh
  · obtain rfl : h = 0 := Fin.ext hh
    have hi : (⟨(64 * (0 : Fin 2).val + d.val + 64) % 128, Nat.mod_lt _ (by decide)⟩ : Fin 128) = ⟨64 + d.val, by omega⟩ :=
      Fin.ext (by show (64 * 0 + d.val + 64) % 128 = 64 + d.val; omega)
    rw [if_pos (show 64 * (0 : Fin 2).val + d.val < 64 by simp), hi]
    rfl
  · obtain rfl : h = 1 := Fin.ext hh
    rw [if_neg (show ¬64 * (1 : Fin 2).val + d.val < 64 by simp)]
    rfl

theorem block_lse_B (h0 : ∀ h r d, x0 (ix2 r ⟨128 * h.val + d.val, by omega⟩) = (Q h r d : EReal))
    (h1 : ∀ h j d, x1 (ix2 j ⟨128 * h.val + d.val, by omega⟩) = (KV h j d : EReal)) (h2 : ∀ j d, x2 (ix2 j d) = (KR j d : EReal))
    (r : Fin 256) (h : Fin 2) :
    out0_B_4 c i arg3 harg3 arg4 harg4 arg5 harg5 arg6 harg6 arg7 harg7 hc0 hc1 x0 x1 x2 (ix3 0 r h) = (lse (rowB Q KV KR h r) : EReal) := by
  have k0 : ∀ j (d : Fin 128), x1 (ix2 j ⟨d.val, by omega⟩) = (KV 0 j d : EReal) := fun j d => by simpa using h1 0 j d
  have k1 : ∀ j (d : Fin 128), x1 (ix2 j ⟨128 + d.val, by omega⟩) = (KV 1 j d : EReal) := fun j d => by simpa using h1 1 j d
  have q0 : ∀ r (d : Fin 128), x0 (ix2 r ⟨d.val, by omega⟩) = (Q 0 r d : EReal) := fun r d => by simpa using h0 0 r d
  have q1 : ∀ r (d : Fin 128), x0 (ix2 r ⟨128 + d.val, by omega⟩) = (Q 1 r d : EReal) := fun r d => by simpa using h0 1 r d
  have e0 := lse0_B (View.ld x1 (Rect.unit ![0, 0] ![2304, 128] inb_S2304x256_S2304x128_0_0)) (View.ld x2 (Rect.unit ![0, 0] ![2304, 128] inb_S2304x128_S2304x128_0_0)) (View.ld x0 (Rect.unit ![0, 0] ![256, 128] inb_S256x256_S256x128_0_0))
    (fun j => KV 0 (Fin.castLE (by decide) j)) (fun j => KR (Fin.castLE (by decide) j)) (Q 0)
    (fun j d => by pointwise; exact k0 (Fin.castLE (by decide) j) d) (fun j d => by pointwise; exact h2 (Fin.castLE (by decide) j) d) (fun r d => by pointwise; exact q0 r d)
  rw [out_B_4, lse1_B _ _ _ (fun j => KV 1 (Fin.castLE (by decide) j)) (fun j => KR (Fin.castLE (by decide) j)) (Q 1)
    (fun j d => by pointwise; exact k1 (Fin.castLE (by decide) j) d) (fun j d => by pointwise; exact h2 (Fin.castLE (by decide) j) d) (fun r d => by pointwise; exact q1 r d) _ _ e0]
  fin_cases h <;> rfl

end

end Cert.FwdBlock

end
-- ==== Proof.FwdArrays.lean ====
/- What the forward call's two arrays hold after the run, from real arguments. -/
module

public import proofs.«01_k».proof.Proof.FwdHost
public import proofs.«01_k».proof.Proof.FwdBlock

@[expose] public section

set_option maxRecDepth 16384

noncomputable section

namespace Cert.FwdArrays

open Cert.FwdIdeal Cert.FwdIdeal.Gen Idealize.ShloMosaic Idealize.ShloMosaic.TcCoe Idealize.SL.Sem Cert.Reals Cert.Spec Cert.HostArrays Cert.FwdRef Cert.FwdHost
open Idealize.ShloMosaic.Pipeline (Dat)

/-- The grid point of batch entry `b`, head pair `p` and query tile `j`. -/
def pt (b p : Fin 4) (j : Fin 9) : Fin cfg0.N := ⟨36 * b.val + 9 * p.val + j.val, by have h : cfg0.N = 144 := N_0; omega⟩

theorem pt_mod (b p : Fin 4) (j : Fin 9) : (pt b p j).val % 9 = j.val := by
  show (36 * b.val + 9 * p.val + j.val) % 9 = j.val; omega

theorem index0 : ∀ (b p : Fin 4) (j : Fin 9), win0_0.index (pt b p j) (0 : Fin 2) = 9 * b.val + j.val ∧ win0_0.index (pt b p j) (1 : Fin 2) = p.val := by decide +kernel
theorem index1 : ∀ (b p : Fin 4) (j : Fin 9), win0_1.index (pt b p j) (0 : Fin 2) = b.val ∧ win0_1.index (pt b p j) (1 : Fin 2) = p.val := by decide +kernel
theorem index2 : ∀ (b p : Fin 4) (j : Fin 9), win0_2.index (pt b p j) (0 : Fin 2) = b.val ∧ win0_2.index (pt b p j) (1 : Fin 2) = 0 := by decide +kernel
theorem index3 : ∀ (b p : Fin 4) (j : Fin 9), win0_3.index (pt b p j) (0 : Fin 2) = 9 * b.val + j.val ∧ win0_3.index (pt b p j) (1 : Fin 2) = p.val := by decide +kernel
theorem index4 : ∀ (b p : Fin 4) (j : Fin 9), win0_4.index (pt b p j) (0 : Fin 3) = p.val ∧ win0_4.index (pt b p j) (1 : Fin 3) = 9 * b.val + j.val ∧ win0_4.index (pt b p j) (2 : Fin 3) = 0 := by decide +kernel

/-- The time of row `r` of query tile `j`. -/
abbrev timeOf (j : Fin 9) (r : Fin 256) : Fin 2304 := ⟨256 * j.val + r.val, by omega⟩

/-- Head `e` of head pair `p`. -/
abbrev headOf (p : Fin 4) (e : Fin 2) : Fin 8 := ⟨2 * p.val + e.val, by omega⟩

theorem emb0 (b p : Fin 4) (j : Fin 9) (r : Fin 256) (e : Fin 2) (d : Fin 128) :
    ((cfg0.win 0).blk (pt b p j)).view.emb (ix2 r (⟨128 * e.val + d.val, by omega⟩ : Fin 256)) = ix2 (rowOf b (timeOf j r)) (laneOf (headOf p e) d) := by
  obtain ⟨h0, h1⟩ := index0 b p j
  funext a
  apply Fin.ext
  match a with
  | ⟨0, _⟩ => show win0_0.index (pt b p j) (0 : Fin 2) * 256 + 1 * r.val = 2304 * b.val + (256 * j.val + r.val); omega
  | ⟨1, _⟩ => show win0_0.index (pt b p j) (1 : Fin 2) * 256 + 1 * (128 * e.val + d.val) = 128 * (2 * p.val + e.val) + d.val; omega

theorem emb1 (b p : Fin 4) (j : Fin 9) (k : Fin 2304) (e : Fin 2) (d : Fin 128) :
    ((cfg0.win 1).blk (pt b p j)).view.emb (ix2 k (⟨128 * e.val + d.val, by omega⟩ : Fin 256)) = ix2 (rowOf b k) (laneOf (headOf p e) d) := by
  obtain ⟨h0, h1⟩ := index1 b p j
  funext a
  apply Fin.ext
  match a with
  | ⟨0, _⟩ => show win0_1.index (pt b p j) (0 : Fin 2) * 2304 + 1 * k.val = 2304 * b.val + k.val; omega
  | ⟨1, _⟩ => show win0_1.index (pt b p j) (1 : Fin 2) * 256 + 1 * (128 * e.val + d.val) = 128 * (2 * p.val + e.val) + d.val; omega

theorem emb2 (b p : Fin 4) (j : Fin 9) (k : Fin 2304) (d : Fin 128) :
    ((cfg0.win 2).blk (pt b p j)).view.emb (ix2 k d) = ix2 (rowOf b k) d := by
  obtain ⟨h0, h1⟩ := index2 b p j
  funext a
  apply Fin.ext
  match a with
  | ⟨0, _⟩ => show win0_2.index (pt b p j) (0 : Fin 2) * 2304 + 1 * k.val = 2304 * b.val + k.val; omega
  | ⟨1, _⟩ => show win0_2.index (pt b p j) (1 : Fin 2) * 128 + 1 * d.val = d.val; omega

theorem emb3 (b p : Fin 4) (j : Fin 9) (r : Fin 256) (e : Fin 2) (d : Fin 64) :
    ((cfg0.win 3).blk (pt b p j)).view.emb (ix2 r (⟨64 * e.val + d.val, by omega⟩ : Fin 128))
      = ix2 (rowOf b (timeOf j r)) (⟨64 * (headOf p e).val + d.val, by omega⟩ : Fin 512) := by
  obtain ⟨h0, h1⟩ := index3 b p j
  funext a
  apply Fin.ext
  match a with
  | ⟨0, _⟩ => show win0_3.index (pt b p j) (0 : Fin 2) * 256 + 1 * r.val = 2304 * b.val + (256 * j.val + r.val); omega
  | ⟨1, _⟩ => show win0_3.index (pt b p j) (1 : Fin 2) * 128 + 1 * (64 * e.val + d.val) = 64 * (2 * p.val + e.val) + d.val; omega

theorem emb4 (b p : Fin 4) (j : Fin 9) (r : Fin 256) (e : Fin 2) :
    ((cfg0.win 4).blk (pt b p j)).view.emb (ix3 0 r e) = ix3 p (rowOf b (timeOf j r)) e := by
  obtain ⟨h0, h1, h2⟩ := index4 b p j
  funext a
  apply Fin.ext
  match a with
  | ⟨0, _⟩ => show win0_4.index (pt b p j) (0 : Fin 3) * 1 + 1 * 0 = p.val; omega
  | ⟨1, _⟩ => show win0_4.index (pt b p j) (1 : Fin 3) * 256 + 1 * r.val = 2304 * b.val + (256 * j.val + r.val); omega
  | ⟨2, _⟩ => show win0_4.index (pt b p j) (2 : Fin 3) * 2 + 1 * e.val = e.val; omega

section

variable (m : (ℓ : Loc nD τ sig) → Buf (Elt Ideal) ℓ) (c : Dev nD)
  (q : Fin 4 → Fin 2304 → Fin 8 → Fin 96 → ℝ) (kv : Fin 4 → Fin 2304 → Fin 8 → Fin 128 → ℝ) (kr : Fin 4 → Fin 2304 → Fin 32 → ℝ)
  (hq : ∀ b t h d, FwdReferenceIdeal.Read.val_main_v1 (F := Ideal) (m ((c : Thread nD τ).loc main_arg0)) (ix4 b t h d) = (q b t h d : EReal))
  (hkv : ∀ b t h d, m ((c : Thread nD τ).loc main_arg1) (ix4 b t h d) = (kv b t h d : EReal))
  (hkr : ∀ b t d, m ((c : Thread nD τ).loc main_arg2) (ix3 b t d) = (kr b t d : EReal))

include hq in
theorem block_q (b p : Fin 4) (j : Fin 9) (e : Fin 2) (r : Fin 256) (d : Fin 128) :
    iblk m c 0 (pt b p j) (ix2 r (⟨128 * e.val + d.val, by omega⟩ : Fin 256)) = (qp q b (timeOf j r) (headOf p e) d : EReal) := by
  show V m c main_v6 (((cfg0.win 0).blk (pt b p j)).view.emb (ix2 r (⟨128 * e.val + d.val, by omega⟩ : Fin 256))) = _
  rw [emb0, V_q]
  exact hostQ_apply _ q hq _ _ _ _

include hkv in
theorem block_kv (b p : Fin 4) (j : Fin 9) (e : Fin 2) (k : Fin 2304) (d : Fin 128) :
    iblk m c 1 (pt b p j) (ix2 k (⟨128 * e.val + d.val, by omega⟩ : Fin 256)) = (kv b k (headOf p e) d : EReal) := by
  show V m c main_v8 (((cfg0.win 1).blk (pt b p j)).view.emb (ix2 k (⟨128 * e.val + d.val, by omega⟩ : Fin 256))) = _
  rw [emb1, V_kv]
  exact hostKV_apply _ kv hkv _ _ _ _

include hkr in
theorem block_kr (b p : Fin 4) (j : Fin 9) (k : Fin 2304) (d : Fin 128) :
    iblk m c 2 (pt b p j) (ix2 k d) = (krp kr b k d : EReal) := by
  show V m c main_v11 (((cfg0.win 2).blk (pt b p j)).view.emb (ix2 k d)) = _
  rw [emb2, V_kr]
  exact hostKR_apply _ kr hkr _ _ _

/-- The block's scores are the scores of its rows. -/
theorem rowA_eq (b p : Fin 4) (j : Fin 9) (e : Fin 2) (r : Fin 256) :
    FwdBlock.rowA (fun e r d => qp q b (timeOf j r) (headOf p e) d) (fun e k d => kv b k (headOf p e) d) (fun k d => krp kr b k d) e r
      = score q kv kr n256 b (headOf p e) (timeOf j r) :=
  funext fun k => dot_kk q kv kr b (timeOf j r) _ (headOf p e)

theorem rowB_eq (b p : Fin 4) (j : Fin 9) (e : Fin 2) (r : Fin 256) :
    FwdBlock.rowB (fun e r d => qp q b (timeOf j r) (headOf p e) d) (fun e k d => kv b k (headOf p e) d) (fun k d => krp kr b k d) e r
      = score q kv kr n2304 b (headOf p e) (timeOf j r) :=
  funext fun k => dot_kk q kv kr b (timeOf j r) _ (headOf p e)

include hq hkv hkr in
/-- The attention array, at every row and lane. -/
theorem array_o (b p : Fin 4) (j : Fin 9) (r : Fin 256) (e : Fin 2) (d : Fin 64) :
    (dats m 0 c).arrAt 3 cfg0.N (ix2 (rowOf b (timeOf j r)) (⟨64 * (headOf p e).val + d.val, by omega⟩ : Fin 512))
      = (outRow q kv kr b (headOf p e) (timeOf j r) d : EReal) := by
  rw [← emb3]
  refine (congrFun (Value.blocks3 m c (pt b p j) (flush0_3 _)) _).trans ?_
  unfold outRow
  by_cases hj : j.val = 0
  · rw [Value.flushed3_A m c (pt b p j) (by rw [pt_mod, hj]) (by rw [pt_mod, hj]; decide), if_pos (by show 256 * j.val + r.val < 256; omega)]
    refine (FwdBlock.block_o_A _ _ _ _ _ _ _ _ _ _ _ _ _ _ _ _ _ (fun e r d => qp q b (timeOf j r) (headOf p e) d) (fun e k d => kv b k (headOf p e) d) (fun k d => krp kr b k d)
      (fun e r d => block_q m c q hq b p j e r d) (fun e k d => block_kv m c kv hkv b p j e k d) (fun k d => block_kr m c kr hkr b p j k d) r e d).trans ?_
    rw [rowA_eq]
    rfl
  · rw [Value.flushed3_B m c (pt b p j) (by rw [pt_mod]; exact hj) (by rw [pt_mod]; omega), if_neg (by show ¬ 256 * j.val + r.val < 256; omega)]
    refine (FwdBlock.block_o_B _ _ _ _ _ _ _ _ _ _ _ _ _ _ _ _ _ (fun e r d => qp q b (timeOf j r) (headOf p e) d) (fun e k d => kv b k (headOf p e) d) (fun k d => krp kr b k d)
      (fun e r d => block_q m c q hq b p j e r d) (fun e k d => block_kv m c kv hkv b p j e k d) (fun k d => block_kr m c kr hkr b p j k d) r e d).trans ?_
    rw [rowB_eq]
    rfl

include hq hkv hkr in
/-- The array of the rows' logarithms. -/
theorem array_lse (b p : Fin 4) (j : Fin 9) (r : Fin 256) (e : Fin 2) :
    (dats m 0 c).arrAt 4 cfg0.N (ix3 p (rowOf b (timeOf j r)) e) = (lseRow q kv kr b (headOf p e) (timeOf j r) : EReal) := by
  rw [← emb4]
  refine (congrFun (Value.blocks4 m c (pt b p j) (flush0_4 _)) _).trans ?_
  unfold lseRow
  by_cases hj : j.val = 0
  · rw [Value.flushed4_A m c (pt b p j) (by rw [pt_mod, hj]) (by rw [pt_mod, hj]; decide), if_pos (by show 256 * j.val + r.val < 256; omega)]
    refine (FwdBlock.block_lse_A _ _ _ _ _ _ _ _ _ _ _ _ _ _ _ _ _ (fun e r d => qp q b (timeOf j r) (headOf p e) d) (fun e k d => kv b k (headOf p e) d) (fun k d => krp kr b k d)
      (fun e r d => block_q m c q hq b p j e r d) (fun e k d => block_kv m c kv hkv b p j e k d) (fun k d => block_kr m c kr hkr b p j k d) r e).trans ?_
    rw [rowA_eq]
  · rw [Value.flushed4_B m c (pt b p j) (by rw [pt_mod]; exact hj) (by rw [pt_mod]; omega), if_neg (by show ¬ 256 * j.val + r.val < 256; omega)]
    refine (FwdBlock.block_lse_B _ _ _ _ _ _ _ _ _ _ _ _ _ _ _ _ _ (fun e r d => qp q b (timeOf j r) (headOf p e) d) (fun e k d => kv b k (headOf p e) d) (fun k d => krp kr b k d)
      (fun e r d => block_q m c q hq b p j e r d) (fun e k d => block_kv m c kv hkv b p j e k d) (fun k d => block_kr m c kr hkr b p j k d) r e).trans ?_
    rw [rowB_eq]

include hq hkv hkr in
/-- The attention array is the reference's. -/
theorem equal_o : (dats m 0 c).arrAt 3 cfg0.N = FwdReferenceIdeal.Read.val_main_v40 (F := Ideal) (m ((c : Thread nD τ).loc main_arg0))
    (m ((c : Thread nD τ).loc main_arg1)) (m ((c : Thread nD τ).loc main_arg2)) := by
  funext i
  have h0 : (i 0).val < 9216 := (i 0).isLt
  have h1 : (i 1).val < 512 := (i 1).isLt
  have e := array_o m c q kv kr hq hkv hkr ⟨(i 0).val / 2304, by omega⟩ ⟨(i 1).val / 128, by omega⟩ ⟨(i 0).val % 2304 / 256, by omega⟩ ⟨(i 0).val % 256, by omega⟩
    ⟨(i 1).val / 64 % 2, by omega⟩ ⟨(i 1).val % 64, by omega⟩
  have e' := result_o _ _ _ q kv kr hq hkv hkr ⟨(i 0).val / 2304, by omega⟩ (timeOf ⟨(i 0).val % 2304 / 256, by omega⟩ ⟨(i 0).val % 256, by omega⟩)
    (headOf ⟨(i 1).val / 128, by omega⟩ ⟨(i 1).val / 64 % 2, by omega⟩) ⟨(i 1).val % 64, by omega⟩
  have ei : i = ix2 (rowOf ⟨(i 0).val / 2304, by omega⟩ (timeOf ⟨(i 0).val % 2304 / 256, by omega⟩ ⟨(i 0).val % 256, by omega⟩))
      (⟨64 * (headOf ⟨(i 1).val / 128, by omega⟩ ⟨(i 1).val / 64 % 2, by omega⟩).val + (i 1).val % 64, by show 64 * (2 * ((i 1).val / 128) + (i 1).val / 64 % 2) + (i 1).val % 64 < 512; omega⟩ : Fin 512) := by
    funext a
    apply Fin.ext
    match a with
    | ⟨0, _⟩ => show (i 0).val = 2304 * ((i 0).val / 2304) + (256 * ((i 0).val % 2304 / 256) + (i 0).val % 256); omega
    | ⟨1, _⟩ => show (i 1).val = 64 * (2 * ((i 1).val / 128) + (i 1).val / 64 % 2) + (i 1).val % 64; omega
  rw [ei]
  exact e.trans e'.symm

include hq hkv hkr in
/-- The array of the rows' logarithms is the reference's. -/
theorem equal_lse : (dats m 0 c).arrAt 4 cfg0.N = FwdReferenceIdeal.Read.val_main_v75 (F := Ideal) (m ((c : Thread nD τ).loc main_arg0))
    (m ((c : Thread nD τ).loc main_arg1)) (m ((c : Thread nD τ).loc main_arg2)) := by
  funext i
  have h1 : (i 1).val < 9216 := (i 1).isLt
  have e := array_lse m c q kv kr hq hkv hkr ⟨(i 1).val / 2304, by omega⟩ (i 0) ⟨(i 1).val % 2304 / 256, by omega⟩ ⟨(i 1).val % 256, by omega⟩ (i 2)
  have e' := result_lse _ _ _ q kv kr hq hkv hkr ⟨(i 1).val / 2304, by omega⟩ (timeOf ⟨(i 1).val % 2304 / 256, by omega⟩ ⟨(i 1).val % 256, by omega⟩) (i 0) (i 2)
  have ei : i = ix3 (i 0) (rowOf ⟨(i 1).val / 2304, by omega⟩ (timeOf ⟨(i 1).val % 2304 / 256, by omega⟩ ⟨(i 1).val % 256, by omega⟩)) (i 2) := by
    funext a
    apply Fin.ext
    match a with
    | ⟨0, _⟩ => rfl
    | ⟨1, _⟩ => show (i 1).val = 2304 * ((i 1).val / 2304) + (256 * ((i 1).val % 2304 / 256) + (i 1).val % 256); omega
    | ⟨2, _⟩ => rfl
  rw [ei]
  exact e.trans e'.symm

end

end Cert.FwdArrays

end
-- ==== Proof.Finite.lean ====
/- A float array whose absolute values lie below infinity holds real numbers. -/
module

public import proofs.«01_k».proof.Defs
public import proofs.«01_k».proof.Proof.Reals
public import proofs.«01_k».proof.Proof.Gen.Pre_finite_fwd

@[expose] public section

noncomputable section

namespace Cert.Finite

open Idealize.ShloMosaic Cert.Reals

theorem real_of_abs_lt {x : EReal} (h : max x (-x) < ⊤) : x = (x.toReal : EReal) := by
  refine (EReal.coe_toReal ?_ ?_).symm
  · rintro rfl
    exact absurd (lt_of_le_of_lt (le_max_left _ _) h) (lt_irrefl _)
  · rintro rfl
    exact absurd (lt_of_le_of_lt (le_max_right _ _) h) (by simp)

theorem ofBits_inf : Ideal.ofBits .f32 0x7F800000#32 = ⊤ := by simp [Ideal.ofBits, Ideal.ieee]

/-- One comparison of the precondition, read at an index. -/
theorem real_of_finite {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) (i : s.Idx) :
    x i = ((x i : EReal).toReal : EReal) := by
  have e : Ideal.cmp .olt (max (x i : EReal) (-(x i : EReal))) (Ideal.ofBits .f32 0x7F800000#32) = 1#1 := congrFun h i
  rw [ofBits_inf] at e
  refine real_of_abs_lt ?_
  by_contra hn
  simp [Ideal.cmp, hn] at e

end Cert.Finite

end
-- ==== Proof.FwdClaim.lean ====
/- The forward call and the forward reference end with the same arrays, from finite arguments. -/
module

public import proofs.«01_k».proof.Proof.FwdArrays
public import proofs.«01_k».proof.Proof.Finite
public import proofs.«01_k».proof.Proof.Gen.FwdReferenceIdeal.Run

@[expose] public section

set_option maxRecDepth 16384

noncomputable section

namespace Cert.FwdClaim

open Idealize.ShloMosaic Idealize.SL.Sem Cert.Reals Cert.Finite

/-- The constant the queries are scaled by is a real number. -/
theorem scale_coe : ∃ s : ℝ, Ideal.ofBits .f32 0x3DD105EC#32 = (s : EReal) := by
  refine ⟨13698540 * ((2 : ℝ) ^ 27)⁻¹, ?_⟩
  simp [Ideal.ofBits, Ideal.ieee, EReal.coe_mul]

/-- A real query times the scale is real. -/
theorem scaled_coe (x0 : FVec Ideal FwdReferenceIdeal.S4x2304x8x96 .f32) (h : ∀ i, x0 i = ((x0 i : EReal).toReal : EReal)) :
    ∃ q : Fin 4 → Fin 2304 → Fin 8 → Fin 96 → ℝ, ∀ b t h d, FwdReferenceIdeal.Read.val_main_v1 (F := Ideal) x0 (ix4 b t h d) = (q b t h d : EReal) := by
  obtain ⟨s, hs⟩ := scale_coe
  refine ⟨fun b t h d => (x0 (ix4 b t h d) : EReal).toReal * s, fun b t e d => ?_⟩
  show (x0 (ix4 b t e d) : EReal) * Ideal.ofBits .f32 0x3DD105EC#32 = _
  rw [hs, h, EReal.coe_mul]

theorem algebraic : Cert.algebraic_FwdIdeal_FwdReferenceIdeal_pre_finite_fwd
    (hFwdIdeal := Cert.FwdIdeal.Gen.facts) (hFwdReferenceIdeal := Cert.FwdReferenceIdeal.Gen.facts) (hPre_finite_fwd := Cert.Pre_finite_fwd.Gen.facts) := by
  intro m g m' g' hpre hag
  refine ⟨fun c => (FwdIdeal.Gen.dats m 0 c).arrAt 3 FwdIdeal.cfg0.N, fun c => (FwdIdeal.Gen.dats m 0 c).arrAt 4 FwdIdeal.cfg0.N, FwdIdeal.Value.run_blocks m g, ?_⟩
  refine (θ_run FwdReferenceIdeal.defs _ _).mono (fun r h c => ?_) (FwdReferenceIdeal.Value.run m' g')
  obtain ⟨h0, h1, k0, k1, k2⟩ := h c
  obtain ⟨a0, a1, a2⟩ := hag c
  obtain ⟨f0, f1, f2⟩ := hpre c
  obtain ⟨q, hq⟩ := scaled_coe _ (real_of_finite _ _ f0)
  have e0 := FwdArrays.equal_o m c q (fun b t h d => _) (fun b t d => _) hq (fun b t h d => real_of_finite _ _ f1 (ix4 b t h d)) (fun b t d => real_of_finite _ _ f2 (ix3 b t d))
  have e1 := FwdArrays.equal_lse m c q (fun b t h d => _) (fun b t d => _) hq (fun b t h d => real_of_finite _ _ f1 (ix4 b t h d)) (fun b t d => real_of_finite _ _ f2 (ix3 b t d))
  rw [FwdReferenceIdeal.Read.val_main_v40_eq, a0, a1, a2] at h0
  rw [FwdReferenceIdeal.Read.val_main_v75_eq, a0, a1, a2] at h1
  exact ⟨h0.trans e0.symm, h1.trans e1.symm, k0, k1, k2⟩

end Cert.FwdClaim

end
-- ==== Proof.KernelHost.lean ====
/- The arrays the host hands to the gradient's call, read at an index. -/
module

public import proofs.«01_k».proof.Proof.Gen.KernelIdeal.Value
public import proofs.«01_k».proof.Proof.FwdHost

@[expose] public section

set_option maxRecDepth 16384

noncomputable section

namespace Cert.KernelHost

open Cert.KernelIdeal Cert.KernelIdeal.Gen Idealize.ShloMosaic Idealize.ShloMosaic.TcCoe Idealize.SL.Sem Cert.HostArrays

section

variable {F : FTy → Type} [FloatOps F]
/-- The operation that writes `main_v17`, its function named. -/
def join_v17 : (⟨S4x2304x8x64, .f32⟩ : BufTy).Contents (Elt F) → (⟨S4x2304x8x32, .f32⟩ : BufTy).Contents (Elt F) → (⟨S4x2304x8x96, .f32⟩ : BufTy).Contents (Elt F) :=
  fun a b => concatenate S4x2304x8x96 3 [⟨S4x2304x8x64, a⟩, ⟨S4x2304x8x32, b⟩] concatenates_S4x2304x8x64_S4x2304x8x32_S4x2304x8x96_d3

theorem fold_v17 : StableHlo.binary (τ := τ) main_v14 main_v16 main_v17 ((fun a b => concatenate S4x2304x8x96 3 [⟨S4x2304x8x64, a⟩, ⟨S4x2304x8x32, b⟩] concatenates_S4x2304x8x64_S4x2304x8x32_S4x2304x8x96_d3) : (⟨S4x2304x8x64, .f32⟩ : BufTy).Contents (Elt F) → (⟨S4x2304x8x32, .f32⟩ : BufTy).Contents (Elt F) → (⟨S4x2304x8x96, .f32⟩ : BufTy).Contents (Elt F))
    = StableHlo.binary main_v14 main_v16 main_v17 (join_v17 (F := F)) := rfl

/-- The operation that writes `main_v51`, its function named. -/
def join_v51 : (⟨S4x256x8x64, .f32⟩ : BufTy).Contents (Elt F) → (⟨S4x2048x8x64, .f32⟩ : BufTy).Contents (Elt F) → (⟨S4x2304x8x64, .f32⟩ : BufTy).Contents (Elt F) :=
  fun a b => concatenate S4x2304x8x64 1 [⟨S4x256x8x64, a⟩, ⟨S4x2048x8x64, b⟩] concatenates_S4x256x8x64_S4x2048x8x64_S4x2304x8x64_d1

theorem fold_v51 : StableHlo.binary (τ := τ) main_v35 main_v50 main_v51 ((fun a b => concatenate S4x2304x8x64 1 [⟨S4x256x8x64, a⟩, ⟨S4x2048x8x64, b⟩] concatenates_S4x256x8x64_S4x2048x8x64_S4x2304x8x64_d1) : (⟨S4x256x8x64, .f32⟩ : BufTy).Contents (Elt F) → (⟨S4x2048x8x64, .f32⟩ : BufTy).Contents (Elt F) → (⟨S4x2304x8x64, .f32⟩ : BufTy).Contents (Elt F))
    = StableHlo.binary main_v35 main_v50 main_v51 (join_v51 (F := F)) := rfl

/-- The operation that writes `main_v56`, its function named. -/
def join_v56 : (⟨S4x2304x8x64, .f32⟩ : BufTy).Contents (Elt F) → (⟨S4x2304x8x32, .f32⟩ : BufTy).Contents (Elt F) → (⟨S4x2304x8x96, .f32⟩ : BufTy).Contents (Elt F) :=
  fun a b => concatenate S4x2304x8x96 3 [⟨S4x2304x8x64, a⟩, ⟨S4x2304x8x32, b⟩] concatenates_S4x2304x8x64_S4x2304x8x32_S4x2304x8x96_d3

theorem fold_v56 : StableHlo.binary (τ := τ) main_v53 main_v55 main_v56 ((fun a b => concatenate S4x2304x8x96 3 [⟨S4x2304x8x64, a⟩, ⟨S4x2304x8x32, b⟩] concatenates_S4x2304x8x64_S4x2304x8x32_S4x2304x8x96_d3) : (⟨S4x2304x8x64, .f32⟩ : BufTy).Contents (Elt F) → (⟨S4x2304x8x32, .f32⟩ : BufTy).Contents (Elt F) → (⟨S4x2304x8x96, .f32⟩ : BufTy).Contents (Elt F))
    = StableHlo.binary main_v53 main_v55 main_v56 (join_v56 (F := F)) := rfl

/-- The operation that writes `main_v82`, its function named. -/
def join_v82 : (⟨S4x8x256, .f32⟩ : BufTy).Contents (Elt F) → (⟨S4x8x2048, .f32⟩ : BufTy).Contents (Elt F) → (⟨S4x8x2304, .f32⟩ : BufTy).Contents (Elt F) :=
  fun a b => concatenate S4x8x2304 2 [⟨S4x8x256, a⟩, ⟨S4x8x2048, b⟩] concatenates_S4x8x256_S4x8x2048_S4x8x2304_d2

theorem fold_v82 : StableHlo.binary (τ := τ) main_v69 main_v81 main_v82 ((fun a b => concatenate S4x8x2304 2 [⟨S4x8x256, a⟩, ⟨S4x8x2048, b⟩] concatenates_S4x8x256_S4x8x2048_S4x8x2304_d2) : (⟨S4x8x256, .f32⟩ : BufTy).Contents (Elt F) → (⟨S4x8x2048, .f32⟩ : BufTy).Contents (Elt F) → (⟨S4x8x2304, .f32⟩ : BufTy).Contents (Elt F))
    = StableHlo.binary main_v69 main_v81 main_v82 (join_v82 (F := F)) := rfl

variable (m : (ℓ : Loc nD τ sig) → Buf (Elt F) ℓ) (c : Dev nD)

theorem V_q : V m c main_v8 = FwdHost.hostQ (m ((c : Thread nD τ).loc main_arg0)) := by
  show StableHlo.after (List.flatten [hostOps0, hostOps0_1, hostOps0_2, hostOps0_3, hostOps0_4]) (fun b => m (c, b)) (Proc.devRef .tc main_v8) = _
  simp only [hostOps0, hostOps0_1, hostOps0_2, hostOps0_3, hostOps0_4, List.flatten_cons, List.flatten_nil, List.append_nil, List.cons_append, List.nil_append]
  after_results_simp
  rfl

theorem V_kv : V m c main_v10 = FwdHost.hostKV (m ((c : Thread nD τ).loc main_arg1)) := by
  show StableHlo.after (List.flatten [hostOps0, hostOps0_1, hostOps0_2, hostOps0_3, hostOps0_4]) (fun b => m (c, b)) (Proc.devRef .tc main_v10) = _
  simp only [hostOps0, hostOps0_1, hostOps0_2, hostOps0_3, hostOps0_4, List.flatten_cons, List.flatten_nil, List.append_nil, List.cons_append, List.nil_append]
  after_results_simp
  rfl

theorem V_kr : V m c main_v13 = FwdHost.hostKR (m ((c : Thread nD τ).loc main_arg2)) := by
  show StableHlo.after (List.flatten [hostOps0, hostOps0_1, hostOps0_2, hostOps0_3, hostOps0_4]) (fun b => m (c, b)) (Proc.devRef .tc main_v13) = _
  simp only [hostOps0, hostOps0_1, hostOps0_2, hostOps0_3, hostOps0_4, List.flatten_cons, List.flatten_nil, List.append_nil, List.cons_append, List.nil_append]
  after_results_simp
  rfl

theorem V_o : V m c main_v52 = FwdReferenceIdeal.Read.val_main_v40 (F := F) (m ((c : Thread nD τ).loc main_arg0)) (m ((c : Thread nD τ).loc main_arg1))
    (m ((c : Thread nD τ).loc main_arg2)) := by
  show StableHlo.after (List.flatten [hostOps0, hostOps0_1, hostOps0_2, hostOps0_3, hostOps0_4]) (fun b => m (c, b)) (Proc.devRef .tc main_v52) = _
  simp only [hostOps0, hostOps0_1, hostOps0_2, hostOps0_3, hostOps0_4, List.flatten_cons, List.flatten_nil, List.append_nil, List.cons_append, List.nil_append, fold_v17, fold_v51, fold_v56, fold_v82]
  after_results_simp
  rfl

theorem V_lse : V m c main_v85 = FwdReferenceIdeal.Read.val_main_v75 (F := F) (m ((c : Thread nD τ).loc main_arg0)) (m ((c : Thread nD τ).loc main_arg1))
    (m ((c : Thread nD τ).loc main_arg2)) := by
  show StableHlo.after (List.flatten [hostOps0, hostOps0_1, hostOps0_2, hostOps0_3, hostOps0_4]) (fun b => m (c, b)) (Proc.devRef .tc main_v85) = _
  simp only [hostOps0, hostOps0_1, hostOps0_2, hostOps0_3, hostOps0_4, List.flatten_cons, List.flatten_nil, List.append_nil, List.cons_append, List.nil_append, fold_v17, fold_v51, fold_v56, fold_v82]
  after_results_simp
  rfl

theorem V_do : V m c main_v86 = shapeCast A9216x512 (m ((c : Thread nD τ).loc main_arg3)) shapeCasts_S4x2304x8x64_S9216x512 := by
  show StableHlo.after (List.flatten [hostOps0, hostOps0_1, hostOps0_2, hostOps0_3, hostOps0_4]) (fun b => m (c, b)) (Proc.devRef .tc main_v86) = _
  simp only [hostOps0, hostOps0_1, hostOps0_2, hostOps0_3, hostOps0_4, List.flatten_cons, List.flatten_nil, List.append_nil, List.cons_append, List.nil_append]
  after_results_simp
  rfl

end

end Cert.KernelHost

end
-- ==== Proof.Grad.lean ====
/- The attention's gradients over real numbers: what each query of the sequence contributes to them. -/
module

public import proofs.«01_k».proof.Proof.FwdRef

@[expose] public section

noncomputable section

namespace Cert.Grad

open Idealize.ShloMosaic Cert.Reals Cert.Spec Cert.FwdRef

/-- The time of row `r` of query tile `j`. -/
abbrev tileRow (j : Fin 9) (r : Fin 256) : Fin 2304 := ⟨256 * j.val + r.val, by omega⟩

/-- The context's rows, then the latent ones. -/
theorem sum_rows (f : Fin 2304 → ℝ) : ∑ t, f t = ∑ t : Fin 256, f (ctx t) + ∑ t : Fin 2048, f (lat t) := by
  rw [show (∑ t, f t) = ∑ t : Fin (256 + 2048), f t from rfl, Fin.sum_univ_add]
  rfl

/-- The rows of the nine tiles. -/
theorem sum_tiles (f : Fin 2304 → ℝ) : ∑ t, f t = ∑ j : Fin 9, ∑ r : Fin 256, f (tileRow j r) := by
  rw [Fin.sum_univ_tiles 9 256 (by decide) f]
  refine Finset.sum_congr rfl fun j _ => Finset.sum_congr rfl fun r _ => congrArg f (Fin.ext ?_)
  show j.val * 256 + r.val = 256 * j.val + r.val
  omega

variable (q : Fin 4 → Fin 2304 → Fin 8 → Fin 96 → ℝ) (kv : Fin 4 → Fin 2304 → Fin 8 → Fin 128 → ℝ)
  (kr : Fin 4 → Fin 2304 → Fin 32 → ℝ) (g : Fin 4 → Fin 2304 → Fin 8 → Fin 64 → ℝ)

/-- The weight a row gives a key: none, in the context, to a key after it. -/
def weight (b : Fin 4) (h : Fin 8) (t k : Fin 2304) : ℝ :=
  if t.val < 256 then (if hk : k.val < 256 then sm (score q kv kr n256 b h t) ⟨k.val, hk⟩ else 0) else sm (score q kv kr n2304 b h t) k

/-- The derivative by the score of a row with a key. -/
def scoreSlope (b : Fin 4) (h : Fin 8) (t k : Fin 2304) : ℝ :=
  if t.val < 256 then (if hk : k.val < 256 then dS q kv kr g n256 b h t ⟨k.val, hk⟩ else 0) else dS q kv kr g n2304 b h t k

/-- The derivative by a query. -/
def gq (b : Fin 4) (h : Fin 8) (t : Fin 2304) (d : Fin 96) : ℝ :=
  if t.val < 256 then ∑ j : Fin 256, dS q kv kr g n256 b h t j * kk kv kr b (Fin.castLE n256 j) h d
  else ∑ j : Fin 2304, dS q kv kr g n2304 b h t j * kk kv kr b (Fin.castLE n2304 j) h d

/-- The derivative by a key. -/
def gk (b : Fin 4) (h : Fin 8) (k : Fin 2304) (d : Fin 96) : ℝ := ∑ t, scoreSlope q kv kr g b h t k * q b t h d

/-- The derivative by a value. -/
def gv (b : Fin 4) (h : Fin 8) (k : Fin 2304) (d : Fin 64) : ℝ := ∑ t, weight q kv kr b h t k * g b t h d

/-- The queries' derivatives in 128 lanes. -/
def gqLane (b : Fin 4) (h : Fin 8) (t : Fin 2304) (d : Fin 128) : ℝ := if hd : d.val < 96 then gq q kv kr g b h t ⟨d.val, hd⟩ else 0

/-- The derivatives by a head's own key lanes, then by its values. -/
def gkvLane (b : Fin 4) (h : Fin 8) (k : Fin 2304) (d : Fin 128) : ℝ :=
  if hd : d.val < 64 then gk q kv kr g b h k ⟨d.val, by omega⟩ else gv q kv kr g b h k ⟨d.val - 64, by omega⟩

/-- The derivatives by the shared key, at lanes 64 to 95. -/
def gkrLane (b : Fin 4) (k : Fin 2304) (d : Fin 128) : ℝ :=
  if hd : 64 ≤ d.val ∧ d.val < 96 then ∑ h, gk q kv kr g b h k ⟨d.val, hd.2⟩ else 0

/-- The weights' part of a row in the context. -/
theorem weight_ctx (b : Fin 4) (h : Fin 8) (t : Fin 256) (k : Fin 2304) :
    weight q kv kr b h (ctx t) k = if hk : k.val < 256 then sm (score q kv kr n256 b h (ctx t)) ⟨k.val, hk⟩ else 0 := if_pos t.isLt

theorem weight_lat (b : Fin 4) (h : Fin 8) (t : Fin 2048) (k : Fin 2304) :
    weight q kv kr b h (lat t) k = sm (score q kv kr n2304 b h (lat t)) k := if_neg (by show ¬ 256 + t.val < 256; omega)

theorem slope_ctx (b : Fin 4) (h : Fin 8) (t : Fin 256) (k : Fin 2304) :
    scoreSlope q kv kr g b h (ctx t) k = if hk : k.val < 256 then dS q kv kr g n256 b h (ctx t) ⟨k.val, hk⟩ else 0 := if_pos t.isLt

theorem slope_lat (b : Fin 4) (h : Fin 8) (t : Fin 2048) (k : Fin 2304) :
    scoreSlope q kv kr g b h (lat t) k = dS q kv kr g n2304 b h (lat t) k := if_neg (by show ¬ 256 + t.val < 256; omega)

/-- The derivative by a key, the latent rows' part first. -/
theorem gk_split (b : Fin 4) (h : Fin 8) (k : Fin 2304) (d : Fin 96) :
    gk q kv kr g b h k d = ∑ t : Fin 2048, dS q kv kr g n2304 b h (lat t) k * q b (lat t) h d
      + if hk : k.val < 256 then ∑ t : Fin 256, dS q kv kr g n256 b h (ctx t) ⟨k.val, hk⟩ * q b (ctx t) h d else 0 := by
  rw [gk, sum_rows, add_comm]
  refine congrArg₂ (· + ·) ?_ ?_
  · exact Finset.sum_congr rfl fun t _ => by rw [slope_lat]
  · split
    · rename_i hk
      exact Finset.sum_congr rfl fun t _ => by rw [slope_ctx, dif_pos hk]
    · rename_i hk
      exact Finset.sum_eq_zero fun t _ => by rw [slope_ctx, dif_neg hk, zero_mul]

/-- The derivative by a value, the latent rows' part first. -/
theorem gv_split (b : Fin 4) (h : Fin 8) (k : Fin 2304) (d : Fin 64) :
    gv q kv kr g b h k d = ∑ t : Fin 2048, sm (score q kv kr n2304 b h (lat t)) k * g b (lat t) h d
      + if hk : k.val < 256 then ∑ t : Fin 256, sm (score q kv kr n256 b h (ctx t)) ⟨k.val, hk⟩ * g b (ctx t) h d else 0 := by
  rw [gv, sum_rows, add_comm]
  refine congrArg₂ (· + ·) ?_ ?_
  · exact Finset.sum_congr rfl fun t _ => by rw [weight_lat]
  · split
    · rename_i hk
      exact Finset.sum_congr rfl fun t _ => by rw [weight_ctx, dif_pos hk]
    · rename_i hk
      exact Finset.sum_eq_zero fun t _ => by rw [weight_ctx, dif_neg hk, zero_mul]

end Cert.Grad

end
-- ==== Proof.KernelBlock.lean ====
/- What the gradient call's body leaves in its three output blocks at a grid point: for real operands the gradient of
   the block's queries, and what it adds to the gradients of the keys and values and of the keys' shared lanes. -/
module

public import proofs.«01_k».proof.Proof.Gen.KernelIdeal.Value
public import proofs.«01_k».proof.Proof.Reals
public import Idealize.ShloMosaic.Lib.WritesUnit
public import Idealize.ShloMosaic.Lib.Pipeline.ValueKit.Tiles

@[expose] public section

set_option maxRecDepth 16384

noncomputable section

namespace Cert.KernelBlock

open Cert.KernelIdeal Cert.KernelIdeal.Gen Idealize.ShloMosaic Idealize.ShloMosaic.TcCoe Idealize.SL.Sem Cert.Reals

/-! ### The numbers -/

/-- Sixty-four numbers in the upper lanes, zeros in the lower ones. -/
def up (g : Fin 64 → ℝ) (d : Fin 128) : ℝ := if h : d.val < 64 then 0 else g ⟨d.val - 64, by omega⟩

/-- The lanes of head `h` of a pair of heads. -/
def half (h : Fin 2) (D : Fin 128 → ℝ) (d : Fin 64) : ℝ := D ⟨64 * h.val + d.val, by omega⟩

section

variable {n : ℕ} (Q : Fin 256 → Fin 128 → ℝ) (A B : Fin n → Fin 128 → ℝ) (ls : Fin 256 → ℝ) (g o : Fin 256 → Fin 64 → ℝ)

/-- The probability of a key, from the logarithm of the row's sum. -/
def prob (r : Fin 256) (j : Fin n) : ℝ := Real.exp (dot (Q r) (key (A j) (B j)) - ls r)

/-- The gradient of a score. -/
def dscore (r : Fin 256) (j : Fin n) : ℝ :=
  prob Q A B ls r j * (∑ d : Fin 64, g r d * A j ⟨64 + d.val, by omega⟩ - ∑ d, g r d * o r d)

/-- The gradient of a query. -/
def dquery (r : Fin 256) (d : Fin 128) : ℝ := ∑ j, dscore Q A B ls g o r j * key (A j) (B j) d

/-- The gradient of a key, from the block's queries. -/
def dkey (j : Fin n) (d : Fin 128) : ℝ := ∑ r, dscore Q A B ls g o r j * Q r d

/-- The gradient of a value, from the block's queries. -/
def dvalue (j : Fin n) (d : Fin 128) : ℝ := ∑ r, prob Q A B ls r j * up (g r) d

/-- Both side by side. -/
def dkv (j : Fin n) (d : Fin 128) : ℝ := if d.val < 64 then dkey Q A B ls g o j d else dvalue Q A B ls g j d

/-- The gradient of a key's shared lanes. -/
def dshared (j : Fin n) (d : Fin 128) : ℝ := if d.val < 64 then 0 else dkey Q A B ls g o j d

end

theorem up_high (g : Fin 64 → ℝ) (x : Fin 64) (p : 64 + x.val < 128) : up g ⟨64 + x.val, p⟩ = g x := by
  unfold up
  rw [dif_neg (show ¬ 64 + x.val < 64 by omega)]
  exact congrArg g (Fin.ext (show 64 + x.val - 64 = x.val by omega))

theorem up_low (g : Fin 64 → ℝ) (x : Fin 64) (p : x.val < 128) : up g ⟨x.val, p⟩ = 0 := by
  unfold up
  rw [dif_pos (show x.val < 64 from x.isLt)]

theorem sum_up (g : Fin 64 → ℝ) (f : Fin 128 → ℝ) : ∑ x, up g x * f x = ∑ x : Fin 64, g x * f ⟨64 + x.val, by omega⟩ := by
  rw [show (∑ x, up g x * f x) = ∑ x : Fin (64 + 64), up g x * f x from rfl, Fin.sum_univ_add]
  have h1 : ∀ x : Fin 64, up g (Fin.castAdd 64 x) = 0 := fun x => up_low g x (by omega)
  have h2 : ∀ x : Fin 64, up g (Fin.natAdd 64 x) = g x := fun x => up_high g x (by omega)
  simp only [h1, h2, zero_mul, Finset.sum_const_zero, zero_add]
  rfl

theorem rot_lane (x : Fin 64) (p : (64 + x.val + 128 - 64) % 128 < 128) : (⟨(64 + x.val + 128 - 64) % 128, p⟩ : Fin 128) = ⟨64 * (0 : Fin 2).val + x.val, by show 64 * 0 + x.val < 128; omega⟩ :=
  Fin.ext (by show (64 + x.val + 128 - 64) % 128 = 64 * 0 + x.val; omega)

theorem pick_first (f : Fin 2 → EReal) :
    ∑ x, Scalar.select (IntOp.cmpi CmpIPredicate.eq (BitVec.ofNat 32 x.val) 0#32) (f x) 0 = f 0 := by
  rw [Fin.sum_univ_two]
  show f 0 + 0 = f 0
  exact add_zero _

theorem pick_second (f : Fin 2 → EReal) :
    ∑ x, Scalar.select (IntOp.cmpi CmpIPredicate.eq (BitVec.ofNat 32 x.val) 1#32) (f x) 0 = f 1 := by
  rw [Fin.sum_univ_two]
  show 0 + f 1 = f 1
  exact zero_add _

/-! ### Reading what two stores left -/

section

variable {sg : RefSig} {κ : Kind} {sp : Space} {N W n : ℕ} {e : EltTy} {Val : EltTy → Type}

theorem read_hit (v : View sg κ sp (⟨2, ![N, W]⟩ : Shape) e) (f : v.ty.Contents Val) (o : ℕ)
    (inb : ∀ a, (![0, o] : Fin 2 → ℕ) a + (![n, 128] : Fin 2 → ℕ) a ≤ (⟨2, ![N, W]⟩ : Shape).size a)
    (w : (Rect.unit (s := (⟨2, ![N, W]⟩ : Shape)) ![0, o] ![n, 128] inb).shape.Idx → Val e) (L : List (View.Piece Val (⟨2, ![N, W]⟩ : Shape) e))
    (r : Fin N) (c : Fin W) (r' : Fin n) (d : Fin 128) (hr : r.val = r'.val) (hc : c.val = o + d.val) :
    v.read Val (v.writes Val f ((⟨Rect.unit (s := (⟨2, ![N, W]⟩ : Shape)) ![0, o] ![n, 128] inb, w⟩ : View.Piece Val (⟨2, ![N, W]⟩ : Shape) e) :: L)) (ix2 r c)
      = w (ix2 r' d) := by
  refine View.read_writes_cons_unit_of_mem v f inb w L (ix2 r c) (ix2 r' d) rfl fun a => ?_
  rcases a with ⟨_ | _ | a, ha⟩
  · show r.val = 0 + r'.val
    omega
  · show c.val = o + d.val
    exact hc
  · exact absurd ha (by show ¬ (a + 1 + 1 < 2); omega)

theorem read_miss_lane (v : View sg κ sp (⟨2, ![N, W]⟩ : Shape) e) (f : v.ty.Contents Val) (o : ℕ)
    (inb : ∀ a, (![0, o] : Fin 2 → ℕ) a + (![n, 128] : Fin 2 → ℕ) a ≤ (⟨2, ![N, W]⟩ : Shape).size a)
    (w : (Rect.unit (s := (⟨2, ![N, W]⟩ : Shape)) ![0, o] ![n, 128] inb).shape.Idx → Val e) (L : List (View.Piece Val (⟨2, ![N, W]⟩ : Shape) e))
    (r : Fin N) (c : Fin W) (h : c.val < o ∨ o + 128 ≤ c.val) :
    v.read Val (v.writes Val f ((⟨Rect.unit (s := (⟨2, ![N, W]⟩ : Shape)) ![0, o] ![n, 128] inb, w⟩ : View.Piece Val (⟨2, ![N, W]⟩ : Shape) e) :: L)) (ix2 r c)
      = v.read Val (v.writes Val f L) (ix2 r c) :=
  View.read_writes_cons_unit_of_not_mem v f inb w L (ix2 r c) rfl 1 h

theorem read_miss_row (v : View sg κ sp (⟨2, ![N, W]⟩ : Shape) e) (f : v.ty.Contents Val) (o : ℕ)
    (inb : ∀ a, (![0, o] : Fin 2 → ℕ) a + (![n, 128] : Fin 2 → ℕ) a ≤ (⟨2, ![N, W]⟩ : Shape).size a)
    (w : (Rect.unit (s := (⟨2, ![N, W]⟩ : Shape)) ![0, o] ![n, 128] inb).shape.Idx → Val e) (L : List (View.Piece Val (⟨2, ![N, W]⟩ : Shape) e))
    (r : Fin N) (c : Fin W) (h : n ≤ r.val) :
    v.read Val (v.writes Val f ((⟨Rect.unit (s := (⟨2, ![N, W]⟩ : Shape)) ![0, o] ![n, 128] inb, w⟩ : View.Piece Val (⟨2, ![N, W]⟩ : Shape) e) :: L)) (ix2 r c)
      = v.read Val (v.writes Val f L) (ix2 r c) :=
  View.read_writes_cons_unit_of_not_mem v f inb w L (ix2 r c) rfl 0 (.inr (by show 0 + n ≤ r.val; omega))

theorem read_whole (v : View sg κ sp (⟨2, ![N, W]⟩ : Shape) e) (f : v.ty.Contents Val)
    (inb : ∀ a, (![0, 0] : Fin 2 → ℕ) a + (![N, W] : Fin 2 → ℕ) a ≤ (⟨2, ![N, W]⟩ : Shape).size a)
    (w : (Rect.unit (s := (⟨2, ![N, W]⟩ : Shape)) ![0, 0] ![N, W] inb).shape.Idx → Val e) (L : List (View.Piece Val (⟨2, ![N, W]⟩ : Shape) e))
    (r : Fin N) (c : Fin W) :
    v.read Val (v.writes Val f ((⟨Rect.unit (s := (⟨2, ![N, W]⟩ : Shape)) ![0, 0] ![N, W] inb, w⟩ : View.Piece Val (⟨2, ![N, W]⟩ : Shape) e) :: L)) (ix2 r c)
      = w (ix2 r c) := by
  refine View.read_writes_cons_unit_of_mem v f inb w L (ix2 r c) (ix2 r c) rfl fun a => ?_
  rcases a with ⟨_ | _ | a, ha⟩
  · show r.val = 0 + r.val
    omega
  · show c.val = 0 + c.val
    omega
  · exact absurd ha (by show ¬ (a + 1 + 1 < 2); omega)

end

/-! ### Blocks of 256 keys -/

section

variable (w17 : Vec Ideal S1x256x2 .f32) (w19 w21 : Vec Ideal S256x128 .f32) (w24 w29 : Vec Ideal S256x128 .bf16) (w32 : Vec Ideal S256x128 .bf16)
  (Q : Fin 256 → Fin 128 → ℝ) (A B : Fin 256 → Fin 128 → ℝ) (ls : Fin 256 → ℝ) (D O : Fin 256 → Fin 128 → ℝ)

/-- The six blocks read at a point hold these real numbers (of the sums' logarithms those of head `h`). -/
structure HoldsA (h : Fin 2) : Prop where
  l : ∀ r, w17 (ix3 0 r h) = (ls r : EReal)
  g : ∀ r d, w19 (ix2 r d) = (D r d : EReal)
  o : ∀ r d, w21 (ix2 r d) = (O r d : EReal)
  a : ∀ j d, w24 (ix2 j d) = (A j d : EReal)
  b : ∀ j d, w29 (ix2 j d) = (B j d : EReal)
  q : ∀ r d, w32 (ix2 r d) = (Q r d : EReal)

variable {w17 w19 w21 w24 w29 w32 Q A B ls D O}

abbrev g0 (D : Fin 256 → Fin 128 → ℝ) (r : Fin 256) : Fin 64 → ℝ := half 0 (D r)
abbrev g1 (D : Fin 256 → Fin 128 → ℝ) (r : Fin 256) : Fin 64 → ℝ := half 1 (D r)

theorem p0_A (H : HoldsA w17 w19 w21 w24 w29 w32 Q A B ls D O 0) (r : Fin 256) (j : Fin 256) : k0_pay14 w17 w24 w29 w32 (ix2 r j) = (prob Q A B ls r j : EReal) := by
  pointwise [k0_pay14, k0_pay13, k0_pay12, k0_pay11, k0_pay7, dot_S256x128_S256x128_S256x256_1_1_0_0_n_n]
  rw [pick_first, H.l]
  simp only [H.a, H.b, H.q, key_coe, dot_coe, exp_sub_coe]
  rfl

theorem g0_A (H : HoldsA w17 w19 w21 w24 w29 w32 Q A B ls D O 0) (r : Fin 256) (d : Fin 128) : k0_pay15 w19 (ix2 r d) = (up (g0 D r) d : EReal) := by
  pointwise [k0_pay15, k0_pay8, select_ge, H.g]
  unfold up
  by_cases hd : d.val < 64
  · rw [if_pos hd, dif_pos hd]
    rfl
  · rw [if_neg hd, dif_neg hd]
    exact congrArg (fun x => ((D r x : ℝ) : EReal)) (Fin.ext (by show (d.val + 128 - 64) % 128 = 64 * 0 + (d.val - 64); omega))

theorem k0_A (H : HoldsA w17 w19 w21 w24 w29 w32 Q A B ls D O 0) (j : Fin 256) (d : Fin 128) : k0_pay12 w24 w29 (ix2 j d) = (key (A j) (B j) d : EReal) := by
  pointwise [k0_pay12, k0_pay11, H.a, H.b, key_coe]

theorem ds0_A (H : HoldsA w17 w19 w21 w24 w29 w32 Q A B ls D O 0) (r : Fin 256) (j : Fin 256) :
    k0_pay18 (k0_pay9 w21) (k0_pay11 w24) (k0_pay14 w17 w24 w29 w32) (k0_pay15 w19) k0_pay16 (ix2 r j) = (dscore Q A B ls (g0 D) (g0 O) r j : EReal) := by
  have ha : ∀ j d, (k0_pay11 w24) (ix2 j d) = (A j d : EReal) := fun j d => by pointwise [k0_pay11]; exact H.a j d
  have ho : ∀ r d, (k0_pay9 w21) (ix2 r d) = (O r d : EReal) := fun r d => by pointwise [k0_pay9]; exact H.o r d
  have hp := p0_A H
  have hg := g0_A H
  generalize (k0_pay9 w21) = v22 at *
  generalize (k0_pay11 w24) = v25 at *
  generalize (k0_pay14 w17 w24 w29 w32) = v43 at *
  generalize (k0_pay15 w19) = v48 at *
  pointwise [k0_pay18, k0_pay17, k0_pay16, dot_S256x128_S256x128_S256x256_1_1_0_0_n_n, select_ge, ha, ho, hp, hg]
  simp only [rot_lane, up_high, mul_zero, Finset.sum_const_zero, zero_add, ← EReal.coe_mul, ← coe_sum, ← EReal.coe_sub]
  rw [sum_up]
  rfl

theorem dq0_A (H : HoldsA w17 w19 w21 w24 w29 w32 Q A B ls D O 0) (r : Fin 256) (d : Fin 128) :
    k0_pay19 (k0_pay9 w21) (k0_pay11 w24) (k0_pay12 w24 w29) (k0_pay14 w17 w24 w29 w32) (k0_pay15 w19) k0_pay16 (ix2 r d) = (dquery Q A B ls (g0 D) (g0 O) r d : EReal) := by
  pointwise [k0_pay19, dot_S256x256_S256x128_S256x128_1_0_0_1_n_n, ds0_A H, k0_A H]
  simp only [← EReal.coe_mul, ← coe_sum]
  rfl

theorem dk0_A (H : HoldsA w17 w19 w21 w24 w29 w32 Q A B ls D O 0) (j : Fin 256) (d : Fin 128) :
    k0_pay20 (k0_pay9 w21) (k0_pay11 w24) (k0_pay13 w32) (k0_pay14 w17 w24 w29 w32) (k0_pay15 w19) k0_pay16 (ix2 j d) = (dkey Q A B ls (g0 D) (g0 O) j d : EReal) := by
  pointwise [k0_pay20, k0_pay13, dot_S256x256_S256x128_S256x128_0_0_1_1_n_n, ds0_A H, H.q]
  simp only [← EReal.coe_mul, ← coe_sum]
  rfl

theorem kv0_A (H : HoldsA w17 w19 w21 w24 w29 w32 Q A B ls D O 0) (w68 : Vec Ideal S256x128 .f32) (j : Fin 256) (d : Fin 128) :
    k0_pay21 (iota Kind.tc S256x128 32 [1] iota_S256x128_d1_w32) (k0_pay9 w21) (k0_pay11 w24) (k0_pay13 w32) (k0_pay14 w17 w24 w29 w32) (k0_pay15 w19) k0_pay16 w68 (ix2 j d)
      = w68 (ix2 j d) + (dkv Q A B ls (g0 D) (g0 O) j d : EReal) := by
  have hk := dk0_A H
  have hp := p0_A H
  have hg := g0_A H
  generalize (k0_pay9 w21) = v22 at *
  generalize (k0_pay11 w24) = v25 at *
  generalize (k0_pay13 w32) = v33 at *
  generalize (k0_pay14 w17 w24 w29 w32) = v43 at *
  generalize (k0_pay15 w19) = v48 at *
  pointwise [k0_pay21, k0_pay17, dot_S256x256_S256x128_S256x128_0_0_1_1_n_n, select_lt, hk, hp, hg]
  simp only [← EReal.coe_mul, ← coe_sum]
  unfold dkv
  split <;> rfl

theorem kr0_A (H : HoldsA w17 w19 w21 w24 w29 w32 Q A B ls D O 0) (j : Fin 256) (d : Fin 128) :
    k0_pay22 (iota Kind.tc S256x128 32 [1] iota_S256x128_d1_w32) (k0_pay9 w21) k0_pay10 (k0_pay11 w24) (k0_pay13 w32) (k0_pay14 w17 w24 w29 w32) (k0_pay15 w19) k0_pay16 (ix2 j d)
      = (dshared Q A B ls (g0 D) (g0 O) j d : EReal) := by
  have hk := dk0_A H
  generalize (k0_pay9 w21) = v22 at *
  generalize (k0_pay11 w24) = v25 at *
  generalize (k0_pay13 w32) = v33 at *
  generalize (k0_pay14 w17 w24 w29 w32) = v43 at *
  generalize (k0_pay15 w19) = v48 at *
  pointwise [k0_pay22, k0_pay10, select_ge, hk]
  unfold dshared
  first | rw [zero_add] | skip
  split <;> rfl

theorem p1_A (H : HoldsA w17 w19 w21 w24 w29 w32 Q A B ls D O 1) (r : Fin 256) (j : Fin 256) :
    k0_pay26 (iota Kind.tc S256x2 32 [1] iota_S256x2_d1_w32) (k0_pay7 w17) (k0_pay24 w24 w29) w32 (ix2 r j) = (prob Q A B ls r j : EReal) := by
  pointwise [k0_pay26, k0_pay25, k0_pay24, k0_pay23, k0_pay7, dot_S256x128_S256x128_S256x256_1_1_0_0_n_n]
  rw [pick_second, H.l]
  simp only [H.a, H.b, H.q, key_coe, dot_coe, exp_sub_coe]
  rfl

theorem g1_A (H : HoldsA w17 w19 w21 w24 w29 w32 Q A B ls D O 1) (r : Fin 256) (d : Fin 128) : k0_pay27 (iota Kind.tc S256x128 32 [1] iota_S256x128_d1_w32) (k0_pay8 w19) (ix2 r d) = (up (g1 D r) d : EReal) := by
  pointwise [k0_pay27, k0_pay8, select_ge, H.g]
  unfold up
  by_cases hd : d.val < 64
  · rw [if_pos hd, dif_pos hd]
    rfl
  · rw [if_neg hd, dif_neg hd]
    exact congrArg (fun x => ((D r x : ℝ) : EReal)) (Fin.ext (by show d.val = 64 * 1 + (d.val - 64); omega))

theorem k1_A (H : HoldsA w17 w19 w21 w24 w29 w32 Q A B ls D O 1) (j : Fin 256) (d : Fin 128) : k0_pay24 w24 w29 (ix2 j d) = (key (A j) (B j) d : EReal) := by
  pointwise [k0_pay24, k0_pay23, H.a, H.b, key_coe]

theorem ds1_A (H : HoldsA w17 w19 w21 w24 w29 w32 Q A B ls D O 1) (r : Fin 256) (j : Fin 256) :
    k0_pay29 (iota Kind.tc S256x128 32 [1] iota_S256x128_d1_w32) (iota Kind.tc S256x2 32 [1] iota_S256x2_d1_w32) (k0_pay7 w17) (k0_pay8 w19) (k0_pay9 w21) (k0_pay23 w24) (k0_pay24 w24 w29) w32 (ix2 r j) = (dscore Q A B ls (g1 D) (g1 O) r j : EReal) := by
  have ha : ∀ j d, k0_pay23 w24 (ix2 j d) = (A j d : EReal) := fun j d => by pointwise [k0_pay23]; exact H.a j d
  have ho : ∀ r d, (k0_pay9 w21) (ix2 r d) = (O r d : EReal) := fun r d => by pointwise [k0_pay9]; exact H.o r d
  have hp := p1_A H
  have hg := g1_A H
  have hb : ∀ r d, k0_pay28 (iota Kind.tc S256x128 32 [1] iota_S256x128_d1_w32) (k0_pay8 w19) (ix2 r d) = (up (g1 D r) d : EReal) := fun r d => by pointwise [k0_pay28]; exact hg r d
  pointwise [k0_pay29, dot_S256x128_S256x128_S256x256_1_1_0_0_n_n, select_ge, ha, ho, hp, hg, hb]
  simp only [up_high, mul_zero, Finset.sum_const_zero, zero_add, ← EReal.coe_mul, ← coe_sum, ← EReal.coe_sub]
  rw [sum_up]
  rfl

theorem dq1_A (H : HoldsA w17 w19 w21 w24 w29 w32 Q A B ls D O 1) (r : Fin 256) (d : Fin 128) :
    k0_pay30 (iota Kind.tc S256x128 32 [1] iota_S256x128_d1_w32) (iota Kind.tc S256x2 32 [1] iota_S256x2_d1_w32) (k0_pay7 w17) (k0_pay8 w19) (k0_pay9 w21) (k0_pay23 w24) (k0_pay24 w24 w29) w32 (ix2 r d) = (dquery Q A B ls (g1 D) (g1 O) r d : EReal) := by
  pointwise [k0_pay30, dot_S256x256_S256x128_S256x128_1_0_0_1_n_n, ds1_A H, k1_A H]
  simp only [← EReal.coe_mul, ← coe_sum]
  rfl

theorem dk1_A (H : HoldsA w17 w19 w21 w24 w29 w32 Q A B ls D O 1) (j : Fin 256) (d : Fin 128) :
    k0_pay31 (iota Kind.tc S256x128 32 [1] iota_S256x128_d1_w32) (iota Kind.tc S256x2 32 [1] iota_S256x2_d1_w32) (k0_pay7 w17) (k0_pay8 w19) (k0_pay9 w21) (k0_pay23 w24) (k0_pay24 w24 w29) w32 (ix2 j d) = (dkey Q A B ls (g1 D) (g1 O) j d : EReal) := by
  pointwise [k0_pay31, k0_pay25, dot_S256x256_S256x128_S256x128_0_0_1_1_n_n, ds1_A H, H.q]
  simp only [← EReal.coe_mul, ← coe_sum]
  rfl

theorem kv1_A (H : HoldsA w17 w19 w21 w24 w29 w32 Q A B ls D O 1) (w122 : Vec Ideal S256x128 .f32) (j : Fin 256) (d : Fin 128) :
    k0_pay3 (k0_pay32 w122) (k0_pay33 (iota Kind.tc S256x128 32 [1] iota_S256x128_d1_w32) (iota Kind.tc S256x128 32 [1] iota_S256x128_d1_w32) (iota Kind.tc S256x2 32 [1] iota_S256x2_d1_w32) (k0_pay7 w17) (k0_pay8 w19) (k0_pay9 w21) (k0_pay23 w24) (k0_pay24 w24 w29) w32) (ix2 j d)
      = w122 (ix2 j d) + (dkv Q A B ls (g1 D) (g1 O) j d : EReal) := by
  have hk := dk1_A H
  have hp := p1_A H
  have hg := g1_A H
  have hb : ∀ r d, k0_pay28 (iota Kind.tc S256x128 32 [1] iota_S256x128_d1_w32) (k0_pay8 w19) (ix2 r d) = (up (g1 D r) d : EReal) := fun r d => by pointwise [k0_pay28]; exact hg r d
  pointwise [k0_pay3, k0_pay32, k0_pay33, dot_S256x256_S256x128_S256x128_0_0_1_1_n_n, select_lt, hk, hp, hb]
  simp only [← EReal.coe_mul, ← coe_sum]
  unfold dkv
  split <;> rfl

theorem kr1_A (H : HoldsA w17 w19 w21 w24 w29 w32 Q A B ls D O 1) (v79 : FVec Ideal S256x128 .f32) (w134 : Vec Ideal S256x128 .f32) (j : Fin 256) (d : Fin 128) :
    k0_pay4 (iota Kind.tc S256x128 32 [1] iota_S256x128_d1_w32) v79 (k0_pay31 (iota Kind.tc S256x128 32 [1] iota_S256x128_d1_w32) (iota Kind.tc S256x2 32 [1] iota_S256x2_d1_w32) (k0_pay7 w17) (k0_pay8 w19) (k0_pay9 w21) (k0_pay23 w24) (k0_pay24 w24 w29) w32) w134 (ix2 j d)
      = w134 (ix2 j d) + (v79 (ix2 j d) + (dshared Q A B ls (g1 D) (g1 O) j d : EReal)) := by
  have hk := dk1_A H
  generalize k0_pay31 (iota Kind.tc S256x128 32 [1] iota_S256x128_d1_w32) (iota Kind.tc S256x2 32 [1] iota_S256x2_d1_w32) (k0_pay7 w17) (k0_pay8 w19) (k0_pay9 w21) (k0_pay23 w24) (k0_pay24 w24 w29) w32 = v119 at *
  pointwise [k0_pay4, select_ge, hk]
  unfold dshared
  split <;> rfl

end

/-! ### Blocks of 2304 keys -/

section

variable (w17 : Vec Ideal S1x256x2 .f32) (w19 w21 : Vec Ideal S256x128 .f32) (w24 w29 : Vec Ideal S2304x128 .bf16) (w32 : Vec Ideal S256x128 .bf16)
  (Q : Fin 256 → Fin 128 → ℝ) (A B : Fin 2304 → Fin 128 → ℝ) (ls : Fin 256 → ℝ) (D O : Fin 256 → Fin 128 → ℝ)

/-- The six blocks read at a point hold these real numbers (of the sums' logarithms those of head `h`). -/
structure HoldsB (h : Fin 2) : Prop where
  l : ∀ r, w17 (ix3 0 r h) = (ls r : EReal)
  g : ∀ r d, w19 (ix2 r d) = (D r d : EReal)
  o : ∀ r d, w21 (ix2 r d) = (O r d : EReal)
  a : ∀ j d, w24 (ix2 j d) = (A j d : EReal)
  b : ∀ j d, w29 (ix2 j d) = (B j d : EReal)
  q : ∀ r d, w32 (ix2 r d) = (Q r d : EReal)

variable {w17 w19 w21 w24 w29 w32 Q A B ls D O}

theorem p0_B (H : HoldsB w17 w19 w21 w24 w29 w32 Q A B ls D O 0) (r : Fin 256) (j : Fin 2304) : k0_pay41 w17 w24 w29 w32 (ix2 r j) = (prob Q A B ls r j : EReal) := by
  pointwise [k0_pay41, k0_pay40, k0_pay39, k0_pay38, k0_pay34, dot_S256x128_S2304x128_S256x2304_1_1_0_0_n_n]
  rw [pick_first, H.l]
  simp only [H.a, H.b, H.q, key_coe, dot_coe, exp_sub_coe]
  rfl

theorem g0_B (H : HoldsB w17 w19 w21 w24 w29 w32 Q A B ls D O 0) (r : Fin 256) (d : Fin 128) : k0_pay42 w19 (ix2 r d) = (up (g0 D r) d : EReal) := by
  pointwise [k0_pay42, k0_pay35, select_ge, H.g]
  unfold up
  by_cases hd : d.val < 64
  · rw [if_pos hd, dif_pos hd]
    rfl
  · rw [if_neg hd, dif_neg hd]
    exact congrArg (fun x => ((D r x : ℝ) : EReal)) (Fin.ext (by show (d.val + 128 - 64) % 128 = 64 * 0 + (d.val - 64); omega))

theorem k0_B (H : HoldsB w17 w19 w21 w24 w29 w32 Q A B ls D O 0) (j : Fin 2304) (d : Fin 128) : k0_pay39 w24 w29 (ix2 j d) = (key (A j) (B j) d : EReal) := by
  pointwise [k0_pay39, k0_pay38, H.a, H.b, key_coe]

theorem ds0_B (H : HoldsB w17 w19 w21 w24 w29 w32 Q A B ls D O 0) (r : Fin 256) (j : Fin 2304) :
    k0_pay45 (k0_pay36 w21) (k0_pay38 w24) (k0_pay41 w17 w24 w29 w32) (k0_pay42 w19) k0_pay43 (ix2 r j) = (dscore Q A B ls (g0 D) (g0 O) r j : EReal) := by
  have ha : ∀ j d, (k0_pay38 w24) (ix2 j d) = (A j d : EReal) := fun j d => by pointwise [k0_pay38]; exact H.a j d
  have ho : ∀ r d, (k0_pay36 w21) (ix2 r d) = (O r d : EReal) := fun r d => by pointwise [k0_pay36]; exact H.o r d
  have hp := p0_B H
  have hg := g0_B H
  generalize (k0_pay36 w21) = v22 at *
  generalize (k0_pay38 w24) = v25 at *
  generalize (k0_pay41 w17 w24 w29 w32) = v43 at *
  generalize (k0_pay42 w19) = v48 at *
  pointwise [k0_pay45, k0_pay44, k0_pay43, dot_S256x128_S2304x128_S256x2304_1_1_0_0_n_n, select_ge, ha, ho, hp, hg]
  simp only [rot_lane, up_high, mul_zero, Finset.sum_const_zero, zero_add, ← EReal.coe_mul, ← coe_sum, ← EReal.coe_sub]
  rw [sum_up]
  rfl

theorem dq0_B (H : HoldsB w17 w19 w21 w24 w29 w32 Q A B ls D O 0) (r : Fin 256) (d : Fin 128) :
    k0_pay46 (k0_pay36 w21) (k0_pay38 w24) (k0_pay39 w24 w29) (k0_pay41 w17 w24 w29 w32) (k0_pay42 w19) k0_pay43 (ix2 r d) = (dquery Q A B ls (g0 D) (g0 O) r d : EReal) := by
  pointwise [k0_pay46, dot_S256x2304_S2304x128_S256x128_1_0_0_1_n_n, ds0_B H, k0_B H]
  simp only [← EReal.coe_mul, ← coe_sum]
  rfl

theorem dk0_B (H : HoldsB w17 w19 w21 w24 w29 w32 Q A B ls D O 0) (j : Fin 2304) (d : Fin 128) :
    k0_pay47 (k0_pay36 w21) (k0_pay38 w24) (k0_pay40 w32) (k0_pay41 w17 w24 w29 w32) (k0_pay42 w19) k0_pay43 (ix2 j d) = (dkey Q A B ls (g0 D) (g0 O) j d : EReal) := by
  pointwise [k0_pay47, k0_pay40, dot_S256x2304_S256x128_S2304x128_0_0_1_1_n_n, ds0_B H, H.q]
  simp only [← EReal.coe_mul, ← coe_sum]
  rfl

theorem kv0_B (H : HoldsB w17 w19 w21 w24 w29 w32 Q A B ls D O 0) (w68 : Vec Ideal S2304x128 .f32) (j : Fin 2304) (d : Fin 128) :
    k0_pay48 (iota Kind.tc S2304x128 32 [1] iota_S2304x128_d1_w32) (k0_pay36 w21) (k0_pay38 w24) (k0_pay40 w32) (k0_pay41 w17 w24 w29 w32) (k0_pay42 w19) k0_pay43 w68 (ix2 j d)
      = w68 (ix2 j d) + (dkv Q A B ls (g0 D) (g0 O) j d : EReal) := by
  have hk := dk0_B H
  have hp := p0_B H
  have hg := g0_B H
  generalize (k0_pay36 w21) = v22 at *
  generalize (k0_pay38 w24) = v25 at *
  generalize (k0_pay40 w32) = v33 at *
  generalize (k0_pay41 w17 w24 w29 w32) = v43 at *
  generalize (k0_pay42 w19) = v48 at *
  pointwise [k0_pay48, k0_pay44, dot_S256x2304_S256x128_S2304x128_0_0_1_1_n_n, select_lt, hk, hp, hg]
  simp only [← EReal.coe_mul, ← coe_sum]
  unfold dkv
  split <;> rfl

theorem kr0_B (H : HoldsB w17 w19 w21 w24 w29 w32 Q A B ls D O 0) (j : Fin 2304) (d : Fin 128) :
    k0_pay49 (iota Kind.tc S2304x128 32 [1] iota_S2304x128_d1_w32) (k0_pay36 w21) k0_pay37 (k0_pay38 w24) (k0_pay40 w32) (k0_pay41 w17 w24 w29 w32) (k0_pay42 w19) k0_pay43 (ix2 j d)
      = (dshared Q A B ls (g0 D) (g0 O) j d : EReal) := by
  have hk := dk0_B H
  generalize (k0_pay36 w21) = v22 at *
  generalize (k0_pay38 w24) = v25 at *
  generalize (k0_pay40 w32) = v33 at *
  generalize (k0_pay41 w17 w24 w29 w32) = v43 at *
  generalize (k0_pay42 w19) = v48 at *
  pointwise [k0_pay49, k0_pay37, select_ge, hk]
  unfold dshared
  first | rw [zero_add] | skip
  split <;> rfl

theorem p1_B (H : HoldsB w17 w19 w21 w24 w29 w32 Q A B ls D O 1) (r : Fin 256) (j : Fin 2304) :
    k0_pay53 (iota Kind.tc S256x2 32 [1] iota_S256x2_d1_w32) (k0_pay34 w17) (k0_pay51 w24 w29) w32 (ix2 r j) = (prob Q A B ls r j : EReal) := by
  pointwise [k0_pay53, k0_pay52, k0_pay51, k0_pay50, k0_pay34, dot_S256x128_S2304x128_S256x2304_1_1_0_0_n_n]
  rw [pick_second, H.l]
  simp only [H.a, H.b, H.q, key_coe, dot_coe, exp_sub_coe]
  rfl

theorem g1_B (H : HoldsB w17 w19 w21 w24 w29 w32 Q A B ls D O 1) (r : Fin 256) (d : Fin 128) : k0_pay54 (iota Kind.tc S256x128 32 [1] iota_S256x128_d1_w32) (k0_pay35 w19) (ix2 r d) = (up (g1 D r) d : EReal) := by
  pointwise [k0_pay54, k0_pay35, select_ge, H.g]
  unfold up
  by_cases hd : d.val < 64
  · rw [if_pos hd, dif_pos hd]
    rfl
  · rw [if_neg hd, dif_neg hd]
    exact congrArg (fun x => ((D r x : ℝ) : EReal)) (Fin.ext (by show d.val = 64 * 1 + (d.val - 64); omega))

theorem k1_B (H : HoldsB w17 w19 w21 w24 w29 w32 Q A B ls D O 1) (j : Fin 2304) (d : Fin 128) : k0_pay51 w24 w29 (ix2 j d) = (key (A j) (B j) d : EReal) := by
  pointwise [k0_pay51, k0_pay50, H.a, H.b, key_coe]

theorem ds1_B (H : HoldsB w17 w19 w21 w24 w29 w32 Q A B ls D O 1) (r : Fin 256) (j : Fin 2304) :
    k0_pay56 (iota Kind.tc S256x128 32 [1] iota_S256x128_d1_w32) (iota Kind.tc S256x2 32 [1] iota_S256x2_d1_w32) (k0_pay34 w17) (k0_pay35 w19) (k0_pay36 w21) (k0_pay50 w24) (k0_pay51 w24 w29) w32 (ix2 r j) = (dscore Q A B ls (g1 D) (g1 O) r j : EReal) := by
  have ha : ∀ j d, k0_pay50 w24 (ix2 j d) = (A j d : EReal) := fun j d => by pointwise [k0_pay50]; exact H.a j d
  have ho : ∀ r d, (k0_pay36 w21) (ix2 r d) = (O r d : EReal) := fun r d => by pointwise [k0_pay36]; exact H.o r d
  have hp := p1_B H
  have hg := g1_B H
  have hb : ∀ r d, k0_pay55 (iota Kind.tc S256x128 32 [1] iota_S256x128_d1_w32) (k0_pay35 w19) (ix2 r d) = (up (g1 D r) d : EReal) := fun r d => by pointwise [k0_pay55]; exact hg r d
  pointwise [k0_pay56, dot_S256x128_S2304x128_S256x2304_1_1_0_0_n_n, select_ge, ha, ho, hp, hg, hb]
  simp only [up_high, mul_zero, Finset.sum_const_zero, zero_add, ← EReal.coe_mul, ← coe_sum, ← EReal.coe_sub]
  rw [sum_up]
  rfl

theorem dq1_B (H : HoldsB w17 w19 w21 w24 w29 w32 Q A B ls D O 1) (r : Fin 256) (d : Fin 128) :
    k0_pay57 (iota Kind.tc S256x128 32 [1] iota_S256x128_d1_w32) (iota Kind.tc S256x2 32 [1] iota_S256x2_d1_w32) (k0_pay34 w17) (k0_pay35 w19) (k0_pay36 w21) (k0_pay50 w24) (k0_pay51 w24 w29) w32 (ix2 r d) = (dquery Q A B ls (g1 D) (g1 O) r d : EReal) := by
  pointwise [k0_pay57, dot_S256x2304_S2304x128_S256x128_1_0_0_1_n_n, ds1_B H, k1_B H]
  simp only [← EReal.coe_mul, ← coe_sum]
  rfl

theorem dk1_B (H : HoldsB w17 w19 w21 w24 w29 w32 Q A B ls D O 1) (j : Fin 2304) (d : Fin 128) :
    k0_pay58 (iota Kind.tc S256x128 32 [1] iota_S256x128_d1_w32) (iota Kind.tc S256x2 32 [1] iota_S256x2_d1_w32) (k0_pay34 w17) (k0_pay35 w19) (k0_pay36 w21) (k0_pay50 w24) (k0_pay51 w24 w29) w32 (ix2 j d) = (dkey Q A B ls (g1 D) (g1 O) j d : EReal) := by
  pointwise [k0_pay58, k0_pay52, dot_S256x2304_S256x128_S2304x128_0_0_1_1_n_n, ds1_B H, H.q]
  simp only [← EReal.coe_mul, ← coe_sum]
  rfl

theorem kv1_B (H : HoldsB w17 w19 w21 w24 w29 w32 Q A B ls D O 1) (w122 : Vec Ideal S2304x128 .f32) (j : Fin 2304) (d : Fin 128) :
    k0_pay5 (k0_pay59 w122) (k0_pay60 (iota Kind.tc S256x128 32 [1] iota_S256x128_d1_w32) (iota Kind.tc S2304x128 32 [1] iota_S2304x128_d1_w32) (iota Kind.tc S256x2 32 [1] iota_S256x2_d1_w32) (k0_pay34 w17) (k0_pay35 w19) (k0_pay36 w21) (k0_pay50 w24) (k0_pay51 w24 w29) w32) (ix2 j d)
      = w122 (ix2 j d) + (dkv Q A B ls (g1 D) (g1 O) j d : EReal) := by
  have hk := dk1_B H
  have hp := p1_B H
  have hg := g1_B H
  have hb : ∀ r d, k0_pay55 (iota Kind.tc S256x128 32 [1] iota_S256x128_d1_w32) (k0_pay35 w19) (ix2 r d) = (up (g1 D r) d : EReal) := fun r d => by pointwise [k0_pay55]; exact hg r d
  pointwise [k0_pay5, k0_pay59, k0_pay60, dot_S256x2304_S256x128_S2304x128_0_0_1_1_n_n, select_lt, hk, hp, hb]
  simp only [← EReal.coe_mul, ← coe_sum]
  unfold dkv
  split <;> rfl

theorem kr1_B (H : HoldsB w17 w19 w21 w24 w29 w32 Q A B ls D O 1) (v79 : FVec Ideal S2304x128 .f32) (w134 : Vec Ideal S2304x128 .f32) (j : Fin 2304) (d : Fin 128) :
    k0_pay6 (iota Kind.tc S2304x128 32 [1] iota_S2304x128_d1_w32) v79 (k0_pay58 (iota Kind.tc S256x128 32 [1] iota_S256x128_d1_w32) (iota Kind.tc S256x2 32 [1] iota_S256x2_d1_w32) (k0_pay34 w17) (k0_pay35 w19) (k0_pay36 w21) (k0_pay50 w24) (k0_pay51 w24 w29) w32) w134 (ix2 j d)
      = w134 (ix2 j d) + (v79 (ix2 j d) + (dshared Q A B ls (g1 D) (g1 O) j d : EReal)) := by
  have hk := dk1_B H
  generalize k0_pay58 (iota Kind.tc S256x128 32 [1] iota_S256x128_d1_w32) (iota Kind.tc S256x2 32 [1] iota_S256x2_d1_w32) (k0_pay34 w17) (k0_pay35 w19) (k0_pay36 w21) (k0_pay50 w24) (k0_pay51 w24 w29) w32 = v119 at *
  pointwise [k0_pay6, select_ge, hk]
  unfold dshared
  split <;> rfl

end

/-! ### The blocks -/

/-- The first 256 keys. -/
abbrev lo {α : Type} (X : Fin 2304 → α) : Fin 256 → α := fun j => X ((Fin.castLE (by decide) j : Fin 2304))

/-- The six operands' blocks at a point hold these real numbers. -/
structure Blocks (x0 : Vec Ideal S256x256 .bf16) (x1 : Vec Ideal S2304x256 .bf16) (x2 : Vec Ideal S2304x128 .bf16)
    (x3 : Vec Ideal S256x128 .f32) (x4 : Vec Ideal S1x256x2 .f32) (x5 : Vec Ideal S256x128 .f32)
    (Q : Fin 2 → Fin 256 → Fin 128 → ℝ) (KV : Fin 2 → Fin 2304 → Fin 128 → ℝ) (KR : Fin 2304 → Fin 128 → ℝ)
    (LS : Fin 2 → Fin 256 → ℝ) (D O : Fin 256 → Fin 128 → ℝ) : Prop where
  q : ∀ (h : Fin 2) r (d : Fin 128), x0 (ix2 r ⟨128 * h.val + d.val, by omega⟩) = (Q h r d : EReal)
  kv : ∀ (h : Fin 2) j (d : Fin 128), x1 (ix2 j ⟨128 * h.val + d.val, by omega⟩) = (KV h j d : EReal)
  kr : ∀ j d, x2 (ix2 j d) = (KR j d : EReal)
  o : ∀ r d, x3 (ix2 r d) = (O r d : EReal)
  l : ∀ r h, x4 (ix3 0 r h) = (LS h r : EReal)
  g : ∀ r d, x5 (ix2 r d) = (D r d : EReal)

theorem heads (h : Fin 2) : h = 0 ∨ h = 1 := by
  rcases h with ⟨_ | _ | h, hh⟩
  · exact .inl rfl
  · exact .inr rfl
  · exact absurd hh (by omega)

section

variable {N W n : ℕ} {α : Type}

theorem ld_lane {e : EltTy} {Val : EltTy → Type} (x : (⟨2, ![N, W]⟩ : Shape).Idx → Val e) (o : ℕ)
    (inb : ∀ a, (![0, o] : Fin 2 → ℕ) a + (![n, 128] : Fin 2 → ℕ) a ≤ (⟨2, ![N, W]⟩ : Shape).size a)
    (r' : Fin n) (d : Fin 128) (r : Fin N) (c : Fin W) (hr : r.val = r'.val) (hc : c.val = o + d.val) :
    View.ld x (Rect.unit (s := (⟨2, ![N, W]⟩ : Shape)) ![0, o] ![n, 128] inb) (ix2 r' d) = x (ix2 r c) := by
  refine View.ld_unit_apply_of x ![0, o] ![n, 128] inb (ix2 r' d) (ix2 r c) fun a => ?_
  rcases a with ⟨_ | _ | a, ha⟩
  · show r.val = 0 + r'.val
    omega
  · show c.val = o + d.val
    exact hc
  · exact absurd ha (by show ¬ (a + 1 + 1 < 2); omega)

theorem cov_lane {sg : RefSig} {κ : Kind} {sp : Space} {e : EltTy} {Val : EltTy → Type} [∀ e, Nonempty (Val e)]
    (v : View sg κ sp (⟨2, ![N, W]⟩ : Shape) e) (L : List (View.Piece Val (⟨2, ![N, W]⟩ : Shape) e)) (o : ℕ)
    (inb : ∀ a, (![0, o] : Fin 2 → ℕ) a + (![n, 128] : Fin 2 → ℕ) a ≤ (⟨2, ![N, W]⟩ : Shape).size a)
    (r' : Fin n) (d : Fin 128) (r : Fin N) (c : Fin W) (hr : r.val = r'.val) (hc : c.val = o + d.val) :
    v.readCov L (Rect.unit (s := (⟨2, ![N, W]⟩ : Shape)) ![0, o] ![n, 128] inb).toLoadRect (ix2 r' d)
      = v.read Val (v.writes Val v.junk L) (ix2 r c) :=
  ld_lane (v.read Val (v.writes Val v.junk L)) o inb r' d r c hr hc

end

section

variable {x0 : Vec Ideal S256x256 .bf16} {x1 : Vec Ideal S2304x256 .bf16} {x2 : Vec Ideal S2304x128 .bf16}
  {x3 : Vec Ideal S256x128 .f32} {x4 : Vec Ideal S1x256x2 .f32} {x5 : Vec Ideal S256x128 .f32}
  {Q : Fin 2 → Fin 256 → Fin 128 → ℝ} {KV : Fin 2 → Fin 2304 → Fin 128 → ℝ} {KR : Fin 2304 → Fin 128 → ℝ}
  {LS : Fin 2 → Fin 256 → ℝ} {D O : Fin 256 → Fin 128 → ℝ}

theorem holdsA0 (H : Blocks x0 x1 x2 x3 x4 x5 Q KV KR LS D O) :
    HoldsA (View.ld x4 (Rect.unit ![0, 0, 0] ![1, 256, 2] inb_S1x256x2_S1x256x2_0_0_0)) (View.ld x5 (Rect.unit ![0, 0] ![256, 128] inb_S256x128_S256x128_0_0))
      (View.ld x3 (Rect.unit ![0, 0] ![256, 128] inb_S256x128_S256x128_0_0)) (View.ld x1 (Rect.unit ![0, 0] ![256, 128] inb_S2304x256_S256x128_0_0))
      (View.ld x2 (Rect.unit ![0, 0] ![256, 128] inb_S2304x128_S256x128_0_0)) (View.ld x0 (Rect.unit ![0, 0] ![256, 128] inb_S256x256_S256x128_0_0))
      (Q 0) (lo (KV 0)) (lo KR) (LS 0) D O 0 where
  l r := by pointwise; exact H.l r 0
  g r d := by pointwise; exact H.g r d
  o r d := by pointwise; exact H.o r d
  a j d := (ld_lane x1 0 _ j d ((Fin.castLE (by decide) j : Fin 2304)) ⟨128 * (0 : Fin 2).val + d.val, by show 128 * 0 + d.val < 256; omega⟩ rfl (by show 128 * 0 + d.val = 0 + d.val; omega)).trans (H.kv 0 ((Fin.castLE (by decide) j : Fin 2304)) d)
  b j d := (ld_lane x2 0 _ j d ((Fin.castLE (by decide) j : Fin 2304)) d rfl (by omega)).trans (H.kr ((Fin.castLE (by decide) j : Fin 2304)) d)
  q r d := (ld_lane _ 0 _ r d r ⟨128 * (0 : Fin 2).val + d.val, by show 128 * 0 + d.val < 256; omega⟩ rfl (by show 128 * 0 + d.val = 0 + d.val; omega)).trans (H.q 0 r d)

theorem holdsA1 (H : Blocks x0 x1 x2 x3 x4 x5 Q KV KR LS D O) :
    HoldsA (View.ld x4 (Rect.unit ![0, 0, 0] ![1, 256, 2] inb_S1x256x2_S1x256x2_0_0_0)) (View.ld x5 (Rect.unit ![0, 0] ![256, 128] inb_S256x128_S256x128_0_0))
      (View.ld x3 (Rect.unit ![0, 0] ![256, 128] inb_S256x128_S256x128_0_0)) (View.ld x1 (Rect.unit ![0, 128] ![256, 128] inb_S2304x256_S256x128_0_128))
      (View.ld x2 (Rect.unit ![0, 0] ![256, 128] inb_S2304x128_S256x128_0_0)) (View.ld x0 (Rect.unit ![0, 128] ![256, 128] inb_S256x256_S256x128_0_128))
      (Q 1) (lo (KV 1)) (lo KR) (LS 1) D O 1 where
  l r := by pointwise; exact H.l r 1
  g r d := by pointwise; exact H.g r d
  o r d := by pointwise; exact H.o r d
  a j d := (ld_lane x1 128 _ j d ((Fin.castLE (by decide) j : Fin 2304)) ⟨128 * (1 : Fin 2).val + d.val, by show 128 * 1 + d.val < 256; omega⟩ rfl (by show 128 * 1 + d.val = 128 + d.val; omega)).trans (H.kv 1 ((Fin.castLE (by decide) j : Fin 2304)) d)
  b j d := (ld_lane x2 0 _ j d ((Fin.castLE (by decide) j : Fin 2304)) d rfl (by omega)).trans (H.kr ((Fin.castLE (by decide) j : Fin 2304)) d)
  q r d := (ld_lane _ 128 _ r d r ⟨128 * (1 : Fin 2).val + d.val, by show 128 * 1 + d.val < 256; omega⟩ rfl (by show 128 * 1 + d.val = 128 + d.val; omega)).trans (H.q 1 r d)

theorem holdsB0 (H : Blocks x0 x1 x2 x3 x4 x5 Q KV KR LS D O) :
    HoldsB (View.ld x4 (Rect.unit ![0, 0, 0] ![1, 256, 2] inb_S1x256x2_S1x256x2_0_0_0)) (View.ld x5 (Rect.unit ![0, 0] ![256, 128] inb_S256x128_S256x128_0_0))
      (View.ld x3 (Rect.unit ![0, 0] ![256, 128] inb_S256x128_S256x128_0_0)) (View.ld x1 (Rect.unit ![0, 0] ![2304, 128] inb_S2304x256_S2304x128_0_0))
      (View.ld x2 (Rect.unit ![0, 0] ![2304, 128] inb_S2304x128_S2304x128_0_0)) (View.ld x0 (Rect.unit ![0, 0] ![256, 128] inb_S256x256_S256x128_0_0))
      (Q 0) (KV 0) KR (LS 0) D O 0 where
  l r := by pointwise; exact H.l r 0
  g r d := by pointwise; exact H.g r d
  o r d := by pointwise; exact H.o r d
  a j d := (ld_lane x1 0 _ j d j ⟨128 * (0 : Fin 2).val + d.val, by show 128 * 0 + d.val < 256; omega⟩ rfl (by show 128 * 0 + d.val = 0 + d.val; omega)).trans (H.kv 0 j d)
  b j d := (ld_lane x2 0 _ j d j d rfl (by omega)).trans (H.kr j d)
  q r d := (ld_lane _ 0 _ r d r ⟨128 * (0 : Fin 2).val + d.val, by show 128 * 0 + d.val < 256; omega⟩ rfl (by show 128 * 0 + d.val = 0 + d.val; omega)).trans (H.q 0 r d)

theorem holdsB1 (H : Blocks x0 x1 x2 x3 x4 x5 Q KV KR LS D O) :
    HoldsB (View.ld x4 (Rect.unit ![0, 0, 0] ![1, 256, 2] inb_S1x256x2_S1x256x2_0_0_0)) (View.ld x5 (Rect.unit ![0, 0] ![256, 128] inb_S256x128_S256x128_0_0))
      (View.ld x3 (Rect.unit ![0, 0] ![256, 128] inb_S256x128_S256x128_0_0)) (View.ld x1 (Rect.unit ![0, 128] ![2304, 128] inb_S2304x256_S2304x128_0_128))
      (View.ld x2 (Rect.unit ![0, 0] ![2304, 128] inb_S2304x128_S2304x128_0_0)) (View.ld x0 (Rect.unit ![0, 128] ![256, 128] inb_S256x256_S256x128_0_128))
      (Q 1) (KV 1) KR (LS 1) D O 1 where
  l r := by pointwise; exact H.l r 1
  g r d := by pointwise; exact H.g r d
  o r d := by pointwise; exact H.o r d
  a j d := (ld_lane x1 128 _ j d j ⟨128 * (1 : Fin 2).val + d.val, by show 128 * 1 + d.val < 256; omega⟩ rfl (by show 128 * 1 + d.val = 128 + d.val; omega)).trans (H.kv 1 j d)
  b j d := (ld_lane x2 0 _ j d j d rfl (by omega)).trans (H.kr j d)
  q r d := (ld_lane _ 128 _ r d r ⟨128 * (1 : Fin 2).val + d.val, by show 128 * 1 + d.val < 256; omega⟩ rfl (by show 128 * 1 + d.val = 128 + d.val; omega)).trans (H.q 1 r d)

theorem zero_kv (r : Fin 2304) (c : Fin 256) : (k0_pay1 : FVec Ideal S2304x256 .f32) (ix2 r c) = 0 := by pointwise [k0_pay1]

theorem zero_kr (r : Fin 2304) (c : Fin 128) : (k0_pay2 : FVec Ideal S2304x128 .f32) (ix2 r c) = 0 := by pointwise [k0_pay2]

end

section

variable (c : Dev nD) (i : grid0.Coords) (arg3 : Memref sig .tc .vmem S256x256 .bf16) (harg3 : arg3.IsWhole) (arg4 : Memref sig .tc .vmem S2304x256 .bf16) (harg4 : arg4.IsWhole) (arg5 : Memref sig .tc .vmem S2304x128 .bf16) (harg5 : arg5.IsWhole) (arg6 : Memref sig .tc .vmem S256x128 .f32) (harg6 : arg6.IsWhole) (arg7 : Memref sig .tc .vmem S1x256x2 .f32) (harg7 : arg7.IsWhole) (arg8 : Memref sig .tc .vmem S256x128 .f32) (harg8 : arg8.IsWhole) (arg9 : Memref sig .tc .vmem S256x256 .f32) (harg9 : arg9.IsWhole) (arg10 : Memref sig .tc .vmem S2304x256 .f32) (harg10 : arg10.IsWhole) (arg11 : Memref sig .tc .vmem S2304x128 .f32) (harg11 : arg11.IsWhole) (hc0 : cond0_0 i) (hc1 : cond0_1 i) (hc2 : cond0_2 i) (hc3 : ¬cond0_3 i)
  (x0 : Vec Ideal S256x256 .bf16) (x1 : Vec Ideal S2304x256 .bf16) (x2 : Vec Ideal S2304x128 .bf16) (x3 : Vec Ideal S256x128 .f32) (x4 : Vec Ideal S1x256x2 .f32) (x5 : Vec Ideal S256x128 .f32)
  {Q : Fin 2 → Fin 256 → Fin 128 → ℝ} {KV : Fin 2 → Fin 2304 → Fin 128 → ℝ} {KR : Fin 2304 → Fin 128 → ℝ}
  {LS : Fin 2 → Fin 256 → ℝ} {D O : Fin 256 → Fin 128 → ℝ} (H : Blocks x0 x1 x2 x3 x4 x5 Q KV KR LS D O)

include H

theorem dq_A (r : Fin 256) (h : Fin 2) (d : Fin 128) :
    out0_A_6 c i arg3 harg3 arg4 harg4 arg5 harg5 arg6 harg6 arg7 harg7 arg8 harg8 arg9 harg9 arg10 harg10 arg11 harg11 hc0 hc1 hc2 hc3 x0 x1 x2 x3 x4 x5 (ix2 r ⟨128 * h.val + d.val, by omega⟩)
      = (dquery (Q h) (lo (KV h)) (lo KR) (LS h) (fun r => half h (D r)) (fun r => half h (O r)) r d : EReal) := by
  unfold out0_A_6 kernelRun0_A; dsimp only; sl_unfold_words
  simp only [View.readAt_eq_ld, harg3.read_unread, harg4.read_unread, harg5.read_unread, harg6.read_unread, harg7.read_unread, harg8.read_unread, harg9.read_unread, harg10.read_unread, harg11.read_unread]
  rcases heads h with rfl | rfl
  · refine (read_miss_lane _ _ 128 _ _ _ _ _ (.inl ?_)).trans ?_
    · show 128 * 0 + d.val < 128
      omega
    refine (read_hit _ _ 0 _ _ _ _ _ r d rfl ?_).trans (dq0_A (holdsA0 H) r d)
    show 128 * 0 + d.val = 0 + d.val
    omega
  · exact (read_hit _ _ 128 _ _ _ _ _ r d rfl rfl).trans (dq1_A (holdsA1 H) r d)

theorem dkv_A (j : Fin 2304) (h : Fin 2) (d : Fin 128) :
    out0_A_7 c i arg3 harg3 arg4 harg4 arg5 harg5 arg6 harg6 arg7 harg7 arg8 harg8 arg9 harg9 arg10 harg10 arg11 harg11 hc0 hc1 hc2 hc3 x0 x1 x2 x3 x4 x5 (ix2 j ⟨128 * h.val + d.val, by omega⟩)
      = ((if hj : j.val < 256 then dkv (Q h) (lo (KV h)) (lo KR) (LS h) (fun r => half h (D r)) (fun r => half h (O r)) ⟨j.val, hj⟩ d else 0 : ℝ) : EReal) := by
  unfold out0_A_7 kernelRun0_A; dsimp only; sl_unfold_words
  simp only [View.readAt_eq_ld, harg3.read_unread, harg4.read_unread, harg5.read_unread, harg6.read_unread, harg7.read_unread, harg8.read_unread, harg9.read_unread, harg10.read_unread, harg11.read_unread]
  by_cases hj : j.val < 256
  · rw [dif_pos hj]
    rcases heads h with rfl | rfl
    · refine (read_miss_lane _ _ 128 _ _ _ _ _ (.inl ?_)).trans ?_
      · show 128 * 0 + d.val < 128
        omega
      refine (read_hit _ _ 0 _ _ _ _ _ ⟨j.val, hj⟩ d (by rfl) ?_).trans ?_
      · show 128 * 0 + d.val = 0 + d.val
        omega
      · refine (kv0_A (holdsA0 H) _ ⟨j.val, hj⟩ d).trans ?_
        rw [cov_lane _ _ 0 _ ⟨j.val, hj⟩ d j ⟨128 * (0 : Fin 2).val + d.val, by show 128 * 0 + d.val < 256; omega⟩ rfl (by show 128 * 0 + d.val = 0 + d.val; omega)]
        refine (congrArg (· + _) ((read_whole _ _ _ _ _ _ _).trans (zero_kv _ _))).trans ?_
        exact zero_add _
    · refine (read_hit _ _ 128 _ _ _ _ _ ⟨j.val, hj⟩ d (by rfl) (by rfl)).trans ?_
      refine (kv1_A (holdsA1 H) _ ⟨j.val, hj⟩ d).trans ?_
      rw [cov_lane _ _ 128 _ ⟨j.val, hj⟩ d j ⟨128 * (1 : Fin 2).val + d.val, by show 128 * 1 + d.val < 256; omega⟩ rfl rfl]
      refine (congrArg (· + _) ((read_miss_lane _ _ 0 _ _ _ _ _ (.inr ?_)).trans ((read_whole _ _ _ _ _ _ _).trans (zero_kv _ _)))).trans ?_
      · show 0 + 128 ≤ 128 * 1 + d.val
        omega
      · exact zero_add _
  · rw [dif_neg hj]
    refine (read_miss_row _ _ 128 _ _ _ _ _ (by omega)).trans ((read_miss_row _ _ 0 _ _ _ _ _ (by omega)).trans ?_)
    exact (read_whole _ _ _ _ _ _ _).trans (zero_kv _ _)

theorem dkr_A (j : Fin 2304) (d : Fin 128) :
    out0_A_8 c i arg3 harg3 arg4 harg4 arg5 harg5 arg6 harg6 arg7 harg7 arg8 harg8 arg9 harg9 arg10 harg10 arg11 harg11 hc0 hc1 hc2 hc3 x0 x1 x2 x3 x4 x5 (ix2 j d)
      = ((if hj : j.val < 256 then dshared (Q 0) (lo (KV 0)) (lo KR) (LS 0) (fun r => half 0 (D r)) (fun r => half 0 (O r)) ⟨j.val, hj⟩ d
          + dshared (Q 1) (lo (KV 1)) (lo KR) (LS 1) (fun r => half 1 (D r)) (fun r => half 1 (O r)) ⟨j.val, hj⟩ d else 0 : ℝ) : EReal) := by
  unfold out0_A_8 kernelRun0_A; dsimp only; sl_unfold_words
  simp only [View.readAt_eq_ld, harg3.read_unread, harg4.read_unread, harg5.read_unread, harg6.read_unread, harg7.read_unread, harg8.read_unread, harg9.read_unread, harg10.read_unread, harg11.read_unread]
  by_cases hj : j.val < 256
  · rw [dif_pos hj]
    refine (read_hit _ _ 0 _ _ _ _ _ ⟨j.val, hj⟩ d (by rfl) (by exact (Nat.zero_add _).symm)).trans ?_
    refine (kr1_A (holdsA1 H) _ _ ⟨j.val, hj⟩ d).trans ?_
    rw [kr0_A (holdsA0 H), cov_lane _ _ 0 _ ⟨j.val, hj⟩ d j d rfl (by omega)]
    refine (congrArg (· + _) ((read_whole _ _ _ _ _ _ _).trans (zero_kr _ _))).trans ?_
    rw [zero_add, EReal.coe_add]
  · rw [dif_neg hj]
    refine (read_miss_row _ _ 0 _ _ _ _ _ (by omega)).trans ?_
    exact (read_whole _ _ _ _ _ _ _).trans (zero_kr _ _)

end

section

variable (c : Dev nD) (i : grid0.Coords) (arg3 : Memref sig .tc .vmem S256x256 .bf16) (harg3 : arg3.IsWhole) (arg4 : Memref sig .tc .vmem S2304x256 .bf16) (harg4 : arg4.IsWhole) (arg5 : Memref sig .tc .vmem S2304x128 .bf16) (harg5 : arg5.IsWhole) (arg6 : Memref sig .tc .vmem S256x128 .f32) (harg6 : arg6.IsWhole) (arg7 : Memref sig .tc .vmem S1x256x2 .f32) (harg7 : arg7.IsWhole) (arg8 : Memref sig .tc .vmem S256x128 .f32) (harg8 : arg8.IsWhole) (arg9 : Memref sig .tc .vmem S256x256 .f32) (harg9 : arg9.IsWhole) (arg10 : Memref sig .tc .vmem S2304x256 .f32) (harg10 : arg10.IsWhole) (arg11 : Memref sig .tc .vmem S2304x128 .f32) (harg11 : arg11.IsWhole) (hc0 : ¬cond0_0 i) (hc1 : ¬cond0_1 i) (hc2 : ¬cond0_2 i) (hc3 : cond0_3 i)
  (x0 : Vec Ideal S256x256 .bf16) (x1 : Vec Ideal S2304x256 .bf16) (x2 : Vec Ideal S2304x128 .bf16) (x3 : Vec Ideal S256x128 .f32) (x4 : Vec Ideal S1x256x2 .f32) (x5 : Vec Ideal S256x128 .f32) (xo7 : Vec Ideal S2304x256 .f32) (xo8 : Vec Ideal S2304x128 .f32)
  {Q : Fin 2 → Fin 256 → Fin 128 → ℝ} {KV : Fin 2 → Fin 2304 → Fin 128 → ℝ} {KR : Fin 2304 → Fin 128 → ℝ}
  {LS : Fin 2 → Fin 256 → ℝ} {D O : Fin 256 → Fin 128 → ℝ} (H : Blocks x0 x1 x2 x3 x4 x5 Q KV KR LS D O)

include H

theorem dq_B (r : Fin 256) (h : Fin 2) (d : Fin 128) :
    out0_B_6 c i arg3 harg3 arg4 harg4 arg5 harg5 arg6 harg6 arg7 harg7 arg8 harg8 arg9 harg9 arg10 harg10 arg11 harg11 hc0 hc1 hc2 hc3 x0 x1 x2 x3 x4 x5 xo7 xo8 (ix2 r ⟨128 * h.val + d.val, by omega⟩)
      = (dquery (Q h) (KV h) KR (LS h) (fun r => half h (D r)) (fun r => half h (O r)) r d : EReal) := by
  unfold out0_B_6 kernelRun0_B; dsimp only; sl_unfold_words
  simp only [View.readAt_eq_ld, harg3.read_unread, harg4.read_unread, harg5.read_unread, harg6.read_unread, harg7.read_unread, harg8.read_unread, harg9.read_unread, harg10.read_unread, harg11.read_unread]
  rcases heads h with rfl | rfl
  · refine (read_miss_lane _ _ 128 _ _ _ _ _ (.inl ?_)).trans ?_
    · show 128 * 0 + d.val < 128
      omega
    refine (read_hit _ _ 0 _ _ _ _ _ r d rfl ?_).trans (dq0_B (holdsB0 H) r d)
    show 128 * 0 + d.val = 0 + d.val
    omega
  · exact (read_hit _ _ 128 _ _ _ _ _ r d rfl rfl).trans (dq1_B (holdsB1 H) r d)

theorem dkv_B (j : Fin 2304) (h : Fin 2) (d : Fin 128) :
    out0_B_7 c i arg3 harg3 arg4 harg4 arg5 harg5 arg6 harg6 arg7 harg7 arg8 harg8 arg9 harg9 arg10 harg10 arg11 harg11 hc0 hc1 hc2 hc3 x0 x1 x2 x3 x4 x5 xo7 xo8 (ix2 j ⟨128 * h.val + d.val, by omega⟩)
      = xo7 (ix2 j ⟨128 * h.val + d.val, by omega⟩)
        + (dkv (Q h) (KV h) KR (LS h) (fun r => half h (D r)) (fun r => half h (O r)) j d : EReal) := by
  unfold out0_B_7 kernelRun0_B; dsimp only; sl_unfold_words
  simp only [View.readAt_eq_ld, harg3.read_unread, harg4.read_unread, harg5.read_unread, harg6.read_unread, harg7.read_unread, harg8.read_unread, harg9.read_unread, harg10.read_unread, harg11.read_unread]
  rcases heads h with rfl | rfl
  · refine (read_miss_lane _ _ 128 _ _ _ _ _ (.inl ?_)).trans ?_
    · show 128 * 0 + d.val < 128
      omega
    refine (read_hit _ _ 0 _ _ _ _ _ j d rfl ?_).trans ((kv0_B (holdsB0 H) _ j d).trans ?_)
    · show 128 * 0 + d.val = 0 + d.val
      omega
    · rw [ld_lane xo7 0 _ j d j ⟨128 * (0 : Fin 2).val + d.val, by show 128 * 0 + d.val < 256; omega⟩ rfl (by show 128 * 0 + d.val = 0 + d.val; omega)]
  · refine (read_hit _ _ 128 _ _ _ _ _ j d rfl rfl).trans ((kv1_B (holdsB1 H) _ j d).trans ?_)
    rw [ld_lane xo7 128 _ j d j ⟨128 * (1 : Fin 2).val + d.val, by show 128 * 1 + d.val < 256; omega⟩ rfl rfl]

theorem dkr_B (j : Fin 2304) (d : Fin 128) :
    out0_B_8 c i arg3 harg3 arg4 harg4 arg5 harg5 arg6 harg6 arg7 harg7 arg8 harg8 arg9 harg9 arg10 harg10 arg11 harg11 hc0 hc1 hc2 hc3 x0 x1 x2 x3 x4 x5 xo7 xo8 (ix2 j d)
      = xo8 (ix2 j d) + ((dshared (Q 0) (KV 0) KR (LS 0) (fun r => half 0 (D r)) (fun r => half 0 (O r)) j d
          + dshared (Q 1) (KV 1) KR (LS 1) (fun r => half 1 (D r)) (fun r => half 1 (O r)) j d : ℝ) : EReal) := by
  unfold out0_B_8 kernelRun0_B; dsimp only; sl_unfold_words
  simp only [View.readAt_eq_ld, harg3.read_unread, harg4.read_unread, harg5.read_unread, harg6.read_unread, harg7.read_unread, harg8.read_unread, harg9.read_unread, harg10.read_unread, harg11.read_unread]
  refine (read_hit _ _ 0 _ _ _ _ _ j d rfl (by omega)).trans ((kr1_B (holdsB1 H) _ _ j d).trans ?_)
  rw [kr0_B (holdsB0 H), ld_lane xo8 0 _ j d j d rfl (by omega), EReal.coe_add]

end

section

variable (c : Dev nD) (i : grid0.Coords) (arg3 : Memref sig .tc .vmem S256x256 .bf16) (harg3 : arg3.IsWhole) (arg4 : Memref sig .tc .vmem S2304x256 .bf16) (harg4 : arg4.IsWhole) (arg5 : Memref sig .tc .vmem S2304x128 .bf16) (harg5 : arg5.IsWhole) (arg6 : Memref sig .tc .vmem S256x128 .f32) (harg6 : arg6.IsWhole) (arg7 : Memref sig .tc .vmem S1x256x2 .f32) (harg7 : arg7.IsWhole) (arg8 : Memref sig .tc .vmem S256x128 .f32) (harg8 : arg8.IsWhole) (arg9 : Memref sig .tc .vmem S256x256 .f32) (harg9 : arg9.IsWhole) (arg10 : Memref sig .tc .vmem S2304x256 .f32) (harg10 : arg10.IsWhole) (arg11 : Memref sig .tc .vmem S2304x128 .f32) (harg11 : arg11.IsWhole) (hc0 : cond0_0 i) (hc1 : ¬cond0_1 i) (hc2 : cond0_2 i) (hc3 : ¬cond0_3 i)
  (x0 : Vec Ideal S256x256 .bf16) (x1 : Vec Ideal S2304x256 .bf16) (x2 : Vec Ideal S2304x128 .bf16) (x3 : Vec Ideal S256x128 .f32) (x4 : Vec Ideal S1x256x2 .f32) (x5 : Vec Ideal S256x128 .f32) (xo8 : Vec Ideal S2304x128 .f32)
  {Q : Fin 2 → Fin 256 → Fin 128 → ℝ} {KV : Fin 2 → Fin 2304 → Fin 128 → ℝ} {KR : Fin 2304 → Fin 128 → ℝ}
  {LS : Fin 2 → Fin 256 → ℝ} {D O : Fin 256 → Fin 128 → ℝ} (H : Blocks x0 x1 x2 x3 x4 x5 Q KV KR LS D O)

include H

theorem dq_C (r : Fin 256) (h : Fin 2) (d : Fin 128) :
    out0_C_6 c i arg3 harg3 arg4 harg4 arg5 harg5 arg6 harg6 arg7 harg7 arg8 harg8 arg9 harg9 arg10 harg10 arg11 harg11 hc0 hc1 hc2 hc3 x0 x1 x2 x3 x4 x5 xo8 (ix2 r ⟨128 * h.val + d.val, by omega⟩)
      = (dquery (Q h) (lo (KV h)) (lo KR) (LS h) (fun r => half h (D r)) (fun r => half h (O r)) r d : EReal) := by
  unfold out0_C_6 kernelRun0_C; dsimp only; sl_unfold_words
  simp only [View.readAt_eq_ld, harg3.read_unread, harg4.read_unread, harg5.read_unread, harg6.read_unread, harg7.read_unread, harg8.read_unread, harg9.read_unread, harg10.read_unread, harg11.read_unread]
  rcases heads h with rfl | rfl
  · refine (read_miss_lane _ _ 128 _ _ _ _ _ (.inl ?_)).trans ?_
    · show 128 * 0 + d.val < 128
      omega
    refine (read_hit _ _ 0 _ _ _ _ _ r d rfl ?_).trans (dq0_A (holdsA0 H) r d)
    show 128 * 0 + d.val = 0 + d.val
    omega
  · exact (read_hit _ _ 128 _ _ _ _ _ r d rfl rfl).trans (dq1_A (holdsA1 H) r d)

theorem dkv_C (j : Fin 2304) (h : Fin 2) (d : Fin 128) :
    out0_C_7 c i arg3 harg3 arg4 harg4 arg5 harg5 arg6 harg6 arg7 harg7 arg8 harg8 arg9 harg9 arg10 harg10 arg11 harg11 hc0 hc1 hc2 hc3 x0 x1 x2 x3 x4 x5 xo8 (ix2 j ⟨128 * h.val + d.val, by omega⟩)
      = ((if hj : j.val < 256 then dkv (Q h) (lo (KV h)) (lo KR) (LS h) (fun r => half h (D r)) (fun r => half h (O r)) ⟨j.val, hj⟩ d else 0 : ℝ) : EReal) := by
  unfold out0_C_7 kernelRun0_C; dsimp only; sl_unfold_words
  simp only [View.readAt_eq_ld, harg3.read_unread, harg4.read_unread, harg5.read_unread, harg6.read_unread, harg7.read_unread, harg8.read_unread, harg9.read_unread, harg10.read_unread, harg11.read_unread]
  by_cases hj : j.val < 256
  · rw [dif_pos hj]
    rcases heads h with rfl | rfl
    · refine (read_miss_lane _ _ 128 _ _ _ _ _ (.inl ?_)).trans ?_
      · show 128 * 0 + d.val < 128
        omega
      refine (read_hit _ _ 0 _ _ _ _ _ ⟨j.val, hj⟩ d (by rfl) ?_).trans ?_
      · show 128 * 0 + d.val = 0 + d.val
        omega
      · refine (kv0_A (holdsA0 H) _ ⟨j.val, hj⟩ d).trans ?_
        rw [cov_lane _ _ 0 _ ⟨j.val, hj⟩ d j ⟨128 * (0 : Fin 2).val + d.val, by show 128 * 0 + d.val < 256; omega⟩ rfl (by show 128 * 0 + d.val = 0 + d.val; omega)]
        refine (congrArg (· + _) ((read_whole _ _ _ _ _ _ _).trans (zero_kv _ _))).trans ?_
        exact zero_add _
    · refine (read_hit _ _ 128 _ _ _ _ _ ⟨j.val, hj⟩ d (by rfl) (by rfl)).trans ?_
      refine (kv1_A (holdsA1 H) _ ⟨j.val, hj⟩ d).trans ?_
      rw [cov_lane _ _ 128 _ ⟨j.val, hj⟩ d j ⟨128 * (1 : Fin 2).val + d.val, by show 128 * 1 + d.val < 256; omega⟩ rfl rfl]
      refine (congrArg (· + _) ((read_miss_lane _ _ 0 _ _ _ _ _ (.inr ?_)).trans ((read_whole _ _ _ _ _ _ _).trans (zero_kv _ _)))).trans ?_
      · show 0 + 128 ≤ 128 * 1 + d.val
        omega
      · exact zero_add _
  · rw [dif_neg hj]
    refine (read_miss_row _ _ 128 _ _ _ _ _ (by omega)).trans ((read_miss_row _ _ 0 _ _ _ _ _ (by omega)).trans ?_)
    exact (read_whole _ _ _ _ _ _ _).trans (zero_kv _ _)

theorem dkr_C (j : Fin 2304) (d : Fin 128) :
    out0_C_8 c i arg3 harg3 arg4 harg4 arg5 harg5 arg6 harg6 arg7 harg7 arg8 harg8 arg9 harg9 arg10 harg10 arg11 harg11 hc0 hc1 hc2 hc3 x0 x1 x2 x3 x4 x5 xo8 (ix2 j d)
      = xo8 (ix2 j d) + ((if hj : j.val < 256 then dshared (Q 0) (lo (KV 0)) (lo KR) (LS 0) (fun r => half 0 (D r)) (fun r => half 0 (O r)) ⟨j.val, hj⟩ d
          + dshared (Q 1) (lo (KV 1)) (lo KR) (LS 1) (fun r => half 1 (D r)) (fun r => half 1 (O r)) ⟨j.val, hj⟩ d else 0 : ℝ) : EReal) := by
  unfold out0_C_8 kernelRun0_C; dsimp only; sl_unfold_words
  simp only [View.readAt_eq_ld, harg3.read_unread, harg4.read_unread, harg5.read_unread, harg6.read_unread, harg7.read_unread, harg8.read_unread, harg9.read_unread, harg10.read_unread, harg11.read_unread]
  by_cases hj : j.val < 256
  · rw [dif_pos hj]
    refine (read_hit _ _ 0 _ _ _ _ _ ⟨j.val, hj⟩ d (by rfl) (by exact (Nat.zero_add _).symm)).trans ?_
    refine (kr1_A (holdsA1 H) _ _ ⟨j.val, hj⟩ d).trans ?_
    rw [kr0_A (holdsA0 H), ld_lane xo8 0 _ ⟨j.val, hj⟩ d j d rfl (by omega), EReal.coe_add]
  · rw [dif_neg hj]
    refine (read_miss_row _ _ 0 _ _ _ _ _ (by omega)).trans ?_
    rw [View.writes_nil, harg11.read_unread]
    exact (add_zero _).symm

end

end Cert.KernelBlock

end
-- ==== Proof.KernelReal.lean ====
/- The numbers the gradient call's body leaves, as parts of the attention's gradients. -/
module

public import proofs.«01_k».proof.Proof.Grad
public import proofs.«01_k».proof.Proof.KernelBlock

@[expose] public section

set_option maxRecDepth 16384

noncomputable section

namespace Cert.KernelReal

open Idealize.ShloMosaic Cert.Reals Cert.Spec Cert.FwdRef Cert.Grad Cert.KernelBlock

/-- Two heads' 64 lanes side by side. -/
def pair (f : Fin 2 → Fin 64 → ℝ) (c : Fin 128) : ℝ := f ⟨c.val / 64, by omega⟩ ⟨c.val % 64, by omega⟩

theorem half_pair (f : Fin 2 → Fin 64 → ℝ) (e : Fin 2) : half e (pair f) = f e := by
  funext d
  unfold half pair
  have h1 : (⟨(64 * e.val + d.val) / 64, by omega⟩ : Fin 2) = e := Fin.ext (by show (64 * e.val + d.val) / 64 = e.val; omega)
  have h2 : (⟨(64 * e.val + d.val) % 64, by omega⟩ : Fin 64) = d := Fin.ext (by show (64 * e.val + d.val) % 64 = d.val; omega)
  exact congrArg₂ f h1 h2

variable (q : Fin 4 → Fin 2304 → Fin 8 → Fin 96 → ℝ) (kv : Fin 4 → Fin 2304 → Fin 8 → Fin 128 → ℝ)
  (kr : Fin 4 → Fin 2304 → Fin 32 → ℝ) (g : Fin 4 → Fin 2304 → Fin 8 → Fin 64 → ℝ)

section

variable {n : ℕ} [Nonempty (Fin n)] (hn : n ≤ 2304) (b : Fin 4) (h : Fin 8) (T : Fin 256 → Fin 2304) (ls : Fin 256 → ℝ) (gb o : Fin 256 → Fin 64 → ℝ)

theorem prob_eq (hl : ∀ r, ls r = lse (score q kv kr hn b h (T r))) (r : Fin 256) (j : Fin n) :
    prob (fun r => qp q b (T r) h) (fun j : Fin n => kv b (Fin.castLE hn j) h) (fun j => krp kr b (Fin.castLE hn j)) ls r j
      = sm (score q kv kr hn b h (T r)) j := by
  unfold prob
  rw [hl, dot_kk]
  exact exp_sub_lse (score q kv kr hn b h (T r)) j

theorem dscore_eq (hl : ∀ r, ls r = lse (score q kv kr hn b h (T r))) (hg : ∀ r, gb r = g b (T r) h) (ho : ∀ r, o r = out q kv kr hn b h (T r))
    (r : Fin 256) (j : Fin n) :
    dscore (fun r => qp q b (T r) h) (fun j : Fin n => kv b (Fin.castLE hn j) h) (fun j => krp kr b (Fin.castLE hn j)) ls gb o r j
      = dS q kv kr g hn b h (T r) j := by
  unfold dscore
  rw [prob_eq q kv kr hn b h T ls hl, hg, ho, dS]
  refine congrArg (fun x => sm (score q kv kr hn b h (T r)) j * (dP kv g hn b h (T r) j - x)) ?_
  unfold out dP
  simp only [Finset.mul_sum]
  rw [Finset.sum_comm]
  exact Finset.sum_congr rfl fun i _ => Finset.sum_congr rfl fun d _ => mul_left_comm _ _ _

theorem dquery_eq (hl : ∀ r, ls r = lse (score q kv kr hn b h (T r))) (hg : ∀ r, gb r = g b (T r) h) (ho : ∀ r, o r = out q kv kr hn b h (T r))
    (r : Fin 256) (d : Fin 128) :
    dquery (fun r => qp q b (T r) h) (fun j : Fin n => kv b (Fin.castLE hn j) h) (fun j => krp kr b (Fin.castLE hn j)) ls gb o r d
      = if hd : d.val < 96 then ∑ j, dS q kv kr g hn b h (T r) j * kk kv kr b (Fin.castLE hn j) h ⟨d.val, hd⟩ else 0 := by
  unfold dquery
  simp only [dscore_eq q kv kr g hn b h T ls gb o hl hg ho, key_kk]
  split
  · rfl
  · simp only [mul_zero, Finset.sum_const_zero]

end

/-- What a row adds to the gradient of a head's key lanes and values. -/
def part (b : Fin 4) (h : Fin 8) (k : Fin 2304) (d : Fin 128) (t : Fin 2304) : ℝ :=
  if d.val < 64 then scoreSlope q kv kr g b h t k * qp q b t h d else weight q kv kr b h t k * up (g b t h) d

/-- What a row adds, from one head, to the gradient of the shared key. -/
def partShared (b : Fin 4) (h : Fin 8) (k : Fin 2304) (d : Fin 128) (t : Fin 2304) : ℝ :=
  if d.val < 64 then 0 else scoreSlope q kv kr g b h t k * qp q b t h d

theorem sum_part (b : Fin 4) (h : Fin 8) (k : Fin 2304) (d : Fin 128) : ∑ t, part q kv kr g b h k d t = gkvLane q kv kr g b h k d := by
  unfold part gkvLane
  by_cases hd : d.val < 64
  · rw [dif_pos hd]
    exact Finset.sum_congr rfl fun t _ => by rw [if_pos hd, qp, dif_pos (by omega)]
  · rw [dif_neg hd]
    exact Finset.sum_congr rfl fun t _ => by rw [if_neg hd, up, dif_neg hd]

theorem sum_partShared (b : Fin 4) (k : Fin 2304) (d : Fin 128) :
    ∑ h : Fin 8, ∑ t, partShared q kv kr g b h k d t = gkrLane q kv kr g b k d := by
  unfold partShared gkrLane
  by_cases hd : d.val < 64
  · rw [dif_neg (by omega)]
    simp only [if_pos hd, Finset.sum_const_zero]
  · simp only [if_neg hd]
    by_cases h2 : d.val < 96
    · rw [dif_pos (by omega)]
      exact Finset.sum_congr rfl fun h _ => Finset.sum_congr rfl fun t _ => by rw [qp, dif_pos h2]
    · rw [dif_neg (by omega)]
      exact Finset.sum_eq_zero fun h _ => Finset.sum_eq_zero fun t _ => by rw [qp, dif_neg h2, mul_zero]

/-! ### One tile of queries -/

section

variable (b : Fin 4) (h : Fin 8) (i : Fin 9)

instance : Nonempty (Fin 256) := ⟨0⟩
instance : Nonempty (Fin 2304) := ⟨0⟩

/-- Tile 0's rows are the context's. -/
theorem row_ctx (hi : i.val = 0) (r : Fin 256) : (tileRow i r).val < 256 := by show 256 * i.val + r.val < 256; omega

theorem row_lat (hi : ¬ i.val = 0) (r : Fin 256) : ¬ (tileRow i r).val < 256 := by show ¬ 256 * i.val + r.val < 256; omega

theorem dquery_ctx (hi : i.val = 0) (r : Fin 256) (d : Fin 128) :
    dquery (fun r => qp q b (tileRow i r) h) (lo fun j => kv b j h) (lo fun j => krp kr b j) (fun r => lseRow q kv kr b h (tileRow i r))
      (fun r => g b (tileRow i r) h) (fun r => outRow q kv kr b h (tileRow i r)) r d = gqLane q kv kr g b h (tileRow i r) d := by
  refine (dquery_eq q kv kr g n256 b h (tileRow i) _ _ _ (fun r => if_pos (row_ctx i hi r)) (fun _ => rfl) (fun r => funext fun d => if_pos (row_ctx i hi r)) r d).trans ?_
  unfold gqLane gq
  simp only [if_pos (row_ctx i hi r)]

theorem dquery_lat (hi : ¬ i.val = 0) (r : Fin 256) (d : Fin 128) :
    dquery (fun r => qp q b (tileRow i r) h) (fun j => kv b j h) (fun j => krp kr b j) (fun r => lseRow q kv kr b h (tileRow i r))
      (fun r => g b (tileRow i r) h) (fun r => outRow q kv kr b h (tileRow i r)) r d = gqLane q kv kr g b h (tileRow i r) d := by
  refine (dquery_eq q kv kr g n2304 b h (tileRow i) _ _ _ (fun r => if_neg (row_lat i hi r)) (fun _ => rfl) (fun r => funext fun d => if_neg (row_lat i hi r)) r d).trans ?_
  unfold gqLane gq
  simp only [if_neg (row_lat i hi r)]

theorem slope_eq_ctx (hi : i.val = 0) (r : Fin 256) (j : Fin 2304) (hj : j.val < 256) :
    dscore (fun r => qp q b (tileRow i r) h) (lo fun j => kv b j h) (lo fun j => krp kr b j) (fun r => lseRow q kv kr b h (tileRow i r))
      (fun r => g b (tileRow i r) h) (fun r => outRow q kv kr b h (tileRow i r)) r ⟨j.val, hj⟩ = scoreSlope q kv kr g b h (tileRow i r) j := by
  refine (dscore_eq q kv kr g n256 b h (tileRow i) _ _ _ (fun r => if_pos (row_ctx i hi r)) (fun _ => rfl) (fun r => funext fun d => if_pos (row_ctx i hi r)) r _).trans ?_
  unfold scoreSlope
  rw [if_pos (row_ctx i hi r), dif_pos hj]

theorem slope_eq_lat (hi : ¬ i.val = 0) (r : Fin 256) (j : Fin 2304) :
    dscore (fun r => qp q b (tileRow i r) h) (fun j => kv b j h) (fun j => krp kr b j) (fun r => lseRow q kv kr b h (tileRow i r))
      (fun r => g b (tileRow i r) h) (fun r => outRow q kv kr b h (tileRow i r)) r j = scoreSlope q kv kr g b h (tileRow i r) j := by
  refine (dscore_eq q kv kr g n2304 b h (tileRow i) _ _ _ (fun r => if_neg (row_lat i hi r)) (fun _ => rfl) (fun r => funext fun d => if_neg (row_lat i hi r)) r j).trans ?_
  unfold scoreSlope
  rw [if_neg (row_lat i hi r)]

theorem weight_eq_ctx (hi : i.val = 0) (r : Fin 256) (j : Fin 2304) (hj : j.val < 256) :
    prob (fun r => qp q b (tileRow i r) h) (lo fun j => kv b j h) (lo fun j => krp kr b j) (fun r => lseRow q kv kr b h (tileRow i r)) r ⟨j.val, hj⟩
      = weight q kv kr b h (tileRow i r) j := by
  refine (prob_eq q kv kr n256 b h (tileRow i) _ (fun r => if_pos (row_ctx i hi r)) r _).trans ?_
  unfold weight
  rw [if_pos (row_ctx i hi r), dif_pos hj]

theorem weight_eq_lat (hi : ¬ i.val = 0) (r : Fin 256) (j : Fin 2304) :
    prob (fun r => qp q b (tileRow i r) h) (fun j => kv b j h) (fun j => krp kr b j) (fun r => lseRow q kv kr b h (tileRow i r)) r j
      = weight q kv kr b h (tileRow i r) j := by
  refine (prob_eq q kv kr n2304 b h (tileRow i) _ (fun r => if_neg (row_lat i hi r)) r j).trans ?_
  unfold weight
  rw [if_neg (row_lat i hi r)]

/-- A key past the context gets nothing from a context row. -/
theorem slope_zero (hi : i.val = 0) (r : Fin 256) (j : Fin 2304) (hj : ¬ j.val < 256) : scoreSlope q kv kr g b h (tileRow i r) j = 0 := by
  unfold scoreSlope
  rw [if_pos (row_ctx i hi r), dif_neg hj]

theorem weight_zero (hi : i.val = 0) (r : Fin 256) (j : Fin 2304) (hj : ¬ j.val < 256) : weight q kv kr b h (tileRow i r) j = 0 := by
  unfold weight
  rw [if_pos (row_ctx i hi r), dif_neg hj]

theorem dkv_ctx (hi : i.val = 0) (j : Fin 2304) (d : Fin 128) :
    (if hj : j.val < 256 then dkv (fun r => qp q b (tileRow i r) h) (lo fun j => kv b j h) (lo fun j => krp kr b j) (fun r => lseRow q kv kr b h (tileRow i r))
      (fun r => g b (tileRow i r) h) (fun r => outRow q kv kr b h (tileRow i r)) ⟨j.val, hj⟩ d else 0) = ∑ r, part q kv kr g b h j d (tileRow i r) := by
  unfold dkv dkey dvalue part
  split
  · rename_i hj
    simp only [slope_eq_ctx q kv kr g b h i hi _ j hj, weight_eq_ctx q kv kr b h i hi _ j hj]
    split <;> rfl
  · rename_i hj
    simp only [slope_zero q kv kr g b h i hi _ j hj, weight_zero q kv kr b h i hi _ j hj, zero_mul, ite_self, Finset.sum_const_zero]

theorem dkv_lat (hi : ¬ i.val = 0) (j : Fin 2304) (d : Fin 128) :
    dkv (fun r => qp q b (tileRow i r) h) (fun j => kv b j h) (fun j => krp kr b j) (fun r => lseRow q kv kr b h (tileRow i r))
      (fun r => g b (tileRow i r) h) (fun r => outRow q kv kr b h (tileRow i r)) j d = ∑ r, part q kv kr g b h j d (tileRow i r) := by
  unfold dkv dkey dvalue part
  simp only [slope_eq_lat q kv kr g b h i hi, weight_eq_lat q kv kr b h i hi]
  split <;> rfl

theorem dshared_ctx (hi : i.val = 0) (j : Fin 2304) (hj : j.val < 256) (d : Fin 128) :
    dshared (fun r => qp q b (tileRow i r) h) (lo fun j => kv b j h) (lo fun j => krp kr b j) (fun r => lseRow q kv kr b h (tileRow i r))
      (fun r => g b (tileRow i r) h) (fun r => outRow q kv kr b h (tileRow i r)) ⟨j.val, hj⟩ d = ∑ r, partShared q kv kr g b h j d (tileRow i r) := by
  unfold dshared dkey partShared
  simp only [slope_eq_ctx q kv kr g b h i hi _ j hj]
  split
  · exact Finset.sum_const_zero.symm
  · rfl

theorem dshared_lat (hi : ¬ i.val = 0) (j : Fin 2304) (d : Fin 128) :
    dshared (fun r => qp q b (tileRow i r) h) (fun j => kv b j h) (fun j => krp kr b j) (fun r => lseRow q kv kr b h (tileRow i r))
      (fun r => g b (tileRow i r) h) (fun r => outRow q kv kr b h (tileRow i r)) j d = ∑ r, partShared q kv kr g b h j d (tileRow i r) := by
  unfold dshared dkey partShared
  simp only [slope_eq_lat q kv kr g b h i hi]
  split
  · exact Finset.sum_const_zero.symm
  · rfl

theorem shared_zero (hi : i.val = 0) (j : Fin 2304) (hj : ¬ j.val < 256) (d : Fin 128) : ∑ r, partShared q kv kr g b h j d (tileRow i r) = 0 := by
  unfold partShared
  simp only [slope_zero q kv kr g b h i hi _ j hj, zero_mul, ite_self, Finset.sum_const_zero]

end

end Cert.KernelReal

end
-- ==== Proof.KernelArrays.lean ====
/- What the gradient call's three arrays hold after the run, from real arguments. -/
module

public import proofs.«01_k».proof.Proof.KernelHost
public import proofs.«01_k».proof.Proof.KernelReal

@[expose] public section

set_option maxRecDepth 16384

noncomputable section

namespace Cert.KernelArrays

open Cert.KernelIdeal Cert.KernelIdeal.Gen Idealize.ShloMosaic Idealize.ShloMosaic.TcCoe Idealize.SL.Sem Cert.Reals Cert.Spec Cert.HostArrays Cert.FwdRef Cert.Grad Cert.KernelReal Cert.KernelBlock Cert.KernelHost
open Idealize.ShloMosaic.Pipeline (Dat)

/-! ### The grid -/

/-- The grid point of batch entry `b`, head pair `p` and query tile `j`. -/
def pt (b p : Fin 4) (j : Fin 9) : Fin cfg0.N := ⟨36 * b.val + 9 * p.val + j.val, by have h : cfg0.N = 144 := N_0; omega⟩

theorem pt_mod (b p : Fin 4) (j : Fin 9) : (pt b p j).val % 9 = j.val := by
  show (36 * b.val + 9 * p.val + j.val) % 9 = j.val; omega

theorem pt_mod36 (b p : Fin 4) (j : Fin 9) : (pt b p j).val % 36 = 9 * p.val + j.val := by
  show (36 * b.val + 9 * p.val + j.val) % 36 = 9 * p.val + j.val; omega

theorem index0 : ∀ (b p : Fin 4) (j : Fin 9), win0_0.index (pt b p j) (0 : Fin 2) = 9 * b.val + j.val ∧ win0_0.index (pt b p j) (1 : Fin 2) = p.val := by decide +kernel
theorem index1 : ∀ (b p : Fin 4) (j : Fin 9), win0_1.index (pt b p j) (0 : Fin 2) = b.val ∧ win0_1.index (pt b p j) (1 : Fin 2) = p.val := by decide +kernel
theorem index2 : ∀ (b p : Fin 4) (j : Fin 9), win0_2.index (pt b p j) (0 : Fin 2) = b.val ∧ win0_2.index (pt b p j) (1 : Fin 2) = 0 := by decide +kernel
theorem index3 : ∀ (b p : Fin 4) (j : Fin 9), win0_3.index (pt b p j) (0 : Fin 2) = 9 * b.val + j.val ∧ win0_3.index (pt b p j) (1 : Fin 2) = p.val := by decide +kernel
theorem index4 : ∀ (b p : Fin 4) (j : Fin 9), win0_4.index (pt b p j) (0 : Fin 3) = p.val ∧ win0_4.index (pt b p j) (1 : Fin 3) = 9 * b.val + j.val ∧ win0_4.index (pt b p j) (2 : Fin 3) = 0 := by decide +kernel
theorem index5 : ∀ (b p : Fin 4) (j : Fin 9), win0_5.index (pt b p j) (0 : Fin 2) = 9 * b.val + j.val ∧ win0_5.index (pt b p j) (1 : Fin 2) = p.val := by decide +kernel
theorem index6 : ∀ (b p : Fin 4) (j : Fin 9), win0_6.index (pt b p j) (0 : Fin 2) = 9 * b.val + j.val ∧ win0_6.index (pt b p j) (1 : Fin 2) = p.val := by decide +kernel
theorem index7 : ∀ (b p : Fin 4) (j : Fin 9), win0_7.index (pt b p j) (0 : Fin 2) = b.val ∧ win0_7.index (pt b p j) (1 : Fin 2) = p.val := by decide +kernel
theorem index8 : ∀ (b p : Fin 4) (j : Fin 9), win0_8.index (pt b p j) (0 : Fin 2) = b.val ∧ win0_8.index (pt b p j) (1 : Fin 2) = 0 := by decide +kernel

/-- Head `e` of head pair `p`. -/
abbrev headOf (p : Fin 4) (e : Fin 2) : Fin 8 := ⟨2 * p.val + e.val, by omega⟩

theorem emb0 (b p : Fin 4) (j : Fin 9) (r : Fin 256) (e : Fin 2) (d : Fin 128) :
    ((cfg0.win 0).blk (pt b p j)).view.emb (ix2 r (⟨128 * e.val + d.val, by omega⟩ : Fin 256)) = ix2 (rowOf b (tileRow j r)) (laneOf (headOf p e) d) := by
  obtain ⟨h0, h1⟩ := index0 b p j
  funext a
  apply Fin.ext
  match a with
  | ⟨0, _⟩ => show win0_0.index (pt b p j) (0 : Fin 2) * 256 + 1 * r.val = 2304 * b.val + (256 * j.val + r.val); omega
  | ⟨1, _⟩ => show win0_0.index (pt b p j) (1 : Fin 2) * 256 + 1 * (128 * e.val + d.val) = 128 * (2 * p.val + e.val) + d.val; omega

theorem emb1 (b p : Fin 4) (j : Fin 9) (k : Fin 2304) (e : Fin 2) (d : Fin 128) :
    ((cfg0.win 1).blk (pt b p j)).view.emb (ix2 k (⟨128 * e.val + d.val, by omega⟩ : Fin 256)) = ix2 (rowOf b k) (laneOf (headOf p e) d) := by
  obtain ⟨h0, h1⟩ := index1 b p j
  funext a
  apply Fin.ext
  match a with
  | ⟨0, _⟩ => show win0_1.index (pt b p j) (0 : Fin 2) * 2304 + 1 * k.val = 2304 * b.val + k.val; omega
  | ⟨1, _⟩ => show win0_1.index (pt b p j) (1 : Fin 2) * 256 + 1 * (128 * e.val + d.val) = 128 * (2 * p.val + e.val) + d.val; omega

theorem emb2 (b p : Fin 4) (j : Fin 9) (k : Fin 2304) (d : Fin 128) :
    ((cfg0.win 2).blk (pt b p j)).view.emb (ix2 k d) = ix2 (rowOf b k) d := by
  obtain ⟨h0, h1⟩ := index2 b p j
  funext a
  apply Fin.ext
  match a with
  | ⟨0, _⟩ => show win0_2.index (pt b p j) (0 : Fin 2) * 2304 + 1 * k.val = 2304 * b.val + k.val; omega
  | ⟨1, _⟩ => show win0_2.index (pt b p j) (1 : Fin 2) * 128 + 1 * d.val = d.val; omega

theorem emb3 (b p : Fin 4) (j : Fin 9) (r : Fin 256) (x : Fin 128) :
    ((cfg0.win 3).blk (pt b p j)).view.emb (ix2 r x)
      = ix2 (rowOf b (tileRow j r)) (⟨64 * (headOf p ⟨x.val / 64, by omega⟩).val + x.val % 64, by show 64 * (2 * p.val + x.val / 64) + x.val % 64 < 512; omega⟩ : Fin 512) := by
  obtain ⟨h0, h1⟩ := index3 b p j
  funext a
  apply Fin.ext
  match a with
  | ⟨0, _⟩ => show win0_3.index (pt b p j) (0 : Fin 2) * 256 + 1 * r.val = 2304 * b.val + (256 * j.val + r.val); omega
  | ⟨1, _⟩ => show win0_3.index (pt b p j) (1 : Fin 2) * 128 + 1 * x.val = 64 * (2 * p.val + x.val / 64) + x.val % 64; omega

theorem emb4 (b p : Fin 4) (j : Fin 9) (r : Fin 256) (e : Fin 2) :
    ((cfg0.win 4).blk (pt b p j)).view.emb (ix3 0 r e) = ix3 p (rowOf b (tileRow j r)) e := by
  obtain ⟨h0, h1, h2⟩ := index4 b p j
  funext a
  apply Fin.ext
  match a with
  | ⟨0, _⟩ => show win0_4.index (pt b p j) (0 : Fin 3) * 1 + 1 * 0 = p.val; omega
  | ⟨1, _⟩ => show win0_4.index (pt b p j) (1 : Fin 3) * 256 + 1 * r.val = 2304 * b.val + (256 * j.val + r.val); omega
  | ⟨2, _⟩ => show win0_4.index (pt b p j) (2 : Fin 3) * 2 + 1 * e.val = e.val; omega

theorem emb5 (b p : Fin 4) (j : Fin 9) (r : Fin 256) (x : Fin 128) :
    ((cfg0.win 5).blk (pt b p j)).view.emb (ix2 r x)
      = ix2 (rowOf b (tileRow j r)) (⟨64 * (headOf p ⟨x.val / 64, by omega⟩).val + x.val % 64, by show 64 * (2 * p.val + x.val / 64) + x.val % 64 < 512; omega⟩ : Fin 512) := by
  obtain ⟨h0, h1⟩ := index5 b p j
  funext a
  apply Fin.ext
  match a with
  | ⟨0, _⟩ => show win0_5.index (pt b p j) (0 : Fin 2) * 256 + 1 * r.val = 2304 * b.val + (256 * j.val + r.val); omega
  | ⟨1, _⟩ => show win0_5.index (pt b p j) (1 : Fin 2) * 128 + 1 * x.val = 64 * (2 * p.val + x.val / 64) + x.val % 64; omega

theorem emb6 (b p : Fin 4) (j : Fin 9) (r : Fin 256) (e : Fin 2) (d : Fin 128) :
    ((cfg0.win 6).blk (pt b p j)).view.emb (ix2 r (⟨128 * e.val + d.val, by omega⟩ : Fin 256)) = ix2 (rowOf b (tileRow j r)) (laneOf (headOf p e) d) := by
  obtain ⟨h0, h1⟩ := index6 b p j
  funext a
  apply Fin.ext
  match a with
  | ⟨0, _⟩ => show win0_6.index (pt b p j) (0 : Fin 2) * 256 + 1 * r.val = 2304 * b.val + (256 * j.val + r.val); omega
  | ⟨1, _⟩ => show win0_6.index (pt b p j) (1 : Fin 2) * 256 + 1 * (128 * e.val + d.val) = 128 * (2 * p.val + e.val) + d.val; omega

theorem emb7 (b p : Fin 4) (j : Fin 9) (k : Fin 2304) (e : Fin 2) (d : Fin 128) :
    ((cfg0.win 7).blk (pt b p j)).view.emb (ix2 k (⟨128 * e.val + d.val, by omega⟩ : Fin 256)) = ix2 (rowOf b k) (laneOf (headOf p e) d) := by
  obtain ⟨h0, h1⟩ := index7 b p j
  funext a
  apply Fin.ext
  match a with
  | ⟨0, _⟩ => show win0_7.index (pt b p j) (0 : Fin 2) * 2304 + 1 * k.val = 2304 * b.val + k.val; omega
  | ⟨1, _⟩ => show win0_7.index (pt b p j) (1 : Fin 2) * 256 + 1 * (128 * e.val + d.val) = 128 * (2 * p.val + e.val) + d.val; omega

theorem emb8 (b p : Fin 4) (j : Fin 9) (k : Fin 2304) (d : Fin 128) :
    ((cfg0.win 8).blk (pt b p j)).view.emb (ix2 k d) = ix2 (rowOf b k) d := by
  obtain ⟨h0, h1⟩ := index8 b p j
  funext a
  apply Fin.ext
  match a with
  | ⟨0, _⟩ => show win0_8.index (pt b p j) (0 : Fin 2) * 2304 + 1 * k.val = 2304 * b.val + k.val; omega
  | ⟨1, _⟩ => show win0_8.index (pt b p j) (1 : Fin 2) * 128 + 1 * d.val = d.val; omega

/-! ### Points that write a block back write different blocks -/

theorem apart7 : ∀ t t' : Fin cfg0.N, t.val % 9 = 8 → t'.val % 9 = 8 → win0_7.index t = win0_7.index t' → t = t' :=
  (by decide +kernel : ∀ t t' : Fin grid0.N, t.val % 9 = 8 → t'.val % 9 = 8 → win0_7.index t = win0_7.index t' → t = t')

theorem apart8 : ∀ t t' : Fin cfg0.N, t.val % 36 = 35 → t'.val % 36 = 35 → win0_8.index t = win0_8.index t' → t = t' :=
  (by decide +kernel : ∀ t t' : Fin grid0.N, t.val % 36 = 35 → t'.val % 36 = 35 → win0_8.index t = win0_8.index t' → t = t')

theorem disjoint7 : ∀ t t' : Fin cfg0.N, (cfg0.win 7).flush t = true → (cfg0.win 7).flush t' = true → t ≠ t' →
    Disjoint ((cfg0.win 7).blk t).view.set ((cfg0.win 7).blk t').view.set :=
  fun t t' hf hf' hne => (cfg0.win 7).disjoint_blk fun h => hne (apart7 t t' ((flush0_7 t).mp hf) ((flush0_7 t').mp hf') h)

theorem disjoint8 : ∀ t t' : Fin cfg0.N, (cfg0.win 8).flush t = true → (cfg0.win 8).flush t' = true → t ≠ t' →
    Disjoint ((cfg0.win 8).blk t).view.set ((cfg0.win 8).blk t').view.set :=
  fun t t' hf hf' hne => (cfg0.win 8).disjoint_blk fun h => hne (apart8 t t' ((flush0_8 t).mp hf) ((flush0_8 t').mp hf') h)

/-! ### A point's outputs, by case -/

section

variable {m : (ℓ : Loc nD τ sig) → Buf (Elt Ideal) ℓ} {c : Dev nD} (t : Fin cfg0.N)
  {Q : Fin 2 → Fin 256 → Fin 128 → ℝ} {KV : Fin 2 → Fin 2304 → Fin 128 → ℝ} {KR : Fin 2304 → Fin 128 → ℝ} {LS : Fin 2 → Fin 256 → ℝ} {D O : Fin 256 → Fin 128 → ℝ}
  (H : Blocks (iblk m c 0 t) (iblk m c 1 t) (iblk m c 2 t) (iblk m c 3 t) (iblk m c 4 t) (iblk m c 5 t) Q KV KR LS D O)

include H

theorem at_dq_A (h0 : t.val % 9 = 0) (h1 : t.val % 36 = 0) (h2 : t.val % 9 = 0) (h3 : ¬1 ≤ t.val % 9) (r : Fin 256) (h : Fin 2) (d : Fin 128) :
    (outsAt0 m c t.val t.isLt).1 (ix2 r (⟨128 * h.val + d.val, by omega⟩ : Fin 256)) = (dquery (Q h) (lo (KV h)) (lo KR) (LS h) (fun r => half h (D r)) (fun r => half h (O r)) r d : EReal) := by
  have e := outsAt0_A m c t h0 h1 h2 h3
  generalize outsAt0 m c t.val t.isLt = Z at e ⊢
  subst e
  dsimp only
  exact dq_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) H r h d

theorem at_dkv_A (h0 : t.val % 9 = 0) (h1 : t.val % 36 = 0) (h2 : t.val % 9 = 0) (h3 : ¬1 ≤ t.val % 9) (j : Fin 2304) (h : Fin 2) (d : Fin 128) :
    (outsAt0 m c t.val t.isLt).2.1 (ix2 j (⟨128 * h.val + d.val, by omega⟩ : Fin 256)) = ((if hj : j.val < 256 then dkv (Q h) (lo (KV h)) (lo KR) (LS h) (fun r => half h (D r)) (fun r => half h (O r)) ⟨j.val, hj⟩ d else 0 : ℝ) : EReal) := by
  have e := outsAt0_A m c t h0 h1 h2 h3
  generalize outsAt0 m c t.val t.isLt = Z at e ⊢
  subst e
  dsimp only
  exact dkv_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) H j h d

theorem at_dkr_A (h0 : t.val % 9 = 0) (h1 : t.val % 36 = 0) (h2 : t.val % 9 = 0) (h3 : ¬1 ≤ t.val % 9) (j : Fin 2304) (d : Fin 128) :
    (outsAt0 m c t.val t.isLt).2.2 (ix2 j d) = ((if hj : j.val < 256 then dshared (Q 0) (lo (KV 0)) (lo KR) (LS 0) (fun r => half 0 (D r)) (fun r => half 0 (O r)) ⟨j.val, hj⟩ d + dshared (Q 1) (lo (KV 1)) (lo KR) (LS 1) (fun r => half 1 (D r)) (fun r => half 1 (O r)) ⟨j.val, hj⟩ d else 0 : ℝ) : EReal) := by
  have e := outsAt0_A m c t h0 h1 h2 h3
  generalize outsAt0 m c t.val t.isLt = Z at e ⊢
  subst e
  dsimp only
  exact dkr_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) H j d

theorem at_dq_B (h0 : ¬t.val % 9 = 0) (h1 : ¬t.val % 36 = 0) (h2 : ¬t.val % 9 = 0) (h3 : 1 ≤ t.val % 9) (r : Fin 256) (h : Fin 2) (d : Fin 128) :
    (outsAt0 m c t.val t.isLt).1 (ix2 r (⟨128 * h.val + d.val, by omega⟩ : Fin 256)) = (dquery (Q h) (KV h) KR (LS h) (fun r => half h (D r)) (fun r => half h (O r)) r d : EReal) := by
  have e := outsAt0_B m c t h0 h1 h2 h3
  generalize outsAt0 m c t.val t.isLt = Z at e ⊢
  generalize (outsAt0 m c (t.val - 1) (Nat.lt_of_le_of_lt (Nat.sub_le _ _) t.isLt)) = P at e ⊢
  subst e
  dsimp only
  exact dq_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) P.2.1 P.2.2 H r h d

theorem at_dkv_B (h0 : ¬t.val % 9 = 0) (h1 : ¬t.val % 36 = 0) (h2 : ¬t.val % 9 = 0) (h3 : 1 ≤ t.val % 9) (j : Fin 2304) (h : Fin 2) (d : Fin 128) :
    (outsAt0 m c t.val t.isLt).2.1 (ix2 j (⟨128 * h.val + d.val, by omega⟩ : Fin 256)) = (outsAt0 m c (t.val - 1) (Nat.lt_of_le_of_lt (Nat.sub_le _ _) t.isLt)).2.1 (ix2 j (⟨128 * h.val + d.val, by omega⟩ : Fin 256)) + (dkv (Q h) (KV h) KR (LS h) (fun r => half h (D r)) (fun r => half h (O r)) j d : EReal) := by
  have e := outsAt0_B m c t h0 h1 h2 h3
  generalize outsAt0 m c t.val t.isLt = Z at e ⊢
  generalize (outsAt0 m c (t.val - 1) (Nat.lt_of_le_of_lt (Nat.sub_le _ _) t.isLt)) = P at e ⊢
  subst e
  dsimp only
  exact dkv_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) P.2.1 P.2.2 H j h d

theorem at_dkr_B (h0 : ¬t.val % 9 = 0) (h1 : ¬t.val % 36 = 0) (h2 : ¬t.val % 9 = 0) (h3 : 1 ≤ t.val % 9) (j : Fin 2304) (d : Fin 128) :
    (outsAt0 m c t.val t.isLt).2.2 (ix2 j d) = (outsAt0 m c (t.val - 1) (Nat.lt_of_le_of_lt (Nat.sub_le _ _) t.isLt)).2.2 (ix2 j d) + ((dshared (Q 0) (KV 0) KR (LS 0) (fun r => half 0 (D r)) (fun r => half 0 (O r)) j d + dshared (Q 1) (KV 1) KR (LS 1) (fun r => half 1 (D r)) (fun r => half 1 (O r)) j d : ℝ) : EReal) := by
  have e := outsAt0_B m c t h0 h1 h2 h3
  generalize outsAt0 m c t.val t.isLt = Z at e ⊢
  generalize (outsAt0 m c (t.val - 1) (Nat.lt_of_le_of_lt (Nat.sub_le _ _) t.isLt)) = P at e ⊢
  subst e
  dsimp only
  exact dkr_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) P.2.1 P.2.2 H j d

theorem at_dq_C (h0 : t.val % 9 = 0) (h1 : ¬t.val % 36 = 0) (h2 : t.val % 9 = 0) (h3 : ¬1 ≤ t.val % 9) (r : Fin 256) (h : Fin 2) (d : Fin 128) :
    (outsAt0 m c t.val t.isLt).1 (ix2 r (⟨128 * h.val + d.val, by omega⟩ : Fin 256)) = (dquery (Q h) (lo (KV h)) (lo KR) (LS h) (fun r => half h (D r)) (fun r => half h (O r)) r d : EReal) := by
  have e := outsAt0_C m c t h0 h1 h2 h3
  generalize outsAt0 m c t.val t.isLt = Z at e ⊢
  generalize (outsAt0 m c (t.val - 1) (Nat.lt_of_le_of_lt (Nat.sub_le _ _) t.isLt)) = P at e ⊢
  subst e
  dsimp only
  exact dq_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) P.2.2 H r h d

theorem at_dkv_C (h0 : t.val % 9 = 0) (h1 : ¬t.val % 36 = 0) (h2 : t.val % 9 = 0) (h3 : ¬1 ≤ t.val % 9) (j : Fin 2304) (h : Fin 2) (d : Fin 128) :
    (outsAt0 m c t.val t.isLt).2.1 (ix2 j (⟨128 * h.val + d.val, by omega⟩ : Fin 256)) = ((if hj : j.val < 256 then dkv (Q h) (lo (KV h)) (lo KR) (LS h) (fun r => half h (D r)) (fun r => half h (O r)) ⟨j.val, hj⟩ d else 0 : ℝ) : EReal) := by
  have e := outsAt0_C m c t h0 h1 h2 h3
  generalize outsAt0 m c t.val t.isLt = Z at e ⊢
  generalize (outsAt0 m c (t.val - 1) (Nat.lt_of_le_of_lt (Nat.sub_le _ _) t.isLt)) = P at e ⊢
  subst e
  dsimp only
  exact dkv_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) P.2.2 H j h d

theorem at_dkr_C (h0 : t.val % 9 = 0) (h1 : ¬t.val % 36 = 0) (h2 : t.val % 9 = 0) (h3 : ¬1 ≤ t.val % 9) (j : Fin 2304) (d : Fin 128) :
    (outsAt0 m c t.val t.isLt).2.2 (ix2 j d) = (outsAt0 m c (t.val - 1) (Nat.lt_of_le_of_lt (Nat.sub_le _ _) t.isLt)).2.2 (ix2 j d) + ((if hj : j.val < 256 then dshared (Q 0) (lo (KV 0)) (lo KR) (LS 0) (fun r => half 0 (D r)) (fun r => half 0 (O r)) ⟨j.val, hj⟩ d + dshared (Q 1) (lo (KV 1)) (lo KR) (LS 1) (fun r => half 1 (D r)) (fun r => half 1 (O r)) ⟨j.val, hj⟩ d else 0 : ℝ) : EReal) := by
  have e := outsAt0_C m c t h0 h1 h2 h3
  generalize outsAt0 m c t.val t.isLt = Z at e ⊢
  generalize (outsAt0 m c (t.val - 1) (Nat.lt_of_le_of_lt (Nat.sub_le _ _) t.isLt)) = P at e ⊢
  subst e
  dsimp only
  exact dkr_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) P.2.2 H j d

end

section

variable (m : (ℓ : Loc nD τ sig) → Buf (Elt Ideal) ℓ) (c : Dev nD)
  (q : Fin 4 → Fin 2304 → Fin 8 → Fin 96 → ℝ) (kv : Fin 4 → Fin 2304 → Fin 8 → Fin 128 → ℝ) (kr : Fin 4 → Fin 2304 → Fin 32 → ℝ)
  (g : Fin 4 → Fin 2304 → Fin 8 → Fin 64 → ℝ)

theorem outs_congr {n n' : ℕ} (h : n = n') (hn : n < cfg0.N) (hn' : n' < cfg0.N) : outsAt0 m c n hn = outsAt0 m c n' hn' := by
  subst h; rfl

/-- The arguments are the real numbers named. -/
structure Args : Prop where
  q : ∀ b t h d, FwdReferenceIdeal.Read.val_main_v1 (F := Ideal) (m ((c : Thread nD τ).loc main_arg0)) (ix4 b t h d) = (q b t h d : EReal)
  kv : ∀ b t h d, m ((c : Thread nD τ).loc main_arg1) (ix4 b t h d) = (kv b t h d : EReal)
  kr : ∀ b t d, m ((c : Thread nD τ).loc main_arg2) (ix3 b t d) = (kr b t d : EReal)
  g : ∀ b t h d, m ((c : Thread nD τ).loc main_arg3) (ix4 b t h d) = (g b t h d : EReal)

/-- The point's operands, as real numbers. -/
abbrev bQ (b p : Fin 4) (j : Fin 9) (e : Fin 2) (r : Fin 256) : Fin 128 → ℝ := qp q b (tileRow j r) (headOf p e)
abbrev bKV (b p : Fin 4) (e : Fin 2) (k : Fin 2304) : Fin 128 → ℝ := kv b k (headOf p e)
abbrev bKR (b : Fin 4) (k : Fin 2304) : Fin 128 → ℝ := krp kr b k
abbrev bL (b p : Fin 4) (j : Fin 9) (e : Fin 2) (r : Fin 256) : ℝ := lseRow q kv kr b (headOf p e) (tileRow j r)
abbrev bD (b p : Fin 4) (j : Fin 9) (r : Fin 256) : Fin 128 → ℝ := pair fun e => g b (tileRow j r) (headOf p e)
abbrev bO (b p : Fin 4) (j : Fin 9) (r : Fin 256) : Fin 128 → ℝ := pair fun e => outRow q kv kr b (headOf p e) (tileRow j r)

theorem half_D (b p : Fin 4) (j : Fin 9) (e : Fin 2) : (fun r => half e (bD g b p j r)) = fun r => g b (tileRow j r) (headOf p e) :=
  funext fun _ => half_pair _ _

theorem half_O (b p : Fin 4) (j : Fin 9) (e : Fin 2) : (fun r => half e (bO q kv kr b p j r)) = fun r => outRow q kv kr b (headOf p e) (tileRow j r) :=
  funext fun _ => half_pair _ _

variable {m c q kv kr g} (H : Args m c q kv kr g)

include H

theorem block_q (b p : Fin 4) (j : Fin 9) (h : Fin 2) (r : Fin 256) (d : Fin 128) :
    iblk m c 0 (pt b p j) (ix2 r (⟨128 * h.val + d.val, by omega⟩ : Fin 256)) = (bQ q b p j h r d : EReal) := by
  show V m c main_v8 (((cfg0.win 0).blk (pt b p j)).view.emb (ix2 r (⟨128 * h.val + d.val, by omega⟩ : Fin 256))) = _
  refine (congrArg _ (emb0 b p j r h d)).trans ?_
  exact (congrFun (KernelHost.V_q m c) _).trans (FwdHost.hostQ_apply _ q H.q _ _ _ _)

theorem block_kv (b p : Fin 4) (j : Fin 9) (h : Fin 2) (k : Fin 2304) (d : Fin 128) :
    iblk m c 1 (pt b p j) (ix2 k (⟨128 * h.val + d.val, by omega⟩ : Fin 256)) = (bKV kv b p h k d : EReal) := by
  show V m c main_v10 (((cfg0.win 1).blk (pt b p j)).view.emb (ix2 k (⟨128 * h.val + d.val, by omega⟩ : Fin 256))) = _
  refine (congrArg _ (emb1 b p j k h d)).trans ?_
  exact (congrFun (KernelHost.V_kv m c) _).trans (FwdHost.hostKV_apply _ kv H.kv _ _ _ _)

theorem block_kr (b p : Fin 4) (j : Fin 9) (k : Fin 2304) (d : Fin 128) :
    iblk m c 2 (pt b p j) (ix2 k d) = (bKR kr b k d : EReal) := by
  show V m c main_v13 (((cfg0.win 2).blk (pt b p j)).view.emb (ix2 k d)) = _
  refine (congrArg _ (emb2 b p j k d)).trans ?_
  exact (congrFun (KernelHost.V_kr m c) _).trans (FwdHost.hostKR_apply _ kr H.kr _ _ _)

theorem block_o (b p : Fin 4) (j : Fin 9) (r : Fin 256) (x : Fin 128) :
    iblk m c 3 (pt b p j) (ix2 r x) = (bO q kv kr b p j r x : EReal) := by
  show V m c main_v52 (((cfg0.win 3).blk (pt b p j)).view.emb (ix2 r x)) = _
  refine (congrArg _ (emb3 b p j r x)).trans ?_
  exact (congrFun (KernelHost.V_o m c) _).trans (result_o _ _ _ q kv kr H.q H.kv H.kr b (tileRow j r) (headOf p ⟨x.val / 64, by omega⟩) ⟨x.val % 64, by omega⟩)

theorem block_l (b p : Fin 4) (j : Fin 9) (e : Fin 2) (r : Fin 256) :
    iblk m c 4 (pt b p j) (ix3 0 r e) = (bL q kv kr b p j e r : EReal) := by
  show V m c main_v85 (((cfg0.win 4).blk (pt b p j)).view.emb (ix3 0 r e)) = _
  refine (congrArg _ (emb4 b p j r e)).trans ?_
  exact (congrFun (KernelHost.V_lse m c) _).trans (result_lse _ _ _ q kv kr H.q H.kv H.kr b (tileRow j r) p e)

theorem block_g (b p : Fin 4) (j : Fin 9) (r : Fin 256) (x : Fin 128) :
    iblk m c 5 (pt b p j) (ix2 r x) = (bD g b p j r x : EReal) := by
  show V m c main_v86 (((cfg0.win 5).blk (pt b p j)).view.emb (ix2 r x)) = _
  refine (congrArg _ (emb5 b p j r x)).trans ?_
  refine (congrFun (KernelHost.V_do m c) _).trans ?_
  exact (cast_o _ _ b (tileRow j r) (headOf p ⟨x.val / 64, by omega⟩) ⟨x.val % 64, by omega⟩).trans (H.g _ _ _ _)

theorem blocks (b p : Fin 4) (j : Fin 9) :
    Blocks (iblk m c 0 (pt b p j)) (iblk m c 1 (pt b p j)) (iblk m c 2 (pt b p j)) (iblk m c 3 (pt b p j)) (iblk m c 4 (pt b p j)) (iblk m c 5 (pt b p j))
      (bQ q b p j) (bKV kv b p) (bKR kr b) (bL q kv kr b p j) (bD g b p j) (bO q kv kr b p j) where
  q := block_q H b p j
  kv := block_kv H b p j
  kr := block_kr H b p j
  o := block_o H b p j
  l r h := block_l H b p j h r
  g := block_g H b p j

/-! ### The queries' gradient -/

theorem point_q (b p : Fin 4) (j : Fin 9) (r : Fin 256) (e : Fin 2) (d : Fin 128) :
    (outsAt0 m c (pt b p j).val (pt b p j).isLt).1 (ix2 r (⟨128 * e.val + d.val, by omega⟩ : Fin 256)) = (gqLane q kv kr g b (headOf p e) (tileRow j r) d : EReal) := by
  have hB := blocks H b p j
  have hm := pt_mod b p j
  have hm' := pt_mod36 b p j
  generalize pt b p j = t at hB hm hm' ⊢
  by_cases hj : j.val = 0
  · rw [← dquery_ctx q kv kr g b (headOf p e) j hj r d, ← half_D g b p j e, ← half_O q kv kr b p j e]
    by_cases hp : p.val = 0
    · exact at_dq_A t hB (by omega) (by omega) (by omega) (by omega) r e d
    · exact at_dq_C t hB (by omega) (by omega) (by omega) (by omega) r e d
  · rw [← dquery_lat q kv kr g b (headOf p e) j hj r d, ← half_D g b p j e, ← half_O q kv kr b p j e]
    exact at_dq_B t hB (by omega) (by omega) (by omega) (by omega) r e d

theorem array_q (b p : Fin 4) (j : Fin 9) (r : Fin 256) (e : Fin 2) (d : Fin 128) :
    (dats m 0 c).arrAt 6 cfg0.N (ix2 (rowOf b (tileRow j r)) (laneOf (headOf p e) d)) = (gqLane q kv kr g b (headOf p e) (tileRow j r) d : EReal) := by
  rw [← emb6]
  refine (congrFun (Value.blocks6 m c (pt b p j) (flush0_6 _)) _).trans ?_
  rw [Value.flushed6]
  exact point_q H b p j r e d

/-! ### The keys' and values' gradient, tile by tile -/

/-- What the first tile adds. -/
theorem first_kv (b p : Fin 4) (j : Fin 9) (hj : j.val = 0) (k : Fin 2304) (e : Fin 2) (d : Fin 128) :
    (outsAt0 m c (pt b p j).val (pt b p j).isLt).2.1 (ix2 k (⟨128 * e.val + d.val, by omega⟩ : Fin 256))
      = ((∑ r, part q kv kr g b (headOf p e) k d (tileRow j r) : ℝ) : EReal) := by
  have hB := blocks H b p j
  have hm := pt_mod b p j
  have hm' := pt_mod36 b p j
  generalize pt b p j = t at hB hm hm' ⊢
  rw [← dkv_ctx q kv kr g b (headOf p e) j hj k d, ← half_D g b p j e, ← half_O q kv kr b p j e]
  by_cases hp : p.val = 0
  · exact at_dkv_A t hB (by omega) (by omega) (by omega) (by omega) k e d
  · exact at_dkv_C t hB (by omega) (by omega) (by omega) (by omega) k e d

/-- What a later tile adds. -/
theorem next_kv (b p : Fin 4) (j : Fin 9) (hj : ¬ j.val = 0) (k : Fin 2304) (e : Fin 2) (d : Fin 128) :
    (outsAt0 m c (pt b p j).val (pt b p j).isLt).2.1 (ix2 k (⟨128 * e.val + d.val, by omega⟩ : Fin 256))
      = (outsAt0 m c ((pt b p j).val - 1) (Nat.lt_of_le_of_lt (Nat.sub_le _ _) (pt b p j).isLt)).2.1 (ix2 k (⟨128 * e.val + d.val, by omega⟩ : Fin 256))
        + ((∑ r, part q kv kr g b (headOf p e) k d (tileRow j r) : ℝ) : EReal) := by
  have hB := blocks H b p j
  have hm := pt_mod b p j
  have hm' := pt_mod36 b p j
  generalize pt b p j = t at hB hm hm' ⊢
  rw [← dkv_lat q kv kr g b (headOf p e) j hj k d, ← half_D g b p j e, ← half_O q kv kr b p j e]
  exact at_dkv_B t hB (by omega) (by omega) (by omega) (by omega) k e d

theorem sum_kv (b p : Fin 4) (k : Fin 2304) (e : Fin 2) (d : Fin 128) : ∀ (n : ℕ) (hn : n < 9),
    (outsAt0 m c (pt b p ⟨n, hn⟩).val (pt b p ⟨n, hn⟩).isLt).2.1 (ix2 k (⟨128 * e.val + d.val, by omega⟩ : Fin 256))
      = ((∑ i ∈ Finset.range (n + 1), if hi : i < 9 then ∑ r, part q kv kr g b (headOf p e) k d (tileRow ⟨i, hi⟩ r) else 0 : ℝ) : EReal)
  | 0, hn => by
    rw [Finset.sum_range_one, dif_pos hn]
    exact first_kv H b p ⟨0, hn⟩ rfl k e d
  | n + 1, hn => by
    rw [Finset.sum_range_succ, EReal.coe_add, ← sum_kv b p k e d n (by omega), dif_pos hn]
    refine (next_kv H b p ⟨n + 1, hn⟩ (Nat.succ_ne_zero n) k e d).trans ?_
    rw [outs_congr m c (show (pt b p ⟨n + 1, hn⟩).val - 1 = (pt b p ⟨n, by omega⟩).val from rfl)]

theorem array_kv (b p : Fin 4) (k : Fin 2304) (e : Fin 2) (d : Fin 128) :
    (dats m 0 c).arrAt 7 cfg0.N (ix2 (rowOf b k) (laneOf (headOf p e) d)) = (gkvLane q kv kr g b (headOf p e) k d : EReal) := by
  refine (congrArg _ (emb7 b p ⟨8, by decide⟩ k e d).symm).trans ?_
  refine (congrFun ((dats m 0 c).read_blk_arrAt_eq_flushed 7 disjoint7 cfg0.N (pt b p ⟨8, by decide⟩) (Fin.isLt _) ((flush0_7 _).mpr (pt_mod ..))) _).trans ?_
  rw [Value.flushed7]
  refine (sum_kv H b p k e d 8 (by decide)).trans ?_
  rw [Finset.sum_range, ← sum_part, sum_tiles]
  refine congrArg _ (Finset.sum_congr rfl fun i _ => ?_)
  rw [dif_pos i.isLt]

/-! ### The shared key's gradient, over head pairs and tiles -/

/-- What one point adds to the shared key's gradient. -/
abbrev added (q : Fin 4 → Fin 2304 → Fin 8 → Fin 96 → ℝ) (kv : Fin 4 → Fin 2304 → Fin 8 → Fin 128 → ℝ) (kr : Fin 4 → Fin 2304 → Fin 32 → ℝ)
    (g : Fin 4 → Fin 2304 → Fin 8 → Fin 64 → ℝ) (b p : Fin 4) (j : Fin 9) (k : Fin 2304) (d : Fin 128) : ℝ :=
  (∑ r, partShared q kv kr g b (headOf p 0) k d (tileRow j r)) + ∑ r, partShared q kv kr g b (headOf p 1) k d (tileRow j r)

omit H in
theorem added_ctx (b p : Fin 4) (j : Fin 9) (hi : j.val = 0) (k : Fin 2304) (d : Fin 128) :
    (if hj : k.val < 256 then
        dshared (bQ q b p j 0) (lo (bKV kv b p 0)) (lo (bKR kr b)) (bL q kv kr b p j 0) (fun r => half 0 (bD g b p j r)) (fun r => half 0 (bO q kv kr b p j r)) ⟨k.val, hj⟩ d
          + dshared (bQ q b p j 1) (lo (bKV kv b p 1)) (lo (bKR kr b)) (bL q kv kr b p j 1) (fun r => half 1 (bD g b p j r)) (fun r => half 1 (bO q kv kr b p j r)) ⟨k.val, hj⟩ d
      else 0) = added q kv kr g b p j k d := by
  rw [half_D, half_D, half_O, half_O]
  by_cases hj : k.val < 256
  · rw [dif_pos hj]
    exact congrArg₂ (· + ·) (dshared_ctx q kv kr g b (headOf p 0) j hi k hj d) (dshared_ctx q kv kr g b (headOf p 1) j hi k hj d)
  · rw [dif_neg hj]
    refine (zero_add (0 : ℝ)).symm.trans ?_
    exact (congrArg₂ (· + ·) (shared_zero q kv kr g b (headOf p 0) j hi k hj d) (shared_zero q kv kr g b (headOf p 1) j hi k hj d)).symm

theorem first_kr (b p : Fin 4) (j : Fin 9) (hj : j.val = 0) (hp : p.val = 0) (k : Fin 2304) (d : Fin 128) :
    (outsAt0 m c (pt b p j).val (pt b p j).isLt).2.2 (ix2 k d) = (added q kv kr g b p j k d : EReal) := by
  have hB := blocks H b p j
  have hm := pt_mod b p j
  have hm' := pt_mod36 b p j
  generalize pt b p j = t at hB hm hm' ⊢
  rw [← added_ctx b p j hj k d]
  exact at_dkr_A t hB (by omega) (by omega) (by omega) (by omega) k d

theorem next_kr (b p : Fin 4) (j : Fin 9) (hs : ¬ 9 * p.val + j.val = 0) (k : Fin 2304) (d : Fin 128) :
    (outsAt0 m c (pt b p j).val (pt b p j).isLt).2.2 (ix2 k d)
      = (outsAt0 m c ((pt b p j).val - 1) (Nat.lt_of_le_of_lt (Nat.sub_le _ _) (pt b p j).isLt)).2.2 (ix2 k d) + (added q kv kr g b p j k d : EReal) := by
  have hB := blocks H b p j
  have hm := pt_mod b p j
  have hm' := pt_mod36 b p j
  generalize pt b p j = t at hB hm hm' ⊢
  by_cases hj : j.val = 0
  · rw [← added_ctx b p j hj k d]
    exact at_dkr_C t hB (by omega) (by omega) (by omega) (by omega) k d
  · refine (at_dkr_B t hB (by omega) (by omega) (by omega) (by omega) k d).trans ?_
    rw [half_D, half_D, half_O, half_O]
    exact congrArg (fun z : ℝ => _ + (z : EReal)) (congrArg₂ (· + ·) (dshared_lat q kv kr g b (headOf p 0) j hj k d) (dshared_lat q kv kr g b (headOf p 1) j hj k d))

omit H in
/-- The same for step `s` of a batch entry's thirty-six. -/
abbrev addedAt (q : Fin 4 → Fin 2304 → Fin 8 → Fin 96 → ℝ) (kv : Fin 4 → Fin 2304 → Fin 8 → Fin 128 → ℝ) (kr : Fin 4 → Fin 2304 → Fin 32 → ℝ)
    (g : Fin 4 → Fin 2304 → Fin 8 → Fin 64 → ℝ) (b : Fin 4) (s : ℕ) (k : Fin 2304) (d : Fin 128) : ℝ :=
  if hs : s < 36 then added q kv kr g b ⟨s / 9, by omega⟩ ⟨s % 9, by omega⟩ k d else 0

theorem sum_kr (b : Fin 4) (k : Fin 2304) (d : Fin 128) : ∀ (s : ℕ) (hs : s < 36),
    (outsAt0 m c (pt b ⟨s / 9, by omega⟩ ⟨s % 9, by omega⟩).val (Fin.isLt _)).2.2 (ix2 k d)
      = ((∑ i ∈ Finset.range (s + 1), addedAt q kv kr g b i k d : ℝ) : EReal)
  | 0, hs => by
    rw [Finset.sum_range_one, addedAt, dif_pos hs]
    exact first_kr H b ⟨0 / 9, by omega⟩ ⟨0 % 9, by omega⟩ rfl rfl k d
  | s + 1, hs => by
    rw [Finset.sum_range_succ, EReal.coe_add, ← sum_kr b k d s (by omega), addedAt, dif_pos hs]
    refine (next_kr H b ⟨(s + 1) / 9, by omega⟩ ⟨(s + 1) % 9, by omega⟩ (by show ¬ 9 * ((s + 1) / 9) + (s + 1) % 9 = 0; omega) k d).trans ?_
    rw [outs_congr m c (show (pt b ⟨(s + 1) / 9, by omega⟩ ⟨(s + 1) % 9, by omega⟩).val - 1 = (pt b ⟨s / 9, by omega⟩ ⟨s % 9, by omega⟩).val from by
      show 36 * b.val + 9 * ((s + 1) / 9) + (s + 1) % 9 - 1 = 36 * b.val + 9 * (s / 9) + s % 9; omega)]

omit H in
theorem sum_added (b : Fin 4) (k : Fin 2304) (d : Fin 128) :
    ∑ i ∈ Finset.range 36, addedAt q kv kr g b i k d = gkrLane q kv kr g b k d := by
  rw [← sum_partShared, Finset.sum_range, Fin.sum_univ_tiles 4 9 (by decide) (fun i : Fin 36 => addedAt q kv kr g b i.val k d),
    Fin.sum_univ_tiles 4 2 (by decide) (fun h : Fin 8 => ∑ t, partShared q kv kr g b h k d t)]
  refine Finset.sum_congr rfl fun p _ => ?_
  rw [Fin.sum_univ_two, sum_tiles, sum_tiles, ← Finset.sum_add_distrib]
  refine Finset.sum_congr rfl fun j _ => ?_
  have hs : p.val * 9 + j.val < 36 := by omega
  show addedAt q kv kr g b (p.val * 9 + j.val) k d = _
  rw [addedAt, dif_pos hs]
  have hp : (⟨(p.val * 9 + j.val) / 9, by omega⟩ : Fin 4) = p := Fin.ext (by show (p.val * 9 + j.val) / 9 = p.val; omega)
  have hj : (⟨(p.val * 9 + j.val) % 9, by omega⟩ : Fin 9) = j := Fin.ext (by show (p.val * 9 + j.val) % 9 = j.val; omega)
  rw [hp, hj, added]
  refine congrArg₂ (· + ·) (Finset.sum_congr rfl fun r _ => ?_) (Finset.sum_congr rfl fun r _ => ?_)
  · exact congrArg (fun h => partShared q kv kr g b h k d (tileRow j r)) (Fin.ext (by show 2 * p.val + 0 = p.val * 2 + 0; omega))
  · exact congrArg (fun h => partShared q kv kr g b h k d (tileRow j r)) (Fin.ext (by show 2 * p.val + 1 = p.val * 2 + 1; omega))

theorem array_kr (b : Fin 4) (k : Fin 2304) (d : Fin 128) :
    (dats m 0 c).arrAt 8 cfg0.N (ix2 (rowOf b k) d) = (gkrLane q kv kr g b k d : EReal) := by
  refine (congrArg _ (emb8 b ⟨35 / 9, by decide⟩ ⟨35 % 9, by decide⟩ k d).symm).trans ?_
  refine (congrFun ((dats m 0 c).read_blk_arrAt_eq_flushed 8 disjoint8 cfg0.N (pt b ⟨35 / 9, by decide⟩ ⟨35 % 9, by decide⟩) (Fin.isLt _) ((flush0_8 _).mpr (pt_mod36 ..))) _).trans ?_
  rw [Value.flushed8]
  exact (sum_kr H b k d 35 (by decide)).trans (congrArg _ (sum_added b k d))

end

end Cert.KernelArrays

end
-- ==== Proof.BwdRef.lean ====
/- What the gradients' reference computes from real queries, keys, values and cotangents. -/
module

public import proofs.«01_k».proof.Proof.Gen.ReferenceIdeal.Read
public import proofs.«01_k».proof.Proof.Grad
public import proofs.«01_k».proof.Proof.FwdHost

@[expose] public section

set_option maxRecDepth 16384

noncomputable section

namespace Cert.BwdRef

open Cert.ReferenceIdeal Cert.ReferenceIdeal.Read Idealize.ShloMosaic Cert.Reals Cert.Spec Cert.HostArrays Cert.Grad
open Cert.FwdRef (n256 n2304 lat ctx)

/-! ### Padding with zeros -/

theorem pad_ctx64 {α : Type} (X : S4x256x8x64.Idx → α) {u : Shape} (v : u.Idx → α) (hp : S4x256x8x64.Pads ![0, 0, 0, 0] ![0, 2048, 0, 0] ![0, 0, 0, 0] S4x2304x8x64) (hu : 0 < u.numel) (b : Fin 4) (t : Fin 2304) (h : Fin 8) (d : Fin 64) :
    pad S4x2304x8x64 ![0, 0, 0, 0] ![0, 2048, 0, 0] ![0, 0, 0, 0] X v hp hu (ix4 b t h d)
      = if hd : t.val < 256 then X (ix4 b ⟨t.val, hd⟩ h d) else v (Shape.Idx.first hu) := by
  by_cases hd : t.val < 256
  · rw [dif_pos hd, pad_apply, dif_pos]
    · exact congrArg X (funext fun a => Fin.ext (by match a with | ⟨0, _⟩ => simp [Shape.Idx.norm, ix4] | ⟨1, _⟩ => simp [Shape.Idx.norm, ix4] | ⟨2, _⟩ => simp [Shape.Idx.norm, ix4] | ⟨3, _⟩ => simp [Shape.Idx.norm, ix4]))
    · intro a
      match a with
      | ⟨0, _⟩ => exact ⟨Nat.zero_le _, Nat.mod_one _, by show (b.val - 0) / 1 < 4; omega⟩
      | ⟨1, _⟩ => exact ⟨Nat.zero_le _, Nat.mod_one _, by show (t.val - 0) / 1 < 256; omega⟩
      | ⟨2, _⟩ => exact ⟨Nat.zero_le _, Nat.mod_one _, by show (h.val - 0) / 1 < 8; omega⟩
      | ⟨3, _⟩ => exact ⟨Nat.zero_le _, Nat.mod_one _, by show (d.val - 0) / 1 < 64; omega⟩
  · rw [dif_neg hd, pad_apply, dif_neg]
    intro hh
    have h1 : 0 ≤ t.val := (hh 1).1
    have h2 : (t.val - 0) / 1 < 256 := (hh 1).2.2
    omega

theorem pad_ctx96 {α : Type} (X : S4x256x8x96.Idx → α) {u : Shape} (v : u.Idx → α) (hp : S4x256x8x96.Pads ![0, 0, 0, 0] ![0, 2048, 0, 0] ![0, 0, 0, 0] S4x2304x8x96) (hu : 0 < u.numel) (b : Fin 4) (t : Fin 2304) (h : Fin 8) (d : Fin 96) :
    pad S4x2304x8x96 ![0, 0, 0, 0] ![0, 2048, 0, 0] ![0, 0, 0, 0] X v hp hu (ix4 b t h d)
      = if hd : t.val < 256 then X (ix4 b ⟨t.val, hd⟩ h d) else v (Shape.Idx.first hu) := by
  by_cases hd : t.val < 256
  · rw [dif_pos hd, pad_apply, dif_pos]
    · exact congrArg X (funext fun a => Fin.ext (by match a with | ⟨0, _⟩ => simp [Shape.Idx.norm, ix4] | ⟨1, _⟩ => simp [Shape.Idx.norm, ix4] | ⟨2, _⟩ => simp [Shape.Idx.norm, ix4] | ⟨3, _⟩ => simp [Shape.Idx.norm, ix4]))
    · intro a
      match a with
      | ⟨0, _⟩ => exact ⟨Nat.zero_le _, Nat.mod_one _, by show (b.val - 0) / 1 < 4; omega⟩
      | ⟨1, _⟩ => exact ⟨Nat.zero_le _, Nat.mod_one _, by show (t.val - 0) / 1 < 256; omega⟩
      | ⟨2, _⟩ => exact ⟨Nat.zero_le _, Nat.mod_one _, by show (h.val - 0) / 1 < 8; omega⟩
      | ⟨3, _⟩ => exact ⟨Nat.zero_le _, Nat.mod_one _, by show (d.val - 0) / 1 < 96; omega⟩
  · rw [dif_neg hd, pad_apply, dif_neg]
    intro hh
    have h1 : 0 ≤ t.val := (hh 1).1
    have h2 : (t.val - 0) / 1 < 256 := (hh 1).2.2
    omega

theorem pad_lat96 {α : Type} (X : S4x2048x8x96.Idx → α) {u : Shape} (v : u.Idx → α) (hp : S4x2048x8x96.Pads ![0, 256, 0, 0] ![0, 0, 0, 0] ![0, 0, 0, 0] S4x2304x8x96) (hu : 0 < u.numel) (b : Fin 4) (t : Fin 2304) (h : Fin 8) (d : Fin 96) :
    pad S4x2304x8x96 ![0, 256, 0, 0] ![0, 0, 0, 0] ![0, 0, 0, 0] X v hp hu (ix4 b t h d)
      = if hd : 256 ≤ t.val then X (ix4 b ⟨t.val - 256, by omega⟩ h d) else v (Shape.Idx.first hu) := by
  by_cases hd : 256 ≤ t.val
  · rw [dif_pos hd, pad_apply, dif_pos]
    · exact congrArg X (funext fun a => Fin.ext (by match a with | ⟨0, _⟩ => simp [Shape.Idx.norm, ix4] | ⟨1, _⟩ => simp [Shape.Idx.norm, ix4] | ⟨2, _⟩ => simp [Shape.Idx.norm, ix4] | ⟨3, _⟩ => simp [Shape.Idx.norm, ix4]))
    · intro a
      match a with
      | ⟨0, _⟩ => exact ⟨Nat.zero_le _, Nat.mod_one _, by show (b.val - 0) / 1 < 4; omega⟩
      | ⟨1, _⟩ => exact ⟨by show 256 ≤ t.val; omega, Nat.mod_one _, by show (t.val - 256) / 1 < 2048; omega⟩
      | ⟨2, _⟩ => exact ⟨Nat.zero_le _, Nat.mod_one _, by show (h.val - 0) / 1 < 8; omega⟩
      | ⟨3, _⟩ => exact ⟨Nat.zero_le _, Nat.mod_one _, by show (d.val - 0) / 1 < 96; omega⟩
  · rw [dif_neg hd, pad_apply, dif_neg]
    intro hh
    have h1 : 256 ≤ t.val := (hh 1).1
    have h2 : (t.val - 256) / 1 < 2048 := (hh 1).2.2
    omega

theorem pad_low64 {α : Type} (X : S4x2304x8x64.Idx → α) {u : Shape} (v : u.Idx → α) (hp : S4x2304x8x64.Pads ![0, 0, 0, 64] ![0, 0, 0, 0] ![0, 0, 0, 0] S4x2304x8x128) (hu : 0 < u.numel) (b : Fin 4) (t : Fin 2304) (h : Fin 8) (d : Fin 128) :
    pad S4x2304x8x128 ![0, 0, 0, 64] ![0, 0, 0, 0] ![0, 0, 0, 0] X v hp hu (ix4 b t h d)
      = if hd : 64 ≤ d.val then X (ix4 b t h ⟨d.val - 64, by omega⟩) else v (Shape.Idx.first hu) := by
  by_cases hd : 64 ≤ d.val
  · rw [dif_pos hd, pad_apply, dif_pos]
    · exact congrArg X (funext fun a => Fin.ext (by match a with | ⟨0, _⟩ => simp [Shape.Idx.norm, ix4] | ⟨1, _⟩ => simp [Shape.Idx.norm, ix4] | ⟨2, _⟩ => simp [Shape.Idx.norm, ix4] | ⟨3, _⟩ => simp [Shape.Idx.norm, ix4]))
    · intro a
      match a with
      | ⟨0, _⟩ => exact ⟨Nat.zero_le _, Nat.mod_one _, by show (b.val - 0) / 1 < 4; omega⟩
      | ⟨1, _⟩ => exact ⟨Nat.zero_le _, Nat.mod_one _, by show (t.val - 0) / 1 < 2304; omega⟩
      | ⟨2, _⟩ => exact ⟨Nat.zero_le _, Nat.mod_one _, by show (h.val - 0) / 1 < 8; omega⟩
      | ⟨3, _⟩ => exact ⟨by show 64 ≤ d.val; omega, Nat.mod_one _, by show (d.val - 64) / 1 < 64; omega⟩
  · rw [dif_neg hd, pad_apply, dif_neg]
    intro hh
    have h1 : 64 ≤ d.val := (hh 3).1
    have h2 : (d.val - 64) / 1 < 64 := (hh 3).2.2
    omega

theorem pad_high64 {α : Type} (X : S4x2304x8x64.Idx → α) {u : Shape} (v : u.Idx → α) (hp : S4x2304x8x64.Pads ![0, 0, 0, 0] ![0, 0, 0, 64] ![0, 0, 0, 0] S4x2304x8x128) (hu : 0 < u.numel) (b : Fin 4) (t : Fin 2304) (h : Fin 8) (d : Fin 128) :
    pad S4x2304x8x128 ![0, 0, 0, 0] ![0, 0, 0, 64] ![0, 0, 0, 0] X v hp hu (ix4 b t h d)
      = if hd : d.val < 64 then X (ix4 b t h ⟨d.val, hd⟩) else v (Shape.Idx.first hu) := by
  by_cases hd : d.val < 64
  · rw [dif_pos hd, pad_apply, dif_pos]
    · exact congrArg X (funext fun a => Fin.ext (by match a with | ⟨0, _⟩ => simp [Shape.Idx.norm, ix4] | ⟨1, _⟩ => simp [Shape.Idx.norm, ix4] | ⟨2, _⟩ => simp [Shape.Idx.norm, ix4] | ⟨3, _⟩ => simp [Shape.Idx.norm, ix4]))
    · intro a
      match a with
      | ⟨0, _⟩ => exact ⟨Nat.zero_le _, Nat.mod_one _, by show (b.val - 0) / 1 < 4; omega⟩
      | ⟨1, _⟩ => exact ⟨Nat.zero_le _, Nat.mod_one _, by show (t.val - 0) / 1 < 2304; omega⟩
      | ⟨2, _⟩ => exact ⟨Nat.zero_le _, Nat.mod_one _, by show (h.val - 0) / 1 < 8; omega⟩
      | ⟨3, _⟩ => exact ⟨Nat.zero_le _, Nat.mod_one _, by show (d.val - 0) / 1 < 64; omega⟩
  · rw [dif_neg hd, pad_apply, dif_neg]
    intro hh
    have h1 : 0 ≤ d.val := (hh 3).1
    have h2 : (d.val - 0) / 1 < 64 := (hh 3).2.2
    omega

theorem pad_high32 {α : Type} (X : S4x2304x8x96.Idx → α) {u : Shape} (v : u.Idx → α) (hp : S4x2304x8x96.Pads ![0, 0, 0, 0] ![0, 0, 0, 32] ![0, 0, 0, 0] S4x2304x8x128) (hu : 0 < u.numel) (b : Fin 4) (t : Fin 2304) (h : Fin 8) (d : Fin 128) :
    pad S4x2304x8x128 ![0, 0, 0, 0] ![0, 0, 0, 32] ![0, 0, 0, 0] X v hp hu (ix4 b t h d)
      = if hd : d.val < 96 then X (ix4 b t h ⟨d.val, hd⟩) else v (Shape.Idx.first hu) := by
  by_cases hd : d.val < 96
  · rw [dif_pos hd, pad_apply, dif_pos]
    · exact congrArg X (funext fun a => Fin.ext (by match a with | ⟨0, _⟩ => simp [Shape.Idx.norm, ix4] | ⟨1, _⟩ => simp [Shape.Idx.norm, ix4] | ⟨2, _⟩ => simp [Shape.Idx.norm, ix4] | ⟨3, _⟩ => simp [Shape.Idx.norm, ix4]))
    · intro a
      match a with
      | ⟨0, _⟩ => exact ⟨Nat.zero_le _, Nat.mod_one _, by show (b.val - 0) / 1 < 4; omega⟩
      | ⟨1, _⟩ => exact ⟨Nat.zero_le _, Nat.mod_one _, by show (t.val - 0) / 1 < 2304; omega⟩
      | ⟨2, _⟩ => exact ⟨Nat.zero_le _, Nat.mod_one _, by show (h.val - 0) / 1 < 8; omega⟩
      | ⟨3, _⟩ => exact ⟨Nat.zero_le _, Nat.mod_one _, by show (d.val - 0) / 1 < 96; omega⟩
  · rw [dif_neg hd, pad_apply, dif_neg]
    intro hh
    have h1 : 0 ≤ d.val := (hh 3).1
    have h2 : (d.val - 0) / 1 < 96 := (hh 3).2.2
    omega

theorem pad_mid {α : Type} (X : S4x2304x32.Idx → α) {u : Shape} (v : u.Idx → α) (hp : S4x2304x32.Pads ![0, 0, 64] ![0, 0, 32] ![0, 0, 0] S4x2304x128) (hu : 0 < u.numel) (b : Fin 4) (t : Fin 2304) (d : Fin 128) :
    pad S4x2304x128 ![0, 0, 64] ![0, 0, 32] ![0, 0, 0] X v hp hu (ix3 b t d)
      = if hd : 64 ≤ d.val ∧ d.val < 96 then X (ix3 b t ⟨d.val - 64, by omega⟩) else v (Shape.Idx.first hu) := by
  by_cases hd : 64 ≤ d.val ∧ d.val < 96
  · rw [dif_pos hd, pad_apply, dif_pos]
    · exact congrArg X (funext fun a => Fin.ext (by match a with | ⟨0, _⟩ => simp [Shape.Idx.norm, ix3] | ⟨1, _⟩ => simp [Shape.Idx.norm, ix3] | ⟨2, _⟩ => simp [Shape.Idx.norm, ix3]))
    · intro a
      match a with
      | ⟨0, _⟩ => exact ⟨Nat.zero_le _, Nat.mod_one _, by show (b.val - 0) / 1 < 4; omega⟩
      | ⟨1, _⟩ => exact ⟨Nat.zero_le _, Nat.mod_one _, by show (t.val - 0) / 1 < 2304; omega⟩
      | ⟨2, _⟩ => exact ⟨by show 64 ≤ d.val; omega, Nat.mod_one _, by show (d.val - 64) / 1 < 32; omega⟩
  · rw [dif_neg hd, pad_apply, dif_neg]
    intro hh
    have h1 : 64 ≤ d.val := (hh 2).1
    have h2 : (d.val - 64) / 1 < 32 := (hh 2).2.2
    omega

theorem zero_word (i : S_.Idx) : constant (F := Ideal) S_ .f32 0x00000000#32 i = (0 : EReal) := Ideal.ofBits_zero_f32

variable (x0 : (⟨S4x2304x8x96, .f32⟩ : BufTy).Contents (Elt Ideal)) (x1 : (⟨S4x2304x8x128, .f32⟩ : BufTy).Contents (Elt Ideal))
  (x2 : (⟨S4x2304x32, .f32⟩ : BufTy).Contents (Elt Ideal)) (x3 : (⟨S4x2304x8x64, .f32⟩ : BufTy).Contents (Elt Ideal))
  (q : Fin 4 → Fin 2304 → Fin 8 → Fin 96 → ℝ) (kv : Fin 4 → Fin 2304 → Fin 8 → Fin 128 → ℝ) (kr : Fin 4 → Fin 2304 → Fin 32 → ℝ)
  (g : Fin 4 → Fin 2304 → Fin 8 → Fin 64 → ℝ)
  (hq : ∀ b t h d, val_main_v1 (F := Ideal) x0 (ix4 b t h d) = (q b t h d : EReal))
  (hkv : ∀ b t h d, x1 (ix4 b t h d) = (kv b t h d : EReal))
  (hkr : ∀ b t d, x2 (ix3 b t d) = (kr b t d : EReal))
  (hg : ∀ b t h d, x3 (ix4 b t h d) = (g b t h d : EReal))

include hkv hkr in
theorem keys (b : Fin 4) (j : Fin 2304) (h : Fin 8) (d : Fin 96) : val_main_v5 (F := Ideal) x1 x2 (ix4 b j h d) = (kk kv kr b j h d : EReal) := by
  pointwise [val_main_v5, val_main_v2, val_main_v3, val_main_v4]
  unfold kk
  split
  · exact hkv _ _ _ _
  · exact hkr _ _ _

include hkv in
theorem values (b : Fin 4) (j : Fin 2304) (h : Fin 8) (d : Fin 64) : val_main_v6 (F := Ideal) x1 (ix4 b j h d) = (vv kv b j h d : EReal) := by
  pointwise [val_main_v6]
  exact hkv _ _ _ _

/-! ### Context rows: the first 256 keys -/

include hq hkv hkr in
theorem scores_c (b : Fin 4) (h : Fin 8) (t : Fin 256) (j : Fin 256) :
    val_main_v10 (F := Ideal) x0 x1 x2 (ix4 b h t j) = (score q kv kr n256 b h (ctx t) j : EReal) := by
  pointwise [val_main_v10, val_main_v7, val_main_v8, dot_S4x256x8x96_S4x256x8x96_S4x8x256x256_3_3_1_1_02_02, hq, keys x1 x2 kv kr hkv hkr]
  exact dot_coe _ _

include hq hkv hkr in
theorem rowmax_c (b : Fin 4) (h : Fin 8) (t : Fin 256) : ∃ M : ℝ, val_main_v11 (F := Ideal) x0 x1 x2 (ix3 b h t) = (M : EReal) := by
  obtain ⟨M, hM⟩ := fold_max_coe (score q kv kr n256 b h (ctx t))
  refine ⟨M, ?_⟩
  pointwise [val_main_v11, val_main_cst_0, scores_c x0 x1 x2 q kv kr hq hkv hkr]
  rw [ofBits_neg_inf, hM]

include hq hkv hkr in
theorem max_c (b : Fin 4) (h : Fin 8) (t : Fin 256) : ∃ M : ℝ, val_main_v18 (F := Ideal) x0 x1 x2 (ix3 b h t) = (M : EReal) := by
  obtain ⟨M, hM⟩ := rowmax_c x0 x1 x2 q kv kr hq hkv hkr b h t
  refine ⟨M, ?_⟩
  have hb : val_main_v17 (F := Ideal) (ix3 b h t) = (⊥ : EReal) := by rw [← ofBits_neg_inf]; rfl
  rw [val_main_v18_apply, hM, hb]
  exact max_bot_coe M

include hq hkv hkr in
theorem exp_c (b : Fin 4) (h : Fin 8) (t : Fin 256) (M : ℝ) (hM : val_main_v18 (F := Ideal) x0 x1 x2 (ix3 b h t) = (M : EReal)) (j : Fin 256) :
    val_main_v31 (F := Ideal) x0 x1 x2 (ix4 b h t j) = (Real.exp (score q kv kr n256 b h (ctx t) j - M) : EReal) := by
  pointwise [val_main_v31, val_main_v30, val_main_v29, val_main_v28, scores_c x0 x1 x2 q kv kr hq hkv hkr, hM]
  exact exp_sub_coe _ _

include hq hkv hkr in
theorem sum_c (b : Fin 4) (h : Fin 8) (t : Fin 256) (M : ℝ) (hM : val_main_v18 (F := Ideal) x0 x1 x2 (ix3 b h t) = (M : EReal)) :
    val_main_v32 (F := Ideal) x0 x1 x2 (ix3 b h t) = (((∑ j, Real.exp (score q kv kr n256 b h (ctx t) j - M)) : ℝ) : EReal) := by
  pointwise [val_main_v32, val_main_cst_8, exp_c x0 x1 x2 q kv kr hq hkv hkr b h t M hM]
  simp only [← coe_sum, Ideal.ofBits_zero_f32, zero_add]

include hq hkv hkr in
theorem sum1_c (b : Fin 4) (h : Fin 8) (t : Fin 256) (M : ℝ) (hM : val_main_v18 (F := Ideal) x0 x1 x2 (ix3 b h t) = (M : EReal)) :
    val_main_v33 (F := Ideal) x0 x1 x2 (ix4 b h t 0) = (((∑ j, Real.exp (score q kv kr n256 b h (ctx t) j - M)) : ℝ) : EReal) := by
  pointwise [val_main_v33, sum_c x0 x1 x2 q kv kr hq hkv hkr b h t M hM]

include hq hkv hkr in
theorem weight_c (b : Fin 4) (h : Fin 8) (t : Fin 256) (j : Fin 256) :
    val_main_v35 (F := Ideal) x0 x1 x2 (ix4 b h t j) = (sm (score q kv kr n256 b h (ctx t)) j : EReal) := by
  obtain ⟨M, hM⟩ := max_c x0 x1 x2 q kv kr hq hkv hkr b h t
  pointwise [val_main_v35, val_main_v34, val_main_v33, sum_c x0 x1 x2 q kv kr hq hkv hkr b h t M hM, exp_c x0 x1 x2 q kv kr hq hkv hkr b h t M hM]
  rw [div_coe _ (Z_shift_pos _ M).ne', sm_shift]

include hkv hg in
theorem dP_c (b : Fin 4) (h : Fin 8) (t : Fin 256) (j : Fin 256) :
    val_main_v98 (F := Ideal) x1 x3 (ix4 b h t j) = (dP kv g n256 b h (ctx t) j : EReal) := by
  pointwise [val_main_v98, val_main_v97, val_main_v74, val_main_v9, dot_S4x8x64x256_S4x256x8x64_S4x8x256x256_2_3_3_1_01_02, hg, values x1 kv hkv]
  exact dot_coe _ _

include hq hkv hkr in
theorem recip_c (b : Fin 4) (h : Fin 8) (t : Fin 256) (M : ℝ) (hM : val_main_v18 (F := Ideal) x0 x1 x2 (ix3 b h t) = (M : EReal)) :
    val_main_v38 (F := Ideal) x0 x1 x2 (ix4 b h t 0) = ((1 / ((∑ j, Real.exp (score q kv kr n256 b h (ctx t) j - M)) * (∑ j, Real.exp (score q kv kr n256 b h (ctx t) j - M))) : ℝ) : EReal) := by
  have h1 : val_main_v37 (F := Ideal) (ix4 b h t 0) = ((1 : ℝ) : EReal) := Ideal.ofBits_one_f32
  have h2 : val_main_v36 (F := Ideal) x0 x1 x2 (ix4 b h t 0) = (((∑ j, Real.exp (score q kv kr n256 b h (ctx t) j - M)) * (∑ j, Real.exp (score q kv kr n256 b h (ctx t) j - M)) : ℝ) : EReal) := by
    rw [val_main_v36_apply, sum1_c x0 x1 x2 q kv kr hq hkv hkr b h t M hM, Ideal.mulf_def, ← EReal.coe_mul]
  rw [val_main_v38_apply, h1, h2]
  exact div_coe 1 (mul_pos (Z_shift_pos _ M) (Z_shift_pos _ M)).ne'

include hq hkv hkr hg in
theorem term_c (b : Fin 4) (h : Fin 8) (t : Fin 256) (M : ℝ) (hM : val_main_v18 (F := Ideal) x0 x1 x2 (ix3 b h t) = (M : EReal)) (j : Fin 256) :
    val_main_v103 (F := Ideal) x0 x1 x2 x3 (ix4 b h t j) = ((dP kv g n256 b h (ctx t) j * (1 / ((∑ j, Real.exp (score q kv kr n256 b h (ctx t) j - M)) * (∑ j, Real.exp (score q kv kr n256 b h (ctx t) j - M)))) * Real.exp (score q kv kr n256 b h (ctx t) j - M) : ℝ) : EReal) := by
  have h1 : val_main_v101 (F := Ideal) x0 x1 x2 (ix4 b h t j) = ((1 / ((∑ j, Real.exp (score q kv kr n256 b h (ctx t) j - M)) * (∑ j, Real.exp (score q kv kr n256 b h (ctx t) j - M))) : ℝ) : EReal) := by
    pointwise [val_main_v101, recip_c x0 x1 x2 q kv kr hq hkv hkr b h t M hM]
  have h2 : val_main_v102 (F := Ideal) x0 x1 x2 x3 (ix4 b h t j) = ((dP kv g n256 b h (ctx t) j * (1 / ((∑ j, Real.exp (score q kv kr n256 b h (ctx t) j - M)) * (∑ j, Real.exp (score q kv kr n256 b h (ctx t) j - M)))) : ℝ) : EReal) := by
    rw [val_main_v102_apply, dP_c x1 x3 kv g hkv hg b h t j, h1, Ideal.mulf_def, ← EReal.coe_mul]
  rw [val_main_v103_apply, h2, exp_c x0 x1 x2 q kv kr hq hkv hkr b h t M hM j, Ideal.mulf_def, ← EReal.coe_mul]

include hq hkv hkr hg in
theorem dot_c (b : Fin 4) (h : Fin 8) (t : Fin 256) (M : ℝ) (hM : val_main_v18 (F := Ideal) x0 x1 x2 (ix3 b h t) = (M : EReal)) :
    val_main_v104 (F := Ideal) x0 x1 x2 x3 (ix3 b h t) = ((∑ j, dP kv g n256 b h (ctx t) j * (1 / ((∑ j, Real.exp (score q kv kr n256 b h (ctx t) j - M)) * (∑ j, Real.exp (score q kv kr n256 b h (ctx t) j - M)))) * Real.exp (score q kv kr n256 b h (ctx t) j - M) : ℝ) : EReal) := by
  pointwise [val_main_v104, val_main_cst_23, term_c x0 x1 x2 x3 q kv kr g hq hkv hkr hg b h t M hM]
  simp only [← coe_sum, Ideal.ofBits_zero_f32, zero_add]

include hq hkv hkr hg in
theorem back_c (b : Fin 4) (h : Fin 8) (t : Fin 256) (M : ℝ) (hM : val_main_v18 (F := Ideal) x0 x1 x2 (ix3 b h t) = (M : EReal)) (j : Fin 256) :
    val_main_v110 (F := Ideal) x0 x1 x2 x3 (ix4 b h t j) = ((-(∑ j, dP kv g n256 b h (ctx t) j * (1 / ((∑ j, Real.exp (score q kv kr n256 b h (ctx t) j - M)) * (∑ j, Real.exp (score q kv kr n256 b h (ctx t) j - M)))) * Real.exp (score q kv kr n256 b h (ctx t) j - M)) : ℝ) : EReal) := by
  have h1 : val_main_v105 (F := Ideal) x0 x1 x2 x3 (ix4 b h t 0) = ((∑ j, dP kv g n256 b h (ctx t) j * (1 / ((∑ j, Real.exp (score q kv kr n256 b h (ctx t) j - M)) * (∑ j, Real.exp (score q kv kr n256 b h (ctx t) j - M)))) * Real.exp (score q kv kr n256 b h (ctx t) j - M) : ℝ) : EReal) :=
    (Idealize.ShloMosaic.shapeCast_apply _ _ _ _ (by
      rewrite [Shape.rowMajor_val_three, Shape.rowMajor_val_four]
      show (b.val * 8 + h.val) * 256 + t.val = ((b.val * 8 + h.val) * 256 + t.val) * 1 + 0
      omega)).trans (dot_c x0 x1 x2 x3 q kv kr g hq hkv hkr hg b h t M hM)
  have h2 : val_main_v106 (F := Ideal) x0 x1 x2 x3 (ix4 b h t 0) = ((-(∑ j, dP kv g n256 b h (ctx t) j * (1 / ((∑ j, Real.exp (score q kv kr n256 b h (ctx t) j - M)) * (∑ j, Real.exp (score q kv kr n256 b h (ctx t) j - M)))) * Real.exp (score q kv kr n256 b h (ctx t) j - M)) : ℝ) : EReal) := by
    rw [val_main_v106_apply, h1]
    exact (EReal.coe_neg _).symm
  pointwise [val_main_v110, val_main_v109, val_main_cst_24]
  rw [Fin.sum_univ_one, h2]

include hq hkv hkr hg in
/-- The derivative by a score. -/
theorem slope_c (b : Fin 4) (h : Fin 8) (t : Fin 256) (j : Fin 256) :
    val_main_v112 (F := Ideal) x0 x1 x2 x3 (ix4 b h t j) = (dS q kv kr g n256 b h (ctx t) j : EReal) := by
  obtain ⟨M, hM⟩ := max_c x0 x1 x2 q kv kr hq hkv hkr b h t
  have h1 : val_main_v107 (F := Ideal) x0 x1 x2 (ix4 b h t j) = (((∑ j, Real.exp (score q kv kr n256 b h (ctx t) j - M)) : ℝ) : EReal) := by
    pointwise [val_main_v107, sum1_c x0 x1 x2 q kv kr hq hkv hkr b h t M hM]
  have h2 : val_main_v108 (F := Ideal) x0 x1 x2 x3 (ix4 b h t j) = ((dP kv g n256 b h (ctx t) j / (∑ j, Real.exp (score q kv kr n256 b h (ctx t) j - M)) : ℝ) : EReal) := by
    rw [val_main_v108_apply, dP_c x1 x3 kv g hkv hg b h t j, h1]
    exact div_coe _ (Z_shift_pos _ M).ne'
  have h3 : val_main_v111 (F := Ideal) x0 x1 x2 x3 (ix4 b h t j) = ((dP kv g n256 b h (ctx t) j / (∑ j, Real.exp (score q kv kr n256 b h (ctx t) j - M)) + -(∑ j, dP kv g n256 b h (ctx t) j * (1 / ((∑ j, Real.exp (score q kv kr n256 b h (ctx t) j - M)) * (∑ j, Real.exp (score q kv kr n256 b h (ctx t) j - M)))) * Real.exp (score q kv kr n256 b h (ctx t) j - M)) : ℝ) : EReal) := by
    rw [val_main_v111_apply, h2, back_c x0 x1 x2 x3 q kv kr g hq hkv hkr hg b h t M hM j, Ideal.addf_def, ← EReal.coe_add]
  rw [val_main_v112_apply, h3, exp_c x0 x1 x2 q kv kr hq hkv hkr b h t M hM j, Ideal.mulf_def, ← EReal.coe_mul, grad_shift]
  rfl

include hq hkv hkr hg in
/-- These rows' part of the derivative by a key. -/
theorem dk_c (b : Fin 4) (k : Fin 256) (h : Fin 8) (d : Fin 96) :
    val_main_v114 (F := Ideal) x0 x1 x2 x3 (ix4 b k h d) = ((∑ t : Fin 256, dS q kv kr g n256 b h (ctx t) k * q b (ctx t) h d : ℝ) : EReal) := by
  pointwise [val_main_v114, val_main_v113, val_main_v7, dot_S4x8x256x256_S4x256x8x96_S4x8x256x96_2_1_3_3_01_02, slope_c x0 x1 x2 x3 q kv kr g hq hkv hkr hg, hq]
  exact dot_coe (fun t => dS q kv kr g n256 b h (ctx t) k) (fun t => q b (ctx t) h d)

include hq hkv hkr hg in
/-- The derivative by a query of these rows. -/
theorem dq_c (b : Fin 4) (t : Fin 256) (h : Fin 8) (d : Fin 96) :
    val_main_v116 (F := Ideal) x0 x1 x2 x3 (ix4 b t h d) = ((∑ j : Fin 256, dS q kv kr g n256 b h (ctx t) j * kk kv kr b (Fin.castLE n256 j) h d : ℝ) : EReal) := by
  pointwise [val_main_v116, val_main_v115, val_main_v8, dot_S4x8x256x256_S4x256x8x96_S4x8x256x96_3_1_2_3_01_02, slope_c x0 x1 x2 x3 q kv kr g hq hkv hkr hg, keys x1 x2 kv kr hkv hkr]
  exact dot_coe (fun j => dS q kv kr g n256 b h (ctx t) j) (fun j => kk kv kr b (Fin.castLE n256 j) h d)

include hq hkv hkr hg in
/-- These rows' part of the derivative by a value. -/
theorem dv_c (b : Fin 4) (k : Fin 256) (h : Fin 8) (d : Fin 64) :
    val_main_v100 (F := Ideal) x0 x1 x2 x3 (ix4 b k h d) = ((∑ t : Fin 256, sm (score q kv kr n256 b h (ctx t)) k * g b (ctx t) h d : ℝ) : EReal) := by
  pointwise [val_main_v100, val_main_v99, val_main_v97, val_main_v74, dot_S4x8x64x256_S4x8x256x256_S4x8x64x256_3_2_2_3_01_01, weight_c x0 x1 x2 q kv kr hq hkv hkr, hg]
  rw [coe_sum]
  exact Finset.sum_congr rfl fun t _ => by rw [← EReal.coe_mul, mul_comm]

/-! ### Latent rows: all keys -/

include hq hkv hkr in
theorem scores_l (b : Fin 4) (h : Fin 8) (t : Fin 2048) (j : Fin 2304) :
    val_main_v42 (F := Ideal) x0 x1 x2 (ix4 b h t j) = (score q kv kr n2304 b h (lat t) j : EReal) := by
  pointwise [val_main_v42, val_main_v41, dot_S4x2048x8x96_S4x2304x8x96_S4x8x2048x2304_3_3_1_1_02_02, hq, keys x1 x2 kv kr hkv hkr]
  exact dot_coe _ _

include hq hkv hkr in
theorem rowmax_l (b : Fin 4) (h : Fin 8) (t : Fin 2048) : ∃ M : ℝ, val_main_v43 (F := Ideal) x0 x1 x2 (ix3 b h t) = (M : EReal) := by
  obtain ⟨M, hM⟩ := fold_max_coe (score q kv kr n2304 b h (lat t))
  refine ⟨M, ?_⟩
  pointwise [val_main_v43, val_main_cst_10, scores_l x0 x1 x2 q kv kr hq hkv hkr]
  rw [ofBits_neg_inf, hM]

include hq hkv hkr in
theorem max_l (b : Fin 4) (h : Fin 8) (t : Fin 2048) : ∃ M : ℝ, val_main_v50 (F := Ideal) x0 x1 x2 (ix3 b h t) = (M : EReal) := by
  obtain ⟨M, hM⟩ := rowmax_l x0 x1 x2 q kv kr hq hkv hkr b h t
  refine ⟨M, ?_⟩
  have hb : val_main_v49 (F := Ideal) (ix3 b h t) = (⊥ : EReal) := by rw [← ofBits_neg_inf]; rfl
  rw [val_main_v50_apply, hM, hb]
  exact max_bot_coe M

include hq hkv hkr in
theorem exp_l (b : Fin 4) (h : Fin 8) (t : Fin 2048) (M : ℝ) (hM : val_main_v50 (F := Ideal) x0 x1 x2 (ix3 b h t) = (M : EReal)) (j : Fin 2304) :
    val_main_v63 (F := Ideal) x0 x1 x2 (ix4 b h t j) = (Real.exp (score q kv kr n2304 b h (lat t) j - M) : EReal) := by
  pointwise [val_main_v63, val_main_v62, val_main_v61, val_main_v60, scores_l x0 x1 x2 q kv kr hq hkv hkr, hM]
  exact exp_sub_coe _ _

include hq hkv hkr in
theorem sum_l (b : Fin 4) (h : Fin 8) (t : Fin 2048) (M : ℝ) (hM : val_main_v50 (F := Ideal) x0 x1 x2 (ix3 b h t) = (M : EReal)) :
    val_main_v64 (F := Ideal) x0 x1 x2 (ix3 b h t) = (((∑ j, Real.exp (score q kv kr n2304 b h (lat t) j - M)) : ℝ) : EReal) := by
  pointwise [val_main_v64, val_main_cst_18, exp_l x0 x1 x2 q kv kr hq hkv hkr b h t M hM]
  simp only [← coe_sum, Ideal.ofBits_zero_f32, zero_add]

include hq hkv hkr in
theorem sum1_l (b : Fin 4) (h : Fin 8) (t : Fin 2048) (M : ℝ) (hM : val_main_v50 (F := Ideal) x0 x1 x2 (ix3 b h t) = (M : EReal)) :
    val_main_v65 (F := Ideal) x0 x1 x2 (ix4 b h t 0) = (((∑ j, Real.exp (score q kv kr n2304 b h (lat t) j - M)) : ℝ) : EReal) := by
  pointwise [val_main_v65, sum_l x0 x1 x2 q kv kr hq hkv hkr b h t M hM]

include hq hkv hkr in
theorem weight_l (b : Fin 4) (h : Fin 8) (t : Fin 2048) (j : Fin 2304) :
    val_main_v67 (F := Ideal) x0 x1 x2 (ix4 b h t j) = (sm (score q kv kr n2304 b h (lat t)) j : EReal) := by
  obtain ⟨M, hM⟩ := max_l x0 x1 x2 q kv kr hq hkv hkr b h t
  pointwise [val_main_v67, val_main_v66, val_main_v65, sum_l x0 x1 x2 q kv kr hq hkv hkr b h t M hM, exp_l x0 x1 x2 q kv kr hq hkv hkr b h t M hM]
  rw [div_coe _ (Z_shift_pos _ M).ne', sm_shift]

include hkv hg in
theorem dP_l (b : Fin 4) (h : Fin 8) (t : Fin 2048) (j : Fin 2304) :
    val_main_v77 (F := Ideal) x1 x3 (ix4 b h t j) = (dP kv g n2304 b h (lat t) j : EReal) := by
  pointwise [val_main_v77, val_main_v76, val_main_v75, dot_S4x8x64x2048_S4x2304x8x64_S4x8x2048x2304_2_3_3_1_01_02, hg, values x1 kv hkv]
  exact dot_coe _ _

include hq hkv hkr in
theorem recip_l (b : Fin 4) (h : Fin 8) (t : Fin 2048) (M : ℝ) (hM : val_main_v50 (F := Ideal) x0 x1 x2 (ix3 b h t) = (M : EReal)) :
    val_main_v70 (F := Ideal) x0 x1 x2 (ix4 b h t 0) = ((1 / ((∑ j, Real.exp (score q kv kr n2304 b h (lat t) j - M)) * (∑ j, Real.exp (score q kv kr n2304 b h (lat t) j - M))) : ℝ) : EReal) := by
  have h1 : val_main_v69 (F := Ideal) (ix4 b h t 0) = ((1 : ℝ) : EReal) := Ideal.ofBits_one_f32
  have h2 : val_main_v68 (F := Ideal) x0 x1 x2 (ix4 b h t 0) = (((∑ j, Real.exp (score q kv kr n2304 b h (lat t) j - M)) * (∑ j, Real.exp (score q kv kr n2304 b h (lat t) j - M)) : ℝ) : EReal) := by
    rw [val_main_v68_apply, sum1_l x0 x1 x2 q kv kr hq hkv hkr b h t M hM, Ideal.mulf_def, ← EReal.coe_mul]
  rw [val_main_v70_apply, h1, h2]
  exact div_coe 1 (mul_pos (Z_shift_pos _ M) (Z_shift_pos _ M)).ne'

include hq hkv hkr hg in
theorem term_l (b : Fin 4) (h : Fin 8) (t : Fin 2048) (M : ℝ) (hM : val_main_v50 (F := Ideal) x0 x1 x2 (ix3 b h t) = (M : EReal)) (j : Fin 2304) :
    val_main_v82 (F := Ideal) x0 x1 x2 x3 (ix4 b h t j) = ((dP kv g n2304 b h (lat t) j * (1 / ((∑ j, Real.exp (score q kv kr n2304 b h (lat t) j - M)) * (∑ j, Real.exp (score q kv kr n2304 b h (lat t) j - M)))) * Real.exp (score q kv kr n2304 b h (lat t) j - M) : ℝ) : EReal) := by
  have h1 : val_main_v80 (F := Ideal) x0 x1 x2 (ix4 b h t j) = ((1 / ((∑ j, Real.exp (score q kv kr n2304 b h (lat t) j - M)) * (∑ j, Real.exp (score q kv kr n2304 b h (lat t) j - M))) : ℝ) : EReal) := by
    pointwise [val_main_v80, recip_l x0 x1 x2 q kv kr hq hkv hkr b h t M hM]
  have h2 : val_main_v81 (F := Ideal) x0 x1 x2 x3 (ix4 b h t j) = ((dP kv g n2304 b h (lat t) j * (1 / ((∑ j, Real.exp (score q kv kr n2304 b h (lat t) j - M)) * (∑ j, Real.exp (score q kv kr n2304 b h (lat t) j - M)))) : ℝ) : EReal) := by
    rw [val_main_v81_apply, dP_l x1 x3 kv g hkv hg b h t j, h1, Ideal.mulf_def, ← EReal.coe_mul]
  rw [val_main_v82_apply, h2, exp_l x0 x1 x2 q kv kr hq hkv hkr b h t M hM j, Ideal.mulf_def, ← EReal.coe_mul]

include hq hkv hkr hg in
theorem dot_l (b : Fin 4) (h : Fin 8) (t : Fin 2048) (M : ℝ) (hM : val_main_v50 (F := Ideal) x0 x1 x2 (ix3 b h t) = (M : EReal)) :
    val_main_v83 (F := Ideal) x0 x1 x2 x3 (ix3 b h t) = ((∑ j, dP kv g n2304 b h (lat t) j * (1 / ((∑ j, Real.exp (score q kv kr n2304 b h (lat t) j - M)) * (∑ j, Real.exp (score q kv kr n2304 b h (lat t) j - M)))) * Real.exp (score q kv kr n2304 b h (lat t) j - M) : ℝ) : EReal) := by
  pointwise [val_main_v83, val_main_cst_20, term_l x0 x1 x2 x3 q kv kr g hq hkv hkr hg b h t M hM]
  simp only [← coe_sum, Ideal.ofBits_zero_f32, zero_add]

include hq hkv hkr hg in
theorem back_l (b : Fin 4) (h : Fin 8) (t : Fin 2048) (M : ℝ) (hM : val_main_v50 (F := Ideal) x0 x1 x2 (ix3 b h t) = (M : EReal)) (j : Fin 2304) :
    val_main_v89 (F := Ideal) x0 x1 x2 x3 (ix4 b h t j) = ((-(∑ j, dP kv g n2304 b h (lat t) j * (1 / ((∑ j, Real.exp (score q kv kr n2304 b h (lat t) j - M)) * (∑ j, Real.exp (score q kv kr n2304 b h (lat t) j - M)))) * Real.exp (score q kv kr n2304 b h (lat t) j - M)) : ℝ) : EReal) := by
  have h1 : val_main_v84 (F := Ideal) x0 x1 x2 x3 (ix4 b h t 0) = ((∑ j, dP kv g n2304 b h (lat t) j * (1 / ((∑ j, Real.exp (score q kv kr n2304 b h (lat t) j - M)) * (∑ j, Real.exp (score q kv kr n2304 b h (lat t) j - M)))) * Real.exp (score q kv kr n2304 b h (lat t) j - M) : ℝ) : EReal) :=
    (Idealize.ShloMosaic.shapeCast_apply _ _ _ _ (by
      rewrite [Shape.rowMajor_val_three, Shape.rowMajor_val_four]
      show (b.val * 8 + h.val) * 2048 + t.val = ((b.val * 8 + h.val) * 2048 + t.val) * 1 + 0
      omega)).trans (dot_l x0 x1 x2 x3 q kv kr g hq hkv hkr hg b h t M hM)
  have h2 : val_main_v85 (F := Ideal) x0 x1 x2 x3 (ix4 b h t 0) = ((-(∑ j, dP kv g n2304 b h (lat t) j * (1 / ((∑ j, Real.exp (score q kv kr n2304 b h (lat t) j - M)) * (∑ j, Real.exp (score q kv kr n2304 b h (lat t) j - M)))) * Real.exp (score q kv kr n2304 b h (lat t) j - M)) : ℝ) : EReal) := by
    rw [val_main_v85_apply, h1]
    exact (EReal.coe_neg _).symm
  pointwise [val_main_v89, val_main_v88, val_main_cst_21]
  rw [Fin.sum_univ_one, h2]

include hq hkv hkr hg in
/-- The derivative by a score. -/
theorem slope_l (b : Fin 4) (h : Fin 8) (t : Fin 2048) (j : Fin 2304) :
    val_main_v91 (F := Ideal) x0 x1 x2 x3 (ix4 b h t j) = (dS q kv kr g n2304 b h (lat t) j : EReal) := by
  obtain ⟨M, hM⟩ := max_l x0 x1 x2 q kv kr hq hkv hkr b h t
  have h1 : val_main_v86 (F := Ideal) x0 x1 x2 (ix4 b h t j) = (((∑ j, Real.exp (score q kv kr n2304 b h (lat t) j - M)) : ℝ) : EReal) := by
    pointwise [val_main_v86, sum1_l x0 x1 x2 q kv kr hq hkv hkr b h t M hM]
  have h2 : val_main_v87 (F := Ideal) x0 x1 x2 x3 (ix4 b h t j) = ((dP kv g n2304 b h (lat t) j / (∑ j, Real.exp (score q kv kr n2304 b h (lat t) j - M)) : ℝ) : EReal) := by
    rw [val_main_v87_apply, dP_l x1 x3 kv g hkv hg b h t j, h1]
    exact div_coe _ (Z_shift_pos _ M).ne'
  have h3 : val_main_v90 (F := Ideal) x0 x1 x2 x3 (ix4 b h t j) = ((dP kv g n2304 b h (lat t) j / (∑ j, Real.exp (score q kv kr n2304 b h (lat t) j - M)) + -(∑ j, dP kv g n2304 b h (lat t) j * (1 / ((∑ j, Real.exp (score q kv kr n2304 b h (lat t) j - M)) * (∑ j, Real.exp (score q kv kr n2304 b h (lat t) j - M)))) * Real.exp (score q kv kr n2304 b h (lat t) j - M)) : ℝ) : EReal) := by
    rw [val_main_v90_apply, h2, back_l x0 x1 x2 x3 q kv kr g hq hkv hkr hg b h t M hM j, Ideal.addf_def, ← EReal.coe_add]
  rw [val_main_v91_apply, h3, exp_l x0 x1 x2 q kv kr hq hkv hkr b h t M hM j, Ideal.mulf_def, ← EReal.coe_mul, grad_shift]
  rfl

include hq hkv hkr hg in
/-- These rows' part of the derivative by a key. -/
theorem dk_l (b : Fin 4) (k : Fin 2304) (h : Fin 8) (d : Fin 96) :
    val_main_v93 (F := Ideal) x0 x1 x2 x3 (ix4 b k h d) = ((∑ t : Fin 2048, dS q kv kr g n2304 b h (lat t) k * q b (lat t) h d : ℝ) : EReal) := by
  pointwise [val_main_v93, val_main_v92, val_main_v41, dot_S4x8x2048x2304_S4x2048x8x96_S4x8x2304x96_2_1_3_3_01_02, slope_l x0 x1 x2 x3 q kv kr g hq hkv hkr hg, hq]
  exact dot_coe (fun t => dS q kv kr g n2304 b h (lat t) k) (fun t => q b (lat t) h d)

include hq hkv hkr hg in
/-- The derivative by a query of these rows. -/
theorem dq_l (b : Fin 4) (t : Fin 2048) (h : Fin 8) (d : Fin 96) :
    val_main_v95 (F := Ideal) x0 x1 x2 x3 (ix4 b t h d) = ((∑ j : Fin 2304, dS q kv kr g n2304 b h (lat t) j * kk kv kr b (Fin.castLE n2304 j) h d : ℝ) : EReal) := by
  pointwise [val_main_v95, val_main_v94, dot_S4x8x2048x2304_S4x2304x8x96_S4x8x2048x96_3_1_2_3_01_02, slope_l x0 x1 x2 x3 q kv kr g hq hkv hkr hg, keys x1 x2 kv kr hkv hkr]
  exact dot_coe (fun j => dS q kv kr g n2304 b h (lat t) j) (fun j => kk kv kr b (Fin.castLE n2304 j) h d)

include hq hkv hkr hg in
/-- These rows' part of the derivative by a value. -/
theorem dv_l (b : Fin 4) (k : Fin 2304) (h : Fin 8) (d : Fin 64) :
    val_main_v79 (F := Ideal) x0 x1 x2 x3 (ix4 b k h d) = ((∑ t : Fin 2048, sm (score q kv kr n2304 b h (lat t)) k * g b (lat t) h d : ℝ) : EReal) := by
  pointwise [val_main_v79, val_main_v78, val_main_v76, val_main_v75, dot_S4x8x64x2048_S4x8x2048x2304_S4x8x64x2304_3_2_2_3_01_01, weight_l x0 x1 x2 q kv kr hq hkv hkr, hg]
  rw [coe_sum]
  exact Finset.sum_congr rfl fun t _ => by rw [← EReal.coe_mul, mul_comm]

/-! ### The three results -/

theorem lat_sub (t : Fin 2304) (ht : 256 ≤ t.val) : lat ⟨t.val - 256, by omega⟩ = t := Fin.ext (by show 256 + (t.val - 256) = t.val; omega)

include hq hkv hkr hg

theorem keySlope (b : Fin 4) (k : Fin 2304) (h : Fin 8) (d : Fin 96) :
    val_main_v120 (F := Ideal) x0 x1 x2 x3 (ix4 b k h d) = (gk q kv kr g b h k d : EReal) := by
  have h1 : val_main_v119 (F := Ideal) x0 x1 x2 x3 (ix4 b k h d)
      = ((if hk : k.val < 256 then ∑ t : Fin 256, dS q kv kr g n256 b h (ctx t) ⟨k.val, hk⟩ * q b (ctx t) h d else 0 : ℝ) : EReal) := by
    refine (pad_ctx96 _ _ _ _ b k h d).trans ?_
    by_cases hk : k.val < 256
    · rw [dif_pos hk, dif_pos hk]
      exact dk_c x0 x1 x2 x3 q kv kr g hq hkv hkr hg b ⟨k.val, hk⟩ h d
    · rw [dif_neg hk, dif_neg hk]
      exact zero_word _
  rw [val_main_v120_apply, dk_l x0 x1 x2 x3 q kv kr g hq hkv hkr hg b k h d, h1, Ideal.addf_def, ← EReal.coe_add, ← gk_split]

theorem valueSlope (b : Fin 4) (k : Fin 2304) (h : Fin 8) (d : Fin 64) :
    val_main_v118 (F := Ideal) x0 x1 x2 x3 (ix4 b k h d) = (gv q kv kr g b h k d : EReal) := by
  have h1 : val_main_v117 (F := Ideal) x0 x1 x2 x3 (ix4 b k h d)
      = ((if hk : k.val < 256 then ∑ t : Fin 256, sm (score q kv kr n256 b h (ctx t)) ⟨k.val, hk⟩ * g b (ctx t) h d else 0 : ℝ) : EReal) := by
    refine (pad_ctx64 _ _ _ _ b k h d).trans ?_
    by_cases hk : k.val < 256
    · rw [dif_pos hk, dif_pos hk]
      exact dv_c x0 x1 x2 x3 q kv kr g hq hkv hkr hg b ⟨k.val, hk⟩ h d
    · rw [dif_neg hk, dif_neg hk]
      exact zero_word _
  rw [val_main_v118_apply, dv_l x0 x1 x2 x3 q kv kr g hq hkv hkr hg b k h d, h1, Ideal.addf_def, ← EReal.coe_add, ← gv_split]

theorem querySlope (b : Fin 4) (t : Fin 2304) (h : Fin 8) (d : Fin 96) :
    val_main_v122 (F := Ideal) x0 x1 x2 x3 (ix4 b t h d) = (gq q kv kr g b h t d : EReal) := by
  rw [val_main_v122_apply, Ideal.addf_def]
  unfold gq
  by_cases ht : t.val < 256
  · have h1 : val_main_v96 (F := Ideal) x0 x1 x2 x3 (ix4 b t h d) = ((0 : ℝ) : EReal) := by
      refine (pad_lat96 _ _ _ _ b t h d).trans ?_
      rw [dif_neg (by omega)]
      exact zero_word _
    have h2 : val_main_v121 (F := Ideal) x0 x1 x2 x3 (ix4 b t h d) = ((∑ j : Fin 256, dS q kv kr g n256 b h t j * kk kv kr b (Fin.castLE n256 j) h d : ℝ) : EReal) := by
      refine (pad_ctx96 _ _ _ _ b t h d).trans ?_
      rw [dif_pos ht]
      exact dq_c x0 x1 x2 x3 q kv kr g hq hkv hkr hg b ⟨t.val, ht⟩ h d
    rw [if_pos ht, h1, h2, ← EReal.coe_add, zero_add]
  · have h1 : val_main_v96 (F := Ideal) x0 x1 x2 x3 (ix4 b t h d) = ((∑ j : Fin 2304, dS q kv kr g n2304 b h t j * kk kv kr b (Fin.castLE n2304 j) h d : ℝ) : EReal) := by
      refine (pad_lat96 _ _ _ _ b t h d).trans ?_
      rw [dif_pos (by omega)]
      refine (dq_l x0 x1 x2 x3 q kv kr g hq hkv hkr hg b ⟨t.val - 256, by omega⟩ h d).trans ?_
      rw [lat_sub t (by omega)]
    have h2 : val_main_v121 (F := Ideal) x0 x1 x2 x3 (ix4 b t h d) = ((0 : ℝ) : EReal) := by
      refine (pad_ctx96 _ _ _ _ b t h d).trans ?_
      rw [dif_neg ht]
      exact zero_word _
    rw [if_neg ht, h1, h2, ← EReal.coe_add, add_zero]

theorem result_dq (b : Fin 4) (t : Fin 2304) (h : Fin 8) (d : Fin 128) :
    val_main_v133 (F := Ideal) x0 x1 x2 x3 (ix2 (rowOf b t) (laneOf h d)) = (gqLane q kv kr g b h t d : EReal) := by
  refine (cast_kv _ _ b t h d).trans ?_
  refine (pad_high32 _ _ _ _ b t h d).trans ?_
  unfold gqLane
  by_cases hd : d.val < 96
  · rw [dif_pos hd, dif_pos hd]
    exact querySlope x0 x1 x2 x3 q kv kr g hq hkv hkr hg b t h ⟨d.val, hd⟩
  · rw [dif_neg hd, dif_neg hd]
    exact FwdHost.padding _

theorem result_dkv (b : Fin 4) (k : Fin 2304) (h : Fin 8) (d : Fin 128) :
    val_main_v134 (F := Ideal) x0 x1 x2 x3 (ix2 (rowOf b k) (laneOf h d)) = (gkvLane q kv kr g b h k d : EReal) := by
  refine (cast_kv _ _ b k h d).trans ?_
  rw [val_main_v130_apply, Ideal.addf_def]
  unfold gkvLane
  by_cases hd : d.val < 64
  · have h1 : val_main_v123 (F := Ideal) x0 x1 x2 x3 (ix4 b k h d) = ((0 : ℝ) : EReal) := by
      refine (pad_low64 _ _ _ _ b k h d).trans ?_
      rw [dif_neg (by omega)]
      exact zero_word _
    have h2 : val_main_v129 (F := Ideal) x0 x1 x2 x3 (ix4 b k h d) = (gk q kv kr g b h k ⟨d.val, by omega⟩ : EReal) := by
      refine (pad_high64 _ _ _ _ b k h d).trans ?_
      rw [dif_pos hd]
      refine Eq.trans ?_ (keySlope x0 x1 x2 x3 q kv kr g hq hkv hkr hg b k h ⟨d.val, by omega⟩)
      pointwise [val_main_v124]
    rw [dif_pos hd, h1, h2, ← EReal.coe_add, zero_add]
  · have h1 : val_main_v123 (F := Ideal) x0 x1 x2 x3 (ix4 b k h d) = (gv q kv kr g b h k ⟨d.val - 64, by omega⟩ : EReal) := by
      refine (pad_low64 _ _ _ _ b k h d).trans ?_
      rw [dif_pos (by omega)]
      exact valueSlope x0 x1 x2 x3 q kv kr g hq hkv hkr hg b k h ⟨d.val - 64, by omega⟩
    have h2 : val_main_v129 (F := Ideal) x0 x1 x2 x3 (ix4 b k h d) = ((0 : ℝ) : EReal) := by
      refine (pad_high64 _ _ _ _ b k h d).trans ?_
      rw [dif_neg hd]
      exact zero_word _
    rw [dif_neg hd, h1, h2, ← EReal.coe_add, add_zero]

theorem shared (b : Fin 4) (k : Fin 2304) (d : Fin 32) :
    val_main_v128 (F := Ideal) x0 x1 x2 x3 (ix3 b k d) = ((∑ h, gk q kv kr g b h k ⟨64 + d.val, by omega⟩ : ℝ) : EReal) := by
  have h1 : ∀ h, val_main_v125 (F := Ideal) x0 x1 x2 x3 (ix4 b k h d) = (gk q kv kr g b h k ⟨64 + d.val, by omega⟩ : EReal) := by
    intro h
    refine Eq.trans ?_ (keySlope x0 x1 x2 x3 q kv kr g hq hkv hkr hg b k h ⟨64 + d.val, by omega⟩)
    pointwise [val_main_v125]
  have h2 : val_main_v126 (F := Ideal) x0 x1 x2 x3 (ix3 b k d) = ((∑ h, gk q kv kr g b h k ⟨64 + d.val, by omega⟩ : ℝ) : EReal) := by
    pointwise [val_main_v126, val_main_cst_29, h1]
    simp only [← coe_sum, Ideal.ofBits_zero_f32, zero_add]
  pointwise [val_main_v128, val_main_cst_30, val_main_v127, h2]
  rw [Fin.sum_univ_one]

theorem result_dkr (b : Fin 4) (k : Fin 2304) (d : Fin 128) :
    val_main_v135 (F := Ideal) x0 x1 x2 x3 (ix2 (rowOf b k) d) = (gkrLane q kv kr g b k d : EReal) := by
  refine (cast_kr128 _ _ b k d).trans ?_
  refine (pad_mid _ _ _ _ b k d).trans ?_
  unfold gkrLane
  by_cases hd : 64 ≤ d.val ∧ d.val < 96
  · rw [dif_pos hd, dif_pos hd]
    refine (shared x0 x1 x2 x3 q kv kr g hq hkv hkr hg b k ⟨d.val - 64, by omega⟩).trans ?_
    refine congrArg _ (Finset.sum_congr rfl fun h _ => congrArg _ (Fin.ext ?_))
    show 64 + (d.val - 64) = d.val
    omega
  · rw [dif_neg hd, dif_neg hd]
    exact FwdHost.padding _

end Cert.BwdRef

end
-- ==== Proof.KernelClaim.lean ====
/- The gradient call and the gradients' reference end with the same arrays, from finite arguments. -/
module

public import proofs.«01_k».proof.Proof.KernelArrays
public import proofs.«01_k».proof.Proof.BwdRef
public import proofs.«01_k».proof.Proof.FwdClaim
public import proofs.«01_k».proof.Proof.Gen.ReferenceIdeal.Run
public import proofs.«01_k».proof.Proof.Gen.Pre_finite

@[expose] public section

set_option maxRecDepth 16384

noncomputable section

namespace Cert.KernelClaim

open Idealize.ShloMosaic Idealize.ShloMosaic.TcCoe Idealize.SL.Sem Cert.KernelIdeal Cert.KernelIdeal.Gen Cert.Reals Cert.HostArrays Cert.Grad Cert.Finite
open Cert.KernelArrays (Args headOf)

section

variable (m : (ℓ : Loc nD τ sig) → Buf (Elt Ideal) ℓ) (c : Dev nD)
  (q : Fin 4 → Fin 2304 → Fin 8 → Fin 96 → ℝ) (kv : Fin 4 → Fin 2304 → Fin 8 → Fin 128 → ℝ) (kr : Fin 4 → Fin 2304 → Fin 32 → ℝ)
  (g : Fin 4 → Fin 2304 → Fin 8 → Fin 64 → ℝ) (H : Args m c q kv kr g)

/-- A row and a lane of 9216 by 1024: batch entry, tile and row, head pair, head and lane. -/
theorem split_heads (i : (⟨2, ![9216, 1024]⟩ : Shape).Idx) : ∃ (b p : Fin 4) (j : Fin 9) (r : Fin 256) (e : Fin 2) (d : Fin 128),
    i = ix2 (rowOf b (tileRow j r)) (laneOf (headOf p e) d) := by
  have h0 : (i 0).val < 9216 := (i 0).isLt
  have h1 : (i 1).val < 1024 := (i 1).isLt
  refine ⟨⟨(i 0).val / 2304, by omega⟩, ⟨(i 1).val / 256, by omega⟩, ⟨(i 0).val % 2304 / 256, by omega⟩, ⟨(i 0).val % 256, by omega⟩,
    ⟨(i 1).val / 128 % 2, by omega⟩, ⟨(i 1).val % 128, by omega⟩, ?_⟩
  funext a
  apply Fin.ext
  match a with
  | ⟨0, _⟩ => show (i 0).val = 2304 * ((i 0).val / 2304) + (256 * ((i 0).val % 2304 / 256) + (i 0).val % 256); omega
  | ⟨1, _⟩ => show (i 1).val = 128 * (2 * ((i 1).val / 256) + (i 1).val / 128 % 2) + (i 1).val % 128; omega

theorem split_rows (i : (⟨2, ![9216, 128]⟩ : Shape).Idx) : ∃ (b : Fin 4) (k : Fin 2304), i = ix2 (rowOf b k) (i 1) := by
  have h0 : (i 0).val < 9216 := (i 0).isLt
  refine ⟨⟨(i 0).val / 2304, by omega⟩, ⟨(i 0).val % 2304, by omega⟩, ?_⟩
  funext a
  apply Fin.ext
  match a with
  | ⟨0, _⟩ => show (i 0).val = 2304 * ((i 0).val / 2304) + (i 0).val % 2304; omega
  | ⟨1, _⟩ => rfl

variable {m c q kv kr g}

include H

theorem equal_q : (dats m 0 c).arrAt 6 cfg0.N = ReferenceIdeal.Read.val_main_v133 (F := Ideal) (m ((c : Thread nD τ).loc main_arg0))
    (m ((c : Thread nD τ).loc main_arg1)) (m ((c : Thread nD τ).loc main_arg2)) (m ((c : Thread nD τ).loc main_arg3)) := by
  funext i
  obtain ⟨b, p, j, r, e, d, ei⟩ := split_heads i
  rw [ei]
  exact (KernelArrays.array_q H b p j r e d).trans (BwdRef.result_dq _ _ _ _ q kv kr g H.q H.kv H.kr H.g b (tileRow j r) (headOf p e) d).symm

theorem equal_kv : (dats m 0 c).arrAt 7 cfg0.N = ReferenceIdeal.Read.val_main_v134 (F := Ideal) (m ((c : Thread nD τ).loc main_arg0))
    (m ((c : Thread nD τ).loc main_arg1)) (m ((c : Thread nD τ).loc main_arg2)) (m ((c : Thread nD τ).loc main_arg3)) := by
  funext i
  obtain ⟨b, p, j, r, e, d, ei⟩ := split_heads i
  rw [ei]
  exact (KernelArrays.array_kv H b p (tileRow j r) e d).trans (BwdRef.result_dkv _ _ _ _ q kv kr g H.q H.kv H.kr H.g b (tileRow j r) (headOf p e) d).symm

theorem equal_kr : (dats m 0 c).arrAt 8 cfg0.N = ReferenceIdeal.Read.val_main_v135 (F := Ideal) (m ((c : Thread nD τ).loc main_arg0))
    (m ((c : Thread nD τ).loc main_arg1)) (m ((c : Thread nD τ).loc main_arg2)) (m ((c : Thread nD τ).loc main_arg3)) := by
  funext i
  obtain ⟨b, k, ei⟩ := split_rows i
  rw [ei]
  exact (KernelArrays.array_kr H b k (i 1)).trans (BwdRef.result_dkr _ _ _ _ q kv kr g H.q H.kv H.kr H.g b k (i 1)).symm

end

theorem algebraic : Cert.algebraic_KernelIdeal_ReferenceIdeal_pre_finite
    (hKernelIdeal := Cert.KernelIdeal.Gen.facts) (hReferenceIdeal := Cert.ReferenceIdeal.Gen.facts) (hPre_finite := Cert.Pre_finite.Gen.facts) := by
  intro m g m' g' hpre hag
  refine ⟨fun c => (dats m 0 c).arrAt 6 cfg0.N, fun c => (dats m 0 c).arrAt 7 cfg0.N, fun c => (dats m 0 c).arrAt 8 cfg0.N, Value.run_blocks m g, ?_⟩
  refine (θ_run ReferenceIdeal.defs _ _).mono (fun r h c => ?_) (ReferenceIdeal.Value.run m' g')
  obtain ⟨h0, h1, h2, k0, k1, k2, k3⟩ := h c
  obtain ⟨a0, a1, a2, a3⟩ := hag c
  obtain ⟨f0, f1, f2, f3⟩ := hpre c
  obtain ⟨q, hq⟩ := FwdClaim.scaled_coe _ (real_of_finite _ _ f0)
  have H : Args m c q (fun b t h d => _) (fun b t d => _) (fun b t h d => _) :=
    ⟨hq, fun b t h d => real_of_finite _ _ f1 (ix4 b t h d), fun b t d => real_of_finite _ _ f2 (ix3 b t d), fun b t h d => real_of_finite _ _ f3 (ix4 b t h d)⟩
  rw [ReferenceIdeal.Read.val_main_v133_eq, a0, a1, a2, a3] at h0
  rw [ReferenceIdeal.Read.val_main_v134_eq, a0, a1, a2, a3] at h1
  rw [ReferenceIdeal.Read.val_main_v135_eq, a0, a1, a2, a3] at h2
  exact ⟨h0.trans (equal_q H).symm, h1.trans (equal_kv H).symm, h2.trans (equal_kr H).symm, k0, k1, k2, k3⟩

end Cert.KernelClaim

end
-- ==== Proof.NormClaim.lean ====
/- The first half of the input projection's forward: the normed and modulated rows the call and the reference end with
   are the same array. -/
module

public import proofs.«01_k».proof.Proof.Gen.NormIdeal.Frame
public import Idealize.ShloMosaic.Lib.Pipeline.Value
public import proofs.«01_k».proof.Proof.Gen.NormReferenceIdeal.Read
public import proofs.«01_k».proof.Proof.Gen.NormReferenceIdeal.Run
public import proofs.«01_k».proof.Proof.Reals
public import proofs.«01_k».proof.Defs
public import Idealize.ShloMosaic.Lib.Quiescent

@[expose] public section

set_option maxRecDepth 16384

noncomputable section

namespace Cert.NormClaim

open Cert.NormIdeal Cert.NormIdeal.Gen Idealize.ShloMosaic Idealize.ShloMosaic.TcCoe Idealize.SL.Sem Cert.Reals

theorem hz2 : (![0, 0] : Fin 2 → Nat) = fun _ => 0 := funext fun a => by fin_cases a <;> rfl
theorem hz3 : (![0, 0, 0] : Fin 3 → Nat) = fun _ => 0 := funext fun a => by fin_cases a <;> rfl

section

variable {F : FTy → Type} [FloatOps F] (m : (ℓ : Loc nD τ sig) → Buf (Elt F) ℓ) (c : Dev nD)

/-- The body stores one value of its three blocks. -/
theorem out_eq (x0 : Vec F S256x1024 .f32) (x1 : Vec F S1x1x3072 .f32) (x2 : Vec F S1x1024 .f32) : out0_3 x0 x1 x2 = k0_pay1 x0 x1 x2 := by
  unfold out0_3
  rw [View.canon_unit_zero hz2]
  simp only [View.ld_unit_zero (S := S256x1024) hz2, View.ld_unit_zero (S := S1x1024) hz2, View.ld_unit_zero (S := S1x1x3072) hz3]

theorem V_mod : V m c main_v0 = shapeCast S8x1x3072 (m ((c : Thread nD τ).loc main_arg1)) shapeCasts_S8x3072_S8x1x3072 := by
  show StableHlo.after hostOps0 (fun b => m (c, b)) (Proc.devRef .tc main_v0) = _
  simp only [hostOps0]
  after_results_simp
  rfl

theorem inj3 : ∀ t t' : Fin cfg0.N, win0_3.index t = win0_3.index t' → t = t' :=
  (by decide +kernel : ∀ t t' : Fin grid0.N, win0_3.index t = win0_3.index t' → t = t')

/-- The block of the written array at a point is the value the body stored there. -/
theorem block3 (t : Fin cfg0.N) : ((cfg0.win 3).blk t).view.read (Elt F) ((dats m 0 c).arrAt 3 cfg0.N) = k0_pay1 (iblk m c 0 t) (iblk m c 1 t) (iblk m c 2 t) := by
  refine ((dats m 0 c).read_blk_arrAt_eq_flushed 3 (fun t t' _ _ hne => (cfg0.win 3).disjoint_blk fun h => hne (inj3 t t' h)) cfg0.N t t.isLt (flush0_3 t)).trans ?_
  show (cfg0.win 3).cut (grid0.coords t) ((dats m 0 c).after 3 t) = _
  rw [after0_3, out_eq]
  rfl

/-- The run, the written array named. -/
theorem run_blocks (ρ : Dev nD → PrngReg) : θ_run defs (onTc (τ := τ) (main (F := F))) ⟨m, fun _ => 0, ρ⟩ fun r => ∀ c : Dev nD,
      r.2.mem ((c : Thread nD τ).loc main_v1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c)))⟩)
    (run_main m ρ)

end

/-- The modulation row of a tile: the context's for the first of each nine, the sample's for the rest. -/
def modRow (b : Fin 4) (j : Fin 9) : Fin 8 := if j = 0 then 4 else b.castLE (by omega)

/-- Tile `j` of sample `b`. -/
abbrev tile (b : Fin 4) (j : Fin 9) : Fin 36 := ⟨9 * b.val + j.val, by omega⟩

/-- The grid point of a tile. -/
def pt (b : Fin 4) (j : Fin 9) : Fin cfg0.N := ⟨9 * b.val + j.val, by have h : cfg0.N = 36 := N_0; omega⟩

theorem index0 : ∀ (b : Fin 4) (j : Fin 9), win0_0.index (pt b j) (0 : Fin 2) = 9 * b.val + j.val ∧ win0_0.index (pt b j) (1 : Fin 2) = 0 := by decide +kernel
theorem index1 : ∀ (b : Fin 4) (j : Fin 9), win0_1.index (pt b j) (0 : Fin 3) = (modRow b j).val ∧ win0_1.index (pt b j) (1 : Fin 3) = 0 ∧ win0_1.index (pt b j) (2 : Fin 3) = 0 := by decide +kernel
theorem index2 : ∀ (b : Fin 4) (j : Fin 9), win0_2.index (pt b j) (0 : Fin 2) = 0 ∧ win0_2.index (pt b j) (1 : Fin 2) = 0 := by decide +kernel
theorem index3 : ∀ (b : Fin 4) (j : Fin 9), win0_3.index (pt b j) (0 : Fin 2) = 9 * b.val + j.val ∧ win0_3.index (pt b j) (1 : Fin 2) = 0 := by decide +kernel

/-- Row `r` of a tile. -/
abbrev rowOf (b : Fin 4) (j : Fin 9) (r : Fin 256) : Fin 9216 := ⟨256 * (9 * b.val + j.val) + r.val, by omega⟩

theorem emb0 (b : Fin 4) (j : Fin 9) (r : Fin 256) (d : Fin 1024) : ((cfg0.win 0).blk (pt b j)).view.emb (ix2 r d) = ix2 (rowOf b j r) d := by
  obtain ⟨h0, h1⟩ := index0 b j
  funext a
  apply Fin.ext
  match a with
  | ⟨0, _⟩ => show win0_0.index (pt b j) (0 : Fin 2) * 256 + 1 * r.val = 256 * (9 * b.val + j.val) + r.val; omega
  | ⟨1, _⟩ => show win0_0.index (pt b j) (1 : Fin 2) * 1024 + 1 * d.val = d.val; omega

theorem emb1 (b : Fin 4) (j : Fin 9) (d : Fin 3072) : ((cfg0.win 1).blk (pt b j)).view.emb (ix3 0 0 d) = ix3 (modRow b j) 0 d := by
  obtain ⟨h0, h1, h2⟩ := index1 b j
  funext a
  apply Fin.ext
  match a with
  | ⟨0, _⟩ => show win0_1.index (pt b j) (0 : Fin 3) * 1 + 1 * 0 = (modRow b j).val; omega
  | ⟨1, _⟩ => show win0_1.index (pt b j) (1 : Fin 3) * 1 + 1 * 0 = 0; omega
  | ⟨2, _⟩ => show win0_1.index (pt b j) (2 : Fin 3) * 3072 + 1 * d.val = d.val; omega

theorem emb2 (b : Fin 4) (j : Fin 9) (d : Fin 1024) : ((cfg0.win 2).blk (pt b j)).view.emb (ix2 0 d) = ix2 0 d := by
  obtain ⟨h0, h1⟩ := index2 b j
  funext a
  apply Fin.ext
  match a with
  | ⟨0, _⟩ => show win0_2.index (pt b j) (0 : Fin 2) * 1 + 1 * 0 = 0; omega
  | ⟨1, _⟩ => show win0_2.index (pt b j) (1 : Fin 2) * 1024 + 1 * d.val = d.val; omega

theorem emb3 (b : Fin 4) (j : Fin 9) (r : Fin 256) (d : Fin 1024) : ((cfg0.win 3).blk (pt b j)).view.emb (ix2 r d) = ix2 (rowOf b j r) d := by
  obtain ⟨h0, h1⟩ := index3 b j
  funext a
  apply Fin.ext
  match a with
  | ⟨0, _⟩ => show win0_3.index (pt b j) (0 : Fin 2) * 256 + 1 * r.val = 256 * (9 * b.val + j.val) + r.val; omega
  | ⟨1, _⟩ => show win0_3.index (pt b j) (1 : Fin 2) * 1024 + 1 * d.val = d.val; omega

/-- One entry of a normed and modulated row, from the row, its tile's modulation row and the gain. -/
def entry (x : Fin 1024 → EReal) (mod : Fin 3072 → EReal) (g : Fin 1024 → EReal) (d : Fin 1024) : EReal :=
  x d * Ideal.rsqrt (Ideal.div (∑ e, x e * x e) (Ideal.ofBits FTy.f32 1149239296#32) + Ideal.ofBits FTy.f32 897988541#32) * g d
    * (1 + mod ⟨1024 + d.val, by omega⟩) + mod ⟨d.val, by omega⟩

theorem pay_apply (v0 : Vec Ideal S256x1024 .f32) (v1 : Vec Ideal S1x1x3072 .f32) (v2 : Vec Ideal S1x1024 .f32) (r : Fin 256) (d : Fin 1024) :
    k0_pay1 v0 v1 v2 (ix2 r d) = entry (fun e => v0 (ix2 r e)) (fun e => v1 (ix3 0 0 e)) (fun e => v2 (ix2 0 e)) d := by
  unfold entry
  pointwise [k0_pay1]

section

variable (m : (ℓ : Loc nD τ sig) → Buf (Elt Ideal) ℓ) (c : Dev nD)

theorem block_x (b : Fin 4) (j : Fin 9) (r : Fin 256) (d : Fin 1024) : iblk m c 0 (pt b j) (ix2 r d) = m ((c : Thread nD τ).loc main_arg0) (ix2 (rowOf b j r) d) := by
  show V m c main_arg0 (((cfg0.win 0).blk (pt b j)).view.emb (ix2 r d)) = _
  rw [emb0, V_main_arg0]

theorem block_mod (b : Fin 4) (j : Fin 9) (d : Fin 3072) : iblk m c 1 (pt b j) (ix3 0 0 d) = m ((c : Thread nD τ).loc main_arg1) (ix2 (modRow b j) d) := by
  show V m c main_v0 (((cfg0.win 1).blk (pt b j)).view.emb (ix3 0 0 d)) = _
  rw [emb1, V_mod]
  exact shapeCast_apply _ shapeCasts_S8x3072_S8x1x3072 (ix3 (modRow b j) 0 d) (ix2 (modRow b j) d)
    (by rewrite [Shape.rowMajor_val_two, Shape.rowMajor_val_three]; show (modRow b j).val * 3072 + d.val = ((modRow b j).val * 1 + 0) * 3072 + d.val; omega)

theorem block_g (b : Fin 4) (j : Fin 9) (d : Fin 1024) : iblk m c 2 (pt b j) (ix2 0 d) = m ((c : Thread nD τ).loc main_arg2) (ix2 0 d) := by
  show V m c main_arg2 (((cfg0.win 2).blk (pt b j)).view.emb (ix2 0 d)) = _
  rw [emb2, V_main_arg2]

theorem array (b : Fin 4) (j : Fin 9) (r : Fin 256) (d : Fin 1024) :
    (dats m 0 c).arrAt 3 cfg0.N (ix2 (rowOf b j r) d)
      = entry (fun e => m ((c : Thread nD τ).loc main_arg0) (ix2 (rowOf b j r) e)) (fun e => m ((c : Thread nD τ).loc main_arg1) (ix2 (modRow b j) e))
          (fun e => m ((c : Thread nD τ).loc main_arg2) (ix2 0 e)) d := by
  rw [← emb3]
  refine (congrFun (block3 m c (pt b j)) _).trans ?_
  refine (pay_apply _ _ _ r d).trans ?_
  simp only [block_x, block_mod, block_g]

end

section

open NormReferenceIdeal.Read

variable (x0 : FVec Ideal NormReferenceIdeal.S9216x1024 .f32) (x1 : FVec Ideal NormReferenceIdeal.S8x3072 .f32) (x2 : FVec Ideal NormReferenceIdeal.S1x1024 .f32)

/-- The modulation rows joined, the context's first. -/
theorem ref_joined (b : Fin 4) (j : Fin 9) (d : Fin 3072) : val_main_v7 (F := Ideal) x1 (ix3 b j d) = x1 (ix2 (modRow b j) d) := by
  fin_cases j <;>
  · pointwise [val_main_v7, val_main_v6, val_main_v5, val_main_v4, val_main_v3, val_main_v2, val_main_v1, val_main_v0]
    rfl

theorem ref_mod (b : Fin 4) (j : Fin 9) (d : Fin 3072) : val_main_v8 (F := Ideal) x1 (ix3 (tile b j) 0 d) = x1 (ix2 (modRow b j) d) := by
  rw [val_main_v8_apply, ← ref_joined x1 b j d]
  refine congrArg _ ?_
  funext a
  apply Fin.ext
  match a with
  | ⟨0, _⟩ => show (((9 * b.val + j.val) * 1 + 0) * 3072 + d.val) / 27648 = b.val; omega
  | ⟨1, _⟩ => show (((9 * b.val + j.val) * 1 + 0) * 3072 + d.val) / 3072 % 9 = j.val; omega
  | ⟨2, _⟩ => show (((9 * b.val + j.val) * 1 + 0) * 3072 + d.val) % 3072 = d.val; omega

theorem ref_x (b : Fin 4) (j : Fin 9) (r : Fin 256) (d : Fin 1024) : val_main_v11 (F := Ideal) x0 (ix3 (tile b j) r d) = x0 (ix2 (rowOf b j r) d) := by
  rw [val_main_v11_apply]
  refine congrArg _ ?_
  funext a
  apply Fin.ext
  match a with
  | ⟨0, _⟩ => show (((9 * b.val + j.val) * 256 + r.val) * 1024 + d.val) / 1024 = 256 * (9 * b.val + j.val) + r.val; omega
  | ⟨1, _⟩ => show (((9 * b.val + j.val) * 256 + r.val) * 1024 + d.val) % 1024 = d.val; omega

theorem ref_stage (b : Fin 4) (j : Fin 9) (r : Fin 256) (d : Fin 1024) :
    val_main_v30 (F := Ideal) x0 x1 x2 (ix3 (tile b j) r d) = entry (fun e => x0 (ix2 (rowOf b j r) e)) (fun e => x1 (ix2 (modRow b j) e)) (fun e => x2 (ix2 0 e)) d := by
  unfold entry
  pointwise [val_main_v30, val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v12, val_main_cst, val_main_cst_0,
    val_main_cst_1, val_main_cst_2, val_main_v10, val_main_v9, ref_x, ref_mod]

theorem ref_apply (b : Fin 4) (j : Fin 9) (r : Fin 256) (d : Fin 1024) :
    val_main_v32 (F := Ideal) x0 x1 x2 (ix2 (rowOf b j r) d) = entry (fun e => x0 (ix2 (rowOf b j r) e)) (fun e => x1 (ix2 (modRow b j) e)) (fun e => x2 (ix2 0 e)) d := by
  rw [← ref_stage]
  show val_main_v31 (F := Ideal) x0 x1 x2 (ix2 (rowOf b j r) d) = _
  rw [val_main_v31_apply]
  refine congrArg _ ?_
  funext a
  apply Fin.ext
  match a with
  | ⟨0, _⟩ => show ((256 * (9 * b.val + j.val) + r.val) * 1024 + d.val) / 262144 = 9 * b.val + j.val; omega
  | ⟨1, _⟩ => show ((256 * (9 * b.val + j.val) + r.val) * 1024 + d.val) / 1024 % 256 = r.val; omega
  | ⟨2, _⟩ => show ((256 * (9 * b.val + j.val) + r.val) * 1024 + d.val) % 1024 = d.val; omega

end

/-- The arrays are equal. -/
theorem equal (m : (ℓ : Loc nD τ sig) → Buf (Elt Ideal) ℓ) (c : Dev nD) :
    (dats m 0 c).arrAt 3 cfg0.N = NormReferenceIdeal.Read.val_main_v32 (F := Ideal) (m ((c : Thread nD τ).loc main_arg0)) (m ((c : Thread nD τ).loc main_arg1))
      (m ((c : Thread nD τ).loc main_arg2)) := by
  funext y
  have h0 : (y 0).val < 9216 := (y 0).isLt
  have h1 : (y 1).val < 1024 := (y 1).isLt
  have e : y = ix2 (rowOf ⟨(y 0).val / 2304, by omega⟩ ⟨(y 0).val / 256 % 9, by omega⟩ ⟨(y 0).val % 256, by omega⟩) ⟨(y 1).val, h1⟩ := by
    funext a
    apply Fin.ext
    match a with
    | ⟨0, _⟩ => show (y 0).val = 256 * (9 * ((y 0).val / 2304) + (y 0).val / 256 % 9) + (y 0).val % 256; omega
    | ⟨1, _⟩ => rfl
  rw [e]
  exact (array m c _ _ _ _).trans (ref_apply _ _ _ _ _ _ _).symm

theorem algebraic : Cert.algebraic_NormIdeal_NormReferenceIdeal (hNormIdeal := Cert.NormIdeal.Gen.facts) (hNormReferenceIdeal := Cert.NormReferenceIdeal.Gen.facts) := by
  intro m g m' g' _ hag
  refine ⟨fun c => (NormIdeal.Gen.dats m 0 c).arrAt 3 NormIdeal.cfg0.N, run_blocks m g, ?_⟩
  refine (θ_run NormReferenceIdeal.defs _ _).mono (fun r h c => ?_) (NormReferenceIdeal.Value.run m' g')
  obtain ⟨h0, k⟩ := h c
  obtain ⟨a0, a1, a2⟩ := hag c
  rw [NormReferenceIdeal.Read.val_main_v32_eq, a0, a1, a2] at h0
  exact ⟨h0.trans (equal m c).symm, k⟩

theorem reference : Cert.quiescent_NormReferenceIdeal (hNormReferenceIdeal := Cert.NormReferenceIdeal.Gen.facts) := fun m ρ _ =>
  (θ_run NormReferenceIdeal.defs _ _).mono (fun r h => ⟨fun c => (h c).2, sem_eq_zero_of_no_sems (by decide) r.2⟩) (NormReferenceIdeal.Value.run m ρ)

end Cert.NormClaim

end
-- ==== Proof.MulClaim.lean ====
/- The input projection's product: the call and the reference end with the same array. -/
module

public import proofs.«01_k».proof.Proof.Gen.MulIdeal.Value
public import proofs.«01_k».proof.Proof.Gen.MulReferenceIdeal.Read
public import proofs.«01_k».proof.Proof.Gen.MulReferenceIdeal.Run
public import proofs.«01_k».proof.Proof.Reals
public import proofs.«01_k».proof.Defs
public import Idealize.ShloMosaic.Lib.Quiescent

@[expose] public section

set_option maxRecDepth 16384

noncomputable section

namespace Cert.MulClaim

open Cert.MulIdeal Cert.MulIdeal.Gen Idealize.ShloMosaic Idealize.ShloMosaic.TcCoe Idealize.SL.Sem Cert.Reals

section

variable {F : FTy → Type} [FloatOps F]

/-- The operation that writes `main_v7`, its function named. -/
def join_v7 : (⟨S4x1x3072, .f32⟩ : BufTy).Contents (Elt F) → (⟨S4x8x3072, .f32⟩ : BufTy).Contents (Elt F) → (⟨S4x9x3072, .f32⟩ : BufTy).Contents (Elt F) :=
  fun a b => concatenate S4x9x3072 1 [⟨S4x1x3072, a⟩, ⟨S4x8x3072, b⟩] concatenates_S4x1x3072_S4x8x3072_S4x9x3072_d1

theorem fold_v7 : StableHlo.binary (τ := τ) main_v6 main_v2 main_v7 ((fun a b => concatenate S4x9x3072 1 [⟨S4x1x3072, a⟩, ⟨S4x8x3072, b⟩] concatenates_S4x1x3072_S4x8x3072_S4x9x3072_d1) : (⟨S4x1x3072, .f32⟩ : BufTy).Contents (Elt F) → (⟨S4x8x3072, .f32⟩ : BufTy).Contents (Elt F) → (⟨S4x9x3072, .f32⟩ : BufTy).Contents (Elt F))
    = StableHlo.binary main_v6 main_v2 main_v7 (join_v7 (F := F)) := rfl

variable (m : (ℓ : Loc nD τ sig) → Buf (Elt F) ℓ) (c : Dev nD)

/-- The call's first operand is the reference's normed and modulated rows. -/
theorem V_h : V m c main_v32 = truncf .bf16 (MulReferenceIdeal.Read.val_main_v31 (F := F) (m ((c : Thread nD τ).loc main_arg0)) (m ((c : Thread nD τ).loc main_arg1))
    (m ((c : Thread nD τ).loc main_arg2))) bitsLt_bf16_f32 := by
  show StableHlo.after hostOps0 (fun b => m (c, b)) (Proc.devRef .tc main_v32) = _
  simp only [hostOps0, fold_v7]
  after_results_simp
  rfl

theorem V_w : V m c main_v33 = truncf .bf16 (m ((c : Thread nD τ).loc main_arg3)) bitsLt_bf16_f32 := by
  show StableHlo.after hostOps0 (fun b => m (c, b)) (Proc.devRef .tc main_v33) = _
  simp only [hostOps0, fold_v7]
  after_results_simp

theorem hz2 : (![0, 0] : Fin 2 → Nat) = fun _ => 0 := funext fun a => by fin_cases a <;> rfl

/-- The body stores one product of its two blocks. -/
theorem out_eq (x0 : Vec F S512x1024 .bf16) (x1 : Vec F S2304x1024 .bf16) : out0_2 x0 x1 = k0_pay1 x0 x1 := by
  unfold out0_2
  rw [View.canon_unit_zero hz2]
  simp only [View.ld_unit_zero (S := S512x1024) hz2, View.ld_unit_zero (S := S2304x1024) hz2]

end

/-- The grid point of column block `j` and row block `i`. -/
def pt (j : Fin 3) (i : Fin 18) : Fin cfg0.N := ⟨18 * j.val + i.val, by have h : cfg0.N = 54 := N_0; omega⟩

theorem index0 : ∀ (j : Fin 3) (i : Fin 18), win0_0.index (pt j i) (0 : Fin 2) = i.val ∧ win0_0.index (pt j i) (1 : Fin 2) = 0 := by decide +kernel
theorem index1 : ∀ (j : Fin 3) (i : Fin 18), win0_1.index (pt j i) (0 : Fin 2) = j.val ∧ win0_1.index (pt j i) (1 : Fin 2) = 0 := by decide +kernel
theorem index2 : ∀ (j : Fin 3) (i : Fin 18), win0_2.index (pt j i) (0 : Fin 2) = i.val ∧ win0_2.index (pt j i) (1 : Fin 2) = j.val := by decide +kernel

/-- Row `r` of row block `i`, and column `s` of column block `j`. -/
abbrev rowOf (i : Fin 18) (r : Fin 512) : Fin 9216 := ⟨512 * i.val + r.val, by omega⟩
abbrev colOf (j : Fin 3) (s : Fin 2304) : Fin 6912 := ⟨2304 * j.val + s.val, by omega⟩

theorem emb0 (j : Fin 3) (i : Fin 18) (r : Fin 512) (d : Fin 1024) :
    ((cfg0.win 0).blk (pt j i)).view.emb (ix2 r d) = ix2 (rowOf i r) d := by
  obtain ⟨h0, h1⟩ := index0 j i
  funext a
  apply Fin.ext
  match a with
  | ⟨0, _⟩ => show win0_0.index (pt j i) (0 : Fin 2) * 512 + 1 * r.val = 512 * i.val + r.val; omega
  | ⟨1, _⟩ => show win0_0.index (pt j i) (1 : Fin 2) * 1024 + 1 * d.val = d.val; omega

theorem emb1 (j : Fin 3) (i : Fin 18) (s : Fin 2304) (d : Fin 1024) :
    ((cfg0.win 1).blk (pt j i)).view.emb (ix2 s d) = ix2 (colOf j s) d := by
  obtain ⟨h0, h1⟩ := index1 j i
  funext a
  apply Fin.ext
  match a with
  | ⟨0, _⟩ => show win0_1.index (pt j i) (0 : Fin 2) * 2304 + 1 * s.val = 2304 * j.val + s.val; omega
  | ⟨1, _⟩ => show win0_1.index (pt j i) (1 : Fin 2) * 1024 + 1 * d.val = d.val; omega

theorem emb2 (j : Fin 3) (i : Fin 18) (r : Fin 512) (s : Fin 2304) :
    ((cfg0.win 2).blk (pt j i)).view.emb (ix2 r s) = ix2 (rowOf i r) (colOf j s) := by
  obtain ⟨h0, h1⟩ := index2 j i
  funext a
  apply Fin.ext
  match a with
  | ⟨0, _⟩ => show win0_2.index (pt j i) (0 : Fin 2) * 512 + 1 * r.val = 512 * i.val + r.val; omega
  | ⟨1, _⟩ => show win0_2.index (pt j i) (1 : Fin 2) * 2304 + 1 * s.val = 2304 * j.val + s.val; omega

section

variable (m : (ℓ : Loc nD τ sig) → Buf (Elt Ideal) ℓ) (c : Dev nD)

/-- The rows the reference multiplies. -/
abbrev hRows : FVec Ideal MulReferenceIdeal.S9216x1024 .f32 :=
  MulReferenceIdeal.Read.val_main_v31 (F := Ideal) (m ((c : Thread nD τ).loc main_arg0)) (m ((c : Thread nD τ).loc main_arg1)) (m ((c : Thread nD τ).loc main_arg2))

theorem block_h (j : Fin 3) (i : Fin 18) (r : Fin 512) (d : Fin 1024) : iblk m c 0 (pt j i) (ix2 r d) = hRows m c (ix2 (rowOf i r) d) := by
  show V m c main_v32 (((cfg0.win 0).blk (pt j i)).view.emb (ix2 r d)) = _
  rw [emb0, V_h]
  rfl

theorem block_w (j : Fin 3) (i : Fin 18) (s : Fin 2304) (d : Fin 1024) : iblk m c 1 (pt j i) (ix2 s d) = m ((c : Thread nD τ).loc main_arg3) (ix2 (colOf j s) d) := by
  show V m c main_v33 (((cfg0.win 1).blk (pt j i)).view.emb (ix2 s d)) = _
  rw [emb1, V_w]
  rfl

/-- One block of the product, at a row and a column. -/
theorem pay_apply (x0 : Vec Ideal S512x1024 .bf16) (x1 : Vec Ideal S2304x1024 .bf16) (r : Fin 512) (s : Fin 2304) :
    k0_pay1 x0 x1 (ix2 r s) = ∑ d : Fin 1024, (x0 (ix2 r d) : EReal) * x1 (ix2 s d) := by
  pointwise [k0_pay1, dot_S512x1024_S2304x1024_S512x2304_1_1_0_0_n_n]

/-- The array at the row and column of a block. -/
theorem array (j : Fin 3) (i : Fin 18) (r : Fin 512) (s : Fin 2304) :
    (dats m 0 c).arrAt 2 cfg0.N (ix2 (rowOf i r) (colOf j s))
      = ∑ d : Fin 1024, (hRows m c (ix2 (rowOf i r) d) : EReal) * m ((c : Thread nD τ).loc main_arg3) (ix2 (colOf j s) d) := by
  rw [← emb2]
  refine (congrFun (Value.blocks2 m c (pt j i) (flush0_2 _)) _).trans ?_
  rw [Value.flushed2, out_eq]
  refine (pay_apply _ _ r s).trans (Finset.sum_congr rfl fun d _ => ?_)
  rw [block_h, block_w]

/-- The array is the reference's product. -/
theorem equal : (dats m 0 c).arrAt 2 cfg0.N = MulReferenceIdeal.Read.val_main_v32 (F := Ideal) (m ((c : Thread nD τ).loc main_arg0)) (m ((c : Thread nD τ).loc main_arg1))
    (m ((c : Thread nD τ).loc main_arg2)) (m ((c : Thread nD τ).loc main_arg3)) := by
  funext y
  have h0 : (y 0).val < 9216 := (y 0).isLt
  have h1 : (y 1).val < 6912 := (y 1).isLt
  have e : y = ix2 (rowOf ⟨(y 0).val / 512, by omega⟩ ⟨(y 0).val % 512, by omega⟩) (colOf ⟨(y 1).val / 2304, by omega⟩ ⟨(y 1).val % 2304, by omega⟩) := by
    funext a
    apply Fin.ext
    match a with
    | ⟨0, _⟩ => show (y 0).val = 512 * ((y 0).val / 512) + (y 0).val % 512; omega
    | ⟨1, _⟩ => show (y 1).val = 2304 * ((y 1).val / 2304) + (y 1).val % 2304; omega
  rw [e]
  refine (array m c _ _ _ _).trans (Eq.trans ?_ (MulReferenceIdeal.Read.val_main_v32_apply _ _ _ _ _).symm)
  show (∑ d : Fin 1024, _ : EReal) = (∑ d : Fin 1024, _ : EReal)
  refine Finset.sum_congr rfl fun d _ => ?_
  refine congrArg₂ (· * ·) (congrArg _ ?_) (congrArg _ ?_) <;>
  · funext a
    match a with
    | ⟨0, _⟩ => rfl
    | ⟨1, _⟩ => rfl

end

theorem algebraic : Cert.algebraic_MulIdeal_MulReferenceIdeal (hMulIdeal := Cert.MulIdeal.Gen.facts) (hMulReferenceIdeal := Cert.MulReferenceIdeal.Gen.facts) := by
  intro m g m' g' _ hag
  refine ⟨fun c => (MulIdeal.Gen.dats m 0 c).arrAt 2 MulIdeal.cfg0.N, MulIdeal.Value.run_blocks m g, ?_⟩
  refine (θ_run MulReferenceIdeal.defs _ _).mono (fun r h c => ?_) (MulReferenceIdeal.Value.run m' g')
  obtain ⟨h0, k⟩ := h c
  obtain ⟨a0, a1, a2, a3⟩ := hag c
  rw [MulReferenceIdeal.Read.val_main_v32_eq, a0, a1, a2, a3] at h0
  exact ⟨h0.trans (equal m c).symm, k⟩

theorem reference : Cert.quiescent_MulReferenceIdeal (hMulReferenceIdeal := Cert.MulReferenceIdeal.Gen.facts) := fun m ρ _ =>
  (θ_run MulReferenceIdeal.defs _ _).mono (fun r h => ⟨fun c => (h c).2, sem_eq_zero_of_no_sems (by decide) r.2⟩) (MulReferenceIdeal.Value.run m ρ)

end Cert.MulClaim

end
-- ==== Proof.DwClaim.lean ====
/- The gradient of the input projection's weight: the call and the reference end with the same array. -/
module

public import proofs.«01_k».proof.Proof.Gen.DwIdeal.Value
public import proofs.«01_k».proof.Proof.Gen.DwReferenceIdeal.Read
public import proofs.«01_k».proof.Proof.Gen.DwReferenceIdeal.Run
public import proofs.«01_k».proof.Proof.Reals
public import proofs.«01_k».proof.Defs
public import Idealize.ShloMosaic.Lib.Quiescent

@[expose] public section

set_option maxRecDepth 16384

noncomputable section

namespace Cert.DwClaim

open Cert.DwIdeal Cert.DwIdeal.Gen Idealize.ShloMosaic Idealize.ShloMosaic.TcCoe Idealize.SL.Sem Cert.Reals

section

variable {F : FTy → Type} [FloatOps F]

/-- The operation that writes `main_v8`, its function named. -/
def join_v8 : (⟨S4x1x3072, .f32⟩ : BufTy).Contents (Elt F) → (⟨S4x8x3072, .f32⟩ : BufTy).Contents (Elt F) → (⟨S4x9x3072, .f32⟩ : BufTy).Contents (Elt F) :=
  fun a b => concatenate S4x9x3072 1 [⟨S4x1x3072, a⟩, ⟨S4x8x3072, b⟩] concatenates_S4x1x3072_S4x8x3072_S4x9x3072_d1

theorem fold_v8 : StableHlo.binary (τ := τ) main_v7 main_v3 main_v8 ((fun a b => concatenate S4x9x3072 1 [⟨S4x1x3072, a⟩, ⟨S4x8x3072, b⟩] concatenates_S4x1x3072_S4x8x3072_S4x9x3072_d1) : (⟨S4x1x3072, .f32⟩ : BufTy).Contents (Elt F) → (⟨S4x8x3072, .f32⟩ : BufTy).Contents (Elt F) → (⟨S4x9x3072, .f32⟩ : BufTy).Contents (Elt F))
    = StableHlo.binary main_v7 main_v3 main_v8 (join_v8 (F := F)) := rfl

variable (m : (ℓ : Loc nD τ sig) → Buf (Elt F) ℓ) (c : Dev nD)

/-- The call's second operand is the reference's normed and modulated rows. -/
theorem V_h : V m c main_v33 = truncf .bf16 (DwReferenceIdeal.Read.val_main_v31 (F := F) (m ((c : Thread nD τ).loc main_arg0)) (m ((c : Thread nD τ).loc main_arg1))
    (m ((c : Thread nD τ).loc main_arg2))) bitsLt_bf16_f32 := by
  show StableHlo.after hostOps0 (fun b => m (c, b)) (Proc.devRef .tc main_v33) = _
  simp only [hostOps0, fold_v8]
  after_results_simp
  rfl

theorem V_dz : V m c main_v0 = truncf .bf16 (m ((c : Thread nD τ).loc main_arg4)) bitsLt_bf16_f32 := by
  show StableHlo.after hostOps0 (fun b => m (c, b)) (Proc.devRef .tc main_v0) = _
  simp only [hostOps0, fold_v8]
  after_results_simp

end

/-- The grid point of column block `i` of the cotangent and block `k` of rows. -/
theorem index0 : ∀ (i : Fin 6) (k : Fin 3), ∀ h : 3 * i.val + k.val < cfg0.N, win0_0.index ⟨3 * i.val + k.val, h⟩ (0 : Fin 2) = k.val ∧ win0_0.index ⟨3 * i.val + k.val, h⟩ (1 : Fin 2) = i.val := by decide +kernel
theorem index1 : ∀ (i : Fin 6) (k : Fin 3), ∀ h : 3 * i.val + k.val < cfg0.N, win0_1.index ⟨3 * i.val + k.val, h⟩ (0 : Fin 2) = k.val ∧ win0_1.index ⟨3 * i.val + k.val, h⟩ (1 : Fin 2) = 0 := by decide +kernel

/-- Row `n` of block `k` of rows, and column `s` of column block `i`. -/
abbrev rowOf (k : Fin 3) (n : Fin 3072) : Fin 9216 := ⟨3072 * k.val + n.val, by omega⟩
abbrev colOf (i : Fin 6) (s : Fin 1152) : Fin 6912 := ⟨1152 * i.val + s.val, by omega⟩

theorem emb0 (i : Fin 6) (k : Fin 3) (h : 3 * i.val + k.val < cfg0.N) (n : Fin 3072) (s : Fin 1152) :
    ((cfg0.win 0).blk ⟨3 * i.val + k.val, h⟩).view.emb (ix2 n s) = ix2 (rowOf k n) (colOf i s) := by
  obtain ⟨h0, h1⟩ := index0 i k h
  funext a
  apply Fin.ext
  match a with
  | ⟨0, _⟩ => show win0_0.index ⟨3 * i.val + k.val, h⟩ (0 : Fin 2) * 3072 + 1 * n.val = 3072 * k.val + n.val; omega
  | ⟨1, _⟩ => show win0_0.index ⟨3 * i.val + k.val, h⟩ (1 : Fin 2) * 1152 + 1 * s.val = 1152 * i.val + s.val; omega

theorem emb1 (i : Fin 6) (k : Fin 3) (h : 3 * i.val + k.val < cfg0.N) (n : Fin 3072) (d : Fin 1024) :
    ((cfg0.win 1).blk ⟨3 * i.val + k.val, h⟩).view.emb (ix2 n d) = ix2 (rowOf k n) d := by
  obtain ⟨h0, h1⟩ := index1 i k h
  funext a
  apply Fin.ext
  match a with
  | ⟨0, _⟩ => show win0_1.index ⟨3 * i.val + k.val, h⟩ (0 : Fin 2) * 3072 + 1 * n.val = 3072 * k.val + n.val; omega
  | ⟨1, _⟩ => show win0_1.index ⟨3 * i.val + k.val, h⟩ (1 : Fin 2) * 1024 + 1 * d.val = d.val; omega

section

variable (m : (ℓ : Loc nD τ sig) → Buf (Elt Ideal) ℓ) (c : Dev nD)

/-- The rows the reference multiplies, and the cotangent. -/
abbrev hRows : FVec Ideal DwReferenceIdeal.S9216x1024 .f32 :=
  DwReferenceIdeal.Read.val_main_v31 (F := Ideal) (m ((c : Thread nD τ).loc main_arg0)) (m ((c : Thread nD τ).loc main_arg1)) (m ((c : Thread nD τ).loc main_arg2))
abbrev dzRows : FVec Ideal DwReferenceIdeal.S9216x6912 .f32 := m ((c : Thread nD τ).loc main_arg4)

theorem block_dz (i : Fin 6) (k : Fin 3) (h : 3 * i.val + k.val < cfg0.N) (n : Fin 3072) (s : Fin 1152) :
    iblk m c 0 ⟨3 * i.val + k.val, h⟩ (ix2 n s) = dzRows m c (ix2 (rowOf k n) (colOf i s)) := by
  show V m c main_v0 (((cfg0.win 0).blk ⟨3 * i.val + k.val, h⟩).view.emb (ix2 n s)) = _
  rw [emb0, V_dz]
  rfl

theorem block_h (i : Fin 6) (k : Fin 3) (h : 3 * i.val + k.val < cfg0.N) (n : Fin 3072) (d : Fin 1024) :
    iblk m c 1 ⟨3 * i.val + k.val, h⟩ (ix2 n d) = hRows m c (ix2 (rowOf k n) d) := by
  show V m c main_v33 (((cfg0.win 1).blk ⟨3 * i.val + k.val, h⟩).view.emb (ix2 n d)) = _
  rw [emb1, V_h]
  rfl

/-- What one grid point adds, at a column of the cotangent and a column of the rows. -/
theorem pay_apply (acc : Vec Ideal S1152x1024 .f32) (x0 : Vec Ideal S3072x1152 .bf16) (x1 : Vec Ideal S3072x1024 .bf16) (s : Fin 1152) (d : Fin 1024) :
    k0_pay2 acc x0 x1 (ix2 s d) = (acc (ix2 s d) : EReal) + ∑ n : Fin 3072, (x0 (ix2 n s) : EReal) * x1 (ix2 n d) := by
  pointwise [k0_pay2, dot_S3072x1152_S3072x1024_S1152x1024_0_0_1_1_n_n]

theorem zero_apply (s : Fin 1152) (d : Fin 1024) : k0_pay1 (F := Ideal) (ix2 s d) = (0 : EReal) := by
  pointwise [k0_pay1]

/-- The sum over one block of rows. -/
def part (i : Fin 6) (s : Fin 1152) (d : Fin 1024) (k : Fin 3) : EReal :=
  ∑ n : Fin 3072, (dzRows m c (ix2 (rowOf k n) (colOf i s)) : EReal) * hRows m c (ix2 (rowOf k n) d)

/-- A sum over all rows is the sum of the sums over the three blocks. -/
theorem sum_rows (f : Fin 9216 → EReal) : ∑ n, f n = (∑ n : Fin 3072, f (rowOf 0 n)) + (∑ n : Fin 3072, f (rowOf 1 n)) + ∑ n : Fin 3072, f (rowOf 2 n) := by
  rw [← Equiv.sum_comp (finProdFinEquiv : Fin 3 × Fin 3072 ≃ Fin 9216), Fintype.sum_prod_type, Fin.sum_univ_three]
  refine congrArg₂ (· + ·) (congrArg₂ (· + ·) ?_ ?_) ?_ <;>
  · refine Finset.sum_congr rfl fun n _ => congrArg f (Fin.ext ?_)
    simp [finProdFinEquiv, rowOf]
    try omega

theorem pay_block (acc : Vec Ideal S1152x1024 .f32) (i : Fin 6) (k : Fin 3) (h : 3 * i.val + k.val < cfg0.N) (s : Fin 1152) (d : Fin 1024) :
    k0_pay2 acc (iblk m c 0 ⟨3 * i.val + k.val, h⟩) (iblk m c 1 ⟨3 * i.val + k.val, h⟩) (ix2 s d) = (acc (ix2 s d) : EReal) + part m c i s d k := by
  refine (pay_apply _ _ _ s d).trans (congrArg _ (Finset.sum_congr rfl fun n _ => ?_))
  rw [block_dz, block_h]

/-- The fold of a run, at an index. -/
theorem fold_apply (i : Fin 6) (h : 3 * i.val + 2 < cfg0.N) (s : Fin 1152) (d : Fin 1024) :
    Pipeline.accAt (Value.reset2 m c) (Value.step2 m c) (3 * i.val) 2 h (ix2 s d) = part m c i s d 0 + part m c i s d 1 + part m c i s d 2 := by
  refine (pay_block m c _ i 2 h s d).trans (congrArg (· + part m c i s d 2) ?_)
  refine (pay_block m c _ i 1 _ s d).trans (congrArg (· + part m c i s d 1) ?_)
  refine (pay_block m c _ i 0 _ s d).trans ?_
  rw [zero_apply, zero_add]

/-- The array is the reference's gradient. -/
theorem equal : (dats m 0 c).arrAt 2 cfg0.N = DwReferenceIdeal.Read.val_main_v33 (F := Ideal) (m ((c : Thread nD τ).loc main_arg0)) (m ((c : Thread nD τ).loc main_arg1))
    (m ((c : Thread nD τ).loc main_arg2)) (m ((c : Thread nD τ).loc main_arg4)) := by
  rw [Value.final2]
  funext y
  have h0 : (y 0).val < 6912 := (y 0).isLt
  have h1 : (y 1).val < 1024 := (y 1).isLt
  have hr : Value.run2Of y = (y 0).val / 1152 := by
    show 1 * ((y 0).val / 1152 - 0) + 1 * ((y 1).val / 1024 - 0) = _
    omega
  have hl : Value.loc2Of y = ix2 (⟨(y 0).val % 1152, by omega⟩ : Fin 1152) (⟨(y 1).val, h1⟩ : Fin 1024) := by
    funext a
    apply Fin.ext
    match a with
    | ⟨0, _⟩ => rfl
    | ⟨1, _⟩ => show (y 1).val % 1024 = (y 1).val; omega
  have hN : cfg0.N = 18 := N_0
  unfold Value.G2
  rw [dif_pos (by rw [hr, hN]; omega), hl]
  have e : ∀ (b : ℕ) (h : b + 2 < cfg0.N) (i : Fin 6), b = 3 * i.val → ∀ (s : Fin 1152) (d : Fin 1024),
      Pipeline.accAt (Value.reset2 m c) (Value.step2 m c) b 2 h (ix2 s d) = part m c i s d 0 + part m c i s d 1 + part m c i s d 2 := by
    intro b h i hb s d
    subst hb
    exact fold_apply m c i h s d
  refine (e _ _ ⟨(y 0).val / 1152, by omega⟩ (by rw [hr]) _ _).trans ?_
  refine Eq.trans ?_ (DwReferenceIdeal.Read.val_main_v33_apply _ _ _ _ y).symm
  refine Eq.trans ?_ (sum_rows _).symm
  unfold part
  have ed : ∀ (k : Fin 3) (n : Fin 3072), ix2 (rowOf k n) (colOf ⟨(y 0).val / 1152, by omega⟩ ⟨(y 0).val % 1152, by omega⟩) = DwReferenceIdeal.Read.lidx_main_v33 y (rowOf k n) := by
    intro k n
    funext a
    apply Fin.ext
    match a with
    | ⟨0, _⟩ => rfl
    | ⟨1, _⟩ => show 1152 * ((y 0).val / 1152) + (y 0).val % 1152 = (y 0).val; omega
  have eh : ∀ (k : Fin 3) (n : Fin 3072), ix2 (rowOf k n) (⟨(y 1).val, h1⟩ : Fin 1024) = DwReferenceIdeal.Read.ridx_main_v33 y (rowOf k n) := by
    intro k n
    funext a
    match a with
    | ⟨0, _⟩ => rfl
    | ⟨1, _⟩ => rfl
  simp only [ed, eh]

end

theorem algebraic : Cert.algebraic_DwIdeal_DwReferenceIdeal (hDwIdeal := Cert.DwIdeal.Gen.facts) (hDwReferenceIdeal := Cert.DwReferenceIdeal.Gen.facts) := by
  intro m g m' g' _ hag
  refine ⟨fun c => (DwIdeal.Gen.dats m 0 c).arrAt 2 DwIdeal.cfg0.N, DwIdeal.Value.run_blocks m g, ?_⟩
  refine (θ_run DwReferenceIdeal.defs _ _).mono (fun r h c => ?_) (DwReferenceIdeal.Value.run m' g')
  obtain ⟨h0, k⟩ := h c
  obtain ⟨a0, a1, a2, a3, a4⟩ := hag c
  rw [DwReferenceIdeal.Read.val_main_v33_eq, a0, a1, a2, a4] at h0
  exact ⟨h0.trans (equal m c).symm, k⟩

theorem reference : Cert.quiescent_DwReferenceIdeal (hDwReferenceIdeal := Cert.DwReferenceIdeal.Gen.facts) := fun m ρ _ =>
  (θ_run DwReferenceIdeal.defs _ _).mono (fun r h => ⟨fun c => (h c).2, sem_eq_zero_of_no_sems (by decide) r.2⟩) (DwReferenceIdeal.Value.run m ρ)

end Cert.DwClaim

end
-- ==== Proof.DxRow.lean ====
/- The gradient through a normed and modulated row: the call's form, the reference's, and that they are equal for
   real rows. -/
module

public import proofs.«01_k».proof.Proof.Reals

@[expose] public section

noncomputable section

namespace Cert.DxRow

open Idealize.ShloMosaic Cert.Reals

/-- What is added up inside the root: the row's mean square and the small constant. -/
def inner (x : Fin 1024 → EReal) : EReal :=
  Ideal.div (∑ e, x e * x e) (Ideal.ofBits FTy.f32 1149239296#32) + Ideal.ofBits FTy.f32 897988541#32

/-- The call's gradient: the residual's, and the norm's factor times the part of the gradient off the normed row. -/
def callDx (x dh sc g : Fin 1024 → EReal) (res : EReal) (d : Fin 1024) : EReal :=
  res + Ideal.rsqrt (inner x) * (dh d * g d * sc d
    - x d * Ideal.rsqrt (inner x) * Ideal.div (∑ e, x e * Ideal.rsqrt (inner x) * (dh e * g e * sc e)) (Ideal.ofBits FTy.f32 1149239296#32))

/-- The factor of the row itself in the reference's gradient, met twice. -/
def along (x dh sc g : Fin 1024 → EReal) : EReal :=
  Ideal.div ((∑ e, x e * (dh e * sc e * g e)) * (Ideal.ofBits FTy.f32 3204448256#32 * Ideal.div (Ideal.rsqrt (inner x)) (inner x)))
    (Ideal.ofBits FTy.f32 1149239296#32)

/-- The reference's gradient. -/
def refDx (x dh sc g : Fin 1024 → EReal) (res : EReal) (d : Fin 1024) : EReal :=
  res + dh d * sc d * g d * Ideal.rsqrt (inner x) + x d * along x dh sc g + along x dh sc g * x d

theorem count_coe : Ideal.ofBits FTy.f32 1149239296#32 = ((1024 : ℝ) : EReal) := by
  simp [Ideal.ofBits, Ideal.ieee]
  rw [← EReal.coe_mul]
  norm_num

theorem half_coe : Ideal.ofBits FTy.f32 3204448256#32 = ((-(1 / 2) : ℝ) : EReal) := by
  simp [Ideal.ofBits, Ideal.ieee]
  rw [← EReal.coe_mul]
  norm_num

theorem small_coe : ∃ s : ℝ, 0 < s ∧ Ideal.ofBits FTy.f32 897988541#32 = (s : EReal) := by
  refine ⟨8796093 * ((2 : ℝ) ^ 43)⁻¹, by positivity, ?_⟩
  simp [Ideal.ofBits, Ideal.ieee, EReal.coe_mul]

theorem inner_coe (x : Fin 1024 → ℝ) : ∃ s : ℝ, 0 < s ∧ inner (fun e => (x e : EReal)) = (s : EReal) := by
  obtain ⟨e, he, h⟩ := small_coe
  refine ⟨(∑ i, x i * x i) / 1024 + e, ?_, ?_⟩
  · have : 0 ≤ ∑ i, x i * x i := Finset.sum_nonneg fun i _ => mul_self_nonneg _
    exact add_pos_of_nonneg_of_pos (div_nonneg this (by norm_num)) he
  · unfold inner
    rw [h, count_coe]
    simp only [← EReal.coe_mul, ← coe_sum]
    rw [div_coe _ (by norm_num), ← EReal.coe_add]

theorem equal (x dh sc g : Fin 1024 → ℝ) (res : EReal) (d : Fin 1024) :
    callDx (fun e => (x e : EReal)) (fun e => (dh e : EReal)) (fun e => (sc e : EReal)) (fun e => (g e : EReal)) res d
      = refDx (fun e => (x e : EReal)) (fun e => (dh e : EReal)) (fun e => (sc e : EReal)) (fun e => (g e : EReal)) res d := by
  obtain ⟨s, hs, h⟩ := inner_coe x
  have hr : Ideal.rsqrt (s : EReal) = (((Real.sqrt s)⁻¹ : ℝ) : EReal) := by
    rw [Ideal.rsqrt_coe, if_neg (not_lt.2 hs.le), if_neg hs.ne']
  unfold callDx refDx along
  rw [h, hr, count_coe, half_coe, div_coe _ hs.ne']
  simp only [← EReal.coe_mul, ← coe_sum]
  rw [div_coe _ (by norm_num), div_coe _ (by norm_num)]
  simp only [← EReal.coe_mul, ← EReal.coe_sub, add_assoc, ← EReal.coe_add]
  refine congrArg (fun a : ℝ => res + (a : EReal)) ?_
  have h1 : (∑ e, x e * (Real.sqrt s)⁻¹ * (dh e * g e * sc e)) = (Real.sqrt s)⁻¹ * ∑ e, x e * (dh e * sc e * g e) := by
    rw [Finset.mul_sum]
    exact Finset.sum_congr rfl fun e _ => by ring
  have h2 : 1 / s = (Real.sqrt s)⁻¹ * (Real.sqrt s)⁻¹ := by
    rw [← mul_inv, Real.mul_self_sqrt hs.le, one_div]
  rw [h1, div_eq_mul_one_div (Real.sqrt s)⁻¹ s, h2]
  ring

end Cert.DxRow

end
-- ==== Proof.DxArrays.lean ====
/- The gradient through the input projection's first half: the two arrays the call writes and the two the reference ends
   with, index by index. -/
module

public import proofs.«01_k».proof.Proof.Gen.DxIdeal.Value
public import proofs.«01_k».proof.Proof.Gen.DxReferenceIdeal.Read
public import proofs.«01_k».proof.Proof.DxRow
public import Idealize.ShloMosaic.Lib.WritesUnit

@[expose] public section

set_option maxRecDepth 16384

noncomputable section

namespace Cert.DxArrays

open Cert.DxIdeal Cert.DxIdeal.Gen Idealize.ShloMosaic Idealize.ShloMosaic.TcCoe Idealize.SL.Sem Cert.Reals Cert.DxRow

theorem hz2 : (![0, 0] : Fin 2 → Nat) = fun _ => 0 := funext fun a => by fin_cases a <;> rfl
theorem hz3 : (![0, 0, 0] : Fin 3 → Nat) = fun _ => 0 := funext fun a => by fin_cases a <;> rfl

section

variable {F : FTy → Type} [FloatOps F] (m : (ℓ : Loc nD τ sig) → Buf (Elt F) ℓ) (c : Dev nD)

theorem V_dz : V m c main_v0 = truncf .bf16 (m ((c : Thread nD τ).loc main_arg4)) bitsLt_bf16_f32 := by
  show StableHlo.after hostOps0 (fun b => m (c, b)) (Proc.devRef .tc main_v0) = _
  simp only [hostOps0]
  after_results_simp

theorem V_w : V m c main_v1 = truncf .bf16 (m ((c : Thread nD τ).loc main_arg3)) bitsLt_bf16_f32 := by
  show StableHlo.after hostOps0 (fun b => m (c, b)) (Proc.devRef .tc main_v1) = _
  simp only [hostOps0]
  after_results_simp

theorem V_mod : V m c main_v2 = shapeCast S8x1x3072 (m ((c : Thread nD τ).loc main_arg1)) shapeCasts_S8x3072_S8x1x3072 := by
  show StableHlo.after hostOps0 (fun b => m (c, b)) (Proc.devRef .tc main_v2) = _
  simp only [hostOps0]
  after_results_simp
  rfl

/-! ### What the body stores -/

theorem out_6 (i : grid0.Coords) (arg1 : Memref sig .tc .vmem S256x6912 .bf16) (harg1 : arg1.IsWhole) (arg2 : Memref sig .tc .vmem S6912x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1x1x3072 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S1x8x1024 .f32) (harg8 : arg8.IsWhole)
    (x0 : Vec F S256x6912 .bf16) (x1 : Vec F S6912x1024 .bf16) (x2 : Vec F S256x1024 .f32) (x3 : Vec F S256x1024 .f32) (x4 : Vec F S1x1x3072 .f32) (x5 : Vec F S1x1024 .f32) :
    out0_A_6 c i arg1 harg1 arg2 harg2 arg3 harg3 arg4 harg4 arg5 harg5 arg6 harg6 arg7 harg7 arg8 harg8 x0 x1 x2 x3 x4 x5
      = k0_pay4 (k0_pay5 x0 x1) (k0_pay6 x2) (k0_pay7 x2) (k0_pay8 x4) x5 x3 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A; dsimp only; sl_unfold_words
  simp only [View.readAt_eq_ld, harg1.read_unread, harg2.read_unread, harg3.read_unread, harg4.read_unread, harg5.read_unread, harg6.read_unread]
  rw [View.canon_unit_zero (by decide)]
  simp only [View.ld_unit_zero (S := S256x6912) hz2, View.ld_unit_zero (S := S6912x1024) hz2, View.ld_unit_zero (S := S256x1024) hz2, View.ld_unit_zero (S := S1x1024) hz2,
    View.ld_unit_zero (S := S1x1x3072) hz3]

end

section

variable {sg : RefSig} {κ : Kind} {sp : Space} {H W n : ℕ} {e : EltTy} {Val : EltTy → Type}

/-- An index of the rows a store wrote. -/
theorem read_hit (v : View sg κ sp (⟨3, ![1, H, W]⟩ : Shape) e) (f : v.ty.Contents Val) (o : ℕ)
    (inb : ∀ a, (![0, o, 0] : Fin 3 → ℕ) a + (![1, n, W] : Fin 3 → ℕ) a ≤ (⟨3, ![1, H, W]⟩ : Shape).size a)
    (w : (Rect.unit (s := (⟨3, ![1, H, W]⟩ : Shape)) ![0, o, 0] ![1, n, W] inb).shape.Idx → Val e) (L : List (View.Piece Val (⟨3, ![1, H, W]⟩ : Shape) e))
    (k : Fin H) (d : Fin W) (k' : Fin n) (h : k.val = o + k'.val) :
    v.read Val (v.writes Val f ((⟨Rect.unit (s := (⟨3, ![1, H, W]⟩ : Shape)) ![0, o, 0] ![1, n, W] inb, w⟩ : View.Piece Val (⟨3, ![1, H, W]⟩ : Shape) e) :: L)) (ix3 0 k d)
      = w (ix3 0 k' d) := by
  refine View.read_writes_cons_unit_of_mem v f inb w L (ix3 0 k d) (ix3 0 k' d) rfl fun a => ?_
  rcases a with ⟨_ | _ | _ | a, ha⟩
  · rfl
  · show k.val = o + k'.val
    exact h
  · show d.val = 0 + d.val
    omega
  · exact absurd ha (by show ¬ (a + 1 + 1 + 1 < 3); omega)

/-- An index of none of the rows a store wrote. -/
theorem read_miss (v : View sg κ sp (⟨3, ![1, H, W]⟩ : Shape) e) (f : v.ty.Contents Val) (o : ℕ)
    (inb : ∀ a, (![0, o, 0] : Fin 3 → ℕ) a + (![1, n, W] : Fin 3 → ℕ) a ≤ (⟨3, ![1, H, W]⟩ : Shape).size a)
    (w : (Rect.unit (s := (⟨3, ![1, H, W]⟩ : Shape)) ![0, o, 0] ![1, n, W] inb).shape.Idx → Val e) (L : List (View.Piece Val (⟨3, ![1, H, W]⟩ : Shape) e))
    (k : Fin H) (d : Fin W) (h : k.val < o ∨ o + n ≤ k.val) :
    v.read Val (v.writes Val f ((⟨Rect.unit (s := (⟨3, ![1, H, W]⟩ : Shape)) ![0, o, 0] ![1, n, W] inb, w⟩ : View.Piece Val (⟨3, ![1, H, W]⟩ : Shape) e) :: L)) (ix3 0 k d)
      = v.read Val (v.writes Val f L) (ix3 0 k d) :=
  View.read_writes_cons_unit_of_not_mem v f inb w L (ix3 0 k d) rfl 1 h

/-- What four stores of rows 0, 1, 2 and 3 to 7 leave. -/
theorem stacked (v : View sg κ sp (⟨3, ![1, 8, W]⟩ : Shape) e) (f : v.ty.Contents Val)
    (inb0 : ∀ a, (![0, 0, 0] : Fin 3 → ℕ) a + (![1, 1, W] : Fin 3 → ℕ) a ≤ (⟨3, ![1, 8, W]⟩ : Shape).size a)
    (inb1 : ∀ a, (![0, 1, 0] : Fin 3 → ℕ) a + (![1, 1, W] : Fin 3 → ℕ) a ≤ (⟨3, ![1, 8, W]⟩ : Shape).size a)
    (inb2 : ∀ a, (![0, 2, 0] : Fin 3 → ℕ) a + (![1, 1, W] : Fin 3 → ℕ) a ≤ (⟨3, ![1, 8, W]⟩ : Shape).size a)
    (inb3 : ∀ a, (![0, 3, 0] : Fin 3 → ℕ) a + (![1, 5, W] : Fin 3 → ℕ) a ≤ (⟨3, ![1, 8, W]⟩ : Shape).size a)
    (w0 : (Rect.unit (s := (⟨3, ![1, 8, W]⟩ : Shape)) ![0, 0, 0] ![1, 1, W] inb0).shape.Idx → Val e)
    (w1 : (Rect.unit (s := (⟨3, ![1, 8, W]⟩ : Shape)) ![0, 1, 0] ![1, 1, W] inb1).shape.Idx → Val e)
    (w2 : (Rect.unit (s := (⟨3, ![1, 8, W]⟩ : Shape)) ![0, 2, 0] ![1, 1, W] inb2).shape.Idx → Val e)
    (w3 : (Rect.unit (s := (⟨3, ![1, 8, W]⟩ : Shape)) ![0, 3, 0] ![1, 5, W] inb3).shape.Idx → Val e)
    (L : List (View.Piece Val (⟨3, ![1, 8, W]⟩ : Shape) e)) (y0 y1 y2 y3 : Val e) (k : Fin 8) (d : Fin W)
    (h0 : w0 (ix3 0 0 d) = y0) (h1 : w1 (ix3 0 0 d) = y1) (h2 : w2 (ix3 0 0 d) = y2) (h3 : ∀ k', w3 (ix3 0 k' d) = y3) :
    v.read Val (v.writes Val f ((⟨Rect.unit (s := (⟨3, ![1, 8, W]⟩ : Shape)) ![0, 3, 0] ![1, 5, W] inb3, w3⟩ : View.Piece Val (⟨3, ![1, 8, W]⟩ : Shape) e)
        :: (⟨Rect.unit (s := (⟨3, ![1, 8, W]⟩ : Shape)) ![0, 2, 0] ![1, 1, W] inb2, w2⟩ : View.Piece Val (⟨3, ![1, 8, W]⟩ : Shape) e)
        :: (⟨Rect.unit (s := (⟨3, ![1, 8, W]⟩ : Shape)) ![0, 1, 0] ![1, 1, W] inb1, w1⟩ : View.Piece Val (⟨3, ![1, 8, W]⟩ : Shape) e)
        :: (⟨Rect.unit (s := (⟨3, ![1, 8, W]⟩ : Shape)) ![0, 0, 0] ![1, 1, W] inb0, w0⟩ : View.Piece Val (⟨3, ![1, 8, W]⟩ : Shape) e) :: L)) (ix3 0 k d)
      = if k = 0 then y0 else if k = 1 then y1 else if k = 2 then y2 else y3 := by
  by_cases c3 : 3 ≤ k.val
  · rw [if_neg (by rintro rfl; exact absurd c3 (by decide)), if_neg (by rintro rfl; exact absurd c3 (by decide)), if_neg (by rintro rfl; exact absurd c3 (by decide))]
    exact (read_hit _ _ 3 _ _ _ k d ⟨k.val - 3, by omega⟩ (by show k.val = 3 + (k.val - 3); omega)).trans (h3 _)
  refine (read_miss _ _ 3 _ _ _ k d (.inl (by omega))).trans ?_
  by_cases c2 : k = 2
  · subst c2
    exact (read_hit _ _ 2 _ _ _ 2 d 0 rfl).trans h2
  have c2' : k.val < 2 := by
    have : k.val ≠ 2 := fun h => c2 (Fin.ext h)
    omega
  refine (read_miss _ _ 2 _ _ _ k d (.inl c2')).trans ?_
  by_cases c1 : k = 1
  · subst c1
    exact (read_hit _ _ 1 _ _ _ 1 d 0 rfl).trans h1
  have c0 : k = 0 := Fin.ext (by
    have : k.val ≠ 1 := fun h => c1 (Fin.ext h)
    show k.val = 0
    omega)
  subst c0
  refine (read_miss _ _ 1 _ _ _ 0 d (.inl (by decide))).trans ?_
  exact (read_hit _ _ 0 _ _ _ 0 d 0 rfl).trans h0

end

/-! ### The stored values, index by index -/

/-- A row of the gradient after the projection. -/
def grad (dz : Fin 6912 → EReal) (w : Fin 6912 → Fin 1024 → EReal) (d : Fin 1024) : EReal := ∑ k, dz k * w k d

/-- The eight rows of a tile's sums: over its rows the gradient, the gradient times the normed row and the gain, the
    gradient times the normed row and one more than the scale; then zeros. -/
def sums (x dh : Fin 256 → Fin 1024 → EReal) (sc g : Fin 1024 → EReal) (k : Fin 8) (d : Fin 1024) : EReal :=
  if k = 0 then ∑ r, dh r d else if k = 1 then ∑ r, dh r d * (x r d * Ideal.rsqrt (inner (x r))) * g d
    else if k = 2 then ∑ r, dh r d * (x r d * Ideal.rsqrt (inner (x r))) * sc d else 0

section

variable (x0 : Vec Ideal S256x6912 .bf16) (x1 : Vec Ideal S6912x1024 .bf16) (x2 : Vec Ideal S256x1024 .f32) (x3 : Vec Ideal S256x1024 .f32) (x4 : Vec Ideal S1x1x3072 .f32) (x5 : Vec Ideal S1x1024 .f32)

theorem pay5_apply (r : Fin 256) (d : Fin 1024) : k0_pay5 x0 x1 (ix2 r d) = grad (fun k => x0 (ix2 r k)) (fun k e => x1 (ix2 k e)) d := by
  unfold grad
  pointwise [k0_pay5, dot_S256x6912_S6912x1024_S256x1024_1_0_0_1_n_n]

theorem pay6_apply (r : Fin 256) : k0_pay6 x2 (ix2 r 0) = Ideal.rsqrt (inner fun e => x2 (ix2 r e)) := by
  unfold DxRow.inner
  pointwise [k0_pay6]

theorem pay7_apply (r : Fin 256) (d : Fin 1024) : k0_pay7 x2 (ix2 r d) = (x2 (ix2 r d) : EReal) * Ideal.rsqrt (inner fun e => x2 (ix2 r e)) := by
  pointwise [k0_pay7, pay6_apply]

theorem pay8_apply (d : Fin 1024) : k0_pay8 x4 (ix2 0 d) = (1 : EReal) + x4 (ix3 0 0 ⟨1024 + d.val, by omega⟩) := by
  pointwise [k0_pay8]

theorem dx_apply (r : Fin 256) (d : Fin 1024) :
    k0_pay4 (k0_pay5 x0 x1) (k0_pay6 x2) (k0_pay7 x2) (k0_pay8 x4) x5 x3 (ix2 r d)
      = callDx (fun e => x2 (ix2 r e)) (grad (fun k => x0 (ix2 r k)) (fun k e => x1 (ix2 k e))) (fun e => (1 : EReal) + x4 (ix3 0 0 ⟨1024 + e.val, by omega⟩))
          (fun e => x5 (ix2 0 e)) (x3 (ix2 r d)) d := by
  unfold callDx
  pointwise [k0_pay4, pay5_apply, pay6_apply, pay7_apply, pay8_apply]

theorem st0_apply (d : Fin 1024) : k0_pay9 x0 x1 (ix3 0 0 d) = ∑ r : Fin 256, grad (fun k => x0 (ix2 r k)) (fun k e => x1 (ix2 k e)) d := by
  pointwise [k0_pay9, pay5_apply]

theorem st1_apply (d : Fin 1024) : k0_pay1 (k0_pay10 x0 x1 x2 x5) (ix3 0 0 d)
    = ∑ r : Fin 256, grad (fun k => x0 (ix2 r k)) (fun k e => x1 (ix2 k e)) d * ((x2 (ix2 r d) : EReal) * Ideal.rsqrt (inner fun e => x2 (ix2 r e))) * x5 (ix2 0 d) := by
  pointwise [k0_pay1, k0_pay10, pay5_apply, pay7_apply]

theorem st2_apply (d : Fin 1024) : k0_pay2 (k0_pay5 x0 x1) (k0_pay7 x2) (k0_pay8 x4) (ix3 0 0 d)
    = ∑ r : Fin 256, grad (fun k => x0 (ix2 r k)) (fun k e => x1 (ix2 k e)) d * ((x2 (ix2 r d) : EReal) * Ideal.rsqrt (inner fun e => x2 (ix2 r e)))
        * ((1 : EReal) + x4 (ix3 0 0 ⟨1024 + d.val, by omega⟩)) := by
  pointwise [k0_pay2, pay5_apply, pay7_apply, pay8_apply]

theorem st3_apply (k : Fin 5) (d : Fin 1024) : k0_pay3 (F := Ideal) (ix3 0 k d) = (0 : EReal) := by
  pointwise [k0_pay3]

theorem out_7 (c : Dev nD) (i : grid0.Coords) (arg1 : Memref sig .tc .vmem S256x6912 .bf16) (harg1 : arg1.IsWhole) (arg2 : Memref sig .tc .vmem S6912x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1x1x3072 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S1x8x1024 .f32) (harg8 : arg8.IsWhole)
    (k : Fin 8) (d : Fin 1024) :
    out0_A_7 c i arg1 harg1 arg2 harg2 arg3 harg3 arg4 harg4 arg5 harg5 arg6 harg6 arg7 harg7 arg8 harg8 x0 x1 x2 x3 x4 x5 (ix3 0 k d)
      = sums (fun r e => x2 (ix2 r e)) (fun r => grad (fun k => x0 (ix2 r k)) (fun k e => x1 (ix2 k e))) (fun e => (1 : EReal) + x4 (ix3 0 0 ⟨1024 + e.val, by omega⟩))
          (fun e => x5 (ix2 0 e)) k d := by
  unfold out0_A_7 kernelRun0_A; dsimp only; sl_unfold_words
  simp only [View.readAt_eq_ld, harg1.read_unread, harg2.read_unread, harg3.read_unread, harg4.read_unread, harg5.read_unread, harg6.read_unread,
    View.ld_unit_zero (S := S256x6912) hz2, View.ld_unit_zero (S := S6912x1024) hz2, View.ld_unit_zero (S := S256x1024) hz2, View.ld_unit_zero (S := S1x1024) hz2,
    View.ld_unit_zero (S := S1x1x3072) hz3]
  refine stacked _ _ _ _ _ _ _ _ _ _ _ _ _ _ _ k d ?_ ?_ ?_ ?_
  · exact st0_apply x0 x1 d
  · exact st1_apply x0 x1 x2 x5 d
  · exact st2_apply x0 x1 x2 x4 d
  · exact fun k' => st3_apply k' d

end

end Cert.DxArrays

end
-- ==== Proof.DxValue.lean ====
/- The gradient through the input projection's first half: from real arguments the call and the reference end with the
   same two arrays. -/
module

public import proofs.«01_k».proof.Proof.DxArrays
public import proofs.«01_k».proof.Proof.NormClaim

@[expose] public section

set_option maxRecDepth 16384

noncomputable section

namespace Cert.DxValue

open Cert.DxIdeal Cert.DxIdeal.Gen Idealize.ShloMosaic Idealize.ShloMosaic.TcCoe Idealize.SL.Sem Cert.Reals Cert.DxRow Cert.DxArrays
open Cert.NormClaim (modRow tile rowOf)

/-- The grid point of a tile. -/
def pt (b : Fin 4) (j : Fin 9) : Fin cfg0.N := ⟨9 * b.val + j.val, by have h : cfg0.N = 36 := N_0; omega⟩

theorem index0 : ∀ (b : Fin 4) (j : Fin 9), win0_0.index (pt b j) (0 : Fin 2) = 9 * b.val + j.val ∧ win0_0.index (pt b j) (1 : Fin 2) = 0 := by decide +kernel
theorem index1 : ∀ (b : Fin 4) (j : Fin 9), win0_1.index (pt b j) (0 : Fin 2) = 0 ∧ win0_1.index (pt b j) (1 : Fin 2) = 0 := by decide +kernel
theorem index2 : ∀ (b : Fin 4) (j : Fin 9), win0_2.index (pt b j) (0 : Fin 2) = 9 * b.val + j.val ∧ win0_2.index (pt b j) (1 : Fin 2) = 0 := by decide +kernel
theorem index3 : ∀ (b : Fin 4) (j : Fin 9), win0_3.index (pt b j) (0 : Fin 2) = 9 * b.val + j.val ∧ win0_3.index (pt b j) (1 : Fin 2) = 0 := by decide +kernel
theorem index4 : ∀ (b : Fin 4) (j : Fin 9), win0_4.index (pt b j) (0 : Fin 3) = (modRow b j).val ∧ win0_4.index (pt b j) (1 : Fin 3) = 0 ∧ win0_4.index (pt b j) (2 : Fin 3) = 0 := by decide +kernel
theorem index5 : ∀ (b : Fin 4) (j : Fin 9), win0_5.index (pt b j) (0 : Fin 2) = 0 ∧ win0_5.index (pt b j) (1 : Fin 2) = 0 := by decide +kernel
theorem index6 : ∀ (b : Fin 4) (j : Fin 9), win0_6.index (pt b j) (0 : Fin 2) = 9 * b.val + j.val ∧ win0_6.index (pt b j) (1 : Fin 2) = 0 := by decide +kernel
theorem index7 : ∀ (b : Fin 4) (j : Fin 9), win0_7.index (pt b j) (0 : Fin 3) = 9 * b.val + j.val ∧ win0_7.index (pt b j) (1 : Fin 3) = 0 ∧ win0_7.index (pt b j) (2 : Fin 3) = 0 := by decide +kernel

theorem emb0 (b : Fin 4) (j : Fin 9) (r : Fin 256) (k : Fin 6912) : ((cfg0.win 0).blk (pt b j)).view.emb (ix2 r k) = ix2 (rowOf b j r) k := by
  obtain ⟨h0, h1⟩ := index0 b j
  funext a
  apply Fin.ext
  match a with
  | ⟨0, _⟩ => show win0_0.index (pt b j) (0 : Fin 2) * 256 + 1 * r.val = 256 * (9 * b.val + j.val) + r.val; omega
  | ⟨1, _⟩ => show win0_0.index (pt b j) (1 : Fin 2) * 6912 + 1 * k.val = k.val; omega

theorem emb1 (b : Fin 4) (j : Fin 9) (k : Fin 6912) (d : Fin 1024) : ((cfg0.win 1).blk (pt b j)).view.emb (ix2 k d) = ix2 k d := by
  obtain ⟨h0, h1⟩ := index1 b j
  funext a
  apply Fin.ext
  match a with
  | ⟨0, _⟩ => show win0_1.index (pt b j) (0 : Fin 2) * 6912 + 1 * k.val = k.val; omega
  | ⟨1, _⟩ => show win0_1.index (pt b j) (1 : Fin 2) * 1024 + 1 * d.val = d.val; omega

theorem emb2 (b : Fin 4) (j : Fin 9) (r : Fin 256) (d : Fin 1024) : ((cfg0.win 2).blk (pt b j)).view.emb (ix2 r d) = ix2 (rowOf b j r) d := by
  obtain ⟨h0, h1⟩ := index2 b j
  funext a
  apply Fin.ext
  match a with
  | ⟨0, _⟩ => show win0_2.index (pt b j) (0 : Fin 2) * 256 + 1 * r.val = 256 * (9 * b.val + j.val) + r.val; omega
  | ⟨1, _⟩ => show win0_2.index (pt b j) (1 : Fin 2) * 1024 + 1 * d.val = d.val; omega

theorem emb3 (b : Fin 4) (j : Fin 9) (r : Fin 256) (d : Fin 1024) : ((cfg0.win 3).blk (pt b j)).view.emb (ix2 r d) = ix2 (rowOf b j r) d := by
  obtain ⟨h0, h1⟩ := index3 b j
  funext a
  apply Fin.ext
  match a with
  | ⟨0, _⟩ => show win0_3.index (pt b j) (0 : Fin 2) * 256 + 1 * r.val = 256 * (9 * b.val + j.val) + r.val; omega
  | ⟨1, _⟩ => show win0_3.index (pt b j) (1 : Fin 2) * 1024 + 1 * d.val = d.val; omega

theorem emb4 (b : Fin 4) (j : Fin 9) (d : Fin 3072) : ((cfg0.win 4).blk (pt b j)).view.emb (ix3 0 0 d) = ix3 (modRow b j) 0 d := by
  obtain ⟨h0, h1, h2⟩ := index4 b j
  funext a
  apply Fin.ext
  match a with
  | ⟨0, _⟩ => show win0_4.index (pt b j) (0 : Fin 3) * 1 + 1 * 0 = (modRow b j).val; omega
  | ⟨1, _⟩ => show win0_4.index (pt b j) (1 : Fin 3) * 1 + 1 * 0 = 0; omega
  | ⟨2, _⟩ => show win0_4.index (pt b j) (2 : Fin 3) * 3072 + 1 * d.val = d.val; omega

theorem emb5 (b : Fin 4) (j : Fin 9) (d : Fin 1024) : ((cfg0.win 5).blk (pt b j)).view.emb (ix2 0 d) = ix2 0 d := by
  obtain ⟨h0, h1⟩ := index5 b j
  funext a
  apply Fin.ext
  match a with
  | ⟨0, _⟩ => show win0_5.index (pt b j) (0 : Fin 2) * 1 + 1 * 0 = 0; omega
  | ⟨1, _⟩ => show win0_5.index (pt b j) (1 : Fin 2) * 1024 + 1 * d.val = d.val; omega

theorem emb6 (b : Fin 4) (j : Fin 9) (r : Fin 256) (d : Fin 1024) : ((cfg0.win 6).blk (pt b j)).view.emb (ix2 r d) = ix2 (rowOf b j r) d := by
  obtain ⟨h0, h1⟩ := index6 b j
  funext a
  apply Fin.ext
  match a with
  | ⟨0, _⟩ => show win0_6.index (pt b j) (0 : Fin 2) * 256 + 1 * r.val = 256 * (9 * b.val + j.val) + r.val; omega
  | ⟨1, _⟩ => show win0_6.index (pt b j) (1 : Fin 2) * 1024 + 1 * d.val = d.val; omega

theorem emb7 (b : Fin 4) (j : Fin 9) (k : Fin 8) (d : Fin 1024) : ((cfg0.win 7).blk (pt b j)).view.emb (ix3 0 k d) = ix3 (tile b j) k d := by
  obtain ⟨h0, h1, h2⟩ := index7 b j
  funext a
  apply Fin.ext
  match a with
  | ⟨0, _⟩ => show win0_7.index (pt b j) (0 : Fin 3) * 1 + 1 * 0 = 9 * b.val + j.val; omega
  | ⟨1, _⟩ => show win0_7.index (pt b j) (1 : Fin 3) * 8 + 1 * k.val = k.val; omega
  | ⟨2, _⟩ => show win0_7.index (pt b j) (2 : Fin 3) * 1024 + 1 * d.val = d.val; omega

/-! ### The rows of a tile, read from the arguments -/

section

variable (x0 : FVec Ideal S9216x1024 .f32) (x1 : FVec Ideal S8x3072 .f32) (x2 : FVec Ideal S1x1024 .f32) (x3 : FVec Ideal S6912x1024 .f32) (x4 : FVec Ideal S9216x6912 .f32)
  (b : Fin 4) (j : Fin 9)

/-- A row of a tile, its gradient after the projection, one more than the tile's scale, and the gain. -/
abbrev xRow (r : Fin 256) (d : Fin 1024) : EReal := x0 (ix2 (rowOf b j r) d)
abbrev dhRow (r : Fin 256) (d : Fin 1024) : EReal := grad (fun k => x4 (ix2 (rowOf b j r) k)) (fun k e => x3 (ix2 k e)) d
abbrev scRow (d : Fin 1024) : EReal := (1 : EReal) + x1 (ix2 (modRow b j) ⟨1024 + d.val, by omega⟩)
abbrev gRow (d : Fin 1024) : EReal := x2 (ix2 0 d)

end

/-! ### The call's arrays -/

section

variable (m : (ℓ : Loc nD τ sig) → Buf (Elt Ideal) ℓ) (c : Dev nD)

theorem block_dz (b : Fin 4) (j : Fin 9) (r : Fin 256) (k : Fin 6912) : iblk m c 0 (pt b j) (ix2 r k) = m ((c : Thread nD τ).loc main_arg4) (ix2 (rowOf b j r) k) := by
  show V m c main_v0 (((cfg0.win 0).blk (pt b j)).view.emb (ix2 r k)) = _
  rw [emb0, V_dz]
  rfl

theorem block_w (b : Fin 4) (j : Fin 9) (k : Fin 6912) (d : Fin 1024) : iblk m c 1 (pt b j) (ix2 k d) = m ((c : Thread nD τ).loc main_arg3) (ix2 k d) := by
  show V m c main_v1 (((cfg0.win 1).blk (pt b j)).view.emb (ix2 k d)) = _
  rw [emb1, V_w]
  rfl

theorem block_x (b : Fin 4) (j : Fin 9) (r : Fin 256) (d : Fin 1024) : iblk m c 2 (pt b j) (ix2 r d) = m ((c : Thread nD τ).loc main_arg0) (ix2 (rowOf b j r) d) := by
  show V m c main_arg0 (((cfg0.win 2).blk (pt b j)).view.emb (ix2 r d)) = _
  rw [emb2, V_main_arg0]

theorem block_res (b : Fin 4) (j : Fin 9) (r : Fin 256) (d : Fin 1024) : iblk m c 3 (pt b j) (ix2 r d) = m ((c : Thread nD τ).loc main_arg5) (ix2 (rowOf b j r) d) := by
  show V m c main_arg5 (((cfg0.win 3).blk (pt b j)).view.emb (ix2 r d)) = _
  rw [emb3, V_main_arg5]

theorem block_mod (b : Fin 4) (j : Fin 9) (d : Fin 3072) : iblk m c 4 (pt b j) (ix3 0 0 d) = m ((c : Thread nD τ).loc main_arg1) (ix2 (modRow b j) d) := by
  show V m c main_v2 (((cfg0.win 4).blk (pt b j)).view.emb (ix3 0 0 d)) = _
  rw [emb4, V_mod]
  exact shapeCast_apply _ shapeCasts_S8x3072_S8x1x3072 (ix3 (modRow b j) 0 d) (ix2 (modRow b j) d)
    (by rewrite [Shape.rowMajor_val_two, Shape.rowMajor_val_three]; show (modRow b j).val * 3072 + d.val = ((modRow b j).val * 1 + 0) * 3072 + d.val; omega)

theorem block_g (b : Fin 4) (j : Fin 9) (d : Fin 1024) : iblk m c 5 (pt b j) (ix2 0 d) = m ((c : Thread nD τ).loc main_arg2) (ix2 0 d) := by
  show V m c main_arg2 (((cfg0.win 5).blk (pt b j)).view.emb (ix2 0 d)) = _
  rw [emb5, V_main_arg2]

theorem array_dx (b : Fin 4) (j : Fin 9) (r : Fin 256) (d : Fin 1024) :
    (dats m 0 c).arrAt 6 cfg0.N (ix2 (rowOf b j r) d)
      = callDx (xRow (m ((c : Thread nD τ).loc main_arg0)) b j r) (dhRow (m ((c : Thread nD τ).loc main_arg3)) (m ((c : Thread nD τ).loc main_arg4)) b j r)
          (scRow (m ((c : Thread nD τ).loc main_arg1)) b j) (gRow (m ((c : Thread nD τ).loc main_arg2))) (m ((c : Thread nD τ).loc main_arg5) (ix2 (rowOf b j r) d)) d := by
  refine (congrArg ((dats m 0 c).arrAt 6 cfg0.N) (emb6 b j r d).symm).trans ?_
  refine (congrFun (Value.blocks6 m c (pt b j) (flush0_6 _)) _).trans ?_
  rw [Value.flushed6_A, out_6]
  refine (dx_apply _ _ _ _ _ _ r d).trans ?_
  simp only [block_dz, block_w, block_x, block_res, block_mod, block_g]

theorem array_st (b : Fin 4) (j : Fin 9) (k : Fin 8) (d : Fin 1024) :
    (dats m 0 c).arrAt 7 cfg0.N (ix3 (tile b j) k d)
      = sums (xRow (m ((c : Thread nD τ).loc main_arg0)) b j) (dhRow (m ((c : Thread nD τ).loc main_arg3)) (m ((c : Thread nD τ).loc main_arg4)) b j)
          (scRow (m ((c : Thread nD τ).loc main_arg1)) b j) (gRow (m ((c : Thread nD τ).loc main_arg2))) k d := by
  rw [← emb7]
  refine (congrFun (Value.blocks7 m c (pt b j) (flush0_7 _)) _).trans ?_
  rw [Value.flushed7_A]
  refine (out_7 _ _ _ _ _ _ c _ _ _ _ _ _ _ _ _ _ _ _ _ _ _ _ _ k d).trans ?_
  simp only [block_dz, block_w, block_x, block_mod, block_g]

end

/-! ### The reference's arrays -/

section

open DxReferenceIdeal.Read

variable (x0 : FVec Ideal DxReferenceIdeal.S9216x1024 .f32) (x1 : FVec Ideal DxReferenceIdeal.S8x3072 .f32) (x2 : FVec Ideal DxReferenceIdeal.S1x1024 .f32)
  (x3 : FVec Ideal DxReferenceIdeal.S6912x1024 .f32) (x4 : FVec Ideal DxReferenceIdeal.S9216x6912 .f32) (x5 : FVec Ideal DxReferenceIdeal.S9216x1024 .f32)

theorem ref_mod (b : Fin 4) (j : Fin 9) (d : Fin 3072) : val_main_v8 (F := Ideal) x1 (ix3 (tile b j) 0 d) = x1 (ix2 (modRow b j) d) :=
  NormClaim.ref_mod x1 b j d

/-- Tiles of rows are rows. -/
theorem tiled (y : FVec Ideal DxReferenceIdeal.S9216x1024 .f32) (b : Fin 4) (j : Fin 9) (r : Fin 256) (d : Fin 1024) :
    val_main_v12 (F := Ideal) y (ix3 (tile b j) r d) = y (ix2 (rowOf b j r) d) :=
  NormClaim.ref_x y b j r d

theorem ref_res (b : Fin 4) (j : Fin 9) (r : Fin 256) (d : Fin 1024) : val_main_v36 (F := Ideal) x5 (ix3 (tile b j) r d) = x5 (ix2 (rowOf b j r) d) :=
  tiled x5 b j r d

theorem ref_dh (b : Fin 4) (j : Fin 9) (r : Fin 256) (d : Fin 1024) : val_main_v38 (F := Ideal) x3 x4 (ix3 (tile b j) r d) = dhRow x3 x4 b j r d := by
  refine (tiled (val_main_v37 (F := Ideal) x3 x4) b j r d).trans ((val_main_v37_apply x3 x4 _).trans ?_)
  show (∑ k : Fin 6912, _ : EReal) = (∑ k : Fin 6912, _ : EReal)
  refine Finset.sum_congr rfl fun k _ => congrArg₂ (· * ·) (congrArg _ ?_) (congrArg _ ?_) <;>
  · funext a
    match a with
    | ⟨0, _⟩ => rfl
    | ⟨1, _⟩ => rfl

theorem ref_inner (b : Fin 4) (j : Fin 9) (r : Fin 256) : val_main_v19 (F := Ideal) x0 (ix3 (tile b j) r 0) = DxRow.inner (xRow x0 b j r) := by
  unfold DxRow.inner
  pointwise [val_main_v19, val_main_v18, val_main_v17, val_main_v16, val_main_v15, val_main_v14, val_main_v13, val_main_cst, val_main_cst_0, val_main_cst_1, tiled]

theorem ref_r (b : Fin 4) (j : Fin 9) (r : Fin 256) : val_main_v20 (F := Ideal) x0 (ix3 (tile b j) r 0) = Ideal.rsqrt (DxRow.inner (xRow x0 b j r)) := by
  pointwise [val_main_v20, ref_inner]

theorem ref_sc (b : Fin 4) (j : Fin 9) (d : Fin 1024) : val_main_v29 (F := Ideal) x1 (ix3 (tile b j) 0 d) = scRow x1 b j d := by
  pointwise [val_main_v29, val_main_v28, val_main_cst_3, val_main_v10, ref_mod]

theorem ref_g (b : Fin 4) (j : Fin 9) (d : Fin 1024) : val_main_v11 (F := Ideal) x2 (ix3 (tile b j) 0 d) = gRow x2 d := by
  pointwise [val_main_v11]

theorem ref_xn (b : Fin 4) (j : Fin 9) (r : Fin 256) (d : Fin 1024) :
    val_main_v25 (F := Ideal) x0 (ix3 (tile b j) r d) = xRow x0 b j r d * Ideal.rsqrt (DxRow.inner (xRow x0 b j r)) := by
  pointwise [val_main_v25, val_main_v24, tiled, ref_r]

theorem ref_dy (b : Fin 4) (j : Fin 9) (r : Fin 256) (d : Fin 1024) :
    val_main_v50 (F := Ideal) x1 x2 x3 x4 (ix3 (tile b j) r d) = dhRow x3 x4 b j r d * scRow x1 b j d * gRow x2 d := by
  pointwise [val_main_v50, val_main_v49, val_main_v45, val_main_v44, ref_dh, ref_sc, ref_g]

theorem ref_along (b : Fin 4) (j : Fin 9) (r : Fin 256) :
    val_main_v59 (F := Ideal) x0 x1 x2 x3 x4 (ix3 (tile b j) r 0) = along (xRow x0 b j r) (dhRow x3 x4 b j r) (scRow x1 b j) (gRow x2) := by
  unfold along
  pointwise [val_main_v59, val_main_v58, val_main_cst_8, val_main_v57, val_main_v53, val_main_v52, val_main_cst_7, val_main_v51, val_main_v23, val_main_v22, val_main_cst_2, val_main_v21,
    tiled, ref_dy, ref_r, ref_inner]

theorem ref_along_row (b : Fin 4) (j : Fin 9) (r : Fin 256) :
    val_main_v60 (F := Ideal) x0 x1 x2 x3 x4 (ix2 (tile b j) r) = along (xRow x0 b j r) (dhRow x3 x4 b j r) (scRow x1 b j) (gRow x2) := by
  pointwise [val_main_v60, val_main_cst_9]
  rw [Fin.sum_univ_one]
  exact ref_along x0 x1 x2 x3 x4 b j r

theorem ref_stage (b : Fin 4) (j : Fin 9) (r : Fin 256) (d : Fin 1024) :
    val_main_v65 (F := Ideal) x0 x1 x2 x3 x4 x5 (ix3 (tile b j) r d)
      = refDx (xRow x0 b j r) (dhRow x3 x4 b j r) (scRow x1 b j) (gRow x2) (x5 (ix2 (rowOf b j r) d)) d := by
  unfold refDx
  pointwise [val_main_v65, val_main_v64, val_main_v63, val_main_v62, val_main_v61, val_main_v56, val_main_v55, val_main_v54, tiled, ref_res, ref_dy, ref_r, ref_along_row]

theorem ref_dx (b : Fin 4) (j : Fin 9) (r : Fin 256) (d : Fin 1024) :
    val_main_v66 (F := Ideal) x0 x1 x2 x3 x4 x5 (ix2 (rowOf b j r) d)
      = refDx (xRow x0 b j r) (dhRow x3 x4 b j r) (scRow x1 b j) (gRow x2) (x5 (ix2 (rowOf b j r) d)) d := by
  rw [← ref_stage, val_main_v66_apply]
  refine congrArg _ ?_
  funext a
  apply Fin.ext
  match a with
  | ⟨0, _⟩ => show ((256 * (9 * b.val + j.val) + r.val) * 1024 + d.val) / 262144 = 9 * b.val + j.val; omega
  | ⟨1, _⟩ => show ((256 * (9 * b.val + j.val) + r.val) * 1024 + d.val) / 1024 % 256 = r.val; omega
  | ⟨2, _⟩ => show ((256 * (9 * b.val + j.val) + r.val) * 1024 + d.val) % 1024 = d.val; omega

theorem ref_st0 (b : Fin 4) (j : Fin 9) (d : Fin 1024) : val_main_v40 (F := Ideal) x3 x4 (ix3 (tile b j) 0 d) = ∑ r, dhRow x3 x4 b j r d := by
  pointwise [val_main_v40, val_main_v39, val_main_cst_4, ref_dh]

theorem ref_st1 (b : Fin 4) (j : Fin 9) (d : Fin 1024) : val_main_v43 (F := Ideal) x0 x2 x3 x4 (ix3 (tile b j) 0 d)
    = ∑ r, xRow x0 b j r d * Ideal.rsqrt (DxRow.inner (xRow x0 b j r)) * gRow x2 d * dhRow x3 x4 b j r d := by
  pointwise [val_main_v43, val_main_v42, val_main_cst_5, val_main_v41, val_main_v27, val_main_v26, ref_dh, ref_xn, ref_g]

theorem ref_st2 (b : Fin 4) (j : Fin 9) (d : Fin 1024) : val_main_v48 (F := Ideal) x0 x1 x3 x4 (ix3 (tile b j) 0 d)
    = ∑ r, xRow x0 b j r d * Ideal.rsqrt (DxRow.inner (xRow x0 b j r)) * (dhRow x3 x4 b j r d * scRow x1 b j d) := by
  pointwise [val_main_v48, val_main_v47, val_main_cst_6, val_main_v46, val_main_v45, val_main_v44, ref_dh, ref_xn, ref_sc]

theorem ref_st (b : Fin 4) (j : Fin 9) (k : Fin 8) (d : Fin 1024) :
    val_main_v68 (F := Ideal) x0 x1 x2 x3 x4 (ix3 (tile b j) k d) = sums (xRow x0 b j) (dhRow x3 x4 b j) (scRow x1 b j) (gRow x2) k d := by
  fin_cases k
  · refine Eq.trans ?_ (ref_st0 x3 x4 b j d)
    pointwise [val_main_v68]
  · show _ = ∑ r, dhRow x3 x4 b j r d * (xRow x0 b j r d * Ideal.rsqrt (DxRow.inner (xRow x0 b j r))) * gRow x2 d
    refine Eq.trans ?_ ((ref_st1 x0 x2 x3 x4 b j d).trans (Finset.sum_congr rfl fun r _ => ?_))
    · pointwise [val_main_v68]
    · rw [mul_comm _ (dhRow x3 x4 b j r d), ← mul_assoc]
  · show _ = ∑ r, dhRow x3 x4 b j r d * (xRow x0 b j r d * Ideal.rsqrt (DxRow.inner (xRow x0 b j r))) * scRow x1 b j d
    refine Eq.trans ?_ ((ref_st2 x0 x1 x3 x4 b j d).trans (Finset.sum_congr rfl fun r _ => ?_))
    · pointwise [val_main_v68]
    · rw [← mul_assoc, mul_comm _ (dhRow x3 x4 b j r d)]
  all_goals
    show _ = (0 : EReal)
    pointwise [val_main_v68, val_main_v67, val_main_cst_10]

end

/-! ### The arrays are equal -/

theorem grad_coe (dz : Fin 6912 → ℝ) (w : Fin 6912 → Fin 1024 → ℝ) (d : Fin 1024) :
    grad (fun k => (dz k : EReal)) (fun k e => (w k e : EReal)) d = ((∑ k, dz k * w k d : ℝ) : EReal) := by
  unfold grad
  simp only [← EReal.coe_mul, ← coe_sum]

/-- From real arguments a row of the call is the reference's. -/
theorem rows (x0 : FVec Ideal S9216x1024 .f32) (x1 : FVec Ideal S8x3072 .f32) (x2 : FVec Ideal S1x1024 .f32) (x3 : FVec Ideal S6912x1024 .f32) (x4 : FVec Ideal S9216x6912 .f32)
    (hx : ∀ i, x0 i = ((x0 i : EReal).toReal : EReal)) (hm : ∀ i, x1 i = ((x1 i : EReal).toReal : EReal)) (hg : ∀ i, x2 i = ((x2 i : EReal).toReal : EReal))
    (hw : ∀ i, x3 i = ((x3 i : EReal).toReal : EReal)) (hz : ∀ i, x4 i = ((x4 i : EReal).toReal : EReal)) (b : Fin 4) (j : Fin 9) (r : Fin 256) (res : EReal) (d : Fin 1024) :
    callDx (xRow x0 b j r) (dhRow x3 x4 b j r) (scRow x1 b j) (gRow x2) res d = refDx (xRow x0 b j r) (dhRow x3 x4 b j r) (scRow x1 b j) (gRow x2) res d := by
  have ex : xRow x0 b j r = fun e => (((x0 (ix2 (rowOf b j r) e) : EReal).toReal : ℝ) : EReal) := funext fun e => hx _
  have eg : gRow x2 = fun e => (((x2 (ix2 0 e) : EReal).toReal : ℝ) : EReal) := funext fun e => hg _
  have es : scRow x1 b j = fun e => ((1 + (x1 (ix2 (modRow b j) ⟨1024 + e.val, by omega⟩) : EReal).toReal : ℝ) : EReal) :=
    funext fun e => by
      rw [EReal.coe_add, ← hm]
      rfl
  have eh : dhRow x3 x4 b j r = fun e => ((∑ k : Fin 6912, (x4 (ix2 (rowOf b j r) k) : EReal).toReal * (x3 (ix2 k e) : EReal).toReal : ℝ) : EReal) :=
    funext fun e => by
      rw [← grad_coe (fun k => (x4 (ix2 (rowOf b j r) k) : EReal).toReal) (fun k e => (x3 (ix2 k e) : EReal).toReal) e]
      exact congrArg₂ (fun p q => grad p q e) (funext fun k => hz _) (funext fun k => funext fun e => hw _)
  rw [ex, eg, es, eh]
  exact DxRow.equal _ _ _ _ _ d

section

variable (m : (ℓ : Loc nD τ sig) → Buf (Elt Ideal) ℓ) (c : Dev nD)

theorem equal_dx (hx : ∀ i, m ((c : Thread nD τ).loc main_arg0) i = ((m ((c : Thread nD τ).loc main_arg0) i : EReal).toReal : EReal))
    (hm : ∀ i, m ((c : Thread nD τ).loc main_arg1) i = ((m ((c : Thread nD τ).loc main_arg1) i : EReal).toReal : EReal))
    (hg : ∀ i, m ((c : Thread nD τ).loc main_arg2) i = ((m ((c : Thread nD τ).loc main_arg2) i : EReal).toReal : EReal))
    (hw : ∀ i, m ((c : Thread nD τ).loc main_arg3) i = ((m ((c : Thread nD τ).loc main_arg3) i : EReal).toReal : EReal))
    (hz : ∀ i, m ((c : Thread nD τ).loc main_arg4) i = ((m ((c : Thread nD τ).loc main_arg4) i : EReal).toReal : EReal)) :
    (dats m 0 c).arrAt 6 cfg0.N = DxReferenceIdeal.Read.val_main_v66 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  funext y
  have h0 : (y 0).val < 9216 := (y 0).isLt
  have h1 : (y 1).val < 1024 := (y 1).isLt
  have e : y = ix2 (rowOf ⟨(y 0).val / 2304, by omega⟩ ⟨(y 0).val / 256 % 9, by omega⟩ ⟨(y 0).val % 256, by omega⟩) ⟨(y 1).val, h1⟩ := by
    funext a
    apply Fin.ext
    match a with
    | ⟨0, _⟩ => show (y 0).val = 256 * (9 * ((y 0).val / 2304) + (y 0).val / 256 % 9) + (y 0).val % 256; omega
    | ⟨1, _⟩ => rfl
  rw [e]
  generalize (⟨(y 0).val / 2304, _⟩ : Fin 4) = b
  generalize (⟨(y 0).val / 256 % 9, _⟩ : Fin 9) = j
  generalize (⟨(y 0).val % 256, _⟩ : Fin 256) = r
  generalize (⟨(y 1).val, h1⟩ : Fin 1024) = d
  exact (array_dx m c b j r d).trans ((rows _ _ _ _ _ hx hm hg hw hz b j r _ d).trans (ref_dx _ _ _ _ _ _ b j r d).symm)

theorem equal_st :
    (dats m 0 c).arrAt 7 cfg0.N = DxReferenceIdeal.Read.val_main_v68 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  funext y
  have h0 : (y 0).val < 36 := (y 0).isLt
  have h1 : (y 1).val < 8 := (y 1).isLt
  have h2 : (y 2).val < 1024 := (y 2).isLt
  have e : y = ix3 (tile ⟨(y 0).val / 9, by omega⟩ ⟨(y 0).val % 9, by omega⟩) ⟨(y 1).val, h1⟩ ⟨(y 2).val, h2⟩ := by
    funext a
    apply Fin.ext
    match a with
    | ⟨0, _⟩ => show (y 0).val = 9 * ((y 0).val / 9) + (y 0).val % 9; omega
    | ⟨1, _⟩ => rfl
    | ⟨2, _⟩ => rfl
  rw [e]
  exact (array_st m c _ _ _ _).trans (ref_st _ _ _ _ _ _ _ _ _).symm

end

end Cert.DxValue

end
-- ==== Proof.DxClaim.lean ====
/- The claim about the gradient through the input projection and its norm, as the second layer calls it. -/
module

public import proofs.«01_k».proof.Defs
public import proofs.«01_k».proof.Proof.Gen.DxReferenceIdeal.Run
public import proofs.«01_k».proof.Proof.Gen.Pre_finite_dx
public import proofs.«01_k».proof.Proof.DxValue
public import proofs.«01_k».proof.Proof.Finite
public import Idealize.ShloMosaic.Lib.Quiescent

@[expose] public section

set_option maxRecDepth 16384

open Idealize.ShloMosaic Idealize.ShloMosaic.View Idealize.SL.Sem Cert.Reals Cert.Finite

noncomputable section

namespace Cert.DxClaim

theorem algebraic : Cert.algebraic_DxIdeal_DxReferenceIdeal_pre_finite_dx (hDxIdeal := Cert.DxIdeal.Gen.facts)
    (hDxReferenceIdeal := Cert.DxReferenceIdeal.Gen.facts) (hPre_finite_dx := Cert.Pre_finite_dx.Gen.facts) := by
  intro m g m' g' hpre hag
  refine ⟨fun c => (DxIdeal.Gen.dats m 0 c).arrAt 6 DxIdeal.cfg0.N, fun c => (DxIdeal.Gen.dats m 0 c).arrAt 7 DxIdeal.cfg0.N,
    DxIdeal.Value.run_blocks m g, ?_⟩
  refine (θ_run DxReferenceIdeal.defs _ _).mono (fun r h c => ?_) (DxReferenceIdeal.Value.run m' g')
  obtain ⟨h0, h1, k⟩ := h c
  obtain ⟨a0, a1, a2, a3, a4, a5⟩ := hag c
  obtain ⟨f0, f1, f2, f3, f4⟩ := hpre c
  rw [DxReferenceIdeal.Read.val_main_v66_eq, a0, a1, a2, a3, a4, a5] at h0
  rw [DxReferenceIdeal.Read.val_main_v68_eq, a0, a1, a2, a3, a4] at h1
  exact ⟨h0.trans (DxValue.equal_dx m c (real_of_finite _ _ f0) (real_of_finite _ _ f1) (real_of_finite _ _ f2) (real_of_finite _ _ f3)
    (real_of_finite _ _ f4)).symm, h1.trans (DxValue.equal_st m c).symm, k⟩

theorem reference : Cert.quiescent_DxReferenceIdeal (hDxReferenceIdeal := Cert.DxReferenceIdeal.Gen.facts) := fun m ρ _ =>
  (θ_run DxReferenceIdeal.defs _ _).mono (fun r h => ⟨fun c => (h c).2.2, sem_eq_zero_of_no_sems (by decide) r.2⟩) (DxReferenceIdeal.Value.run m ρ)

end Cert.DxClaim

end
-- ==== Proof.LatentClaim.lean ====
/- The gradient through the input projection as the first layer calls it: the context's rows of the first array are left
   out. The rows are those of the second layer's call. -/
module

public import proofs.«01_k».proof.Defs
public import proofs.«01_k».proof.Proof.Gen.LatentIdeal.Value
public import proofs.«01_k».proof.Proof.Gen.LatentReferenceIdeal.Read
public import proofs.«01_k».proof.Proof.Gen.LatentReferenceIdeal.Run
public import proofs.«01_k».proof.Proof.Gen.Pre_finite_dx
public import proofs.«01_k».proof.Proof.DxValue
public import proofs.«01_k».proof.Proof.Finite
public import Idealize.ShloMosaic.Lib.Quiescent

@[expose] public section

set_option maxRecDepth 16384

noncomputable section

namespace Cert.LatentClaim

open Cert.LatentIdeal Cert.LatentIdeal.Gen Idealize.ShloMosaic Idealize.ShloMosaic.TcCoe Idealize.SL.Sem Cert.Reals Cert.DxRow Cert.Finite
open Cert.NormClaim (modRow tile rowOf)
open Cert.DxValue (xRow dhRow scRow gRow)
open Cert.DxArrays (sums grad hz2 hz3)

section

variable {F : FTy → Type} [FloatOps F] (m : (ℓ : Loc nD τ sig) → Buf (Elt F) ℓ) (c : Dev nD)

theorem V_dz : V m c main_v0 = truncf .bf16 (m ((c : Thread nD τ).loc main_arg4)) bitsLt_bf16_f32 := by
  show StableHlo.after hostOps0 (fun b => m (c, b)) (Proc.devRef .tc main_v0) = _
  simp only [hostOps0]
  after_results_simp

theorem V_w : V m c main_v1 = truncf .bf16 (m ((c : Thread nD τ).loc main_arg3)) bitsLt_bf16_f32 := by
  show StableHlo.after hostOps0 (fun b => m (c, b)) (Proc.devRef .tc main_v1) = _
  simp only [hostOps0]
  after_results_simp

theorem V_mod : V m c main_v2 = shapeCast S8x1x3072 (m ((c : Thread nD τ).loc main_arg1)) shapeCasts_S8x3072_S8x1x3072 := by
  show StableHlo.after hostOps0 (fun b => m (c, b)) (Proc.devRef .tc main_v2) = _
  simp only [hostOps0]
  after_results_simp
  rfl

/-! ### What the body stores -/

theorem out_6 (i : grid0.Coords) (arg1 : Memref sig .tc .vmem S256x6912 .bf16) (harg1 : arg1.IsWhole) (arg2 : Memref sig .tc .vmem S6912x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1x1x3072 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S1x8x1024 .f32) (harg8 : arg8.IsWhole)
    (x0 : Vec F S256x6912 .bf16) (x1 : Vec F S6912x1024 .bf16) (x2 : Vec F S256x1024 .f32) (x3 : Vec F S256x1024 .f32) (x4 : Vec F S1x1x3072 .f32) (x5 : Vec F S1x1024 .f32) :
    out0_A_6 c i arg1 harg1 arg2 harg2 arg3 harg3 arg4 harg4 arg5 harg5 arg6 harg6 arg7 harg7 arg8 harg8 x0 x1 x2 x3 x4 x5
      = k0_pay4 (k0_pay5 x0 x1) (k0_pay6 x2) (k0_pay7 x2) (k0_pay8 x4) x5 x3 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A; dsimp only; sl_unfold_words
  simp only [View.readAt_eq_ld, harg1.read_unread, harg2.read_unread, harg3.read_unread, harg4.read_unread, harg5.read_unread, harg6.read_unread]
  rw [View.canon_unit_zero (by decide)]
  simp only [View.ld_unit_zero (S := S256x6912) hz2, View.ld_unit_zero (S := S6912x1024) hz2, View.ld_unit_zero (S := S256x1024) hz2, View.ld_unit_zero (S := S1x1024) hz2,
    View.ld_unit_zero (S := S1x1x3072) hz3]

end

section

variable (x0 : Vec Ideal S256x6912 .bf16) (x1 : Vec Ideal S6912x1024 .bf16) (x2 : Vec Ideal S256x1024 .f32) (x3 : Vec Ideal S256x1024 .f32) (x4 : Vec Ideal S1x1x3072 .f32) (x5 : Vec Ideal S1x1024 .f32)

theorem out_7 (c : Dev nD) (i : grid0.Coords) (arg1 : Memref sig .tc .vmem S256x6912 .bf16) (harg1 : arg1.IsWhole) (arg2 : Memref sig .tc .vmem S6912x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1x1x3072 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S1x8x1024 .f32) (harg8 : arg8.IsWhole)
    (k : Fin 8) (d : Fin 1024) :
    out0_A_7 c i arg1 harg1 arg2 harg2 arg3 harg3 arg4 harg4 arg5 harg5 arg6 harg6 arg7 harg7 arg8 harg8 x0 x1 x2 x3 x4 x5 (ix3 0 k d)
      = sums (fun r e => x2 (ix2 r e)) (fun r => grad (fun k => x0 (ix2 r k)) (fun k e => x1 (ix2 k e))) (fun e => (1 : EReal) + x4 (ix3 0 0 ⟨1024 + e.val, by omega⟩))
          (fun e => x5 (ix2 0 e)) k d := by
  unfold out0_A_7 kernelRun0_A; dsimp only; sl_unfold_words
  simp only [View.readAt_eq_ld, harg1.read_unread, harg2.read_unread, harg3.read_unread, harg4.read_unread, harg5.read_unread, harg6.read_unread,
    View.ld_unit_zero (S := S256x6912) hz2, View.ld_unit_zero (S := S6912x1024) hz2, View.ld_unit_zero (S := S256x1024) hz2, View.ld_unit_zero (S := S1x1024) hz2,
    View.ld_unit_zero (S := S1x1x3072) hz3]
  refine DxArrays.stacked _ _ _ _ _ _ _ _ _ _ _ _ _ _ _ k d ?_ ?_ ?_ ?_
  · exact DxArrays.st0_apply x0 x1 d
  · exact DxArrays.st1_apply x0 x1 x2 x5 d
  · exact DxArrays.st2_apply x0 x1 x2 x4 d
  · exact fun k' => DxArrays.st3_apply k' d

end

/-- The grid point of a tile. -/
def pt (b : Fin 4) (j : Fin 9) : Fin cfg0.N := ⟨9 * b.val + j.val, by have h : cfg0.N = 36 := N_0; omega⟩

/-- The grid point of one of a sample's latent tiles. -/
def late (b : Fin 4) (j : Fin 8) : Fin cfg0.N := pt b ⟨1 + j.val, by omega⟩

/-- A row of the result. -/
def row (b : Fin 4) (j : Fin 8) (r : Fin 256) : Fin 8192 := ⟨256 * (8 * b.val + j.val) + r.val, by omega⟩

theorem index0 : ∀ (b : Fin 4) (j : Fin 9), win0_0.index (pt b j) (0 : Fin 2) = 9 * b.val + j.val ∧ win0_0.index (pt b j) (1 : Fin 2) = 0 := by decide +kernel
theorem index1 : ∀ (b : Fin 4) (j : Fin 9), win0_1.index (pt b j) (0 : Fin 2) = 0 ∧ win0_1.index (pt b j) (1 : Fin 2) = 0 := by decide +kernel
theorem index2 : ∀ (b : Fin 4) (j : Fin 9), win0_2.index (pt b j) (0 : Fin 2) = 9 * b.val + j.val ∧ win0_2.index (pt b j) (1 : Fin 2) = 0 := by decide +kernel
theorem index3 : ∀ (b : Fin 4) (j : Fin 9), win0_3.index (pt b j) (0 : Fin 2) = 9 * b.val + j.val ∧ win0_3.index (pt b j) (1 : Fin 2) = 0 := by decide +kernel
theorem index4 : ∀ (b : Fin 4) (j : Fin 9), win0_4.index (pt b j) (0 : Fin 3) = (modRow b j).val ∧ win0_4.index (pt b j) (1 : Fin 3) = 0 ∧ win0_4.index (pt b j) (2 : Fin 3) = 0 := by decide +kernel
theorem index5 : ∀ (b : Fin 4) (j : Fin 9), win0_5.index (pt b j) (0 : Fin 2) = 0 ∧ win0_5.index (pt b j) (1 : Fin 2) = 0 := by decide +kernel
theorem index6 : ∀ (b : Fin 4) (j : Fin 8), win0_6.index (late b j) (0 : Fin 2) = 8 * b.val + j.val ∧ win0_6.index (late b j) (1 : Fin 2) = 0 := by decide +kernel
theorem index7 : ∀ (b : Fin 4) (j : Fin 9), win0_7.index (pt b j) (0 : Fin 3) = 9 * b.val + j.val ∧ win0_7.index (pt b j) (1 : Fin 3) = 0 ∧ win0_7.index (pt b j) (2 : Fin 3) = 0 := by decide +kernel

theorem emb0 (b : Fin 4) (j : Fin 9) (r : Fin 256) (k : Fin 6912) : ((cfg0.win 0).blk (pt b j)).view.emb (ix2 r k) = ix2 (rowOf b j r) k := by
  obtain ⟨h0, h1⟩ := index0 b j
  funext a
  apply Fin.ext
  match a with
  | ⟨0, _⟩ => show win0_0.index (pt b j) (0 : Fin 2) * 256 + 1 * r.val = 256 * (9 * b.val + j.val) + r.val; omega
  | ⟨1, _⟩ => show win0_0.index (pt b j) (1 : Fin 2) * 6912 + 1 * k.val = k.val; omega

theorem emb1 (b : Fin 4) (j : Fin 9) (k : Fin 6912) (d : Fin 1024) : ((cfg0.win 1).blk (pt b j)).view.emb (ix2 k d) = ix2 k d := by
  obtain ⟨h0, h1⟩ := index1 b j
  funext a
  apply Fin.ext
  match a with
  | ⟨0, _⟩ => show win0_1.index (pt b j) (0 : Fin 2) * 6912 + 1 * k.val = k.val; omega
  | ⟨1, _⟩ => show win0_1.index (pt b j) (1 : Fin 2) * 1024 + 1 * d.val = d.val; omega

theorem emb2 (b : Fin 4) (j : Fin 9) (r : Fin 256) (d : Fin 1024) : ((cfg0.win 2).blk (pt b j)).view.emb (ix2 r d) = ix2 (rowOf b j r) d := by
  obtain ⟨h0, h1⟩ := index2 b j
  funext a
  apply Fin.ext
  match a with
  | ⟨0, _⟩ => show win0_2.index (pt b j) (0 : Fin 2) * 256 + 1 * r.val = 256 * (9 * b.val + j.val) + r.val; omega
  | ⟨1, _⟩ => show win0_2.index (pt b j) (1 : Fin 2) * 1024 + 1 * d.val = d.val; omega

theorem emb3 (b : Fin 4) (j : Fin 9) (r : Fin 256) (d : Fin 1024) : ((cfg0.win 3).blk (pt b j)).view.emb (ix2 r d) = ix2 (rowOf b j r) d := by
  obtain ⟨h0, h1⟩ := index3 b j
  funext a
  apply Fin.ext
  match a with
  | ⟨0, _⟩ => show win0_3.index (pt b j) (0 : Fin 2) * 256 + 1 * r.val = 256 * (9 * b.val + j.val) + r.val; omega
  | ⟨1, _⟩ => show win0_3.index (pt b j) (1 : Fin 2) * 1024 + 1 * d.val = d.val; omega

theorem emb4 (b : Fin 4) (j : Fin 9) (d : Fin 3072) : ((cfg0.win 4).blk (pt b j)).view.emb (ix3 0 0 d) = ix3 (modRow b j) 0 d := by
  obtain ⟨h0, h1, h2⟩ := index4 b j
  funext a
  apply Fin.ext
  match a with
  | ⟨0, _⟩ => show win0_4.index (pt b j) (0 : Fin 3) * 1 + 1 * 0 = (modRow b j).val; omega
  | ⟨1, _⟩ => show win0_4.index (pt b j) (1 : Fin 3) * 1 + 1 * 0 = 0; omega
  | ⟨2, _⟩ => show win0_4.index (pt b j) (2 : Fin 3) * 3072 + 1 * d.val = d.val; omega

theorem emb5 (b : Fin 4) (j : Fin 9) (d : Fin 1024) : ((cfg0.win 5).blk (pt b j)).view.emb (ix2 0 d) = ix2 0 d := by
  obtain ⟨h0, h1⟩ := index5 b j
  funext a
  apply Fin.ext
  match a with
  | ⟨0, _⟩ => show win0_5.index (pt b j) (0 : Fin 2) * 1 + 1 * 0 = 0; omega
  | ⟨1, _⟩ => show win0_5.index (pt b j) (1 : Fin 2) * 1024 + 1 * d.val = d.val; omega

theorem emb6 (b : Fin 4) (j : Fin 8) (r : Fin 256) (d : Fin 1024) : ((cfg0.win 6).blk (late b j)).view.emb (ix2 r d) = ix2 (row b j r) d := by
  obtain ⟨h0, h1⟩ := index6 b j
  funext a
  apply Fin.ext
  match a with
  | ⟨0, _⟩ => show win0_6.index (late b j) (0 : Fin 2) * 256 + 1 * r.val = 256 * (8 * b.val + j.val) + r.val; omega
  | ⟨1, _⟩ => show win0_6.index (late b j) (1 : Fin 2) * 1024 + 1 * d.val = d.val; omega

/-- The latent tiles are written back, each to a block of its own; a context tile's block is overwritten before that. -/
theorem flush6 : ∀ (b : Fin 4) (j : Fin 8), (cfg0.win 6).flush (late b j) = true := by decide +kernel

theorem index6_ne : ∀ t t' : Fin cfg0.N, (cfg0.win 6).flush t = true → (cfg0.win 6).flush t' = true → win0_6.index t = win0_6.index t' → t = t' :=
  (by decide +kernel : ∀ t t' : Fin grid0.N, win0_6.flush t = true → win0_6.flush t' = true → win0_6.index t = win0_6.index t' → t = t')

theorem disjoint6 : ∀ t t' : Fin cfg0.N, (cfg0.win 6).flush t = true → (cfg0.win 6).flush t' = true → t ≠ t' →
    Disjoint ((cfg0.win 6).blk t).view.set ((cfg0.win 6).blk t').view.set :=
  fun t t' f f' hne => (cfg0.win 6).disjoint_blk fun h => hne (index6_ne t t' f f' h)

theorem emb7 (b : Fin 4) (j : Fin 9) (k : Fin 8) (d : Fin 1024) : ((cfg0.win 7).blk (pt b j)).view.emb (ix3 0 k d) = ix3 (tile b j) k d := by
  obtain ⟨h0, h1, h2⟩ := index7 b j
  funext a
  apply Fin.ext
  match a with
  | ⟨0, _⟩ => show win0_7.index (pt b j) (0 : Fin 3) * 1 + 1 * 0 = 9 * b.val + j.val; omega
  | ⟨1, _⟩ => show win0_7.index (pt b j) (1 : Fin 3) * 8 + 1 * k.val = k.val; omega
  | ⟨2, _⟩ => show win0_7.index (pt b j) (2 : Fin 3) * 1024 + 1 * d.val = d.val; omega

/-! ### The call's arrays -/

section

variable (m : (ℓ : Loc nD τ sig) → Buf (Elt Ideal) ℓ) (c : Dev nD)

theorem block_dz (b : Fin 4) (j : Fin 9) (r : Fin 256) (k : Fin 6912) : iblk m c 0 (pt b j) (ix2 r k) = m ((c : Thread nD τ).loc main_arg4) (ix2 (rowOf b j r) k) := by
  show V m c main_v0 (((cfg0.win 0).blk (pt b j)).view.emb (ix2 r k)) = _
  rw [emb0, V_dz]
  rfl

theorem block_w (b : Fin 4) (j : Fin 9) (k : Fin 6912) (d : Fin 1024) : iblk m c 1 (pt b j) (ix2 k d) = m ((c : Thread nD τ).loc main_arg3) (ix2 k d) := by
  show V m c main_v1 (((cfg0.win 1).blk (pt b j)).view.emb (ix2 k d)) = _
  rw [emb1, V_w]
  rfl

theorem block_x (b : Fin 4) (j : Fin 9) (r : Fin 256) (d : Fin 1024) : iblk m c 2 (pt b j) (ix2 r d) = m ((c : Thread nD τ).loc main_arg0) (ix2 (rowOf b j r) d) := by
  show V m c main_arg0 (((cfg0.win 2).blk (pt b j)).view.emb (ix2 r d)) = _
  rw [emb2, V_main_arg0]

theorem block_res (b : Fin 4) (j : Fin 9) (r : Fin 256) (d : Fin 1024) : iblk m c 3 (pt b j) (ix2 r d) = m ((c : Thread nD τ).loc main_arg5) (ix2 (rowOf b j r) d) := by
  show V m c main_arg5 (((cfg0.win 3).blk (pt b j)).view.emb (ix2 r d)) = _
  rw [emb3, V_main_arg5]

theorem block_mod (b : Fin 4) (j : Fin 9) (d : Fin 3072) : iblk m c 4 (pt b j) (ix3 0 0 d) = m ((c : Thread nD τ).loc main_arg1) (ix2 (modRow b j) d) := by
  show V m c main_v2 (((cfg0.win 4).blk (pt b j)).view.emb (ix3 0 0 d)) = _
  rw [emb4, V_mod]
  exact shapeCast_apply _ shapeCasts_S8x3072_S8x1x3072 (ix3 (modRow b j) 0 d) (ix2 (modRow b j) d)
    (by rewrite [Shape.rowMajor_val_two, Shape.rowMajor_val_three]; show (modRow b j).val * 3072 + d.val = ((modRow b j).val * 1 + 0) * 3072 + d.val; omega)

theorem block_g (b : Fin 4) (j : Fin 9) (d : Fin 1024) : iblk m c 5 (pt b j) (ix2 0 d) = m ((c : Thread nD τ).loc main_arg2) (ix2 0 d) := by
  show V m c main_arg2 (((cfg0.win 5).blk (pt b j)).view.emb (ix2 0 d)) = _
  rw [emb5, V_main_arg2]

theorem array_dx (b : Fin 4) (j : Fin 8) (r : Fin 256) (d : Fin 1024) :
    (dats m 0 c).arrAt 6 cfg0.N (ix2 (row b j r) d)
      = callDx (xRow (m ((c : Thread nD τ).loc main_arg0)) b ⟨1 + j.val, by omega⟩ r) (dhRow (m ((c : Thread nD τ).loc main_arg3)) (m ((c : Thread nD τ).loc main_arg4)) b ⟨1 + j.val, by omega⟩ r)
          (scRow (m ((c : Thread nD τ).loc main_arg1)) b ⟨1 + j.val, by omega⟩) (gRow (m ((c : Thread nD τ).loc main_arg2)))
          (m ((c : Thread nD τ).loc main_arg5) (ix2 (rowOf b ⟨1 + j.val, by omega⟩ r) d)) d := by
  refine (congrArg ((dats m 0 c).arrAt 6 cfg0.N) (emb6 b j r d).symm).trans ?_
  refine (congrFun ((dats m 0 c).read_blk_arrAt_eq_flushed 6 disjoint6 cfg0.N (late b j) (late b j).isLt (flush6 b j)) _).trans ?_
  rw [Value.flushed6_A, out_6]
  refine (DxArrays.dx_apply _ _ _ _ _ _ r d).trans ?_
  unfold late
  simp only [block_dz, block_w, block_x, block_res, block_mod, block_g]

theorem array_st (b : Fin 4) (j : Fin 9) (k : Fin 8) (d : Fin 1024) :
    (dats m 0 c).arrAt 7 cfg0.N (ix3 (tile b j) k d)
      = sums (xRow (m ((c : Thread nD τ).loc main_arg0)) b j) (dhRow (m ((c : Thread nD τ).loc main_arg3)) (m ((c : Thread nD τ).loc main_arg4)) b j)
          (scRow (m ((c : Thread nD τ).loc main_arg1)) b j) (gRow (m ((c : Thread nD τ).loc main_arg2))) k d := by
  rw [← emb7]
  refine (congrFun (Value.blocks7 m c (pt b j) (flush0_7 _)) _).trans ?_
  rw [Value.flushed7_A]
  refine (out_7 _ _ _ _ _ _ c _ _ _ _ _ _ _ _ _ _ _ _ _ _ _ _ _ k d).trans ?_
  simp only [block_dz, block_w, block_x, block_mod, block_g]

end

/-! ### The arrays are equal -/

section

open LatentReferenceIdeal.Read

variable (x0 : FVec Ideal LatentReferenceIdeal.S9216x1024 .f32) (x1 : FVec Ideal LatentReferenceIdeal.S8x3072 .f32) (x2 : FVec Ideal LatentReferenceIdeal.S1x1024 .f32)
  (x3 : FVec Ideal LatentReferenceIdeal.S6912x1024 .f32) (x4 : FVec Ideal LatentReferenceIdeal.S9216x6912 .f32) (x5 : FVec Ideal LatentReferenceIdeal.S9216x1024 .f32)

/-- The reference's rows are rows of the second layer's reference. -/
theorem ref_row (b : Fin 4) (j : Fin 8) (r : Fin 256) (d : Fin 1024) :
    val_main_v71 (F := Ideal) x0 x1 x2 x3 x4 x5 (ix2 (row b j r) d)
      = DxReferenceIdeal.Read.val_main_v66 (F := Ideal) x0 x1 x2 x3 x4 x5 (ix2 (rowOf b ⟨1 + j.val, by omega⟩ r) d) := by
  rw [val_main_v71_apply, val_main_v70_apply, val_main_v69_apply]
  refine (congrArg (val_main_v66 (F := Ideal) x0 x1 x2 x3 x4 x5) ?_ : _ = val_main_v66 (F := Ideal) x0 x1 x2 x3 x4 x5 (ix2 (rowOf b ⟨1 + j.val, by omega⟩ r) d))
  funext a
  apply Fin.ext
  have e0 : ((256 * (8 * b.val + j.val) + r.val) * 1024 + d.val) / 2097152 = b.val := by omega
  have e1 : ((256 * (8 * b.val + j.val) + r.val) * 1024 + d.val) / 262144 % 8 = j.val := by omega
  have e2 : ((256 * (8 * b.val + j.val) + r.val) * 1024 + d.val) / 1024 % 256 = r.val := by omega
  have e3 : ((256 * (8 * b.val + j.val) + r.val) * 1024 + d.val) % 1024 = d.val := by omega
  match a with
  | ⟨0, _⟩ =>
    show (((((256 * (8 * b.val + j.val) + r.val) * 1024 + d.val) / 2097152 * 9 + (1 + ((256 * (8 * b.val + j.val) + r.val) * 1024 + d.val) / 262144 % 8)) * 256
      + ((256 * (8 * b.val + j.val) + r.val) * 1024 + d.val) / 1024 % 256) * 1024 + ((256 * (8 * b.val + j.val) + r.val) * 1024 + d.val) % 1024) / 1024
      = 256 * (9 * b.val + (1 + j.val)) + r.val
    rw [e0, e1, e2, e3]; omega
  | ⟨1, _⟩ =>
    show (((((256 * (8 * b.val + j.val) + r.val) * 1024 + d.val) / 2097152 * 9 + (1 + ((256 * (8 * b.val + j.val) + r.val) * 1024 + d.val) / 262144 % 8)) * 256
      + ((256 * (8 * b.val + j.val) + r.val) * 1024 + d.val) / 1024 % 256) * 1024 + ((256 * (8 * b.val + j.val) + r.val) * 1024 + d.val) % 1024) % 1024
      = d.val
    rw [e0, e1, e2, e3]; omega

end

section

variable (m : (ℓ : Loc nD τ sig) → Buf (Elt Ideal) ℓ) (c : Dev nD)

theorem equal_dx (hx : ∀ i, m ((c : Thread nD τ).loc main_arg0) i = ((m ((c : Thread nD τ).loc main_arg0) i : EReal).toReal : EReal))
    (hm : ∀ i, m ((c : Thread nD τ).loc main_arg1) i = ((m ((c : Thread nD τ).loc main_arg1) i : EReal).toReal : EReal))
    (hg : ∀ i, m ((c : Thread nD τ).loc main_arg2) i = ((m ((c : Thread nD τ).loc main_arg2) i : EReal).toReal : EReal))
    (hw : ∀ i, m ((c : Thread nD τ).loc main_arg3) i = ((m ((c : Thread nD τ).loc main_arg3) i : EReal).toReal : EReal))
    (hz : ∀ i, m ((c : Thread nD τ).loc main_arg4) i = ((m ((c : Thread nD τ).loc main_arg4) i : EReal).toReal : EReal)) :
    (dats m 0 c).arrAt 6 cfg0.N = LatentReferenceIdeal.Read.val_main_v71 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  funext y
  have h0 : (y 0).val < 8192 := (y 0).isLt
  have h1 : (y 1).val < 1024 := (y 1).isLt
  have e : y = ix2 (row ⟨(y 0).val / 2048, by omega⟩ ⟨(y 0).val / 256 % 8, by omega⟩ ⟨(y 0).val % 256, by omega⟩) ⟨(y 1).val, h1⟩ := by
    funext a
    apply Fin.ext
    match a with
    | ⟨0, _⟩ => show (y 0).val = 256 * (8 * ((y 0).val / 2048) + (y 0).val / 256 % 8) + (y 0).val % 256; omega
    | ⟨1, _⟩ => rfl
  rw [e]
  exact (array_dx m c _ _ _ _).trans ((DxValue.rows _ _ _ _ _ hx hm hg hw hz _ _ _ _ _).trans
    ((DxValue.ref_dx _ _ _ _ _ _ _ _ _ _).symm.trans (ref_row _ _ _ _ _ _ _ _ _ _).symm))

theorem equal_st :
    (dats m 0 c).arrAt 7 cfg0.N = LatentReferenceIdeal.Read.val_main_v68 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  funext y
  have h0 : (y 0).val < 36 := (y 0).isLt
  have h1 : (y 1).val < 8 := (y 1).isLt
  have h2 : (y 2).val < 1024 := (y 2).isLt
  have e : y = ix3 (tile ⟨(y 0).val / 9, by omega⟩ ⟨(y 0).val % 9, by omega⟩) ⟨(y 1).val, h1⟩ ⟨(y 2).val, h2⟩ := by
    funext a
    apply Fin.ext
    match a with
    | ⟨0, _⟩ => show (y 0).val = 9 * ((y 0).val / 9) + (y 0).val % 9; omega
    | ⟨1, _⟩ => rfl
    | ⟨2, _⟩ => rfl
  rw [e]
  exact (array_st m c _ _ _ _).trans (DxValue.ref_st _ _ _ _ _ _ _ _ _).symm

end

theorem algebraic : Cert.algebraic_LatentIdeal_LatentReferenceIdeal_pre_finite_dx (hLatentIdeal := Cert.LatentIdeal.Gen.facts)
    (hLatentReferenceIdeal := Cert.LatentReferenceIdeal.Gen.facts) (hPre_finite_dx := Cert.Pre_finite_dx.Gen.facts) := by
  intro m g m' g' hpre hag
  refine ⟨fun c => (LatentIdeal.Gen.dats m 0 c).arrAt 6 LatentIdeal.cfg0.N, fun c => (LatentIdeal.Gen.dats m 0 c).arrAt 7 LatentIdeal.cfg0.N,
    LatentIdeal.Value.run_blocks m g, ?_⟩
  refine (θ_run LatentReferenceIdeal.defs _ _).mono (fun r h c => ?_) (LatentReferenceIdeal.Value.run m' g')
  obtain ⟨h0, h1, k⟩ := h c
  obtain ⟨a0, a1, a2, a3, a4, a5⟩ := hag c
  obtain ⟨f0, f1, f2, f3, f4⟩ := hpre c
  rw [LatentReferenceIdeal.Read.val_main_v71_eq, a0, a1, a2, a3, a4, a5] at h0
  rw [LatentReferenceIdeal.Read.val_main_v68_eq, a0, a1, a2, a3, a4] at h1
  exact ⟨h0.trans (equal_dx m c (real_of_finite _ _ f0) (real_of_finite _ _ f1) (real_of_finite _ _ f2) (real_of_finite _ _ f3)
    (real_of_finite _ _ f4)).symm, h1.trans (equal_st m c).symm, k⟩

theorem reference : Cert.quiescent_LatentReferenceIdeal (hLatentReferenceIdeal := Cert.LatentReferenceIdeal.Gen.facts) := fun m ρ _ =>
  (θ_run LatentReferenceIdeal.defs _ _).mono (fun r h => ⟨fun c => (h c).2.2, sem_eq_zero_of_no_sems (by decide) r.2⟩) (LatentReferenceIdeal.Value.run m ρ)

end Cert.LatentClaim

end
-- ==== Proof.MergeRow.lean ====
/- One row of the merge: the branches' outputs gated, projected and mixed, the output projection, and its norm. -/
module

public import proofs.«01_k».proof.Proof.Reals

@[expose] public section

noncomputable section

namespace Cert.MergeRow

open Idealize.ShloMosaic Cert.Reals

/-- What one row of the merge is made from. -/
structure Row where
  zm : Fin 3072 → EReal
  za : Fin 512 → EReal
  zg : Fin 512 → EReal
  om : Fin 512 → EReal
  yp : Fin 512 → EReal
  o : Fin 512 → EReal
  gn : Fin 128 → EReal
  wm : Fin 512 → Fin 1024 → EReal
  wp : Fin 512 → Fin 1024 → EReal
  wg : Fin 512 → Fin 1024 → EReal
  wo : Fin 1024 → Fin 1024 → EReal

/-- A lane of a head, and a lane's head and place. -/
abbrev lane (h : Fin 4) (v : Fin 128) : Fin 512 := ⟨128 * h.val + v.val, by omega⟩
abbrev headOf (e : Fin 512) : Fin 4 := ⟨e.val / 128, by omega⟩
abbrev placeOf (e : Fin 512) : Fin 128 := ⟨e.val % 128, by omega⟩

/-- The factor of a head's norm. -/
def inv (o : Fin 512 → EReal) (h : Fin 4) : EReal :=
  Ideal.rsqrt (Ideal.div (∑ v : Fin 128, o (lane h v) * o (lane h v)) (Ideal.ofBits FTy.f32 1124073472#32) + Ideal.ofBits FTy.f32 897988541#32)

/-- The factor of a row's norm. -/
def inv' (x : Fin 1024 → EReal) : EReal :=
  Ideal.rsqrt (Ideal.div (∑ e, x e * x e) (Ideal.ofBits FTy.f32 1149239296#32) + Ideal.ofBits FTy.f32 897988541#32)

def silu (x : EReal) : EReal := x * Ideal.logistic x

/-- A head's lanes normed. -/
def normedOf (o : Fin 512 → EReal) (e : Fin 512) : EReal := o e * inv o (headOf e)

theorem lane_eq (e : Fin 512) : lane (headOf e) (placeOf e) = e := Fin.ext (by show 128 * (e.val / 128) + e.val % 128 = e.val; omega)

/-- Four blocks of lanes side by side. -/
theorem four {α : Type} (f : Fin 4 → Fin 128 → α) (f0 : Fin 128 → α) (h0 : ∀ v, f0 v = f 0 v) (x : Fin 512) :
    (if h : x.val < 128 then f0 ⟨x.val, h⟩ else if h : x.val - 128 < 128 then f 1 ⟨x.val - 128, h⟩
      else if h : x.val - 128 - 128 < 128 then f 2 ⟨x.val - 128 - 128, h⟩ else f 3 ⟨x.val - 128 - 128 - 128, by omega⟩) = f (headOf x) (placeOf x) := by
  have key : ∀ (h : Fin 4) (v : Fin 128), x.val = 128 * h.val + v.val → f h v = f (headOf x) (placeOf x) := fun h v e =>
    congrArg₂ f (Fin.ext (by show h.val = x.val / 128; omega)) (Fin.ext (by show v.val = x.val % 128; omega))
  split
  · exact (h0 _).trans (key 0 _ (by show x.val = 128 * 0 + x.val; omega))
  split
  · exact key 1 _ (by show x.val = 128 * 1 + (x.val - 128); omega)
  split
  · exact key 2 _ (by show x.val = 128 * 2 + (x.val - 128 - 128); omega)
  · exact key 3 _ (by show x.val = 128 * 3 + (x.val - 128 - 128 - 128); omega)

theorem fourNormed (o : Fin 512 → EReal) (gn : Fin 128 → EReal) (x : Fin 512) :
    (if h : x.val < 128 then
        o ⟨x.val, by omega⟩ * Ideal.rsqrt (Ideal.div (∑ v : Fin 128, o ⟨v.val, by omega⟩ * o ⟨v.val, by omega⟩) (Ideal.ofBits FTy.f32 1124073472#32) + Ideal.ofBits FTy.f32 897988541#32)
          * gn ⟨x.val, h⟩
      else if h : x.val - 128 < 128 then
        o ⟨128 + (x.val - 128), by omega⟩ * Ideal.rsqrt (Ideal.div (∑ v : Fin 128, o ⟨128 + v.val, by omega⟩ * o ⟨128 + v.val, by omega⟩) (Ideal.ofBits FTy.f32 1124073472#32) + Ideal.ofBits FTy.f32 897988541#32)
          * gn ⟨x.val - 128, h⟩
      else if h : x.val - 128 - 128 < 128 then
        o ⟨256 + (x.val - 128 - 128), by omega⟩ * Ideal.rsqrt (Ideal.div (∑ v : Fin 128, o ⟨256 + v.val, by omega⟩ * o ⟨256 + v.val, by omega⟩) (Ideal.ofBits FTy.f32 1124073472#32) + Ideal.ofBits FTy.f32 897988541#32)
          * gn ⟨x.val - 128 - 128, h⟩
      else
        o ⟨384 + (x.val - 128 - 128 - 128), by omega⟩ * Ideal.rsqrt (Ideal.div (∑ v : Fin 128, o ⟨384 + v.val, by omega⟩ * o ⟨384 + v.val, by omega⟩) (Ideal.ofBits FTy.f32 1124073472#32) + Ideal.ofBits FTy.f32 897988541#32)
          * gn ⟨x.val - 128 - 128 - 128, by omega⟩) = normedOf o x * gn (placeOf x) := by
  refine (four (fun h v => o (lane h v) * inv o h * gn v)
    (fun v => o ⟨v.val, by omega⟩ * Ideal.rsqrt (Ideal.div (∑ v : Fin 128, o ⟨v.val, by omega⟩ * o ⟨v.val, by omega⟩) (Ideal.ofBits FTy.f32 1124073472#32) + Ideal.ofBits FTy.f32 897988541#32) * gn v)
    (fun v => ?_) x).trans ?_
  · have e : ∀ w : Fin 128, (⟨w.val, by omega⟩ : Fin 512) = lane 0 w := fun w => Fin.ext (by show w.val = 128 * 0 + w.val; omega)
    unfold inv
    simp only [e]
  · show o (lane (headOf x) (placeOf x)) * inv o (headOf x) * gn (placeOf x) = _
    rw [lane_eq]; rfl

namespace Row

variable (R : Row)

def ym (e : Fin 512) : EReal := R.om e * silu (R.za e)

abbrev normed (e : Fin 512) : EReal := normedOf R.o e

def yg (e : Fin 512) : EReal := R.normed e * R.gn (placeOf e) * silu (R.zg e)

/-- The three gates of a column. -/
abbrev gm (d : Fin 1024) : EReal := Ideal.logistic (R.zm ⟨d.val, by omega⟩)
abbrev gp (d : Fin 1024) : EReal := Ideal.logistic (R.zm ⟨1024 + d.val, by omega⟩)
abbrev gg (d : Fin 1024) : EReal := Ideal.logistic (R.zm ⟨2048 + d.val, by omega⟩)

def pm (d : Fin 1024) : EReal := ∑ e, R.ym e * R.wm e d
def pp (d : Fin 1024) : EReal := ∑ e, R.yp e * R.wp e d
def pg (d : Fin 1024) : EReal := ∑ e, R.yg e * R.wg e d

def mix (d : Fin 1024) : EReal := R.gm d * R.pm d + R.gp d * R.pp d + R.gg d * R.pg d

def out (d : Fin 1024) : EReal := ∑ e, R.mix e * R.wo e d

end Row

/-- The residual with the gated, normed branch added. -/
def xnOf (x gate o r g : EReal) : EReal := x + gate * (o * r * g)

/-- One row of the merge's arrays. -/
def rowA (x0 : FVec Ideal ⟨2, ![9216, 6912]⟩ .f32) (x1 x2 x3 x4 : FVec Ideal ⟨2, ![9216, 512]⟩ .f32) (x5 : FVec Ideal ⟨2, ![1, 128]⟩ .f32)
    (x6 x7 x8 : FVec Ideal ⟨2, ![512, 1024]⟩ .f32) (x9 : FVec Ideal ⟨2, ![1024, 1024]⟩ .f32) (n : Fin 9216) : Row where
  zm := fun k => x0 (ix2 n ⟨k.val, by omega⟩)
  za := fun e => x0 (ix2 n ⟨3072 + e.val, by omega⟩)
  zg := fun e => x0 (ix2 n ⟨5632 + e.val, by omega⟩)
  om := fun e => x1 (ix2 n e)
  yp := fun e => x2 (ix2 n e)
  o := fun e => (x3 (ix2 n e) : EReal) + x4 (ix2 n e)
  gn := fun v => x5 (ix2 0 v)
  wm := fun e d => x6 (ix2 e d)
  wp := fun e d => x7 (ix2 e d)
  wg := fun e d => x8 (ix2 e d)
  wo := fun e d => x9 (ix2 e d)

end Cert.MergeRow

end
-- ==== Proof.MergeArrays.lean ====
/- The merge's call: the rows its body stores, the places of its blocks, and its two arrays row by row. -/
module

public import proofs.«01_k».proof.Proof.Gen.MergeIdeal.Value
public import proofs.«01_k».proof.Proof.MergeRow
public import proofs.«01_k».proof.Proof.NormClaim
public import Idealize.ShloMosaic.Lib.Quiescent

@[expose] public section

set_option maxRecDepth 16384

noncomputable section

namespace Cert.MergeArrays

open Cert.MergeIdeal Cert.MergeIdeal.Gen Idealize.ShloMosaic Idealize.ShloMosaic.TcCoe Idealize.SL.Sem Cert.Reals Cert.MergeRow
open Cert.NormClaim (modRow tile rowOf)

theorem hz2 : (![0, 0] : Fin 2 → Nat) = fun _ => 0 := funext fun a => by fin_cases a <;> rfl
theorem hz3 : (![0, 0, 0] : Fin 3 → Nat) = fun _ => 0 := funext fun a => by fin_cases a <;> rfl

section

variable {F : FTy → Type} [FloatOps F] (m : (ℓ : Loc nD τ sig) → Buf (Elt F) ℓ) (c : Dev nD)

theorem V_0 : V m c main_v0 = truncf .bf16 (m ((c : Thread nD τ).loc main_arg2)) bitsLt_bf16_f32 := by
  show StableHlo.after hostOps0 (fun b => m (c, b)) (Proc.devRef .tc main_v0) = _
  simp only [hostOps0]
  after_results_simp

theorem V_1 : V m c main_v1 = truncf .bf16 (m ((c : Thread nD τ).loc main_arg6)) bitsLt_bf16_f32 := by
  show StableHlo.after hostOps0 (fun b => m (c, b)) (Proc.devRef .tc main_v1) = _
  simp only [hostOps0]
  after_results_simp

theorem V_2 : V m c main_v2 = truncf .bf16 (m ((c : Thread nD τ).loc main_arg7)) bitsLt_bf16_f32 := by
  show StableHlo.after hostOps0 (fun b => m (c, b)) (Proc.devRef .tc main_v2) = _
  simp only [hostOps0]
  after_results_simp

theorem V_3 : V m c main_v3 = truncf .bf16 (m ((c : Thread nD τ).loc main_arg8)) bitsLt_bf16_f32 := by
  show StableHlo.after hostOps0 (fun b => m (c, b)) (Proc.devRef .tc main_v3) = _
  simp only [hostOps0]
  after_results_simp

theorem V_4 : V m c main_v4 = truncf .bf16 (m ((c : Thread nD τ).loc main_arg9)) bitsLt_bf16_f32 := by
  show StableHlo.after hostOps0 (fun b => m (c, b)) (Proc.devRef .tc main_v4) = _
  simp only [hostOps0]
  after_results_simp

theorem V_mod : V m c main_v5 = shapeCast S8x1x3072 (m ((c : Thread nD τ).loc main_arg10)) shapeCasts_S8x3072_S8x1x3072 := by
  show StableHlo.after hostOps0 (fun b => m (c, b)) (Proc.devRef .tc main_v5) = _
  simp only [hostOps0]
  after_results_simp
  rfl

/-! ### What the body stores -/

theorem out_15 (i : grid0.Coords) (arg1 : Memref sig .tc .vmem S256x3072 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1x1x3072 .f32) (harg12 : arg12.IsWhole) (arg13 : Memref sig .tc .vmem S1x1024 .f32) (harg13 : arg13.IsWhole) (arg14 : Memref sig .tc .vmem S256x1024 .f32) (harg14 : arg14.IsWhole) (arg15 : Memref sig .tc .vmem S1024x1024 .bf16) (harg15 : arg15.IsWhole) (arg16 : Memref sig .tc .vmem S256x1024 .f32) (harg16 : arg16.IsWhole) (arg17 : Memref sig .tc .vmem S256x1024 .f32) (harg17 : arg17.IsWhole)
    (x0 : Vec F S256x3072 .f32) (x1 : Vec F S256x512 .f32) (x2 : Vec F S256x512 .f32) (x3 : Vec F S256x512 .f32) (x4 : Vec F S256x512 .bf16) (x5 : Vec F S256x512 .f32) (x6 : Vec F S256x512 .f32) (x7 : Vec F S1x128 .f32) (x8 : Vec F S512x1024 .bf16) (x9 : Vec F S512x1024 .bf16) (x10 : Vec F S512x1024 .bf16) (x11 : Vec F S1x1x3072 .f32) (x12 : Vec F S1x1024 .f32) (x13 : Vec F S256x1024 .f32) (x14 : Vec F S1024x1024 .bf16) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14
      = k0_pay2 (k0_pay9 (k0_pay3 x1 x3) x8) (k0_pay10 x4 x9) (k0_pay11 x2 (k0_pay4 x5 x6) (k0_pay5 x5 x6) (k0_pay6 x5 x6) (k0_pay7 x5 x6) (k0_pay8 x5 x6) x7 x10) x0 (k0_pay12 x0) x14 x11 x13 x12 := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14)]
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rw [View.canon_unit_zero (by decide)]
  simp only [View.ld_unit_zero (S := S256x3072) hz2, View.ld_unit_zero (S := S256x512) hz2, View.ld_unit_zero (S := S1x128) hz2, View.ld_unit_zero (S := S512x1024) hz2, View.ld_unit_zero (S := S1x1x3072) hz3, View.ld_unit_zero (S := S1x1024) hz2, View.ld_unit_zero (S := S256x1024) hz2, View.ld_unit_zero (S := S1024x1024) hz2]

theorem out_16 (i : grid0.Coords) (arg1 : Memref sig .tc .vmem S256x3072 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1x1x3072 .f32) (harg12 : arg12.IsWhole) (arg13 : Memref sig .tc .vmem S1x1024 .f32) (harg13 : arg13.IsWhole) (arg14 : Memref sig .tc .vmem S256x1024 .f32) (harg14 : arg14.IsWhole) (arg15 : Memref sig .tc .vmem S1024x1024 .bf16) (harg15 : arg15.IsWhole) (arg16 : Memref sig .tc .vmem S256x1024 .f32) (harg16 : arg16.IsWhole) (arg17 : Memref sig .tc .vmem S256x1024 .f32) (harg17 : arg17.IsWhole)
    (x0 : Vec F S256x3072 .f32) (x1 : Vec F S256x512 .f32) (x2 : Vec F S256x512 .f32) (x3 : Vec F S256x512 .f32) (x4 : Vec F S256x512 .bf16) (x5 : Vec F S256x512 .f32) (x6 : Vec F S256x512 .f32) (x7 : Vec F S1x128 .f32) (x8 : Vec F S512x1024 .bf16) (x9 : Vec F S512x1024 .bf16) (x10 : Vec F S512x1024 .bf16) (x11 : Vec F S1x1x3072 .f32) (x12 : Vec F S1x1024 .f32) (x13 : Vec F S256x1024 .f32) (x14 : Vec F S1024x1024 .bf16) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14
      = k0_pay1 (k0_pay9 (k0_pay3 x1 x3) x8) (k0_pay10 x4 x9) (k0_pay11 x2 (k0_pay4 x5 x6) (k0_pay5 x5 x6) (k0_pay6 x5 x6) (k0_pay7 x5 x6) (k0_pay8 x5 x6) x7 x10) x0 (k0_pay12 x0) x14 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14)]
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rw [View.canon_unit_zero (by decide)]
  simp only [View.ld_unit_zero (S := S256x3072) hz2, View.ld_unit_zero (S := S256x512) hz2, View.ld_unit_zero (S := S1x128) hz2, View.ld_unit_zero (S := S512x1024) hz2, View.ld_unit_zero (S := S1x1x3072) hz3, View.ld_unit_zero (S := S1x1024) hz2, View.ld_unit_zero (S := S256x1024) hz2, View.ld_unit_zero (S := S1024x1024) hz2]

end

/-! ### The stored rows -/

section

variable (x0 : Vec Ideal S256x3072 .f32) (x1 : Vec Ideal S256x512 .f32) (x2 : Vec Ideal S256x512 .f32) (x3 : Vec Ideal S256x512 .f32) (x4 : Vec Ideal S256x512 .bf16) (x5 : Vec Ideal S256x512 .f32) (x6 : Vec Ideal S256x512 .f32) (x7 : Vec Ideal S1x128 .f32) (x8 : Vec Ideal S512x1024 .bf16) (x9 : Vec Ideal S512x1024 .bf16) (x10 : Vec Ideal S512x1024 .bf16) (x11 : Vec Ideal S1x1x3072 .f32) (x12 : Vec Ideal S1x1024 .f32) (x13 : Vec Ideal S256x1024 .f32) (x14 : Vec Ideal S1024x1024 .bf16)

/-- One row of the blocks. -/
def rowB (n : Fin 256) : Row where
  zm := fun k => x0 (ix2 n k)
  za := fun e => x1 (ix2 n e)
  zg := fun e => x2 (ix2 n e)
  om := fun e => x3 (ix2 n e)
  yp := fun e => x4 (ix2 n e)
  o := fun e => (x5 (ix2 n e) : EReal) + x6 (ix2 n e)
  gn := fun v => x7 (ix2 0 v)
  wm := fun e d => x8 (ix2 e d)
  wp := fun e d => x9 (ix2 e d)
  wg := fun e d => x10 (ix2 e d)
  wo := fun e d => x14 (ix2 e d)

theorem ym_apply (n : Fin 256) (e : Fin 512) : (k0_pay3 x1 x3 (ix2 n e) : EReal) = x3 (ix2 n e) * silu (x1 (ix2 n e)) := by
  pointwise [k0_pay3, silu]

theorem pm_apply (n : Fin 256) (d : Fin 1024) : (k0_pay9 (k0_pay3 x1 x3) x8 (ix2 n d) : EReal) = ∑ e : Fin 512, x3 (ix2 n e) * silu (x1 (ix2 n e)) * x8 (ix2 e d) := by
  pointwise [k0_pay9, k0_pay3, silu, dot_S256x512_S512x1024_S256x1024_1_0_0_1_n_n]

theorem pp_apply (n : Fin 256) (d : Fin 1024) : (k0_pay10 x4 x9 (ix2 n d) : EReal) = ∑ e : Fin 512, (x4 (ix2 n e) : EReal) * x9 (ix2 e d) := by
  pointwise [k0_pay10, dot_S256x512_S512x1024_S256x1024_1_0_0_1_n_n]

theorem pg_apply (n : Fin 256) (d : Fin 1024) :
    (k0_pay11 x2 (k0_pay4 x5 x6) (k0_pay5 x5 x6) (k0_pay6 x5 x6) (k0_pay7 x5 x6) (k0_pay8 x5 x6) x7 x10 (ix2 n d) : EReal)
      = ∑ e : Fin 512, normedOf (fun e => (x5 (ix2 n e) : EReal) + x6 (ix2 n e)) e * x7 (ix2 0 (placeOf e)) * silu (x2 (ix2 n e)) * x10 (ix2 e d) := by
  pointwise [k0_pay11, k0_pay4, k0_pay5, k0_pay6, k0_pay7, k0_pay8, silu, dot_S256x512_S512x1024_S256x1024_1_0_0_1_n_n]
  refine Finset.sum_congr rfl fun e _ => congrArg (· * _) (congrArg (· * _) ?_)
  exact fourNormed (fun e => (x5 (ix2 n e) : EReal) + x6 (ix2 n e)) (fun v => x7 (ix2 0 v)) e

theorem out_apply (n : Fin 256) (d : Fin 1024) : (k0_pay1 (k0_pay9 (k0_pay3 x1 x3) x8) (k0_pay10 x4 x9) (k0_pay11 x2 (k0_pay4 x5 x6) (k0_pay5 x5 x6) (k0_pay6 x5 x6) (k0_pay7 x5 x6) (k0_pay8 x5 x6) x7 x10) x0 (k0_pay12 x0) x14 (ix2 n d) : EReal) = (rowB x0 x1 x2 x3 x4 x5 x6 x7 x8 x9 x10 x14 n).out d := by
  pointwise [k0_pay1, k0_pay12, dot_S256x1024_S1024x1024_S256x1024_1_0_0_1_n_n]
  simp only [pm_apply, pp_apply, pg_apply]
  rfl

theorem xn_apply (n : Fin 256) (d : Fin 1024) : (k0_pay2 (k0_pay9 (k0_pay3 x1 x3) x8) (k0_pay10 x4 x9) (k0_pay11 x2 (k0_pay4 x5 x6) (k0_pay5 x5 x6) (k0_pay6 x5 x6) (k0_pay7 x5 x6) (k0_pay8 x5 x6) x7 x10) x0 (k0_pay12 x0) x14 x11 x13 x12 (ix2 n d) : EReal)
    = x13 (ix2 n d) + x11 (ix3 0 0 ⟨2048 + d.val, by omega⟩) * ((rowB x0 x1 x2 x3 x4 x5 x6 x7 x8 x9 x10 x14 n).out d * inv' (rowB x0 x1 x2 x3 x4 x5 x6 x7 x8 x9 x10 x14 n).out * x12 (ix2 0 d)) := by
  pointwise [k0_pay2]
  simp only [out_apply x0 x1 x2 x3 x4 x5 x6 x7 x8 x9 x10 x14]
  rfl

end

/-! ### The blocks' places -/

/-- The grid point of a tile. -/
def pt (b : Fin 4) (j : Fin 9) : Fin cfg0.N := ⟨9 * b.val + j.val, by have h : cfg0.N = 36 := N_0; omega⟩

theorem index0 : ∀ (b : Fin 4) (j : Fin 9), win0_0.index (pt b j) (0 : Fin 2) = 9 * b.val + j.val ∧ win0_0.index (pt b j) (1 : Fin 2) = 0 := by decide +kernel
theorem index1 : ∀ (b : Fin 4) (j : Fin 9), win0_1.index (pt b j) (0 : Fin 2) = 9 * b.val + j.val ∧ win0_1.index (pt b j) (1 : Fin 2) = 6 := by decide +kernel
theorem index2 : ∀ (b : Fin 4) (j : Fin 9), win0_2.index (pt b j) (0 : Fin 2) = 9 * b.val + j.val ∧ win0_2.index (pt b j) (1 : Fin 2) = 11 := by decide +kernel
theorem index3 : ∀ (b : Fin 4) (j : Fin 9), win0_3.index (pt b j) (0 : Fin 2) = 9 * b.val + j.val ∧ win0_3.index (pt b j) (1 : Fin 2) = 0 := by decide +kernel
theorem index4 : ∀ (b : Fin 4) (j : Fin 9), win0_4.index (pt b j) (0 : Fin 2) = 9 * b.val + j.val ∧ win0_4.index (pt b j) (1 : Fin 2) = 0 := by decide +kernel
theorem index5 : ∀ (b : Fin 4) (j : Fin 9), win0_5.index (pt b j) (0 : Fin 2) = 9 * b.val + j.val ∧ win0_5.index (pt b j) (1 : Fin 2) = 0 := by decide +kernel
theorem index6 : ∀ (b : Fin 4) (j : Fin 9), win0_6.index (pt b j) (0 : Fin 2) = 9 * b.val + j.val ∧ win0_6.index (pt b j) (1 : Fin 2) = 0 := by decide +kernel
theorem index7 : ∀ (b : Fin 4) (j : Fin 9), win0_7.index (pt b j) (0 : Fin 2) = 0 ∧ win0_7.index (pt b j) (1 : Fin 2) = 0 := by decide +kernel
theorem index8 : ∀ (b : Fin 4) (j : Fin 9), win0_8.index (pt b j) (0 : Fin 2) = 0 ∧ win0_8.index (pt b j) (1 : Fin 2) = 0 := by decide +kernel
theorem index9 : ∀ (b : Fin 4) (j : Fin 9), win0_9.index (pt b j) (0 : Fin 2) = 0 ∧ win0_9.index (pt b j) (1 : Fin 2) = 0 := by decide +kernel
theorem index10 : ∀ (b : Fin 4) (j : Fin 9), win0_10.index (pt b j) (0 : Fin 2) = 0 ∧ win0_10.index (pt b j) (1 : Fin 2) = 0 := by decide +kernel
theorem index11 : ∀ (b : Fin 4) (j : Fin 9), win0_11.index (pt b j) (0 : Fin 3) = (modRow b j).val ∧ win0_11.index (pt b j) (1 : Fin 3) = 0 ∧ win0_11.index (pt b j) (2 : Fin 3) = 0 := by decide +kernel
theorem index12 : ∀ (b : Fin 4) (j : Fin 9), win0_12.index (pt b j) (0 : Fin 2) = 0 ∧ win0_12.index (pt b j) (1 : Fin 2) = 0 := by decide +kernel
theorem index13 : ∀ (b : Fin 4) (j : Fin 9), win0_13.index (pt b j) (0 : Fin 2) = 9 * b.val + j.val ∧ win0_13.index (pt b j) (1 : Fin 2) = 0 := by decide +kernel
theorem index14 : ∀ (b : Fin 4) (j : Fin 9), win0_14.index (pt b j) (0 : Fin 2) = 0 ∧ win0_14.index (pt b j) (1 : Fin 2) = 0 := by decide +kernel
theorem index15 : ∀ (b : Fin 4) (j : Fin 9), win0_15.index (pt b j) (0 : Fin 2) = 9 * b.val + j.val ∧ win0_15.index (pt b j) (1 : Fin 2) = 0 := by decide +kernel
theorem index16 : ∀ (b : Fin 4) (j : Fin 9), win0_16.index (pt b j) (0 : Fin 2) = 9 * b.val + j.val ∧ win0_16.index (pt b j) (1 : Fin 2) = 0 := by decide +kernel

theorem emb3 (b : Fin 4) (j : Fin 9) (r : Fin 256) (d : Fin 512) : ((cfg0.win 3).blk (pt b j)).view.emb (ix2 r d) = ix2 (rowOf b j r) d := by
  obtain ⟨h0, h1⟩ := index3 b j
  funext a
  apply Fin.ext
  match a with
  | ⟨0, _⟩ => show win0_3.index (pt b j) (0 : Fin 2) * 256 + 1 * r.val = 256 * (9 * b.val + j.val) + r.val; omega
  | ⟨1, _⟩ => show win0_3.index (pt b j) (1 : Fin 2) * 512 + 1 * d.val = d.val; omega

theorem emb4 (b : Fin 4) (j : Fin 9) (r : Fin 256) (d : Fin 512) : ((cfg0.win 4).blk (pt b j)).view.emb (ix2 r d) = ix2 (rowOf b j r) d := by
  obtain ⟨h0, h1⟩ := index4 b j
  funext a
  apply Fin.ext
  match a with
  | ⟨0, _⟩ => show win0_4.index (pt b j) (0 : Fin 2) * 256 + 1 * r.val = 256 * (9 * b.val + j.val) + r.val; omega
  | ⟨1, _⟩ => show win0_4.index (pt b j) (1 : Fin 2) * 512 + 1 * d.val = d.val; omega

theorem emb5 (b : Fin 4) (j : Fin 9) (r : Fin 256) (d : Fin 512) : ((cfg0.win 5).blk (pt b j)).view.emb (ix2 r d) = ix2 (rowOf b j r) d := by
  obtain ⟨h0, h1⟩ := index5 b j
  funext a
  apply Fin.ext
  match a with
  | ⟨0, _⟩ => show win0_5.index (pt b j) (0 : Fin 2) * 256 + 1 * r.val = 256 * (9 * b.val + j.val) + r.val; omega
  | ⟨1, _⟩ => show win0_5.index (pt b j) (1 : Fin 2) * 512 + 1 * d.val = d.val; omega

theorem emb6 (b : Fin 4) (j : Fin 9) (r : Fin 256) (d : Fin 512) : ((cfg0.win 6).blk (pt b j)).view.emb (ix2 r d) = ix2 (rowOf b j r) d := by
  obtain ⟨h0, h1⟩ := index6 b j
  funext a
  apply Fin.ext
  match a with
  | ⟨0, _⟩ => show win0_6.index (pt b j) (0 : Fin 2) * 256 + 1 * r.val = 256 * (9 * b.val + j.val) + r.val; omega
  | ⟨1, _⟩ => show win0_6.index (pt b j) (1 : Fin 2) * 512 + 1 * d.val = d.val; omega

theorem emb7 (b : Fin 4) (j : Fin 9) (d : Fin 128) : ((cfg0.win 7).blk (pt b j)).view.emb (ix2 0 d) = ix2 0 d := by
  obtain ⟨h0, h1⟩ := index7 b j
  funext a
  apply Fin.ext
  match a with
  | ⟨0, _⟩ => show win0_7.index (pt b j) (0 : Fin 2) * 1 + 1 * 0 = 0; omega
  | ⟨1, _⟩ => show win0_7.index (pt b j) (1 : Fin 2) * 128 + 1 * d.val = d.val; omega

theorem emb8 (b : Fin 4) (j : Fin 9) (r : Fin 512) (d : Fin 1024) : ((cfg0.win 8).blk (pt b j)).view.emb (ix2 r d) = ix2 r d := by
  obtain ⟨h0, h1⟩ := index8 b j
  funext a
  apply Fin.ext
  match a with
  | ⟨0, _⟩ => show win0_8.index (pt b j) (0 : Fin 2) * 512 + 1 * r.val = r.val; omega
  | ⟨1, _⟩ => show win0_8.index (pt b j) (1 : Fin 2) * 1024 + 1 * d.val = d.val; omega

theorem emb9 (b : Fin 4) (j : Fin 9) (r : Fin 512) (d : Fin 1024) : ((cfg0.win 9).blk (pt b j)).view.emb (ix2 r d) = ix2 r d := by
  obtain ⟨h0, h1⟩ := index9 b j
  funext a
  apply Fin.ext
  match a with
  | ⟨0, _⟩ => show win0_9.index (pt b j) (0 : Fin 2) * 512 + 1 * r.val = r.val; omega
  | ⟨1, _⟩ => show win0_9.index (pt b j) (1 : Fin 2) * 1024 + 1 * d.val = d.val; omega

theorem emb10 (b : Fin 4) (j : Fin 9) (r : Fin 512) (d : Fin 1024) : ((cfg0.win 10).blk (pt b j)).view.emb (ix2 r d) = ix2 r d := by
  obtain ⟨h0, h1⟩ := index10 b j
  funext a
  apply Fin.ext
  match a with
  | ⟨0, _⟩ => show win0_10.index (pt b j) (0 : Fin 2) * 512 + 1 * r.val = r.val; omega
  | ⟨1, _⟩ => show win0_10.index (pt b j) (1 : Fin 2) * 1024 + 1 * d.val = d.val; omega

theorem emb11 (b : Fin 4) (j : Fin 9) (d : Fin 3072) : ((cfg0.win 11).blk (pt b j)).view.emb (ix3 0 0 d) = ix3 (modRow b j) 0 d := by
  obtain ⟨h0, h1, h2⟩ := index11 b j
  funext a
  apply Fin.ext
  match a with
  | ⟨0, _⟩ => show win0_11.index (pt b j) (0 : Fin 3) * 1 + 1 * 0 = (modRow b j).val; omega
  | ⟨1, _⟩ => show win0_11.index (pt b j) (1 : Fin 3) * 1 + 1 * 0 = 0; omega
  | ⟨2, _⟩ => show win0_11.index (pt b j) (2 : Fin 3) * 3072 + 1 * d.val = d.val; omega

theorem emb12 (b : Fin 4) (j : Fin 9) (d : Fin 1024) : ((cfg0.win 12).blk (pt b j)).view.emb (ix2 0 d) = ix2 0 d := by
  obtain ⟨h0, h1⟩ := index12 b j
  funext a
  apply Fin.ext
  match a with
  | ⟨0, _⟩ => show win0_12.index (pt b j) (0 : Fin 2) * 1 + 1 * 0 = 0; omega
  | ⟨1, _⟩ => show win0_12.index (pt b j) (1 : Fin 2) * 1024 + 1 * d.val = d.val; omega

theorem emb13 (b : Fin 4) (j : Fin 9) (r : Fin 256) (d : Fin 1024) : ((cfg0.win 13).blk (pt b j)).view.emb (ix2 r d) = ix2 (rowOf b j r) d := by
  obtain ⟨h0, h1⟩ := index13 b j
  funext a
  apply Fin.ext
  match a with
  | ⟨0, _⟩ => show win0_13.index (pt b j) (0 : Fin 2) * 256 + 1 * r.val = 256 * (9 * b.val + j.val) + r.val; omega
  | ⟨1, _⟩ => show win0_13.index (pt b j) (1 : Fin 2) * 1024 + 1 * d.val = d.val; omega

theorem emb14 (b : Fin 4) (j : Fin 9) (r : Fin 1024) (d : Fin 1024) : ((cfg0.win 14).blk (pt b j)).view.emb (ix2 r d) = ix2 r d := by
  obtain ⟨h0, h1⟩ := index14 b j
  funext a
  apply Fin.ext
  match a with
  | ⟨0, _⟩ => show win0_14.index (pt b j) (0 : Fin 2) * 1024 + 1 * r.val = r.val; omega
  | ⟨1, _⟩ => show win0_14.index (pt b j) (1 : Fin 2) * 1024 + 1 * d.val = d.val; omega

theorem emb15 (b : Fin 4) (j : Fin 9) (r : Fin 256) (d : Fin 1024) : ((cfg0.win 15).blk (pt b j)).view.emb (ix2 r d) = ix2 (rowOf b j r) d := by
  obtain ⟨h0, h1⟩ := index15 b j
  funext a
  apply Fin.ext
  match a with
  | ⟨0, _⟩ => show win0_15.index (pt b j) (0 : Fin 2) * 256 + 1 * r.val = 256 * (9 * b.val + j.val) + r.val; omega
  | ⟨1, _⟩ => show win0_15.index (pt b j) (1 : Fin 2) * 1024 + 1 * d.val = d.val; omega

theorem emb16 (b : Fin 4) (j : Fin 9) (r : Fin 256) (d : Fin 1024) : ((cfg0.win 16).blk (pt b j)).view.emb (ix2 r d) = ix2 (rowOf b j r) d := by
  obtain ⟨h0, h1⟩ := index16 b j
  funext a
  apply Fin.ext
  match a with
  | ⟨0, _⟩ => show win0_16.index (pt b j) (0 : Fin 2) * 256 + 1 * r.val = 256 * (9 * b.val + j.val) + r.val; omega
  | ⟨1, _⟩ => show win0_16.index (pt b j) (1 : Fin 2) * 1024 + 1 * d.val = d.val; omega

/-! ### The blocks -/

section

variable (m : (ℓ : Loc nD τ sig) → Buf (Elt Ideal) ℓ) (c : Dev nD)

theorem block0 (b : Fin 4) (j : Fin 9) (r : Fin 256) (k : Fin 3072) :
    X0_0 m c (pt b j) (ix2 r k) = m ((c : Thread nD τ).loc main_arg0) (ix2 (rowOf b j r) (⟨k.val, by omega⟩ : Fin 6912)) := by
  unfold X0_0 Pipeline.Window.fill
  rw [dif_pos (moved0_0 (pt b j) (ix2 r k)), ← V_main_arg0 m c]
  obtain ⟨h0, h1⟩ := index0 b j
  refine congrArg (V m c main_arg0) ?_
  funext a
  apply Fin.ext
  match a with
  | ⟨0, _⟩ => show win0_0.index (pt b j) (0 : Fin 2) * 256 + 1 * r.val = 256 * (9 * b.val + j.val) + r.val; omega
  | ⟨1, _⟩ => show win0_0.index (pt b j) (1 : Fin 2) * 3072 + 1 * k.val = k.val; omega

theorem block1 (b : Fin 4) (j : Fin 9) (r : Fin 256) (k : Fin 512) :
    X0_1 m c (pt b j) (ix2 r k) = m ((c : Thread nD τ).loc main_arg0) (ix2 (rowOf b j r) (⟨3072 + k.val, by omega⟩ : Fin 6912)) := by
  unfold X0_1 Pipeline.Window.fill
  rw [dif_pos (moved0_1 (pt b j) (ix2 r k)), ← V_main_arg0 m c]
  obtain ⟨h0, h1⟩ := index1 b j
  refine congrArg (V m c main_arg0) ?_
  funext a
  apply Fin.ext
  match a with
  | ⟨0, _⟩ => show win0_1.index (pt b j) (0 : Fin 2) * 256 + 1 * r.val = 256 * (9 * b.val + j.val) + r.val; omega
  | ⟨1, _⟩ => show win0_1.index (pt b j) (1 : Fin 2) * 512 + 1 * k.val = 3072 + k.val; omega

theorem block2 (b : Fin 4) (j : Fin 9) (r : Fin 256) (k : Fin 512) :
    X0_2 m c (pt b j) (ix2 r k) = m ((c : Thread nD τ).loc main_arg0) (ix2 (rowOf b j r) (⟨5632 + k.val, by omega⟩ : Fin 6912)) := by
  unfold X0_2 Pipeline.Window.fill
  rw [dif_pos (moved0_2 (pt b j) (ix2 r k)), ← V_main_arg0 m c]
  obtain ⟨h0, h1⟩ := index2 b j
  refine congrArg (V m c main_arg0) ?_
  funext a
  apply Fin.ext
  match a with
  | ⟨0, _⟩ => show win0_2.index (pt b j) (0 : Fin 2) * 256 + 1 * r.val = 256 * (9 * b.val + j.val) + r.val; omega
  | ⟨1, _⟩ => show win0_2.index (pt b j) (1 : Fin 2) * 512 + 1 * k.val = 5632 + k.val; omega

theorem block3 (b : Fin 4) (j : Fin 9) (r : Fin 256) (d : Fin 512) : iblk m c 3 (pt b j) (ix2 r d) = m ((c : Thread nD τ).loc main_arg1) (ix2 (rowOf b j r) d) := by
  show V m c main_arg1 (((cfg0.win 3).blk (pt b j)).view.emb (ix2 r d)) = _
  rw [emb3, V_main_arg1]

theorem block4 (b : Fin 4) (j : Fin 9) (r : Fin 256) (d : Fin 512) : iblk m c 4 (pt b j) (ix2 r d) = m ((c : Thread nD τ).loc main_arg2) (ix2 (rowOf b j r) d) := by
  show V m c main_v0 (((cfg0.win 4).blk (pt b j)).view.emb (ix2 r d)) = _
  rw [emb4, V_0]
  rfl
theorem block5 (b : Fin 4) (j : Fin 9) (r : Fin 256) (d : Fin 512) : iblk m c 5 (pt b j) (ix2 r d) = m ((c : Thread nD τ).loc main_arg3) (ix2 (rowOf b j r) d) := by
  show V m c main_arg3 (((cfg0.win 5).blk (pt b j)).view.emb (ix2 r d)) = _
  rw [emb5, V_main_arg3]

theorem block6 (b : Fin 4) (j : Fin 9) (r : Fin 256) (d : Fin 512) : iblk m c 6 (pt b j) (ix2 r d) = m ((c : Thread nD τ).loc main_arg4) (ix2 (rowOf b j r) d) := by
  show V m c main_arg4 (((cfg0.win 6).blk (pt b j)).view.emb (ix2 r d)) = _
  rw [emb6, V_main_arg4]

theorem block7 (b : Fin 4) (j : Fin 9) (d : Fin 128) : iblk m c 7 (pt b j) (ix2 0 d) = m ((c : Thread nD τ).loc main_arg5) (ix2 0 d) := by
  show V m c main_arg5 (((cfg0.win 7).blk (pt b j)).view.emb (ix2 0 d)) = _
  rw [emb7, V_main_arg5]

theorem block8 (b : Fin 4) (j : Fin 9) (r : Fin 512) (d : Fin 1024) : iblk m c 8 (pt b j) (ix2 r d) = m ((c : Thread nD τ).loc main_arg6) (ix2 r d) := by
  show V m c main_v1 (((cfg0.win 8).blk (pt b j)).view.emb (ix2 r d)) = _
  rw [emb8, V_1]
  rfl
theorem block9 (b : Fin 4) (j : Fin 9) (r : Fin 512) (d : Fin 1024) : iblk m c 9 (pt b j) (ix2 r d) = m ((c : Thread nD τ).loc main_arg7) (ix2 r d) := by
  show V m c main_v2 (((cfg0.win 9).blk (pt b j)).view.emb (ix2 r d)) = _
  rw [emb9, V_2]
  rfl
theorem block10 (b : Fin 4) (j : Fin 9) (r : Fin 512) (d : Fin 1024) : iblk m c 10 (pt b j) (ix2 r d) = m ((c : Thread nD τ).loc main_arg8) (ix2 r d) := by
  show V m c main_v3 (((cfg0.win 10).blk (pt b j)).view.emb (ix2 r d)) = _
  rw [emb10, V_3]
  rfl
theorem block12 (b : Fin 4) (j : Fin 9) (d : Fin 1024) : iblk m c 12 (pt b j) (ix2 0 d) = m ((c : Thread nD τ).loc main_arg11) (ix2 0 d) := by
  show V m c main_arg11 (((cfg0.win 12).blk (pt b j)).view.emb (ix2 0 d)) = _
  rw [emb12, V_main_arg11]

theorem block13 (b : Fin 4) (j : Fin 9) (r : Fin 256) (d : Fin 1024) : iblk m c 13 (pt b j) (ix2 r d) = m ((c : Thread nD τ).loc main_arg12) (ix2 (rowOf b j r) d) := by
  show V m c main_arg12 (((cfg0.win 13).blk (pt b j)).view.emb (ix2 r d)) = _
  rw [emb13, V_main_arg12]

theorem block14 (b : Fin 4) (j : Fin 9) (r : Fin 1024) (d : Fin 1024) : iblk m c 14 (pt b j) (ix2 r d) = m ((c : Thread nD τ).loc main_arg9) (ix2 r d) := by
  show V m c main_v4 (((cfg0.win 14).blk (pt b j)).view.emb (ix2 r d)) = _
  rw [emb14, V_4]
  rfl
theorem block11 (b : Fin 4) (j : Fin 9) (d : Fin 3072) : iblk m c 11 (pt b j) (ix3 0 0 d) = m ((c : Thread nD τ).loc main_arg10) (ix2 (modRow b j) d) := by
  show V m c main_v5 (((cfg0.win 11).blk (pt b j)).view.emb (ix3 0 0 d)) = _
  rw [emb11, V_mod]
  exact shapeCast_apply _ shapeCasts_S8x3072_S8x1x3072 (ix3 (modRow b j) 0 d) (ix2 (modRow b j) d)
    (by rewrite [Shape.rowMajor_val_two, Shape.rowMajor_val_three]; show (modRow b j).val * 3072 + d.val = ((modRow b j).val * 1 + 0) * 3072 + d.val; omega)

/-- One row of the arrays. -/
abbrev rowM (n : Fin 9216) : Row := rowA (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) n

theorem rows (b : Fin 4) (j : Fin 9) (r : Fin 256) : rowB (X0_0 m c (pt b j)) (X0_1 m c (pt b j)) (X0_2 m c (pt b j)) (iblk m c 3 (pt b j)) (iblk m c 4 (pt b j)) (iblk m c 5 (pt b j)) (iblk m c 6 (pt b j)) (iblk m c 7 (pt b j)) (iblk m c 8 (pt b j)) (iblk m c 9 (pt b j)) (iblk m c 10 (pt b j)) (iblk m c 14 (pt b j)) r = rowM m c (rowOf b j r) := by
  unfold rowB rowM rowA
  simp only [block0, block1, block2, block3, block4, block5, block6, block7, block8, block9, block10, block14]

theorem array_out (b : Fin 4) (j : Fin 9) (r : Fin 256) (d : Fin 1024) :
    (dats m 0 c).arrAt 16 cfg0.N (ix2 (rowOf b j r) d) = (rowM m c (rowOf b j r)).out d := by
  refine (congrArg ((dats m 0 c).arrAt 16 cfg0.N) (emb16 b j r d).symm).trans ?_
  refine (congrFun (Value.blocks16 m c (pt b j) (flush0_16 _)) _).trans ?_
  rw [Value.flushed16_A, out_16]
  exact (out_apply (X0_0 m c (pt b j)) (X0_1 m c (pt b j)) (X0_2 m c (pt b j)) (iblk m c 3 (pt b j)) (iblk m c 4 (pt b j)) (iblk m c 5 (pt b j)) (iblk m c 6 (pt b j)) (iblk m c 7 (pt b j)) (iblk m c 8 (pt b j)) (iblk m c 9 (pt b j)) (iblk m c 10 (pt b j)) (iblk m c 14 (pt b j)) r d).trans (congrArg (fun R : Row => R.out d) (rows m c b j r))

theorem array_xn (b : Fin 4) (j : Fin 9) (r : Fin 256) (d : Fin 1024) :
    (dats m 0 c).arrAt 15 cfg0.N (ix2 (rowOf b j r) d)
      = xnOf (m ((c : Thread nD τ).loc main_arg12) (ix2 (rowOf b j r) d)) (m ((c : Thread nD τ).loc main_arg10) (ix2 (modRow b j) ⟨2048 + d.val, by omega⟩))
          ((rowM m c (rowOf b j r)).out d) (inv' (rowM m c (rowOf b j r)).out) (m ((c : Thread nD τ).loc main_arg11) (ix2 0 d)) := by
  refine (congrArg ((dats m 0 c).arrAt 15 cfg0.N) (emb15 b j r d).symm).trans ?_
  refine (congrFun (Value.blocks15 m c (pt b j) (flush0_15 _)) _).trans ?_
  rw [Value.flushed15_A, out_15]
  refine (xn_apply (X0_0 m c (pt b j)) (X0_1 m c (pt b j)) (X0_2 m c (pt b j)) (iblk m c 3 (pt b j)) (iblk m c 4 (pt b j)) (iblk m c 5 (pt b j)) (iblk m c 6 (pt b j)) (iblk m c 7 (pt b j)) (iblk m c 8 (pt b j)) (iblk m c 9 (pt b j)) (iblk m c 10 (pt b j)) (iblk m c 11 (pt b j)) (iblk m c 12 (pt b j)) (iblk m c 13 (pt b j)) (iblk m c 14 (pt b j)) r d).trans ?_
  rw [rows, block11, block12, block13]
  rfl

end

end Cert.MergeArrays

end
-- ==== Proof.MergeValue.lean ====
/- The merge's reference, row by row: its stages are the row's ones. -/
module

public import proofs.«01_k».proof.Proof.Gen.MergeReferenceIdeal.Read
public import proofs.«01_k».proof.Proof.MergeRow
public import proofs.«01_k».proof.Proof.NormClaim

@[expose] public section

set_option maxRecDepth 16384

noncomputable section

namespace Cert.MergeValue

open Cert.MergeReferenceIdeal Cert.MergeReferenceIdeal.Read Idealize.ShloMosaic Idealize.ShloMosaic.TcCoe Cert.Reals Cert.MergeRow
open Cert.NormClaim (modRow tile rowOf)

variable (x0 : FVec Ideal S9216x6912 .f32) (x1 x2 x3 x4 : FVec Ideal S9216x512 .f32) (x5 : FVec Ideal S1x128 .f32) (x6 x7 x8 : FVec Ideal S512x1024 .f32)
  (x9 : FVec Ideal S1024x1024 .f32) (x10 : FVec Ideal S8x3072 .f32) (x11 : FVec Ideal S1x1024 .f32) (x12 : FVec Ideal S9216x1024 .f32)

theorem one_bits : Ideal.ofBits FTy.f32 1065353216#32 = 1 := by
  pointwise []

theorem silu_a (n : Fin 9216) (e : Fin 512) : (val_main_v4 (F := Ideal) x0 (ix2 n e) : EReal) = silu (x0 (ix2 n ⟨3072 + e.val, by omega⟩)) := by
  pointwise [val_main_v4, val_main_call0_v5, val_main_call0_v4, val_main_call0_v3, val_main_call0_v2, val_main_call0_v1, val_main_call0_v0, val_main_call0_cst, val_main_call0_cst_0, val_main_v1, silu, Ideal.logistic]

theorem silu_g (n : Fin 9216) (e : Fin 512) : (val_main_v21 (F := Ideal) x0 (ix2 n e) : EReal) = silu (x0 (ix2 n ⟨5632 + e.val, by omega⟩)) := by
  pointwise [val_main_v21, val_main_call1_v5, val_main_call1_v4, val_main_call1_v3, val_main_call1_v2, val_main_call1_v1, val_main_call1_v0, val_main_call1_cst, val_main_call1_cst_0, val_main_v2, silu, Ideal.logistic]

theorem gate_apply (n : Fin 9216) (k : Fin 3072) : (val_main_v28 (F := Ideal) x0 (ix2 n k) : EReal) = Ideal.logistic (x0 (ix2 n ⟨k.val, by omega⟩)) := by
  pointwise [val_main_v28, val_main_v27, val_main_v26, val_main_v25, val_main_v24, val_main_v23, val_main_cst_2, val_main_cst_3, val_main_v0, Ideal.logistic]

theorem o_apply (n : Fin 9216) (h : Fin 4) (v : Fin 128) : (val_main_v6 (F := Ideal) x3 x4 (ix3 n h v) : EReal) = (x3 (ix2 n (lane h v)) : EReal) + x4 (ix2 n (lane h v)) := by
  rw [val_main_v6_apply]
  have e : idx_main_v6 (ix3 n h v) = ix2 n (lane h v) := by
    funext a
    apply Fin.ext
    match a with
    | ⟨0, _⟩ => show ((n.val * 4 + h.val) * 128 + v.val) / 512 = n.val; omega
    | ⟨1, _⟩ => show ((n.val * 4 + h.val) * 128 + v.val) % 512 = 128 * h.val + v.val; omega
  rw [e]
  rfl

theorem normed_apply (n : Fin 9216) (e : Fin 512) :
    (val_main_v20 (F := Ideal) x3 x4 x5 (ix2 n e) : EReal) = normedOf (fun e => (x3 (ix2 n e) : EReal) + x4 (ix2 n e)) e * x5 (ix2 0 (placeOf e)) := by
  have k : (val_main_v19 (F := Ideal) x3 x4 x5 (ix3 n (headOf e) (placeOf e)) : EReal) = normedOf (fun e => (x3 (ix2 n e) : EReal) + x4 (ix2 n e)) e * x5 (ix2 0 (placeOf e)) := by
    unfold normedOf MergeRow.inv
    pointwise [val_main_v19, val_main_v18, val_main_v17, val_main_v16, val_main_v15, val_main_v14, val_main_v13, val_main_v12, val_main_v11, val_main_v10, val_main_v9,
      val_main_v8, val_main_v7, val_main_cst, val_main_cst_0, val_main_cst_1, o_apply, lane_eq]
  rw [val_main_v20_apply, ← k]
  refine congrArg _ ?_
  funext a
  apply Fin.ext
  match a with
  | ⟨0, _⟩ => show (n.val * 512 + e.val) / 512 = n.val; omega
  | ⟨1, _⟩ => show (n.val * 512 + e.val) / 128 % 4 = e.val / 128; omega
  | ⟨2, _⟩ => show (n.val * 512 + e.val) % 128 = e.val % 128; omega

theorem pm_apply (n : Fin 9216) (d : Fin 1024) : (val_main_v32 (F := Ideal) x0 x1 x6 (ix2 n d) : EReal) = (rowA x0 x1 x2 x3 x4 x5 x6 x7 x8 x9 n).pm d := by
  pointwise [val_main_v32, val_main_v5, silu_a, dot_S9216x512_S512x1024_S9216x1024_1_0_0_1_n_n]
  rfl

theorem pp_apply (n : Fin 9216) (d : Fin 1024) : (val_main_v34 (F := Ideal) x2 x7 (ix2 n d) : EReal) = (rowA x0 x1 x2 x3 x4 x5 x6 x7 x8 x9 n).pp d := by
  pointwise [val_main_v34, dot_S9216x512_S512x1024_S9216x1024_1_0_0_1_n_n]
  rfl

theorem pg_apply (n : Fin 9216) (d : Fin 1024) : (val_main_v37 (F := Ideal) x0 x3 x4 x5 x8 (ix2 n d) : EReal) = (rowA x0 x1 x2 x3 x4 x5 x6 x7 x8 x9 n).pg d := by
  pointwise [val_main_v37, val_main_v22, normed_apply, silu_g, dot_S9216x512_S512x1024_S9216x1024_1_0_0_1_n_n]
  rfl

theorem mix_apply (n : Fin 9216) (d : Fin 1024) :
    (val_main_v39 (F := Ideal) x0 x1 x2 x3 x4 x5 x6 x7 x8 (ix2 n d) : EReal) = (rowA x0 x1 x2 x3 x4 x5 x6 x7 x8 x9 n).mix d := by
  pointwise [val_main_v39, val_main_v38, val_main_v36, val_main_v35, val_main_v33, val_main_v31, val_main_v30, val_main_v29, gate_apply]
  rw [pm_apply x0 x1 x2 x3 x4 x5 x6 x7 x8 x9, pp_apply x0 x1 x2 x3 x4 x5 x6 x7 x8 x9, pg_apply x0 x1 x2 x3 x4 x5 x6 x7 x8 x9]
  rfl

theorem out_apply (n : Fin 9216) (d : Fin 1024) :
    (val_main_v40 (F := Ideal) x0 x1 x2 x3 x4 x5 x6 x7 x8 x9 (ix2 n d) : EReal) = (rowA x0 x1 x2 x3 x4 x5 x6 x7 x8 x9 n).out d := by
  pointwise [val_main_v40, dot_S9216x1024_S1024x1024_S9216x1024_1_0_0_1_n_n]
  simp only [mix_apply x0 x1 x2 x3 x4 x5 x6 x7 x8 x9]
  rfl

theorem tiled_apply (b : Fin 4) (j : Fin 9) (r : Fin 256) (d : Fin 1024) :
    (val_main_v51 (F := Ideal) x0 x1 x2 x3 x4 x5 x6 x7 x8 x9 (ix3 (tile b j) r d) : EReal) = (rowA x0 x1 x2 x3 x4 x5 x6 x7 x8 x9 (rowOf b j r)).out d := by
  rw [val_main_v51_apply, ← out_apply]
  refine congrArg _ ?_
  funext a
  apply Fin.ext
  match a with
  | ⟨0, _⟩ => show (((9 * b.val + j.val) * 256 + r.val) * 1024 + d.val) / 1024 = 256 * (9 * b.val + j.val) + r.val; omega
  | ⟨1, _⟩ => show (((9 * b.val + j.val) * 256 + r.val) * 1024 + d.val) % 1024 = d.val; omega

/-- The modulation rows joined, the context's first. -/
theorem joined_apply (b : Fin 4) (j : Fin 9) (d : Fin 3072) : val_main_v48 (F := Ideal) x10 (ix3 b j d) = x10 (ix2 (modRow b j) d) := by
  fin_cases j <;>
  · pointwise [val_main_v48, val_main_v47, val_main_v46, val_main_v45, val_main_v44, val_main_v43, val_main_v42, val_main_v41]
    rfl

theorem mod_apply (b : Fin 4) (j : Fin 9) (d : Fin 3072) : val_main_v49 (F := Ideal) x10 (ix3 (tile b j) 0 d) = x10 (ix2 (modRow b j) d) := by
  rw [val_main_v49_apply, ← joined_apply x10 b j d]
  refine congrArg _ ?_
  funext a
  apply Fin.ext
  match a with
  | ⟨0, _⟩ => show (((9 * b.val + j.val) * 1 + 0) * 3072 + d.val) / 27648 = b.val; omega
  | ⟨1, _⟩ => show (((9 * b.val + j.val) * 1 + 0) * 3072 + d.val) / 3072 % 9 = j.val; omega
  | ⟨2, _⟩ => show (((9 * b.val + j.val) * 1 + 0) * 3072 + d.val) % 3072 = d.val; omega

theorem stage_apply (b : Fin 4) (j : Fin 9) (r : Fin 256) (d : Fin 1024) :
    (val_main_v66 (F := Ideal) x0 x1 x2 x3 x4 x5 x6 x7 x8 x9 x10 x11 (ix3 (tile b j) r d) : EReal)
      = x10 (ix2 (modRow b j) ⟨2048 + d.val, by omega⟩)
          * ((rowA x0 x1 x2 x3 x4 x5 x6 x7 x8 x9 (rowOf b j r)).out d * inv' (rowA x0 x1 x2 x3 x4 x5 x6 x7 x8 x9 (rowOf b j r)).out * x11 (ix2 0 d)) := by
  unfold inv'
  pointwise [val_main_v66, val_main_v65, val_main_v64, val_main_v63, val_main_v62, val_main_v61, val_main_v60, val_main_v59, val_main_v58, val_main_v57, val_main_v56,
    val_main_v55, val_main_v54, val_main_v53, val_main_v52, val_main_v50, val_main_cst_4, val_main_cst_5, val_main_cst_6, mod_apply, tiled_apply]

theorem xn_apply (b : Fin 4) (j : Fin 9) (r : Fin 256) (d : Fin 1024) :
    (val_main_v68 (F := Ideal) x0 x1 x2 x3 x4 x5 x6 x7 x8 x9 x10 x11 x12 (ix2 (rowOf b j r) d) : EReal)
      = xnOf (x12 (ix2 (rowOf b j r) d)) (x10 (ix2 (modRow b j) ⟨2048 + d.val, by omega⟩)) ((rowA x0 x1 x2 x3 x4 x5 x6 x7 x8 x9 (rowOf b j r)).out d)
          (inv' (rowA x0 x1 x2 x3 x4 x5 x6 x7 x8 x9 (rowOf b j r)).out) (x11 (ix2 0 d)) := by
  rw [val_main_v68_apply, val_main_v67_apply]
  refine congrArg (fun y : EReal => (x12 (ix2 (rowOf b j r) d) : EReal) + y) ?_
  rw [← stage_apply]
  refine congrArg _ ?_
  funext a
  apply Fin.ext
  match a with
  | ⟨0, _⟩ => show ((256 * (9 * b.val + j.val) + r.val) * 1024 + d.val) / 262144 = 9 * b.val + j.val; omega
  | ⟨1, _⟩ => show ((256 * (9 * b.val + j.val) + r.val) * 1024 + d.val) / 1024 % 256 = r.val; omega
  | ⟨2, _⟩ => show ((256 * (9 * b.val + j.val) + r.val) * 1024 + d.val) % 1024 = d.val; omega

end Cert.MergeValue

end
-- ==== Proof.MergeClaim.lean ====
/- The merge's call against its reference: both arrays are equal. -/
module

public import proofs.«01_k».proof.Defs
public import proofs.«01_k».proof.Proof.MergeArrays
public import proofs.«01_k».proof.Proof.MergeValue
public import proofs.«01_k».proof.Proof.Gen.MergeReferenceIdeal.Run

@[expose] public section

set_option maxRecDepth 16384

noncomputable section

namespace Cert.MergeClaim

open Cert.MergeIdeal Cert.MergeIdeal.Gen Idealize.ShloMosaic Idealize.ShloMosaic.TcCoe Idealize.SL.Sem Cert.Reals
open Cert.NormClaim (rowOf)

/-- An index into the rows is a place in a tile. -/
theorem place (y : (⟨2, ![9216, 1024]⟩ : Shape).Idx) : ∃ (b : Fin 4) (j : Fin 9) (r : Fin 256) (d : Fin 1024), y = ix2 (rowOf b j r) d := by
  have h0 : (y 0).val < 9216 := (y 0).isLt
  have h1 : (y 1).val < 1024 := (y 1).isLt
  refine ⟨⟨(y 0).val / 2304, by omega⟩, ⟨(y 0).val / 256 % 9, by omega⟩, ⟨(y 0).val % 256, by omega⟩, ⟨(y 1).val, h1⟩, ?_⟩
  funext a
  apply Fin.ext
  match a with
  | ⟨0, _⟩ => show (y 0).val = 256 * (9 * ((y 0).val / 2304) + (y 0).val / 256 % 9) + (y 0).val % 256; omega
  | ⟨1, _⟩ => rfl

section

variable (m : (ℓ : Loc nD τ sig) → Buf (Elt Ideal) ℓ) (c : Dev nD)

theorem equal_xn :
    (dats m 0 c).arrAt 15 cfg0.N = MergeReferenceIdeal.Read.val_main_v68 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12)) := by
  funext y
  obtain ⟨b, j, r, d, e⟩ := place y
  rw [e]
  exact (MergeArrays.array_xn m c b j r d).trans (MergeValue.xn_apply _ _ _ _ _ _ _ _ _ _ _ _ _ b j r d).symm

theorem equal_out :
    (dats m 0 c).arrAt 16 cfg0.N = MergeReferenceIdeal.Read.val_main_v40 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9)) := by
  funext y
  obtain ⟨b, j, r, d, e⟩ := place y
  rw [e]
  exact (MergeArrays.array_out m c b j r d).trans (MergeValue.out_apply _ _ _ _ _ _ _ _ _ _ (rowOf b j r) d).symm

end

theorem algebraic : Cert.algebraic_MergeIdeal_MergeReferenceIdeal (hMergeIdeal := Cert.MergeIdeal.Gen.facts) (hMergeReferenceIdeal := Cert.MergeReferenceIdeal.Gen.facts) := by
  intro m g m' g' _ hag
  refine ⟨fun c => (MergeIdeal.Gen.dats m 0 c).arrAt 15 MergeIdeal.cfg0.N, fun c => (MergeIdeal.Gen.dats m 0 c).arrAt 16 MergeIdeal.cfg0.N,
    MergeIdeal.Value.run_blocks m g, ?_⟩
  refine (θ_run MergeReferenceIdeal.defs _ _).mono (fun r h c => ?_) (MergeReferenceIdeal.Value.run m' g')
  obtain ⟨h0, h1, k⟩ := h c
  obtain ⟨a0, a1, a2, a3, a4, a5, a6, a7, a8, a9, a10, a11, a12⟩ := hag c
  rw [MergeReferenceIdeal.Read.val_main_v68_eq, a0, a1, a2, a3, a4, a5, a6, a7, a8, a9, a10, a11, a12] at h0
  rw [MergeReferenceIdeal.Read.val_main_v40_eq, a0, a1, a2, a3, a4, a5, a6, a7, a8, a9] at h1
  exact ⟨h0.trans (equal_xn m c).symm, h1.trans (equal_out m c).symm, k⟩

theorem reference : Cert.quiescent_MergeReferenceIdeal (hMergeReferenceIdeal := Cert.MergeReferenceIdeal.Gen.facts) := fun m ρ _ =>
  (θ_run MergeReferenceIdeal.defs _ _).mono (fun r h => ⟨fun c => (h c).2.2, sem_eq_zero_of_no_sems (by decide) r.2⟩) (MergeReferenceIdeal.Value.run m ρ)

end Cert.MergeClaim

end
-- ==== Proof.SplitRunA.lean ====
module

public import proofs.«01_k».proof.Proof.Gen.SplitIdeal.Frame.Runs

@[expose] public section

/-! The run of the merge gradient's body at the first tile. The printed run of this
    body needs more steps than its own limit allows; here it is without that limit. -/

set_option maxRecDepth 16384

noncomputable section

namespace Cert.SplitFrame

open Cert.SplitIdeal Cert.SplitIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
/-- The body of the merge gradient at the first tile, run: what its stores leave in each result's buffer, as pieces,
    with the proof that the body, started with the inputs' buffers at their contents and anything in the results' buffers,
    ends with the inputs' as they were and each result's buffer with its pieces written. -/
noncomputable def runA (c : Dev nD) (i : grid0.Coords) (arg1 : Memref sig .tc .vmem S256x3072 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1x1x3072 .f32) (harg12 : arg12.IsWhole) (arg13 : Memref sig .tc .vmem S1x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S1024x1024 .bf16) (harg19 : arg19.IsWhole) (arg20 : Memref sig .tc .vmem S256x4096 .bf16) (harg20 : arg20.IsWhole) (arg21 : Memref sig .tc .vmem S256x512 .f32) (harg21 : arg21.IsWhole) (arg22 : Memref sig .tc .vmem S256x512 .f32) (harg22 : arg22.IsWhole) (arg23 : Memref sig .tc .vmem S256x512 .f32) (harg23 : arg23.IsWhole) (arg24 : Memref sig .tc .vmem S1x8x1024 .f32) (harg24 : arg24.IsWhole) (arg25 : Memref sig .tc .vmem S512x1024 .f32) (harg25 : arg25.IsWhole) (arg26 : Memref sig .tc .vmem S512x1024 .f32) (harg26 : arg26.IsWhole) (arg27 : Memref sig .tc .vmem S512x1024 .f32) (harg27 : arg27.IsWhole) (arg28 : Memref sig .tc .vmem S1024x1024 .f32) (harg28 : arg28.IsWhole) (arg29 : Memref sig .tc .vmem S1x128 .f32) (harg29 : arg29.IsWhole) (hc0 : cond0_0 i)
    (x0 : Vec F S256x3072 .f32) (x1 : Vec F S256x512 .f32) (x2 : Vec F S256x512 .f32) (x3 : Vec F S256x512 .f32) (x4 : Vec F S256x512 .bf16) (x5 : Vec F S256x512 .f32) (x6 : Vec F S256x512 .f32) (x7 : Vec F S1x128 .f32) (x8 : Vec F S512x1024 .bf16) (x9 : Vec F S512x1024 .bf16) (x10 : Vec F S512x1024 .bf16) (x11 : Vec F S1x1x3072 .f32) (x12 : Vec F S1x1024 .f32) (x13 : Vec F S256x1024 .f32) (x14 : Vec F S256x1024 .f32) (x15 : Vec F S1024x512 .bf16) (x16 : Vec F S1024x512 .bf16) (x17 : Vec F S1024x512 .bf16) (x18 : Vec F S1024x1024 .bf16) :
    Σ' (L19 : List (View.Piece (Elt F) S256x4096 .bf16)), Σ' (L20 : List (View.Piece (Elt F) S256x512 .f32)), Σ' (L21 : List (View.Piece (Elt F) S256x512 .f32)), Σ' (L22 : List (View.Piece (Elt F) S256x512 .f32)), Σ' (L23 : List (View.Piece (Elt F) S1x8x1024 .f32)), Σ' (L24 : List (View.Piece (Elt F) S512x1024 .f32)), Σ' (L25 : List (View.Piece (Elt F) S512x1024 .f32)), Σ' (L26 : List (View.Piece (Elt F) S512x1024 .f32)), Σ' (L27 : List (View.Piece (Elt F) S1024x1024 .f32)), { L28 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28)) -∗ K ⟨⟩))
          ⊢ wp frame (wpE (defs₀ (F := F)) Variants.none c none) E (cc0_merge_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ?_, ?_, ?_, ?_, fun E K => ?run⟩
  case run =>
    simp only [cc0_merge_bwd_eq_skeleton]; unfold cc0_merge_bwd_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    sl_exec (disch := first | sl_exact hc0)
    sl_step
    iapply Hk
    isplitl [H0]; · iexists _; isplitr; (· ipureintro; exact harg1.read_unread _); iexact H0
    isplitl [H1]; · iexists _; isplitr; (· ipureintro; exact harg2.read_unread _); iexact H1
    isplitl [H2]; · iexists _; isplitr; (· ipureintro; exact harg3.read_unread _); iexact H2
    isplitl [H3]; · iexists _; isplitr; (· ipureintro; exact harg4.read_unread _); iexact H3
    isplitl [H4]; · iexists _; isplitr; (· ipureintro; exact harg5.read_unread _); iexact H4
    isplitl [H5]; · iexists _; isplitr; (· ipureintro; exact harg6.read_unread _); iexact H5
    isplitl [H6]; · iexists _; isplitr; (· ipureintro; exact harg7.read_unread _); iexact H6
    isplitl [H7]; · iexists _; isplitr; (· ipureintro; exact harg8.read_unread _); iexact H7
    isplitl [H8]; · iexists _; isplitr; (· ipureintro; exact harg9.read_unread _); iexact H8
    isplitl [H9]; · iexists _; isplitr; (· ipureintro; exact harg10.read_unread _); iexact H9
    isplitl [H10]; · iexists _; isplitr; (· ipureintro; exact harg11.read_unread _); iexact H10
    isplitl [H11]; · iexists _; isplitr; (· ipureintro; exact harg12.read_unread _); iexact H11
    isplitl [H12]; · iexists _; isplitr; (· ipureintro; exact harg13.read_unread _); iexact H12
    isplitl [H13]; · iexists _; isplitr; (· ipureintro; exact harg14.read_unread _); iexact H13
    isplitl [H14]; · iexists _; isplitr; (· ipureintro; exact harg15.read_unread _); iexact H14
    isplitl [H15]; · iexists _; isplitr; (· ipureintro; exact harg16.read_unread _); iexact H15
    isplitl [H16]; · iexists _; isplitr; (· ipureintro; exact harg17.read_unread _); iexact H16
    isplitl [H17]; · iexists _; isplitr; (· ipureintro; exact harg18.read_unread _); iexact H17
    isplitl [H18]; · iexists _; isplitr; (· ipureintro; exact harg19.read_unread _); iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    iexists _; iexact H28

end Cert.SplitFrame

end
-- ==== Proof.SplitRunB.lean ====
module

public import proofs.«01_k».proof.Proof.SplitRunA

@[expose] public section

/-! The run of the merge gradient's body at a later tile. The printed run of this
    body needs more steps than its own limit allows; here it is without that limit. -/

set_option maxRecDepth 16384

noncomputable section

namespace Cert.SplitFrame

open Cert.SplitIdeal Cert.SplitIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
/-- The body of the merge gradient at a later tile, run: as at the first tile, only that the five sums over the tiles
    are found in their buffers as the tile before left them. -/
noncomputable def runB (c : Dev nD) (i : grid0.Coords) (arg1 : Memref sig .tc .vmem S256x3072 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1x1x3072 .f32) (harg12 : arg12.IsWhole) (arg13 : Memref sig .tc .vmem S1x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S1024x1024 .bf16) (harg19 : arg19.IsWhole) (arg20 : Memref sig .tc .vmem S256x4096 .bf16) (harg20 : arg20.IsWhole) (arg21 : Memref sig .tc .vmem S256x512 .f32) (harg21 : arg21.IsWhole) (arg22 : Memref sig .tc .vmem S256x512 .f32) (harg22 : arg22.IsWhole) (arg23 : Memref sig .tc .vmem S256x512 .f32) (harg23 : arg23.IsWhole) (arg24 : Memref sig .tc .vmem S1x8x1024 .f32) (harg24 : arg24.IsWhole) (arg25 : Memref sig .tc .vmem S512x1024 .f32) (harg25 : arg25.IsWhole) (arg26 : Memref sig .tc .vmem S512x1024 .f32) (harg26 : arg26.IsWhole) (arg27 : Memref sig .tc .vmem S512x1024 .f32) (harg27 : arg27.IsWhole) (arg28 : Memref sig .tc .vmem S1024x1024 .f32) (harg28 : arg28.IsWhole) (arg29 : Memref sig .tc .vmem S1x128 .f32) (harg29 : arg29.IsWhole) (hc0 : ¬cond0_0 i)
    (x0 : Vec F S256x3072 .f32) (x1 : Vec F S256x512 .f32) (x2 : Vec F S256x512 .f32) (x3 : Vec F S256x512 .f32) (x4 : Vec F S256x512 .bf16) (x5 : Vec F S256x512 .f32) (x6 : Vec F S256x512 .f32) (x7 : Vec F S1x128 .f32) (x8 : Vec F S512x1024 .bf16) (x9 : Vec F S512x1024 .bf16) (x10 : Vec F S512x1024 .bf16) (x11 : Vec F S1x1x3072 .f32) (x12 : Vec F S1x1024 .f32) (x13 : Vec F S256x1024 .f32) (x14 : Vec F S256x1024 .f32) (x15 : Vec F S1024x512 .bf16) (x16 : Vec F S1024x512 .bf16) (x17 : Vec F S1024x512 .bf16) (x18 : Vec F S1024x1024 .bf16) (xo24 : Vec F S512x1024 .f32) (xo25 : Vec F S512x1024 .f32) (xo26 : Vec F S512x1024 .f32) (xo27 : Vec F S1024x1024 .f32) (xo28 : Vec F S1x128 .f32) :
    Σ' (L19 : List (View.Piece (Elt F) S256x4096 .bf16)), Σ' (L20 : List (View.Piece (Elt F) S256x512 .f32)), Σ' (L21 : List (View.Piece (Elt F) S256x512 .f32)), Σ' (L22 : List (View.Piece (Elt F) S256x512 .f32)), Σ' (L23 : List (View.Piece (Elt F) S1x8x1024 .f32)), Σ' (L24 : List (View.Piece (Elt F) S512x1024 .f32)), Σ' (L25 : List (View.Piece (Elt F) S512x1024 .f32)), Σ' (L26 : List (View.Piece (Elt F) S512x1024 .f32)), Σ' (L27 : List (View.Piece (Elt F) S1024x1024 .f32)), { L28 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare xo24 ∗ owns (c : Thread nD τ) arg26 fullShare xo25 ∗ owns (c : Thread nD τ) arg27 fullShare xo26 ∗ owns (c : Thread nD τ) arg28 fullShare xo27 ∗ owns (c : Thread nD τ) arg29 fullShare xo28
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28)) -∗ K ⟨⟩))
          ⊢ wp frame (wpE (defs₀ (F := F)) Variants.none c none) E (cc0_merge_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ?_, ?_, ?_, ?_, fun E K => ?run⟩
  case run =>
    simp only [cc0_merge_bwd_eq_skeleton]; unfold cc0_merge_bwd_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%f24, %hf24, H24⟩, ⟨%f25, %hf25, H25⟩, ⟨%f26, %hf26, H26⟩, ⟨%f27, %hf27, H27⟩, ⟨%f28, %hf28, H28⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg25.eq_unread hf24; obtain rfl := harg26.eq_unread hf25; obtain rfl := harg27.eq_unread hf26; obtain rfl := harg28.eq_unread hf27; obtain rfl := harg29.eq_unread hf28
    sl_exec (disch := first | sl_exact hc0)
    sl_step
    iapply Hk
    isplitl [H0]; · iexists _; isplitr; (· ipureintro; exact harg1.read_unread _); iexact H0
    isplitl [H1]; · iexists _; isplitr; (· ipureintro; exact harg2.read_unread _); iexact H1
    isplitl [H2]; · iexists _; isplitr; (· ipureintro; exact harg3.read_unread _); iexact H2
    isplitl [H3]; · iexists _; isplitr; (· ipureintro; exact harg4.read_unread _); iexact H3
    isplitl [H4]; · iexists _; isplitr; (· ipureintro; exact harg5.read_unread _); iexact H4
    isplitl [H5]; · iexists _; isplitr; (· ipureintro; exact harg6.read_unread _); iexact H5
    isplitl [H6]; · iexists _; isplitr; (· ipureintro; exact harg7.read_unread _); iexact H6
    isplitl [H7]; · iexists _; isplitr; (· ipureintro; exact harg8.read_unread _); iexact H7
    isplitl [H8]; · iexists _; isplitr; (· ipureintro; exact harg9.read_unread _); iexact H8
    isplitl [H9]; · iexists _; isplitr; (· ipureintro; exact harg10.read_unread _); iexact H9
    isplitl [H10]; · iexists _; isplitr; (· ipureintro; exact harg11.read_unread _); iexact H10
    isplitl [H11]; · iexists _; isplitr; (· ipureintro; exact harg12.read_unread _); iexact H11
    isplitl [H12]; · iexists _; isplitr; (· ipureintro; exact harg13.read_unread _); iexact H12
    isplitl [H13]; · iexists _; isplitr; (· ipureintro; exact harg14.read_unread _); iexact H13
    isplitl [H14]; · iexists _; isplitr; (· ipureintro; exact harg15.read_unread _); iexact H14
    isplitl [H15]; · iexists _; isplitr; (· ipureintro; exact harg16.read_unread _); iexact H15
    isplitl [H16]; · iexists _; isplitr; (· ipureintro; exact harg17.read_unread _); iexact H16
    isplitl [H17]; · iexists _; isplitr; (· ipureintro; exact harg18.read_unread _); iexact H17
    isplitl [H18]; · iexists _; isplitr; (· ipureintro; exact harg19.read_unread _); iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    iexists _; iexact H28

end Cert.SplitFrame

end
-- ==== Proof.SplitFrame.lean ====
module

public import proofs.«01_k».proof.Proof.SplitRunB
public import Idealize.ShloMosaic.Lib.Claim

@[expose] public section

/-! The merge gradient: every run of it ends, with its arguments as they were, and with its results at what the
    body's runs, tile after tile, leave. -/

set_option maxRecDepth 16384

noncomputable section

namespace Cert.SplitFrame

open Cert.SplitIdeal Cert.SplitIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The results' blocks, in the order of the windows. -/
abbrev Outs (F : FTy → Type) : Type := Vec F S256x4096 .bf16 × Vec F S256x512 .f32 × Vec F S256x512 .f32 × Vec F S256x512 .f32 × Vec F S1x8x1024 .f32 × Vec F S512x1024 .f32 × Vec F S512x1024 .f32 × Vec F S512x1024 .f32 × Vec F S1024x1024 .f32 × Vec F S1x128 .f32

/-- The first tile's run at the point's buffers and blocks. -/
def atA (c : Dev nD) (t : Fin cfg0.N) (h0 : t.val % 36 = 0) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) ((hcond0_0 t).mpr h0) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)

/-- A later tile's run at the point's buffers and blocks, over what the tile before left. -/
def atB (c : Dev nD) (t : Fin cfg0.N) (h0 : ¬t.val % 36 = 0) (p : Outs F) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (fun h => h0 ((hcond0_0 t).mp h)) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p.2.2.2.2.2.1 p.2.2.2.2.2.2.1 p.2.2.2.2.2.2.2.1 p.2.2.2.2.2.2.2.2.1 p.2.2.2.2.2.2.2.2.2

theorem coverA_19 (c : Dev nD) (t : Fin cfg0.N) (h0 : t.val % 36 = 0) (y : S256x4096.Idx) :
    ∃ pc ∈ (atA m c t h0).1, y ∈ pc.1.set :=
  View.cover_of_tiledBy (atA m c t h0).1 ![256, 512] (by sl_kernel_rfl) y
theorem coverA_20 (c : Dev nD) (t : Fin cfg0.N) (h0 : t.val % 36 = 0) (y : S256x512.Idx) :
    ∃ pc ∈ (atA m c t h0).2.1, y ∈ pc.1.set :=
  View.cover_of_tiledL (atA m c t h0).2.1 S256x512.size (by sl_kernel_rfl) y
theorem coverA_21 (c : Dev nD) (t : Fin cfg0.N) (h0 : t.val % 36 = 0) (y : S256x512.Idx) :
    ∃ pc ∈ (atA m c t h0).2.2.1, y ∈ pc.1.set :=
  View.cover_of_tiledL (atA m c t h0).2.2.1 S256x512.size (by sl_kernel_rfl) y
theorem coverA_22 (c : Dev nD) (t : Fin cfg0.N) (h0 : t.val % 36 = 0) (y : S256x512.Idx) :
    ∃ pc ∈ (atA m c t h0).2.2.2.1, y ∈ pc.1.set :=
  View.cover_of_tiledL (atA m c t h0).2.2.2.1 S256x512.size (by sl_kernel_rfl) y
theorem coverA_23 (c : Dev nD) (t : Fin cfg0.N) (h0 : t.val % 36 = 0) (y : S1x8x1024.Idx) :
    ∃ pc ∈ (atA m c t h0).2.2.2.2.1, y ∈ pc.1.set :=
  View.cover_of_tiledBy (atA m c t h0).2.2.2.2.1 ![1, 1, 1024] (by sl_kernel_rfl) y
theorem coverA_24 (c : Dev nD) (t : Fin cfg0.N) (h0 : t.val % 36 = 0) (y : S512x1024.Idx) :
    ∃ pc ∈ (atA m c t h0).2.2.2.2.2.1, y ∈ pc.1.set :=
  View.cover_of_tiledL (atA m c t h0).2.2.2.2.2.1 S512x1024.size (by sl_kernel_rfl) y
theorem coverA_25 (c : Dev nD) (t : Fin cfg0.N) (h0 : t.val % 36 = 0) (y : S512x1024.Idx) :
    ∃ pc ∈ (atA m c t h0).2.2.2.2.2.2.1, y ∈ pc.1.set :=
  View.cover_of_tiledL (atA m c t h0).2.2.2.2.2.2.1 S512x1024.size (by sl_kernel_rfl) y
theorem coverA_26 (c : Dev nD) (t : Fin cfg0.N) (h0 : t.val % 36 = 0) (y : S512x1024.Idx) :
    ∃ pc ∈ (atA m c t h0).2.2.2.2.2.2.2.1, y ∈ pc.1.set :=
  View.cover_of_tiledL (atA m c t h0).2.2.2.2.2.2.2.1 S512x1024.size (by sl_kernel_rfl) y
theorem coverA_27 (c : Dev nD) (t : Fin cfg0.N) (h0 : t.val % 36 = 0) (y : S1024x1024.Idx) :
    ∃ pc ∈ (atA m c t h0).2.2.2.2.2.2.2.2.1, y ∈ pc.1.set :=
  View.cover_of_tiledL (atA m c t h0).2.2.2.2.2.2.2.2.1 S1024x1024.size (by sl_kernel_rfl) y
theorem coverA_28 (c : Dev nD) (t : Fin cfg0.N) (h0 : t.val % 36 = 0) (y : S1x128.Idx) :
    ∃ pc ∈ (atA m c t h0).2.2.2.2.2.2.2.2.2.1, y ∈ pc.1.set :=
  View.cover_of_tiledL (atA m c t h0).2.2.2.2.2.2.2.2.2.1 S1x128.size (by sl_kernel_rfl) y

/-- What the first tile leaves in the results' buffers: its pieces read back. -/
def outA (c : Dev nD) (t : Fin cfg0.N) (h0 : t.val % 36 = 0) : Outs F :=
  (VO0_19.read (Elt F) (VO0_19.writes (Elt F) VO0_19.junk (atA m c t h0).1),
   VO0_20.read (Elt F) (VO0_20.writes (Elt F) VO0_20.junk (atA m c t h0).2.1),
   VO0_21.read (Elt F) (VO0_21.writes (Elt F) VO0_21.junk (atA m c t h0).2.2.1),
   VO0_22.read (Elt F) (VO0_22.writes (Elt F) VO0_22.junk (atA m c t h0).2.2.2.1),
   VO0_23.read (Elt F) (VO0_23.writes (Elt F) VO0_23.junk (atA m c t h0).2.2.2.2.1),
   VO0_24.read (Elt F) (VO0_24.writes (Elt F) VO0_24.junk (atA m c t h0).2.2.2.2.2.1),
   VO0_25.read (Elt F) (VO0_25.writes (Elt F) VO0_25.junk (atA m c t h0).2.2.2.2.2.2.1),
   VO0_26.read (Elt F) (VO0_26.writes (Elt F) VO0_26.junk (atA m c t h0).2.2.2.2.2.2.2.1),
   VO0_27.read (Elt F) (VO0_27.writes (Elt F) VO0_27.junk (atA m c t h0).2.2.2.2.2.2.2.2.1),
   VO0_28.read (Elt F) (VO0_28.writes (Elt F) VO0_28.junk (atA m c t h0).2.2.2.2.2.2.2.2.2.1))

theorem coverB_19 (c : Dev nD) (t : Fin cfg0.N) (h0 : ¬t.val % 36 = 0) (p : Outs F) (y : S256x4096.Idx) :
    ∃ pc ∈ (atB m c t h0 p).1, y ∈ pc.1.set :=
  View.cover_of_tiledBy (atB m c t h0 p).1 ![256, 512] (by sl_kernel_rfl) y
theorem coverB_20 (c : Dev nD) (t : Fin cfg0.N) (h0 : ¬t.val % 36 = 0) (p : Outs F) (y : S256x512.Idx) :
    ∃ pc ∈ (atB m c t h0 p).2.1, y ∈ pc.1.set :=
  View.cover_of_tiledL (atB m c t h0 p).2.1 S256x512.size (by sl_kernel_rfl) y
theorem coverB_21 (c : Dev nD) (t : Fin cfg0.N) (h0 : ¬t.val % 36 = 0) (p : Outs F) (y : S256x512.Idx) :
    ∃ pc ∈ (atB m c t h0 p).2.2.1, y ∈ pc.1.set :=
  View.cover_of_tiledL (atB m c t h0 p).2.2.1 S256x512.size (by sl_kernel_rfl) y
theorem coverB_22 (c : Dev nD) (t : Fin cfg0.N) (h0 : ¬t.val % 36 = 0) (p : Outs F) (y : S256x512.Idx) :
    ∃ pc ∈ (atB m c t h0 p).2.2.2.1, y ∈ pc.1.set :=
  View.cover_of_tiledL (atB m c t h0 p).2.2.2.1 S256x512.size (by sl_kernel_rfl) y
theorem coverB_23 (c : Dev nD) (t : Fin cfg0.N) (h0 : ¬t.val % 36 = 0) (p : Outs F) (y : S1x8x1024.Idx) :
    ∃ pc ∈ (atB m c t h0 p).2.2.2.2.1, y ∈ pc.1.set :=
  View.cover_of_tiledBy (atB m c t h0 p).2.2.2.2.1 ![1, 1, 1024] (by sl_kernel_rfl) y
theorem coverB_24 (c : Dev nD) (t : Fin cfg0.N) (h0 : ¬t.val % 36 = 0) (p : Outs F) (y : S512x1024.Idx) :
    ∃ pc ∈ (atB m c t h0 p).2.2.2.2.2.1, y ∈ pc.1.set :=
  View.cover_of_tiledL (atB m c t h0 p).2.2.2.2.2.1 S512x1024.size (by sl_kernel_rfl) y
theorem coverB_25 (c : Dev nD) (t : Fin cfg0.N) (h0 : ¬t.val % 36 = 0) (p : Outs F) (y : S512x1024.Idx) :
    ∃ pc ∈ (atB m c t h0 p).2.2.2.2.2.2.1, y ∈ pc.1.set :=
  View.cover_of_tiledL (atB m c t h0 p).2.2.2.2.2.2.1 S512x1024.size (by sl_kernel_rfl) y
theorem coverB_26 (c : Dev nD) (t : Fin cfg0.N) (h0 : ¬t.val % 36 = 0) (p : Outs F) (y : S512x1024.Idx) :
    ∃ pc ∈ (atB m c t h0 p).2.2.2.2.2.2.2.1, y ∈ pc.1.set :=
  View.cover_of_tiledL (atB m c t h0 p).2.2.2.2.2.2.2.1 S512x1024.size (by sl_kernel_rfl) y
theorem coverB_27 (c : Dev nD) (t : Fin cfg0.N) (h0 : ¬t.val % 36 = 0) (p : Outs F) (y : S1024x1024.Idx) :
    ∃ pc ∈ (atB m c t h0 p).2.2.2.2.2.2.2.2.1, y ∈ pc.1.set :=
  View.cover_of_tiledL (atB m c t h0 p).2.2.2.2.2.2.2.2.1 S1024x1024.size (by sl_kernel_rfl) y
theorem coverB_28 (c : Dev nD) (t : Fin cfg0.N) (h0 : ¬t.val % 36 = 0) (p : Outs F) (y : S1x128.Idx) :
    ∃ pc ∈ (atB m c t h0 p).2.2.2.2.2.2.2.2.2.1, y ∈ pc.1.set :=
  View.cover_of_tiledL (atB m c t h0 p).2.2.2.2.2.2.2.2.2.1 S1x128.size (by sl_kernel_rfl) y

/-- What a later tile leaves in the results' buffers: its pieces read back. -/
def outB (c : Dev nD) (t : Fin cfg0.N) (h0 : ¬t.val % 36 = 0) (p : Outs F) : Outs F :=
  (VO0_19.read (Elt F) (VO0_19.writes (Elt F) VO0_19.junk (atB m c t h0 p).1),
   VO0_20.read (Elt F) (VO0_20.writes (Elt F) VO0_20.junk (atB m c t h0 p).2.1),
   VO0_21.read (Elt F) (VO0_21.writes (Elt F) VO0_21.junk (atB m c t h0 p).2.2.1),
   VO0_22.read (Elt F) (VO0_22.writes (Elt F) VO0_22.junk (atB m c t h0 p).2.2.2.1),
   VO0_23.read (Elt F) (VO0_23.writes (Elt F) VO0_23.junk (atB m c t h0 p).2.2.2.2.1),
   VO0_24.read (Elt F) (VO0_24.writes (Elt F) VO0_24.junk (atB m c t h0 p).2.2.2.2.2.1),
   VO0_25.read (Elt F) (VO0_25.writes (Elt F) VO0_25.junk (atB m c t h0 p).2.2.2.2.2.2.1),
   VO0_26.read (Elt F) (VO0_26.writes (Elt F) VO0_26.junk (atB m c t h0 p).2.2.2.2.2.2.2.1),
   VO0_27.read (Elt F) (VO0_27.writes (Elt F) VO0_27.junk (atB m c t h0 p).2.2.2.2.2.2.2.2.1),
   VO0_28.read (Elt F) (VO0_28.writes (Elt F) VO0_28.junk (atB m c t h0 p).2.2.2.2.2.2.2.2.2.1))

/-- The results' buffers after each tile. -/
def outsAt0 (c : Dev nD) : (n : ℕ) → n < cfg0.N → Outs F
  | 0, hn => outA m c ⟨0, hn⟩ (Nat.zero_mod _)
  | n + 1, hn =>
    if h0 : (n + 1) % 36 = 0 then outA m c ⟨n + 1, hn⟩ h0
    else outB m c ⟨n + 1, hn⟩ h0 (outsAt0 c n (lt_of_le_of_lt (Nat.le_succ n) hn))

theorem outsAt0_A (c : Dev nD) (t : Fin cfg0.N) (h0 : t.val % 36 = 0) :
    outsAt0 m c t.val t.isLt = outA m c t h0 := by
  obtain ⟨n, hn⟩ := t
  cases n with
  | zero => exact rfl
  | succ n => exact (dif_pos h0).trans rfl

theorem outsAt0_B (c : Dev nD) (t : Fin cfg0.N) (h0 : ¬t.val % 36 = 0) :
    outsAt0 m c t.val t.isLt = outB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data: the arrays as the region finds them; after the body the inputs' buffers at their blocks and the
    results' at `outsAt0`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t.val t.isLt).1
    | ⟨20, _⟩ => (outsAt0 m c t.val t.isLt).2.1
    | ⟨21, _⟩ => (outsAt0 m c t.val t.isLt).2.2.1
    | ⟨22, _⟩ => (outsAt0 m c t.val t.isLt).2.2.2.1
    | ⟨23, _⟩ => (outsAt0 m c t.val t.isLt).2.2.2.2.1
    | ⟨24, _⟩ => (outsAt0 m c t.val t.isLt).2.2.2.2.2.1
    | ⟨25, _⟩ => (outsAt0 m c t.val t.isLt).2.2.2.2.2.2.1
    | ⟨26, _⟩ => (outsAt0 m c t.val t.isLt).2.2.2.2.2.2.2.1
    | ⟨27, _⟩ => (outsAt0 m c t.val t.isLt).2.2.2.2.2.2.2.2.1
    | ⟨28, _⟩ => (outsAt0 m c t.val t.isLt).2.2.2.2.2.2.2.2.2
    | ⟨_ + 29, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (outsAt0 m c t.val t.isLt).1 := by dsimp only [dats]
theorem after0_20 (c : Dev nD) (t : Fin cfg0.N) : (dats m 0 c).after 20 t = (outsAt0 m c t.val t.isLt).2.1 := by dsimp only [dats]
theorem after0_21 (c : Dev nD) (t : Fin cfg0.N) : (dats m 0 c).after 21 t = (outsAt0 m c t.val t.isLt).2.2.1 := by dsimp only [dats]
theorem after0_22 (c : Dev nD) (t : Fin cfg0.N) : (dats m 0 c).after 22 t = (outsAt0 m c t.val t.isLt).2.2.2.1 := by dsimp only [dats]
theorem after0_23 (c : Dev nD) (t : Fin cfg0.N) : (dats m 0 c).after 23 t = (outsAt0 m c t.val t.isLt).2.2.2.2.1 := by dsimp only [dats]
theorem after0_24 (c : Dev nD) (t : Fin cfg0.N) : (dats m 0 c).after 24 t = (outsAt0 m c t.val t.isLt).2.2.2.2.2.1 := by dsimp only [dats]
theorem after0_25 (c : Dev nD) (t : Fin cfg0.N) : (dats m 0 c).after 25 t = (outsAt0 m c t.val t.isLt).2.2.2.2.2.2.1 := by dsimp only [dats]
theorem after0_26 (c : Dev nD) (t : Fin cfg0.N) : (dats m 0 c).after 26 t = (outsAt0 m c t.val t.isLt).2.2.2.2.2.2.2.1 := by dsimp only [dats]
theorem after0_27 (c : Dev nD) (t : Fin cfg0.N) : (dats m 0 c).after 27 t = (outsAt0 m c t.val t.isLt).2.2.2.2.2.2.2.2.1 := by dsimp only [dats]
theorem after0_28 (c : Dev nD) (t : Fin cfg0.N) : (dats m 0 c).after 28 t = (outsAt0 m c t.val t.isLt).2.2.2.2.2.2.2.2.2 := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! At a later tile the sums' buffers hold what the tile before left. -/

theorem before0_24_B (c : Dev nD) (t : Fin cfg0.N) (h0 : ¬t.val % 36 = 0) (d) :
    (dats m 0 c).before 24 t d = (outsAt0 m c (t.val - 1) (Nat.lt_of_le_of_lt (Nat.sub_le _ _) t.isLt)).2.2.2.2.2.1 := by
  have hN : t.val < 36 := lt_of_lt_of_eq t.isLt (show cfg0.N = 36 from N_0)
  rw [Dat.before_out_kept _ 24 rfl t (by omega) (Bool.eq_false_iff.mpr fun h => by have := (flush0_24 _).mp h; dsimp only at this; omega)
    (fun _ => rfl) (fun _ _ => rfl)]
  dsimp only [dats]
theorem before0_25_B (c : Dev nD) (t : Fin cfg0.N) (h0 : ¬t.val % 36 = 0) (d) :
    (dats m 0 c).before 25 t d = (outsAt0 m c (t.val - 1) (Nat.lt_of_le_of_lt (Nat.sub_le _ _) t.isLt)).2.2.2.2.2.2.1 := by
  have hN : t.val < 36 := lt_of_lt_of_eq t.isLt (show cfg0.N = 36 from N_0)
  rw [Dat.before_out_kept _ 25 rfl t (by omega) (Bool.eq_false_iff.mpr fun h => by have := (flush0_25 _).mp h; dsimp only at this; omega)
    (fun _ => rfl) (fun _ _ => rfl)]
  dsimp only [dats]
theorem before0_26_B (c : Dev nD) (t : Fin cfg0.N) (h0 : ¬t.val % 36 = 0) (d) :
    (dats m 0 c).before 26 t d = (outsAt0 m c (t.val - 1) (Nat.lt_of_le_of_lt (Nat.sub_le _ _) t.isLt)).2.2.2.2.2.2.2.1 := by
  have hN : t.val < 36 := lt_of_lt_of_eq t.isLt (show cfg0.N = 36 from N_0)
  rw [Dat.before_out_kept _ 26 rfl t (by omega) (Bool.eq_false_iff.mpr fun h => by have := (flush0_26 _).mp h; dsimp only at this; omega)
    (fun _ => rfl) (fun _ _ => rfl)]
  dsimp only [dats]
theorem before0_27_B (c : Dev nD) (t : Fin cfg0.N) (h0 : ¬t.val % 36 = 0) (d) :
    (dats m 0 c).before 27 t d = (outsAt0 m c (t.val - 1) (Nat.lt_of_le_of_lt (Nat.sub_le _ _) t.isLt)).2.2.2.2.2.2.2.2.1 := by
  have hN : t.val < 36 := lt_of_lt_of_eq t.isLt (show cfg0.N = 36 from N_0)
  rw [Dat.before_out_kept _ 27 rfl t (by omega) (Bool.eq_false_iff.mpr fun h => by have := (flush0_27 _).mp h; dsimp only at this; omega)
    (fun _ => rfl) (fun _ _ => rfl)]
  dsimp only [dats]
theorem before0_28_B (c : Dev nD) (t : Fin cfg0.N) (h0 : ¬t.val % 36 = 0) (d) :
    (dats m 0 c).before 28 t d = (outsAt0 m c (t.val - 1) (Nat.lt_of_le_of_lt (Nat.sub_le _ _) t.isLt)).2.2.2.2.2.2.2.2.2 := by
  have hN : t.val < 36 := lt_of_lt_of_eq t.isLt (show cfg0.N = 36 from N_0)
  rw [Dat.before_out_kept _ 28 rfl t (by omega) (Bool.eq_false_iff.mpr fun h => by have := (flush0_28 _).mp h; dsimp only at this; omega)
    (fun _ => rfl) (fun _ _ => rfl)]
  dsimp only [dats]

/-- What the body is called with, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t))

set_option maxHeartbeats 5600000 in
/-- The body at any point runs as it should. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  have hN : t.val < 36 := lt_of_lt_of_eq t.isLt (show cfg0.N = 36 from N_0)
  by_cases h0 : t.val % 36 = 0
  · rw [outsAt0_A m c t h0]
    unfold outA; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply ((atA m c t h0).2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]
    · unfold owns; iexists _; isplitr
      swap; · iexact H19
      ipureintro; exact View.read_writes_of_cover _ _ _ _ _ (coverA_19 m c t h0)
    isplitl [H20]
    · unfold owns; iexists _; isplitr
      swap; · iexact H20
      ipureintro; exact View.read_writes_of_cover _ _ _ _ _ (coverA_20 m c t h0)
    isplitl [H21]
    · unfold owns; iexists _; isplitr
      swap; · iexact H21
      ipureintro; exact View.read_writes_of_cover _ _ _ _ _ (coverA_21 m c t h0)
    isplitl [H22]
    · unfold owns; iexists _; isplitr
      swap; · iexact H22
      ipureintro; exact View.read_writes_of_cover _ _ _ _ _ (coverA_22 m c t h0)
    isplitl [H23]
    · unfold owns; iexists _; isplitr
      swap; · iexact H23
      ipureintro; exact View.read_writes_of_cover _ _ _ _ _ (coverA_23 m c t h0)
    isplitl [H24]
    · unfold owns; iexists _; isplitr
      swap; · iexact H24
      ipureintro; exact View.read_writes_of_cover _ _ _ _ _ (coverA_24 m c t h0)
    isplitl [H25]
    · unfold owns; iexists _; isplitr
      swap; · iexact H25
      ipureintro; exact View.read_writes_of_cover _ _ _ _ _ (coverA_25 m c t h0)
    isplitl [H26]
    · unfold owns; iexists _; isplitr
      swap; · iexact H26
      ipureintro; exact View.read_writes_of_cover _ _ _ _ _ (coverA_26 m c t h0)
    isplitl [H27]
    · unfold owns; iexists _; isplitr
      swap; · iexact H27
      ipureintro; exact View.read_writes_of_cover _ _ _ _ _ (coverA_27 m c t h0)
    unfold owns; iexists _; isplitr
    swap; · iexact H28
    ipureintro; exact View.read_writes_of_cover _ _ _ _ _ (coverA_28 m c t h0)
  · rw [outsAt0_B m c t h0]
    simp only [before0_24_B m c t h0, before0_25_B m c t h0, before0_26_B m c t h0, before0_27_B m c t h0, before0_28_B m c t h0]
    unfold outB; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply ((atB m c t h0 _).2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexact H24
    isplitl [H25]; · iexact H25
    isplitl [H26]; · iexact H26
    isplitl [H27]; · iexact H27
    isplitl [H28]; · iexact H28
    iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]
    · unfold owns; iexists _; isplitr
      swap; · iexact H19
      ipureintro; exact View.read_writes_of_cover _ _ _ _ _ (coverB_19 m c t h0 _)
    isplitl [H20]
    · unfold owns; iexists _; isplitr
      swap; · iexact H20
      ipureintro; exact View.read_writes_of_cover _ _ _ _ _ (coverB_20 m c t h0 _)
    isplitl [H21]
    · unfold owns; iexists _; isplitr
      swap; · iexact H21
      ipureintro; exact View.read_writes_of_cover _ _ _ _ _ (coverB_21 m c t h0 _)
    isplitl [H22]
    · unfold owns; iexists _; isplitr
      swap; · iexact H22
      ipureintro; exact View.read_writes_of_cover _ _ _ _ _ (coverB_22 m c t h0 _)
    isplitl [H23]
    · unfold owns; iexists _; isplitr
      swap; · iexact H23
      ipureintro; exact View.read_writes_of_cover _ _ _ _ _ (coverB_23 m c t h0 _)
    isplitl [H24]
    · unfold owns; iexists _; isplitr
      swap; · iexact H24
      ipureintro; exact View.read_writes_of_cover _ _ _ _ _ (coverB_24 m c t h0 _)
    isplitl [H25]
    · unfold owns; iexists _; isplitr
      swap; · iexact H25
      ipureintro; exact View.read_writes_of_cover _ _ _ _ _ (coverB_25 m c t h0 _)
    isplitl [H26]
    · unfold owns; iexists _; isplitr
      swap; · iexact H26
      ipureintro; exact View.read_writes_of_cover _ _ _ _ _ (coverB_26 m c t h0 _)
    isplitl [H27]
    · unfold owns; iexists _; isplitr
      swap; · iexact H27
      ipureintro; exact View.read_writes_of_cover _ _ _ _ _ (coverB_27 m c t h0 _)
    unfold owns; iexists _; isplitr
    swap; · iexact H28
    ipureintro; exact View.read_writes_of_cover _ _ _ _ _ (coverB_28 m c t h0 _)

/-- The body's row of the table of bodies. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends, with the arrays as the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every run ends with the arrays as the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- The arguments end as they were and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.SplitFrame

end
-- ==== Proof.SplitRow.lean ====
/- The merge's gradient, row by row: what a row gives, and that the gradient through a norm in the call's form is the
   reference's for real rows. -/
module

public import proofs.«01_k».proof.Proof.MergeRow
public import proofs.«01_k».proof.Proof.DxRow
public import proofs.«01_k».proof.Proof.NormClaim

@[expose] public section

noncomputable section

namespace Cert.SplitRow

open Idealize.ShloMosaic Cert.Reals Cert.MergeRow
open Cert.NormClaim (modRow)

/-- A value that is a real number. -/
def IsReal (a : EReal) : Prop := ∃ r : ℝ, a = (r : EReal)

theorem isReal_mul {a b : EReal} (ha : IsReal a) (hb : IsReal b) : IsReal (a * b) := by
  obtain ⟨r, rfl⟩ := ha; obtain ⟨s, rfl⟩ := hb
  exact ⟨r * s, (EReal.coe_mul r s).symm⟩

theorem isReal_add {a b : EReal} (ha : IsReal a) (hb : IsReal b) : IsReal (a + b) := by
  obtain ⟨r, rfl⟩ := ha; obtain ⟨s, rfl⟩ := hb
  exact ⟨r + s, (EReal.coe_add r s).symm⟩

theorem isReal_sub {a b : EReal} (ha : IsReal a) (hb : IsReal b) : IsReal (a - b) := by
  obtain ⟨r, rfl⟩ := ha; obtain ⟨s, rfl⟩ := hb
  exact ⟨r - s, (EReal.coe_sub r s).symm⟩

theorem isReal_sum {n : Nat} {f : Fin n → EReal} (h : ∀ i, IsReal (f i)) : IsReal (∑ i, f i) := by
  choose g hg using h
  exact ⟨∑ i, g i, by rw [coe_sum]; exact Finset.sum_congr rfl fun i _ => hg i⟩

theorem isReal_logistic {a : EReal} (ha : IsReal a) : IsReal (Ideal.logistic a) := by
  obtain ⟨r, rfl⟩ := ha
  exact ⟨_, Ideal.logistic_coe r⟩

theorem isReal_silu {a : EReal} (ha : IsReal a) : IsReal (silu a) := isReal_mul ha (isReal_logistic ha)

theorem small_count : Ideal.ofBits FTy.f32 1124073472#32 = ((128 : ℝ) : EReal) := by
  simp [Ideal.ofBits, Ideal.ieee]
  rw [← EReal.coe_mul]
  norm_num

section norm

variable {n : Nat} (N : EReal) (x w : Fin n → EReal)

/-- What is inside the root of a norm over a row: the mean square and the small constant. -/
def inside : EReal := Ideal.div (∑ e, x e * x e) N + Ideal.ofBits FTy.f32 897988541#32

/-- The gradient through a norm, the call's form. -/
def back (d : Fin n) : EReal :=
  Ideal.rsqrt (inside N x) * (w d - x d * Ideal.rsqrt (inside N x) * Ideal.div (∑ e, x e * Ideal.rsqrt (inside N x) * w e) N)

/-- The factor of the row itself in the reference's gradient. -/
def along : EReal :=
  Ideal.div ((∑ e, x e * w e) * (Ideal.ofBits FTy.f32 3204448256#32 * Ideal.div (Ideal.rsqrt (inside N x)) (inside N x))) N

/-- The gradient through a norm, the reference's form. -/
def refBack (d : Fin n) : EReal := w d * Ideal.rsqrt (inside N x) + x d * along N x w + along N x w * x d

end norm

variable {n : Nat}

theorem inside_coe {k : ℝ} (hk : 0 < k) (x : Fin n → ℝ) : ∃ s : ℝ, 0 < s ∧ inside (k : EReal) (fun e => (x e : EReal)) = (s : EReal) := by
  obtain ⟨e, he, h⟩ := DxRow.small_coe
  refine ⟨(∑ i, x i * x i) / k + e, ?_, ?_⟩
  · have : 0 ≤ ∑ i, x i * x i := Finset.sum_nonneg fun i _ => mul_self_nonneg _
    exact add_pos_of_nonneg_of_pos (div_nonneg this hk.le) he
  · unfold inside
    rw [h]
    simp only [← EReal.coe_mul, ← coe_sum]
    rw [div_coe _ hk.ne', ← EReal.coe_add]

theorem rsqrt_pos {s : ℝ} (hs : 0 < s) : Ideal.rsqrt (s : EReal) = (((Real.sqrt s)⁻¹ : ℝ) : EReal) := by
  rw [Ideal.rsqrt_coe, if_neg (not_lt.2 hs.le), if_neg hs.ne']

theorem isReal_factor {k : ℝ} (hk : 0 < k) {x : Fin n → EReal} (hx : ∀ e, IsReal (x e)) : IsReal (Ideal.rsqrt (inside (k : EReal) x)) := by
  choose y hy using hx
  obtain rfl : x = fun e => (y e : EReal) := funext hy
  obtain ⟨s, hs, h⟩ := inside_coe hk y
  exact ⟨_, by rw [h, rsqrt_pos hs]⟩

theorem isReal_div {a : EReal} {k : ℝ} (hk : 0 < k) (ha : IsReal a) : IsReal (Ideal.div a (k : EReal)) := by
  obtain ⟨r, rfl⟩ := ha
  exact ⟨_, div_coe _ hk.ne'⟩

theorem isReal_back {k : ℝ} (hk : 0 < k) {x w : Fin n → EReal} (hx : ∀ e, IsReal (x e)) (hw : ∀ e, IsReal (w e)) (d : Fin n) : IsReal (back (k : EReal) x w d) :=
  have hr := isReal_factor hk hx
  isReal_mul hr (isReal_sub (hw d) (isReal_mul (isReal_mul (hx d) hr) (isReal_div hk (isReal_sum fun e => isReal_mul (isReal_mul (hx e) hr) (hw e)))))

theorem equal {k : ℝ} (hk : 0 < k) {x w : Fin n → EReal} (hx : ∀ e, IsReal (x e)) (hw : ∀ e, IsReal (w e)) (d : Fin n) :
    back (k : EReal) x w d = refBack (k : EReal) x w d := by
  choose y hy using hx
  choose v hv using hw
  obtain rfl : x = fun e => (y e : EReal) := funext hy
  obtain rfl : w = fun e => (v e : EReal) := funext hv
  obtain ⟨s, hs, h⟩ := inside_coe hk y
  unfold back refBack along
  rw [h, rsqrt_pos hs, DxRow.half_coe, div_coe _ hs.ne']
  simp only [← EReal.coe_mul, ← coe_sum]
  rw [div_coe _ hk.ne', div_coe _ hk.ne']
  simp only [← EReal.coe_mul, ← EReal.coe_sub, ← EReal.coe_add]
  refine congrArg (fun a : ℝ => (a : EReal)) ?_
  have h1 : (∑ e, y e * (Real.sqrt s)⁻¹ * v e) = (Real.sqrt s)⁻¹ * ∑ e, y e * v e := by
    rw [Finset.mul_sum]
    exact Finset.sum_congr rfl fun e _ => by ring
  have h2 : 1 / s = (Real.sqrt s)⁻¹ * (Real.sqrt s)⁻¹ := by
    rw [← mul_inv, Real.mul_self_sqrt hs.le, one_div]
  rw [h1, div_eq_mul_one_div (Real.sqrt s)⁻¹ s, h2]
  ring

/-- What one row of the merge's gradient is made from: the merge's row, the merged row `x` before its norm, and the weights once more, turned over for the call. -/
structure Back where
  R : Row
  x : Fin 1024 → EReal
  dx : Fin 1024 → EReal
  md : Fin 1024 → EReal
  g : Fin 1024 → EReal
  um : Fin 512 → Fin 1024 → EReal
  up : Fin 512 → Fin 1024 → EReal
  ug : Fin 512 → Fin 1024 → EReal
  uo : Fin 1024 → Fin 1024 → EReal

namespace Back

variable (B : Back)

def w (d : Fin 1024) : EReal := B.dx d * B.md d * B.g d
def xn (d : Fin 1024) : EReal := B.x d * Ideal.rsqrt (inside (Ideal.ofBits FTy.f32 1149239296#32) B.x)
def dy (d : Fin 1024) : EReal := back (Ideal.ofBits FTy.f32 1149239296#32) B.x B.w d
def dmix (e : Fin 1024) : EReal := ∑ d, B.dy d * B.uo e d
def am (d : Fin 1024) : EReal := B.dmix d * B.R.gm d
def ap (d : Fin 1024) : EReal := B.dmix d * B.R.gp d
def ag (d : Fin 1024) : EReal := B.dmix d * B.R.gg d
def dym (e : Fin 512) : EReal := ∑ d, B.am d * B.um e d
def dyp (e : Fin 512) : EReal := ∑ d, B.ap d * B.up e d
def dyg (e : Fin 512) : EReal := ∑ d, B.ag d * B.ug e d
def dom (e : Fin 512) : EReal := B.dym e * silu (B.R.za e)
def tt (e : Fin 512) : EReal := B.dyg e * silu (B.R.zg e)
def tg (e : Fin 512) : EReal := B.tt e * B.R.gn (placeOf e)
def dogAt (h : Fin 4) (v : Fin 128) : EReal :=
  back (Ideal.ofBits FTy.f32 1124073472#32) (fun v => B.R.o (lane h v)) (fun v => B.tg (lane h v)) v
def dog (e : Fin 512) : EReal := B.dogAt (headOf e) (placeOf e)

/-- The row's shares of the sums over rows. -/
def dwm (e : Fin 512) (d : Fin 1024) : EReal := B.R.ym e * B.am d
def dwp (e : Fin 512) (d : Fin 1024) : EReal := B.R.yp e * B.ap d
def dwg (e : Fin 512) (d : Fin 1024) : EReal := B.R.yg e * B.ag d
def dwo (e : Fin 1024) (d : Fin 1024) : EReal := B.R.mix e * B.dy d
def dgnAt (h : Fin 4) (v : Fin 128) : EReal := B.tt (lane h v) * (B.R.o (lane h v) * inv B.R.o h)
def st0 (d : Fin 1024) : EReal := B.dx d * (B.xn d * B.g d)
def st1 (d : Fin 1024) : EReal := B.dx d * B.md d * B.xn d

/-- Everything the row is made from is real. -/
structure Real : Prop where
  zm : ∀ i, IsReal (B.R.zm i)
  zg : ∀ i, IsReal (B.R.zg i)
  o : ∀ i, IsReal (B.R.o i)
  gn : ∀ i, IsReal (B.R.gn i)
  x : ∀ i, IsReal (B.x i)
  dx : ∀ i, IsReal (B.dx i)
  md : ∀ i, IsReal (B.md i)
  g : ∀ i, IsReal (B.g i)
  ug : ∀ i j, IsReal (B.ug i j)
  uo : ∀ i j, IsReal (B.uo i j)

variable {B}

theorem Real.w (h : B.Real) (d : Fin 1024) : IsReal (B.w d) := isReal_mul (isReal_mul (h.dx d) (h.md d)) (h.g d)

theorem dy_ref (h : B.Real) (d : Fin 1024) : B.dy d = refBack (Ideal.ofBits FTy.f32 1149239296#32) B.x B.w d := by
  unfold dy
  rw [DxRow.count_coe]
  exact equal (by norm_num) h.x h.w d

theorem Real.tt (h : B.Real) (e : Fin 512) : IsReal (B.tt e) := by
  have hy : ∀ d, IsReal (B.dy d) := fun d => by
    unfold dy
    rw [DxRow.count_coe]
    exact isReal_back (by norm_num) h.x h.w d
  exact isReal_mul (isReal_sum fun d => isReal_mul (isReal_mul (isReal_sum fun _ => isReal_mul (hy _) (h.uo _ _)) (isReal_logistic (h.zm _))) (h.ug _ _)) (isReal_silu (h.zg e))

theorem dog_ref (h : B.Real) (k : Fin 4) (v : Fin 128) :
    B.dogAt k v = refBack (Ideal.ofBits FTy.f32 1124073472#32) (fun v => B.R.o (lane k v)) (fun v => B.tg (lane k v)) v := by
  unfold dogAt
  rw [small_count]
  exact equal (by norm_num) (fun _ => h.o _) (fun _ => isReal_mul (h.tt _) (h.gn _)) v

end Back

/-- A row of the merge is real when what it is made from is. -/
theorem isReal_out (R : Row) (hm : ∀ i, IsReal (R.zm i)) (ha : ∀ i, IsReal (R.za i)) (hg : ∀ i, IsReal (R.zg i)) (hom : ∀ i, IsReal (R.om i)) (hyp : ∀ i, IsReal (R.yp i))
    (ho : ∀ i, IsReal (R.o i)) (hgn : ∀ i, IsReal (R.gn i)) (h6 : ∀ i j, IsReal (R.wm i j)) (h7 : ∀ i j, IsReal (R.wp i j)) (h8 : ∀ i j, IsReal (R.wg i j))
    (h9 : ∀ i j, IsReal (R.wo i j)) (d : Fin 1024) : IsReal (R.out d) := by
  have hi : ∀ h, IsReal (inv R.o h) := fun h => by
    show IsReal (Ideal.rsqrt (inside (Ideal.ofBits FTy.f32 1124073472#32) fun v => R.o (lane h v)))
    rw [small_count]
    exact isReal_factor (by norm_num) fun _ => ho _
  refine isReal_sum fun e => isReal_mul (isReal_add (isReal_add (isReal_mul (isReal_logistic (hm _)) (isReal_sum fun i => ?_))
    (isReal_mul (isReal_logistic (hm _)) (isReal_sum fun i => ?_))) (isReal_mul (isReal_logistic (hm _)) (isReal_sum fun i => ?_))) (h9 _ _)
  · exact isReal_mul (isReal_mul (hom _) (isReal_silu (ha _))) (h6 _ _)
  · exact isReal_mul (hyp _) (h7 _ _)
  · exact isReal_mul (isReal_mul (isReal_mul (isReal_mul (ho _) (hi _)) (hgn _)) (isReal_silu (hg _))) (h8 _ _)

/-- A sum over two leading axes. -/
theorem sum_two {a b c : Nat} (h : (⟨3, ![a, b, c]⟩ : Shape).ReducesTo [0, 1] ⟨1, ![c]⟩) (x : (⟨3, ![a, b, c]⟩ : Shape).Idx → EReal) (init : EReal) (v : Fin c) :
    Ideal.hostReduceAdd h x init (ix1 v) = init + ∑ n : Fin a, ∑ k : Fin b, x (ix3 n k v) := by
  unfold Ideal.hostReduceAdd
  refine congrArg (init + ·) ?_
  have hd : ∀ i : (⟨3, ![a, b, c]⟩ : Shape).Idx, (h.drop i 0 : Nat) = i 2 := fun i => Shape.ReducesTo.drop_apply_val h i 0
  rw [← Fintype.sum_prod_type' fun (n : Fin a) (k : Fin b) => x (ix3 n k v)]
  refine (Finset.sum_bij (fun p _ => ix3 p.1 p.2 v) (fun p _ => ?_) (fun p _ q _ e => ?_) (fun i hi => ?_) fun p _ => rfl).symm
  · refine Finset.mem_filter.2 ⟨Finset.mem_univ _, funext fun k => ?_⟩
    match k with
    | ⟨0, _⟩ => exact Fin.ext (hd _)
  · exact Prod.ext (congrFun e 0) (congrFun e 1)
  · have e := congrFun (Finset.mem_filter.1 hi).2 0
    refine ⟨(i 0, i 1), Finset.mem_univ _, funext fun k => ?_⟩
    match k with
    | ⟨0, _⟩ => rfl
    | ⟨1, _⟩ => rfl
    | ⟨2, _⟩ => exact Fin.ext ((congrArg Fin.val e).symm.trans (hd i))

/-- The row at a place of a tile, a tile's modulation row, and a row's. -/
abbrev rowT (t : Fin 36) (r : Fin 256) : Fin 9216 := ⟨256 * t.val + r.val, by omega⟩
abbrev modT (t : Fin 36) : Fin 8 := modRow ⟨t.val / 9, by omega⟩ ⟨t.val % 9, by omega⟩
abbrev tileOf (n : Fin 9216) : Fin 36 := ⟨n.val / 256, by omega⟩
abbrev atOf (n : Fin 9216) : Fin 256 := ⟨n.val % 256, by omega⟩

theorem rowT_eq (n : Fin 9216) : rowT (tileOf n) (atOf n) = n := Fin.ext (by show 256 * (n.val / 256) + n.val % 256 = n.val; omega)
theorem tileOf_rowT (t : Fin 36) (r : Fin 256) : tileOf (rowT t r) = t := Fin.ext (by show (256 * t.val + r.val) / 256 = t.val; omega)

variable (x0 : FVec Ideal ⟨2, ![9216, 6912]⟩ .f32) (x1 x2 x3 x4 : FVec Ideal ⟨2, ![9216, 512]⟩ .f32) (x5 : FVec Ideal ⟨2, ![1, 128]⟩ .f32)
  (x6 x7 x8 : FVec Ideal ⟨2, ![512, 1024]⟩ .f32) (x9 : FVec Ideal ⟨2, ![1024, 1024]⟩ .f32) (x10 : FVec Ideal ⟨2, ![8, 3072]⟩ .f32) (x11 : FVec Ideal ⟨2, ![1, 1024]⟩ .f32)
  (x12 : FVec Ideal ⟨2, ![9216, 1024]⟩ .f32)

/-- One row of the gradient of the merge's arrays. -/
def backA (n : Fin 9216) : Back where
  R := rowA x0 x1 x2 x3 x4 x5 x6 x7 x8 x9 n
  x := (rowA x0 x1 x2 x3 x4 x5 x6 x7 x8 x9 n).out
  dx := fun d => x12 (ix2 n d)
  md := fun d => x10 (ix2 (modT (tileOf n)) ⟨2048 + d.val, by omega⟩)
  g := fun d => x11 (ix2 0 d)
  um := fun e d => x6 (ix2 e d)
  up := fun e d => x7 (ix2 e d)
  ug := fun e d => x8 (ix2 e d)
  uo := fun e d => x9 (ix2 e d)

end Cert.SplitRow

end
-- ==== Proof.SplitBlock.lean ====
/- The merge's gradient, one tile: what the body stores, row by row. -/
module

public import proofs.«01_k».proof.Proof.Gen.SplitIdeal.Skeleton
public import proofs.«01_k».proof.Proof.SplitRow

@[expose] public section

set_option maxRecDepth 16384

noncomputable section

namespace Cert.SplitBlock

open Cert.SplitIdeal Cert.SplitIdeal.Gen Idealize.ShloMosaic Idealize.ShloMosaic.TcCoe Cert.Reals Cert.MergeRow Cert.SplitRow

/-- The blocks a tile reads. -/
structure Blk (F : FTy → Type) where
  x0 : Vec F S256x3072 .f32
  x1 : Vec F S256x512 .f32
  x2 : Vec F S256x512 .f32
  x3 : Vec F S256x512 .f32
  x4 : Vec F S256x512 .bf16
  x5 : Vec F S256x512 .f32
  x6 : Vec F S256x512 .f32
  x7 : Vec F S1x128 .f32
  x8 : Vec F S512x1024 .bf16
  x9 : Vec F S512x1024 .bf16
  x10 : Vec F S512x1024 .bf16
  x11 : Vec F S1x1x3072 .f32
  x12 : Vec F S1x1024 .f32
  x13 : Vec F S256x1024 .f32
  x14 : Vec F S256x1024 .f32
  x15 : Vec F S1024x512 .bf16
  x16 : Vec F S1024x512 .bf16
  x17 : Vec F S1024x512 .bf16
  x18 : Vec F S1024x1024 .bf16

namespace Blk

section

variable {F : FTy → Type} [FloatOps F] (k : Blk F)

/-! The stages of the body that the stored blocks are made from. -/

def v8 := k0_pay10 k.x1 k.x3
def v11 := k0_pay11 k.x5 k.x6
def v20 := k0_pay13 k.x5 k.x6
def v22 := k0_pay14 k.x5 k.x6
def v31 := k0_pay16 k.x5 k.x6
def v33 := k0_pay17 k.x5 k.x6
def v34 := k0_pay18 k.x5 k.x6
def v37 := k0_pay19 k.x5 k.x6
def v42 := k0_pay20 k.v37 (Scalar.ofBits .f32 0x43000000#32)
def v44 := k0_pay21 k.v34 k.v37 (Scalar.ofBits .f32 0x43000000#32)
def v53 := k0_pay23 k.v11
def v55 := k0_pay24 k.v11
def v58 := k0_pay25 k.x2
def v68 := k0_pay26 k.x2 k.v11 k.v22 k.v33 k.v34 k.v37 (Scalar.ofBits .f32 0x43000000#32) k.x7
def v70 := k0_pay27 k.x4
def v74 := k0_pay28 k.v8 k.x8
def v79 := k0_pay29 k.x4 k.x9
def v86 := k0_pay31 k.x0
def v88 := k0_pay32 k.x0
def v90 := k0_pay33 k.x0
def v95 := k0_pay34 k.v68 k.v74 k.v79 k.x10 k.x0
def v105 := k0_pay36 k.x14
def v107 := k0_pay37 k.x14
def v111 := k0_pay38 k.x11
def v157 := k0_pay44 k.v105 k.v107 k.x12 k.v111 k.x13 k.x18
def v176 := k0_pay49 k.v86 k.v157 k.x15
def v213 := k0_pay59 k.v90 k.v157 k.x17
def v249 := k0_pay65 k.v22 k.v58 k.v213
def v261 := k0_pay66 k.v20 k.v22 k.x7 k.v58 k.v213
def v276 := k0_pay69 k.v58 k.v213
def v279 := k0_pay70 k.v33 k.v58 k.v213
def v292 := k0_pay71 k.v31 k.v33 k.x7 k.v276
def v311 := k0_pay75 k.v44 k.v58 k.v213 k.v249 k.v279
def v323 := k0_pay76 k.v42 k.v44 k.x7 k.v58 k.v213
def v324 := k0_pay77 k.v213

/-! The stored blocks; the last five over what was there. -/

def dom := k0_pay60 k.x1 k.v176
def dyp := k0_pay55 (k0_pay53 k.x16) (k0_pay54 k.v88 k.v157)
def dog := k0_pay4 k.v53 k.v55 k.x7 k.v58 k.v261 k.v292 k.v323 k.v324
def st0 := k0_pay39 k.x14 k.x12 k.x13
def st1 := k0_pay40 k.v107 k.v111 k.x13
def dwm (p : Vec F S512x1024 .f32) := k0_pay48 k.v8 k.v86 k.v157 p
def dwp (p : Vec F S512x1024 .f32) := k0_pay52 k.v70 k.v88 k.v157 p
def dwg (p : Vec F S512x1024 .f32) := k0_pay58 k.v68 k.v90 k.v157 p
def dwo (p : Vec F S1024x1024 .f32) := k0_pay43 k.v95 k.v105 k.v107 k.x12 k.v111 k.x13 p
def dgn (p : Vec F S1x128 .f32) := k0_pay2 k.v55 k.v58 k.v311 k.v324 p

end

variable (k : Blk Ideal)

/-- One row of the blocks. -/
def back (r : Fin 256) : Back where
  R := { zm := fun i => k.x0 (ix2 r i), za := fun e => k.x1 (ix2 r e), zg := fun e => k.x2 (ix2 r e), om := fun e => k.x3 (ix2 r e), yp := fun e => k.x4 (ix2 r e)
         o := fun e => (k.x5 (ix2 r e) : EReal) + k.x6 (ix2 r e), gn := fun v => k.x7 (ix2 0 v)
         wm := fun e d => k.x8 (ix2 e d), wp := fun e d => k.x9 (ix2 e d), wg := fun e d => k.x10 (ix2 e d), wo := fun e d => k.x18 (ix2 d e) }
  x := fun d => k.x14 (ix2 r d)
  dx := fun d => k.x13 (ix2 r d)
  md := fun d => k.x11 (ix3 0 0 ⟨2048 + d.val, by omega⟩)
  g := fun d => k.x12 (ix2 0 d)
  um := fun e d => k.x15 (ix2 d e)
  up := fun e d => k.x16 (ix2 d e)
  ug := fun e d => k.x17 (ix2 d e)
  uo := fun e d => k.x18 (ix2 d e)

theorem lane0 (v : Fin 128) : (⟨v.val, by omega⟩ : Fin 512) = lane 0 v := Fin.ext (by show v.val = 128 * 0 + v.val; omega)
theorem place_lane (h : Fin 4) (v : Fin 128) : placeOf (lane h v) = v := Fin.ext (by show (128 * h.val + v.val) % 128 = v.val; omega)

theorem ym_apply (r : Fin 256) (e : Fin 512) : (k.v8 (ix2 r e) : EReal) = (k.back r).R.ym e := by
  pointwise [v8, k0_pay10]
  rfl

theorem silu_apply (r : Fin 256) (e : Fin 512) : (k.v58 (ix2 r e) : EReal) = silu ((k.back r).R.zg e) := by
  pointwise [v58, k0_pay25]
  rfl

theorem inv0 (r : Fin 256) : (k.v20 (ix2 r 0) : EReal) = inv (k.back r).R.o 0 := by
  pointwise [v20, k0_pay13, k0_pay12, k0_pay11]
  simp only [lane0]
  rfl

theorem normed0 (r : Fin 256) (v : Fin 128) : (k.v22 (ix2 r v) : EReal) = (k.back r).R.o (lane 0 v) * inv (k.back r).R.o 0 := by
  have e : (k0_pay13 k.x5 k.x6 (ix2 r 0) : EReal) = inv (k.back r).R.o 0 := k.inv0 r
  pointwise [v22, k0_pay14, k0_pay12, k0_pay11, e]
  simp only [lane0]
  rfl

theorem inv1 (r : Fin 256) : (k.v31 (ix2 r 0) : EReal) = inv (k.back r).R.o 1 := by
  pointwise [v31, k0_pay16, k0_pay15, k0_pay11]
  rfl

theorem normed1 (r : Fin 256) (v : Fin 128) : (k.v33 (ix2 r v) : EReal) = (k.back r).R.o (lane 1 v) * inv (k.back r).R.o 1 := by
  have e : (k0_pay16 k.x5 k.x6 (ix2 r 0) : EReal) = inv (k.back r).R.o 1 := k.inv1 r
  pointwise [v33, k0_pay17, k0_pay15, k0_pay11, e]
  rfl

theorem inv2 (r : Fin 256) : (k.v42 (ix2 r 0) : EReal) = inv (k.back r).R.o 2 := by
  pointwise [v42, v37, k0_pay20, k0_pay19, k0_pay18, k0_pay11]
  rfl

theorem normed2 (r : Fin 256) (v : Fin 128) : (k.v44 (ix2 r v) : EReal) = (k.back r).R.o (lane 2 v) * inv (k.back r).R.o 2 := by
  have e : (k0_pay20 k.v37 (Ideal.ofBits FTy.f32 1124073472#32) (ix2 r 0) : EReal) = inv (k.back r).R.o 2 := k.inv2 r
  pointwise [v44, v34, k0_pay21, k0_pay18, k0_pay11, e]
  rfl

theorem inv3 (r : Fin 256) : (k.v53 (ix2 r 0) : EReal) = inv (k.back r).R.o 3 := by
  pointwise [v53, v11, k0_pay23, k0_pay22, k0_pay11]
  rfl

theorem normed3 (r : Fin 256) (v : Fin 128) : (k.v55 (ix2 r v) : EReal) = (k.back r).R.o (lane 3 v) * inv (k.back r).R.o 3 := by
  have e : (k0_pay23 k.v11 (ix2 r 0) : EReal) = inv (k.back r).R.o 3 := k.inv3 r
  pointwise [v55, k0_pay24, k0_pay22, e]
  rfl

theorem yg_apply (r : Fin 256) (e : Fin 512) : (k.v68 (ix2 r e) : EReal) = (k.back r).R.yg e := by
  have e2 : ∀ v, (k0_pay21 k.v34 k.v37 (Ideal.ofBits FTy.f32 1124073472#32) (ix2 r v) : EReal) = (k.back r).R.o (lane 2 v) * inv (k.back r).R.o 2 := k.normed2 r
  have e3 : ∀ v, (k0_pay24 k.v11 (ix2 r v) : EReal) = (k.back r).R.o (lane 3 v) * inv (k.back r).R.o 3 := k.normed3 r
  have e4 : (k0_pay25 k.x2 (ix2 r e) : EReal) = silu ((k.back r).R.zg e) := k.silu_apply r e
  pointwise [v68, k0_pay26, normed0, normed1, e2, e3, e4]
  refine congrArg (· * _) ?_
  refine (four (fun h v => (k.back r).R.o (lane h v) * inv (k.back r).R.o h * (k.back r).R.gn v) _ (fun v => rfl) e).trans ?_
  show (k.back r).R.o (lane (headOf e) (placeOf e)) * inv (k.back r).R.o (headOf e) * _ = _
  rw [lane_eq]
  rfl

theorem mix_apply (r : Fin 256) (d : Fin 1024) : (k.v95 (ix2 r d) : EReal) = (k.back r).R.mix d := by
  pointwise [v95, k0_pay34, k0_pay33, k0_pay32, k0_pay31, k0_pay30, v74, v79, k0_pay28, k0_pay29, ym_apply, yg_apply, dot_S256x512_S512x1024_S256x1024_1_0_0_1_n_n]
  rfl

theorem r_apply (r : Fin 256) : (k.v105 (ix2 r 0) : EReal) = Ideal.rsqrt (inside (Ideal.ofBits FTy.f32 1149239296#32) (k.back r).x) := by
  pointwise [v105, k0_pay36, k0_pay35]
  rfl

theorem xn_apply (r : Fin 256) (d : Fin 1024) : (k.v107 (ix2 r d) : EReal) = (k.back r).xn d := by
  have e : (k0_pay36 k.x14 (ix2 r 0) : EReal) = Ideal.rsqrt (inside (Ideal.ofBits FTy.f32 1149239296#32) (k.back r).x) := k.r_apply r
  pointwise [v107, k0_pay37, k0_pay35, e]
  rfl

theorem md_apply (r : Fin 256) (d : Fin 1024) : (k.v111 (ix2 0 d) : EReal) = (k.back r).md d := by
  pointwise [v111, k0_pay38]
  rfl

theorem dy_apply (r : Fin 256) (d : Fin 1024) : (k0_pay42 k.v105 k.v107 k.x12 k.v111 k.x13 (ix2 r d) : EReal) = (k.back r).dy d := by
  pointwise [k0_pay42, r_apply, xn_apply, k.md_apply r]
  rfl

theorem dmix_apply (r : Fin 256) (d : Fin 1024) : (k.v157 (ix2 r d) : EReal) = (k.back r).dmix d := by
  pointwise [v157, k0_pay44, dy_apply, dot_S256x1024_S1024x1024_S256x1024_1_0_0_1_n_n]
  rfl

theorem am_apply (r : Fin 256) (d : Fin 1024) : (k0_pay47 k.v86 k.v157 (ix2 r d) : EReal) = (k.back r).am d := by
  pointwise [k0_pay47, v86, k0_pay31, dmix_apply]
  rfl

theorem ap_apply (r : Fin 256) (d : Fin 1024) : (k0_pay51 k.v88 k.v157 (ix2 r d) : EReal) = (k.back r).ap d := by
  pointwise [k0_pay51, v88, k0_pay32, dmix_apply]
  rfl

theorem ag_apply (r : Fin 256) (d : Fin 1024) : (k0_pay57 k.v90 k.v157 (ix2 r d) : EReal) = (k.back r).ag d := by
  pointwise [k0_pay57, v90, k0_pay33, dmix_apply]
  rfl

theorem dym_apply (r : Fin 256) (e : Fin 512) : (k.v176 (ix2 r e) : EReal) = (k.back r).dym e := by
  pointwise [v176, k0_pay49, am_apply, dot_S256x1024_S1024x512_S256x512_1_0_0_1_n_n]
  rfl

theorem dyg_apply (r : Fin 256) (e : Fin 512) : (k.v213 (ix2 r e) : EReal) = (k.back r).dyg e := by
  pointwise [v213, k0_pay59, ag_apply, dot_S256x1024_S1024x512_S256x512_1_0_0_1_n_n]
  rfl

theorem dom_apply (r : Fin 256) (e : Fin 512) : (k.dom (ix2 r e) : EReal) = (k.back r).dom e := by
  pointwise [dom, k0_pay60, dym_apply]
  rfl

theorem dyp_apply (r : Fin 256) (e : Fin 512) : (k.dyp (ix2 r e) : EReal) = (k.back r).dyp e := by
  pointwise [dyp, k0_pay55, k0_pay54, k0_pay53, ap_apply, dot_S256x1024_S1024x512_S256x512_1_0_0_1_n_n]
  rfl

theorem tt0 (r : Fin 256) (v : Fin 128) : (k0_pay64 k.v58 k.v213 (ix2 r v) : EReal) = (k.back r).tt (lane 0 v) := by
  pointwise [k0_pay64, k0_pay62, dyg_apply, silu_apply]
  simp only [lane0]
  rfl

theorem tt1 (r : Fin 256) (v : Fin 128) : (k0_pay69 k.v58 k.v213 (ix2 r v) : EReal) = (k.back r).tt (lane 1 v) := by
  pointwise [k0_pay69, k0_pay67, dyg_apply, silu_apply]
  rfl

theorem tt2 (r : Fin 256) (v : Fin 128) : (k0_pay74 k.v58 k.v213 (ix2 r v) : EReal) = (k.back r).tt (lane 2 v) := by
  pointwise [k0_pay74, k0_pay72, dyg_apply, silu_apply]
  rfl

theorem tt3 (r : Fin 256) (v : Fin 128) : (k0_pay1 k.v58 k.v324 (ix2 r v) : EReal) = (k.back r).tt (lane 3 v) := by
  pointwise [k0_pay1, v324, k0_pay77, dyg_apply, silu_apply]
  rfl

theorem dog0 (r : Fin 256) (v : Fin 128) : (k.v261 (ix2 r v) : EReal) = (k.back r).dogAt 0 v := by
  unfold Back.dogAt Back.tg
  simp only [place_lane]
  pointwise [v261, k0_pay66, inv0, normed0, tt0]
  rfl

theorem dog1 (r : Fin 256) (v : Fin 128) : (k.v292 (ix2 r v) : EReal) = (k.back r).dogAt 1 v := by
  have et : ∀ v, (k.v276 (ix2 r v) : EReal) = (k.back r).tt (lane 1 v) := k.tt1 r
  unfold Back.dogAt Back.tg
  simp only [place_lane]
  pointwise [v292, k0_pay71, inv1, normed1, et]
  rfl

theorem dog2 (r : Fin 256) (v : Fin 128) : (k.v323 (ix2 r v) : EReal) = (k.back r).dogAt 2 v := by
  unfold Back.dogAt Back.tg
  simp only [place_lane]
  pointwise [v323, k0_pay76, inv2, normed2, tt2]
  rfl

theorem dog_apply (r : Fin 256) (e : Fin 512) : (k.dog (ix2 r e) : EReal) = (k.back r).dog e := by
  refine Eq.trans ?_ (four (k.back r).dogAt ((k.back r).dogAt 0) (fun v => rfl) e)
  pointwise [dog, k0_pay4, dog0, dog1, dog2, inv3, normed3, tt3]
  split
  · rfl
  split
  · rfl
  split
  · rfl
  unfold Back.dogAt Back.tg
  simp only [place_lane]
  rfl

theorem dwm_apply (p : Vec Ideal S512x1024 .f32) (e : Fin 512) (d : Fin 1024) : (k.dwm p (ix2 e d) : EReal) = p (ix2 e d) + ∑ r, (k.back r).dwm e d := by
  pointwise [dwm, k0_pay48, am_apply, ym_apply, dot_S256x512_S256x1024_S512x1024_0_0_1_1_n_n]
  rfl

theorem dwp_apply (p : Vec Ideal S512x1024 .f32) (e : Fin 512) (d : Fin 1024) : (k.dwp p (ix2 e d) : EReal) = p (ix2 e d) + ∑ r, (k.back r).dwp e d := by
  pointwise [dwp, k0_pay52, ap_apply, v70, k0_pay27, dot_S256x512_S256x1024_S512x1024_0_0_1_1_n_n]
  rfl

theorem dwg_apply (p : Vec Ideal S512x1024 .f32) (e : Fin 512) (d : Fin 1024) : (k.dwg p (ix2 e d) : EReal) = p (ix2 e d) + ∑ r, (k.back r).dwg e d := by
  pointwise [dwg, k0_pay58, ag_apply, yg_apply, dot_S256x512_S256x1024_S512x1024_0_0_1_1_n_n]
  rfl

theorem dwo_apply (p : Vec Ideal S1024x1024 .f32) (e d : Fin 1024) : (k.dwo p (ix2 e d) : EReal) = p (ix2 e d) + ∑ r, (k.back r).dwo e d := by
  pointwise [dwo, k0_pay43, dy_apply, mix_apply, dot_S256x1024_S256x1024_S1024x1024_0_0_1_1_n_n]
  rfl

theorem dgn_apply (p : Vec Ideal S1x128 .f32) (v : Fin 128) : (k.dgn p (ix2 0 v) : EReal) = p (ix2 0 v) + ∑ r, ∑ h, (k.back r).dgnAt h v := by
  pointwise [dgn, k0_pay2, v311, k0_pay75, v249, k0_pay65, v279, k0_pay70, tt0, tt1, tt2, tt3, normed0, normed1, normed2, normed3]
  simp only [Fin.sum_univ_four, Finset.sum_add_distrib]
  rfl

theorem st0_apply (d : Fin 1024) : (k.st0 (ix3 0 0 d) : EReal) = ∑ r, (k.back r).st0 d := by
  have e : ∀ r, (k0_pay37 k.x14 (ix2 r d) : EReal) = (k.back r).xn d := fun r => k.xn_apply r d
  pointwise [st0, k0_pay39, e]
  exact Finset.sum_congr rfl fun r _ => mul_assoc _ _ _

theorem st1_apply (d : Fin 1024) : (k.st1 (ix3 0 0 d) : EReal) = ∑ r, (k.back r).st1 d := by
  pointwise [st1, k0_pay40, xn_apply, k.md_apply 0]
  rfl

end Blk

end Cert.SplitBlock

end
-- ==== Proof.SplitArrays.lean ====
/- The merge gradient's call: what its body stores at each tile, the places of its blocks, and its arrays row by row. -/
module

public import proofs.«01_k».proof.Proof.SplitFrame
public import proofs.«01_k».proof.Proof.SplitBlock
public import proofs.«01_k».proof.Proof.DxArrays
public import proofs.«01_k».proof.Proof.MergeValue

@[expose] public section

set_option maxRecDepth 16384

noncomputable section

namespace Cert.SplitArrays

open Cert.SplitIdeal Cert.SplitIdeal.Gen Cert.SplitFrame Idealize.ShloMosaic Idealize.ShloMosaic.TcCoe Idealize.SL.Sem Cert.Reals Cert.MergeRow Cert.SplitRow Cert.SplitBlock

theorem hz2 : (![0, 0] : Fin 2 → Nat) = fun _ => 0 := funext fun a => by fin_cases a <;> rfl
theorem hz3 : (![0, 0, 0] : Fin 3 → Nat) = fun _ => 0 := funext fun a => by fin_cases a <;> rfl

section

variable {F : FTy → Type} [FloatOps F] (m : (ℓ : Loc nD τ sig) → Buf (Elt F) ℓ) (c : Dev nD)

/-- The blocks of a tile. -/
def blk (t : Fin cfg0.N) : Blk F where
  x0 := X0_0 m c t
  x1 := X0_1 m c t
  x2 := X0_2 m c t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t
  x16 := iblk m c 16 t
  x17 := iblk m c 17 t
  x18 := iblk m c 18 t

/-! ### What the body stores -/

set_option maxHeartbeats 4000000 in
theorem outA_20 (t : Fin cfg0.N) (h0 : t.val % 36 = 0) : (outA m c t h0).2.1 = (blk m c t).dom := by
  unfold outA
  dsimp only
  rw [View.read_writes_eq_canon _ _ _ (coverA_20 m c t h0)]
  unfold atA runA; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread]
  rw [View.canon_unit_zero (by decide)]
  simp only [View.ld_unit_zero (S := S256x3072) hz2, View.ld_unit_zero (S := S256x512) hz2, View.ld_unit_zero (S := S1x128) hz2, View.ld_unit_zero (S := S512x1024) hz2, View.ld_unit_zero (S := S1x1024) hz2, View.ld_unit_zero (S := S256x1024) hz2, View.ld_unit_zero (S := S1024x512) hz2, View.ld_unit_zero (S := S1024x1024) hz2, View.ld_unit_zero (S := S1x1x3072) hz3]
  simp only [blk, Blk.dom, Blk.dyp, Blk.dog, Blk.dwm, Blk.dwp, Blk.dwg, Blk.dwo, Blk.dgn, Blk.v8, Blk.v11, Blk.v20, Blk.v22, Blk.v31, Blk.v33, Blk.v34, Blk.v37, Blk.v42, Blk.v44, Blk.v53, Blk.v55, Blk.v58, Blk.v68, Blk.v70, Blk.v74, Blk.v79, Blk.v86, Blk.v88, Blk.v90, Blk.v95, Blk.v105, Blk.v107, Blk.v111, Blk.v157, Blk.v176, Blk.v213, Blk.v249, Blk.v261, Blk.v276, Blk.v279, Blk.v292, Blk.v311, Blk.v323, Blk.v324]

set_option maxHeartbeats 4000000 in
theorem outA_21 (t : Fin cfg0.N) (h0 : t.val % 36 = 0) : (outA m c t h0).2.2.1 = (blk m c t).dyp := by
  unfold outA
  dsimp only
  rw [View.read_writes_eq_canon _ _ _ (coverA_21 m c t h0)]
  unfold atA runA; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread]
  rw [View.canon_unit_zero (by decide)]
  simp only [View.ld_unit_zero (S := S256x3072) hz2, View.ld_unit_zero (S := S256x512) hz2, View.ld_unit_zero (S := S1x128) hz2, View.ld_unit_zero (S := S512x1024) hz2, View.ld_unit_zero (S := S1x1024) hz2, View.ld_unit_zero (S := S256x1024) hz2, View.ld_unit_zero (S := S1024x512) hz2, View.ld_unit_zero (S := S1024x1024) hz2, View.ld_unit_zero (S := S1x1x3072) hz3]
  simp only [blk, Blk.dom, Blk.dyp, Blk.dog, Blk.dwm, Blk.dwp, Blk.dwg, Blk.dwo, Blk.dgn, Blk.v8, Blk.v11, Blk.v20, Blk.v22, Blk.v31, Blk.v33, Blk.v34, Blk.v37, Blk.v42, Blk.v44, Blk.v53, Blk.v55, Blk.v58, Blk.v68, Blk.v70, Blk.v74, Blk.v79, Blk.v86, Blk.v88, Blk.v90, Blk.v95, Blk.v105, Blk.v107, Blk.v111, Blk.v157, Blk.v176, Blk.v213, Blk.v249, Blk.v261, Blk.v276, Blk.v279, Blk.v292, Blk.v311, Blk.v323, Blk.v324]

set_option maxHeartbeats 4000000 in
theorem outA_22 (t : Fin cfg0.N) (h0 : t.val % 36 = 0) : (outA m c t h0).2.2.2.1 = (blk m c t).dog := by
  unfold outA
  dsimp only
  rw [View.read_writes_eq_canon _ _ _ (coverA_22 m c t h0)]
  unfold atA runA; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread]
  rw [View.canon_unit_zero (by decide)]
  simp only [View.ld_unit_zero (S := S256x3072) hz2, View.ld_unit_zero (S := S256x512) hz2, View.ld_unit_zero (S := S1x128) hz2, View.ld_unit_zero (S := S512x1024) hz2, View.ld_unit_zero (S := S1x1024) hz2, View.ld_unit_zero (S := S256x1024) hz2, View.ld_unit_zero (S := S1024x512) hz2, View.ld_unit_zero (S := S1024x1024) hz2, View.ld_unit_zero (S := S1x1x3072) hz3]
  simp only [blk, Blk.dom, Blk.dyp, Blk.dog, Blk.dwm, Blk.dwp, Blk.dwg, Blk.dwo, Blk.dgn, Blk.v8, Blk.v11, Blk.v20, Blk.v22, Blk.v31, Blk.v33, Blk.v34, Blk.v37, Blk.v42, Blk.v44, Blk.v53, Blk.v55, Blk.v58, Blk.v68, Blk.v70, Blk.v74, Blk.v79, Blk.v86, Blk.v88, Blk.v90, Blk.v95, Blk.v105, Blk.v107, Blk.v111, Blk.v157, Blk.v176, Blk.v213, Blk.v249, Blk.v261, Blk.v276, Blk.v279, Blk.v292, Blk.v311, Blk.v323, Blk.v324]

set_option maxHeartbeats 4000000 in
theorem outA_24 (t : Fin cfg0.N) (h0 : t.val % 36 = 0) : (outA m c t h0).2.2.2.2.2.1 = (blk m c t).dwm (k0_pay5) := by
  unfold outA
  dsimp only
  rw [View.read_writes_eq_canon _ _ _ (coverA_24 m c t h0)]
  unfold atA runA; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread]
  rw [View.canon_cons_unit_zero hz2]
  simp only [View.readCov_unit_zero (S := S512x1024) _ hz2, View.readCov_unit_zero (S := S1024x1024) _ hz2, View.readCov_unit_zero (S := S1x128) _ hz2, View.ld_unit_zero (S := S256x3072) hz2, View.ld_unit_zero (S := S256x512) hz2, View.ld_unit_zero (S := S1x128) hz2, View.ld_unit_zero (S := S512x1024) hz2, View.ld_unit_zero (S := S1x1024) hz2, View.ld_unit_zero (S := S256x1024) hz2, View.ld_unit_zero (S := S1024x512) hz2, View.ld_unit_zero (S := S1024x1024) hz2, View.ld_unit_zero (S := S1x1x3072) hz3]
  simp only [blk, Blk.dom, Blk.dyp, Blk.dog, Blk.dwm, Blk.dwp, Blk.dwg, Blk.dwo, Blk.dgn, Blk.v8, Blk.v11, Blk.v20, Blk.v22, Blk.v31, Blk.v33, Blk.v34, Blk.v37, Blk.v42, Blk.v44, Blk.v53, Blk.v55, Blk.v58, Blk.v68, Blk.v70, Blk.v74, Blk.v79, Blk.v86, Blk.v88, Blk.v90, Blk.v95, Blk.v105, Blk.v107, Blk.v111, Blk.v157, Blk.v176, Blk.v213, Blk.v249, Blk.v261, Blk.v276, Blk.v279, Blk.v292, Blk.v311, Blk.v323, Blk.v324]

set_option maxHeartbeats 4000000 in
theorem outA_25 (t : Fin cfg0.N) (h0 : t.val % 36 = 0) : (outA m c t h0).2.2.2.2.2.2.1 = (blk m c t).dwp (k0_pay6) := by
  unfold outA
  dsimp only
  rw [View.read_writes_eq_canon _ _ _ (coverA_25 m c t h0)]
  unfold atA runA; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread]
  rw [View.canon_cons_unit_zero hz2]
  simp only [View.readCov_unit_zero (S := S512x1024) _ hz2, View.readCov_unit_zero (S := S1024x1024) _ hz2, View.readCov_unit_zero (S := S1x128) _ hz2, View.ld_unit_zero (S := S256x3072) hz2, View.ld_unit_zero (S := S256x512) hz2, View.ld_unit_zero (S := S1x128) hz2, View.ld_unit_zero (S := S512x1024) hz2, View.ld_unit_zero (S := S1x1024) hz2, View.ld_unit_zero (S := S256x1024) hz2, View.ld_unit_zero (S := S1024x512) hz2, View.ld_unit_zero (S := S1024x1024) hz2, View.ld_unit_zero (S := S1x1x3072) hz3]
  simp only [blk, Blk.dom, Blk.dyp, Blk.dog, Blk.dwm, Blk.dwp, Blk.dwg, Blk.dwo, Blk.dgn, Blk.v8, Blk.v11, Blk.v20, Blk.v22, Blk.v31, Blk.v33, Blk.v34, Blk.v37, Blk.v42, Blk.v44, Blk.v53, Blk.v55, Blk.v58, Blk.v68, Blk.v70, Blk.v74, Blk.v79, Blk.v86, Blk.v88, Blk.v90, Blk.v95, Blk.v105, Blk.v107, Blk.v111, Blk.v157, Blk.v176, Blk.v213, Blk.v249, Blk.v261, Blk.v276, Blk.v279, Blk.v292, Blk.v311, Blk.v323, Blk.v324]

set_option maxHeartbeats 4000000 in
theorem outA_26 (t : Fin cfg0.N) (h0 : t.val % 36 = 0) : (outA m c t h0).2.2.2.2.2.2.2.1 = (blk m c t).dwg (k0_pay7) := by
  unfold outA
  dsimp only
  rw [View.read_writes_eq_canon _ _ _ (coverA_26 m c t h0)]
  unfold atA runA; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread]
  rw [View.canon_cons_unit_zero hz2]
  simp only [View.readCov_unit_zero (S := S512x1024) _ hz2, View.readCov_unit_zero (S := S1024x1024) _ hz2, View.readCov_unit_zero (S := S1x128) _ hz2, View.ld_unit_zero (S := S256x3072) hz2, View.ld_unit_zero (S := S256x512) hz2, View.ld_unit_zero (S := S1x128) hz2, View.ld_unit_zero (S := S512x1024) hz2, View.ld_unit_zero (S := S1x1024) hz2, View.ld_unit_zero (S := S256x1024) hz2, View.ld_unit_zero (S := S1024x512) hz2, View.ld_unit_zero (S := S1024x1024) hz2, View.ld_unit_zero (S := S1x1x3072) hz3]
  simp only [blk, Blk.dom, Blk.dyp, Blk.dog, Blk.dwm, Blk.dwp, Blk.dwg, Blk.dwo, Blk.dgn, Blk.v8, Blk.v11, Blk.v20, Blk.v22, Blk.v31, Blk.v33, Blk.v34, Blk.v37, Blk.v42, Blk.v44, Blk.v53, Blk.v55, Blk.v58, Blk.v68, Blk.v70, Blk.v74, Blk.v79, Blk.v86, Blk.v88, Blk.v90, Blk.v95, Blk.v105, Blk.v107, Blk.v111, Blk.v157, Blk.v176, Blk.v213, Blk.v249, Blk.v261, Blk.v276, Blk.v279, Blk.v292, Blk.v311, Blk.v323, Blk.v324]

set_option maxHeartbeats 4000000 in
theorem outA_27 (t : Fin cfg0.N) (h0 : t.val % 36 = 0) : (outA m c t h0).2.2.2.2.2.2.2.2.1 = (blk m c t).dwo (k0_pay8) := by
  unfold outA
  dsimp only
  rw [View.read_writes_eq_canon _ _ _ (coverA_27 m c t h0)]
  unfold atA runA; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread]
  rw [View.canon_cons_unit_zero hz2]
  simp only [View.readCov_unit_zero (S := S512x1024) _ hz2, View.readCov_unit_zero (S := S1024x1024) _ hz2, View.readCov_unit_zero (S := S1x128) _ hz2, View.ld_unit_zero (S := S256x3072) hz2, View.ld_unit_zero (S := S256x512) hz2, View.ld_unit_zero (S := S1x128) hz2, View.ld_unit_zero (S := S512x1024) hz2, View.ld_unit_zero (S := S1x1024) hz2, View.ld_unit_zero (S := S256x1024) hz2, View.ld_unit_zero (S := S1024x512) hz2, View.ld_unit_zero (S := S1024x1024) hz2, View.ld_unit_zero (S := S1x1x3072) hz3]
  simp only [blk, Blk.dom, Blk.dyp, Blk.dog, Blk.dwm, Blk.dwp, Blk.dwg, Blk.dwo, Blk.dgn, Blk.v8, Blk.v11, Blk.v20, Blk.v22, Blk.v31, Blk.v33, Blk.v34, Blk.v37, Blk.v42, Blk.v44, Blk.v53, Blk.v55, Blk.v58, Blk.v68, Blk.v70, Blk.v74, Blk.v79, Blk.v86, Blk.v88, Blk.v90, Blk.v95, Blk.v105, Blk.v107, Blk.v111, Blk.v157, Blk.v176, Blk.v213, Blk.v249, Blk.v261, Blk.v276, Blk.v279, Blk.v292, Blk.v311, Blk.v323, Blk.v324]

set_option maxHeartbeats 4000000 in
theorem outA_28 (t : Fin cfg0.N) (h0 : t.val % 36 = 0) : (outA m c t h0).2.2.2.2.2.2.2.2.2 = (blk m c t).dgn (k0_pay9) := by
  unfold outA
  dsimp only
  rw [View.read_writes_eq_canon _ _ _ (coverA_28 m c t h0)]
  unfold atA runA; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread]
  rw [View.canon_cons_unit_zero hz2]
  simp only [View.readCov_unit_zero (S := S512x1024) _ hz2, View.readCov_unit_zero (S := S1024x1024) _ hz2, View.readCov_unit_zero (S := S1x128) _ hz2, View.ld_unit_zero (S := S256x3072) hz2, View.ld_unit_zero (S := S256x512) hz2, View.ld_unit_zero (S := S1x128) hz2, View.ld_unit_zero (S := S512x1024) hz2, View.ld_unit_zero (S := S1x1024) hz2, View.ld_unit_zero (S := S256x1024) hz2, View.ld_unit_zero (S := S1024x512) hz2, View.ld_unit_zero (S := S1024x1024) hz2, View.ld_unit_zero (S := S1x1x3072) hz3]
  simp only [blk, Blk.dom, Blk.dyp, Blk.dog, Blk.dwm, Blk.dwp, Blk.dwg, Blk.dwo, Blk.dgn, Blk.v8, Blk.v11, Blk.v20, Blk.v22, Blk.v31, Blk.v33, Blk.v34, Blk.v37, Blk.v42, Blk.v44, Blk.v53, Blk.v55, Blk.v58, Blk.v68, Blk.v70, Blk.v74, Blk.v79, Blk.v86, Blk.v88, Blk.v90, Blk.v95, Blk.v105, Blk.v107, Blk.v111, Blk.v157, Blk.v176, Blk.v213, Blk.v249, Blk.v261, Blk.v276, Blk.v279, Blk.v292, Blk.v311, Blk.v323, Blk.v324]

set_option maxHeartbeats 4000000 in
theorem outB_20 (t : Fin cfg0.N) (h0 : ¬t.val % 36 = 0) (p : Outs F) : (outB m c t h0 p).2.1 = (blk m c t).dom := by
  unfold outB
  dsimp only
  rw [View.read_writes_eq_canon _ _ _ (coverB_20 m c t h0 p)]
  unfold atB runB; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread]
  rw [View.canon_unit_zero (by decide)]
  simp only [View.ld_unit_zero (S := S256x3072) hz2, View.ld_unit_zero (S := S256x512) hz2, View.ld_unit_zero (S := S1x128) hz2, View.ld_unit_zero (S := S512x1024) hz2, View.ld_unit_zero (S := S1x1024) hz2, View.ld_unit_zero (S := S256x1024) hz2, View.ld_unit_zero (S := S1024x512) hz2, View.ld_unit_zero (S := S1024x1024) hz2, View.ld_unit_zero (S := S1x1x3072) hz3]
  simp only [blk, Blk.dom, Blk.dyp, Blk.dog, Blk.dwm, Blk.dwp, Blk.dwg, Blk.dwo, Blk.dgn, Blk.v8, Blk.v11, Blk.v20, Blk.v22, Blk.v31, Blk.v33, Blk.v34, Blk.v37, Blk.v42, Blk.v44, Blk.v53, Blk.v55, Blk.v58, Blk.v68, Blk.v70, Blk.v74, Blk.v79, Blk.v86, Blk.v88, Blk.v90, Blk.v95, Blk.v105, Blk.v107, Blk.v111, Blk.v157, Blk.v176, Blk.v213, Blk.v249, Blk.v261, Blk.v276, Blk.v279, Blk.v292, Blk.v311, Blk.v323, Blk.v324]

set_option maxHeartbeats 4000000 in
theorem outB_21 (t : Fin cfg0.N) (h0 : ¬t.val % 36 = 0) (p : Outs F) : (outB m c t h0 p).2.2.1 = (blk m c t).dyp := by
  unfold outB
  dsimp only
  rw [View.read_writes_eq_canon _ _ _ (coverB_21 m c t h0 p)]
  unfold atB runB; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread]
  rw [View.canon_unit_zero (by decide)]
  simp only [View.ld_unit_zero (S := S256x3072) hz2, View.ld_unit_zero (S := S256x512) hz2, View.ld_unit_zero (S := S1x128) hz2, View.ld_unit_zero (S := S512x1024) hz2, View.ld_unit_zero (S := S1x1024) hz2, View.ld_unit_zero (S := S256x1024) hz2, View.ld_unit_zero (S := S1024x512) hz2, View.ld_unit_zero (S := S1024x1024) hz2, View.ld_unit_zero (S := S1x1x3072) hz3]
  simp only [blk, Blk.dom, Blk.dyp, Blk.dog, Blk.dwm, Blk.dwp, Blk.dwg, Blk.dwo, Blk.dgn, Blk.v8, Blk.v11, Blk.v20, Blk.v22, Blk.v31, Blk.v33, Blk.v34, Blk.v37, Blk.v42, Blk.v44, Blk.v53, Blk.v55, Blk.v58, Blk.v68, Blk.v70, Blk.v74, Blk.v79, Blk.v86, Blk.v88, Blk.v90, Blk.v95, Blk.v105, Blk.v107, Blk.v111, Blk.v157, Blk.v176, Blk.v213, Blk.v249, Blk.v261, Blk.v276, Blk.v279, Blk.v292, Blk.v311, Blk.v323, Blk.v324]

set_option maxHeartbeats 4000000 in
theorem outB_22 (t : Fin cfg0.N) (h0 : ¬t.val % 36 = 0) (p : Outs F) : (outB m c t h0 p).2.2.2.1 = (blk m c t).dog := by
  unfold outB
  dsimp only
  rw [View.read_writes_eq_canon _ _ _ (coverB_22 m c t h0 p)]
  unfold atB runB; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread]
  rw [View.canon_unit_zero (by decide)]
  simp only [View.ld_unit_zero (S := S256x3072) hz2, View.ld_unit_zero (S := S256x512) hz2, View.ld_unit_zero (S := S1x128) hz2, View.ld_unit_zero (S := S512x1024) hz2, View.ld_unit_zero (S := S1x1024) hz2, View.ld_unit_zero (S := S256x1024) hz2, View.ld_unit_zero (S := S1024x512) hz2, View.ld_unit_zero (S := S1024x1024) hz2, View.ld_unit_zero (S := S1x1x3072) hz3]
  simp only [blk, Blk.dom, Blk.dyp, Blk.dog, Blk.dwm, Blk.dwp, Blk.dwg, Blk.dwo, Blk.dgn, Blk.v8, Blk.v11, Blk.v20, Blk.v22, Blk.v31, Blk.v33, Blk.v34, Blk.v37, Blk.v42, Blk.v44, Blk.v53, Blk.v55, Blk.v58, Blk.v68, Blk.v70, Blk.v74, Blk.v79, Blk.v86, Blk.v88, Blk.v90, Blk.v95, Blk.v105, Blk.v107, Blk.v111, Blk.v157, Blk.v176, Blk.v213, Blk.v249, Blk.v261, Blk.v276, Blk.v279, Blk.v292, Blk.v311, Blk.v323, Blk.v324]

set_option maxHeartbeats 4000000 in
theorem outB_24 (t : Fin cfg0.N) (h0 : ¬t.val % 36 = 0) (p : Outs F) : (outB m c t h0 p).2.2.2.2.2.1 = (blk m c t).dwm p.2.2.2.2.2.1 := by
  unfold outB
  dsimp only
  rw [View.read_writes_eq_canon _ _ _ (coverB_24 m c t h0 p)]
  unfold atB runB; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_24 t).read_unread]
  rw [View.canon_unit_zero (by decide)]
  simp only [View.ld_unit_zero (S := S256x3072) hz2, View.ld_unit_zero (S := S256x512) hz2, View.ld_unit_zero (S := S1x128) hz2, View.ld_unit_zero (S := S512x1024) hz2, View.ld_unit_zero (S := S1x1024) hz2, View.ld_unit_zero (S := S256x1024) hz2, View.ld_unit_zero (S := S1024x512) hz2, View.ld_unit_zero (S := S1024x1024) hz2, View.ld_unit_zero (S := S1x1x3072) hz3]
  simp only [blk, Blk.dom, Blk.dyp, Blk.dog, Blk.dwm, Blk.dwp, Blk.dwg, Blk.dwo, Blk.dgn, Blk.v8, Blk.v11, Blk.v20, Blk.v22, Blk.v31, Blk.v33, Blk.v34, Blk.v37, Blk.v42, Blk.v44, Blk.v53, Blk.v55, Blk.v58, Blk.v68, Blk.v70, Blk.v74, Blk.v79, Blk.v86, Blk.v88, Blk.v90, Blk.v95, Blk.v105, Blk.v107, Blk.v111, Blk.v157, Blk.v176, Blk.v213, Blk.v249, Blk.v261, Blk.v276, Blk.v279, Blk.v292, Blk.v311, Blk.v323, Blk.v324]

set_option maxHeartbeats 4000000 in
theorem outB_25 (t : Fin cfg0.N) (h0 : ¬t.val % 36 = 0) (p : Outs F) : (outB m c t h0 p).2.2.2.2.2.2.1 = (blk m c t).dwp p.2.2.2.2.2.2.1 := by
  unfold outB
  dsimp only
  rw [View.read_writes_eq_canon _ _ _ (coverB_25 m c t h0 p)]
  unfold atB runB; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_25 t).read_unread]
  rw [View.canon_unit_zero (by decide)]
  simp only [View.ld_unit_zero (S := S256x3072) hz2, View.ld_unit_zero (S := S256x512) hz2, View.ld_unit_zero (S := S1x128) hz2, View.ld_unit_zero (S := S512x1024) hz2, View.ld_unit_zero (S := S1x1024) hz2, View.ld_unit_zero (S := S256x1024) hz2, View.ld_unit_zero (S := S1024x512) hz2, View.ld_unit_zero (S := S1024x1024) hz2, View.ld_unit_zero (S := S1x1x3072) hz3]
  simp only [blk, Blk.dom, Blk.dyp, Blk.dog, Blk.dwm, Blk.dwp, Blk.dwg, Blk.dwo, Blk.dgn, Blk.v8, Blk.v11, Blk.v20, Blk.v22, Blk.v31, Blk.v33, Blk.v34, Blk.v37, Blk.v42, Blk.v44, Blk.v53, Blk.v55, Blk.v58, Blk.v68, Blk.v70, Blk.v74, Blk.v79, Blk.v86, Blk.v88, Blk.v90, Blk.v95, Blk.v105, Blk.v107, Blk.v111, Blk.v157, Blk.v176, Blk.v213, Blk.v249, Blk.v261, Blk.v276, Blk.v279, Blk.v292, Blk.v311, Blk.v323, Blk.v324]

set_option maxHeartbeats 4000000 in
theorem outB_26 (t : Fin cfg0.N) (h0 : ¬t.val % 36 = 0) (p : Outs F) : (outB m c t h0 p).2.2.2.2.2.2.2.1 = (blk m c t).dwg p.2.2.2.2.2.2.2.1 := by
  unfold outB
  dsimp only
  rw [View.read_writes_eq_canon _ _ _ (coverB_26 m c t h0 p)]
  unfold atB runB; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_26 t).read_unread]
  rw [View.canon_unit_zero (by decide)]
  simp only [View.ld_unit_zero (S := S256x3072) hz2, View.ld_unit_zero (S := S256x512) hz2, View.ld_unit_zero (S := S1x128) hz2, View.ld_unit_zero (S := S512x1024) hz2, View.ld_unit_zero (S := S1x1024) hz2, View.ld_unit_zero (S := S256x1024) hz2, View.ld_unit_zero (S := S1024x512) hz2, View.ld_unit_zero (S := S1024x1024) hz2, View.ld_unit_zero (S := S1x1x3072) hz3]
  simp only [blk, Blk.dom, Blk.dyp, Blk.dog, Blk.dwm, Blk.dwp, Blk.dwg, Blk.dwo, Blk.dgn, Blk.v8, Blk.v11, Blk.v20, Blk.v22, Blk.v31, Blk.v33, Blk.v34, Blk.v37, Blk.v42, Blk.v44, Blk.v53, Blk.v55, Blk.v58, Blk.v68, Blk.v70, Blk.v74, Blk.v79, Blk.v86, Blk.v88, Blk.v90, Blk.v95, Blk.v105, Blk.v107, Blk.v111, Blk.v157, Blk.v176, Blk.v213, Blk.v249, Blk.v261, Blk.v276, Blk.v279, Blk.v292, Blk.v311, Blk.v323, Blk.v324]

set_option maxHeartbeats 4000000 in
theorem outB_27 (t : Fin cfg0.N) (h0 : ¬t.val % 36 = 0) (p : Outs F) : (outB m c t h0 p).2.2.2.2.2.2.2.2.1 = (blk m c t).dwo p.2.2.2.2.2.2.2.2.1 := by
  unfold outB
  dsimp only
  rw [View.read_writes_eq_canon _ _ _ (coverB_27 m c t h0 p)]
  unfold atB runB; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_27 t).read_unread]
  rw [View.canon_unit_zero (by decide)]
  simp only [View.ld_unit_zero (S := S256x3072) hz2, View.ld_unit_zero (S := S256x512) hz2, View.ld_unit_zero (S := S1x128) hz2, View.ld_unit_zero (S := S512x1024) hz2, View.ld_unit_zero (S := S1x1024) hz2, View.ld_unit_zero (S := S256x1024) hz2, View.ld_unit_zero (S := S1024x512) hz2, View.ld_unit_zero (S := S1024x1024) hz2, View.ld_unit_zero (S := S1x1x3072) hz3]
  simp only [blk, Blk.dom, Blk.dyp, Blk.dog, Blk.dwm, Blk.dwp, Blk.dwg, Blk.dwo, Blk.dgn, Blk.v8, Blk.v11, Blk.v20, Blk.v22, Blk.v31, Blk.v33, Blk.v34, Blk.v37, Blk.v42, Blk.v44, Blk.v53, Blk.v55, Blk.v58, Blk.v68, Blk.v70, Blk.v74, Blk.v79, Blk.v86, Blk.v88, Blk.v90, Blk.v95, Blk.v105, Blk.v107, Blk.v111, Blk.v157, Blk.v176, Blk.v213, Blk.v249, Blk.v261, Blk.v276, Blk.v279, Blk.v292, Blk.v311, Blk.v323, Blk.v324]

set_option maxHeartbeats 4000000 in
theorem outB_28 (t : Fin cfg0.N) (h0 : ¬t.val % 36 = 0) (p : Outs F) : (outB m c t h0 p).2.2.2.2.2.2.2.2.2 = (blk m c t).dgn p.2.2.2.2.2.2.2.2.2 := by
  unfold outB
  dsimp only
  rw [View.read_writes_eq_canon _ _ _ (coverB_28 m c t h0 p)]
  unfold atB runB; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_28 t).read_unread]
  rw [View.canon_unit_zero (by decide)]
  simp only [View.ld_unit_zero (S := S256x3072) hz2, View.ld_unit_zero (S := S256x512) hz2, View.ld_unit_zero (S := S1x128) hz2, View.ld_unit_zero (S := S512x1024) hz2, View.ld_unit_zero (S := S1x1024) hz2, View.ld_unit_zero (S := S256x1024) hz2, View.ld_unit_zero (S := S1024x512) hz2, View.ld_unit_zero (S := S1024x1024) hz2, View.ld_unit_zero (S := S1x1x3072) hz3]
  simp only [blk, Blk.dom, Blk.dyp, Blk.dog, Blk.dwm, Blk.dwp, Blk.dwg, Blk.dwo, Blk.dgn, Blk.v8, Blk.v11, Blk.v20, Blk.v22, Blk.v31, Blk.v33, Blk.v34, Blk.v37, Blk.v42, Blk.v44, Blk.v53, Blk.v55, Blk.v58, Blk.v68, Blk.v70, Blk.v74, Blk.v79, Blk.v86, Blk.v88, Blk.v90, Blk.v95, Blk.v105, Blk.v107, Blk.v111, Blk.v157, Blk.v176, Blk.v213, Blk.v249, Blk.v261, Blk.v276, Blk.v279, Blk.v292, Blk.v311, Blk.v323, Blk.v324]

/-! ### What a tile leaves -/

theorem left_20 (t : Fin cfg0.N) : (outsAt0 m c t.val t.isLt).2.1 = (blk m c t).dom := by
  by_cases h0 : t.val % 36 = 0
  · rw [outsAt0_A m c t h0, outA_20]
  · rw [outsAt0_B m c t h0, outB_20]

theorem left_21 (t : Fin cfg0.N) : (outsAt0 m c t.val t.isLt).2.2.1 = (blk m c t).dyp := by
  by_cases h0 : t.val % 36 = 0
  · rw [outsAt0_A m c t h0, outA_21]
  · rw [outsAt0_B m c t h0, outB_21]

theorem left_22 (t : Fin cfg0.N) : (outsAt0 m c t.val t.isLt).2.2.2.1 = (blk m c t).dog := by
  by_cases h0 : t.val % 36 = 0
  · rw [outsAt0_A m c t h0, outA_22]
  · rw [outsAt0_B m c t h0, outB_22]

/-! ### What is written back -/

theorem flushed20 (t : Fin cfg0.N) : (dats m 0 c).flushed 20 t = (cfg0.win 20).cut (grid0.coords t) ((outsAt0 m c t.val t.isLt).2.1) := by
  show (cfg0.win 20).cut (grid0.coords t) ((dats m 0 c).after 20 t) = _
  rw [after0_20]

theorem apart20 : ∀ t t' : Fin cfg0.N, win0_20.index t = win0_20.index t' → t = t' :=
  (by decide +kernel : ∀ t t' : Fin grid0.N, win0_20.index t = win0_20.index t' → t = t')

theorem blocks20 (t : Fin cfg0.N) : ((cfg0.win 20).blk t).view.read (Elt F) ((dats m 0 c).arrAt 20 cfg0.N) = (dats m 0 c).flushed 20 t :=
  (dats m 0 c).read_blk_arrAt_eq_flushed 20 (fun t t' _ _ hne => (cfg0.win 20).disjoint_blk fun h => hne (apart20 t t' h)) cfg0.N t t.isLt (flush0_20 t)

theorem flushed21 (t : Fin cfg0.N) : (dats m 0 c).flushed 21 t = (cfg0.win 21).cut (grid0.coords t) ((outsAt0 m c t.val t.isLt).2.2.1) := by
  show (cfg0.win 21).cut (grid0.coords t) ((dats m 0 c).after 21 t) = _
  rw [after0_21]

theorem apart21 : ∀ t t' : Fin cfg0.N, win0_21.index t = win0_21.index t' → t = t' :=
  (by decide +kernel : ∀ t t' : Fin grid0.N, win0_21.index t = win0_21.index t' → t = t')

theorem blocks21 (t : Fin cfg0.N) : ((cfg0.win 21).blk t).view.read (Elt F) ((dats m 0 c).arrAt 21 cfg0.N) = (dats m 0 c).flushed 21 t :=
  (dats m 0 c).read_blk_arrAt_eq_flushed 21 (fun t t' _ _ hne => (cfg0.win 21).disjoint_blk fun h => hne (apart21 t t' h)) cfg0.N t t.isLt (flush0_21 t)

theorem flushed22 (t : Fin cfg0.N) : (dats m 0 c).flushed 22 t = (cfg0.win 22).cut (grid0.coords t) ((outsAt0 m c t.val t.isLt).2.2.2.1) := by
  show (cfg0.win 22).cut (grid0.coords t) ((dats m 0 c).after 22 t) = _
  rw [after0_22]

theorem apart22 : ∀ t t' : Fin cfg0.N, win0_22.index t = win0_22.index t' → t = t' :=
  (by decide +kernel : ∀ t t' : Fin grid0.N, win0_22.index t = win0_22.index t' → t = t')

theorem blocks22 (t : Fin cfg0.N) : ((cfg0.win 22).blk t).view.read (Elt F) ((dats m 0 c).arrAt 22 cfg0.N) = (dats m 0 c).flushed 22 t :=
  (dats m 0 c).read_blk_arrAt_eq_flushed 22 (fun t t' _ _ hne => (cfg0.win 22).disjoint_blk fun h => hne (apart22 t t' h)) cfg0.N t t.isLt (flush0_22 t)

theorem flushed23 (t : Fin cfg0.N) : (dats m 0 c).flushed 23 t = (cfg0.win 23).cut (grid0.coords t) ((outsAt0 m c t.val t.isLt).2.2.2.2.1) := by
  show (cfg0.win 23).cut (grid0.coords t) ((dats m 0 c).after 23 t) = _
  rw [after0_23]

theorem apart23 : ∀ t t' : Fin cfg0.N, win0_23.index t = win0_23.index t' → t = t' :=
  (by decide +kernel : ∀ t t' : Fin grid0.N, win0_23.index t = win0_23.index t' → t = t')

theorem blocks23 (t : Fin cfg0.N) : ((cfg0.win 23).blk t).view.read (Elt F) ((dats m 0 c).arrAt 23 cfg0.N) = (dats m 0 c).flushed 23 t :=
  (dats m 0 c).read_blk_arrAt_eq_flushed 23 (fun t t' _ _ hne => (cfg0.win 23).disjoint_blk fun h => hne (apart23 t t' h)) cfg0.N t t.isLt (flush0_23 t)

theorem flushed24 (t : Fin cfg0.N) : (dats m 0 c).flushed 24 t = (cfg0.win 24).cut (grid0.coords t) ((outsAt0 m c t.val t.isLt).2.2.2.2.2.1) := by
  show (cfg0.win 24).cut (grid0.coords t) ((dats m 0 c).after 24 t) = _
  rw [after0_24]

theorem disjoint24 : ∀ t t' : Fin cfg0.N, (cfg0.win 24).flush t = true → (cfg0.win 24).flush t' = true → t ≠ t' →
    Disjoint ((cfg0.win 24).blk t).view.set ((cfg0.win 24).blk t').view.set := fun t t' hf hf' hne => absurd (Fin.ext (by
      have h : cfg0.N = 36 := N_0
      have := (flush0_24 t).mp hf
      have := (flush0_24 t').mp hf'
      omega)) hne

theorem blocks24 (t : Fin cfg0.N) (h : t.val % 36 = 35) : ((cfg0.win 24).blk t).view.read (Elt F) ((dats m 0 c).arrAt 24 cfg0.N) = (dats m 0 c).flushed 24 t :=
  (dats m 0 c).read_blk_arrAt_eq_flushed 24 disjoint24 cfg0.N t t.isLt ((flush0_24 t).mpr h)

theorem flushed25 (t : Fin cfg0.N) : (dats m 0 c).flushed 25 t = (cfg0.win 25).cut (grid0.coords t) ((outsAt0 m c t.val t.isLt).2.2.2.2.2.2.1) := by
  show (cfg0.win 25).cut (grid0.coords t) ((dats m 0 c).after 25 t) = _
  rw [after0_25]

theorem disjoint25 : ∀ t t' : Fin cfg0.N, (cfg0.win 25).flush t = true → (cfg0.win 25).flush t' = true → t ≠ t' →
    Disjoint ((cfg0.win 25).blk t).view.set ((cfg0.win 25).blk t').view.set := fun t t' hf hf' hne => absurd (Fin.ext (by
      have h : cfg0.N = 36 := N_0
      have := (flush0_25 t).mp hf
      have := (flush0_25 t').mp hf'
      omega)) hne

theorem blocks25 (t : Fin cfg0.N) (h : t.val % 36 = 35) : ((cfg0.win 25).blk t).view.read (Elt F) ((dats m 0 c).arrAt 25 cfg0.N) = (dats m 0 c).flushed 25 t :=
  (dats m 0 c).read_blk_arrAt_eq_flushed 25 disjoint25 cfg0.N t t.isLt ((flush0_25 t).mpr h)

theorem flushed26 (t : Fin cfg0.N) : (dats m 0 c).flushed 26 t = (cfg0.win 26).cut (grid0.coords t) ((outsAt0 m c t.val t.isLt).2.2.2.2.2.2.2.1) := by
  show (cfg0.win 26).cut (grid0.coords t) ((dats m 0 c).after 26 t) = _
  rw [after0_26]

theorem disjoint26 : ∀ t t' : Fin cfg0.N, (cfg0.win 26).flush t = true → (cfg0.win 26).flush t' = true → t ≠ t' →
    Disjoint ((cfg0.win 26).blk t).view.set ((cfg0.win 26).blk t').view.set := fun t t' hf hf' hne => absurd (Fin.ext (by
      have h : cfg0.N = 36 := N_0
      have := (flush0_26 t).mp hf
      have := (flush0_26 t').mp hf'
      omega)) hne

theorem blocks26 (t : Fin cfg0.N) (h : t.val % 36 = 35) : ((cfg0.win 26).blk t).view.read (Elt F) ((dats m 0 c).arrAt 26 cfg0.N) = (dats m 0 c).flushed 26 t :=
  (dats m 0 c).read_blk_arrAt_eq_flushed 26 disjoint26 cfg0.N t t.isLt ((flush0_26 t).mpr h)

theorem flushed27 (t : Fin cfg0.N) : (dats m 0 c).flushed 27 t = (cfg0.win 27).cut (grid0.coords t) ((outsAt0 m c t.val t.isLt).2.2.2.2.2.2.2.2.1) := by
  show (cfg0.win 27).cut (grid0.coords t) ((dats m 0 c).after 27 t) = _
  rw [after0_27]

theorem disjoint27 : ∀ t t' : Fin cfg0.N, (cfg0.win 27).flush t = true → (cfg0.win 27).flush t' = true → t ≠ t' →
    Disjoint ((cfg0.win 27).blk t).view.set ((cfg0.win 27).blk t').view.set := fun t t' hf hf' hne => absurd (Fin.ext (by
      have h : cfg0.N = 36 := N_0
      have := (flush0_27 t).mp hf
      have := (flush0_27 t').mp hf'
      omega)) hne

theorem blocks27 (t : Fin cfg0.N) (h : t.val % 36 = 35) : ((cfg0.win 27).blk t).view.read (Elt F) ((dats m 0 c).arrAt 27 cfg0.N) = (dats m 0 c).flushed 27 t :=
  (dats m 0 c).read_blk_arrAt_eq_flushed 27 disjoint27 cfg0.N t t.isLt ((flush0_27 t).mpr h)

theorem flushed28 (t : Fin cfg0.N) : (dats m 0 c).flushed 28 t = (cfg0.win 28).cut (grid0.coords t) ((outsAt0 m c t.val t.isLt).2.2.2.2.2.2.2.2.2) := by
  show (cfg0.win 28).cut (grid0.coords t) ((dats m 0 c).after 28 t) = _
  rw [after0_28]

theorem disjoint28 : ∀ t t' : Fin cfg0.N, (cfg0.win 28).flush t = true → (cfg0.win 28).flush t' = true → t ≠ t' →
    Disjoint ((cfg0.win 28).blk t).view.set ((cfg0.win 28).blk t').view.set := fun t t' hf hf' hne => absurd (Fin.ext (by
      have h : cfg0.N = 36 := N_0
      have := (flush0_28 t).mp hf
      have := (flush0_28 t').mp hf'
      omega)) hne

theorem blocks28 (t : Fin cfg0.N) (h : t.val % 36 = 35) : ((cfg0.win 28).blk t).view.read (Elt F) ((dats m 0 c).arrAt 28 cfg0.N) = (dats m 0 c).flushed 28 t :=
  (dats m 0 c).read_blk_arrAt_eq_flushed 28 disjoint28 cfg0.N t t.isLt ((flush0_28 t).mpr h)

set_option maxHeartbeats 4000000 in
/-- Every run of the call ends, with its arguments as they were and its results at the arrays. -/
theorem run_arrays (ρ : Dev nD → PrngReg) : θ_run defs (onTc (τ := τ) (main (F := F))) ⟨m, fun _ => 0, ρ⟩ fun r => ∀ c : Dev nD,
      r.2.mem ((c : Thread nD τ).loc main_v54_1) = (dats m 0 c).arrAt 20 cfg0.N
      ∧ r.2.mem ((c : Thread nD τ).loc main_v54_2) = (dats m 0 c).arrAt 21 cfg0.N
      ∧ r.2.mem ((c : Thread nD τ).loc main_v54_3) = (dats m 0 c).arrAt 22 cfg0.N
      ∧ r.2.mem ((c : Thread nD τ).loc main_v54_4) = (dats m 0 c).arrAt 23 cfg0.N
      ∧ r.2.mem ((c : Thread nD τ).loc main_v54_5) = (dats m 0 c).arrAt 24 cfg0.N
      ∧ r.2.mem ((c : Thread nD τ).loc main_v54_6) = (dats m 0 c).arrAt 25 cfg0.N
      ∧ r.2.mem ((c : Thread nD τ).loc main_v54_7) = (dats m 0 c).arrAt 26 cfg0.N
      ∧ r.2.mem ((c : Thread nD τ).loc main_v54_8) = (dats m 0 c).arrAt 27 cfg0.N
      ∧ r.2.mem ((c : Thread nD τ).loc main_v54_9) = (dats m 0 c).arrAt 28 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1 20,
    (h c).1 21,
    (h c).1 22,
    (h c).1 23,
    (h c).1 24,
    (h c).1 25,
    (h c).1 26,
    (h c).1 27,
    (h c).1 28,
    ((h c).1 2).trans (((dats m 0 c).arrAt_in 2 rfl _).trans ((A_eq m c 2).trans (V_main_arg0 m c))),
    ((h c).1 3).trans (((dats m 0 c).arrAt_in 3 rfl _).trans ((A_eq m c 3).trans (V_main_arg1 m c))),
    ((h c).2 main_arg2 (Pipeline.mem_restRefs_of main_arg2 (by decide) (by decide))).trans (V_main_arg2 m c),
    ((h c).1 5).trans (((dats m 0 c).arrAt_in 5 rfl _).trans ((A_eq m c 5).trans (V_main_arg3 m c))),
    ((h c).1 6).trans (((dats m 0 c).arrAt_in 6 rfl _).trans ((A_eq m c 6).trans (V_main_arg4 m c))),
    ((h c).1 7).trans (((dats m 0 c).arrAt_in 7 rfl _).trans ((A_eq m c 7).trans (V_main_arg5 m c))),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).1 12).trans (((dats m 0 c).arrAt_in 12 rfl _).trans ((A_eq m c 12).trans (V_main_arg11 m c))),
    ((h c).1 13).trans (((dats m 0 c).arrAt_in 13 rfl _).trans ((A_eq m c 13).trans (V_main_arg12 m c)))⟩) (run_main m ρ)

end

/-! ### The stored sums -/

section

variable {sg : RefSig} {κ : Kind} {sp : Space} {W : ℕ} {e : EltTy} {Val : EltTy → Type}

/-- What three stores of rows 0, 1 and 2 to 7 leave. -/
theorem stacked (v : View sg κ sp (⟨3, ![1, 8, W]⟩ : Shape) e) (f : v.ty.Contents Val)
    (inb0 : ∀ a, (![0, 0, 0] : Fin 3 → ℕ) a + (![1, 1, W] : Fin 3 → ℕ) a ≤ (⟨3, ![1, 8, W]⟩ : Shape).size a)
    (inb1 : ∀ a, (![0, 1, 0] : Fin 3 → ℕ) a + (![1, 1, W] : Fin 3 → ℕ) a ≤ (⟨3, ![1, 8, W]⟩ : Shape).size a)
    (inb2 : ∀ a, (![0, 2, 0] : Fin 3 → ℕ) a + (![1, 6, W] : Fin 3 → ℕ) a ≤ (⟨3, ![1, 8, W]⟩ : Shape).size a)
    (w0 : (Rect.unit (s := (⟨3, ![1, 8, W]⟩ : Shape)) ![0, 0, 0] ![1, 1, W] inb0).shape.Idx → Val e)
    (w1 : (Rect.unit (s := (⟨3, ![1, 8, W]⟩ : Shape)) ![0, 1, 0] ![1, 1, W] inb1).shape.Idx → Val e)
    (w2 : (Rect.unit (s := (⟨3, ![1, 8, W]⟩ : Shape)) ![0, 2, 0] ![1, 6, W] inb2).shape.Idx → Val e)
    (L : List (View.Piece Val (⟨3, ![1, 8, W]⟩ : Shape) e)) (y0 y1 y2 : Val e) (k : Fin 8) (d : Fin W)
    (h0 : w0 (ix3 0 0 d) = y0) (h1 : w1 (ix3 0 0 d) = y1) (h2 : ∀ k', w2 (ix3 0 k' d) = y2) :
    v.read Val (v.writes Val f ((⟨Rect.unit (s := (⟨3, ![1, 8, W]⟩ : Shape)) ![0, 2, 0] ![1, 6, W] inb2, w2⟩ : View.Piece Val (⟨3, ![1, 8, W]⟩ : Shape) e)
        :: (⟨Rect.unit (s := (⟨3, ![1, 8, W]⟩ : Shape)) ![0, 1, 0] ![1, 1, W] inb1, w1⟩ : View.Piece Val (⟨3, ![1, 8, W]⟩ : Shape) e)
        :: (⟨Rect.unit (s := (⟨3, ![1, 8, W]⟩ : Shape)) ![0, 0, 0] ![1, 1, W] inb0, w0⟩ : View.Piece Val (⟨3, ![1, 8, W]⟩ : Shape) e) :: L)) (ix3 0 k d)
      = if k.val < 1 then y0 else if k.val < 2 then y1 else y2 := by
  by_cases c2 : 2 ≤ k.val
  · rw [if_neg (by omega), if_neg (by omega)]
    exact (DxArrays.read_hit _ _ 2 _ _ _ k d ⟨k.val - 2, by omega⟩ (by show k.val = 2 + (k.val - 2); omega)).trans (h2 _)
  refine (DxArrays.read_miss _ _ 2 _ _ _ k d (.inl (by omega))).trans ?_
  by_cases c1 : 1 ≤ k.val
  · rw [if_neg (by omega), if_pos (by omega)]
    exact (DxArrays.read_hit _ _ 1 _ _ _ k d 0 (by show k.val = 1 + 0; omega)).trans h1
  refine (DxArrays.read_miss _ _ 1 _ _ _ k d (.inl (by omega))).trans ?_
  rw [if_pos (by omega)]
  exact (DxArrays.read_hit _ _ 0 _ _ _ k d 0 (by show k.val = 0 + 0; omega)).trans h0

end

section

variable (m : (ℓ : Loc nD τ sig) → Buf (Elt Ideal) ℓ) (c : Dev nD)

set_option maxHeartbeats 4000000 in
theorem outA_23 (t : Fin cfg0.N) (h0 : t.val % 36 = 0) (k : Fin 8) (d : Fin 1024) : (outA m c t h0).2.2.2.2.1 (ix3 0 k d)
    = (if k.val < 1 then ∑ r, ((blk m c t).back r).st0 d else if k.val < 2 then ∑ r, ((blk m c t).back r).st1 d else 0 : EReal) := by
  unfold outA
  dsimp only
  unfold atA runA; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread]
  simp only [View.ld_unit_zero (S := S256x3072) hz2, View.ld_unit_zero (S := S256x512) hz2, View.ld_unit_zero (S := S1x128) hz2, View.ld_unit_zero (S := S512x1024) hz2, View.ld_unit_zero (S := S1x1024) hz2, View.ld_unit_zero (S := S256x1024) hz2, View.ld_unit_zero (S := S1024x512) hz2, View.ld_unit_zero (S := S1024x1024) hz2, View.ld_unit_zero (S := S1x1x3072) hz3]
  refine stacked _ _ _ _ _ _ _ _ _ _ _ _ k d ?_ ?_ ?_
  · refine (congrFun (?_ : _ = (blk m c t).st0) _).trans ((blk m c t).st0_apply d)
    simp only [blk, Blk.st0]
  · refine (congrFun (?_ : _ = (blk m c t).st1) _).trans ((blk m c t).st1_apply d)
    simp only [blk, Blk.st1, Blk.v107, Blk.v111]
  · intro k'
    pointwise [k0_pay41]

set_option maxHeartbeats 4000000 in
theorem outB_23 (t : Fin cfg0.N) (h0 : ¬t.val % 36 = 0) (p : Outs Ideal) (k : Fin 8) (d : Fin 1024) : (outB m c t h0 p).2.2.2.2.1 (ix3 0 k d)
    = (if k.val < 1 then ∑ r, ((blk m c t).back r).st0 d else if k.val < 2 then ∑ r, ((blk m c t).back r).st1 d else 0 : EReal) := by
  unfold outB
  dsimp only
  unfold atB runB; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread]
  simp only [View.ld_unit_zero (S := S256x3072) hz2, View.ld_unit_zero (S := S256x512) hz2, View.ld_unit_zero (S := S1x128) hz2, View.ld_unit_zero (S := S512x1024) hz2, View.ld_unit_zero (S := S1x1024) hz2, View.ld_unit_zero (S := S256x1024) hz2, View.ld_unit_zero (S := S1024x512) hz2, View.ld_unit_zero (S := S1024x1024) hz2, View.ld_unit_zero (S := S1x1x3072) hz3]
  refine stacked _ _ _ _ _ _ _ _ _ _ _ _ k d ?_ ?_ ?_
  · refine (congrFun (?_ : _ = (blk m c t).st0) _).trans ((blk m c t).st0_apply d)
    simp only [blk, Blk.st0]
  · refine (congrFun (?_ : _ = (blk m c t).st1) _).trans ((blk m c t).st1_apply d)
    simp only [blk, Blk.st1, Blk.v107, Blk.v111]
  · intro k'
    pointwise [k0_pay41]

theorem left_23 (t : Fin cfg0.N) (k : Fin 8) (d : Fin 1024) : (outsAt0 m c t.val t.isLt).2.2.2.2.1 (ix3 0 k d)
    = (if k.val < 1 then ∑ r, ((blk m c t).back r).st0 d else if k.val < 2 then ∑ r, ((blk m c t).back r).st1 d else 0 : EReal) := by
  by_cases h0 : t.val % 36 = 0
  · rw [outsAt0_A m c t h0]
    exact outA_23 m c t h0 k d
  · rw [outsAt0_B m c t h0]
    exact outB_23 m c t h0 _ k d

end

/-! ### The blocks' places -/

/-- The grid point of a tile. -/
def pt (t : Fin 36) : Fin cfg0.N := ⟨t.val, by have h : cfg0.N = 36 := N_0; omega⟩

theorem index0 : ∀ t : Fin 36, win0_0.index (pt t) (0 : Fin 2) = t.val ∧ win0_0.index (pt t) (1 : Fin 2) = 0 := by decide +kernel
theorem index1 : ∀ t : Fin 36, win0_1.index (pt t) (0 : Fin 2) = t.val ∧ win0_1.index (pt t) (1 : Fin 2) = 6 := by decide +kernel
theorem index2 : ∀ t : Fin 36, win0_2.index (pt t) (0 : Fin 2) = t.val ∧ win0_2.index (pt t) (1 : Fin 2) = 11 := by decide +kernel
theorem index3 : ∀ t : Fin 36, win0_3.index (pt t) (0 : Fin 2) = t.val ∧ win0_3.index (pt t) (1 : Fin 2) = 0 := by decide +kernel
theorem index4 : ∀ t : Fin 36, win0_4.index (pt t) (0 : Fin 2) = t.val ∧ win0_4.index (pt t) (1 : Fin 2) = 0 := by decide +kernel
theorem index5 : ∀ t : Fin 36, win0_5.index (pt t) (0 : Fin 2) = t.val ∧ win0_5.index (pt t) (1 : Fin 2) = 0 := by decide +kernel
theorem index6 : ∀ t : Fin 36, win0_6.index (pt t) (0 : Fin 2) = t.val ∧ win0_6.index (pt t) (1 : Fin 2) = 0 := by decide +kernel
theorem index7 : ∀ t : Fin 36, win0_7.index (pt t) (0 : Fin 2) = 0 ∧ win0_7.index (pt t) (1 : Fin 2) = 0 := by decide +kernel
theorem index8 : ∀ t : Fin 36, win0_8.index (pt t) (0 : Fin 2) = 0 ∧ win0_8.index (pt t) (1 : Fin 2) = 0 := by decide +kernel
theorem index9 : ∀ t : Fin 36, win0_9.index (pt t) (0 : Fin 2) = 0 ∧ win0_9.index (pt t) (1 : Fin 2) = 0 := by decide +kernel
theorem index10 : ∀ t : Fin 36, win0_10.index (pt t) (0 : Fin 2) = 0 ∧ win0_10.index (pt t) (1 : Fin 2) = 0 := by decide +kernel
theorem index11 : ∀ t : Fin 36, win0_11.index (pt t) (0 : Fin 3) = (modT t).val ∧ win0_11.index (pt t) (1 : Fin 3) = 0 ∧ win0_11.index (pt t) (2 : Fin 3) = 0 := by decide +kernel
theorem index12 : ∀ t : Fin 36, win0_12.index (pt t) (0 : Fin 2) = 0 ∧ win0_12.index (pt t) (1 : Fin 2) = 0 := by decide +kernel
theorem index13 : ∀ t : Fin 36, win0_13.index (pt t) (0 : Fin 2) = t.val ∧ win0_13.index (pt t) (1 : Fin 2) = 0 := by decide +kernel
theorem index14 : ∀ t : Fin 36, win0_14.index (pt t) (0 : Fin 2) = t.val ∧ win0_14.index (pt t) (1 : Fin 2) = 0 := by decide +kernel
theorem index15 : ∀ t : Fin 36, win0_15.index (pt t) (0 : Fin 2) = 0 ∧ win0_15.index (pt t) (1 : Fin 2) = 0 := by decide +kernel
theorem index16 : ∀ t : Fin 36, win0_16.index (pt t) (0 : Fin 2) = 0 ∧ win0_16.index (pt t) (1 : Fin 2) = 0 := by decide +kernel
theorem index17 : ∀ t : Fin 36, win0_17.index (pt t) (0 : Fin 2) = 0 ∧ win0_17.index (pt t) (1 : Fin 2) = 0 := by decide +kernel
theorem index18 : ∀ t : Fin 36, win0_18.index (pt t) (0 : Fin 2) = 0 ∧ win0_18.index (pt t) (1 : Fin 2) = 0 := by decide +kernel
theorem index20 : ∀ t : Fin 36, win0_20.index (pt t) (0 : Fin 2) = t.val ∧ win0_20.index (pt t) (1 : Fin 2) = 0 := by decide +kernel
theorem index21 : ∀ t : Fin 36, win0_21.index (pt t) (0 : Fin 2) = t.val ∧ win0_21.index (pt t) (1 : Fin 2) = 0 := by decide +kernel
theorem index22 : ∀ t : Fin 36, win0_22.index (pt t) (0 : Fin 2) = t.val ∧ win0_22.index (pt t) (1 : Fin 2) = 0 := by decide +kernel
theorem index23 : ∀ t : Fin 36, win0_23.index (pt t) (0 : Fin 3) = t.val ∧ win0_23.index (pt t) (1 : Fin 3) = 0 ∧ win0_23.index (pt t) (2 : Fin 3) = 0 := by decide +kernel
theorem index24 : ∀ t : Fin 36, win0_24.index (pt t) (0 : Fin 2) = 0 ∧ win0_24.index (pt t) (1 : Fin 2) = 0 := by decide +kernel
theorem index25 : ∀ t : Fin 36, win0_25.index (pt t) (0 : Fin 2) = 0 ∧ win0_25.index (pt t) (1 : Fin 2) = 0 := by decide +kernel
theorem index26 : ∀ t : Fin 36, win0_26.index (pt t) (0 : Fin 2) = 0 ∧ win0_26.index (pt t) (1 : Fin 2) = 0 := by decide +kernel
theorem index27 : ∀ t : Fin 36, win0_27.index (pt t) (0 : Fin 2) = 0 ∧ win0_27.index (pt t) (1 : Fin 2) = 0 := by decide +kernel
theorem index28 : ∀ t : Fin 36, win0_28.index (pt t) (0 : Fin 2) = 0 ∧ win0_28.index (pt t) (1 : Fin 2) = 0 := by decide +kernel

theorem emb3 (t : Fin 36) (r : Fin 256) (d : Fin 512) : ((cfg0.win 3).blk (pt t)).view.emb (ix2 r d) = ix2 (rowT t r) d := by
  obtain ⟨h0, h1⟩ := index3 t
  funext a
  apply Fin.ext
  match a with
  | ⟨0, _⟩ => show win0_3.index (pt t) (0 : Fin 2) * 256 + 1 * r.val = 256 * t.val + r.val; omega
  | ⟨1, _⟩ => show win0_3.index (pt t) (1 : Fin 2) * 512 + 1 * d.val = d.val; omega

theorem emb4 (t : Fin 36) (r : Fin 256) (d : Fin 512) : ((cfg0.win 4).blk (pt t)).view.emb (ix2 r d) = ix2 (rowT t r) d := by
  obtain ⟨h0, h1⟩ := index4 t
  funext a
  apply Fin.ext
  match a with
  | ⟨0, _⟩ => show win0_4.index (pt t) (0 : Fin 2) * 256 + 1 * r.val = 256 * t.val + r.val; omega
  | ⟨1, _⟩ => show win0_4.index (pt t) (1 : Fin 2) * 512 + 1 * d.val = d.val; omega

theorem emb5 (t : Fin 36) (r : Fin 256) (d : Fin 512) : ((cfg0.win 5).blk (pt t)).view.emb (ix2 r d) = ix2 (rowT t r) d := by
  obtain ⟨h0, h1⟩ := index5 t
  funext a
  apply Fin.ext
  match a with
  | ⟨0, _⟩ => show win0_5.index (pt t) (0 : Fin 2) * 256 + 1 * r.val = 256 * t.val + r.val; omega
  | ⟨1, _⟩ => show win0_5.index (pt t) (1 : Fin 2) * 512 + 1 * d.val = d.val; omega

theorem emb6 (t : Fin 36) (r : Fin 256) (d : Fin 512) : ((cfg0.win 6).blk (pt t)).view.emb (ix2 r d) = ix2 (rowT t r) d := by
  obtain ⟨h0, h1⟩ := index6 t
  funext a
  apply Fin.ext
  match a with
  | ⟨0, _⟩ => show win0_6.index (pt t) (0 : Fin 2) * 256 + 1 * r.val = 256 * t.val + r.val; omega
  | ⟨1, _⟩ => show win0_6.index (pt t) (1 : Fin 2) * 512 + 1 * d.val = d.val; omega

theorem emb7 (t : Fin 36) (d : Fin 128) : ((cfg0.win 7).blk (pt t)).view.emb (ix2 0 d) = ix2 0 d := by
  obtain ⟨h0, h1⟩ := index7 t
  funext a
  apply Fin.ext
  match a with
  | ⟨0, _⟩ => show win0_7.index (pt t) (0 : Fin 2) * 1 + 1 * 0 = 0; omega
  | ⟨1, _⟩ => show win0_7.index (pt t) (1 : Fin 2) * 128 + 1 * d.val = d.val; omega

theorem emb8 (t : Fin 36) (r : Fin 512) (d : Fin 1024) : ((cfg0.win 8).blk (pt t)).view.emb (ix2 r d) = ix2 r d := by
  obtain ⟨h0, h1⟩ := index8 t
  funext a
  apply Fin.ext
  match a with
  | ⟨0, _⟩ => show win0_8.index (pt t) (0 : Fin 2) * 512 + 1 * r.val = r.val; omega
  | ⟨1, _⟩ => show win0_8.index (pt t) (1 : Fin 2) * 1024 + 1 * d.val = d.val; omega

theorem emb9 (t : Fin 36) (r : Fin 512) (d : Fin 1024) : ((cfg0.win 9).blk (pt t)).view.emb (ix2 r d) = ix2 r d := by
  obtain ⟨h0, h1⟩ := index9 t
  funext a
  apply Fin.ext
  match a with
  | ⟨0, _⟩ => show win0_9.index (pt t) (0 : Fin 2) * 512 + 1 * r.val = r.val; omega
  | ⟨1, _⟩ => show win0_9.index (pt t) (1 : Fin 2) * 1024 + 1 * d.val = d.val; omega

theorem emb10 (t : Fin 36) (r : Fin 512) (d : Fin 1024) : ((cfg0.win 10).blk (pt t)).view.emb (ix2 r d) = ix2 r d := by
  obtain ⟨h0, h1⟩ := index10 t
  funext a
  apply Fin.ext
  match a with
  | ⟨0, _⟩ => show win0_10.index (pt t) (0 : Fin 2) * 512 + 1 * r.val = r.val; omega
  | ⟨1, _⟩ => show win0_10.index (pt t) (1 : Fin 2) * 1024 + 1 * d.val = d.val; omega

theorem emb12 (t : Fin 36) (d : Fin 1024) : ((cfg0.win 12).blk (pt t)).view.emb (ix2 0 d) = ix2 0 d := by
  obtain ⟨h0, h1⟩ := index12 t
  funext a
  apply Fin.ext
  match a with
  | ⟨0, _⟩ => show win0_12.index (pt t) (0 : Fin 2) * 1 + 1 * 0 = 0; omega
  | ⟨1, _⟩ => show win0_12.index (pt t) (1 : Fin 2) * 1024 + 1 * d.val = d.val; omega

theorem emb13 (t : Fin 36) (r : Fin 256) (d : Fin 1024) : ((cfg0.win 13).blk (pt t)).view.emb (ix2 r d) = ix2 (rowT t r) d := by
  obtain ⟨h0, h1⟩ := index13 t
  funext a
  apply Fin.ext
  match a with
  | ⟨0, _⟩ => show win0_13.index (pt t) (0 : Fin 2) * 256 + 1 * r.val = 256 * t.val + r.val; omega
  | ⟨1, _⟩ => show win0_13.index (pt t) (1 : Fin 2) * 1024 + 1 * d.val = d.val; omega

theorem emb14 (t : Fin 36) (r : Fin 256) (d : Fin 1024) : ((cfg0.win 14).blk (pt t)).view.emb (ix2 r d) = ix2 (rowT t r) d := by
  obtain ⟨h0, h1⟩ := index14 t
  funext a
  apply Fin.ext
  match a with
  | ⟨0, _⟩ => show win0_14.index (pt t) (0 : Fin 2) * 256 + 1 * r.val = 256 * t.val + r.val; omega
  | ⟨1, _⟩ => show win0_14.index (pt t) (1 : Fin 2) * 1024 + 1 * d.val = d.val; omega

theorem emb15 (t : Fin 36) (r : Fin 1024) (d : Fin 512) : ((cfg0.win 15).blk (pt t)).view.emb (ix2 r d) = ix2 r d := by
  obtain ⟨h0, h1⟩ := index15 t
  funext a
  apply Fin.ext
  match a with
  | ⟨0, _⟩ => show win0_15.index (pt t) (0 : Fin 2) * 1024 + 1 * r.val = r.val; omega
  | ⟨1, _⟩ => show win0_15.index (pt t) (1 : Fin 2) * 512 + 1 * d.val = d.val; omega

theorem emb16 (t : Fin 36) (r : Fin 1024) (d : Fin 512) : ((cfg0.win 16).blk (pt t)).view.emb (ix2 r d) = ix2 r d := by
  obtain ⟨h0, h1⟩ := index16 t
  funext a
  apply Fin.ext
  match a with
  | ⟨0, _⟩ => show win0_16.index (pt t) (0 : Fin 2) * 1024 + 1 * r.val = r.val; omega
  | ⟨1, _⟩ => show win0_16.index (pt t) (1 : Fin 2) * 512 + 1 * d.val = d.val; omega

theorem emb17 (t : Fin 36) (r : Fin 1024) (d : Fin 512) : ((cfg0.win 17).blk (pt t)).view.emb (ix2 r d) = ix2 r d := by
  obtain ⟨h0, h1⟩ := index17 t
  funext a
  apply Fin.ext
  match a with
  | ⟨0, _⟩ => show win0_17.index (pt t) (0 : Fin 2) * 1024 + 1 * r.val = r.val; omega
  | ⟨1, _⟩ => show win0_17.index (pt t) (1 : Fin 2) * 512 + 1 * d.val = d.val; omega

theorem emb18 (t : Fin 36) (r : Fin 1024) (d : Fin 1024) : ((cfg0.win 18).blk (pt t)).view.emb (ix2 r d) = ix2 r d := by
  obtain ⟨h0, h1⟩ := index18 t
  funext a
  apply Fin.ext
  match a with
  | ⟨0, _⟩ => show win0_18.index (pt t) (0 : Fin 2) * 1024 + 1 * r.val = r.val; omega
  | ⟨1, _⟩ => show win0_18.index (pt t) (1 : Fin 2) * 1024 + 1 * d.val = d.val; omega

theorem emb20 (t : Fin 36) (r : Fin 256) (d : Fin 512) : ((cfg0.win 20).blk (pt t)).view.emb (ix2 r d) = ix2 (rowT t r) d := by
  obtain ⟨h0, h1⟩ := index20 t
  funext a
  apply Fin.ext
  match a with
  | ⟨0, _⟩ => show win0_20.index (pt t) (0 : Fin 2) * 256 + 1 * r.val = 256 * t.val + r.val; omega
  | ⟨1, _⟩ => show win0_20.index (pt t) (1 : Fin 2) * 512 + 1 * d.val = d.val; omega

theorem emb21 (t : Fin 36) (r : Fin 256) (d : Fin 512) : ((cfg0.win 21).blk (pt t)).view.emb (ix2 r d) = ix2 (rowT t r) d := by
  obtain ⟨h0, h1⟩ := index21 t
  funext a
  apply Fin.ext
  match a with
  | ⟨0, _⟩ => show win0_21.index (pt t) (0 : Fin 2) * 256 + 1 * r.val = 256 * t.val + r.val; omega
  | ⟨1, _⟩ => show win0_21.index (pt t) (1 : Fin 2) * 512 + 1 * d.val = d.val; omega

theorem emb22 (t : Fin 36) (r : Fin 256) (d : Fin 512) : ((cfg0.win 22).blk (pt t)).view.emb (ix2 r d) = ix2 (rowT t r) d := by
  obtain ⟨h0, h1⟩ := index22 t
  funext a
  apply Fin.ext
  match a with
  | ⟨0, _⟩ => show win0_22.index (pt t) (0 : Fin 2) * 256 + 1 * r.val = 256 * t.val + r.val; omega
  | ⟨1, _⟩ => show win0_22.index (pt t) (1 : Fin 2) * 512 + 1 * d.val = d.val; omega

theorem emb24 (t : Fin 36) (r : Fin 512) (d : Fin 1024) : ((cfg0.win 24).blk (pt t)).view.emb (ix2 r d) = ix2 r d := by
  obtain ⟨h0, h1⟩ := index24 t
  funext a
  apply Fin.ext
  match a with
  | ⟨0, _⟩ => show win0_24.index (pt t) (0 : Fin 2) * 512 + 1 * r.val = r.val; omega
  | ⟨1, _⟩ => show win0_24.index (pt t) (1 : Fin 2) * 1024 + 1 * d.val = d.val; omega

theorem emb25 (t : Fin 36) (r : Fin 512) (d : Fin 1024) : ((cfg0.win 25).blk (pt t)).view.emb (ix2 r d) = ix2 r d := by
  obtain ⟨h0, h1⟩ := index25 t
  funext a
  apply Fin.ext
  match a with
  | ⟨0, _⟩ => show win0_25.index (pt t) (0 : Fin 2) * 512 + 1 * r.val = r.val; omega
  | ⟨1, _⟩ => show win0_25.index (pt t) (1 : Fin 2) * 1024 + 1 * d.val = d.val; omega

theorem emb26 (t : Fin 36) (r : Fin 512) (d : Fin 1024) : ((cfg0.win 26).blk (pt t)).view.emb (ix2 r d) = ix2 r d := by
  obtain ⟨h0, h1⟩ := index26 t
  funext a
  apply Fin.ext
  match a with
  | ⟨0, _⟩ => show win0_26.index (pt t) (0 : Fin 2) * 512 + 1 * r.val = r.val; omega
  | ⟨1, _⟩ => show win0_26.index (pt t) (1 : Fin 2) * 1024 + 1 * d.val = d.val; omega

theorem emb27 (t : Fin 36) (r : Fin 1024) (d : Fin 1024) : ((cfg0.win 27).blk (pt t)).view.emb (ix2 r d) = ix2 r d := by
  obtain ⟨h0, h1⟩ := index27 t
  funext a
  apply Fin.ext
  match a with
  | ⟨0, _⟩ => show win0_27.index (pt t) (0 : Fin 2) * 1024 + 1 * r.val = r.val; omega
  | ⟨1, _⟩ => show win0_27.index (pt t) (1 : Fin 2) * 1024 + 1 * d.val = d.val; omega

theorem emb28 (t : Fin 36) (d : Fin 128) : ((cfg0.win 28).blk (pt t)).view.emb (ix2 0 d) = ix2 0 d := by
  obtain ⟨h0, h1⟩ := index28 t
  funext a
  apply Fin.ext
  match a with
  | ⟨0, _⟩ => show win0_28.index (pt t) (0 : Fin 2) * 1 + 1 * 0 = 0; omega
  | ⟨1, _⟩ => show win0_28.index (pt t) (1 : Fin 2) * 128 + 1 * d.val = d.val; omega

theorem emb11 (t : Fin 36) (d : Fin 3072) : ((cfg0.win 11).blk (pt t)).view.emb (ix3 0 0 d) = ix3 (modT t) 0 d := by
  obtain ⟨h0, h1, h2⟩ := index11 t
  funext a
  apply Fin.ext
  match a with
  | ⟨0, _⟩ => show win0_11.index (pt t) (0 : Fin 3) * 1 + 1 * 0 = (modT t).val; omega
  | ⟨1, _⟩ => show win0_11.index (pt t) (1 : Fin 3) * 1 + 1 * 0 = 0; omega
  | ⟨2, _⟩ => show win0_11.index (pt t) (2 : Fin 3) * 3072 + 1 * d.val = d.val; omega

theorem emb23 (t : Fin 36) (k : Fin 8) (d : Fin 1024) : ((cfg0.win 23).blk (pt t)).view.emb (ix3 0 k d) = ix3 t k d := by
  obtain ⟨h0, h1, h2⟩ := index23 t
  funext a
  apply Fin.ext
  match a with
  | ⟨0, _⟩ => show win0_23.index (pt t) (0 : Fin 3) * 1 + 1 * 0 = t.val; omega
  | ⟨1, _⟩ => show win0_23.index (pt t) (1 : Fin 3) * 8 + 1 * k.val = k.val; omega
  | ⟨2, _⟩ => show win0_23.index (pt t) (2 : Fin 3) * 1024 + 1 * d.val = d.val; omega

/-! ### The blocks -/

section

variable (m : (ℓ : Loc nD τ sig) → Buf (Elt Ideal) ℓ) (c : Dev nD)

theorem V_41 : V m c main_v41 = truncf (F := Ideal) .bf16 (m ((c : Thread nD τ).loc main_arg2)) bitsLt_bf16_f32 := by
  show StableHlo.after (List.flatten [hostOps0, hostOps0_1, hostOps0_2, hostOps0_3, hostOps0_4]) (fun b => m (c, b)) (Proc.devRef .tc main_v41) = _
  simp only [hostOps0, hostOps0_1, hostOps0_2, hostOps0_3, hostOps0_4, List.flatten_cons, List.flatten_nil, List.append_nil, List.cons_append, List.nil_append]
  after_results_simp

theorem V_42 : V m c main_v42 = truncf (F := Ideal) .bf16 (m ((c : Thread nD τ).loc main_arg6)) bitsLt_bf16_f32 := by
  show StableHlo.after (List.flatten [hostOps0, hostOps0_1, hostOps0_2, hostOps0_3, hostOps0_4]) (fun b => m (c, b)) (Proc.devRef .tc main_v42) = _
  simp only [hostOps0, hostOps0_1, hostOps0_2, hostOps0_3, hostOps0_4, List.flatten_cons, List.flatten_nil, List.append_nil, List.cons_append, List.nil_append]
  after_results_simp

theorem V_43 : V m c main_v43 = truncf (F := Ideal) .bf16 (m ((c : Thread nD τ).loc main_arg7)) bitsLt_bf16_f32 := by
  show StableHlo.after (List.flatten [hostOps0, hostOps0_1, hostOps0_2, hostOps0_3, hostOps0_4]) (fun b => m (c, b)) (Proc.devRef .tc main_v43) = _
  simp only [hostOps0, hostOps0_1, hostOps0_2, hostOps0_3, hostOps0_4, List.flatten_cons, List.flatten_nil, List.append_nil, List.cons_append, List.nil_append]
  after_results_simp

theorem V_44 : V m c main_v44 = truncf (F := Ideal) .bf16 (m ((c : Thread nD τ).loc main_arg8)) bitsLt_bf16_f32 := by
  show StableHlo.after (List.flatten [hostOps0, hostOps0_1, hostOps0_2, hostOps0_3, hostOps0_4]) (fun b => m (c, b)) (Proc.devRef .tc main_v44) = _
  simp only [hostOps0, hostOps0_1, hostOps0_2, hostOps0_3, hostOps0_4, List.flatten_cons, List.flatten_nil, List.append_nil, List.cons_append, List.nil_append]
  after_results_simp

theorem V_46 : V m c main_v46 = transpose S1024x512 [1, 0] (truncf (F := Ideal) .bf16 (m ((c : Thread nD τ).loc main_arg6)) bitsLt_bf16_f32) transposes_S512x1024_S1024x512_1_0 := by
  show StableHlo.after (List.flatten [hostOps0, hostOps0_1, hostOps0_2, hostOps0_3, hostOps0_4]) (fun b => m (c, b)) (Proc.devRef .tc main_v46) = _
  simp only [hostOps0, hostOps0_1, hostOps0_2, hostOps0_3, hostOps0_4, List.flatten_cons, List.flatten_nil, List.append_nil, List.cons_append, List.nil_append]
  after_results_simp

theorem V_48 : V m c main_v48 = transpose S1024x512 [1, 0] (truncf (F := Ideal) .bf16 (m ((c : Thread nD τ).loc main_arg7)) bitsLt_bf16_f32) transposes_S512x1024_S1024x512_1_0 := by
  show StableHlo.after (List.flatten [hostOps0, hostOps0_1, hostOps0_2, hostOps0_3, hostOps0_4]) (fun b => m (c, b)) (Proc.devRef .tc main_v48) = _
  simp only [hostOps0, hostOps0_1, hostOps0_2, hostOps0_3, hostOps0_4, List.flatten_cons, List.flatten_nil, List.append_nil, List.cons_append, List.nil_append]
  after_results_simp

theorem V_50 : V m c main_v50 = transpose S1024x512 [1, 0] (truncf (F := Ideal) .bf16 (m ((c : Thread nD τ).loc main_arg8)) bitsLt_bf16_f32) transposes_S512x1024_S1024x512_1_0 := by
  show StableHlo.after (List.flatten [hostOps0, hostOps0_1, hostOps0_2, hostOps0_3, hostOps0_4]) (fun b => m (c, b)) (Proc.devRef .tc main_v50) = _
  simp only [hostOps0, hostOps0_1, hostOps0_2, hostOps0_3, hostOps0_4, List.flatten_cons, List.flatten_nil, List.append_nil, List.cons_append, List.nil_append]
  after_results_simp

theorem V_52 : V m c main_v52 = transpose S1024x1024 [1, 0] (truncf (F := Ideal) .bf16 (m ((c : Thread nD τ).loc main_arg9)) bitsLt_bf16_f32) transposes_S1024x1024_S1024x1024_1_0 := by
  show StableHlo.after (List.flatten [hostOps0, hostOps0_1, hostOps0_2, hostOps0_3, hostOps0_4]) (fun b => m (c, b)) (Proc.devRef .tc main_v52) = _
  simp only [hostOps0, hostOps0_1, hostOps0_2, hostOps0_3, hostOps0_4, List.flatten_cons, List.flatten_nil, List.append_nil, List.cons_append, List.nil_append]
  after_results_simp

theorem V_53 : V m c main_v53 = shapeCast S8x1x3072 (m ((c : Thread nD τ).loc main_arg10)) shapeCasts_S8x3072_S8x1x3072 := by
  show StableHlo.after (List.flatten [hostOps0, hostOps0_1, hostOps0_2, hostOps0_3, hostOps0_4]) (fun b => m (c, b)) (Proc.devRef .tc main_v53) = _
  simp only [hostOps0, hostOps0_1, hostOps0_2, hostOps0_3, hostOps0_4, List.flatten_cons, List.flatten_nil, List.append_nil, List.cons_append, List.nil_append]
  after_results_simp
  rfl

theorem V_40 : V m c main_v40 = MergeReferenceIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after (List.flatten [hostOps0, hostOps0_1, hostOps0_2, hostOps0_3, hostOps0_4]) (fun b => m (c, b)) (Proc.devRef .tc main_v40) = _
  simp only [hostOps0, hostOps0_1, hostOps0_2, hostOps0_3, hostOps0_4, List.flatten_cons, List.flatten_nil, List.append_nil, List.cons_append, List.nil_append]
  after_results_simp
  rfl

theorem block0 (t : Fin 36) (r : Fin 256) (k : Fin 3072) : X0_0 m c (pt t) (ix2 r k) = m ((c : Thread nD τ).loc main_arg0) (ix2 (rowT t r) (⟨k.val, by omega⟩ : Fin 6912)) := by
  unfold X0_0 Pipeline.Window.fill
  rw [dif_pos (moved0_0 (pt t) (ix2 r k)), ← V_main_arg0 m c]
  obtain ⟨h0, h1⟩ := index0 t
  refine congrArg (V m c main_arg0) ?_
  funext a
  apply Fin.ext
  match a with
  | ⟨0, _⟩ => show win0_0.index (pt t) (0 : Fin 2) * 256 + 1 * r.val = 256 * t.val + r.val; omega
  | ⟨1, _⟩ => show win0_0.index (pt t) (1 : Fin 2) * 3072 + 1 * k.val = k.val; omega

theorem block1 (t : Fin 36) (r : Fin 256) (k : Fin 512) : X0_1 m c (pt t) (ix2 r k) = m ((c : Thread nD τ).loc main_arg0) (ix2 (rowT t r) (⟨3072 + k.val, by omega⟩ : Fin 6912)) := by
  unfold X0_1 Pipeline.Window.fill
  rw [dif_pos (moved0_1 (pt t) (ix2 r k)), ← V_main_arg0 m c]
  obtain ⟨h0, h1⟩ := index1 t
  refine congrArg (V m c main_arg0) ?_
  funext a
  apply Fin.ext
  match a with
  | ⟨0, _⟩ => show win0_1.index (pt t) (0 : Fin 2) * 256 + 1 * r.val = 256 * t.val + r.val; omega
  | ⟨1, _⟩ => show win0_1.index (pt t) (1 : Fin 2) * 512 + 1 * k.val = 3072 + k.val; omega

theorem block2 (t : Fin 36) (r : Fin 256) (k : Fin 512) : X0_2 m c (pt t) (ix2 r k) = m ((c : Thread nD τ).loc main_arg0) (ix2 (rowT t r) (⟨5632 + k.val, by omega⟩ : Fin 6912)) := by
  unfold X0_2 Pipeline.Window.fill
  rw [dif_pos (moved0_2 (pt t) (ix2 r k)), ← V_main_arg0 m c]
  obtain ⟨h0, h1⟩ := index2 t
  refine congrArg (V m c main_arg0) ?_
  funext a
  apply Fin.ext
  match a with
  | ⟨0, _⟩ => show win0_2.index (pt t) (0 : Fin 2) * 256 + 1 * r.val = 256 * t.val + r.val; omega
  | ⟨1, _⟩ => show win0_2.index (pt t) (1 : Fin 2) * 512 + 1 * k.val = 5632 + k.val; omega

theorem block3 (t : Fin 36) (r : Fin 256) (d : Fin 512) : iblk m c 3 (pt t) (ix2 r d) = m ((c : Thread nD τ).loc main_arg1) (ix2 (rowT t r) d) := by
  show V m c main_arg1 (((cfg0.win 3).blk (pt t)).view.emb (ix2 r d)) = _
  rw [emb3, V_main_arg1]

theorem block4 (t : Fin 36) (r : Fin 256) (d : Fin 512) : iblk m c 4 (pt t) (ix2 r d) = m ((c : Thread nD τ).loc main_arg2) (ix2 (rowT t r) d) := by
  show V m c main_v41 (((cfg0.win 4).blk (pt t)).view.emb (ix2 r d)) = _
  rw [emb4, V_41]
  rfl

theorem block5 (t : Fin 36) (r : Fin 256) (d : Fin 512) : iblk m c 5 (pt t) (ix2 r d) = m ((c : Thread nD τ).loc main_arg3) (ix2 (rowT t r) d) := by
  show V m c main_arg3 (((cfg0.win 5).blk (pt t)).view.emb (ix2 r d)) = _
  rw [emb5, V_main_arg3]

theorem block6 (t : Fin 36) (r : Fin 256) (d : Fin 512) : iblk m c 6 (pt t) (ix2 r d) = m ((c : Thread nD τ).loc main_arg4) (ix2 (rowT t r) d) := by
  show V m c main_arg4 (((cfg0.win 6).blk (pt t)).view.emb (ix2 r d)) = _
  rw [emb6, V_main_arg4]

theorem block7 (t : Fin 36) (d : Fin 128) : iblk m c 7 (pt t) (ix2 0 d) = m ((c : Thread nD τ).loc main_arg5) (ix2 0 d) := by
  show V m c main_arg5 (((cfg0.win 7).blk (pt t)).view.emb (ix2 0 d)) = _
  rw [emb7, V_main_arg5]

theorem block8 (t : Fin 36) (r : Fin 512) (d : Fin 1024) : iblk m c 8 (pt t) (ix2 r d) = m ((c : Thread nD τ).loc main_arg6) (ix2 r d) := by
  show V m c main_v42 (((cfg0.win 8).blk (pt t)).view.emb (ix2 r d)) = _
  rw [emb8, V_42]
  rfl

theorem block9 (t : Fin 36) (r : Fin 512) (d : Fin 1024) : iblk m c 9 (pt t) (ix2 r d) = m ((c : Thread nD τ).loc main_arg7) (ix2 r d) := by
  show V m c main_v43 (((cfg0.win 9).blk (pt t)).view.emb (ix2 r d)) = _
  rw [emb9, V_43]
  rfl

theorem block10 (t : Fin 36) (r : Fin 512) (d : Fin 1024) : iblk m c 10 (pt t) (ix2 r d) = m ((c : Thread nD τ).loc main_arg8) (ix2 r d) := by
  show V m c main_v44 (((cfg0.win 10).blk (pt t)).view.emb (ix2 r d)) = _
  rw [emb10, V_44]
  rfl

theorem block12 (t : Fin 36) (d : Fin 1024) : iblk m c 12 (pt t) (ix2 0 d) = m ((c : Thread nD τ).loc main_arg11) (ix2 0 d) := by
  show V m c main_arg11 (((cfg0.win 12).blk (pt t)).view.emb (ix2 0 d)) = _
  rw [emb12, V_main_arg11]

theorem block13 (t : Fin 36) (r : Fin 256) (d : Fin 1024) : iblk m c 13 (pt t) (ix2 r d) = m ((c : Thread nD τ).loc main_arg12) (ix2 (rowT t r) d) := by
  show V m c main_arg12 (((cfg0.win 13).blk (pt t)).view.emb (ix2 r d)) = _
  rw [emb13, V_main_arg12]

theorem block15 (t : Fin 36) (d : Fin 1024) (e : Fin 512) : iblk m c 15 (pt t) (ix2 d e) = m ((c : Thread nD τ).loc main_arg6) (ix2 e d) := by
  show V m c main_v46 (((cfg0.win 15).blk (pt t)).view.emb (ix2 d e)) = _
  rw [emb15, V_46]
  pointwise []

theorem block16 (t : Fin 36) (d : Fin 1024) (e : Fin 512) : iblk m c 16 (pt t) (ix2 d e) = m ((c : Thread nD τ).loc main_arg7) (ix2 e d) := by
  show V m c main_v48 (((cfg0.win 16).blk (pt t)).view.emb (ix2 d e)) = _
  rw [emb16, V_48]
  pointwise []

theorem block17 (t : Fin 36) (d : Fin 1024) (e : Fin 512) : iblk m c 17 (pt t) (ix2 d e) = m ((c : Thread nD τ).loc main_arg8) (ix2 e d) := by
  show V m c main_v50 (((cfg0.win 17).blk (pt t)).view.emb (ix2 d e)) = _
  rw [emb17, V_50]
  pointwise []

theorem block18 (t : Fin 36) (d : Fin 1024) (e : Fin 1024) : iblk m c 18 (pt t) (ix2 d e) = m ((c : Thread nD τ).loc main_arg9) (ix2 e d) := by
  show V m c main_v52 (((cfg0.win 18).blk (pt t)).view.emb (ix2 d e)) = _
  rw [emb18, V_52]
  pointwise []

theorem block11 (t : Fin 36) (d : Fin 3072) : iblk m c 11 (pt t) (ix3 0 0 d) = m ((c : Thread nD τ).loc main_arg10) (ix2 (modT t) d) := by
  show V m c main_v53 (((cfg0.win 11).blk (pt t)).view.emb (ix3 0 0 d)) = _
  rw [emb11, V_53]
  exact shapeCast_apply _ shapeCasts_S8x3072_S8x1x3072 (ix3 (modT t) 0 d) (ix2 (modT t) d)
    (by rewrite [Shape.rowMajor_val_two, Shape.rowMajor_val_three]; show (modT t).val * 3072 + d.val = ((modT t).val * 1 + 0) * 3072 + d.val; omega)

theorem block14 (t : Fin 36) (r : Fin 256) (d : Fin 1024) : iblk m c 14 (pt t) (ix2 r d) = (rowA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (rowT t r)).out d := by
  show V m c main_v40 (((cfg0.win 14).blk (pt t)).view.emb (ix2 r d)) = _
  rw [emb14, V_40]
  exact MergeValue.out_apply _ _ _ _ _ _ _ _ _ _ (rowT t r) d

/-- One row of the gradient of the arrays. -/
abbrev backM (n : Fin 9216) : Back := backA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) n

theorem backs (t : Fin 36) (r : Fin 256) : (blk m c (pt t)).back r = backM m c (rowT t r) := by
  unfold Blk.back backM backA rowA
  simp only [blk, block0, block1, block2, block3, block4, block5, block6, block7, block8, block9, block10, block11, block12, block13, block14, block15, block16, block17, block18, tileOf_rowT]
  rfl

/-! ### The arrays -/

theorem array20 (t : Fin 36) (r : Fin 256) (e : Fin 512) : (dats m 0 c).arrAt 20 cfg0.N (ix2 (rowT t r) e) = (backM m c (rowT t r)).dom e := by
  refine (congrArg ((dats m 0 c).arrAt 20 cfg0.N) (emb20 t r e).symm).trans ?_
  refine (congrFun (blocks20 m c (pt t)) _).trans ?_
  rw [flushed20, left_20]
  exact ((blk m c (pt t)).dom_apply r e).trans (congrArg (fun B : Back => B.dom e) (backs m c t r))

theorem array21 (t : Fin 36) (r : Fin 256) (e : Fin 512) : (dats m 0 c).arrAt 21 cfg0.N (ix2 (rowT t r) e) = (backM m c (rowT t r)).dyp e := by
  refine (congrArg ((dats m 0 c).arrAt 21 cfg0.N) (emb21 t r e).symm).trans ?_
  refine (congrFun (blocks21 m c (pt t)) _).trans ?_
  rw [flushed21, left_21]
  exact ((blk m c (pt t)).dyp_apply r e).trans (congrArg (fun B : Back => B.dyp e) (backs m c t r))

theorem array22 (t : Fin 36) (r : Fin 256) (e : Fin 512) : (dats m 0 c).arrAt 22 cfg0.N (ix2 (rowT t r) e) = (backM m c (rowT t r)).dog e := by
  refine (congrArg ((dats m 0 c).arrAt 22 cfg0.N) (emb22 t r e).symm).trans ?_
  refine (congrFun (blocks22 m c (pt t)) _).trans ?_
  rw [flushed22, left_22]
  exact ((blk m c (pt t)).dog_apply r e).trans (congrArg (fun B : Back => B.dog e) (backs m c t r))

theorem array23 (t : Fin 36) (k : Fin 8) (d : Fin 1024) : (dats m 0 c).arrAt 23 cfg0.N (ix3 t k d)
    = (if k.val < 1 then ∑ r, (backM m c (rowT t r)).st0 d else if k.val < 2 then ∑ r, (backM m c (rowT t r)).st1 d else 0 : EReal) := by
  refine (congrArg ((dats m 0 c).arrAt 23 cfg0.N) (emb23 t k d).symm).trans ?_
  refine (congrFun (blocks23 m c (pt t)) _).trans ?_
  rw [flushed23]
  refine (left_23 m c (pt t) k d).trans ?_
  simp only [backs]

/-- A sum kept tile after tile. -/
theorem kept_sum (acc s : Fin 36 → EReal) (h0 : acc 0 = s 0)
    (h1 : ∀ (n : ℕ) (h : n + 1 < 36), acc ⟨n + 1, h⟩ = acc ⟨n, by omega⟩ + s ⟨n + 1, h⟩) : acc 35 = ∑ t, s t := by
  have key : ∀ (n : ℕ) (h : n < 36), acc ⟨n, h⟩ = ∑ i : Fin (n + 1), s ⟨i.val, by omega⟩ := by
    intro n
    induction n with
    | zero => exact fun _ => h0.trans (Fin.sum_univ_one fun i : Fin 1 => s ⟨i.val, by omega⟩).symm
    | succ n ih =>
      intro h
      rw [h1 n h, ih, Fin.sum_univ_castSucc (fun i : Fin (n + 1 + 1) => s ⟨i.val, by omega⟩)]
      rfl
  exact key 35 (by decide)

/-- A sum over the rows, tile by tile. -/
theorem rows_sum (f : Fin 9216 → EReal) : ∑ n, f n = ∑ t : Fin 36, ∑ r : Fin 256, f (rowT t r) := by
  rw [Fin.sum_univ_tiles 36 256 (by decide) f]
  refine Finset.sum_congr rfl fun t _ => Finset.sum_congr rfl fun r _ => congrArg f (Fin.ext ?_)
  show t.val * 256 + r.val = 256 * t.val + r.val
  omega

theorem array24 (e : Fin 512) (d : Fin 1024) : (dats m 0 c).arrAt 24 cfg0.N (ix2 e d) = (∑ n, (backM m c n).dwm e d : EReal) := by
  refine (congrArg ((dats m 0 c).arrAt 24 cfg0.N) (emb24 35 e d).symm).trans ?_
  refine (congrFun (blocks24 m c (pt 35) (by decide)) _).trans ?_
  rw [flushed24, rows_sum]
  have hb : ∀ t : Fin 36, (∑ r, ((blk m c (pt t)).back r).dwm e d : EReal) = ∑ r, (backM m c (rowT t r)).dwm e d := fun t =>
    Finset.sum_congr rfl fun r _ => congrArg (fun B : Back => B.dwm e d) (backs m c t r)
  have tot := kept_sum (fun t => (outsAt0 m c (pt t).val (pt t).isLt).2.2.2.2.2.1 (ix2 e d)) (fun t => ∑ r, (backM m c (rowT t r)).dwm e d) (by
    refine (congrArg (fun o : Outs Ideal => (o.2.2.2.2.2.1 (ix2 e d) : EReal)) (outsAt0_A m c (pt 0) (by decide))).trans ?_
    refine (congrFun (outA_24 m c (pt 0) (by decide)) _).trans (((blk m c (pt 0)).dwm_apply _ e d).trans ?_)
    rw [hb 0]
    refine (congrArg (· + _) (?_ : _ = (0 : EReal))).trans (zero_add _)
    pointwise [k0_pay5]) (fun n h => by
    refine (congrArg (fun o : Outs Ideal => (o.2.2.2.2.2.1 (ix2 e d) : EReal)) (outsAt0_B m c (pt ⟨n + 1, h⟩) (by show ¬ (n + 1) % 36 = 0; omega))).trans ?_
    refine (congrFun (outB_24 m c (pt ⟨n + 1, h⟩) (by show ¬ (n + 1) % 36 = 0; omega) _) _).trans (((blk m c (pt ⟨n + 1, h⟩)).dwm_apply _ e d).trans ?_)
    rw [hb ⟨n + 1, h⟩]
    rfl)
  exact tot

theorem array25 (e : Fin 512) (d : Fin 1024) : (dats m 0 c).arrAt 25 cfg0.N (ix2 e d) = (∑ n, (backM m c n).dwp e d : EReal) := by
  refine (congrArg ((dats m 0 c).arrAt 25 cfg0.N) (emb25 35 e d).symm).trans ?_
  refine (congrFun (blocks25 m c (pt 35) (by decide)) _).trans ?_
  rw [flushed25, rows_sum]
  have hb : ∀ t : Fin 36, (∑ r, ((blk m c (pt t)).back r).dwp e d : EReal) = ∑ r, (backM m c (rowT t r)).dwp e d := fun t =>
    Finset.sum_congr rfl fun r _ => congrArg (fun B : Back => B.dwp e d) (backs m c t r)
  have tot := kept_sum (fun t => (outsAt0 m c (pt t).val (pt t).isLt).2.2.2.2.2.2.1 (ix2 e d)) (fun t => ∑ r, (backM m c (rowT t r)).dwp e d) (by
    refine (congrArg (fun o : Outs Ideal => (o.2.2.2.2.2.2.1 (ix2 e d) : EReal)) (outsAt0_A m c (pt 0) (by decide))).trans ?_
    refine (congrFun (outA_25 m c (pt 0) (by decide)) _).trans (((blk m c (pt 0)).dwp_apply _ e d).trans ?_)
    rw [hb 0]
    refine (congrArg (· + _) (?_ : _ = (0 : EReal))).trans (zero_add _)
    pointwise [k0_pay6]) (fun n h => by
    refine (congrArg (fun o : Outs Ideal => (o.2.2.2.2.2.2.1 (ix2 e d) : EReal)) (outsAt0_B m c (pt ⟨n + 1, h⟩) (by show ¬ (n + 1) % 36 = 0; omega))).trans ?_
    refine (congrFun (outB_25 m c (pt ⟨n + 1, h⟩) (by show ¬ (n + 1) % 36 = 0; omega) _) _).trans (((blk m c (pt ⟨n + 1, h⟩)).dwp_apply _ e d).trans ?_)
    rw [hb ⟨n + 1, h⟩]
    rfl)
  exact tot

theorem array26 (e : Fin 512) (d : Fin 1024) : (dats m 0 c).arrAt 26 cfg0.N (ix2 e d) = (∑ n, (backM m c n).dwg e d : EReal) := by
  refine (congrArg ((dats m 0 c).arrAt 26 cfg0.N) (emb26 35 e d).symm).trans ?_
  refine (congrFun (blocks26 m c (pt 35) (by decide)) _).trans ?_
  rw [flushed26, rows_sum]
  have hb : ∀ t : Fin 36, (∑ r, ((blk m c (pt t)).back r).dwg e d : EReal) = ∑ r, (backM m c (rowT t r)).dwg e d := fun t =>
    Finset.sum_congr rfl fun r _ => congrArg (fun B : Back => B.dwg e d) (backs m c t r)
  have tot := kept_sum (fun t => (outsAt0 m c (pt t).val (pt t).isLt).2.2.2.2.2.2.2.1 (ix2 e d)) (fun t => ∑ r, (backM m c (rowT t r)).dwg e d) (by
    refine (congrArg (fun o : Outs Ideal => (o.2.2.2.2.2.2.2.1 (ix2 e d) : EReal)) (outsAt0_A m c (pt 0) (by decide))).trans ?_
    refine (congrFun (outA_26 m c (pt 0) (by decide)) _).trans (((blk m c (pt 0)).dwg_apply _ e d).trans ?_)
    rw [hb 0]
    refine (congrArg (· + _) (?_ : _ = (0 : EReal))).trans (zero_add _)
    pointwise [k0_pay7]) (fun n h => by
    refine (congrArg (fun o : Outs Ideal => (o.2.2.2.2.2.2.2.1 (ix2 e d) : EReal)) (outsAt0_B m c (pt ⟨n + 1, h⟩) (by show ¬ (n + 1) % 36 = 0; omega))).trans ?_
    refine (congrFun (outB_26 m c (pt ⟨n + 1, h⟩) (by show ¬ (n + 1) % 36 = 0; omega) _) _).trans (((blk m c (pt ⟨n + 1, h⟩)).dwg_apply _ e d).trans ?_)
    rw [hb ⟨n + 1, h⟩]
    rfl)
  exact tot

theorem array27 (e : Fin 1024) (d : Fin 1024) : (dats m 0 c).arrAt 27 cfg0.N (ix2 e d) = (∑ n, (backM m c n).dwo e d : EReal) := by
  refine (congrArg ((dats m 0 c).arrAt 27 cfg0.N) (emb27 35 e d).symm).trans ?_
  refine (congrFun (blocks27 m c (pt 35) (by decide)) _).trans ?_
  rw [flushed27, rows_sum]
  have hb : ∀ t : Fin 36, (∑ r, ((blk m c (pt t)).back r).dwo e d : EReal) = ∑ r, (backM m c (rowT t r)).dwo e d := fun t =>
    Finset.sum_congr rfl fun r _ => congrArg (fun B : Back => B.dwo e d) (backs m c t r)
  have tot := kept_sum (fun t => (outsAt0 m c (pt t).val (pt t).isLt).2.2.2.2.2.2.2.2.1 (ix2 e d)) (fun t => ∑ r, (backM m c (rowT t r)).dwo e d) (by
    refine (congrArg (fun o : Outs Ideal => (o.2.2.2.2.2.2.2.2.1 (ix2 e d) : EReal)) (outsAt0_A m c (pt 0) (by decide))).trans ?_
    refine (congrFun (outA_27 m c (pt 0) (by decide)) _).trans (((blk m c (pt 0)).dwo_apply _ e d).trans ?_)
    rw [hb 0]
    refine (congrArg (· + _) (?_ : _ = (0 : EReal))).trans (zero_add _)
    pointwise [k0_pay8]) (fun n h => by
    refine (congrArg (fun o : Outs Ideal => (o.2.2.2.2.2.2.2.2.1 (ix2 e d) : EReal)) (outsAt0_B m c (pt ⟨n + 1, h⟩) (by show ¬ (n + 1) % 36 = 0; omega))).trans ?_
    refine (congrFun (outB_27 m c (pt ⟨n + 1, h⟩) (by show ¬ (n + 1) % 36 = 0; omega) _) _).trans (((blk m c (pt ⟨n + 1, h⟩)).dwo_apply _ e d).trans ?_)
    rw [hb ⟨n + 1, h⟩]
    rfl)
  exact tot

theorem array28 (d : Fin 128) : (dats m 0 c).arrAt 28 cfg0.N (ix2 0 d) = (∑ n, ∑ h, (backM m c n).dgnAt h d : EReal) := by
  refine (congrArg ((dats m 0 c).arrAt 28 cfg0.N) (emb28 35 d).symm).trans ?_
  refine (congrFun (blocks28 m c (pt 35) (by decide)) _).trans ?_
  rw [flushed28, rows_sum]
  have hb : ∀ t : Fin 36, (∑ r, ∑ h, ((blk m c (pt t)).back r).dgnAt h d : EReal) = ∑ r, ∑ h, (backM m c (rowT t r)).dgnAt h d := fun t =>
    Finset.sum_congr rfl fun r _ => congrArg (fun B : Back => ∑ h, B.dgnAt h d) (backs m c t r)
  have tot := kept_sum (fun t => (outsAt0 m c (pt t).val (pt t).isLt).2.2.2.2.2.2.2.2.2 (ix2 0 d)) (fun t => ∑ r, ∑ h, (backM m c (rowT t r)).dgnAt h d) (by
    refine (congrArg (fun o : Outs Ideal => (o.2.2.2.2.2.2.2.2.2 (ix2 0 d) : EReal)) (outsAt0_A m c (pt 0) (by decide))).trans ?_
    refine (congrFun (outA_28 m c (pt 0) (by decide)) _).trans (((blk m c (pt 0)).dgn_apply _ d).trans ?_)
    rw [hb 0]
    refine (congrArg (· + _) (?_ : _ = (0 : EReal))).trans (zero_add _)
    pointwise [k0_pay9]) (fun n h => by
    refine (congrArg (fun o : Outs Ideal => (o.2.2.2.2.2.2.2.2.2 (ix2 0 d) : EReal)) (outsAt0_B m c (pt ⟨n + 1, h⟩) (by show ¬ (n + 1) % 36 = 0; omega))).trans ?_
    refine (congrFun (outB_28 m c (pt ⟨n + 1, h⟩) (by show ¬ (n + 1) % 36 = 0; omega) _) _).trans (((blk m c (pt ⟨n + 1, h⟩)).dgn_apply _ d).trans ?_)
    rw [hb ⟨n + 1, h⟩]
    rfl)
  exact tot

end

end Cert.SplitArrays

end
-- ==== Proof.SplitValue.lean ====
/- The reference of the merge's gradient, row by row: its stages are the row's ones. -/
module

public import proofs.«01_k».proof.Proof.Gen.SplitReferenceIdeal.Read
public import proofs.«01_k».proof.Proof.MergeValue
public import proofs.«01_k».proof.Proof.SplitRow

@[expose] public section

set_option maxRecDepth 16384

noncomputable section

namespace Cert.SplitValue

open Cert.SplitReferenceIdeal Cert.SplitReferenceIdeal.Read Idealize.ShloMosaic Idealize.ShloMosaic.TcCoe Cert.Reals Cert.MergeRow Cert.SplitRow
open Cert.NormClaim (modRow tile rowOf)

variable (x0 : FVec Ideal S9216x6912 .f32) (x1 x2 x3 x4 : FVec Ideal S9216x512 .f32) (x5 : FVec Ideal S1x128 .f32) (x6 x7 x8 : FVec Ideal S512x1024 .f32)
  (x9 : FVec Ideal S1024x1024 .f32) (x10 : FVec Ideal S8x3072 .f32) (x11 : FVec Ideal S1x1024 .f32) (x12 : FVec Ideal S9216x1024 .f32)

theorem silu_a (n : Fin 9216) (e : Fin 512) : (val_main_v15_0 (F := Ideal) x0 (ix2 n e) : EReal) = silu (x0 (ix2 n ⟨3072 + e.val, by omega⟩)) := MergeValue.silu_a x0 n e
theorem silu_g (n : Fin 9216) (e : Fin 512) : (val_main_v35_0 (F := Ideal) x0 (ix2 n e) : EReal) = silu (x0 (ix2 n ⟨5632 + e.val, by omega⟩)) := MergeValue.silu_g x0 n e
theorem gate_apply (n : Fin 9216) (k : Fin 3072) : (val_main_v42 (F := Ideal) x0 (ix2 n k) : EReal) = Ideal.logistic (x0 (ix2 n ⟨k.val, by omega⟩)) := MergeValue.gate_apply x0 n k
theorem o_apply (n : Fin 9216) (h : Fin 4) (v : Fin 128) : (val_main_v17 (F := Ideal) x3 x4 (ix3 n h v) : EReal) = (x3 (ix2 n (lane h v)) : EReal) + x4 (ix2 n (lane h v)) :=
  MergeValue.o_apply x3 x4 n h v
theorem normed_apply (n : Fin 9216) (e : Fin 512) :
    (val_main_v34 (F := Ideal) x3 x4 x5 (ix2 n e) : EReal) = normedOf (fun e => (x3 (ix2 n e) : EReal) + x4 (ix2 n e)) e * x5 (ix2 0 (placeOf e)) := MergeValue.normed_apply x3 x4 x5 n e
theorem mix_apply (n : Fin 9216) (d : Fin 1024) : (val_main_v56 (F := Ideal) x0 x1 x2 x3 x4 x5 x6 x7 x8 (ix2 n d) : EReal) = (backA x0 x1 x2 x3 x4 x5 x6 x7 x8 x9 x10 x11 x12 n).R.mix d :=
  MergeValue.mix_apply x0 x1 x2 x3 x4 x5 x6 x7 x8 x9 n d
theorem out_apply (n : Fin 9216) (d : Fin 1024) : (val_main_v57 (F := Ideal) x0 x1 x2 x3 x4 x5 x6 x7 x8 x9 (ix2 n d) : EReal) = (backA x0 x1 x2 x3 x4 x5 x6 x7 x8 x9 x10 x11 x12 n).x d :=
  MergeValue.out_apply x0 x1 x2 x3 x4 x5 x6 x7 x8 x9 n d

theorem tile_eq (t : Fin 36) : tile ⟨t.val / 9, by omega⟩ ⟨t.val % 9, by omega⟩ = t := Fin.ext (by show 9 * (t.val / 9) + t.val % 9 = t.val; omega)

theorem mod_apply (t : Fin 36) (d : Fin 3072) : val_main_v9 (F := Ideal) x10 (ix3 t 0 d) = x10 (ix2 (modT t) d) := by
  have h := MergeValue.mod_apply x10 ⟨t.val / 9, by omega⟩ ⟨t.val % 9, by omega⟩ d
  rw [tile_eq] at h
  exact h

theorem x_apply (t : Fin 36) (r : Fin 256) (d : Fin 1024) :
    (val_main_v58 (F := Ideal) x0 x1 x2 x3 x4 x5 x6 x7 x8 x9 (ix3 t r d) : EReal) = (backA x0 x1 x2 x3 x4 x5 x6 x7 x8 x9 x10 x11 x12 (rowT t r)).x d := by
  rw [val_main_v58_apply, ← out_apply]
  refine congrArg _ ?_
  funext a
  apply Fin.ext
  match a with
  | ⟨0, _⟩ => show ((t.val * 256 + r.val) * 1024 + d.val) / 1024 = 256 * t.val + r.val; omega
  | ⟨1, _⟩ => show ((t.val * 256 + r.val) * 1024 + d.val) % 1024 = d.val; omega

theorem dx_apply (t : Fin 36) (r : Fin 256) (d : Fin 1024) : (val_main_v76 (F := Ideal) x12 (ix3 t r d) : EReal) = x12 (ix2 (rowT t r) d) := by
  rw [val_main_v76_apply]
  refine congrArg _ ?_
  funext a
  apply Fin.ext
  match a with
  | ⟨0, _⟩ => show ((t.val * 256 + r.val) * 1024 + d.val) / 1024 = 256 * t.val + r.val; omega
  | ⟨1, _⟩ => show ((t.val * 256 + r.val) * 1024 + d.val) % 1024 = d.val; omega

theorem md_apply (t : Fin 36) (r : Fin 256) (d : Fin 1024) : (val_main_v77 (F := Ideal) x10 (ix3 t r d) : EReal) = (backA x0 x1 x2 x3 x4 x5 x6 x7 x8 x9 x10 x11 x12 (rowT t r)).md d := by
  show _ = x10 (ix2 (modT (tileOf (rowT t r))) _)
  rw [tileOf_rowT]
  pointwise [val_main_v77, val_main_v10, mod_apply]

theorem g_apply (t : Fin 36) (r : Fin 256) (d : Fin 1024) : (val_main_v85 (F := Ideal) x11 (ix3 t r d) : EReal) = x11 (ix2 0 d) := by
  pointwise [val_main_v85, val_main_v0]

theorem w_apply (t : Fin 36) (r : Fin 256) (d : Fin 1024) : (val_main_v86 (F := Ideal) x10 x11 x12 (ix3 t r d) : EReal) = (backA x0 x1 x2 x3 x4 x5 x6 x7 x8 x9 x10 x11 x12 (rowT t r)).w d := by
  rw [val_main_v86_apply, val_main_v78_apply]
  rw [g_apply, md_apply x0 x1 x2 x3 x4 x5 x6 x7 x8 x9 x10 x11 x12, dx_apply]
  exact congrArg (fun a : EReal => a * x11 (ix2 0 d)) (mul_comm _ _)

theorem inside_apply (t : Fin 36) (r : Fin 256) : (val_main_v65 (F := Ideal) x0 x1 x2 x3 x4 x5 x6 x7 x8 x9 (ix3 t r 0) : EReal)
    = inside (Ideal.ofBits FTy.f32 1149239296#32) (backA x0 x1 x2 x3 x4 x5 x6 x7 x8 x9 x10 x11 x12 (rowT t r)).x := by
  unfold inside
  pointwise [val_main_v65, val_main_v64, val_main_v63, val_main_v62, val_main_v61, val_main_v60, val_main_v59, val_main_cst_6, val_main_cst_7, val_main_cst_8, x_apply x0 x1 x2 x3 x4 x5 x6 x7 x8 x9 x10 x11 x12]

theorem along_apply (t : Fin 36) (r : Fin 256) (d : Fin 1024) : (val_main_v96 (F := Ideal) x0 x1 x2 x3 x4 x5 x6 x7 x8 x9 x10 x11 x12 (ix3 t r d) : EReal)
    = along (Ideal.ofBits FTy.f32 1149239296#32) (backA x0 x1 x2 x3 x4 x5 x6 x7 x8 x9 x10 x11 x12 (rowT t r)).x (backA x0 x1 x2 x3 x4 x5 x6 x7 x8 x9 x10 x11 x12 (rowT t r)).w := by
  unfold along
  pointwise [val_main_v96, val_main_v95, val_main_v94, val_main_v93, val_main_v92, val_main_v89, val_main_v88, val_main_v87, val_main_v69, val_main_v68, val_main_v67, val_main_v66, val_main_cst_9,
    val_main_cst_12, val_main_cst_13, val_main_cst_14, x_apply x0 x1 x2 x3 x4 x5 x6 x7 x8 x9 x10 x11 x12, w_apply x0 x1 x2 x3 x4 x5 x6 x7 x8 x9 x10 x11 x12]
  refine (Fin.sum_univ_one _).trans ?_
  rw [inside_apply x0 x1 x2 x3 x4 x5 x6 x7 x8 x9 x10 x11 x12]

theorem dy_tile (t : Fin 36) (r : Fin 256) (d : Fin 1024) : (val_main_v100 (F := Ideal) x0 x1 x2 x3 x4 x5 x6 x7 x8 x9 x10 x11 x12 (ix3 t r d) : EReal)
    = refBack (Ideal.ofBits FTy.f32 1149239296#32) (backA x0 x1 x2 x3 x4 x5 x6 x7 x8 x9 x10 x11 x12 (rowT t r)).x (backA x0 x1 x2 x3 x4 x5 x6 x7 x8 x9 x10 x11 x12 (rowT t r)).w d := by
  unfold refBack
  pointwise [val_main_v100, val_main_v99, val_main_v98, val_main_v97, val_main_v91, val_main_v90, val_main_v66, x_apply x0 x1 x2 x3 x4 x5 x6 x7 x8 x9 x10 x11 x12,
    w_apply x0 x1 x2 x3 x4 x5 x6 x7 x8 x9 x10 x11 x12, inside_apply x0 x1 x2 x3 x4 x5 x6 x7 x8 x9 x10 x11 x12, along_apply x0 x1 x2 x3 x4 x5 x6 x7 x8 x9 x10 x11 x12]

theorem head_apply (n : Fin 9216) (h : Fin 4) : (val_main_v24 (F := Ideal) x3 x4 (ix3 n h 0) : EReal)
    = inside (Ideal.ofBits FTy.f32 1124073472#32) (fun v => (backA x0 x1 x2 x3 x4 x5 x6 x7 x8 x9 x10 x11 x12 n).R.o (lane h v)) := by
  unfold inside
  pointwise [val_main_v24, val_main_v23, val_main_v22, val_main_v21, val_main_v20, val_main_v19, val_main_v18, val_main_cst, val_main_cst_0, val_main_cst_1, o_apply]
  rfl

theorem place_lane (h : Fin 4) (v : Fin 128) : placeOf (lane h v) = v := Fin.ext (by show (128 * h.val + v.val) % 128 = v.val; omega)

section
variable (hB : ∀ n, (backA x0 x1 x2 x3 x4 x5 x6 x7 x8 x9 x10 x11 x12 n).Real)
include hB

theorem dy_apply (n : Fin 9216) (d : Fin 1024) : (val_main_v101 (F := Ideal) x0 x1 x2 x3 x4 x5 x6 x7 x8 x9 x10 x11 x12 (ix2 n d) : EReal) = (backA x0 x1 x2 x3 x4 x5 x6 x7 x8 x9 x10 x11 x12 n).dy d := by
  rw [Back.dy_ref (hB n), val_main_v101_apply, ← rowT_eq n, ← dy_tile x0 x1 x2 x3 x4 x5 x6 x7 x8 x9 x10 x11 x12, rowT_eq n]
  refine congrArg _ ?_
  funext a
  apply Fin.ext
  match a with
  | ⟨0, _⟩ => show (n.val * 1024 + d.val) / 262144 = n.val / 256; omega
  | ⟨1, _⟩ => show (n.val * 1024 + d.val) / 1024 % 256 = n.val % 256; omega
  | ⟨2, _⟩ => show (n.val * 1024 + d.val) % 1024 = d.val; omega

theorem dmix_apply (n : Fin 9216) (e : Fin 1024) : (val_main_v104 (F := Ideal) x0 x1 x2 x3 x4 x5 x6 x7 x8 x9 x10 x11 x12 (ix2 n e) : EReal) = (backA x0 x1 x2 x3 x4 x5 x6 x7 x8 x9 x10 x11 x12 n).dmix e := by
  pointwise [val_main_v104, dot_S9216x1024_S1024x1024_S9216x1024_1_1_0_0_n_n]
  simp only [dy_apply x0 x1 x2 x3 x4 x5 x6 x7 x8 x9 x10 x11 x12 hB]
  rfl

theorem am_apply (n : Fin 9216) (d : Fin 1024) : (val_main_v115 (F := Ideal) x0 x1 x2 x3 x4 x5 x6 x7 x8 x9 x10 x11 x12 (ix2 n d) : EReal) = (backA x0 x1 x2 x3 x4 x5 x6 x7 x8 x9 x10 x11 x12 n).am d := by
  pointwise [val_main_v115, val_main_v46, gate_apply]
  rw [dmix_apply x0 x1 x2 x3 x4 x5 x6 x7 x8 x9 x10 x11 x12 hB]
  exact mul_comm _ _

theorem ap_apply (n : Fin 9216) (d : Fin 1024) : (val_main_v110 (F := Ideal) x0 x1 x2 x3 x4 x5 x6 x7 x8 x9 x10 x11 x12 (ix2 n d) : EReal) = (backA x0 x1 x2 x3 x4 x5 x6 x7 x8 x9 x10 x11 x12 n).ap d := by
  pointwise [val_main_v110, val_main_v47, gate_apply]
  rw [dmix_apply x0 x1 x2 x3 x4 x5 x6 x7 x8 x9 x10 x11 x12 hB]
  exact (mul_comm _ _)

theorem ag_apply (n : Fin 9216) (d : Fin 1024) : (val_main_v105 (F := Ideal) x0 x1 x2 x3 x4 x5 x6 x7 x8 x9 x10 x11 x12 (ix2 n d) : EReal) = (backA x0 x1 x2 x3 x4 x5 x6 x7 x8 x9 x10 x11 x12 n).ag d := by
  pointwise [val_main_v105, val_main_v48, gate_apply]
  rw [dmix_apply x0 x1 x2 x3 x4 x5 x6 x7 x8 x9 x10 x11 x12 hB]
  exact (mul_comm _ _)

theorem dym_apply (n : Fin 9216) (e : Fin 512) : (val_main_v119 (F := Ideal) x0 x1 x2 x3 x4 x5 x6 x7 x8 x9 x10 x11 x12 (ix2 n e) : EReal) = (backA x0 x1 x2 x3 x4 x5 x6 x7 x8 x9 x10 x11 x12 n).dym e := by
  pointwise [val_main_v119, dot_S9216x1024_S512x1024_S9216x512_1_1_0_0_n_n]
  simp only [am_apply x0 x1 x2 x3 x4 x5 x6 x7 x8 x9 x10 x11 x12 hB]
  rfl

theorem dyp_apply (n : Fin 9216) (e : Fin 512) : (val_main_v114 (F := Ideal) x0 x1 x2 x3 x4 x5 x6 x7 x8 x9 x10 x11 x12 (ix2 n e) : EReal) = (backA x0 x1 x2 x3 x4 x5 x6 x7 x8 x9 x10 x11 x12 n).dyp e := by
  pointwise [val_main_v114, dot_S9216x1024_S512x1024_S9216x512_1_1_0_0_n_n]
  simp only [ap_apply x0 x1 x2 x3 x4 x5 x6 x7 x8 x9 x10 x11 x12 hB]
  rfl

theorem dyg_apply (n : Fin 9216) (e : Fin 512) : (val_main_v109 (F := Ideal) x0 x1 x2 x3 x4 x5 x6 x7 x8 x9 x10 x11 x12 (ix2 n e) : EReal) = (backA x0 x1 x2 x3 x4 x5 x6 x7 x8 x9 x10 x11 x12 n).dyg e := by
  pointwise [val_main_v109, dot_S9216x1024_S512x1024_S9216x512_1_1_0_0_n_n]
  simp only [ag_apply x0 x1 x2 x3 x4 x5 x6 x7 x8 x9 x10 x11 x12 hB]
  rfl

theorem dom_apply (n : Fin 9216) (e : Fin 512) : (val_main_v149 (F := Ideal) x0 x1 x2 x3 x4 x5 x6 x7 x8 x9 x10 x11 x12 (ix2 n e) : EReal) = (backA x0 x1 x2 x3 x4 x5 x6 x7 x8 x9 x10 x11 x12 n).dom e := by
  rw [val_main_v149_apply, dym_apply x0 x1 x2 x3 x4 x5 x6 x7 x8 x9 x10 x11 x12 hB, silu_a]
  rfl

theorem tt_apply (n : Fin 9216) (e : Fin 512) : (val_main_v123 (F := Ideal) x0 x1 x2 x3 x4 x5 x6 x7 x8 x9 x10 x11 x12 (ix2 n e) : EReal) = (backA x0 x1 x2 x3 x4 x5 x6 x7 x8 x9 x10 x11 x12 n).tt e := by
  rw [val_main_v123_apply, dyg_apply x0 x1 x2 x3 x4 x5 x6 x7 x8 x9 x10 x11 x12 hB, silu_g]
  rfl

theorem th_apply (n : Fin 9216) (h : Fin 4) (v : Fin 128) : (val_main_v125 (F := Ideal) x0 x1 x2 x3 x4 x5 x6 x7 x8 x9 x10 x11 x12 (ix3 n h v) : EReal) = (backA x0 x1 x2 x3 x4 x5 x6 x7 x8 x9 x10 x11 x12 n).tt (lane h v) := by
  rw [val_main_v125_apply, ← tt_apply x0 x1 x2 x3 x4 x5 x6 x7 x8 x9 x10 x11 x12 hB]
  refine congrArg _ ?_
  funext a
  apply Fin.ext
  match a with
  | ⟨0, _⟩ => show ((n.val * 4 + h.val) * 128 + v.val) / 512 = n.val; omega
  | ⟨1, _⟩ => show ((n.val * 4 + h.val) * 128 + v.val) % 512 = 128 * h.val + v.val; omega

theorem tg_apply (n : Fin 9216) (h : Fin 4) (v : Fin 128) : (val_main_v130 (F := Ideal) x0 x1 x2 x3 x4 x5 x6 x7 x8 x9 x10 x11 x12 (ix3 n h v) : EReal) = (backA x0 x1 x2 x3 x4 x5 x6 x7 x8 x9 x10 x11 x12 n).tg (lane h v) := by
  unfold Back.tg
  rw [place_lane]
  pointwise [val_main_v130, val_main_v129, val_main_v31, th_apply x0 x1 x2 x3 x4 x5 x6 x7 x8 x9 x10 x11 x12 hB]
  rfl

theorem alongHead_apply (n : Fin 9216) (h : Fin 4) (v : Fin 128) : (val_main_v142 (F := Ideal) x0 x1 x2 x3 x4 x5 x6 x7 x8 x9 x10 x11 x12 (ix3 n h v) : EReal)
    = along (Ideal.ofBits FTy.f32 1124073472#32) (fun v => (backA x0 x1 x2 x3 x4 x5 x6 x7 x8 x9 x10 x11 x12 n).R.o (lane h v)) (fun v => (backA x0 x1 x2 x3 x4 x5 x6 x7 x8 x9 x10 x11 x12 n).tg (lane h v)) := by
  unfold along
  pointwise [val_main_v142, val_main_v141, val_main_v140, val_main_v139, val_main_v138, val_main_v135, val_main_v134, val_main_v133, val_main_v28, val_main_v27, val_main_v26, val_main_v25, val_main_cst_2,
    val_main_cst_17, val_main_cst_18, val_main_cst_19, o_apply, tg_apply x0 x1 x2 x3 x4 x5 x6 x7 x8 x9 x10 x11 x12 hB]
  refine (Fin.sum_univ_one _).trans ?_
  rw [head_apply x0 x1 x2 x3 x4 x5 x6 x7 x8 x9 x10 x11 x12]
  rfl

theorem dogHead_apply (n : Fin 9216) (h : Fin 4) (v : Fin 128) : (val_main_v146 (F := Ideal) x0 x1 x2 x3 x4 x5 x6 x7 x8 x9 x10 x11 x12 (ix3 n h v) : EReal) = (backA x0 x1 x2 x3 x4 x5 x6 x7 x8 x9 x10 x11 x12 n).dogAt h v := by
  rw [Back.dog_ref (hB n)]
  unfold refBack
  pointwise [val_main_v146, val_main_v145, val_main_v144, val_main_v143, val_main_v137, val_main_v136, val_main_v25, o_apply, tg_apply x0 x1 x2 x3 x4 x5 x6 x7 x8 x9 x10 x11 x12 hB, head_apply x0 x1 x2 x3 x4 x5 x6 x7 x8 x9 x10 x11 x12, alongHead_apply x0 x1 x2 x3 x4 x5 x6 x7 x8 x9 x10 x11 x12 hB]
  rfl

theorem dog_apply (n : Fin 9216) (e : Fin 512) : (val_main_v147 (F := Ideal) x0 x1 x2 x3 x4 x5 x6 x7 x8 x9 x10 x11 x12 (ix2 n e) : EReal) = (backA x0 x1 x2 x3 x4 x5 x6 x7 x8 x9 x10 x11 x12 n).dog e := by
  unfold Back.dog
  rw [val_main_v147_apply, ← dogHead_apply x0 x1 x2 x3 x4 x5 x6 x7 x8 x9 x10 x11 x12 hB]
  refine congrArg _ ?_
  funext a
  apply Fin.ext
  match a with
  | ⟨0, _⟩ => show (n.val * 512 + e.val) / 512 = n.val; omega
  | ⟨1, _⟩ => show (n.val * 512 + e.val) / 128 % 4 = e.val / 128; omega
  | ⟨2, _⟩ => show (n.val * 512 + e.val) % 128 = e.val % 128; omega

theorem dgn_apply (v : Fin 128) : (val_main_v132 (F := Ideal) x0 x1 x2 x3 x4 x5 x6 x7 x8 x9 x10 x11 x12 (ix2 0 v) : EReal) = ∑ n, ∑ h, (backA x0 x1 x2 x3 x4 x5 x6 x7 x8 x9 x10 x11 x12 n).dgnAt h v := by
  have h1 : ∀ v : Fin 128, (val_main_v127 (F := Ideal) x0 x1 x2 x3 x4 x5 x6 x7 x8 x9 x10 x11 x12 (ix1 v) : EReal) = ∑ n, ∑ h, (backA x0 x1 x2 x3 x4 x5 x6 x7 x8 x9 x10 x11 x12 n).dgnAt h v := fun v => by
    refine (sum_two Gen.reducesTo_S9216x4x128_S128_d0_1 _ _ v).trans ?_
    pointwise [val_main_cst_15]
    refine Finset.sum_congr rfl fun n _ => Finset.sum_congr rfl fun h _ => ?_
    rw [val_main_v126_apply, th_apply x0 x1 x2 x3 x4 x5 x6 x7 x8 x9 x10 x11 x12 hB]
    pointwise [val_main_v30, val_main_v29, val_main_v25, o_apply, head_apply x0 x1 x2 x3 x4 x5 x6 x7 x8 x9 x10 x11 x12]
    exact mul_comm _ _
  have h2 : (val_main_v131 (F := Ideal) x0 x1 x2 x3 x4 x5 x6 x7 x8 x9 x10 x11 x12 (ix1 v) : EReal) = ∑ n, ∑ h, (backA x0 x1 x2 x3 x4 x5 x6 x7 x8 x9 x10 x11 x12 n).dgnAt h v := by
    refine (sum_two Gen.reducesTo_S1x1x128_S128_d0_1 _ _ v).trans ?_
    rw [Fin.sum_univ_one, Fin.sum_univ_one, val_main_v128_apply, ← h1]
    pointwise [val_main_cst_16]
    refine congrArg _ ?_
    funext a
    apply Fin.ext
    match a with
    | ⟨0, _⟩ => show (0 * 1 + 0) * 128 + v.val = v.val; omega
  rw [← h2]
  pointwise [val_main_v132]

theorem dout_apply (e d : Fin 1024) : (val_main_v103 (F := Ideal) x0 x1 x2 x3 x4 x5 x6 x7 x8 x9 x10 x11 x12 (ix2 e d) : EReal) = ∑ n, (backA x0 x1 x2 x3 x4 x5 x6 x7 x8 x9 x10 x11 x12 n).dwo e d := by
  pointwise [val_main_v103, val_main_v102, dot_S9216x1024_S9216x1024_S1024x1024_0_0_1_1_n_n, mix_apply x0 x1 x2 x3 x4 x5 x6 x7 x8 x9 x10 x11 x12]
  simp only [dy_apply x0 x1 x2 x3 x4 x5 x6 x7 x8 x9 x10 x11 x12 hB]
  exact Finset.sum_congr rfl fun n _ => mul_comm _ _

theorem dwm_apply (e : Fin 512) (d : Fin 1024) : (val_main_v118 (F := Ideal) x0 x1 x2 x3 x4 x5 x6 x7 x8 x9 x10 x11 x12 (ix2 e d) : EReal) = ∑ n, (backA x0 x1 x2 x3 x4 x5 x6 x7 x8 x9 x10 x11 x12 n).dwm e d := by
  pointwise [val_main_v118, val_main_v117, dot_S9216x1024_S9216x512_S1024x512_0_0_1_1_n_n, val_main_v16, silu_a]
  simp only [am_apply x0 x1 x2 x3 x4 x5 x6 x7 x8 x9 x10 x11 x12 hB]
  exact Finset.sum_congr rfl fun n _ => mul_comm _ _

theorem dwp_apply (e : Fin 512) (d : Fin 1024) : (val_main_v113 (F := Ideal) x0 x1 x2 x3 x4 x5 x6 x7 x8 x9 x10 x11 x12 (ix2 e d) : EReal) = ∑ n, (backA x0 x1 x2 x3 x4 x5 x6 x7 x8 x9 x10 x11 x12 n).dwp e d := by
  pointwise [val_main_v113, val_main_v112, dot_S9216x1024_S9216x512_S1024x512_0_0_1_1_n_n]
  simp only [ap_apply x0 x1 x2 x3 x4 x5 x6 x7 x8 x9 x10 x11 x12 hB]
  exact Finset.sum_congr rfl fun n _ => mul_comm _ _

theorem dwg_apply (e : Fin 512) (d : Fin 1024) : (val_main_v108 (F := Ideal) x0 x1 x2 x3 x4 x5 x6 x7 x8 x9 x10 x11 x12 (ix2 e d) : EReal) = ∑ n, (backA x0 x1 x2 x3 x4 x5 x6 x7 x8 x9 x10 x11 x12 n).dwg e d := by
  pointwise [val_main_v108, val_main_v107, dot_S9216x1024_S9216x512_S1024x512_0_0_1_1_n_n, val_main_v36, normed_apply, silu_g]
  simp only [ag_apply x0 x1 x2 x3 x4 x5 x6 x7 x8 x9 x10 x11 x12 hB]
  exact Finset.sum_congr rfl fun n _ => mul_comm _ _

end

theorem st0_apply (t : Fin 36) (d : Fin 1024) : (val_main_v81 (F := Ideal) x0 x1 x2 x3 x4 x5 x6 x7 x8 x9 x11 x12 (ix3 t 0 d) : EReal) = ∑ r, (backA x0 x1 x2 x3 x4 x5 x6 x7 x8 x9 x10 x11 x12 (rowT t r)).st0 d := by
  unfold Back.st0 Back.xn
  pointwise [val_main_v81, val_main_v80, val_main_v79, val_main_v73, val_main_v72, val_main_v71, val_main_v70, val_main_v66, val_main_v0, val_main_cst_10, dx_apply, x_apply x0 x1 x2 x3 x4 x5 x6 x7 x8 x9 x10 x11 x12, inside_apply x0 x1 x2 x3 x4 x5 x6 x7 x8 x9 x10 x11 x12]
  rfl

theorem st1_apply (t : Fin 36) (d : Fin 1024) : (val_main_v84 (F := Ideal) x0 x1 x2 x3 x4 x5 x6 x7 x8 x9 x10 x12 (ix3 t 0 d) : EReal) = ∑ r, (backA x0 x1 x2 x3 x4 x5 x6 x7 x8 x9 x10 x11 x12 (rowT t r)).st1 d := by
  unfold Back.st1 Back.xn
  pointwise [val_main_v84, val_main_v83, val_main_v82, val_main_v78, val_main_v71, val_main_v70, val_main_v66, val_main_cst_11, dx_apply, md_apply x0 x1 x2 x3 x4 x5 x6 x7 x8 x9 x10 x11 x12, x_apply x0 x1 x2 x3 x4 x5 x6 x7 x8 x9 x10 x11 x12, inside_apply x0 x1 x2 x3 x4 x5 x6 x7 x8 x9 x10 x11 x12]
  refine Finset.sum_congr rfl fun r _ => ?_
  rw [mul_comm]
  exact congrArg (· * _) (mul_comm _ _)

/-- The partial sums: two rows of sums, and rows of zeros. -/
theorem st_apply (t : Fin 36) (k : Fin 8) (d : Fin 1024) : (val_main_v152 (F := Ideal) x0 x1 x2 x3 x4 x5 x6 x7 x8 x9 x10 x11 x12 (ix3 t k d) : EReal)
    = if k.val < 1 then ∑ r, (backA x0 x1 x2 x3 x4 x5 x6 x7 x8 x9 x10 x11 x12 (rowT t r)).st0 d else if k.val < 2 then ∑ r, (backA x0 x1 x2 x3 x4 x5 x6 x7 x8 x9 x10 x11 x12 (rowT t r)).st1 d else 0 := by
  fin_cases k <;>
  · pointwise [val_main_v152, val_main_v151, val_main_cst_20, st0_apply x0 x1 x2 x3 x4 x5 x6 x7 x8 x9 x10 x11 x12, st1_apply x0 x1 x2 x3 x4 x5 x6 x7 x8 x9 x10 x11 x12]

end Cert.SplitValue

end
-- ==== Proof.SplitClaim.lean ====
/- The claim about the merge's gradient: eight of its arrays and the tiles' sums equal the reference's. -/
module

public import proofs.«01_k».proof.Defs
public import proofs.«01_k».proof.Proof.Gen.Split
public import proofs.«01_k».proof.Proof.Gen.SplitReferenceIdeal.Run
public import proofs.«01_k».proof.Proof.Gen.Pre_finite_split
public import proofs.«01_k».proof.Proof.SplitArrays
public import proofs.«01_k».proof.Proof.SplitValue
public import proofs.«01_k».proof.Proof.Finite
public import Idealize.ShloMosaic.Lib.Quiescent
public import Idealize.ShloMosaic.Lib.Tactic

@[expose] public section

set_option maxRecDepth 16384

noncomputable section

namespace Cert.SplitClaim

open Idealize.ShloMosaic Idealize.ShloMosaic.TcCoe Idealize.SL.Sem

/-! ### The frame of the call as printed, which is the same program -/

def Frame [hSplitIdeal : Cert.SplitIdeal.Facts] : Prop :=
  ∀ (m : (ℓ : Loc Cert.SplitIdeal.nD Cert.SplitIdeal.τ Cert.SplitIdeal.sig) → Buf (Elt Bits) ℓ) (g : Dev Cert.SplitIdeal.nD → PrngReg), True →
    θ_run (Cert.SplitIdeal.defs (F := Bits)) (onTc (τ := Cert.SplitIdeal.τ) (Cert.SplitIdeal.main (F := Bits))) ⟨m, fun _ => 0, g⟩ (fun r => (∀ c : Dev Cert.SplitIdeal.nD,
      r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0)
      ∧ r.2.mem ((c.tc : Thread Cert.SplitIdeal.nD Cert.SplitIdeal.τ).loc Cert.SplitIdeal.main_arg1) = m ((c.tc : Thread Cert.SplitIdeal.nD Cert.SplitIdeal.τ).loc Cert.SplitIdeal.main_arg1)
      ∧ r.2.mem ((c.tc : Thread Cert.SplitIdeal.nD Cert.SplitIdeal.τ).loc Cert.SplitIdeal.main_arg2) = m ((c.tc : Thread Cert.SplitIdeal.nD Cert.SplitIdeal.τ).loc Cert.SplitIdeal.main_arg2)
      ∧ r.2.mem ((c.tc : Thread Cert.SplitIdeal.nD Cert.SplitIdeal.τ).loc Cert.SplitIdeal.main_arg3) = m ((c.tc : Thread Cert.SplitIdeal.nD Cert.SplitIdeal.τ).loc Cert.SplitIdeal.main_arg3)
      ∧ r.2.mem ((c.tc : Thread Cert.SplitIdeal.nD Cert.SplitIdeal.τ).loc Cert.SplitIdeal.main_arg4) = m ((c.tc : Thread Cert.SplitIdeal.nD Cert.SplitIdeal.τ).loc Cert.SplitIdeal.main_arg4)
      ∧ r.2.mem ((c.tc : Thread Cert.SplitIdeal.nD Cert.SplitIdeal.τ).loc Cert.SplitIdeal.main_arg5) = m ((c.tc : Thread Cert.SplitIdeal.nD Cert.SplitIdeal.τ).loc Cert.SplitIdeal.main_arg5)
      ∧ r.2.mem ((c.tc : Thread Cert.SplitIdeal.nD Cert.SplitIdeal.τ).loc Cert.SplitIdeal.main_arg6) = m ((c.tc : Thread Cert.SplitIdeal.nD Cert.SplitIdeal.τ).loc Cert.SplitIdeal.main_arg6)
      ∧ r.2.mem ((c.tc : Thread Cert.SplitIdeal.nD Cert.SplitIdeal.τ).loc Cert.SplitIdeal.main_arg7) = m ((c.tc : Thread Cert.SplitIdeal.nD Cert.SplitIdeal.τ).loc Cert.SplitIdeal.main_arg7)
      ∧ r.2.mem ((c.tc : Thread Cert.SplitIdeal.nD Cert.SplitIdeal.τ).loc Cert.SplitIdeal.main_arg8) = m ((c.tc : Thread Cert.SplitIdeal.nD Cert.SplitIdeal.τ).loc Cert.SplitIdeal.main_arg8)
      ∧ r.2.mem ((c.tc : Thread Cert.SplitIdeal.nD Cert.SplitIdeal.τ).loc Cert.SplitIdeal.main_arg9) = m ((c.tc : Thread Cert.SplitIdeal.nD Cert.SplitIdeal.τ).loc Cert.SplitIdeal.main_arg9)
      ∧ r.2.mem ((c.tc : Thread Cert.SplitIdeal.nD Cert.SplitIdeal.τ).loc Cert.SplitIdeal.main_arg10) = m ((c.tc : Thread Cert.SplitIdeal.nD Cert.SplitIdeal.τ).loc Cert.SplitIdeal.main_arg10)
      ∧ r.2.mem ((c.tc : Thread Cert.SplitIdeal.nD Cert.SplitIdeal.τ).loc Cert.SplitIdeal.main_arg11) = m ((c.tc : Thread Cert.SplitIdeal.nD Cert.SplitIdeal.τ).loc Cert.SplitIdeal.main_arg11)
      ∧ r.2.mem ((c.tc : Thread Cert.SplitIdeal.nD Cert.SplitIdeal.τ).loc Cert.SplitIdeal.main_arg12) = m ((c.tc : Thread Cert.SplitIdeal.nD Cert.SplitIdeal.τ).loc Cert.SplitIdeal.main_arg12))
      ∧ r.2.sem = fun _ => 0)

theorem same : Cert.quiescent_Split (hSplit := Cert.Split.Gen.facts) = Frame (hSplitIdeal := Cert.SplitIdeal.Gen.facts) := by sl_kernel_rfl

theorem kernel : Cert.quiescent_Split (hSplit := Cert.Split.Gen.facts) := same ▸ fun m ρ _ => Cert.SplitFrame.frame m ρ

theorem ideal : Cert.quiescent_SplitIdeal (hSplitIdeal := Cert.SplitIdeal.Gen.facts) := fun m ρ _ => Cert.SplitFrame.frame m ρ

theorem reference : Cert.quiescent_SplitReferenceIdeal (hSplitReferenceIdeal := Cert.SplitReferenceIdeal.Gen.facts) := fun m ρ _ =>
  (θ_run SplitReferenceIdeal.defs _ _).mono (fun r h => ⟨fun c => (h c).2.2.2.2.2.2.2.2.2, sem_eq_zero_of_no_sems (by decide) r.2⟩) (SplitReferenceIdeal.Value.run m ρ)

open Cert.SplitIdeal Cert.SplitIdeal.Gen Cert.SplitFrame Cert.SplitArrays Cert.SplitRow Cert.MergeRow Cert.Reals Cert.Finite

/-! ### Places -/

theorem place2 {a b : ℕ} (y : (⟨2, ![a, b]⟩ : Shape).Idx) : ∃ (i : Fin a) (j : Fin b), y = ix2 i j := by
  refine ⟨⟨(y 0).val, (y 0).isLt⟩, ⟨(y 1).val, (y 1).isLt⟩, ?_⟩
  funext k
  match k with
  | ⟨0, _⟩ => rfl
  | ⟨1, _⟩ => rfl

theorem place3 {a b d : ℕ} (y : (⟨3, ![a, b, d]⟩ : Shape).Idx) : ∃ (i : Fin a) (j : Fin b) (k : Fin d), y = ix3 i j k := by
  refine ⟨⟨(y 0).val, (y 0).isLt⟩, ⟨(y 1).val, (y 1).isLt⟩, ⟨(y 2).val, (y 2).isLt⟩, ?_⟩
  funext k
  match k with
  | ⟨0, _⟩ => rfl
  | ⟨1, _⟩ => rfl
  | ⟨2, _⟩ => rfl

theorem placeRow (n : Fin 9216) : ∃ (t : Fin 36) (r : Fin 256), n = rowT t r :=
  ⟨⟨n.val / 256, by omega⟩, ⟨n.val % 256, by omega⟩, Fin.ext (by show n.val = 256 * (n.val / 256) + n.val % 256; omega)⟩

/-! ### Real arrays give real rows -/

theorem real_rows (x0 : FVec Ideal ⟨2, ![9216, 6912]⟩ .f32) (x1 x2 x3 x4 : FVec Ideal ⟨2, ![9216, 512]⟩ .f32) (x5 : FVec Ideal ⟨2, ![1, 128]⟩ .f32)
    (x6 x7 x8 : FVec Ideal ⟨2, ![512, 1024]⟩ .f32) (x9 : FVec Ideal ⟨2, ![1024, 1024]⟩ .f32) (x10 : FVec Ideal ⟨2, ![8, 3072]⟩ .f32)
    (x11 : FVec Ideal ⟨2, ![1, 1024]⟩ .f32) (x12 : FVec Ideal ⟨2, ![9216, 1024]⟩ .f32)
    (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (h10 : ∀ i, IsReal (x10 i)) (h11 : ∀ i, IsReal (x11 i)) (h12 : ∀ i, IsReal (x12 i)) (n : Fin 9216) :
    (backA x0 x1 x2 x3 x4 x5 x6 x7 x8 x9 x10 x11 x12 n).Real where
  zm := fun _ => h0 _
  zg := fun _ => h0 _
  o := fun _ => isReal_add (h3 _) (h4 _)
  gn := fun _ => h5 _
  x := fun d => isReal_out _ (fun _ => h0 _) (fun _ => h0 _) (fun _ => h0 _) (fun _ => h1 _) (fun _ => h2 _) (fun _ => isReal_add (h3 _) (h4 _)) (fun _ => h5 _)
    (fun _ _ => h6 _) (fun _ _ => h7 _) (fun _ _ => h8 _) (fun _ _ => h9 _) d
  dx := fun _ => h12 _
  md := fun _ => h10 _
  g := fun _ => h11 _
  ug := fun _ _ => h8 _
  uo := fun _ _ => h9 _

/-! ### The arrays are the reference's -/

section

variable (m : (ℓ : Loc nD τ sig) → Buf (Elt Ideal) ℓ) (c : Dev nD)

theorem equal20 (hB : ∀ n, (backM m c n).Real) : (dats m 0 c).arrAt 20 cfg0.N = SplitReferenceIdeal.Read.val_main_v149 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext y
  obtain ⟨n, e, hy⟩ := place2 y
  obtain ⟨t, r, hn⟩ := placeRow n
  rw [hy, hn]
  exact (array20 m c t r e).trans (SplitValue.dom_apply _ _ _ _ _ _ _ _ _ _ _ _ _ hB (rowT t r) e).symm

theorem equal21 (hB : ∀ n, (backM m c n).Real) : (dats m 0 c).arrAt 21 cfg0.N = SplitReferenceIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext y
  obtain ⟨n, e, hy⟩ := place2 y
  obtain ⟨t, r, hn⟩ := placeRow n
  rw [hy, hn]
  exact (array21 m c t r e).trans (SplitValue.dyp_apply _ _ _ _ _ _ _ _ _ _ _ _ _ hB (rowT t r) e).symm

theorem equal22 (hB : ∀ n, (backM m c n).Real) : (dats m 0 c).arrAt 22 cfg0.N = SplitReferenceIdeal.Read.val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext y
  obtain ⟨n, e, hy⟩ := place2 y
  obtain ⟨t, r, hn⟩ := placeRow n
  rw [hy, hn]
  exact (array22 m c t r e).trans (SplitValue.dog_apply _ _ _ _ _ _ _ _ _ _ _ _ _ hB (rowT t r) e).symm

theorem equal23 : (dats m 0 c).arrAt 23 cfg0.N = SplitReferenceIdeal.Read.val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext y
  obtain ⟨t, k, d, hy⟩ := place3 y
  rw [hy]
  exact (array23 m c t k d).trans (SplitValue.st_apply _ _ _ _ _ _ _ _ _ _ _ _ _ t k d).symm

theorem equal24 (hB : ∀ n, (backM m c n).Real) : (dats m 0 c).arrAt 24 cfg0.N = SplitReferenceIdeal.Read.val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext y
  obtain ⟨e, d, hy⟩ := place2 y
  rw [hy]
  exact (array24 m c e d).trans (SplitValue.dwm_apply _ _ _ _ _ _ _ _ _ _ _ _ _ hB e d).symm

theorem equal25 (hB : ∀ n, (backM m c n).Real) : (dats m 0 c).arrAt 25 cfg0.N = SplitReferenceIdeal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext y
  obtain ⟨e, d, hy⟩ := place2 y
  rw [hy]
  exact (array25 m c e d).trans (SplitValue.dwp_apply _ _ _ _ _ _ _ _ _ _ _ _ _ hB e d).symm

theorem equal26 (hB : ∀ n, (backM m c n).Real) : (dats m 0 c).arrAt 26 cfg0.N = SplitReferenceIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext y
  obtain ⟨e, d, hy⟩ := place2 y
  rw [hy]
  exact (array26 m c e d).trans (SplitValue.dwg_apply _ _ _ _ _ _ _ _ _ _ _ _ _ hB e d).symm

theorem equal27 (hB : ∀ n, (backM m c n).Real) : (dats m 0 c).arrAt 27 cfg0.N = SplitReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext y
  obtain ⟨e, d, hy⟩ := place2 y
  rw [hy]
  exact (array27 m c e d).trans (SplitValue.dout_apply _ _ _ _ _ _ _ _ _ _ _ _ _ hB e d).symm

theorem equal28 (hB : ∀ n, (backM m c n).Real) : (dats m 0 c).arrAt 28 cfg0.N = SplitReferenceIdeal.Read.val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext y
  obtain ⟨i, v, hy⟩ := place2 y
  obtain rfl : i = 0 := Subsingleton.elim _ _
  rw [hy]
  exact (array28 m c v).trans (SplitValue.dgn_apply _ _ _ _ _ _ _ _ _ _ _ _ _ hB v).symm

end

set_option maxHeartbeats 4000000 in
theorem algebraic : Cert.algebraic_SplitIdeal_SplitReferenceIdeal_pre_finite_split (hSplitIdeal := Cert.SplitIdeal.Gen.facts)
    (hSplitReferenceIdeal := Cert.SplitReferenceIdeal.Gen.facts) (hPre_finite_split := Cert.Pre_finite_split.Gen.facts) := by
  intro m g m' g' hpre hag
  refine ⟨fun c => (dats m 0 c).arrAt 20 cfg0.N, fun c => (dats m 0 c).arrAt 21 cfg0.N, fun c => (dats m 0 c).arrAt 22 cfg0.N, fun c => (dats m 0 c).arrAt 23 cfg0.N, fun c => (dats m 0 c).arrAt 24 cfg0.N, fun c => (dats m 0 c).arrAt 25 cfg0.N, fun c => (dats m 0 c).arrAt 26 cfg0.N, fun c => (dats m 0 c).arrAt 27 cfg0.N, fun c => (dats m 0 c).arrAt 28 cfg0.N,
    run_arrays m g, ?_⟩
  refine (θ_run SplitReferenceIdeal.defs _ _).mono (fun r h c => ?_) (SplitReferenceIdeal.Value.run m' g')
  obtain ⟨h0, h1, h2, h3, h4, h5, h6, h7, h8, k⟩ := h c
  obtain ⟨a0, a1, a2, a3, a4, a5, a6, a7, a8, a9, a10, a11, a12⟩ := hag c
  obtain ⟨f0, f1, f2, f3, f4, f5, f6, f7, f8, f9, f10, f11, f12⟩ := hpre c
  have hB : ∀ n, (backM m c n).Real := real_rows _ _ _ _ _ _ _ _ _ _ _ _ _
    (fun i => ⟨_, real_of_finite _ _ f0 i⟩) (fun i => ⟨_, real_of_finite _ _ f1 i⟩) (fun i => ⟨_, real_of_finite _ _ f2 i⟩) (fun i => ⟨_, real_of_finite _ _ f3 i⟩) (fun i => ⟨_, real_of_finite _ _ f4 i⟩) (fun i => ⟨_, real_of_finite _ _ f5 i⟩) (fun i => ⟨_, real_of_finite _ _ f6 i⟩) (fun i => ⟨_, real_of_finite _ _ f7 i⟩) (fun i => ⟨_, real_of_finite _ _ f8 i⟩) (fun i => ⟨_, real_of_finite _ _ f9 i⟩) (fun i => ⟨_, real_of_finite _ _ f10 i⟩) (fun i => ⟨_, real_of_finite _ _ f11 i⟩) (fun i => ⟨_, real_of_finite _ _ f12 i⟩)
  have b0 : StableHlo.launchContents m' c (Proc.devRef .tc SplitReferenceIdeal.main_arg0) = m ((c.tc : Thread nD τ).loc main_arg0) := a0
  have b1 : StableHlo.launchContents m' c (Proc.devRef .tc SplitReferenceIdeal.main_arg1) = m ((c.tc : Thread nD τ).loc main_arg1) := a1
  have b2 : StableHlo.launchContents m' c (Proc.devRef .tc SplitReferenceIdeal.main_arg2) = m ((c.tc : Thread nD τ).loc main_arg2) := a2
  have b3 : StableHlo.launchContents m' c (Proc.devRef .tc SplitReferenceIdeal.main_arg3) = m ((c.tc : Thread nD τ).loc main_arg3) := a3
  have b4 : StableHlo.launchContents m' c (Proc.devRef .tc SplitReferenceIdeal.main_arg4) = m ((c.tc : Thread nD τ).loc main_arg4) := a4
  have b5 : StableHlo.launchContents m' c (Proc.devRef .tc SplitReferenceIdeal.main_arg5) = m ((c.tc : Thread nD τ).loc main_arg5) := a5
  have b6 : StableHlo.launchContents m' c (Proc.devRef .tc SplitReferenceIdeal.main_arg6) = m ((c.tc : Thread nD τ).loc main_arg6) := a6
  have b7 : StableHlo.launchContents m' c (Proc.devRef .tc SplitReferenceIdeal.main_arg7) = m ((c.tc : Thread nD τ).loc main_arg7) := a7
  have b8 : StableHlo.launchContents m' c (Proc.devRef .tc SplitReferenceIdeal.main_arg8) = m ((c.tc : Thread nD τ).loc main_arg8) := a8
  have b9 : StableHlo.launchContents m' c (Proc.devRef .tc SplitReferenceIdeal.main_arg9) = m ((c.tc : Thread nD τ).loc main_arg9) := a9
  have b10 : StableHlo.launchContents m' c (Proc.devRef .tc SplitReferenceIdeal.main_arg10) = m ((c.tc : Thread nD τ).loc main_arg10) := a10
  have b11 : StableHlo.launchContents m' c (Proc.devRef .tc SplitReferenceIdeal.main_arg11) = m ((c.tc : Thread nD τ).loc main_arg11) := a11
  have b12 : StableHlo.launchContents m' c (Proc.devRef .tc SplitReferenceIdeal.main_arg12) = m ((c.tc : Thread nD τ).loc main_arg12) := a12
  rw [SplitReferenceIdeal.Read.val_main_v149_eq, b0, b1, b2, b3, b4, b5, b6, b7, b8, b9, b10, b11, b12] at h0
  rw [SplitReferenceIdeal.Read.val_main_v114_eq, b0, b1, b2, b3, b4, b5, b6, b7, b8, b9, b10, b11, b12] at h1
  rw [SplitReferenceIdeal.Read.val_main_v147_eq, b0, b1, b2, b3, b4, b5, b6, b7, b8, b9, b10, b11, b12] at h2
  rw [SplitReferenceIdeal.Read.val_main_v152_eq, b0, b1, b2, b3, b4, b5, b6, b7, b8, b9, b10, b11, b12] at h3
  rw [SplitReferenceIdeal.Read.val_main_v118_eq, b0, b1, b2, b3, b4, b5, b6, b7, b8, b9, b10, b11, b12] at h4
  rw [SplitReferenceIdeal.Read.val_main_v113_eq, b0, b1, b2, b3, b4, b5, b6, b7, b8, b9, b10, b11, b12] at h5
  rw [SplitReferenceIdeal.Read.val_main_v108_eq, b0, b1, b2, b3, b4, b5, b6, b7, b8, b9, b10, b11, b12] at h6
  rw [SplitReferenceIdeal.Read.val_main_v103_eq, b0, b1, b2, b3, b4, b5, b6, b7, b8, b9, b10, b11, b12] at h7
  rw [SplitReferenceIdeal.Read.val_main_v132_eq, b0, b1, b2, b3, b4, b5, b6, b7, b8, b9, b10, b11, b12] at h8
  exact ⟨h0.trans (equal20 m c hB).symm, h1.trans (equal21 m c hB).symm, h2.trans (equal22 m c hB).symm, h3.trans (equal23 m c).symm, h4.trans (equal24 m c hB).symm, h5.trans (equal25 m c hB).symm, h6.trans (equal26 m c hB).symm, h7.trans (equal27 m c hB).symm, h8.trans (equal28 m c hB).symm, k⟩

end Cert.SplitClaim

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Fwd.Frame
public import proofs.«01_k».proof.Proof.Gen.FwdIdeal.Value
public import proofs.«01_k».proof.Proof.Gen.FwdReferenceIdeal.Run
public import proofs.«01_k».proof.Proof.Gen.FwdReferenceIdeal.Read
public import proofs.«01_k».proof.Proof.Gen.Norm.Frame
public import proofs.«01_k».proof.Proof.Gen.NormIdeal.Frame
public import proofs.«01_k».proof.Proof.Gen.NormReferenceIdeal.Run
public import proofs.«01_k».proof.Proof.Gen.NormReferenceIdeal.Read
public import proofs.«01_k».proof.Proof.Gen.Mul.Frame
public import proofs.«01_k».proof.Proof.Gen.MulIdeal.Value
public import proofs.«01_k».proof.Proof.Gen.MulReferenceIdeal.Run
public import proofs.«01_k».proof.Proof.Gen.MulReferenceIdeal.Read
public import proofs.«01_k».proof.Proof.Gen.Dw.Frame
public import proofs.«01_k».proof.Proof.Gen.DwIdeal.Value
public import proofs.«01_k».proof.Proof.Gen.DwReferenceIdeal.Run
public import proofs.«01_k».proof.Proof.Gen.DwReferenceIdeal.Read
public import proofs.«01_k».proof.Proof.Gen.Dx.Frame
public import proofs.«01_k».proof.Proof.Gen.DxIdeal.Value
public import proofs.«01_k».proof.Proof.Gen.DxReferenceIdeal.Run
public import proofs.«01_k».proof.Proof.Gen.DxReferenceIdeal.Read
public import proofs.«01_k».proof.Proof.Gen.Latent.Frame
public import proofs.«01_k».proof.Proof.Gen.LatentIdeal.Value
public import proofs.«01_k».proof.Proof.Gen.LatentReferenceIdeal.Run
public import proofs.«01_k».proof.Proof.Gen.LatentReferenceIdeal.Read
public import proofs.«01_k».proof.Proof.Gen.Merge.Frame
public import proofs.«01_k».proof.Proof.Gen.MergeIdeal.Value
public import proofs.«01_k».proof.Proof.Gen.MergeReferenceIdeal.Run
public import proofs.«01_k».proof.Proof.Gen.MergeReferenceIdeal.Read
public import proofs.«01_k».proof.Proof.Gen.Split
public import proofs.«01_k».proof.Proof.Gen.SplitIdeal
public import proofs.«01_k».proof.Proof.Gen.SplitReferenceIdeal.Run
public import proofs.«01_k».proof.Proof.Gen.SplitReferenceIdeal.Read
public import proofs.«01_k».proof.Proof.Gen.Pre_finite
public import proofs.«01_k».proof.Proof.Gen.Pre_finite_fwd
public import proofs.«01_k».proof.Proof.Gen.Pre_finite_dx
public import proofs.«01_k».proof.Proof.Gen.Pre_finite_split
public import proofs.«01_k».proof.Proof.Frames
public import proofs.«01_k».proof.Proof.FwdClaim
public import proofs.«01_k».proof.Proof.KernelClaim
public import proofs.«01_k».proof.Proof.NormClaim
public import proofs.«01_k».proof.Proof.MulClaim
public import proofs.«01_k».proof.Proof.DwClaim
public import proofs.«01_k».proof.Proof.DxClaim
public import proofs.«01_k».proof.Proof.LatentClaim
public import proofs.«01_k».proof.Proof.MergeClaim
public import proofs.«01_k».proof.Proof.SplitClaim

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Fwd.Gen.facts, Cert.FwdIdeal.Gen.facts,
    Cert.FwdReferenceIdeal.Gen.facts, Cert.Norm.Gen.facts, Cert.NormIdeal.Gen.facts, Cert.NormReferenceIdeal.Gen.facts, Cert.Mul.Gen.facts,
    Cert.MulIdeal.Gen.facts, Cert.MulReferenceIdeal.Gen.facts, Cert.Dw.Gen.facts, Cert.DwIdeal.Gen.facts, Cert.DwReferenceIdeal.Gen.facts,
    Cert.Dx.Gen.facts, Cert.DxIdeal.Gen.facts, Cert.DxReferenceIdeal.Gen.facts,
    Cert.Latent.Gen.facts, Cert.LatentIdeal.Gen.facts, Cert.LatentReferenceIdeal.Gen.facts,
    Cert.Merge.Gen.facts, Cert.MergeIdeal.Gen.facts, Cert.MergeReferenceIdeal.Gen.facts,
    Cert.Split.Gen.facts, Cert.SplitIdeal.Gen.facts, Cert.SplitReferenceIdeal.Gen.facts,
    Cert.Pre_finite.Gen.facts, Cert.Pre_finite_fwd.Gen.facts, Cert.Pre_finite_dx.Gen.facts, Cert.Pre_finite_split.Gen.facts,
    fun m ρ _ => Cert.Kernel.Gen.frame m ρ,
    fun m ρ _ => Cert.KernelIdeal.Gen.frame m ρ,
    fun m ρ _ => Cert.KernelIdeal.Gen.frame m ρ,
    Cert.Frames.reference,
    fun m ρ _ => Cert.Frames.reference m ρ trivial,
    fun m ρ _ => Cert.Fwd.Gen.frame m ρ,
    fun m ρ _ => Cert.FwdIdeal.Gen.frame m ρ,
    fun m ρ _ => Cert.FwdIdeal.Gen.frame m ρ,
    Cert.Frames.fwdReference,
    fun m ρ _ => Cert.Frames.fwdReference m ρ trivial,
    fun m ρ _ => Cert.Norm.Gen.frame m ρ,
    fun m ρ _ => Cert.NormIdeal.Gen.frame m ρ,
    Cert.NormClaim.reference,
    fun m ρ _ => Cert.Mul.Gen.frame m ρ,
    fun m ρ _ => Cert.MulIdeal.Gen.frame m ρ,
    Cert.MulClaim.reference,
    fun m ρ _ => Cert.Dw.Gen.frame m ρ,
    fun m ρ _ => Cert.DwIdeal.Gen.frame m ρ,
    Cert.DwClaim.reference,
    fun m ρ _ => Cert.Dx.Gen.frame m ρ,
    fun m ρ _ => Cert.DxIdeal.Gen.frame m ρ,
    fun m ρ _ => Cert.DxIdeal.Gen.frame m ρ,
    Cert.DxClaim.reference,
    fun m ρ _ => Cert.DxClaim.reference m ρ trivial,
    fun m ρ _ => Cert.Latent.Gen.frame m ρ,
    fun m ρ _ => Cert.LatentIdeal.Gen.frame m ρ,
    fun m ρ _ => Cert.LatentIdeal.Gen.frame m ρ,
    Cert.LatentClaim.reference,
    fun m ρ _ => Cert.LatentClaim.reference m ρ trivial,
    fun m ρ _ => Cert.Merge.Gen.frame m ρ,
    fun m ρ _ => Cert.MergeIdeal.Gen.frame m ρ,
    Cert.MergeClaim.reference,
    Cert.SplitClaim.kernel,
    Cert.SplitClaim.ideal,
    fun m ρ _ => Cert.SplitClaim.ideal m ρ trivial,
    Cert.SplitClaim.reference,
    fun m ρ _ => Cert.SplitClaim.reference m ρ trivial,
    trivial,
    Cert.KernelClaim.algebraic,
    trivial,
    Cert.FwdClaim.algebraic,
    trivial,
    Cert.NormClaim.algebraic,
    trivial,
    Cert.MulClaim.algebraic,
    trivial,
    Cert.DwClaim.algebraic,
    trivial,
    Cert.DxClaim.algebraic,
    trivial,
    Cert.LatentClaim.algebraic,
    trivial,
    Cert.MergeClaim.algebraic,
    trivial,
    Cert.SplitClaim.algebraic⟩

end Cert.Proof

end
